-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Forward (m : (ℓ : Loc Cert.Forward.nD Cert.Forward.τ Cert.Forward.sig) → Buf (Elt Bits) ℓ) : Prop :=
  True

def Pre_ForwardIdeal (m : (ℓ : Loc Cert.ForwardIdeal.nD Cert.ForwardIdeal.τ Cert.ForwardIdeal.sig) → Buf (Elt Ideal) ℓ) : Prop :=
  True

def Pre_RefForwardIdeal (m : (ℓ : Loc Cert.RefForwardIdeal.nD Cert.RefForwardIdeal.τ Cert.RefForwardIdeal.sig) → Buf (Elt Ideal) ℓ) : Prop :=
  True

def Pre_GradGate (m : (ℓ : Loc Cert.GradGate.nD Cert.GradGate.τ Cert.GradGate.sig) → Buf (Elt Bits) ℓ) : Prop :=
  True

def Pre_GradGateIdeal (m : (ℓ : Loc Cert.GradGateIdeal.nD Cert.GradGateIdeal.τ Cert.GradGateIdeal.sig) → Buf (Elt Ideal) ℓ) : Prop :=
  True

def Pre_RefGradGateIdeal (m : (ℓ : Loc Cert.RefGradGateIdeal.nD Cert.RefGradGateIdeal.τ Cert.RefGradGateIdeal.sig) → Buf (Elt Ideal) ℓ) : Prop :=
  True

def Pre_GradDown (m : (ℓ : Loc Cert.GradDown.nD Cert.GradDown.τ Cert.GradDown.sig) → Buf (Elt Bits) ℓ) : Prop :=
  True

def Pre_GradDownIdeal (m : (ℓ : Loc Cert.GradDownIdeal.nD Cert.GradDownIdeal.τ Cert.GradDownIdeal.sig) → Buf (Elt Ideal) ℓ) : Prop :=
  True

def Pre_RefGradDownIdeal (m : (ℓ : Loc Cert.RefGradDownIdeal.nD Cert.RefGradDownIdeal.τ Cert.RefGradDownIdeal.sig) → Buf (Elt Ideal) ℓ) : Prop :=
  True

def Pre_GradOut (m : (ℓ : Loc Cert.GradOut.nD Cert.GradOut.τ Cert.GradOut.sig) → Buf (Elt Bits) ℓ) : Prop :=
  True

def Pre_GradOutIdeal (m : (ℓ : Loc Cert.GradOutIdeal.nD Cert.GradOutIdeal.τ Cert.GradOutIdeal.sig) → Buf (Elt Ideal) ℓ) : Prop :=
  True

def Pre_RefGradOutIdeal (m : (ℓ : Loc Cert.RefGradOutIdeal.nD Cert.RefGradOutIdeal.τ Cert.RefGradOutIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_RefGradInIdeal (m : (ℓ : Loc Cert.RefGradInIdeal.nD Cert.RefGradInIdeal.τ Cert.RefGradInIdeal.sig) → Buf (Elt Ideal) ℓ) : Prop :=
  True

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_RefFfnIdeal (m : (ℓ : Loc Cert.RefFfnIdeal.nD Cert.RefFfnIdeal.τ Cert.RefFfnIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_RefInProjIdeal (m : (ℓ : Loc Cert.RefInProjIdeal.nD Cert.RefInProjIdeal.τ Cert.RefInProjIdeal.sig) → Buf (Elt Ideal) ℓ) : Prop :=
  True

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_all_finite [hPre_all_finite : Cert.Pre_all_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.2.2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.2.2.2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.2.2.2.2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.2.2.2.2.2.2.1 = (fun _ => 1#1)
    ∧ (Cert.Pre_all_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3)) (m ((c.tc : Thread Cert.FfnBwdIdeal.nD Cert.FfnBwdIdeal.τ).loc Cert.FfnBwdIdeal.main_arg4)) (m ((c.tc : Thread Cert.FfnBwdIdeal.nD Cert.FfnBwdIdeal.τ).loc Cert.FfnBwdIdeal.main_arg5)) (m ((c.tc : Thread Cert.FfnBwdIdeal.nD Cert.FfnBwdIdeal.τ).loc Cert.FfnBwdIdeal.main_arg6)) (m ((c.tc : Thread Cert.FfnBwdIdeal.nD Cert.FfnBwdIdeal.τ).loc Cert.FfnBwdIdeal.main_arg7)) (m ((c.tc : Thread Cert.FfnBwdIdeal.nD Cert.FfnBwdIdeal.τ).loc Cert.FfnBwdIdeal.main_arg8)) (m ((c.tc : Thread Cert.FfnBwdIdeal.nD Cert.FfnBwdIdeal.τ).loc Cert.FfnBwdIdeal.main_arg9)) (m ((c.tc : Thread Cert.FfnBwdIdeal.nD Cert.FfnBwdIdeal.τ).loc Cert.FfnBwdIdeal.main_arg10))).2.2.2.2.2.2.2.2.2.2 = (fun _ => 1#1)

def Pre_RefFfnBwdIdeal (m : (ℓ : Loc Cert.RefFfnBwdIdeal.nD Cert.RefFfnBwdIdeal.τ Cert.RefFfnBwdIdeal.sig) → Buf (Elt Ideal) ℓ) : Prop :=
  True

def Pre_RefFfnBwdIdeal_all_finite [hPre_all_finite : Cert.Pre_all_finite.Facts] (m : (ℓ : Loc Cert.RefFfnBwdIdeal.nD Cert.RefFfnBwdIdeal.τ Cert.RefFfnBwdIdeal.sig) → Buf (Elt Ideal) ℓ) : Prop :=
  ∀ c : Dev Cert.RefFfnBwdIdeal.nD,
    (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.2.2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.2.2.2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.2.2.2.2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.2.2.2.2.2.2.1 = (fun _ => 1#1)
    ∧ (Cert.Pre_all_finite.fn (F := Ideal) (m ((c.tc : Thread Cert.RefFfnBwdIdeal.nD Cert.RefFfnBwdIdeal.τ).loc Cert.RefFfnBwdIdeal.main_arg0)) (m ((c.tc : Thread Cert.RefFfnBwdIdeal.nD Cert.RefFfnBwdIdeal.τ).loc Cert.RefFfnBwdIdeal.main_arg1)) (m ((c.tc : Thread Cert.RefFfnBwdIdeal.nD Cert.RefFfnBwdIdeal.τ).loc Cert.RefFfnBwdIdeal.main_arg2)) (m ((c.tc : Thread Cert.RefFfnBwdIdeal.nD Cert.RefFfnBwdIdeal.τ).loc Cert.RefFfnBwdIdeal.main_arg3)) (m ((c.tc : Thread Cert.RefFfnBwdIdeal.nD Cert.RefFfnBwdIdeal.τ).loc Cert.RefFfnBwdIdeal.main_arg4)) (m ((c.tc : Thread Cert.RefFfnBwdIdeal.nD Cert.RefFfnBwdIdeal.τ).loc Cert.RefFfnBwdIdeal.main_arg5)) (m ((c.tc : Thread Cert.RefFfnBwdIdeal.nD Cert.RefFfnBwdIdeal.τ).loc Cert.RefFfnBwdIdeal.main_arg6)) (m ((c.tc : Thread Cert.RefFfnBwdIdeal.nD Cert.RefFfnBwdIdeal.τ).loc Cert.RefFfnBwdIdeal.main_arg7)) (m ((c.tc : Thread Cert.RefFfnBwdIdeal.nD Cert.RefFfnBwdIdeal.τ).loc Cert.RefFfnBwdIdeal.main_arg8)) (m ((c.tc : Thread Cert.RefFfnBwdIdeal.nD Cert.RefFfnBwdIdeal.τ).loc Cert.RefFfnBwdIdeal.main_arg9)) (m ((c.tc : Thread Cert.RefFfnBwdIdeal.nD Cert.RefFfnBwdIdeal.τ).loc Cert.RefFfnBwdIdeal.main_arg10))).2.2.2.2.2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Forward [hForward : Cert.Forward.Facts] : Prop :=
  ∀ (m : (ℓ : Loc Cert.Forward.nD Cert.Forward.τ Cert.Forward.sig) → Buf (Elt Bits) ℓ) (g : Dev Cert.Forward.nD → PrngReg), Pre_Forward m →
    θ_run (Cert.Forward.defs (F := Bits)) (onTc (τ := Cert.Forward.τ) (Cert.Forward.main (F := Bits))) ⟨m, fun _ => 0, g⟩ (fun r => (∀ c : Dev Cert.Forward.nD,
      r.2.mem ((c.tc : Thread Cert.Forward.nD Cert.Forward.τ).loc Cert.Forward.main_arg0) = m ((c.tc : Thread Cert.Forward.nD Cert.Forward.τ).loc Cert.Forward.main_arg0))
      ∧ r.2.sem = fun _ => 0)

def quiescent_ForwardIdeal [hForwardIdeal : Cert.ForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg), Pre_ForwardIdeal m →
    θ_run (Cert.ForwardIdeal.defs (F := Ideal)) (onTc (τ := Cert.ForwardIdeal.τ) (Cert.ForwardIdeal.main (F := Ideal))) ⟨m, fun _ => 0, g⟩ (fun r => (∀ c : Dev Cert.ForwardIdeal.nD,
      r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0))
      ∧ r.2.sem = fun _ => 0)

def quiescent_RefForwardIdeal [hRefForwardIdeal : Cert.RefForwardIdeal.Facts] : Prop :=
  ∀ (m : (ℓ : Loc Cert.RefForwardIdeal.nD Cert.RefForwardIdeal.τ Cert.RefForwardIdeal.sig) → Buf (Elt Ideal) ℓ) (g : Dev Cert.RefForwardIdeal.nD → PrngReg), Pre_RefForwardIdeal m →
    θ_run (Cert.RefForwardIdeal.defs (F := Ideal)) (onTc (τ := Cert.RefForwardIdeal.τ) (Cert.RefForwardIdeal.main (F := Ideal))) ⟨m, fun _ => 0, g⟩ (fun r => (∀ c : Dev Cert.RefForwardIdeal.nD,
      r.2.mem ((c.tc : Thread Cert.RefForwardIdeal.nD Cert.RefForwardIdeal.τ).loc Cert.RefForwardIdeal.main_arg0) = m ((c.tc : Thread Cert.RefForwardIdeal.nD Cert.RefForwardIdeal.τ).loc Cert.RefForwardIdeal.main_arg0))
      ∧ r.2.sem = fun _ => 0)

def quiescent_GradGate [hGradGate : Cert.GradGate.Facts] : Prop :=
  ∀ (m : (ℓ : Loc Cert.GradGate.nD Cert.GradGate.τ Cert.GradGate.sig) → Buf (Elt Bits) ℓ) (g : Dev Cert.GradGate.nD → PrngReg), Pre_GradGate m →
    θ_run (Cert.GradGate.defs (F := Bits)) (onTc (τ := Cert.GradGate.τ) (Cert.GradGate.main (F := Bits))) ⟨m, fun _ => 0, g⟩ (fun r => (∀ c : Dev Cert.GradGate.nD,
      r.2.mem ((c.tc : Thread Cert.GradGate.nD Cert.GradGate.τ).loc Cert.GradGate.main_arg0) = m ((c.tc : Thread Cert.GradGate.nD Cert.GradGate.τ).loc Cert.GradGate.main_arg0)
      ∧ r.2.mem ((c.tc : Thread Cert.GradGate.nD Cert.GradGate.τ).loc Cert.GradGate.main_arg1) = m ((c.tc : Thread Cert.GradGate.nD Cert.GradGate.τ).loc Cert.GradGate.main_arg1))
      ∧ r.2.sem = fun _ => 0)

def quiescent_GradGateIdeal [hGradGateIdeal : Cert.GradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg), Pre_GradGateIdeal m →
    θ_run (Cert.GradGateIdeal.defs (F := Ideal)) (onTc (τ := Cert.GradGateIdeal.τ) (Cert.GradGateIdeal.main (F := Ideal))) ⟨m, fun _ => 0, g⟩ (fun r => (∀ c : Dev Cert.GradGateIdeal.nD,
      r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
      ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ r.2.sem = fun _ => 0)

def quiescent_RefGradGateIdeal [hRefGradGateIdeal : Cert.RefGradGateIdeal.Facts] : Prop :=
  ∀ (m : (ℓ : Loc Cert.RefGradGateIdeal.nD Cert.RefGradGateIdeal.τ Cert.RefGradGateIdeal.sig) → Buf (Elt Ideal) ℓ) (g : Dev Cert.RefGradGateIdeal.nD → PrngReg), Pre_RefGradGateIdeal m →
    θ_run (Cert.RefGradGateIdeal.defs (F := Ideal)) (onTc (τ := Cert.RefGradGateIdeal.τ) (Cert.RefGradGateIdeal.main (F := Ideal))) ⟨m, fun _ => 0, g⟩ (fun r => (∀ c : Dev Cert.RefGradGateIdeal.nD,
      r.2.mem ((c.tc : Thread Cert.RefGradGateIdeal.nD Cert.RefGradGateIdeal.τ).loc Cert.RefGradGateIdeal.main_arg0) = m ((c.tc : Thread Cert.RefGradGateIdeal.nD Cert.RefGradGateIdeal.τ).loc Cert.RefGradGateIdeal.main_arg0)
      ∧ r.2.mem ((c.tc : Thread Cert.RefGradGateIdeal.nD Cert.RefGradGateIdeal.τ).loc Cert.RefGradGateIdeal.main_arg1) = m ((c.tc : Thread Cert.RefGradGateIdeal.nD Cert.RefGradGateIdeal.τ).loc Cert.RefGradGateIdeal.main_arg1))
      ∧ r.2.sem = fun _ => 0)

def quiescent_GradDown [hGradDown : Cert.GradDown.Facts] : Prop :=
  ∀ (m : (ℓ : Loc Cert.GradDown.nD Cert.GradDown.τ Cert.GradDown.sig) → Buf (Elt Bits) ℓ) (g : Dev Cert.GradDown.nD → PrngReg), Pre_GradDown m →
    θ_run (Cert.GradDown.defs (F := Bits)) (onTc (τ := Cert.GradDown.τ) (Cert.GradDown.main (F := Bits))) ⟨m, fun _ => 0, g⟩ (fun r => (∀ c : Dev Cert.GradDown.nD,
      r.2.mem ((c.tc : Thread Cert.GradDown.nD Cert.GradDown.τ).loc Cert.GradDown.main_arg0) = m ((c.tc : Thread Cert.GradDown.nD Cert.GradDown.τ).loc Cert.GradDown.main_arg0)
      ∧ r.2.mem ((c.tc : Thread Cert.GradDown.nD Cert.GradDown.τ).loc Cert.GradDown.main_arg1) = m ((c.tc : Thread Cert.GradDown.nD Cert.GradDown.τ).loc Cert.GradDown.main_arg1))
      ∧ r.2.sem = fun _ => 0)

def quiescent_GradDownIdeal [hGradDownIdeal : Cert.GradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg), Pre_GradDownIdeal m →
    θ_run (Cert.GradDownIdeal.defs (F := Ideal)) (onTc (τ := Cert.GradDownIdeal.τ) (Cert.GradDownIdeal.main (F := Ideal))) ⟨m, fun _ => 0, g⟩ (fun r => (∀ c : Dev Cert.GradDownIdeal.nD,
      r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
      ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ r.2.sem = fun _ => 0)

def quiescent_RefGradDownIdeal [hRefGradDownIdeal : Cert.RefGradDownIdeal.Facts] : Prop :=
  ∀ (m : (ℓ : Loc Cert.RefGradDownIdeal.nD Cert.RefGradDownIdeal.τ Cert.RefGradDownIdeal.sig) → Buf (Elt Ideal) ℓ) (g : Dev Cert.RefGradDownIdeal.nD → PrngReg), Pre_RefGradDownIdeal m →
    θ_run (Cert.RefGradDownIdeal.defs (F := Ideal)) (onTc (τ := Cert.RefGradDownIdeal.τ) (Cert.RefGradDownIdeal.main (F := Ideal))) ⟨m, fun _ => 0, g⟩ (fun r => (∀ c : Dev Cert.RefGradDownIdeal.nD,
      r.2.mem ((c.tc : Thread Cert.RefGradDownIdeal.nD Cert.RefGradDownIdeal.τ).loc Cert.RefGradDownIdeal.main_arg0) = m ((c.tc : Thread Cert.RefGradDownIdeal.nD Cert.RefGradDownIdeal.τ).loc Cert.RefGradDownIdeal.main_arg0)
      ∧ r.2.mem ((c.tc : Thread Cert.RefGradDownIdeal.nD Cert.RefGradDownIdeal.τ).loc Cert.RefGradDownIdeal.main_arg1) = m ((c.tc : Thread Cert.RefGradDownIdeal.nD Cert.RefGradDownIdeal.τ).loc Cert.RefGradDownIdeal.main_arg1))
      ∧ r.2.sem = fun _ => 0)

def quiescent_GradOut [hGradOut : Cert.GradOut.Facts] : Prop :=
  ∀ (m : (ℓ : Loc Cert.GradOut.nD Cert.GradOut.τ Cert.GradOut.sig) → Buf (Elt Bits) ℓ) (g : Dev Cert.GradOut.nD → PrngReg), Pre_GradOut m →
    θ_run (Cert.GradOut.defs (F := Bits)) (onTc (τ := Cert.GradOut.τ) (Cert.GradOut.main (F := Bits))) ⟨m, fun _ => 0, g⟩ (fun r => (∀ c : Dev Cert.GradOut.nD,
      r.2.mem ((c.tc : Thread Cert.GradOut.nD Cert.GradOut.τ).loc Cert.GradOut.main_arg0) = m ((c.tc : Thread Cert.GradOut.nD Cert.GradOut.τ).loc Cert.GradOut.main_arg0)
      ∧ r.2.mem ((c.tc : Thread Cert.GradOut.nD Cert.GradOut.τ).loc Cert.GradOut.main_arg1) = m ((c.tc : Thread Cert.GradOut.nD Cert.GradOut.τ).loc Cert.GradOut.main_arg1))
      ∧ r.2.sem = fun _ => 0)

def quiescent_GradOutIdeal [hGradOutIdeal : Cert.GradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg), Pre_GradOutIdeal m →
    θ_run (Cert.GradOutIdeal.defs (F := Ideal)) (onTc (τ := Cert.GradOutIdeal.τ) (Cert.GradOutIdeal.main (F := Ideal))) ⟨m, fun _ => 0, g⟩ (fun r => (∀ c : Dev Cert.GradOutIdeal.nD,
      r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
      ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ r.2.sem = fun _ => 0)

def quiescent_RefGradOutIdeal [hRefGradOutIdeal : Cert.RefGradOutIdeal.Facts] : Prop :=
  ∀ (m : (ℓ : Loc Cert.RefGradOutIdeal.nD Cert.RefGradOutIdeal.τ Cert.RefGradOutIdeal.sig) → Buf (Elt Ideal) ℓ) (g : Dev Cert.RefGradOutIdeal.nD → PrngReg), Pre_RefGradOutIdeal m →
    θ_run (Cert.RefGradOutIdeal.defs (F := Ideal)) (onTc (τ := Cert.RefGradOutIdeal.τ) (Cert.RefGradOutIdeal.main (F := Ideal))) ⟨m, fun _ => 0, g⟩ (fun r => (∀ c : Dev Cert.RefGradOutIdeal.nD,
      r.2.mem ((c.tc : Thread Cert.RefGradOutIdeal.nD Cert.RefGradOutIdeal.τ).loc Cert.RefGradOutIdeal.main_arg0) = m ((c.tc : Thread Cert.RefGradOutIdeal.nD Cert.RefGradOutIdeal.τ).loc Cert.RefGradOutIdeal.main_arg0)
      ∧ r.2.mem ((c.tc : Thread Cert.RefGradOutIdeal.nD Cert.RefGradOutIdeal.τ).loc Cert.RefGradOutIdeal.main_arg1) = m ((c.tc : Thread Cert.RefGradOutIdeal.nD Cert.RefGradOutIdeal.τ).loc Cert.RefGradOutIdeal.main_arg1))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_RefGradInIdeal [hRefGradInIdeal : Cert.RefGradInIdeal.Facts] : Prop :=
  ∀ (m : (ℓ : Loc Cert.RefGradInIdeal.nD Cert.RefGradInIdeal.τ Cert.RefGradInIdeal.sig) → Buf (Elt Ideal) ℓ) (g : Dev Cert.RefGradInIdeal.nD → PrngReg), Pre_RefGradInIdeal m →
    θ_run (Cert.RefGradInIdeal.defs (F := Ideal)) (onTc (τ := Cert.RefGradInIdeal.τ) (Cert.RefGradInIdeal.main (F := Ideal))) ⟨m, fun _ => 0, g⟩ (fun r => (∀ c : Dev Cert.RefGradInIdeal.nD,
      r.2.mem ((c.tc : Thread Cert.RefGradInIdeal.nD Cert.RefGradInIdeal.τ).loc Cert.RefGradInIdeal.main_arg0) = m ((c.tc : Thread Cert.RefGradInIdeal.nD Cert.RefGradInIdeal.τ).loc Cert.RefGradInIdeal.main_arg0)
      ∧ r.2.mem ((c.tc : Thread Cert.RefGradInIdeal.nD Cert.RefGradInIdeal.τ).loc Cert.RefGradInIdeal.main_arg1) = m ((c.tc : Thread Cert.RefGradInIdeal.nD Cert.RefGradInIdeal.τ).loc Cert.RefGradInIdeal.main_arg1))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ r.2.sem = fun _ => 0)

def quiescent_RefFfnIdeal [hRefFfnIdeal : Cert.RefFfnIdeal.Facts] : Prop :=
  ∀ (m : (ℓ : Loc Cert.RefFfnIdeal.nD Cert.RefFfnIdeal.τ Cert.RefFfnIdeal.sig) → Buf (Elt Ideal) ℓ) (g : Dev Cert.RefFfnIdeal.nD → PrngReg), Pre_RefFfnIdeal m →
    θ_run (Cert.RefFfnIdeal.defs (F := Ideal)) (onTc (τ := Cert.RefFfnIdeal.τ) (Cert.RefFfnIdeal.main (F := Ideal))) ⟨m, fun _ => 0, g⟩ (fun r => (∀ c : Dev Cert.RefFfnIdeal.nD,
      r.2.mem ((c.tc : Thread Cert.RefFfnIdeal.nD Cert.RefFfnIdeal.τ).loc Cert.RefFfnIdeal.main_arg0) = m ((c.tc : Thread Cert.RefFfnIdeal.nD Cert.RefFfnIdeal.τ).loc Cert.RefFfnIdeal.main_arg0)
      ∧ r.2.mem ((c.tc : Thread Cert.RefFfnIdeal.nD Cert.RefFfnIdeal.τ).loc Cert.RefFfnIdeal.main_arg1) = m ((c.tc : Thread Cert.RefFfnIdeal.nD Cert.RefFfnIdeal.τ).loc Cert.RefFfnIdeal.main_arg1)
      ∧ r.2.mem ((c.tc : Thread Cert.RefFfnIdeal.nD Cert.RefFfnIdeal.τ).loc Cert.RefFfnIdeal.main_arg2) = m ((c.tc : Thread Cert.RefFfnIdeal.nD Cert.RefFfnIdeal.τ).loc Cert.RefFfnIdeal.main_arg2)
      ∧ r.2.mem ((c.tc : Thread Cert.RefFfnIdeal.nD Cert.RefFfnIdeal.τ).loc Cert.RefFfnIdeal.main_arg3) = m ((c.tc : Thread Cert.RefFfnIdeal.nD Cert.RefFfnIdeal.τ).loc Cert.RefFfnIdeal.main_arg3)
      ∧ r.2.mem ((c.tc : Thread Cert.RefFfnIdeal.nD Cert.RefFfnIdeal.τ).loc Cert.RefFfnIdeal.main_arg4) = m ((c.tc : Thread Cert.RefFfnIdeal.nD Cert.RefFfnIdeal.τ).loc Cert.RefFfnIdeal.main_arg4)
      ∧ r.2.mem ((c.tc : Thread Cert.RefFfnIdeal.nD Cert.RefFfnIdeal.τ).loc Cert.RefFfnIdeal.main_arg5) = m ((c.tc : Thread Cert.RefFfnIdeal.nD Cert.RefFfnIdeal.τ).loc Cert.RefFfnIdeal.main_arg5)
      ∧ r.2.mem ((c.tc : Thread Cert.RefFfnIdeal.nD Cert.RefFfnIdeal.τ).loc Cert.RefFfnIdeal.main_arg6) = m ((c.tc : Thread Cert.RefFfnIdeal.nD Cert.RefFfnIdeal.τ).loc Cert.RefFfnIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_RefInProjIdeal [hRefInProjIdeal : Cert.RefInProjIdeal.Facts] : Prop :=
  ∀ (m : (ℓ : Loc Cert.RefInProjIdeal.nD Cert.RefInProjIdeal.τ Cert.RefInProjIdeal.sig) → Buf (Elt Ideal) ℓ) (g : Dev Cert.RefInProjIdeal.nD → PrngReg), Pre_RefInProjIdeal m →
    θ_run (Cert.RefInProjIdeal.defs (F := Ideal)) (onTc (τ := Cert.RefInProjIdeal.τ) (Cert.RefInProjIdeal.main (F := Ideal))) ⟨m, fun _ => 0, g⟩ (fun r => (∀ c : Dev Cert.RefInProjIdeal.nD,
      r.2.mem ((c.tc : Thread Cert.RefInProjIdeal.nD Cert.RefInProjIdeal.τ).loc Cert.RefInProjIdeal.main_arg0) = m ((c.tc : Thread Cert.RefInProjIdeal.nD Cert.RefInProjIdeal.τ).loc Cert.RefInProjIdeal.main_arg0)
      ∧ r.2.mem ((c.tc : Thread Cert.RefInProjIdeal.nD Cert.RefInProjIdeal.τ).loc Cert.RefInProjIdeal.main_arg1) = m ((c.tc : Thread Cert.RefInProjIdeal.nD Cert.RefInProjIdeal.τ).loc Cert.RefInProjIdeal.main_arg1)
      ∧ r.2.mem ((c.tc : Thread Cert.RefInProjIdeal.nD Cert.RefInProjIdeal.τ).loc Cert.RefInProjIdeal.main_arg2) = m ((c.tc : Thread Cert.RefInProjIdeal.nD Cert.RefInProjIdeal.τ).loc Cert.RefInProjIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3)
      ∧ r.2.mem ((c.tc : Thread Cert.FfnBwd.nD Cert.FfnBwd.τ).loc Cert.FfnBwd.main_arg4) = m ((c.tc : Thread Cert.FfnBwd.nD Cert.FfnBwd.τ).loc Cert.FfnBwd.main_arg4)
      ∧ r.2.mem ((c.tc : Thread Cert.FfnBwd.nD Cert.FfnBwd.τ).loc Cert.FfnBwd.main_arg5) = m ((c.tc : Thread Cert.FfnBwd.nD Cert.FfnBwd.τ).loc Cert.FfnBwd.main_arg5)
      ∧ r.2.mem ((c.tc : Thread Cert.FfnBwd.nD Cert.FfnBwd.τ).loc Cert.FfnBwd.main_arg6) = m ((c.tc : Thread Cert.FfnBwd.nD Cert.FfnBwd.τ).loc Cert.FfnBwd.main_arg6)
      ∧ r.2.mem ((c.tc : Thread Cert.FfnBwd.nD Cert.FfnBwd.τ).loc Cert.FfnBwd.main_arg7) = m ((c.tc : Thread Cert.FfnBwd.nD Cert.FfnBwd.τ).loc Cert.FfnBwd.main_arg7)
      ∧ r.2.mem ((c.tc : Thread Cert.FfnBwd.nD Cert.FfnBwd.τ).loc Cert.FfnBwd.main_arg8) = m ((c.tc : Thread Cert.FfnBwd.nD Cert.FfnBwd.τ).loc Cert.FfnBwd.main_arg8)
      ∧ r.2.mem ((c.tc : Thread Cert.FfnBwd.nD Cert.FfnBwd.τ).loc Cert.FfnBwd.main_arg9) = m ((c.tc : Thread Cert.FfnBwd.nD Cert.FfnBwd.τ).loc Cert.FfnBwd.main_arg9)
      ∧ r.2.mem ((c.tc : Thread Cert.FfnBwd.nD Cert.FfnBwd.τ).loc Cert.FfnBwd.main_arg10) = m ((c.tc : Thread Cert.FfnBwd.nD Cert.FfnBwd.τ).loc Cert.FfnBwd.main_arg10))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
      ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9)
      ∧ r.2.mem ((c.tc : Thread Cert.FfnBwdIdeal.nD Cert.FfnBwdIdeal.τ).loc Cert.FfnBwdIdeal.main_arg10) = m ((c.tc : Thread Cert.FfnBwdIdeal.nD Cert.FfnBwdIdeal.τ).loc Cert.FfnBwdIdeal.main_arg10))
      ∧ r.2.sem = fun _ => 0)

def quiescent_FfnBwdIdeal_pre_all_finite [hFfnBwdIdeal : Cert.FfnBwdIdeal.Facts] [hPre_all_finite : Cert.Pre_all_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_all_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
      ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
      ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
      ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
      ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
      ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
      ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9)
      ∧ r.2.mem ((c.tc : Thread Cert.FfnBwdIdeal.nD Cert.FfnBwdIdeal.τ).loc Cert.FfnBwdIdeal.main_arg10) = m ((c.tc : Thread Cert.FfnBwdIdeal.nD Cert.FfnBwdIdeal.τ).loc Cert.FfnBwdIdeal.main_arg10))
      ∧ r.2.sem = fun _ => 0)

def quiescent_RefFfnBwdIdeal [hRefFfnBwdIdeal : Cert.RefFfnBwdIdeal.Facts] : Prop :=
  ∀ (m : (ℓ : Loc Cert.RefFfnBwdIdeal.nD Cert.RefFfnBwdIdeal.τ Cert.RefFfnBwdIdeal.sig) → Buf (Elt Ideal) ℓ) (g : Dev Cert.RefFfnBwdIdeal.nD → PrngReg), Pre_RefFfnBwdIdeal m →
    θ_run (Cert.RefFfnBwdIdeal.defs (F := Ideal)) (onTc (τ := Cert.RefFfnBwdIdeal.τ) (Cert.RefFfnBwdIdeal.main (F := Ideal))) ⟨m, fun _ => 0, g⟩ (fun r => (∀ c : Dev Cert.RefFfnBwdIdeal.nD,
      r.2.mem ((c.tc : Thread Cert.RefFfnBwdIdeal.nD Cert.RefFfnBwdIdeal.τ).loc Cert.RefFfnBwdIdeal.main_arg0) = m ((c.tc : Thread Cert.RefFfnBwdIdeal.nD Cert.RefFfnBwdIdeal.τ).loc Cert.RefFfnBwdIdeal.main_arg0)
      ∧ r.2.mem ((c.tc : Thread Cert.RefFfnBwdIdeal.nD Cert.RefFfnBwdIdeal.τ).loc Cert.RefFfnBwdIdeal.main_arg1) = m ((c.tc : Thread Cert.RefFfnBwdIdeal.nD Cert.RefFfnBwdIdeal.τ).loc Cert.RefFfnBwdIdeal.main_arg1)
      ∧ r.2.mem ((c.tc : Thread Cert.RefFfnBwdIdeal.nD Cert.RefFfnBwdIdeal.τ).loc Cert.RefFfnBwdIdeal.main_arg2) = m ((c.tc : Thread Cert.RefFfnBwdIdeal.nD Cert.RefFfnBwdIdeal.τ).loc Cert.RefFfnBwdIdeal.main_arg2)
      ∧ r.2.mem ((c.tc : Thread Cert.RefFfnBwdIdeal.nD Cert.RefFfnBwdIdeal.τ).loc Cert.RefFfnBwdIdeal.main_arg3) = m ((c.tc : Thread Cert.RefFfnBwdIdeal.nD Cert.RefFfnBwdIdeal.τ).loc Cert.RefFfnBwdIdeal.main_arg3)
      ∧ r.2.mem ((c.tc : Thread Cert.RefFfnBwdIdeal.nD Cert.RefFfnBwdIdeal.τ).loc Cert.RefFfnBwdIdeal.main_arg4) = m ((c.tc : Thread Cert.RefFfnBwdIdeal.nD Cert.RefFfnBwdIdeal.τ).loc Cert.RefFfnBwdIdeal.main_arg4)
      ∧ r.2.mem ((c.tc : Thread Cert.RefFfnBwdIdeal.nD Cert.RefFfnBwdIdeal.τ).loc Cert.RefFfnBwdIdeal.main_arg5) = m ((c.tc : Thread Cert.RefFfnBwdIdeal.nD Cert.RefFfnBwdIdeal.τ).loc Cert.RefFfnBwdIdeal.main_arg5)
      ∧ r.2.mem ((c.tc : Thread Cert.RefFfnBwdIdeal.nD Cert.RefFfnBwdIdeal.τ).loc Cert.RefFfnBwdIdeal.main_arg6) = m ((c.tc : Thread Cert.RefFfnBwdIdeal.nD Cert.RefFfnBwdIdeal.τ).loc Cert.RefFfnBwdIdeal.main_arg6)
      ∧ r.2.mem ((c.tc : Thread Cert.RefFfnBwdIdeal.nD Cert.RefFfnBwdIdeal.τ).loc Cert.RefFfnBwdIdeal.main_arg7) = m ((c.tc : Thread Cert.RefFfnBwdIdeal.nD Cert.RefFfnBwdIdeal.τ).loc Cert.RefFfnBwdIdeal.main_arg7)
      ∧ r.2.mem ((c.tc : Thread Cert.RefFfnBwdIdeal.nD Cert.RefFfnBwdIdeal.τ).loc Cert.RefFfnBwdIdeal.main_arg8) = m ((c.tc : Thread Cert.RefFfnBwdIdeal.nD Cert.RefFfnBwdIdeal.τ).loc Cert.RefFfnBwdIdeal.main_arg8)
      ∧ r.2.mem ((c.tc : Thread Cert.RefFfnBwdIdeal.nD Cert.RefFfnBwdIdeal.τ).loc Cert.RefFfnBwdIdeal.main_arg9) = m ((c.tc : Thread Cert.RefFfnBwdIdeal.nD Cert.RefFfnBwdIdeal.τ).loc Cert.RefFfnBwdIdeal.main_arg9)
      ∧ r.2.mem ((c.tc : Thread Cert.RefFfnBwdIdeal.nD Cert.RefFfnBwdIdeal.τ).loc Cert.RefFfnBwdIdeal.main_arg10) = m ((c.tc : Thread Cert.RefFfnBwdIdeal.nD Cert.RefFfnBwdIdeal.τ).loc Cert.RefFfnBwdIdeal.main_arg10))
      ∧ r.2.sem = fun _ => 0)

def quiescent_RefFfnBwdIdeal_pre_all_finite [hRefFfnBwdIdeal : Cert.RefFfnBwdIdeal.Facts] [hPre_all_finite : Cert.Pre_all_finite.Facts] : Prop :=
  ∀ (m : (ℓ : Loc Cert.RefFfnBwdIdeal.nD Cert.RefFfnBwdIdeal.τ Cert.RefFfnBwdIdeal.sig) → Buf (Elt Ideal) ℓ) (g : Dev Cert.RefFfnBwdIdeal.nD → PrngReg), Pre_RefFfnBwdIdeal_all_finite m →
    θ_run (Cert.RefFfnBwdIdeal.defs (F := Ideal)) (onTc (τ := Cert.RefFfnBwdIdeal.τ) (Cert.RefFfnBwdIdeal.main (F := Ideal))) ⟨m, fun _ => 0, g⟩ (fun r => (∀ c : Dev Cert.RefFfnBwdIdeal.nD,
      r.2.mem ((c.tc : Thread Cert.RefFfnBwdIdeal.nD Cert.RefFfnBwdIdeal.τ).loc Cert.RefFfnBwdIdeal.main_arg0) = m ((c.tc : Thread Cert.RefFfnBwdIdeal.nD Cert.RefFfnBwdIdeal.τ).loc Cert.RefFfnBwdIdeal.main_arg0)
      ∧ r.2.mem ((c.tc : Thread Cert.RefFfnBwdIdeal.nD Cert.RefFfnBwdIdeal.τ).loc Cert.RefFfnBwdIdeal.main_arg1) = m ((c.tc : Thread Cert.RefFfnBwdIdeal.nD Cert.RefFfnBwdIdeal.τ).loc Cert.RefFfnBwdIdeal.main_arg1)
      ∧ r.2.mem ((c.tc : Thread Cert.RefFfnBwdIdeal.nD Cert.RefFfnBwdIdeal.τ).loc Cert.RefFfnBwdIdeal.main_arg2) = m ((c.tc : Thread Cert.RefFfnBwdIdeal.nD Cert.RefFfnBwdIdeal.τ).loc Cert.RefFfnBwdIdeal.main_arg2)
      ∧ r.2.mem ((c.tc : Thread Cert.RefFfnBwdIdeal.nD Cert.RefFfnBwdIdeal.τ).loc Cert.RefFfnBwdIdeal.main_arg3) = m ((c.tc : Thread Cert.RefFfnBwdIdeal.nD Cert.RefFfnBwdIdeal.τ).loc Cert.RefFfnBwdIdeal.main_arg3)
      ∧ r.2.mem ((c.tc : Thread Cert.RefFfnBwdIdeal.nD Cert.RefFfnBwdIdeal.τ).loc Cert.RefFfnBwdIdeal.main_arg4) = m ((c.tc : Thread Cert.RefFfnBwdIdeal.nD Cert.RefFfnBwdIdeal.τ).loc Cert.RefFfnBwdIdeal.main_arg4)
      ∧ r.2.mem ((c.tc : Thread Cert.RefFfnBwdIdeal.nD Cert.RefFfnBwdIdeal.τ).loc Cert.RefFfnBwdIdeal.main_arg5) = m ((c.tc : Thread Cert.RefFfnBwdIdeal.nD Cert.RefFfnBwdIdeal.τ).loc Cert.RefFfnBwdIdeal.main_arg5)
      ∧ r.2.mem ((c.tc : Thread Cert.RefFfnBwdIdeal.nD Cert.RefFfnBwdIdeal.τ).loc Cert.RefFfnBwdIdeal.main_arg6) = m ((c.tc : Thread Cert.RefFfnBwdIdeal.nD Cert.RefFfnBwdIdeal.τ).loc Cert.RefFfnBwdIdeal.main_arg6)
      ∧ r.2.mem ((c.tc : Thread Cert.RefFfnBwdIdeal.nD Cert.RefFfnBwdIdeal.τ).loc Cert.RefFfnBwdIdeal.main_arg7) = m ((c.tc : Thread Cert.RefFfnBwdIdeal.nD Cert.RefFfnBwdIdeal.τ).loc Cert.RefFfnBwdIdeal.main_arg7)
      ∧ r.2.mem ((c.tc : Thread Cert.RefFfnBwdIdeal.nD Cert.RefFfnBwdIdeal.τ).loc Cert.RefFfnBwdIdeal.main_arg8) = m ((c.tc : Thread Cert.RefFfnBwdIdeal.nD Cert.RefFfnBwdIdeal.τ).loc Cert.RefFfnBwdIdeal.main_arg8)
      ∧ r.2.mem ((c.tc : Thread Cert.RefFfnBwdIdeal.nD Cert.RefFfnBwdIdeal.τ).loc Cert.RefFfnBwdIdeal.main_arg9) = m ((c.tc : Thread Cert.RefFfnBwdIdeal.nD Cert.RefFfnBwdIdeal.τ).loc Cert.RefFfnBwdIdeal.main_arg9)
      ∧ r.2.mem ((c.tc : Thread Cert.RefFfnBwdIdeal.nD Cert.RefFfnBwdIdeal.τ).loc Cert.RefFfnBwdIdeal.main_arg10) = m ((c.tc : Thread Cert.RefFfnBwdIdeal.nD Cert.RefFfnBwdIdeal.τ).loc Cert.RefFfnBwdIdeal.main_arg10))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_v52) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Forward_ForwardIdeal : Prop :=
  IdealRules.named_const.Statement Cert.ForwardIdeal.κ "mask" .f32 0xF149F2CA#32 ⊥

def algebraic_ForwardIdeal_RefForwardIdeal [hForwardIdeal : Cert.ForwardIdeal.Facts] [hRefForwardIdeal : Cert.RefForwardIdeal.Facts] : Prop :=
  ∀ (m : (ℓ : Loc Cert.ForwardIdeal.nD Cert.ForwardIdeal.τ Cert.ForwardIdeal.sig) → Buf (Elt Ideal) ℓ) (g : Dev Cert.ForwardIdeal.nD → PrngReg)
    (m' : (ℓ : Loc Cert.RefForwardIdeal.nD Cert.RefForwardIdeal.τ Cert.RefForwardIdeal.sig) → Buf (Elt Ideal) ℓ) (g' : Dev Cert.RefForwardIdeal.nD → PrngReg), Pre_ForwardIdeal m →
    (∀ c : Dev Cert.ForwardIdeal.nD,
      m' ((c.tc : Thread Cert.RefForwardIdeal.nD Cert.RefForwardIdeal.τ).loc Cert.RefForwardIdeal.main_arg0) = m ((c.tc : Thread Cert.ForwardIdeal.nD Cert.ForwardIdeal.τ).loc Cert.ForwardIdeal.main_arg0)) →
    ∃ (v0 : (c : Dev Cert.ForwardIdeal.nD) → Buf (Elt Ideal) ((c.tc : Thread Cert.ForwardIdeal.nD Cert.ForwardIdeal.τ).loc Cert.ForwardIdeal.main_v0)),
      θ_run (Cert.ForwardIdeal.defs (F := Ideal)) (onTc (τ := Cert.ForwardIdeal.τ) (Cert.ForwardIdeal.main (F := Ideal))) ⟨m, fun _ => 0, g⟩ (fun r => ∀ c : Dev Cert.ForwardIdeal.nD,
          r.2.mem ((c.tc : Thread Cert.ForwardIdeal.nD Cert.ForwardIdeal.τ).loc Cert.ForwardIdeal.main_v0) = v0 c
          ∧ r.2.mem ((c.tc : Thread Cert.ForwardIdeal.nD Cert.ForwardIdeal.τ).loc Cert.ForwardIdeal.main_arg0) = m ((c.tc : Thread Cert.ForwardIdeal.nD Cert.ForwardIdeal.τ).loc Cert.ForwardIdeal.main_arg0))
      ∧ θ_run (Cert.RefForwardIdeal.defs (F := Ideal)) (onTc (τ := Cert.RefForwardIdeal.τ) (Cert.RefForwardIdeal.main (F := Ideal))) ⟨m', fun _ => 0, g'⟩ (fun r => ∀ c : Dev Cert.RefForwardIdeal.nD,
          r.2.mem ((c.tc : Thread Cert.RefForwardIdeal.nD Cert.RefForwardIdeal.τ).loc Cert.RefForwardIdeal.main_v30) = v0 c
          ∧ r.2.mem ((c.tc : Thread Cert.RefForwardIdeal.nD Cert.RefForwardIdeal.τ).loc Cert.RefForwardIdeal.main_arg0) = m' ((c.tc : Thread Cert.RefForwardIdeal.nD Cert.RefForwardIdeal.τ).loc Cert.RefForwardIdeal.main_arg0))

def preserves_GradGate_GradGateIdeal : Prop :=
  True

def algebraic_GradGateIdeal_RefGradGateIdeal [hGradGateIdeal : Cert.GradGateIdeal.Facts] [hRefGradGateIdeal : Cert.RefGradGateIdeal.Facts] : Prop :=
  ∀ (m : (ℓ : Loc Cert.GradGateIdeal.nD Cert.GradGateIdeal.τ Cert.GradGateIdeal.sig) → Buf (Elt Ideal) ℓ) (g : Dev Cert.GradGateIdeal.nD → PrngReg)
    (m' : (ℓ : Loc Cert.RefGradGateIdeal.nD Cert.RefGradGateIdeal.τ Cert.RefGradGateIdeal.sig) → Buf (Elt Ideal) ℓ) (g' : Dev Cert.RefGradGateIdeal.nD → PrngReg), Pre_GradGateIdeal m →
    (∀ c : Dev Cert.GradGateIdeal.nD,
      m' ((c.tc : Thread Cert.RefGradGateIdeal.nD Cert.RefGradGateIdeal.τ).loc Cert.RefGradGateIdeal.main_arg0) = m ((c.tc : Thread Cert.GradGateIdeal.nD Cert.GradGateIdeal.τ).loc Cert.GradGateIdeal.main_arg0)
      ∧ m' ((c.tc : Thread Cert.RefGradGateIdeal.nD Cert.RefGradGateIdeal.τ).loc Cert.RefGradGateIdeal.main_arg1) = m ((c.tc : Thread Cert.GradGateIdeal.nD Cert.GradGateIdeal.τ).loc Cert.GradGateIdeal.main_arg1)) →
    ∃ (v0 : (c : Dev Cert.GradGateIdeal.nD) → Buf (Elt Ideal) ((c.tc : Thread Cert.GradGateIdeal.nD Cert.GradGateIdeal.τ).loc Cert.GradGateIdeal.main_v0)),
      θ_run (Cert.GradGateIdeal.defs (F := Ideal)) (onTc (τ := Cert.GradGateIdeal.τ) (Cert.GradGateIdeal.main (F := Ideal))) ⟨m, fun _ => 0, g⟩ (fun r => ∀ c : Dev Cert.GradGateIdeal.nD,
          r.2.mem ((c.tc : Thread Cert.GradGateIdeal.nD Cert.GradGateIdeal.τ).loc Cert.GradGateIdeal.main_v0) = v0 c
          ∧ r.2.mem ((c.tc : Thread Cert.GradGateIdeal.nD Cert.GradGateIdeal.τ).loc Cert.GradGateIdeal.main_arg0) = m ((c.tc : Thread Cert.GradGateIdeal.nD Cert.GradGateIdeal.τ).loc Cert.GradGateIdeal.main_arg0)
          ∧ r.2.mem ((c.tc : Thread Cert.GradGateIdeal.nD Cert.GradGateIdeal.τ).loc Cert.GradGateIdeal.main_arg1) = m ((c.tc : Thread Cert.GradGateIdeal.nD Cert.GradGateIdeal.τ).loc Cert.GradGateIdeal.main_arg1))
      ∧ θ_run (Cert.RefGradGateIdeal.defs (F := Ideal)) (onTc (τ := Cert.RefGradGateIdeal.τ) (Cert.RefGradGateIdeal.main (F := Ideal))) ⟨m', fun _ => 0, g'⟩ (fun r => ∀ c : Dev Cert.RefGradGateIdeal.nD,
          r.2.mem ((c.tc : Thread Cert.RefGradGateIdeal.nD Cert.RefGradGateIdeal.τ).loc Cert.RefGradGateIdeal.main_v5) = v0 c
          ∧ r.2.mem ((c.tc : Thread Cert.RefGradGateIdeal.nD Cert.RefGradGateIdeal.τ).loc Cert.RefGradGateIdeal.main_arg0) = m' ((c.tc : Thread Cert.RefGradGateIdeal.nD Cert.RefGradGateIdeal.τ).loc Cert.RefGradGateIdeal.main_arg0)
          ∧ r.2.mem ((c.tc : Thread Cert.RefGradGateIdeal.nD Cert.RefGradGateIdeal.τ).loc Cert.RefGradGateIdeal.main_arg1) = m' ((c.tc : Thread Cert.RefGradGateIdeal.nD Cert.RefGradGateIdeal.τ).loc Cert.RefGradGateIdeal.main_arg1))

def preserves_GradDown_GradDownIdeal : Prop :=
  True

def algebraic_GradDownIdeal_RefGradDownIdeal [hGradDownIdeal : Cert.GradDownIdeal.Facts] [hRefGradDownIdeal : Cert.RefGradDownIdeal.Facts] : Prop :=
  ∀ (m : (ℓ : Loc Cert.GradDownIdeal.nD Cert.GradDownIdeal.τ Cert.GradDownIdeal.sig) → Buf (Elt Ideal) ℓ) (g : Dev Cert.GradDownIdeal.nD → PrngReg)
    (m' : (ℓ : Loc Cert.RefGradDownIdeal.nD Cert.RefGradDownIdeal.τ Cert.RefGradDownIdeal.sig) → Buf (Elt Ideal) ℓ) (g' : Dev Cert.RefGradDownIdeal.nD → PrngReg), Pre_GradDownIdeal m →
    (∀ c : Dev Cert.GradDownIdeal.nD,
      m' ((c.tc : Thread Cert.RefGradDownIdeal.nD Cert.RefGradDownIdeal.τ).loc Cert.RefGradDownIdeal.main_arg0) = m ((c.tc : Thread Cert.GradDownIdeal.nD Cert.GradDownIdeal.τ).loc Cert.GradDownIdeal.main_arg0)
      ∧ m' ((c.tc : Thread Cert.RefGradDownIdeal.nD Cert.RefGradDownIdeal.τ).loc Cert.RefGradDownIdeal.main_arg1) = m ((c.tc : Thread Cert.GradDownIdeal.nD Cert.GradDownIdeal.τ).loc Cert.GradDownIdeal.main_arg1)) →
    ∃ (v0 : (c : Dev Cert.GradDownIdeal.nD) → Buf (Elt Ideal) ((c.tc : Thread Cert.GradDownIdeal.nD Cert.GradDownIdeal.τ).loc Cert.GradDownIdeal.main_v0)),
      θ_run (Cert.GradDownIdeal.defs (F := Ideal)) (onTc (τ := Cert.GradDownIdeal.τ) (Cert.GradDownIdeal.main (F := Ideal))) ⟨m, fun _ => 0, g⟩ (fun r => ∀ c : Dev Cert.GradDownIdeal.nD,
          r.2.mem ((c.tc : Thread Cert.GradDownIdeal.nD Cert.GradDownIdeal.τ).loc Cert.GradDownIdeal.main_v0) = v0 c
          ∧ r.2.mem ((c.tc : Thread Cert.GradDownIdeal.nD Cert.GradDownIdeal.τ).loc Cert.GradDownIdeal.main_arg0) = m ((c.tc : Thread Cert.GradDownIdeal.nD Cert.GradDownIdeal.τ).loc Cert.GradDownIdeal.main_arg0)
          ∧ r.2.mem ((c.tc : Thread Cert.GradDownIdeal.nD Cert.GradDownIdeal.τ).loc Cert.GradDownIdeal.main_arg1) = m ((c.tc : Thread Cert.GradDownIdeal.nD Cert.GradDownIdeal.τ).loc Cert.GradDownIdeal.main_arg1))
      ∧ θ_run (Cert.RefGradDownIdeal.defs (F := Ideal)) (onTc (τ := Cert.RefGradDownIdeal.τ) (Cert.RefGradDownIdeal.main (F := Ideal))) ⟨m', fun _ => 0, g'⟩ (fun r => ∀ c : Dev Cert.RefGradDownIdeal.nD,
          r.2.mem ((c.tc : Thread Cert.RefGradDownIdeal.nD Cert.RefGradDownIdeal.τ).loc Cert.RefGradDownIdeal.main_v5) = v0 c
          ∧ r.2.mem ((c.tc : Thread Cert.RefGradDownIdeal.nD Cert.RefGradDownIdeal.τ).loc Cert.RefGradDownIdeal.main_arg0) = m' ((c.tc : Thread Cert.RefGradDownIdeal.nD Cert.RefGradDownIdeal.τ).loc Cert.RefGradDownIdeal.main_arg0)
          ∧ r.2.mem ((c.tc : Thread Cert.RefGradDownIdeal.nD Cert.RefGradDownIdeal.τ).loc Cert.RefGradDownIdeal.main_arg1) = m' ((c.tc : Thread Cert.RefGradDownIdeal.nD Cert.RefGradDownIdeal.τ).loc Cert.RefGradDownIdeal.main_arg1))

def preserves_GradOut_GradOutIdeal : Prop :=
  True

def algebraic_GradOutIdeal_RefGradOutIdeal [hGradOutIdeal : Cert.GradOutIdeal.Facts] [hRefGradOutIdeal : Cert.RefGradOutIdeal.Facts] : Prop :=
  ∀ (m : (ℓ : Loc Cert.GradOutIdeal.nD Cert.GradOutIdeal.τ Cert.GradOutIdeal.sig) → Buf (Elt Ideal) ℓ) (g : Dev Cert.GradOutIdeal.nD → PrngReg)
    (m' : (ℓ : Loc Cert.RefGradOutIdeal.nD Cert.RefGradOutIdeal.τ Cert.RefGradOutIdeal.sig) → Buf (Elt Ideal) ℓ) (g' : Dev Cert.RefGradOutIdeal.nD → PrngReg), Pre_GradOutIdeal m →
    (∀ c : Dev Cert.GradOutIdeal.nD,
      m' ((c.tc : Thread Cert.RefGradOutIdeal.nD Cert.RefGradOutIdeal.τ).loc Cert.RefGradOutIdeal.main_arg0) = m ((c.tc : Thread Cert.GradOutIdeal.nD Cert.GradOutIdeal.τ).loc Cert.GradOutIdeal.main_arg0)
      ∧ m' ((c.tc : Thread Cert.RefGradOutIdeal.nD Cert.RefGradOutIdeal.τ).loc Cert.RefGradOutIdeal.main_arg1) = m ((c.tc : Thread Cert.GradOutIdeal.nD Cert.GradOutIdeal.τ).loc Cert.GradOutIdeal.main_arg1)) →
    ∃ (v0 : (c : Dev Cert.GradOutIdeal.nD) → Buf (Elt Ideal) ((c.tc : Thread Cert.GradOutIdeal.nD Cert.GradOutIdeal.τ).loc Cert.GradOutIdeal.main_v0)),
      θ_run (Cert.GradOutIdeal.defs (F := Ideal)) (onTc (τ := Cert.GradOutIdeal.τ) (Cert.GradOutIdeal.main (F := Ideal))) ⟨m, fun _ => 0, g⟩ (fun r => ∀ c : Dev Cert.GradOutIdeal.nD,
          r.2.mem ((c.tc : Thread Cert.GradOutIdeal.nD Cert.GradOutIdeal.τ).loc Cert.GradOutIdeal.main_v0) = v0 c
          ∧ r.2.mem ((c.tc : Thread Cert.GradOutIdeal.nD Cert.GradOutIdeal.τ).loc Cert.GradOutIdeal.main_arg0) = m ((c.tc : Thread Cert.GradOutIdeal.nD Cert.GradOutIdeal.τ).loc Cert.GradOutIdeal.main_arg0)
          ∧ r.2.mem ((c.tc : Thread Cert.GradOutIdeal.nD Cert.GradOutIdeal.τ).loc Cert.GradOutIdeal.main_arg1) = m ((c.tc : Thread Cert.GradOutIdeal.nD Cert.GradOutIdeal.τ).loc Cert.GradOutIdeal.main_arg1))
      ∧ θ_run (Cert.RefGradOutIdeal.defs (F := Ideal)) (onTc (τ := Cert.RefGradOutIdeal.τ) (Cert.RefGradOutIdeal.main (F := Ideal))) ⟨m', fun _ => 0, g'⟩ (fun r => ∀ c : Dev Cert.RefGradOutIdeal.nD,
          r.2.mem ((c.tc : Thread Cert.RefGradOutIdeal.nD Cert.RefGradOutIdeal.τ).loc Cert.RefGradOutIdeal.main_v5) = v0 c
          ∧ r.2.mem ((c.tc : Thread Cert.RefGradOutIdeal.nD Cert.RefGradOutIdeal.τ).loc Cert.RefGradOutIdeal.main_arg0) = m' ((c.tc : Thread Cert.RefGradOutIdeal.nD Cert.RefGradOutIdeal.τ).loc Cert.RefGradOutIdeal.main_arg0)
          ∧ r.2.mem ((c.tc : Thread Cert.RefGradOutIdeal.nD Cert.RefGradOutIdeal.τ).loc Cert.RefGradOutIdeal.main_arg1) = m' ((c.tc : Thread Cert.RefGradOutIdeal.nD Cert.RefGradOutIdeal.τ).loc Cert.RefGradOutIdeal.main_arg1))

def preserves_GradIn_GradInIdeal : Prop :=
  True

def algebraic_GradInIdeal_RefGradInIdeal [hGradInIdeal : Cert.GradInIdeal.Facts] [hRefGradInIdeal : Cert.RefGradInIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.RefGradInIdeal.nD Cert.RefGradInIdeal.τ Cert.RefGradInIdeal.sig) → Buf (Elt Ideal) ℓ) (g' : Dev Cert.RefGradInIdeal.nD → PrngReg), Pre_GradInIdeal m →
    (∀ c : Dev Cert.GradInIdeal.nD,
      m' ((c.tc : Thread Cert.RefGradInIdeal.nD Cert.RefGradInIdeal.τ).loc Cert.RefGradInIdeal.main_arg0) = m ((c.tc : Thread Cert.GradInIdeal.nD Cert.GradInIdeal.τ).loc Cert.GradInIdeal.main_arg0)
      ∧ m' ((c.tc : Thread Cert.RefGradInIdeal.nD Cert.RefGradInIdeal.τ).loc Cert.RefGradInIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0) = v0 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.RefGradInIdeal.defs (F := Ideal)) (onTc (τ := Cert.RefGradInIdeal.τ) (Cert.RefGradInIdeal.main (F := Ideal))) ⟨m', fun _ => 0, g'⟩ (fun r => ∀ c : Dev Cert.RefGradInIdeal.nD,
          r.2.mem ((c.tc : Thread Cert.RefGradInIdeal.nD Cert.RefGradInIdeal.τ).loc Cert.RefGradInIdeal.main_v7) = v0 c
          ∧ r.2.mem ((c.tc : Thread Cert.RefGradInIdeal.nD Cert.RefGradInIdeal.τ).loc Cert.RefGradInIdeal.main_arg0) = m' ((c.tc : Thread Cert.RefGradInIdeal.nD Cert.RefGradInIdeal.τ).loc Cert.RefGradInIdeal.main_arg0)
          ∧ r.2.mem ((c.tc : Thread Cert.RefGradInIdeal.nD Cert.RefGradInIdeal.τ).loc Cert.RefGradInIdeal.main_arg1) = m' ((c.tc : Thread Cert.RefGradInIdeal.nD Cert.RefGradInIdeal.τ).loc Cert.RefGradInIdeal.main_arg1))

def preserves_Ffn_FfnIdeal : Prop :=
  True

def algebraic_FfnIdeal_RefFfnIdeal [hFfnIdeal : Cert.FfnIdeal.Facts] [hRefFfnIdeal : Cert.RefFfnIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.RefFfnIdeal.nD Cert.RefFfnIdeal.τ Cert.RefFfnIdeal.sig) → Buf (Elt Ideal) ℓ) (g' : Dev Cert.RefFfnIdeal.nD → PrngReg), Pre_FfnIdeal m →
    (∀ c : Dev Cert.FfnIdeal.nD,
      m' ((c.tc : Thread Cert.RefFfnIdeal.nD Cert.RefFfnIdeal.τ).loc Cert.RefFfnIdeal.main_arg0) = m ((c.tc : Thread Cert.FfnIdeal.nD Cert.FfnIdeal.τ).loc Cert.FfnIdeal.main_arg0)
      ∧ m' ((c.tc : Thread Cert.RefFfnIdeal.nD Cert.RefFfnIdeal.τ).loc Cert.RefFfnIdeal.main_arg1) = m ((c.tc : Thread Cert.FfnIdeal.nD Cert.FfnIdeal.τ).loc Cert.FfnIdeal.main_arg1)
      ∧ m' ((c.tc : Thread Cert.RefFfnIdeal.nD Cert.RefFfnIdeal.τ).loc Cert.RefFfnIdeal.main_arg2) = m ((c.tc : Thread Cert.FfnIdeal.nD Cert.FfnIdeal.τ).loc Cert.FfnIdeal.main_arg2)
      ∧ m' ((c.tc : Thread Cert.RefFfnIdeal.nD Cert.RefFfnIdeal.τ).loc Cert.RefFfnIdeal.main_arg3) = m ((c.tc : Thread Cert.FfnIdeal.nD Cert.FfnIdeal.τ).loc Cert.FfnIdeal.main_arg3)
      ∧ m' ((c.tc : Thread Cert.RefFfnIdeal.nD Cert.RefFfnIdeal.τ).loc Cert.RefFfnIdeal.main_arg4) = m ((c.tc : Thread Cert.FfnIdeal.nD Cert.FfnIdeal.τ).loc Cert.FfnIdeal.main_arg4)
      ∧ m' ((c.tc : Thread Cert.RefFfnIdeal.nD Cert.RefFfnIdeal.τ).loc Cert.RefFfnIdeal.main_arg5) = m ((c.tc : Thread Cert.FfnIdeal.nD Cert.FfnIdeal.τ).loc Cert.FfnIdeal.main_arg5)
      ∧ m' ((c.tc : Thread Cert.RefFfnIdeal.nD Cert.RefFfnIdeal.τ).loc Cert.RefFfnIdeal.main_arg6) = m ((c.tc : Thread Cert.FfnIdeal.nD Cert.FfnIdeal.τ).loc Cert.FfnIdeal.main_arg6)) →
    ∃ (v0 : (c : Dev Cert.FfnIdeal.nD) → Buf (Elt Ideal) ((c.tc : Thread Cert.FfnIdeal.nD Cert.FfnIdeal.τ).loc Cert.FfnIdeal.main_v0_1)) (v1 : (c : Dev Cert.FfnIdeal.nD) → Buf (Elt Ideal) ((c.tc : Thread Cert.FfnIdeal.nD Cert.FfnIdeal.τ).loc Cert.FfnIdeal.main_v0_2)) (v2 : (c : Dev Cert.FfnIdeal.nD) → Buf (Elt Ideal) ((c.tc : Thread Cert.FfnIdeal.nD Cert.FfnIdeal.τ).loc Cert.FfnIdeal.main_v0_3)) (v3 : (c : Dev Cert.FfnIdeal.nD) → Buf (Elt Ideal) ((c.tc : Thread Cert.FfnIdeal.nD Cert.FfnIdeal.τ).loc Cert.FfnIdeal.main_v0_4)) (v4 : (c : Dev Cert.FfnIdeal.nD) → Buf (Elt Ideal) ((c.tc : Thread Cert.FfnIdeal.nD Cert.FfnIdeal.τ).loc Cert.FfnIdeal.main_v0_5)) (v5 : (c : Dev Cert.FfnIdeal.nD) → Buf (Elt Ideal) ((c.tc : Thread Cert.FfnIdeal.nD Cert.FfnIdeal.τ).loc Cert.FfnIdeal.main_v0_6)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0_1) = v0 c
          ∧ r.2.mem ((c.tc : Thread Cert.FfnIdeal.nD Cert.FfnIdeal.τ).loc Cert.FfnIdeal.main_v0_2) = v1 c
          ∧ r.2.mem ((c.tc : Thread Cert.FfnIdeal.nD Cert.FfnIdeal.τ).loc Cert.FfnIdeal.main_v0_3) = v2 c
          ∧ r.2.mem ((c.tc : Thread Cert.FfnIdeal.nD Cert.FfnIdeal.τ).loc Cert.FfnIdeal.main_v0_4) = v3 c
          ∧ r.2.mem ((c.tc : Thread Cert.FfnIdeal.nD Cert.FfnIdeal.τ).loc Cert.FfnIdeal.main_v0_5) = v4 c
          ∧ r.2.mem ((c.tc : Thread Cert.FfnIdeal.nD Cert.FfnIdeal.τ).loc Cert.FfnIdeal.main_v0_6) = v5 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6))
      ∧ θ_run (Cert.RefFfnIdeal.defs (F := Ideal)) (onTc (τ := Cert.RefFfnIdeal.τ) (Cert.RefFfnIdeal.main (F := Ideal))) ⟨m', fun _ => 0, g'⟩ (fun r => ∀ c : Dev Cert.RefFfnIdeal.nD,
          r.2.mem ((c.tc : Thread Cert.RefFfnIdeal.nD Cert.RefFfnIdeal.τ).loc Cert.RefFfnIdeal.main_v36) = v0 c
          ∧ r.2.mem ((c.tc : Thread Cert.RefFfnIdeal.nD Cert.RefFfnIdeal.τ).loc Cert.RefFfnIdeal.main_v39) = v1 c
          ∧ r.2.mem ((c.tc : Thread Cert.RefFfnIdeal.nD Cert.RefFfnIdeal.τ).loc Cert.RefFfnIdeal.main_v40) = v2 c
          ∧ r.2.mem ((c.tc : Thread Cert.RefFfnIdeal.nD Cert.RefFfnIdeal.τ).loc Cert.RefFfnIdeal.main_v41) = v3 c
          ∧ r.2.mem ((c.tc : Thread Cert.RefFfnIdeal.nD Cert.RefFfnIdeal.τ).loc Cert.RefFfnIdeal.main_v42) = v4 c
          ∧ r.2.mem ((c.tc : Thread Cert.RefFfnIdeal.nD Cert.RefFfnIdeal.τ).loc Cert.RefFfnIdeal.main_v43) = v5 c
          ∧ r.2.mem ((c.tc : Thread Cert.RefFfnIdeal.nD Cert.RefFfnIdeal.τ).loc Cert.RefFfnIdeal.main_arg0) = m' ((c.tc : Thread Cert.RefFfnIdeal.nD Cert.RefFfnIdeal.τ).loc Cert.RefFfnIdeal.main_arg0)
          ∧ r.2.mem ((c.tc : Thread Cert.RefFfnIdeal.nD Cert.RefFfnIdeal.τ).loc Cert.RefFfnIdeal.main_arg1) = m' ((c.tc : Thread Cert.RefFfnIdeal.nD Cert.RefFfnIdeal.τ).loc Cert.RefFfnIdeal.main_arg1)
          ∧ r.2.mem ((c.tc : Thread Cert.RefFfnIdeal.nD Cert.RefFfnIdeal.τ).loc Cert.RefFfnIdeal.main_arg2) = m' ((c.tc : Thread Cert.RefFfnIdeal.nD Cert.RefFfnIdeal.τ).loc Cert.RefFfnIdeal.main_arg2)
          ∧ r.2.mem ((c.tc : Thread Cert.RefFfnIdeal.nD Cert.RefFfnIdeal.τ).loc Cert.RefFfnIdeal.main_arg3) = m' ((c.tc : Thread Cert.RefFfnIdeal.nD Cert.RefFfnIdeal.τ).loc Cert.RefFfnIdeal.main_arg3)
          ∧ r.2.mem ((c.tc : Thread Cert.RefFfnIdeal.nD Cert.RefFfnIdeal.τ).loc Cert.RefFfnIdeal.main_arg4) = m' ((c.tc : Thread Cert.RefFfnIdeal.nD Cert.RefFfnIdeal.τ).loc Cert.RefFfnIdeal.main_arg4)
          ∧ r.2.mem ((c.tc : Thread Cert.RefFfnIdeal.nD Cert.RefFfnIdeal.τ).loc Cert.RefFfnIdeal.main_arg5) = m' ((c.tc : Thread Cert.RefFfnIdeal.nD Cert.RefFfnIdeal.τ).loc Cert.RefFfnIdeal.main_arg5)
          ∧ r.2.mem ((c.tc : Thread Cert.RefFfnIdeal.nD Cert.RefFfnIdeal.τ).loc Cert.RefFfnIdeal.main_arg6) = m' ((c.tc : Thread Cert.RefFfnIdeal.nD Cert.RefFfnIdeal.τ).loc Cert.RefFfnIdeal.main_arg6))

def preserves_InProj_InProjIdeal : Prop :=
  True

def algebraic_InProjIdeal_RefInProjIdeal [hInProjIdeal : Cert.InProjIdeal.Facts] [hRefInProjIdeal : Cert.RefInProjIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.RefInProjIdeal.nD Cert.RefInProjIdeal.τ Cert.RefInProjIdeal.sig) → Buf (Elt Ideal) ℓ) (g' : Dev Cert.RefInProjIdeal.nD → PrngReg), Pre_InProjIdeal m →
    (∀ c : Dev Cert.InProjIdeal.nD,
      m' ((c.tc : Thread Cert.RefInProjIdeal.nD Cert.RefInProjIdeal.τ).loc Cert.RefInProjIdeal.main_arg0) = m ((c.tc : Thread Cert.InProjIdeal.nD Cert.InProjIdeal.τ).loc Cert.InProjIdeal.main_arg0)
      ∧ m' ((c.tc : Thread Cert.RefInProjIdeal.nD Cert.RefInProjIdeal.τ).loc Cert.RefInProjIdeal.main_arg1) = m ((c.tc : Thread Cert.InProjIdeal.nD Cert.InProjIdeal.τ).loc Cert.InProjIdeal.main_arg1)
      ∧ m' ((c.tc : Thread Cert.RefInProjIdeal.nD Cert.RefInProjIdeal.τ).loc Cert.RefInProjIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v0_0)) (v1 : (c : Dev Cert.InProjIdeal.nD) → Buf (Elt Ideal) ((c.tc : Thread Cert.InProjIdeal.nD Cert.InProjIdeal.τ).loc Cert.InProjIdeal.main_v0_1)) (v2 : (c : Dev Cert.InProjIdeal.nD) → Buf (Elt Ideal) ((c.tc : Thread Cert.InProjIdeal.nD Cert.InProjIdeal.τ).loc Cert.InProjIdeal.main_v0_2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0_0) = v0 c
          ∧ r.2.mem ((c.tc : Thread Cert.InProjIdeal.nD Cert.InProjIdeal.τ).loc Cert.InProjIdeal.main_v0_1) = v1 c
          ∧ r.2.mem ((c.tc : Thread Cert.InProjIdeal.nD Cert.InProjIdeal.τ).loc Cert.InProjIdeal.main_v0_2) = v2 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.RefInProjIdeal.defs (F := Ideal)) (onTc (τ := Cert.RefInProjIdeal.τ) (Cert.RefInProjIdeal.main (F := Ideal))) ⟨m', fun _ => 0, g'⟩ (fun r => ∀ c : Dev Cert.RefInProjIdeal.nD,
          r.2.mem ((c.tc : Thread Cert.RefInProjIdeal.nD Cert.RefInProjIdeal.τ).loc Cert.RefInProjIdeal.main_v16) = v0 c
          ∧ r.2.mem ((c.tc : Thread Cert.RefInProjIdeal.nD Cert.RefInProjIdeal.τ).loc Cert.RefInProjIdeal.main_v17) = v1 c
          ∧ r.2.mem ((c.tc : Thread Cert.RefInProjIdeal.nD Cert.RefInProjIdeal.τ).loc Cert.RefInProjIdeal.main_v19) = v2 c
          ∧ r.2.mem ((c.tc : Thread Cert.RefInProjIdeal.nD Cert.RefInProjIdeal.τ).loc Cert.RefInProjIdeal.main_arg0) = m' ((c.tc : Thread Cert.RefInProjIdeal.nD Cert.RefInProjIdeal.τ).loc Cert.RefInProjIdeal.main_arg0)
          ∧ r.2.mem ((c.tc : Thread Cert.RefInProjIdeal.nD Cert.RefInProjIdeal.τ).loc Cert.RefInProjIdeal.main_arg1) = m' ((c.tc : Thread Cert.RefInProjIdeal.nD Cert.RefInProjIdeal.τ).loc Cert.RefInProjIdeal.main_arg1)
          ∧ r.2.mem ((c.tc : Thread Cert.RefInProjIdeal.nD Cert.RefInProjIdeal.τ).loc Cert.RefInProjIdeal.main_arg2) = m' ((c.tc : Thread Cert.RefInProjIdeal.nD Cert.RefInProjIdeal.τ).loc Cert.RefInProjIdeal.main_arg2))

def preserves_FfnBwd_FfnBwdIdeal : Prop :=
  True

def algebraic_FfnBwdIdeal_RefFfnBwdIdeal_pre_all_finite [hFfnBwdIdeal : Cert.FfnBwdIdeal.Facts] [hRefFfnBwdIdeal : Cert.RefFfnBwdIdeal.Facts] [hPre_all_finite : Cert.Pre_all_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.RefFfnBwdIdeal.nD Cert.RefFfnBwdIdeal.τ Cert.RefFfnBwdIdeal.sig) → Buf (Elt Ideal) ℓ) (g' : Dev Cert.RefFfnBwdIdeal.nD → PrngReg), Pre_FfnBwdIdeal_all_finite m →
    (∀ c : Dev Cert.FfnBwdIdeal.nD,
      m' ((c.tc : Thread Cert.RefFfnBwdIdeal.nD Cert.RefFfnBwdIdeal.τ).loc Cert.RefFfnBwdIdeal.main_arg0) = m ((c.tc : Thread Cert.FfnBwdIdeal.nD Cert.FfnBwdIdeal.τ).loc Cert.FfnBwdIdeal.main_arg0)
      ∧ m' ((c.tc : Thread Cert.RefFfnBwdIdeal.nD Cert.RefFfnBwdIdeal.τ).loc Cert.RefFfnBwdIdeal.main_arg1) = m ((c.tc : Thread Cert.FfnBwdIdeal.nD Cert.FfnBwdIdeal.τ).loc Cert.FfnBwdIdeal.main_arg1)
      ∧ m' ((c.tc : Thread Cert.RefFfnBwdIdeal.nD Cert.RefFfnBwdIdeal.τ).loc Cert.RefFfnBwdIdeal.main_arg2) = m ((c.tc : Thread Cert.FfnBwdIdeal.nD Cert.FfnBwdIdeal.τ).loc Cert.FfnBwdIdeal.main_arg2)
      ∧ m' ((c.tc : Thread Cert.RefFfnBwdIdeal.nD Cert.RefFfnBwdIdeal.τ).loc Cert.RefFfnBwdIdeal.main_arg3) = m ((c.tc : Thread Cert.FfnBwdIdeal.nD Cert.FfnBwdIdeal.τ).loc Cert.FfnBwdIdeal.main_arg3)
      ∧ m' ((c.tc : Thread Cert.RefFfnBwdIdeal.nD Cert.RefFfnBwdIdeal.τ).loc Cert.RefFfnBwdIdeal.main_arg4) = m ((c.tc : Thread Cert.FfnBwdIdeal.nD Cert.FfnBwdIdeal.τ).loc Cert.FfnBwdIdeal.main_arg4)
      ∧ m' ((c.tc : Thread Cert.RefFfnBwdIdeal.nD Cert.RefFfnBwdIdeal.τ).loc Cert.RefFfnBwdIdeal.main_arg5) = m ((c.tc : Thread Cert.FfnBwdIdeal.nD Cert.FfnBwdIdeal.τ).loc Cert.FfnBwdIdeal.main_arg5)
      ∧ m' ((c.tc : Thread Cert.RefFfnBwdIdeal.nD Cert.RefFfnBwdIdeal.τ).loc Cert.RefFfnBwdIdeal.main_arg6) = m ((c.tc : Thread Cert.FfnBwdIdeal.nD Cert.FfnBwdIdeal.τ).loc Cert.FfnBwdIdeal.main_arg6)
      ∧ m' ((c.tc : Thread Cert.RefFfnBwdIdeal.nD Cert.RefFfnBwdIdeal.τ).loc Cert.RefFfnBwdIdeal.main_arg7) = m ((c.tc : Thread Cert.FfnBwdIdeal.nD Cert.FfnBwdIdeal.τ).loc Cert.FfnBwdIdeal.main_arg7)
      ∧ m' ((c.tc : Thread Cert.RefFfnBwdIdeal.nD Cert.RefFfnBwdIdeal.τ).loc Cert.RefFfnBwdIdeal.main_arg8) = m ((c.tc : Thread Cert.FfnBwdIdeal.nD Cert.FfnBwdIdeal.τ).loc Cert.FfnBwdIdeal.main_arg8)
      ∧ m' ((c.tc : Thread Cert.RefFfnBwdIdeal.nD Cert.RefFfnBwdIdeal.τ).loc Cert.RefFfnBwdIdeal.main_arg9) = m ((c.tc : Thread Cert.FfnBwdIdeal.nD Cert.FfnBwdIdeal.τ).loc Cert.FfnBwdIdeal.main_arg9)
      ∧ m' ((c.tc : Thread Cert.RefFfnBwdIdeal.nD Cert.RefFfnBwdIdeal.τ).loc Cert.RefFfnBwdIdeal.main_arg10) = m ((c.tc : Thread Cert.FfnBwdIdeal.nD Cert.FfnBwdIdeal.τ).loc Cert.FfnBwdIdeal.main_arg10)) →
    ∃ (v0 : (c : Dev Cert.FfnBwdIdeal.nD) → Buf (Elt Ideal) ((c.tc : Thread Cert.FfnBwdIdeal.nD Cert.FfnBwdIdeal.τ).loc Cert.FfnBwdIdeal.main_v0_0)) (v1 : (c : Dev Cert.FfnBwdIdeal.nD) → Buf (Elt Ideal) ((c.tc : Thread Cert.FfnBwdIdeal.nD Cert.FfnBwdIdeal.τ).loc Cert.FfnBwdIdeal.main_v0_1)) (v2 : (c : Dev Cert.FfnBwdIdeal.nD) → Buf (Elt Ideal) ((c.tc : Thread Cert.FfnBwdIdeal.nD Cert.FfnBwdIdeal.τ).loc Cert.FfnBwdIdeal.main_v0_2)) (v3 : (c : Dev Cert.FfnBwdIdeal.nD) → Buf (Elt Ideal) ((c.tc : Thread Cert.FfnBwdIdeal.nD Cert.FfnBwdIdeal.τ).loc Cert.FfnBwdIdeal.main_v0_3)) (v4 : (c : Dev Cert.FfnBwdIdeal.nD) → Buf (Elt Ideal) ((c.tc : Thread Cert.FfnBwdIdeal.nD Cert.FfnBwdIdeal.τ).loc Cert.FfnBwdIdeal.main_v0_4)) (v5 : (c : Dev Cert.FfnBwdIdeal.nD) → Buf (Elt Ideal) ((c.tc : Thread Cert.FfnBwdIdeal.nD Cert.FfnBwdIdeal.τ).loc Cert.FfnBwdIdeal.main_v0_5)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v0_0) = v0 c
          ∧ r.2.mem ((c.tc : Thread Cert.FfnBwdIdeal.nD Cert.FfnBwdIdeal.τ).loc Cert.FfnBwdIdeal.main_v0_1) = v1 c
          ∧ r.2.mem ((c.tc : Thread Cert.FfnBwdIdeal.nD Cert.FfnBwdIdeal.τ).loc Cert.FfnBwdIdeal.main_v0_2) = v2 c
          ∧ r.2.mem ((c.tc : Thread Cert.FfnBwdIdeal.nD Cert.FfnBwdIdeal.τ).loc Cert.FfnBwdIdeal.main_v0_3) = v3 c
          ∧ r.2.mem ((c.tc : Thread Cert.FfnBwdIdeal.nD Cert.FfnBwdIdeal.τ).loc Cert.FfnBwdIdeal.main_v0_4) = v4 c
          ∧ r.2.mem ((c.tc : Thread Cert.FfnBwdIdeal.nD Cert.FfnBwdIdeal.τ).loc Cert.FfnBwdIdeal.main_v0_5) = v5 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3)
          ∧ r.2.mem ((c.tc : Thread Cert.FfnBwdIdeal.nD Cert.FfnBwdIdeal.τ).loc Cert.FfnBwdIdeal.main_arg4) = m ((c.tc : Thread Cert.FfnBwdIdeal.nD Cert.FfnBwdIdeal.τ).loc Cert.FfnBwdIdeal.main_arg4)
          ∧ r.2.mem ((c.tc : Thread Cert.FfnBwdIdeal.nD Cert.FfnBwdIdeal.τ).loc Cert.FfnBwdIdeal.main_arg5) = m ((c.tc : Thread Cert.FfnBwdIdeal.nD Cert.FfnBwdIdeal.τ).loc Cert.FfnBwdIdeal.main_arg5)
          ∧ r.2.mem ((c.tc : Thread Cert.FfnBwdIdeal.nD Cert.FfnBwdIdeal.τ).loc Cert.FfnBwdIdeal.main_arg6) = m ((c.tc : Thread Cert.FfnBwdIdeal.nD Cert.FfnBwdIdeal.τ).loc Cert.FfnBwdIdeal.main_arg6)
          ∧ r.2.mem ((c.tc : Thread Cert.FfnBwdIdeal.nD Cert.FfnBwdIdeal.τ).loc Cert.FfnBwdIdeal.main_arg7) = m ((c.tc : Thread Cert.FfnBwdIdeal.nD Cert.FfnBwdIdeal.τ).loc Cert.FfnBwdIdeal.main_arg7)
          ∧ r.2.mem ((c.tc : Thread Cert.FfnBwdIdeal.nD Cert.FfnBwdIdeal.τ).loc Cert.FfnBwdIdeal.main_arg8) = m ((c.tc : Thread Cert.FfnBwdIdeal.nD Cert.FfnBwdIdeal.τ).loc Cert.FfnBwdIdeal.main_arg8)
          ∧ r.2.mem ((c.tc : Thread Cert.FfnBwdIdeal.nD Cert.FfnBwdIdeal.τ).loc Cert.FfnBwdIdeal.main_arg9) = m ((c.tc : Thread Cert.FfnBwdIdeal.nD Cert.FfnBwdIdeal.τ).loc Cert.FfnBwdIdeal.main_arg9)
          ∧ r.2.mem ((c.tc : Thread Cert.FfnBwdIdeal.nD Cert.FfnBwdIdeal.τ).loc Cert.FfnBwdIdeal.main_arg10) = m ((c.tc : Thread Cert.FfnBwdIdeal.nD Cert.FfnBwdIdeal.τ).loc Cert.FfnBwdIdeal.main_arg10))
      ∧ θ_run (Cert.RefFfnBwdIdeal.defs (F := Ideal)) (onTc (τ := Cert.RefFfnBwdIdeal.τ) (Cert.RefFfnBwdIdeal.main (F := Ideal))) ⟨m', fun _ => 0, g'⟩ (fun r => ∀ c : Dev Cert.RefFfnBwdIdeal.nD,
          r.2.mem ((c.tc : Thread Cert.RefFfnBwdIdeal.nD Cert.RefFfnBwdIdeal.τ).loc Cert.RefFfnBwdIdeal.main_v89) = v0 c
          ∧ r.2.mem ((c.tc : Thread Cert.RefFfnBwdIdeal.nD Cert.RefFfnBwdIdeal.τ).loc Cert.RefFfnBwdIdeal.main_v90) = v1 c
          ∧ r.2.mem ((c.tc : Thread Cert.RefFfnBwdIdeal.nD Cert.RefFfnBwdIdeal.τ).loc Cert.RefFfnBwdIdeal.main_v54) = v2 c
          ∧ r.2.mem ((c.tc : Thread Cert.RefFfnBwdIdeal.nD Cert.RefFfnBwdIdeal.τ).loc Cert.RefFfnBwdIdeal.main_v91) = v3 c
          ∧ r.2.mem ((c.tc : Thread Cert.RefFfnBwdIdeal.nD Cert.RefFfnBwdIdeal.τ).loc Cert.RefFfnBwdIdeal.main_v37) = v4 c
          ∧ r.2.mem ((c.tc : Thread Cert.RefFfnBwdIdeal.nD Cert.RefFfnBwdIdeal.τ).loc Cert.RefFfnBwdIdeal.main_v72) = v5 c
          ∧ r.2.mem ((c.tc : Thread Cert.RefFfnBwdIdeal.nD Cert.RefFfnBwdIdeal.τ).loc Cert.RefFfnBwdIdeal.main_arg0) = m' ((c.tc : Thread Cert.RefFfnBwdIdeal.nD Cert.RefFfnBwdIdeal.τ).loc Cert.RefFfnBwdIdeal.main_arg0)
          ∧ r.2.mem ((c.tc : Thread Cert.RefFfnBwdIdeal.nD Cert.RefFfnBwdIdeal.τ).loc Cert.RefFfnBwdIdeal.main_arg1) = m' ((c.tc : Thread Cert.RefFfnBwdIdeal.nD Cert.RefFfnBwdIdeal.τ).loc Cert.RefFfnBwdIdeal.main_arg1)
          ∧ r.2.mem ((c.tc : Thread Cert.RefFfnBwdIdeal.nD Cert.RefFfnBwdIdeal.τ).loc Cert.RefFfnBwdIdeal.main_arg2) = m' ((c.tc : Thread Cert.RefFfnBwdIdeal.nD Cert.RefFfnBwdIdeal.τ).loc Cert.RefFfnBwdIdeal.main_arg2)
          ∧ r.2.mem ((c.tc : Thread Cert.RefFfnBwdIdeal.nD Cert.RefFfnBwdIdeal.τ).loc Cert.RefFfnBwdIdeal.main_arg3) = m' ((c.tc : Thread Cert.RefFfnBwdIdeal.nD Cert.RefFfnBwdIdeal.τ).loc Cert.RefFfnBwdIdeal.main_arg3)
          ∧ r.2.mem ((c.tc : Thread Cert.RefFfnBwdIdeal.nD Cert.RefFfnBwdIdeal.τ).loc Cert.RefFfnBwdIdeal.main_arg4) = m' ((c.tc : Thread Cert.RefFfnBwdIdeal.nD Cert.RefFfnBwdIdeal.τ).loc Cert.RefFfnBwdIdeal.main_arg4)
          ∧ r.2.mem ((c.tc : Thread Cert.RefFfnBwdIdeal.nD Cert.RefFfnBwdIdeal.τ).loc Cert.RefFfnBwdIdeal.main_arg5) = m' ((c.tc : Thread Cert.RefFfnBwdIdeal.nD Cert.RefFfnBwdIdeal.τ).loc Cert.RefFfnBwdIdeal.main_arg5)
          ∧ r.2.mem ((c.tc : Thread Cert.RefFfnBwdIdeal.nD Cert.RefFfnBwdIdeal.τ).loc Cert.RefFfnBwdIdeal.main_arg6) = m' ((c.tc : Thread Cert.RefFfnBwdIdeal.nD Cert.RefFfnBwdIdeal.τ).loc Cert.RefFfnBwdIdeal.main_arg6)
          ∧ r.2.mem ((c.tc : Thread Cert.RefFfnBwdIdeal.nD Cert.RefFfnBwdIdeal.τ).loc Cert.RefFfnBwdIdeal.main_arg7) = m' ((c.tc : Thread Cert.RefFfnBwdIdeal.nD Cert.RefFfnBwdIdeal.τ).loc Cert.RefFfnBwdIdeal.main_arg7)
          ∧ r.2.mem ((c.tc : Thread Cert.RefFfnBwdIdeal.nD Cert.RefFfnBwdIdeal.τ).loc Cert.RefFfnBwdIdeal.main_arg8) = m' ((c.tc : Thread Cert.RefFfnBwdIdeal.nD Cert.RefFfnBwdIdeal.τ).loc Cert.RefFfnBwdIdeal.main_arg8)
          ∧ r.2.mem ((c.tc : Thread Cert.RefFfnBwdIdeal.nD Cert.RefFfnBwdIdeal.τ).loc Cert.RefFfnBwdIdeal.main_arg9) = m' ((c.tc : Thread Cert.RefFfnBwdIdeal.nD Cert.RefFfnBwdIdeal.τ).loc Cert.RefFfnBwdIdeal.main_arg9)
          ∧ r.2.mem ((c.tc : Thread Cert.RefFfnBwdIdeal.nD Cert.RefFfnBwdIdeal.τ).loc Cert.RefFfnBwdIdeal.main_arg10) = m' ((c.tc : Thread Cert.RefFfnBwdIdeal.nD Cert.RefFfnBwdIdeal.τ).loc Cert.RefFfnBwdIdeal.main_arg10))

def Claim : Prop :=
  ∃ (hKernel : Cert.Kernel.Facts) (hKernelIdeal : Cert.KernelIdeal.Facts) (hReferenceIdeal : Cert.ReferenceIdeal.Facts) (hForward : Cert.Forward.Facts) (hForwardIdeal : Cert.ForwardIdeal.Facts) (hRefForwardIdeal : Cert.RefForwardIdeal.Facts) (hGradGate : Cert.GradGate.Facts) (hGradGateIdeal : Cert.GradGateIdeal.Facts) (hRefGradGateIdeal : Cert.RefGradGateIdeal.Facts) (hGradDown : Cert.GradDown.Facts) (hGradDownIdeal : Cert.GradDownIdeal.Facts) (hRefGradDownIdeal : Cert.RefGradDownIdeal.Facts) (hGradOut : Cert.GradOut.Facts) (hGradOutIdeal : Cert.GradOutIdeal.Facts) (hRefGradOutIdeal : Cert.RefGradOutIdeal.Facts) (hGradIn : Cert.GradIn.Facts) (hGradInIdeal : Cert.GradInIdeal.Facts) (hRefGradInIdeal : Cert.RefGradInIdeal.Facts) (hFfn : Cert.Ffn.Facts) (hFfnIdeal : Cert.FfnIdeal.Facts) (hRefFfnIdeal : Cert.RefFfnIdeal.Facts) (hInProj : Cert.InProj.Facts) (hInProjIdeal : Cert.InProjIdeal.Facts) (hRefInProjIdeal : Cert.RefInProjIdeal.Facts) (hFfnBwd : Cert.FfnBwd.Facts) (hFfnBwdIdeal : Cert.FfnBwdIdeal.Facts) (hRefFfnBwdIdeal : Cert.RefFfnBwdIdeal.Facts) (hPre_finite : Cert.Pre_finite.Facts) (hPre_all_finite : Cert.Pre_all_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Forward (hForward := hForward)
    ∧ quiescent_ForwardIdeal (hForwardIdeal := hForwardIdeal)
    ∧ quiescent_RefForwardIdeal (hRefForwardIdeal := hRefForwardIdeal)
    ∧ quiescent_GradGate (hGradGate := hGradGate)
    ∧ quiescent_GradGateIdeal (hGradGateIdeal := hGradGateIdeal)
    ∧ quiescent_RefGradGateIdeal (hRefGradGateIdeal := hRefGradGateIdeal)
    ∧ quiescent_GradDown (hGradDown := hGradDown)
    ∧ quiescent_GradDownIdeal (hGradDownIdeal := hGradDownIdeal)
    ∧ quiescent_RefGradDownIdeal (hRefGradDownIdeal := hRefGradDownIdeal)
    ∧ quiescent_GradOut (hGradOut := hGradOut)
    ∧ quiescent_GradOutIdeal (hGradOutIdeal := hGradOutIdeal)
    ∧ quiescent_RefGradOutIdeal (hRefGradOutIdeal := hRefGradOutIdeal)
    ∧ quiescent_GradIn (hGradIn := hGradIn)
    ∧ quiescent_GradInIdeal (hGradInIdeal := hGradInIdeal)
    ∧ quiescent_RefGradInIdeal (hRefGradInIdeal := hRefGradInIdeal)
    ∧ quiescent_Ffn (hFfn := hFfn)
    ∧ quiescent_FfnIdeal (hFfnIdeal := hFfnIdeal)
    ∧ quiescent_RefFfnIdeal (hRefFfnIdeal := hRefFfnIdeal)
    ∧ quiescent_InProj (hInProj := hInProj)
    ∧ quiescent_InProjIdeal (hInProjIdeal := hInProjIdeal)
    ∧ quiescent_RefInProjIdeal (hRefInProjIdeal := hRefInProjIdeal)
    ∧ quiescent_FfnBwd (hFfnBwd := hFfnBwd)
    ∧ quiescent_FfnBwdIdeal (hFfnBwdIdeal := hFfnBwdIdeal)
    ∧ quiescent_FfnBwdIdeal_pre_all_finite (hFfnBwdIdeal := hFfnBwdIdeal) (hPre_all_finite := hPre_all_finite)
    ∧ quiescent_RefFfnBwdIdeal (hRefFfnBwdIdeal := hRefFfnBwdIdeal)
    ∧ quiescent_RefFfnBwdIdeal_pre_all_finite (hRefFfnBwdIdeal := hRefFfnBwdIdeal) (hPre_all_finite := hPre_all_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_Forward_ForwardIdeal
    ∧ algebraic_ForwardIdeal_RefForwardIdeal (hForwardIdeal := hForwardIdeal) (hRefForwardIdeal := hRefForwardIdeal)
    ∧ preserves_GradGate_GradGateIdeal
    ∧ algebraic_GradGateIdeal_RefGradGateIdeal (hGradGateIdeal := hGradGateIdeal) (hRefGradGateIdeal := hRefGradGateIdeal)
    ∧ preserves_GradDown_GradDownIdeal
    ∧ algebraic_GradDownIdeal_RefGradDownIdeal (hGradDownIdeal := hGradDownIdeal) (hRefGradDownIdeal := hRefGradDownIdeal)
    ∧ preserves_GradOut_GradOutIdeal
    ∧ algebraic_GradOutIdeal_RefGradOutIdeal (hGradOutIdeal := hGradOutIdeal) (hRefGradOutIdeal := hRefGradOutIdeal)
    ∧ preserves_GradIn_GradInIdeal
    ∧ algebraic_GradInIdeal_RefGradInIdeal (hGradInIdeal := hGradInIdeal) (hRefGradInIdeal := hRefGradInIdeal)
    ∧ preserves_Ffn_FfnIdeal
    ∧ algebraic_FfnIdeal_RefFfnIdeal (hFfnIdeal := hFfnIdeal) (hRefFfnIdeal := hRefFfnIdeal)
    ∧ preserves_InProj_InProjIdeal
    ∧ algebraic_InProjIdeal_RefInProjIdeal (hInProjIdeal := hInProjIdeal) (hRefInProjIdeal := hRefInProjIdeal)
    ∧ preserves_FfnBwd_FfnBwdIdeal
    ∧ algebraic_FfnBwdIdeal_RefFfnBwdIdeal_pre_all_finite (hFfnBwdIdeal := hFfnBwdIdeal) (hRefFfnBwdIdeal := hRefFfnBwdIdeal) (hPre_all_finite := hPre_all_finite)
-- ==== Pre_all_finite.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩

class Facts : Prop where
  bitsLt_bf16_f32 : FTy.bits .bf16 < FTy.bits .f32
  bcast_S_S8192x2816 : S_.BroadcastsInDim S8192x2816 (![] : Fin 0 → Fin S8192x2816.rank)
  bcast_S_S8192x1024 : S_.BroadcastsInDim S8192x1024 (![] : Fin 0 → Fin S8192x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)
  bcast_S_S1x1024 : S_.BroadcastsInDim S1x1024 (![] : Fin 0 → Fin S1x1024.rank)

variable [Facts]

def fn_part2 {F : FTy → Type} [FloatOps F] (main_v3 : IVec S8192x2816 1) (main_v7 : IVec S8192x2816 1) (main_v11 : IVec S8192x1024 1) (main_v14 : IVec S8192x1024 1) (main_v17 : IVec S8192x1024 1) (main_v20 : IVec S8192x1024 1) (main_v24 : IVec S1024x2816 1) (main_v28 : IVec S1024x2816 1) (main_v32 : IVec S2816x1024 1) (main_v35 : IVec S1x1024 1) (main_v36 : FVec F S1x1024 .f32) (main_cst_9 : FVec F S_ .f32) : IVec S8192x2816 1 × IVec S8192x2816 1 × IVec S8192x1024 1 × IVec S8192x1024 1 × IVec S8192x1024 1 × IVec S8192x1024 1 × IVec S1024x2816 1 × IVec S1024x2816 1 × IVec S2816x1024 1 × IVec S1x1024 1 × IVec S1x1024 1 :=
  let main_v37 : FVec F S1x1024 .f32 := broadcastInDim S1x1024 ![] bcast_S_S1x1024 main_cst_9
  let main_v38 : IVec S1x1024 1 := cmpf .olt main_v36 main_v37
  (main_v3, main_v7, main_v11, main_v14, main_v17, main_v20, main_v24, main_v28, main_v32, main_v35, main_v38)

def fn_part1 {F : FTy → Type} [FloatOps F] (main_arg6 : FVec F S1024x2816 .bf16) (main_arg7 : FVec F S1024x2816 .bf16) (main_arg8 : FVec F S2816x1024 .bf16) (main_arg9 : FVec F S1x1024 .f32) (main_arg10 : FVec F S1x1024 .f32) (main_v3 : IVec S8192x2816 1) (main_v7 : IVec S8192x2816 1) (main_v11 : IVec S8192x1024 1) (main_v14 : IVec S8192x1024 1) (main_v17 : IVec S8192x1024 1) (main_v18 : FVec F S8192x1024 .f32) : IVec S8192x2816 1 × IVec S8192x2816 1 × IVec S8192x1024 1 × IVec S8192x1024 1 × IVec S8192x1024 1 × IVec S8192x1024 1 × IVec S1024x2816 1 × IVec S1024x2816 1 × IVec S2816x1024 1 × IVec S1x1024 1 × IVec S1x1024 1 :=
  let main_cst_4 : FVec F S_ .f32 := constant S_ .f32 0x7F800000#32
  let main_v19 : FVec F S8192x1024 .f32 := broadcastInDim S8192x1024 ![] bcast_S_S8192x1024 main_cst_4
  let main_v20 : IVec S8192x1024 1 := cmpf .olt main_v18 main_v19
  let main_v21 : FVec F S1024x2816 .f32 := (extf .f32 · bitsLt_bf16_f32) main_arg6
  let main_v22 : FVec F S1024x2816 .f32 := Host.absf main_v21
  let main_cst_5 : FVec F S_ .f32 := constant S_ .f32 0x7F800000#32
  let main_v23 : FVec F S1024x2816 .f32 := broadcastInDim S1024x2816 ![] bcast_S_S1024x2816 main_cst_5
  let main_v24 : IVec S1024x2816 1 := cmpf .olt main_v22 main_v23
  let main_v25 : FVec F S1024x2816 .f32 := (extf .f32 · bitsLt_bf16_f32) main_arg7
  let main_v26 : FVec F S1024x2816 .f32 := Host.absf main_v25
  let main_cst_6 : FVec F S_ .f32 := constant S_ .f32 0x7F800000#32
  let main_v27 : FVec F S1024x2816 .f32 := broadcastInDim S1024x2816 ![] bcast_S_S1024x2816 main_cst_6
  let main_v28 : IVec S1024x2816 1 := cmpf .olt main_v26 main_v27
  let main_v29 : FVec F S2816x1024 .f32 := (extf .f32 · bitsLt_bf16_f32) main_arg8
  let main_v30 : FVec F S2816x1024 .f32 := Host.absf main_v29
  let main_cst_7 : FVec F S_ .f32 := constant S_ .f32 0x7F800000#32
  let main_v31 : FVec F S2816x1024 .f32 := broadcastInDim S2816x1024 ![] bcast_S_S2816x1024 main_cst_7
  let main_v32 : IVec S2816x1024 1 := cmpf .olt main_v30 main_v31
  let main_v33 : FVec F S1x1024 .f32 := Host.absf main_arg9
  let main_cst_8 : FVec F S_ .f32 := constant S_ .f32 0x7F800000#32
  let main_v34 : FVec F S1x1024 .f32 := broadcastInDim S1x1024 ![] bcast_S_S1x1024 main_cst_8
  let main_v35 : IVec S1x1024 1 := cmpf .olt main_v33 main_v34
  let main_v36 : FVec F S1x1024 .f32 := Host.absf main_arg10
  let main_cst_9 : FVec F S_ .f32 := constant S_ .f32 0x7F800000#32
  fn_part2 (F := F) main_v3 main_v7 main_v11 main_v14 main_v17 main_v20 main_v24 main_v28 main_v32 main_v35 main_v36 main_cst_9

def fn {F : FTy → Type} [FloatOps F] (main_arg0 : FVec F S8192x2816 .bf16) (main_arg1 : FVec F S8192x2816 .bf16) (main_arg2 : FVec F S8192x1024 .bf16) (main_arg3 : FVec F S8192x1024 .f32) (main_arg4 : FVec F S8192x1024 .f32) (main_arg5 : FVec F S8192x1024 .f32) (main_arg6 : FVec F S1024x2816 .bf16) (main_arg7 : FVec F S1024x2816 .bf16) (main_arg8 : FVec F S2816x1024 .bf16) (main_arg9 : FVec F S1x1024 .f32) (main_arg10 : FVec F S1x1024 .f32) : IVec S8192x2816 1 × IVec S8192x2816 1 × IVec S8192x1024 1 × IVec S8192x1024 1 × IVec S8192x1024 1 × IVec S8192x1024 1 × IVec S1024x2816 1 × IVec S1024x2816 1 × IVec S2816x1024 1 × IVec S1x1024 1 × IVec S1x1024 1 :=
  let main_v0 : FVec F S8192x2816 .f32 := (extf .f32 · bitsLt_bf16_f32) main_arg0
  let main_v1 : FVec F S8192x2816 .f32 := Host.absf main_v0
  let main_cst : FVec F S_ .f32 := constant S_ .f32 0x7F800000#32
  let main_v2 : FVec F S8192x2816 .f32 := broadcastInDim S8192x2816 ![] bcast_S_S8192x2816 main_cst
  let main_v3 : IVec S8192x2816 1 := cmpf .olt main_v1 main_v2
  let main_v4 : FVec F S8192x2816 .f32 := (extf .f32 · bitsLt_bf16_f32) main_arg1
  let main_v5 : FVec F S8192x2816 .f32 := Host.absf main_v4
  let main_cst_0 : FVec F S_ .f32 := constant S_ .f32 0x7F800000#32
  let main_v6 : FVec F S8192x2816 .f32 := broadcastInDim S8192x2816 ![] bcast_S_S8192x2816 main_cst_0
  let main_v7 : IVec S8192x2816 1 := cmpf .olt main_v5 main_v6
  let main_v8 : FVec F S8192x1024 .f32 := (extf .f32 · bitsLt_bf16_f32) main_arg2
  let main_v9 : FVec F S8192x1024 .f32 := Host.absf main_v8
  let main_cst_1 : FVec F S_ .f32 := constant S_ .f32 0x7F800000#32
  let main_v10 : FVec F S8192x1024 .f32 := broadcastInDim S8192x1024 ![] bcast_S_S8192x1024 main_cst_1
  let main_v11 : IVec S8192x1024 1 := cmpf .olt main_v9 main_v10
  let main_v12 : FVec F S8192x1024 .f32 := Host.absf main_arg3
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_v15 : FVec F S8192x1024 .f32 := Host.absf main_arg4
  let main_cst_3 : FVec F S_ .f32 := constant S_ .f32 0x7F800000#32
  let main_v16 : FVec F S8192x1024 .f32 := broadcastInDim S8192x1024 ![] bcast_S_S8192x1024 main_cst_3
  let main_v17 : IVec S8192x1024 1 := cmpf .olt main_v15 main_v16
  let main_v18 : FVec F S8192x1024 .f32 := Host.absf main_arg5
  fn_part1 (F := F) main_arg6 main_arg7 main_arg8 main_arg9 main_arg10 main_v3 main_v7 main_v11 main_v14 main_v17 main_v18
-- ==== Pre_finite.lean ====
abbrev S8192x1536 : Shape := ⟨2, ![8192, 1536]⟩
abbrev S8192x512 : Shape := ⟨2, ![8192, 512]⟩
abbrev S_ : Shape := ⟨0, ![]⟩

class Facts : Prop where
  bitsLt_bf16_f32 : FTy.bits .bf16 < FTy.bits .f32
  bcast_S_S8192x1536 : S_.BroadcastsInDim S8192x1536 (![] : Fin 0 → Fin S8192x1536.rank)
  bcast_S_S8192x512 : S_.BroadcastsInDim S8192x512 (![] : Fin 0 → Fin S8192x512.rank)

variable [Facts]

def fn {F : FTy → Type} [FloatOps F] (main_arg0 : FVec F S8192x1536 .bf16) (main_arg1 : FVec F S8192x512 .bf16) : IVec S8192x1536 1 × IVec S8192x512 1 :=
  let main_v0 : FVec F S8192x1536 .f32 := (extf .f32 · bitsLt_bf16_f32) main_arg0
  let main_v1 : FVec F S8192x1536 .f32 := Host.absf main_v0
  let main_cst : FVec F S_ .f32 := constant S_ .f32 0x7F800000#32
  let main_v2 : FVec F S8192x1536 .f32 := broadcastInDim S8192x1536 ![] bcast_S_S8192x1536 main_cst
  let main_v3 : IVec S8192x1536 1 := cmpf .olt main_v1 main_v2
  let main_v4 : FVec F S8192x512 .f32 := (extf .f32 · bitsLt_bf16_f32) main_arg1
  let main_v5 : FVec F S8192x512 .f32 := Host.absf main_v4
  let main_cst_0 : FVec F S_ .f32 := constant S_ .f32 0x7F800000#32
  let main_v6 : FVec F S8192x512 .f32 := broadcastInDim S8192x512 ![] bcast_S_S8192x512 main_cst_0
  let main_v7 : IVec S8192x512 1 := cmpf .olt main_v5 main_v6
  (main_v3, main_v7)
-- ==== Kernel.lean ====
abbrev S8192x1536 : Shape := ⟨2, ![8192, 1536]⟩
abbrev S8192x512 : Shape := ⟨2, ![8192, 512]⟩
abbrev S256x128 : Shape := ⟨2, ![256, 128]⟩
abbrev S8192x128 : Shape := ⟨2, ![8192, 128]⟩
abbrev S2x8x256x1024 : Shape := ⟨4, ![2, 8, 256, 1024]⟩
abbrev S2x256x1 : Shape := ⟨3, ![2, 256, 1]⟩
abbrev S2x2x256x1024 : Shape := ⟨4, ![2, 2, 256, 1024]⟩
abbrev S0 : Shape := ⟨1, ![0]⟩
abbrev S256x256 : Shape := ⟨2, ![256, 256]⟩
abbrev S1x128 : Shape := ⟨2, ![1, 128]⟩
abbrev S1024x128 : Shape := ⟨2, ![1024, 128]⟩
abbrev S256x1024 : Shape := ⟨2, ![256, 1024]⟩
abbrev S1x1x256x1024 : Shape := ⟨4, ![1, 1, 256, 1024]⟩
abbrev S1x256x1 : Shape := ⟨3, ![1, 256, 1]⟩
abbrev S256x1 : Shape := ⟨2, ![256, 1]⟩
abbrev S256 : Shape := ⟨1, ![256]⟩
abbrev S_ : Shape := ⟨0, ![]⟩

abbrev nBuf : Space → Nat
  | .hbm => 5
  | .vmem => 16
  | .smem => 0
  | _ => 0

abbrev bufTy : (tb : Table) → Fin (tcTables nBuf tb) → BufTy
  | .hbm, ⟨0, _⟩ => ⟨S8192x1536, .bf16⟩
  | .hbm, ⟨1, _⟩ => ⟨S8192x512, .bf16⟩
  | .hbm, ⟨2, _⟩ => ⟨S8192x512, .f32⟩
  | .hbm, ⟨3, _⟩ => ⟨S8192x512, .f32⟩
  | .hbm, ⟨4, _⟩ => ⟨S8192x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S256x128, .bf16⟩
  | .local _ .vmem, ⟨5, _⟩ => ⟨S256x128, .bf16⟩
  | .local _ .vmem, ⟨6, _⟩ => ⟨S256x128, .f32⟩
  | .local _ .vmem, ⟨7, _⟩ => ⟨S256x128, .f32⟩
  | .local _ .vmem, ⟨8, _⟩ => ⟨S2x8x256x1024, .f32⟩
  | .local _ .vmem, ⟨9, _⟩ => ⟨S2x8x256x1024, .f32⟩
  | .local _ .vmem, ⟨10, _⟩ => ⟨S2x256x1, .f32⟩
  | .local _ .vmem, ⟨11, _⟩ => ⟨S256x128, .f32⟩
  | .local _ .vmem, ⟨12, _⟩ => ⟨S8192x128, .f32⟩
  | .local _ .vmem, ⟨13, _⟩ => ⟨S8192x128, .f32⟩
  | .local _ .vmem, ⟨14, _⟩ => ⟨S2x2x256x1024, .f32⟩
  | .local _ .vmem, ⟨15, _⟩ => ⟨S2x2x256x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_scratch7 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1024_i32_25 : BitVec 32 := 1024#32
  let v82 : BitVec 32 := Scalar.muli v19 c1024_i32_25
  v82
def k0_off1 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1024_i32_25 : BitVec 32 := 1024#32
  let v82 : BitVec 32 := Scalar.muli v19 c1024_i32_25
  let v83 : BitVec 32 := v82
  let v84 : Index := Scalar.indexCast v83
  let c0_26 : Index := 0#32
  ![v84.toNat, 0]
def k0_mult2 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1024_i32_27 : BitVec 32 := 1024#32
  let v86 : BitVec 32 := Scalar.muli v19 c1024_i32_27
  v86
@[reducible] def k0_t1_loop (i : grid0.Coords) : Scf.Loop 32 :=
  let c0_i32_60 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_62 : BitVec 32 := 1#32
  ⟨c0_i32_60, v141, c1_i32_62⟩
def k0_mult3 (i : grid0.Coords) (k0_t1 : Fin (k0_t1_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let c1_i32_100 : BitVec 32 := 1#32
  let v172 : BitVec 32 := Scalar.addi v163 c1_i32_100
  let v173 : BitVec 32 := Scalar.subi v19 v172
  let v174 : BitVec 32 := Scalar.maxsi v81 v173
  let v175 : BitVec 32 := Scalar.minsi v19 v174
  let c1024_i32_101 : BitVec 32 := 1024#32
  let v176 : BitVec 32 := Scalar.muli v175 c1024_i32_101
  v176
def k0_off2 (i : grid0.Coords) (k0_t1 : Fin (k0_t1_loop i).trips) (c1_i32_100 : BitVec 32) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let v172 : BitVec 32 := Scalar.addi v163 c1_i32_100
  let v173 : BitVec 32 := Scalar.subi v19 v172
  let v174 : BitVec 32 := Scalar.maxsi v81 v173
  let v175 : BitVec 32 := Scalar.minsi v19 v174
  let c1024_i32_101 : BitVec 32 := 1024#32
  let v176 : BitVec 32 := Scalar.muli v175 c1024_i32_101
  let v177 : BitVec 32 := v176
  let v178 : Index := Scalar.indexCast v177
  let c0_102 : Index := 0#32
  ![v178.toNat, 0]
def k0_mult4 (i : grid0.Coords) (k0_t1 : Fin (k0_t1_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let c1_i32_100 : BitVec 32 := 1#32
  let v172 : BitVec 32 := Scalar.addi v163 c1_i32_100
  let v173 : BitVec 32 := Scalar.subi v19 v172
  let v174 : BitVec 32 := Scalar.maxsi v81 v173
  let v175 : BitVec 32 := Scalar.minsi v19 v174
  let c1024_i32_103 : BitVec 32 := 1024#32
  let v180 : BitVec 32 := Scalar.muli v175 c1024_i32_103
  v180
def k0_off3 (i : grid0.Coords) (k0_t1 : Fin (k0_t1_loop i).trips) : Fin 4 → Nat :=
  let c0_143 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let v200 : BitVec 32 := Scalar.subi v19 v163
  let v201 : BitVec 32 := Scalar.maxsi v81 v200
  let v202 : BitVec 32 := Scalar.minsi v19 v201
  let v255 : Index := Scalar.indexCast v202
  let c0_144 : Index := 0#32
  let c0_145 : Index := 0#32
  ![0, v255.toNat, 0, 0]
def k0_off4 (i : grid0.Coords) (k0_t1 : Fin (k0_t1_loop i).trips) : Fin 4 → Nat :=
  let c1_167 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let v200 : BitVec 32 := Scalar.subi v19 v163
  let v201 : BitVec 32 := Scalar.maxsi v81 v200
  let v202 : BitVec 32 := Scalar.minsi v19 v201
  let v317 : Index := Scalar.indexCast v202
  let c0_168 : Index := 0#32
  let c0_169 : Index := 0#32
  ![1, v317.toNat, 0, 0]
def k0_mult5 (i : grid0.Coords) (k0_t1 : Fin (k0_t1_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let v200 : BitVec 32 := Scalar.subi v19 v163
  let v201 : BitVec 32 := Scalar.maxsi v81 v200
  let v202 : BitVec 32 := Scalar.minsi v19 v201
  let c1024_i32_174 : BitVec 32 := 1024#32
  let v328 : BitVec 32 := Scalar.muli v202 c1024_i32_174
  v328
def k0_off5 (i : grid0.Coords) (k0_t1 : Fin (k0_t1_loop i).trips) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let v200 : BitVec 32 := Scalar.subi v19 v163
  let v201 : BitVec 32 := Scalar.maxsi v81 v200
  let v202 : BitVec 32 := Scalar.minsi v19 v201
  let c1024_i32_174 : BitVec 32 := 1024#32
  let v328 : BitVec 32 := Scalar.muli v202 c1024_i32_174
  let v329 : BitVec 32 := v328
  let v330 : Index := Scalar.indexCast v329
  let c0_175 : Index := 0#32
  ![v330.toNat, 0]
def k0_mult6 (i : grid0.Coords) (k0_t1 : Fin (k0_t1_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let c2_i32_193 : BitVec 32 := 2#32
  let v345 : BitVec 32 := Scalar.addi v163 c2_i32_193
  let v346 : BitVec 32 := Scalar.subi v19 v345
  let v347 : BitVec 32 := Scalar.maxsi v81 v346
  let v348 : BitVec 32 := Scalar.minsi v19 v347
  let c1024_i32_194 : BitVec 32 := 1024#32
  let v349 : BitVec 32 := Scalar.muli v348 c1024_i32_194
  v349
def k0_mult7 (i : grid0.Coords) (k0_t1 : Fin (k0_t1_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let c2_i32_193 : BitVec 32 := 2#32
  let v345 : BitVec 32 := Scalar.addi v163 c2_i32_193
  let v346 : BitVec 32 := Scalar.subi v19 v345
  let v347 : BitVec 32 := Scalar.maxsi v81 v346
  let v348 : BitVec 32 := Scalar.minsi v19 v347
  let c1024_i32_196 : BitVec 32 := 1024#32
  let v353 : BitVec 32 := Scalar.muli v348 c1024_i32_196
  v353
def k0_off6 (i : grid0.Coords) (k0_t1 : Fin (k0_t1_loop i).trips) : Fin 4 → Nat :=
  let c0_237 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let c1_i32_218 : BitVec 32 := 1#32
  let v373 : BitVec 32 := Scalar.addi v163 c1_i32_218
  let v374 : BitVec 32 := Scalar.subi v19 v373
  let v375 : BitVec 32 := Scalar.maxsi v81 v374
  let v376 : BitVec 32 := Scalar.minsi v19 v375
  let v429 : Index := Scalar.indexCast v376
  let c0_238 : Index := 0#32
  let c0_239 : Index := 0#32
  ![0, v429.toNat, 0, 0]
def k0_off7 (i : grid0.Coords) (k0_t1 : Fin (k0_t1_loop i).trips) : Fin 4 → Nat :=
  let c1_261 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let c1_i32_218 : BitVec 32 := 1#32
  let v373 : BitVec 32 := Scalar.addi v163 c1_i32_218
  let v374 : BitVec 32 := Scalar.subi v19 v373
  let v375 : BitVec 32 := Scalar.maxsi v81 v374
  let v376 : BitVec 32 := Scalar.minsi v19 v375
  let v491 : Index := Scalar.indexCast v376
  let c0_262 : Index := 0#32
  let c0_263 : Index := 0#32
  ![1, v491.toNat, 0, 0]
def k0_mult8 (i : grid0.Coords) (k0_t1 : Fin (k0_t1_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_62 : BitVec 32 := 1#32
  let arg20 : BitVec 32 := Scf.iv c0_i32_60 c1_i32_62 k0_t1
  let v163 : BitVec 32 := Scalar.muli c2_i32_83 arg20
  let c1_i32_218 : BitVec 32 := 1#32
  let v373 : BitVec 32 := Scalar.addi v163 c1_i32_218
  let v374 : BitVec 32 := Scalar.subi v19 v373
  let v375 : BitVec 32 := Scalar.maxsi v81 v374
  let v376 : BitVec 32 := Scalar.minsi v19 v375
  let c1024_i32_268 : BitVec 32 := 1024#32
  let v502 : BitVec 32 := Scalar.muli v376 c1024_i32_268
  v502
@[reducible] def k0_t2_loop (i : grid0.Coords) : Scf.Loop 32 :=
  let c0_i32_60 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let v138 : BitVec 32 := Scalar.addi c0_i32_60 v137
  let c1_i32_63 : BitVec 32 := 1#32
  ⟨v141, v138, c1_i32_63⟩
def k0_mult9 (i : grid0.Coords) (k0_t2 : Fin (k0_t2_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let c1_i32_100 : BitVec 32 := 1#32
  let v172 : BitVec 32 := Scalar.addi v163 c1_i32_100
  let v173 : BitVec 32 := Scalar.subi v19 v172
  let v174 : BitVec 32 := Scalar.maxsi v81 v173
  let v175 : BitVec 32 := Scalar.minsi v19 v174
  let c1024_i32_101 : BitVec 32 := 1024#32
  let v176 : BitVec 32 := Scalar.muli v175 c1024_i32_101
  v176
def k0_off8 (i : grid0.Coords) (k0_t2 : Fin (k0_t2_loop i).trips) (c1_i32_100 : BitVec 32) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let v172 : BitVec 32 := Scalar.addi v163 c1_i32_100
  let v173 : BitVec 32 := Scalar.subi v19 v172
  let v174 : BitVec 32 := Scalar.maxsi v81 v173
  let v175 : BitVec 32 := Scalar.minsi v19 v174
  let c1024_i32_101 : BitVec 32 := 1024#32
  let v176 : BitVec 32 := Scalar.muli v175 c1024_i32_101
  let v177 : BitVec 32 := v176
  let v178 : Index := Scalar.indexCast v177
  let c0_102 : Index := 0#32
  ![v178.toNat, 0]
def k0_mult10 (i : grid0.Coords) (k0_t2 : Fin (k0_t2_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let c1_i32_100 : BitVec 32 := 1#32
  let v172 : BitVec 32 := Scalar.addi v163 c1_i32_100
  let v173 : BitVec 32 := Scalar.subi v19 v172
  let v174 : BitVec 32 := Scalar.maxsi v81 v173
  let v175 : BitVec 32 := Scalar.minsi v19 v174
  let c1024_i32_103 : BitVec 32 := 1024#32
  let v180 : BitVec 32 := Scalar.muli v175 c1024_i32_103
  v180
def k0_off9 (i : grid0.Coords) (k0_t2 : Fin (k0_t2_loop i).trips) : Fin 4 → Nat :=
  let c0_143 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let v200 : BitVec 32 := Scalar.subi v19 v163
  let v201 : BitVec 32 := Scalar.maxsi v81 v200
  let v202 : BitVec 32 := Scalar.minsi v19 v201
  let v255 : Index := Scalar.indexCast v202
  let c0_144 : Index := 0#32
  let c0_145 : Index := 0#32
  ![0, v255.toNat, 0, 0]
def k0_off10 (i : grid0.Coords) (k0_t2 : Fin (k0_t2_loop i).trips) : Fin 4 → Nat :=
  let c1_167 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let v200 : BitVec 32 := Scalar.subi v19 v163
  let v201 : BitVec 32 := Scalar.maxsi v81 v200
  let v202 : BitVec 32 := Scalar.minsi v19 v201
  let v317 : Index := Scalar.indexCast v202
  let c0_168 : Index := 0#32
  let c0_169 : Index := 0#32
  ![1, v317.toNat, 0, 0]
def k0_mult11 (i : grid0.Coords) (k0_t2 : Fin (k0_t2_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let v200 : BitVec 32 := Scalar.subi v19 v163
  let v201 : BitVec 32 := Scalar.maxsi v81 v200
  let v202 : BitVec 32 := Scalar.minsi v19 v201
  let c1024_i32_174 : BitVec 32 := 1024#32
  let v328 : BitVec 32 := Scalar.muli v202 c1024_i32_174
  v328
def k0_off11 (i : grid0.Coords) (k0_t2 : Fin (k0_t2_loop i).trips) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let v200 : BitVec 32 := Scalar.subi v19 v163
  let v201 : BitVec 32 := Scalar.maxsi v81 v200
  let v202 : BitVec 32 := Scalar.minsi v19 v201
  let c1024_i32_174 : BitVec 32 := 1024#32
  let v328 : BitVec 32 := Scalar.muli v202 c1024_i32_174
  let v329 : BitVec 32 := v328
  let v330 : Index := Scalar.indexCast v329
  let c0_175 : Index := 0#32
  ![v330.toNat, 0]
def k0_mult12 (i : grid0.Coords) (k0_t2 : Fin (k0_t2_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let c2_i32_193 : BitVec 32 := 2#32
  let v345 : BitVec 32 := Scalar.addi v163 c2_i32_193
  let v346 : BitVec 32 := Scalar.subi v19 v345
  let v347 : BitVec 32 := Scalar.maxsi v81 v346
  let v348 : BitVec 32 := Scalar.minsi v19 v347
  let c1024_i32_194 : BitVec 32 := 1024#32
  let v349 : BitVec 32 := Scalar.muli v348 c1024_i32_194
  v349
def k0_mult13 (i : grid0.Coords) (k0_t2 : Fin (k0_t2_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let c2_i32_193 : BitVec 32 := 2#32
  let v345 : BitVec 32 := Scalar.addi v163 c2_i32_193
  let v346 : BitVec 32 := Scalar.subi v19 v345
  let v347 : BitVec 32 := Scalar.maxsi v81 v346
  let v348 : BitVec 32 := Scalar.minsi v19 v347
  let c1024_i32_196 : BitVec 32 := 1024#32
  let v353 : BitVec 32 := Scalar.muli v348 c1024_i32_196
  v353
def k0_off12 (i : grid0.Coords) (k0_t2 : Fin (k0_t2_loop i).trips) : Fin 4 → Nat :=
  let c0_237 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let c1_i32_218 : BitVec 32 := 1#32
  let v373 : BitVec 32 := Scalar.addi v163 c1_i32_218
  let v374 : BitVec 32 := Scalar.subi v19 v373
  let v375 : BitVec 32 := Scalar.maxsi v81 v374
  let v376 : BitVec 32 := Scalar.minsi v19 v375
  let v429 : Index := Scalar.indexCast v376
  let c0_238 : Index := 0#32
  let c0_239 : Index := 0#32
  ![0, v429.toNat, 0, 0]
def k0_off13 (i : grid0.Coords) (k0_t2 : Fin (k0_t2_loop i).trips) : Fin 4 → Nat :=
  let c1_261 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let c1_i32_218 : BitVec 32 := 1#32
  let v373 : BitVec 32 := Scalar.addi v163 c1_i32_218
  let v374 : BitVec 32 := Scalar.subi v19 v373
  let v375 : BitVec 32 := Scalar.maxsi v81 v374
  let v376 : BitVec 32 := Scalar.minsi v19 v375
  let v491 : Index := Scalar.indexCast v376
  let c0_262 : Index := 0#32
  let c0_263 : Index := 0#32
  ![1, v491.toNat, 0, 0]
def k0_mult14 (i : grid0.Coords) (k0_t2 : Fin (k0_t2_loop i).trips) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let c2_i32_83 : BitVec 32 := 2#32
  let c0_i32_60 : BitVec 32 := 0#32
  let c1_i32_52 : BitVec 32 := 1#32
  let v119 : BitVec 32 := Scalar.addi v19 c1_i32_52
  let c0_i32_53 : BitVec 32 := 0#32
  let v121 : BitVec 1 := Scalar.cmpi .sgt v119 c0_i32_53
  let v122 : BitVec 32 := Scalar.extui v121
  let c0_i32_54 : BitVec 32 := 0#32
  let v123 : BitVec 1 := Scalar.cmpi .slt v119 c0_i32_54
  let v124 : BitVec 32 := Scalar.extui v123
  let v125 : BitVec 32 := Scalar.subi v122 v124
  let c2_i32 : BitVec 32 := 2#32
  let c0_i32_55 : BitVec 32 := 0#32
  let v126 : BitVec 1 := Scalar.cmpi .sgt c2_i32 c0_i32_55
  let v127 : BitVec 32 := Scalar.extui v126
  let c0_i32_56 : BitVec 32 := 0#32
  let v128 : BitVec 1 := Scalar.cmpi .slt c2_i32 c0_i32_56
  let v129 : BitVec 32 := Scalar.extui v128
  let v130 : BitVec 32 := Scalar.subi v127 v129
  let v131 : BitVec 1 := Scalar.cmpi .ne v125 v130
  let v132 : BitVec 32 := Scalar.remsi v119 c2_i32
  let c0_i32_57 : BitVec 32 := 0#32
  let v133 : BitVec 1 := Scalar.cmpi .ne v132 c0_i32_57
  let v134 : BitVec 1 := Scalar.andi v131 v133
  let v120 : BitVec 32 := Scalar.divsi v119 c2_i32
  let c1_i32_58 : BitVec 32 := 1#32
  let v135 : BitVec 32 := Scalar.subi v120 c1_i32_58
  let v136 : BitVec 32 := Scalar.select v134 v135 v120
  let v137 : BitVec 32 := Scalar.subi v136 c0_i32_60
  let c1_i32_61 : BitVec 32 := 1#32
  let v139 : BitVec 32 := Scalar.divsi v137 c1_i32_61
  let v140 : BitVec 32 := Scalar.muli v139 c1_i32_61
  let v141 : BitVec 32 := Scalar.addi c0_i32_60 v140
  let c1_i32_63 : BitVec 32 := 1#32
  let arg20 : BitVec 32 := Scf.iv v141 c1_i32_63 k0_t2
  let v163 : BitVec 32 := Scalar.muli c2_i32_83 arg20
  let c1_i32_218 : BitVec 32 := 1#32
  let v373 : BitVec 32 := Scalar.addi v163 c1_i32_218
  let v374 : BitVec 32 := Scalar.subi v19 v373
  let v375 : BitVec 32 := Scalar.maxsi v81 v374
  let v376 : BitVec 32 := Scalar.minsi v19 v375
  let c1024_i32_268 : BitVec 32 := 1024#32
  let v502 : BitVec 32 := Scalar.muli v376 c1024_i32_268
  v502
def k0_cond2 (i : grid0.Coords) : BitVec 1 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c2_i32_64 : BitVec 32 := 2#32
  let v142 : BitVec 32 := Scalar.remsi v19 c2_i32_64
  let c0_i32_65 : BitVec 32 := 0#32
  let v143 : BitVec 1 := Scalar.cmpi .eq v142 c0_i32_65
  let v144 : BitVec 32 := Scalar.extui v143
  let c0_i32_66 : BitVec 32 := 0#32
  let v145 : BitVec 1 := Scalar.cmpi .ne v144 c0_i32_66
  v145

def k0_off14 (i : grid0.Coords) : Fin 4 → Nat :=
  let c0_117 : Index := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let v163 : BitVec 32 := Scalar.subi v19 v19
  let v164 : BitVec 32 := Scalar.maxsi v81 v163
  let v165 : BitVec 32 := Scalar.minsi v19 v164
  let v226 : Index := Scalar.indexCast v165
  let c0_118 : Index := 0#32
  let c0_119 : Index := 0#32
  ![0, v226.toNat, 0, 0]
def k0_off15 (i : grid0.Coords) : Fin 4 → Nat :=
  let c1_141 : Index := 1#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let v163 : BitVec 32 := Scalar.subi v19 v19
  let v164 : BitVec 32 := Scalar.maxsi v81 v163
  let v165 : BitVec 32 := Scalar.minsi v19 v164
  let v288 : Index := Scalar.indexCast v165
  let c0_142 : Index := 0#32
  let c0_143 : Index := 0#32
  ![1, v288.toNat, 0, 0]
def k0_mult15 (i : grid0.Coords) : BitVec 32 :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let v163 : BitVec 32 := Scalar.subi v19 v19
  let v164 : BitVec 32 := Scalar.maxsi v81 v163
  let v165 : BitVec 32 := Scalar.minsi v19 v164
  let c1024_i32_148 : BitVec 32 := 1024#32
  let v299 : BitVec 32 := Scalar.muli v165 c1024_i32_148
  v299
def k0_off16 (i : grid0.Coords) : Fin 2 → Nat :=
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v81 : BitVec 32 := Scalar.subi v19 v19
  let v163 : BitVec 32 := Scalar.subi v19 v19
  let v164 : BitVec 32 := Scalar.maxsi v81 v163
  let v165 : BitVec 32 := Scalar.minsi v19 v164
  let c1024_i32_148 : BitVec 32 := 1024#32
  let v299 : BitVec 32 := Scalar.muli v165 c1024_i32_148
  let v300 : BitVec 32 := v299
  let v301 : Index := Scalar.indexCast v300
  let c0_149 : Index := 0#32
  ![v301.toNat, 0]
@[reducible] def k0_t3_loop (i : grid0.Coords) : Scf.Loop 32 :=
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_71 : BitVec 32 := 1#32
  let v150 : BitVec 32 := Scalar.addi v19 c1_i32_71
  let v151 : BitVec 32 := Scalar.subi v150 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_75 : BitVec 32 := 1#32
  ⟨c0_i32_73, v155, c1_i32_75⟩
def k0_mult16 (i : grid0.Coords) (k0_t3 : Fin (k0_t3_loop i).trips) : BitVec 32 :=
  let c0_i32_83 : BitVec 32 := 0#32
  let c0_i32_73 : BitVec 32 := 0#32
  let c1_i32_75 : BitVec 32 := 1#32
  let arg20 : BitVec 32 := Scf.iv c0_i32_73 c1_i32_75 k0_t3
  let v163 : BitVec 32 := Scalar.addi c0_i32_83 arg20
  let c1024_i32_84 : BitVec 32 := 1024#32
  let v164 : BitVec 32 := Scalar.muli v163 c1024_i32_84
  v164
def k0_off17 (i : grid0.Coords) (k0_t3 : Fin (k0_t3_loop i).trips) : Fin 2 → Nat :=
  let c0_i32_83 : BitVec 32 := 0#32
  let c0_i32_73 : BitVec 32 := 0#32
  let c1_i32_75 : BitVec 32 := 1#32
  let arg20 : BitVec 32 := Scf.iv c0_i32_73 c1_i32_75 k0_t3
  let v163 : BitVec 32 := Scalar.addi c0_i32_83 arg20
  let c1024_i32_84 : BitVec 32 := 1024#32
  let v164 : BitVec 32 := Scalar.muli v163 c1024_i32_84
  let v165 : BitVec 32 := v164
  let v166 : Index := Scalar.indexCast v165
  let c0_85 : Index := 0#32
  ![v166.toNat, 0]
def k0_off18 (i : grid0.Coords) (k0_t3 : Fin (k0_t3_loop i).trips) : Fin 4 → Nat :=
  let c0_87 : Index := 0#32
  let c0_i32_83 : BitVec 32 := 0#32
  let c0_i32_73 : BitVec 32 := 0#32
  let c1_i32_75 : BitVec 32 := 1#32
  let arg20 : BitVec 32 := Scf.iv c0_i32_73 c1_i32_75 k0_t3
  let v163 : BitVec 32 := Scalar.addi c0_i32_83 arg20
  let v169 : Index := Scalar.indexCast v163
  let c0_88 : Index := 0#32
  let c0_89 : Index := 0#32
  ![0, v169.toNat, 0, 0]
def k0_off19 (i : grid0.Coords) (k0_t3 : Fin (k0_t3_loop i).trips) : Fin 4 → Nat :=
  let c1_116 : Index := 1#32
  let c0_i32_83 : BitVec 32 := 0#32
  let c0_i32_73 : BitVec 32 := 0#32
  let c1_i32_75 : BitVec 32 := 1#32
  let arg20 : BitVec 32 := Scf.iv c0_i32_73 c1_i32_75 k0_t3
  let v163 : BitVec 32 := Scalar.addi c0_i32_83 arg20
  let v234 : Index := Scalar.indexCast v163
  let c0_117 : Index := 0#32
  let c0_118 : Index := 0#32
  ![1, v234.toNat, 0, 0]
def k0_mult17 (i : grid0.Coords) (k0_t3 : Fin (k0_t3_loop i).trips) : BitVec 32 :=
  let c0_i32_83 : BitVec 32 := 0#32
  let c0_i32_73 : BitVec 32 := 0#32
  let c1_i32_75 : BitVec 32 := 1#32
  let arg20 : BitVec 32 := Scf.iv c0_i32_73 c1_i32_75 k0_t3
  let v163 : BitVec 32 := Scalar.addi c0_i32_83 arg20
  let c1024_i32_145 : BitVec 32 := 1024#32
  let v299 : BitVec 32 := Scalar.muli v163 c1024_i32_145
  v299
@[reducible] def k0_t4_loop (i : grid0.Coords) : Scf.Loop 32 :=
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_71 : BitVec 32 := 1#32
  let v150 : BitVec 32 := Scalar.addi v19 c1_i32_71
  let v151 : BitVec 32 := Scalar.subi v150 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let v152 : BitVec 32 := Scalar.addi c0_i32_73 v151
  let c1_i32_76 : BitVec 32 := 1#32
  ⟨v155, v152, c1_i32_76⟩
def k0_mult18 (i : grid0.Coords) (k0_t4 : Fin (k0_t4_loop i).trips) : BitVec 32 :=
  let c0_i32_83 : BitVec 32 := 0#32
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_71 : BitVec 32 := 1#32
  let v150 : BitVec 32 := Scalar.addi v19 c1_i32_71
  let v151 : BitVec 32 := Scalar.subi v150 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg20 : BitVec 32 := Scf.iv v155 c1_i32_76 k0_t4
  let v163 : BitVec 32 := Scalar.addi c0_i32_83 arg20
  let c1024_i32_84 : BitVec 32 := 1024#32
  let v164 : BitVec 32 := Scalar.muli v163 c1024_i32_84
  v164
def k0_off20 (i : grid0.Coords) (k0_t4 : Fin (k0_t4_loop i).trips) : Fin 2 → Nat :=
  let c0_i32_83 : BitVec 32 := 0#32
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_71 : BitVec 32 := 1#32
  let v150 : BitVec 32 := Scalar.addi v19 c1_i32_71
  let v151 : BitVec 32 := Scalar.subi v150 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg20 : BitVec 32 := Scf.iv v155 c1_i32_76 k0_t4
  let v163 : BitVec 32 := Scalar.addi c0_i32_83 arg20
  let c1024_i32_84 : BitVec 32 := 1024#32
  let v164 : BitVec 32 := Scalar.muli v163 c1024_i32_84
  let v165 : BitVec 32 := v164
  let v166 : Index := Scalar.indexCast v165
  let c0_85 : Index := 0#32
  ![v166.toNat, 0]
def k0_off21 (i : grid0.Coords) (k0_t4 : Fin (k0_t4_loop i).trips) : Fin 4 → Nat :=
  let c0_87 : Index := 0#32
  let c0_i32_83 : BitVec 32 := 0#32
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_71 : BitVec 32 := 1#32
  let v150 : BitVec 32 := Scalar.addi v19 c1_i32_71
  let v151 : BitVec 32 := Scalar.subi v150 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg20 : BitVec 32 := Scf.iv v155 c1_i32_76 k0_t4
  let v163 : BitVec 32 := Scalar.addi c0_i32_83 arg20
  let v169 : Index := Scalar.indexCast v163
  let c0_88 : Index := 0#32
  let c0_89 : Index := 0#32
  ![0, v169.toNat, 0, 0]
def k0_off22 (i : grid0.Coords) (k0_t4 : Fin (k0_t4_loop i).trips) : Fin 4 → Nat :=
  let c1_116 : Index := 1#32
  let c0_i32_83 : BitVec 32 := 0#32
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_71 : BitVec 32 := 1#32
  let v150 : BitVec 32 := Scalar.addi v19 c1_i32_71
  let v151 : BitVec 32 := Scalar.subi v150 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg20 : BitVec 32 := Scf.iv v155 c1_i32_76 k0_t4
  let v163 : BitVec 32 := Scalar.addi c0_i32_83 arg20
  let v234 : Index := Scalar.indexCast v163
  let c0_117 : Index := 0#32
  let c0_118 : Index := 0#32
  ![1, v234.toNat, 0, 0]
def k0_mult19 (i : grid0.Coords) (k0_t4 : Fin (k0_t4_loop i).trips) : BitVec 32 :=
  let c0_i32_83 : BitVec 32 := 0#32
  let c0_i32_73 : BitVec 32 := 0#32
  let arg1 : BitVec 32 := BitVec.ofNat 32 (i 1).val
  let c256_i32 : BitVec 32 := 256#32
  let v0 : BitVec 32 := Scalar.muli arg1 c256_i32
  let c256_i32_0 : BitVec 32 := 256#32
  let v1 : BitVec 32 := Scalar.addi v0 c256_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_71 : BitVec 32 := 1#32
  let v150 : BitVec 32 := Scalar.addi v19 c1_i32_71
  let v151 : BitVec 32 := Scalar.subi v150 c0_i32_73
  let c1_i32_74 : BitVec 32 := 1#32
  let v153 : BitVec 32 := Scalar.divsi v151 c1_i32_74
  let v154 : BitVec 32 := Scalar.muli v153 c1_i32_74
  let v155 : BitVec 32 := Scalar.addi c0_i32_73 v154
  let c1_i32_76 : BitVec 32 := 1#32
  let arg20 : BitVec 32 := Scf.iv v155 c1_i32_76 k0_t4
  let v163 : BitVec 32 := Scalar.addi c0_i32_83 arg20
  let c1024_i32_145 : BitVec 32 := 1024#32
  let v299 : BitVec 32 := Scalar.muli v163 c1024_i32_145
  v299
def k0_cond3 (i : grid0.Coords) : BitVec 1 :=
  let arg1 : BitVec 32 := BitVec.ofNat 32 (i 1).val
  let c31_i32 : BitVec 32 := 31#32
  let v160 : BitVec 1 := Scalar.cmpi .eq arg1 c31_i32
  let v161 : BitVec 32 := Scalar.extui v160
  let c0_i32_82 : BitVec 32 := 0#32
  let v162 : BitVec 1 := Scalar.cmpi .ne v161 c0_i32_82
  v162

def k0_mult20 (i : grid0.Coords) : BitVec 32 :=
  let arg0 : BitVec 32 := BitVec.ofNat 32 (i 0).val
  let c128_i32_83 : BitVec 32 := 128#32
  let v163 : BitVec 32 := Scalar.muli arg0 c128_i32_83
  v163
def k0_off23 (i : grid0.Coords) : Fin 2 → Nat :=
  let c0_i32_84_r0 : BitVec 32 := 0#32
  let arg0 : BitVec 32 := BitVec.ofNat 32 (i 0).val
  let c128_i32_83 : BitVec 32 := 128#32
  let v163 : BitVec 32 := Scalar.muli arg0 c128_i32_83
  let v164 : BitVec 32 := v163
  ![0, v164.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8192x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S8192x1536 : Shape := ⟨2, ![8192, 1536]⟩
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S8x64x8192 : Shape := ⟨3, ![8, 64, 8192]⟩

abbrev nBuf : Space → Nat
  | .hbm => 179
  | .vmem => 0
  | .smem => 0
  | _ => 0

abbrev hbmTy0_0 (i : Nat) : BufTy := match i % 128 with
  | 0 => ⟨S8192x1536, .bf16⟩
  | 1 => ⟨S8192x512, .bf16⟩
  | 2 => ⟨S8192x1536, .f32⟩
  | 3 => ⟨S8192x512, .f32⟩
  | 4 => ⟨S8192x512, .f32⟩
  | 5 => ⟨S8192x512, .f32⟩
  | 6 => ⟨S8192x8x64, .f32⟩
  | 7 => ⟨S8x8192x64, .f32⟩
  | 8 => ⟨S8192x8x64, .f32⟩
  | 9 => ⟨S8x8192x64, .f32⟩
  | 10 => ⟨S8192x8x64, .f32⟩
  | 11 => ⟨S8x8192x64, .f32⟩
  | 12 => ⟨S8x8192x8192, .f32⟩
  | 13 => ⟨S_, .f32⟩
  | 14 => ⟨S8x8192x8192, .f32⟩
  | 15 => ⟨S8x8192x8192, .f32⟩
  | 16 => ⟨S8192, .i32⟩
  | 17 => ⟨S1x8192, .i32⟩
  | 18 => ⟨S8192x1, .i32⟩
  | 19 => ⟨S8192x8192, .i32⟩
  | 20 => ⟨S8192x8192, .i32⟩
  | 21 => ⟨S8192x8192, .i1⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .i1⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .i1⟩
  | 40 => ⟨S_, .f32⟩
  | 41 => ⟨S8x8192x8192, .f32⟩
  | 42 => ⟨S8x8192x8192, .f32⟩
  | 43 => ⟨S_, .f32⟩
  | 44 => ⟨S8x8192x8192, .f32⟩
  | 45 => ⟨S8x8192x8192, .i1⟩
  | 46 => ⟨S_, .f32⟩
  | 47 => ⟨S8x8192x8192, .f32⟩
  | 48 => ⟨S8x8192x8192, .f32⟩
  | 49 => ⟨S8x8192x8192, .f32⟩
  | 50 => ⟨S8x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x8192x8192, .f32⟩
  | 59 => ⟨S8x8192x8192, .i1⟩
  | 60 => ⟨S_, .f32⟩
  | 61 => ⟨S8x8192x8192, .f32⟩
  | 62 => ⟨S8x8192x8192, .f32⟩
  | 63 => ⟨S8x8192x8192, .f32⟩
  | 64 => ⟨S8x8192x8192, .f32⟩
  | 65 => ⟨S8x8192x8192, .f32⟩
  | 66 => ⟨S_, .f32⟩
  | 67 => ⟨S8x8192x8192, .f32⟩
  | 68 => ⟨S8x8192x8192, .f32⟩
  | 69 => ⟨S8x8192x8192, .f32⟩
  | 70 => ⟨S8x8192x8192, .f32⟩
  | 71 => ⟨S8x8192x8192, .f32⟩
  | 72 => ⟨S_, .f32⟩
  | 73 => ⟨S8x8192x8192, .f32⟩
  | 74 => ⟨S8x8192x8192, .f32⟩
  | 75 => ⟨S8x8192x8192, .f32⟩
  | 76 => ⟨S8x8192x8192, .f32⟩
  | 77 => ⟨S8x8192x8192, .i1⟩
  | 78 => ⟨S8x8192x8192, .f32⟩
  | 79 => ⟨S8x8192x8192, .f32⟩
  | 80 => ⟨S8x8192x8192, .f32⟩
  | 81 => ⟨S8x8192x8192, .f32⟩
  | 82 => ⟨S8x8192x8192, .f32⟩
  | 83 => ⟨S8x8192x8192, .f32⟩
  | 84 => ⟨S8x8192x8192, .f32⟩
  | 85 => ⟨S8x8192x8192, .f32⟩
  | 86 => ⟨S_, .f32⟩
  | 87 => ⟨S8x8192x8192, .f32⟩
  | 88 => ⟨S8x8192x8192, .i1⟩
  | 89 => ⟨S_, .f32⟩
  | 90 => ⟨S8x8192x8192, .f32⟩
  | 91 => ⟨S8x8192x8192, .f32⟩
  | 92 => ⟨S_, .f32⟩
  | 93 => ⟨S8x8192x8192, .f32⟩
  | 94 => ⟨S8x8192x8192, .i1⟩
  | 95 => ⟨S_, .f32⟩
  | 96 => ⟨S8x8192x8192, .f32⟩
  | 97 => ⟨S8x8192x8192, .f32⟩
  | 98 => ⟨S8x8192x8192, .f32⟩
  | 99 => ⟨S8x8192x8192, .f32⟩
  | 100 => ⟨S_, .f32⟩
  | 101 => ⟨S_, .f32⟩
  | 102 => ⟨S_, .i1⟩
  | 103 => ⟨S_, .f32⟩
  | 104 => ⟨S_, .f32⟩
  | 105 => ⟨S_, .f32⟩
  | 106 => ⟨S_, .f32⟩
  | 107 => ⟨S8x8192x8192, .f32⟩
  | 108 => ⟨S8x8192x8192, .i1⟩
  | 109 => ⟨S_, .f32⟩
  | 110 => ⟨S8x8192x8192, .f32⟩
  | 111 => ⟨S8x8192x8192, .f32⟩
  | 112 => ⟨S8x8192x8192, .f32⟩
  | 113 => ⟨S8x8192x8192, .f32⟩
  | 114 => ⟨S8x8192x8192, .f32⟩
  | 115 => ⟨S_, .f32⟩
  | 116 => ⟨S8x8192x8192, .f32⟩
  | 117 => ⟨S8x8192x8192, .f32⟩
  | 118 => ⟨S8x8192x8192, .f32⟩
  | 119 => ⟨S_, .f32⟩
  | 120 => ⟨S_, .f32⟩
  | 121 => ⟨S8x8192x8192, .i1⟩
  | 122 => ⟨S8x8192x8192, .f32⟩
  | 123 => ⟨S8x8192x8192, .f32⟩
  | 124 => ⟨S_, .f32⟩
  | 125 => ⟨S8x8192x8192, .f32⟩
  | 126 => ⟨S_, .f32⟩
  | 127 => ⟨S_, .f32⟩
  | _ => ⟨S8192x1536, .bf16⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S8x8192x8192, .f32⟩
  | 4 => ⟨S_, .f32⟩
  | 5 => ⟨S_, .f32⟩
  | 6 => ⟨S8x8192x8192, .i1⟩
  | 7 => ⟨S8x8192x8192, .f32⟩
  | 8 => ⟨S8x8192x8192, .f32⟩
  | 9 => ⟨S_, .f32⟩
  | 10 => ⟨S8x8192x8192, .f32⟩
  | 11 => ⟨S8x8192x64, .f32⟩
  | 12 => ⟨S8192x8x64, .f32⟩
  | 13 => ⟨S8192x512, .f32⟩
  | 14 => ⟨S8192x512, .f32⟩
  | 15 => ⟨S8192x8x64, .f32⟩
  | 16 => ⟨S8x8192x64, .f32⟩
  | 17 => ⟨S8x64x8192, .f32⟩
  | 18 => ⟨S8x8192x64, .f32⟩
  | 19 => ⟨S8x8192x8192, .f32⟩
  | 20 => ⟨S_, .f32⟩
  | 21 => ⟨S8x8192x8192, .f32⟩
  | 22 => ⟨S8x8192x8192, .f32⟩
  | 23 => ⟨S8x8192x8192, .f32⟩
  | 24 => ⟨S8x8192x8192, .f32⟩
  | 25 => ⟨S_, .f32⟩
  | 26 => ⟨S_, .f32⟩
  | 27 => ⟨S8x8192x8192, .f32⟩
  | 28 => ⟨S8x8192x8192, .f32⟩
  | 29 => ⟨S_, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S8x8192x8192, .f32⟩
  | 39 => ⟨S8x8192x8192, .f32⟩
  | 40 => ⟨S_, .f32⟩
  | 41 => ⟨S8x8192x8192, .f32⟩
  | 42 => ⟨S8x8192x8192, .f32⟩
  | 43 => ⟨S8x8192x64, .f32⟩
  | 44 => ⟨S8x8192x64, .f32⟩
  | 45 => ⟨S8192x8x64, .f32⟩
  | 46 => ⟨S8192x512, .f32⟩
  | 47 => ⟨S8192x8x64, .f32⟩
  | 48 => ⟨S8192x512, .f32⟩
  | 49 => ⟨S8192x8x64, .f32⟩
  | 50 => ⟨S8192x512, .f32⟩
  | _ => ⟨S8192x1536, .bf16⟩

abbrev hbmTy (i : Nat) : BufTy := match i / 128 with
  | 0 => hbmTy0_0 i
  | 1 => hbmTy0_1 i
  | _ => ⟨S8192x1536, .bf16⟩

abbrev bufTy : (tb : Table) → Fin (tcTables nBuf tb) → BufTy
  | .hbm, ⟨i, _⟩ => hbmTy i
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v19_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v19_2 : Ref sig .tc := ⟨.hbm, 68, rfl⟩
abbrev main_v19_0 : Ref sig .tc := ⟨.hbm, 69, rfl⟩
abbrev main_v20 : Ref sig .tc := ⟨.hbm, 70, rfl⟩
abbrev main_call1_v0 : Ref sig .tc := ⟨.hbm, 71, rfl⟩
abbrev main_call1_call0_cst : Ref sig .tc := ⟨.hbm, 72, rfl⟩
abbrev main_call1_call0_v0 : Ref sig .tc := ⟨.hbm, 73, rfl⟩
abbrev main_call1_call0_v1 : Ref sig .tc := ⟨.hbm, 74, rfl⟩
abbrev main_call1_call0_v2 : Ref sig .tc := ⟨.hbm, 75, rfl⟩
abbrev main_call1_call0_v3 : Ref sig .tc := ⟨.hbm, 76, rfl⟩
abbrev main_call1_call0_v4 : Ref sig .tc := ⟨.hbm, 77, rfl⟩
abbrev main_call1_call0_v5 : Ref sig .tc := ⟨.hbm, 78, rfl⟩
abbrev main_call1_call0_v6 : Ref sig .tc := ⟨.hbm, 79, rfl⟩
abbrev main_call1_call0_v7 : Ref sig .tc := ⟨.hbm, 80, rfl⟩
abbrev main_call1_call0_v8 : Ref sig .tc := ⟨.hbm, 81, rfl⟩
abbrev main_call1_call0_v9 : Ref sig .tc := ⟨.hbm, 82, rfl⟩
abbrev main_call1_call0_v10 : Ref sig .tc := ⟨.hbm, 83, rfl⟩
abbrev main_call1_call0_v11 : Ref sig .tc := ⟨.hbm, 84, rfl⟩
abbrev main_call1_v1_0 : Ref sig .tc := ⟨.hbm, 85, rfl⟩
abbrev main_call1_call0_cst_0 : Ref sig .tc := ⟨.hbm, 86, rfl⟩
abbrev main_call1_call0_v13 : Ref sig .tc := ⟨.hbm, 87, rfl⟩
abbrev main_call1_call0_v14 : Ref sig .tc := ⟨.hbm, 88, rfl⟩
abbrev main_call1_call0_cst_1 : Ref sig .tc := ⟨.hbm, 89, rfl⟩
abbrev main_call1_call0_v15 : Ref sig .tc := ⟨.hbm, 90, rfl⟩
abbrev main_call1_call0_v16 : Ref sig .tc := ⟨.hbm, 91, rfl⟩
abbrev main_call1_call0_cst_2 : Ref sig .tc := ⟨.hbm, 92, rfl⟩
abbrev main_call1_call0_v17 : Ref sig .tc := ⟨.hbm, 93, rfl⟩
abbrev main_call1_call0_v18 : Ref sig .tc := ⟨.hbm, 94, rfl⟩
abbrev main_call1_call0_cst_3 : Ref sig .tc := ⟨.hbm, 95, rfl⟩
abbrev main_call1_call0_v19 : Ref sig .tc := ⟨.hbm, 96, rfl⟩
abbrev main_call1_call0_v20 : Ref sig .tc := ⟨.hbm, 97, rfl⟩
abbrev main_call1_call0_v21 : Ref sig .tc := ⟨.hbm, 98, rfl⟩
abbrev main_v21_1 : Ref sig .tc := ⟨.hbm, 99, rfl⟩
abbrev main_call1_call0_cst_4 : Ref sig .tc := ⟨.hbm, 100, rfl⟩
abbrev main_call1_call0_cst_5 : Ref sig .tc := ⟨.hbm, 101, rfl⟩
abbrev main_call1_call0_v23 : Ref sig .tc := ⟨.hbm, 102, rfl⟩
abbrev main_call1_call0_cst_6 : Ref sig .tc := ⟨.hbm, 103, rfl⟩
abbrev main_call1_call0_cst_7 : Ref sig .tc := ⟨.hbm, 104, rfl⟩
abbrev main_call1_call0_v24 : Ref sig .tc := ⟨.hbm, 105, rfl⟩
abbrev main_call1_call0_cst_8 : Ref sig .tc := ⟨.hbm, 106, rfl⟩
abbrev main_call1_call0_v25 : Ref sig .tc := ⟨.hbm, 107, rfl⟩
abbrev main_call1_call0_v26 : Ref sig .tc := ⟨.hbm, 108, rfl⟩
abbrev main_call1_call0_cst_9 : Ref sig .tc := ⟨.hbm, 109, rfl⟩
abbrev main_call1_call0_v27 : Ref sig .tc := ⟨.hbm, 110, rfl⟩
abbrev main_call1_call0_v28 : Ref sig .tc := ⟨.hbm, 111, rfl⟩
abbrev main_call1_call0_v29 : Ref sig .tc := ⟨.hbm, 112, rfl⟩
abbrev main_call1_call0_v30 : Ref sig .tc := ⟨.hbm, 113, rfl⟩
abbrev main_call1_call0_v31 : Ref sig .tc := ⟨.hbm, 114, rfl⟩
abbrev main_call1_call0_cst_10 : Ref sig .tc := ⟨.hbm, 115, rfl⟩
abbrev main_call1_call0_v32 : Ref sig .tc := ⟨.hbm, 116, rfl⟩
abbrev main_v21_2 : Ref sig .tc := ⟨.hbm, 117, rfl⟩
abbrev main_v21_0 : Ref sig .tc := ⟨.hbm, 118, rfl⟩
abbrev main_cst_0 : Ref sig .tc := ⟨.hbm, 119, rfl⟩
abbrev main_call2_v0 : Ref sig .tc := ⟨.hbm, 120, rfl⟩
abbrev main_v22_1 : Ref sig .tc := ⟨.hbm, 121, rfl⟩
abbrev main_call2_v2 : Ref sig .tc := ⟨.hbm, 122, rfl⟩
abbrev main_v22_0 : Ref sig .tc := ⟨.hbm, 123, rfl⟩
abbrev main_call2_cst : Ref sig .tc := ⟨.hbm, 124, rfl⟩
abbrev main_v22_2 : Ref sig .tc := ⟨.hbm, 125, rfl⟩
abbrev main_call3_cst : Ref sig .tc := ⟨.hbm, 126, rfl⟩
abbrev main_call3_v0 : Ref sig .tc := ⟨.hbm, 127, rfl⟩
abbrev main_v23 : Ref sig .tc := ⟨.hbm, 128, rfl⟩
abbrev main_v24 : Ref sig .tc := ⟨.hbm, 129, rfl⟩
abbrev main_v25 : Ref sig .tc := ⟨.hbm, 130, rfl⟩
abbrev main_v26 : Ref sig .tc := ⟨.hbm, 131, rfl⟩
abbrev main_cst_1 : Ref sig .tc := ⟨.hbm, 132, rfl⟩
abbrev main_call4_v0 : Ref sig .tc := ⟨.hbm, 133, rfl⟩
abbrev main_v27_1 : Ref sig .tc := ⟨.hbm, 134, rfl⟩
abbrev main_call4_v2 : Ref sig .tc := ⟨.hbm, 135, rfl⟩
abbrev main_v27_0 : Ref sig .tc := ⟨.hbm, 136, rfl⟩
abbrev main_call4_cst : Ref sig .tc := ⟨.hbm, 137, rfl⟩
abbrev main_v27_2 : Ref sig .tc := ⟨.hbm, 138, rfl⟩
abbrev main_v28 : Ref sig .tc := ⟨.hbm, 139, rfl⟩
abbrev main_v29 : Ref sig .tc := ⟨.hbm, 140, rfl⟩
abbrev main_v30 : Ref sig .tc := ⟨.hbm, 141, rfl⟩
abbrev main_v31 : Ref sig .tc := ⟨.hbm, 142, rfl⟩
abbrev main_v32 : Ref sig .tc := ⟨.hbm, 143, rfl⟩
abbrev main_v33 : Ref sig .tc := ⟨.hbm, 144, rfl⟩
abbrev main_v34 : Ref sig .tc := ⟨.hbm, 145, rfl⟩
abbrev main_v35 : Ref sig .tc := ⟨.hbm, 146, rfl⟩
abbrev main_v36 : Ref sig .tc := ⟨.hbm, 147, rfl⟩
abbrev main_call5_cst : Ref sig .tc := ⟨.hbm, 148, rfl⟩
abbrev main_call5_v0 : Ref sig .tc := ⟨.hbm, 149, rfl⟩
abbrev main_v37 : Ref sig .tc := ⟨.hbm, 150, rfl⟩
abbrev main_v38 : Ref sig .tc := ⟨.hbm, 151, rfl⟩
abbrev main_v39 : Ref sig .tc := ⟨.hbm, 152, rfl⟩
abbrev main_call6_cst : Ref sig .tc := ⟨.hbm, 153, rfl⟩
abbrev main_call6_v0 : Ref sig .tc := ⟨.hbm, 154, rfl⟩
abbrev main_v40 : Ref sig .tc := ⟨.hbm, 155, rfl⟩
abbrev main_v41 : Ref sig .tc := ⟨.hbm, 156, rfl⟩
abbrev main_call7_cst : Ref sig .tc := ⟨.hbm, 157, rfl⟩
abbrev main_call7_v0 : Ref sig .tc := ⟨.hbm, 158, rfl⟩
abbrev main_v42 : Ref sig .tc := ⟨.hbm, 159, rfl⟩
abbrev main_call8_v0 : Ref sig .tc := ⟨.hbm, 160, rfl⟩
abbrev main_call8_v1 : Ref sig .tc := ⟨.hbm, 161, rfl⟩
abbrev main_v43 : Ref sig .tc := ⟨.hbm, 162, rfl⟩
abbrev main_v44 : Ref sig .tc := ⟨.hbm, 163, rfl⟩
abbrev main_call9_v0 : Ref sig .tc := ⟨.hbm, 164, rfl⟩
abbrev main_call9_v1 : Ref sig .tc := ⟨.hbm, 165, rfl⟩
abbrev main_v45 : Ref sig .tc := ⟨.hbm, 166, rfl⟩
abbrev main_v46 : Ref sig .tc := ⟨.hbm, 167, rfl⟩
abbrev main_cst_2 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩
abbrev main_v50 : Ref sig .tc := ⟨.hbm, 172, rfl⟩
abbrev main_v51 : Ref sig .tc := ⟨.hbm, 173, rfl⟩
abbrev main_v52 : Ref sig .tc := ⟨.hbm, 174, rfl⟩
abbrev main_v53 : Ref sig .tc := ⟨.hbm, 175, rfl⟩
abbrev main_v54 : Ref sig .tc := ⟨.hbm, 176, rfl⟩
abbrev main_v55 : Ref sig .tc := ⟨.hbm, 177, rfl⟩
abbrev main_v56 : Ref sig .tc := ⟨.hbm, 178, rfl⟩

abbrev nD : Nat := 1
abbrev τ : Topo := Topo.v7x

variable {F : FTy → Type} [FloatOps F]
-- ==== Forward.lean ====
abbrev S8192x1536 : Shape := ⟨2, ![8192, 1536]⟩
abbrev S8192x512 : Shape := ⟨2, ![8192, 512]⟩
abbrev S512x128 : Shape := ⟨2, ![512, 128]⟩
abbrev S8192x128 : Shape := ⟨2, ![8192, 128]⟩
abbrev S2x512x1 : Shape := ⟨3, ![2, 512, 1]⟩
abbrev S2x2x512x1024 : Shape := ⟨4, ![2, 2, 512, 1024]⟩
abbrev S256x256 : Shape := ⟨2, ![256, 256]⟩
abbrev S1x128 : Shape := ⟨2, ![1, 128]⟩
abbrev S1024x128 : Shape := ⟨2, ![1024, 128]⟩
abbrev S512x1024 : Shape := ⟨2, ![512, 1024]⟩
abbrev S1x1x512x1024 : Shape := ⟨4, ![1, 1, 512, 1024]⟩
abbrev S512x256 : Shape := ⟨2, ![512, 256]⟩
abbrev S512 : Shape := ⟨1, ![512]⟩
abbrev S512x1 : Shape := ⟨2, ![512, 1]⟩
abbrev S1x512x1 : Shape := ⟨3, ![1, 512, 1]⟩

abbrev nBuf : Space → Nat
  | .hbm => 2
  | .vmem => 11
  | .smem => 0
  | _ => 0

abbrev bufTy : (tb : Table) → Fin (tcTables nBuf tb) → BufTy
  | .hbm, ⟨0, _⟩ => ⟨S8192x1536, .bf16⟩
  | .hbm, ⟨1, _⟩ => ⟨S8192x512, .f32⟩
  | .local _ .vmem, ⟨0, _⟩ => ⟨S512x128, .bf16⟩
  | .local _ .vmem, ⟨1, _⟩ => ⟨S512x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S2x512x1, .f32⟩
  | .local _ .vmem, ⟨10, _⟩ => ⟨S2x2x512x1024, .f32⟩
  | _, _ => ⟨S8192x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1024_i32_19 : BitVec 32 := 1024#32
  let v62 : BitVec 32 := Scalar.muli v19 c1024_i32_19
  v62
def k0_off1 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1024_i32_19 : BitVec 32 := 1024#32
  let v62 : BitVec 32 := Scalar.muli v19 c1024_i32_19
  let v63 : BitVec 32 := v62
  let v64 : Index := Scalar.indexCast v63
  let c0_20 : Index := 0#32
  ![v64.toNat, 0]
@[reducible] def k0_t1_loop (i : grid0.Coords) : Scf.Loop 32 :=
  let c0_i32_42 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_44 : BitVec 32 := 1#32
  ⟨c0_i32_42, v109, c1_i32_44⟩
def k0_mult2 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_44 : BitVec 32 := 1#32
  let arg9 : BitVec 32 := Scf.iv c0_i32_42 c1_i32_44 k0_t1
  let v116 : BitVec 32 := Scalar.muli c2_i32_53 arg9
  let c1_i32_62 : BitVec 32 := 1#32
  let v121 : BitVec 32 := Scalar.addi v116 c1_i32_62
  let v122 : BitVec 32 := Scalar.subi v19 v121
  let v123 : BitVec 32 := Scalar.maxsi v61 v122
  let v124 : BitVec 32 := Scalar.minsi v19 v123
  let c1024_i32_63 : BitVec 32 := 1024#32
  let v125 : BitVec 32 := Scalar.muli v124 c1024_i32_63
  v125
def k0_off2 (i : grid0.Coords) (k0_t1 : Fin (k0_t1_loop i).trips) (c1_i32_62 : BitVec 32) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_44 : BitVec 32 := 1#32
  let arg9 : BitVec 32 := Scf.iv c0_i32_42 c1_i32_44 k0_t1
  let v116 : BitVec 32 := Scalar.muli c2_i32_53 arg9
  let v121 : BitVec 32 := Scalar.addi v116 c1_i32_62
  let v122 : BitVec 32 := Scalar.subi v19 v121
  let v123 : BitVec 32 := Scalar.maxsi v61 v122
  let v124 : BitVec 32 := Scalar.minsi v19 v123
  let c1024_i32_63 : BitVec 32 := 1024#32
  let v125 : BitVec 32 := Scalar.muli v124 c1024_i32_63
  let v126 : BitVec 32 := v125
  let v127 : Index := Scalar.indexCast v126
  let c0_64 : Index := 0#32
  ![v127.toNat, 0]
def k0_mult3 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_44 : BitVec 32 := 1#32
  let arg9 : BitVec 32 := Scf.iv c0_i32_42 c1_i32_44 k0_t1
  let v116 : BitVec 32 := Scalar.muli c2_i32_53 arg9
  let v137 : BitVec 32 := Scalar.subi v19 v116
  let v138 : BitVec 32 := Scalar.maxsi v61 v137
  let v139 : BitVec 32 := Scalar.minsi v19 v138
  let c1024_i32_75 : BitVec 32 := 1024#32
  let v140 : BitVec 32 := Scalar.muli v139 c1024_i32_75
  v140
def k0_off3 (i : grid0.Coords) (k0_t1 : Fin (k0_t1_loop i).trips) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_44 : BitVec 32 := 1#32
  let arg9 : BitVec 32 := Scf.iv c0_i32_42 c1_i32_44 k0_t1
  let v116 : BitVec 32 := Scalar.muli c2_i32_53 arg9
  let v137 : BitVec 32 := Scalar.subi v19 v116
  let v138 : BitVec 32 := Scalar.maxsi v61 v137
  let v139 : BitVec 32 := Scalar.minsi v19 v138
  let c1024_i32_75 : BitVec 32 := 1024#32
  let v140 : BitVec 32 := Scalar.muli v139 c1024_i32_75
  let v141 : BitVec 32 := v140
  let v142 : Index := Scalar.indexCast v141
  let c0_76 : Index := 0#32
  ![v142.toNat, 0]
def k0_mult4 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_44 : BitVec 32 := 1#32
  let arg9 : BitVec 32 := Scf.iv c0_i32_42 c1_i32_44 k0_t1
  let v116 : BitVec 32 := Scalar.muli c2_i32_53 arg9
  let c2_i32_133 : BitVec 32 := 2#32
  let v278 : BitVec 32 := Scalar.addi v116 c2_i32_133
  let v279 : BitVec 32 := Scalar.subi v19 v278
  let v280 : BitVec 32 := Scalar.maxsi v61 v279
  let v281 : BitVec 32 := Scalar.minsi v19 v280
  let c1024_i32_134 : BitVec 32 := 1024#32
  let v282 : BitVec 32 := Scalar.muli v281 c1024_i32_134
  v282
def k0_mult5 (i : grid0.Coords) (k0_t1 : Fin (k0_t1_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_44 : BitVec 32 := 1#32
  let arg9 : BitVec 32 := Scf.iv c0_i32_42 c1_i32_44 k0_t1
  let v116 : BitVec 32 := Scalar.muli c2_i32_53 arg9
  let c1_i32_146 : BitVec 32 := 1#32
  let v294 : BitVec 32 := Scalar.addi v116 c1_i32_146
  let v295 : BitVec 32 := Scalar.subi v19 v294
  let v296 : BitVec 32 := Scalar.maxsi v61 v295
  let v297 : BitVec 32 := Scalar.minsi v19 v296
  let c1024_i32_147 : BitVec 32 := 1024#32
  let v298 : BitVec 32 := Scalar.muli v297 c1024_i32_147
  v298
@[reducible] def k0_t2_loop (i : grid0.Coords) : Scf.Loop 32 :=
  let c0_i32_42 : BitVec 32 := 0#32
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let v106 : BitVec 32 := Scalar.addi c0_i32_42 v105
  let c1_i32_45 : BitVec 32 := 1#32
  ⟨v109, v106, c1_i32_45⟩
def k0_mult6 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg9 : BitVec 32 := Scf.iv v109 c1_i32_45 k0_t2
  let v116 : BitVec 32 := Scalar.muli c2_i32_53 arg9
  let c1_i32_62 : BitVec 32 := 1#32
  let v121 : BitVec 32 := Scalar.addi v116 c1_i32_62
  let v122 : BitVec 32 := Scalar.subi v19 v121
  let v123 : BitVec 32 := Scalar.maxsi v61 v122
  let v124 : BitVec 32 := Scalar.minsi v19 v123
  let c1024_i32_63 : BitVec 32 := 1024#32
  let v125 : BitVec 32 := Scalar.muli v124 c1024_i32_63
  v125
def k0_off4 (i : grid0.Coords) (k0_t2 : Fin (k0_t2_loop i).trips) (c1_i32_62 : BitVec 32) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg9 : BitVec 32 := Scf.iv v109 c1_i32_45 k0_t2
  let v116 : BitVec 32 := Scalar.muli c2_i32_53 arg9
  let v121 : BitVec 32 := Scalar.addi v116 c1_i32_62
  let v122 : BitVec 32 := Scalar.subi v19 v121
  let v123 : BitVec 32 := Scalar.maxsi v61 v122
  let v124 : BitVec 32 := Scalar.minsi v19 v123
  let c1024_i32_63 : BitVec 32 := 1024#32
  let v125 : BitVec 32 := Scalar.muli v124 c1024_i32_63
  let v126 : BitVec 32 := v125
  let v127 : Index := Scalar.indexCast v126
  let c0_64 : Index := 0#32
  ![v127.toNat, 0]
def k0_mult7 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg9 : BitVec 32 := Scf.iv v109 c1_i32_45 k0_t2
  let v116 : BitVec 32 := Scalar.muli c2_i32_53 arg9
  let v137 : BitVec 32 := Scalar.subi v19 v116
  let v138 : BitVec 32 := Scalar.maxsi v61 v137
  let v139 : BitVec 32 := Scalar.minsi v19 v138
  let c1024_i32_75 : BitVec 32 := 1024#32
  let v140 : BitVec 32 := Scalar.muli v139 c1024_i32_75
  v140
def k0_off5 (i : grid0.Coords) (k0_t2 : Fin (k0_t2_loop i).trips) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg9 : BitVec 32 := Scf.iv v109 c1_i32_45 k0_t2
  let v116 : BitVec 32 := Scalar.muli c2_i32_53 arg9
  let v137 : BitVec 32 := Scalar.subi v19 v116
  let v138 : BitVec 32 := Scalar.maxsi v61 v137
  let v139 : BitVec 32 := Scalar.minsi v19 v138
  let c1024_i32_75 : BitVec 32 := 1024#32
  let v140 : BitVec 32 := Scalar.muli v139 c1024_i32_75
  let v141 : BitVec 32 := v140
  let v142 : Index := Scalar.indexCast v141
  let c0_76 : Index := 0#32
  ![v142.toNat, 0]
def k0_mult8 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg9 : BitVec 32 := Scf.iv v109 c1_i32_45 k0_t2
  let v116 : BitVec 32 := Scalar.muli c2_i32_53 arg9
  let c2_i32_133 : BitVec 32 := 2#32
  let v278 : BitVec 32 := Scalar.addi v116 c2_i32_133
  let v279 : BitVec 32 := Scalar.subi v19 v278
  let v280 : BitVec 32 := Scalar.maxsi v61 v279
  let v281 : BitVec 32 := Scalar.minsi v19 v280
  let c1024_i32_134 : BitVec 32 := 1024#32
  let v282 : BitVec 32 := Scalar.muli v281 c1024_i32_134
  v282
def k0_mult9 (i : grid0.Coords) (k0_t2 : Fin (k0_t2_loop i).trips) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let c2_i32_53 : BitVec 32 := 2#32
  let c0_i32_42 : BitVec 32 := 0#32
  let c1_i32_34 : BitVec 32 := 1#32
  let v87 : BitVec 32 := Scalar.addi v19 c1_i32_34
  let c0_i32_35 : BitVec 32 := 0#32
  let v89 : BitVec 1 := Scalar.cmpi .sgt v87 c0_i32_35
  let v90 : BitVec 32 := Scalar.extui v89
  let c0_i32_36 : BitVec 32 := 0#32
  let v91 : BitVec 1 := Scalar.cmpi .slt v87 c0_i32_36
  let v92 : BitVec 32 := Scalar.extui v91
  let v93 : BitVec 32 := Scalar.subi v90 v92
  let c2_i32 : BitVec 32 := 2#32
  let c0_i32_37 : BitVec 32 := 0#32
  let v94 : BitVec 1 := Scalar.cmpi .sgt c2_i32 c0_i32_37
  let v95 : BitVec 32 := Scalar.extui v94
  let c0_i32_38 : BitVec 32 := 0#32
  let v96 : BitVec 1 := Scalar.cmpi .slt c2_i32 c0_i32_38
  let v97 : BitVec 32 := Scalar.extui v96
  let v98 : BitVec 32 := Scalar.subi v95 v97
  let v99 : BitVec 1 := Scalar.cmpi .ne v93 v98
  let v100 : BitVec 32 := Scalar.remsi v87 c2_i32
  let c0_i32_39 : BitVec 32 := 0#32
  let v101 : BitVec 1 := Scalar.cmpi .ne v100 c0_i32_39
  let v102 : BitVec 1 := Scalar.andi v99 v101
  let v88 : BitVec 32 := Scalar.divsi v87 c2_i32
  let c1_i32_40 : BitVec 32 := 1#32
  let v103 : BitVec 32 := Scalar.subi v88 c1_i32_40
  let v104 : BitVec 32 := Scalar.select v102 v103 v88
  let v105 : BitVec 32 := Scalar.subi v104 c0_i32_42
  let c1_i32_43 : BitVec 32 := 1#32
  let v107 : BitVec 32 := Scalar.divsi v105 c1_i32_43
  let v108 : BitVec 32 := Scalar.muli v107 c1_i32_43
  let v109 : BitVec 32 := Scalar.addi c0_i32_42 v108
  let c1_i32_45 : BitVec 32 := 1#32
  let arg9 : BitVec 32 := Scf.iv v109 c1_i32_45 k0_t2
  let v116 : BitVec 32 := Scalar.muli c2_i32_53 arg9
  let c1_i32_146 : BitVec 32 := 1#32
  let v294 : BitVec 32 := Scalar.addi v116 c1_i32_146
  let v295 : BitVec 32 := Scalar.subi v19 v294
  let v296 : BitVec 32 := Scalar.maxsi v61 v295
  let v297 : BitVec 32 := Scalar.minsi v19 v296
  let c1024_i32_147 : BitVec 32 := 1024#32
  let v298 : BitVec 32 := Scalar.muli v297 c1024_i32_147
  v298
def k0_cond1 (i : grid0.Coords) : BitVec 1 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let c2_i32_46 : BitVec 32 := 2#32
  let v110 : BitVec 32 := Scalar.remsi v19 c2_i32_46
  let c0_i32_47 : BitVec 32 := 0#32
  let v111 : BitVec 1 := Scalar.cmpi .eq v110 c0_i32_47
  let v112 : BitVec 32 := Scalar.extui v111
  let c0_i32_48 : BitVec 32 := 0#32
  let v113 : BitVec 1 := Scalar.cmpi .ne v112 c0_i32_48
  v113

def k0_mult10 (i : grid0.Coords) : BitVec 32 :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let v116 : BitVec 32 := Scalar.subi v19 v19
  let v117 : BitVec 32 := Scalar.maxsi v61 v116
  let v118 : BitVec 32 := Scalar.minsi v19 v117
  let c1024_i32_61 : BitVec 32 := 1024#32
  let v123 : BitVec 32 := Scalar.muli v118 c1024_i32_61
  v123
def k0_off6 (i : grid0.Coords) : Fin 2 → Nat :=
  let arg1 : BitVec 32 := BitVec.ofNat 32 (i 1).val
  let c512_i32 : BitVec 32 := 512#32
  let v0 : BitVec 32 := Scalar.muli arg1 c512_i32
  let c512_i32_0 : BitVec 32 := 512#32
  let v1 : BitVec 32 := Scalar.addi v0 c512_i32_0
  let c1_i32 : BitVec 32 := 1#32
  let v2 : BitVec 32 := Scalar.subi v1 c1_i32
  let c0_i32 : BitVec 32 := 0#32
  let v4 : BitVec 1 := Scalar.cmpi .sgt v2 c0_i32
  let v5 : BitVec 32 := Scalar.extui v4
  let c0_i32_1 : BitVec 32 := 0#32
  let v6 : BitVec 1 := Scalar.cmpi .slt v2 c0_i32_1
  let v7 : BitVec 32 := Scalar.extui v6
  let v8 : BitVec 32 := Scalar.subi v5 v7
  let c1024_i32 : BitVec 32 := 1024#32
  let c0_i32_2 : BitVec 32 := 0#32
  let v9 : BitVec 1 := Scalar.cmpi .sgt c1024_i32 c0_i32_2
  let v10 : BitVec 32 := Scalar.extui v9
  let c0_i32_3 : BitVec 32 := 0#32
  let v11 : BitVec 1 := Scalar.cmpi .slt c1024_i32 c0_i32_3
  let v12 : BitVec 32 := Scalar.extui v11
  let v13 : BitVec 32 := Scalar.subi v10 v12
  let v14 : BitVec 1 := Scalar.cmpi .ne v8 v13
  let v15 : BitVec 32 := Scalar.remsi v2 c1024_i32
  let c0_i32_4 : BitVec 32 := 0#32
  let v16 : BitVec 1 := Scalar.cmpi .ne v15 c0_i32_4
  let v17 : BitVec 1 := Scalar.andi v14 v16
  let v3 : BitVec 32 := Scalar.divsi v2 c1024_i32
  let c1_i32_5 : BitVec 32 := 1#32
  let v18 : BitVec 32 := Scalar.subi v3 c1_i32_5
  let v19 : BitVec 32 := Scalar.select v17 v18 v3
  let v61 : BitVec 32 := Scalar.subi v19 v19
  let v116 : BitVec 32 := Scalar.subi v19 v19
  let v117 : BitVec 32 := Scalar.maxsi v61 v116
  let v118 : BitVec 32 := Scalar.minsi v19 v117
  let c1024_i32_61 : BitVec 32 := 1024#32
  let v123 : BitVec 32 := Scalar.muli v118 c1024_i32_61
  let v124 : BitVec 32 := v123
  let v125 : Index := Scalar.indexCast v124
  let c0_62 : Index := 0#32
  ![v125.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ForwardIdeal.lean ====
variable {F : FTy → Type} [FloatOps F] [Named F]
def κ : String → Option EReal := fun
  | "mask" => some ⊥
  | _ => none
-- ==== RefForwardIdeal.lean ====
abbrev S8192x1536 : Shape := ⟨2, ![8192, 1536]⟩
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩

abbrev nBuf : Space → Nat
  | .hbm => 73
  | .vmem => 0
  | .smem => 0
  | _ => 0

abbrev bufTy : (tb : Table) → Fin (tcTables nBuf tb) → BufTy
  | .hbm, ⟨0, _⟩ => ⟨S8192x1536, .bf16⟩
  | .hbm, ⟨1, _⟩ => ⟨S8192x1536, .f32⟩
  | .hbm, ⟨2, _⟩ => ⟨S8192x512, .f32⟩
  | .hbm, ⟨3, _⟩ => ⟨S8192x512, .f32⟩
  | .hbm, ⟨4, _⟩ => ⟨S8192x512, .f32⟩
  | .hbm, ⟨5, _⟩ => ⟨S8192x8x64, .f32⟩
  | .hbm, ⟨6, _⟩ => ⟨S8x8192x64, .f32⟩
  | .hbm, ⟨7, _⟩ => ⟨S8192x8x64, .f32⟩
  | .hbm, ⟨8, _⟩ => ⟨S8x8192x64, .f32⟩
  | .hbm, ⟨9, _⟩ => ⟨S8192x8x64, .f32⟩
  | .hbm, ⟨10, _⟩ => ⟨S8x8192x64, .f32⟩
  | .hbm, ⟨11, _⟩ => ⟨S8x8192x8192, .f32⟩
  | .hbm, ⟨12, _⟩ => ⟨S_, .f32⟩
  | .hbm, ⟨13, _⟩ => ⟨S8x8192x8192, .f32⟩
  | .hbm, ⟨14, _⟩ => ⟨S8x8192x8192, .f32⟩
  | .hbm, ⟨15, _⟩ => ⟨S8192, .i32⟩
  | .hbm, ⟨16, _⟩ => ⟨S1x8192, .i32⟩
  | .hbm, ⟨17, _⟩ => ⟨S8192x1, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S8x8192x8192, .f32⟩
  | .hbm, ⟨39, _⟩ => ⟨S_, .f32⟩
  | .hbm, ⟨40, _⟩ => ⟨S8x8192x8192, .f32⟩
  | .hbm, ⟨41, _⟩ => ⟨S8x8192x8192, .f32⟩
  | .hbm, ⟨42, _⟩ => ⟨S8x8192x8192, .f32⟩
  | .hbm, ⟨43, _⟩ => ⟨S8x8192x8192, .f32⟩
  | .hbm, ⟨44, _⟩ => ⟨S8x8192x8192, .i1⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .f32⟩
  | .hbm, ⟨54, _⟩ => ⟨S_, .f32⟩
  | .hbm, ⟨55, _⟩ => ⟨S_, .f32⟩
  | .hbm, ⟨56, _⟩ => ⟨S8x8192x8192, .i1⟩
  | .hbm, ⟨57, _⟩ => ⟨S8x8192x8192, .f32⟩
  | .hbm, ⟨58, _⟩ => ⟨S8x8192x8192, .f32⟩
  | .hbm, ⟨59, _⟩ => ⟨S_, .f32⟩
  | .hbm, ⟨60, _⟩ => ⟨S_, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S_, .f32⟩
  | .hbm, ⟨67, _⟩ => ⟨S8x8192x8192, .i1⟩
  | .hbm, ⟨68, _⟩ => ⟨S8x8192x8192, .f32⟩
  | .hbm, ⟨69, _⟩ => ⟨S8x8192x8192, .f32⟩
  | .hbm, ⟨70, _⟩ => ⟨S8x8192x64, .f32⟩
  | .hbm, ⟨71, _⟩ => ⟨S8192x8x64, .f32⟩
  | .hbm, ⟨72, _⟩ => ⟨S8192x512, .f32⟩
  | _, _ => ⟨S8192x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_cst : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_v17 : Ref sig .tc := ⟨.hbm, 19, rfl⟩
abbrev main_v18 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v19 : Ref sig .tc := ⟨.hbm, 36, rfl⟩
abbrev main_v20 : Ref sig .tc := ⟨.hbm, 37, rfl⟩
abbrev main_call1_v0 : Ref sig .tc := ⟨.hbm, 38, rfl⟩
abbrev main_call1_call0_cst : Ref sig .tc := ⟨.hbm, 39, rfl⟩
abbrev main_call1_call0_v0 : Ref sig .tc := ⟨.hbm, 40, rfl⟩
abbrev main_call1_call0_v1 : Ref sig .tc := ⟨.hbm, 41, rfl⟩
abbrev main_call1_call0_v2 : Ref sig .tc := ⟨.hbm, 42, rfl⟩
abbrev main_call1_call0_v3 : Ref sig .tc := ⟨.hbm, 43, rfl⟩
abbrev main_call1_call0_v4 : Ref sig .tc := ⟨.hbm, 44, rfl⟩
abbrev main_call1_call0_v5 : Ref sig .tc := ⟨.hbm, 45, rfl⟩
abbrev main_call1_call0_v6 : Ref sig .tc := ⟨.hbm, 46, rfl⟩
abbrev main_call1_call0_v7 : Ref sig .tc := ⟨.hbm, 47, rfl⟩
abbrev main_call1_call0_v8 : Ref sig .tc := ⟨.hbm, 48, rfl⟩
abbrev main_call1_call0_v9 : Ref sig .tc := ⟨.hbm, 49, rfl⟩
abbrev main_call1_call0_v10 : Ref sig .tc := ⟨.hbm, 50, rfl⟩
abbrev main_call1_call0_v11 : Ref sig .tc := ⟨.hbm, 51, rfl⟩
abbrev main_call1_v1 : Ref sig .tc := ⟨.hbm, 52, rfl⟩
abbrev main_v21 : Ref sig .tc := ⟨.hbm, 53, rfl⟩
abbrev main_cst_0 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_v22 : Ref sig .tc := ⟨.hbm, 58, rfl⟩
abbrev main_call3_cst : Ref sig .tc := ⟨.hbm, 59, rfl⟩
abbrev main_call3_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_v30 : Ref sig .tc := ⟨.hbm, 72, rfl⟩

abbrev nD : Nat := 1
abbrev τ : Topo := Topo.v7x

variable {F : FTy → Type} [FloatOps F]
-- ==== GradGate.lean ====
abbrev S8192x1024 : Shape := ⟨2, ![8192, 1024]⟩
abbrev S8192x2816 : Shape := ⟨2, ![8192, 2816]⟩
abbrev S1024x2816 : Shape := ⟨2, ![1024, 2816]⟩
abbrev S512x1024 : Shape := ⟨2, ![512, 1024]⟩
abbrev S512x2816 : Shape := ⟨2, ![512, 2816]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S1024x2816, .f32⟩
  | .local _ .vmem, ⟨0, _⟩ => ⟨S512x1024, .bf16⟩
  | .local _ .vmem, ⟨1, _⟩ => ⟨S512x1024, .bf16⟩
  | .local _ .vmem, ⟨2, _⟩ => ⟨S512x2816, .bf16⟩
  | .local _ .vmem, ⟨3, _⟩ => ⟨S512x2816, .bf16⟩
  | .local _ .vmem, ⟨4, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefGradGateIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradDown.lean ====
abbrev S8192x2816 : Shape := ⟨2, ![8192, 2816]⟩
abbrev S8192x1024 : Shape := ⟨2, ![8192, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩
abbrev S1408x512 : Shape := ⟨2, ![1408, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .f32⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .f32⟩
  | .local _ .vmem, ⟨5, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== RefGradDownIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradOut.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefGradOutIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== GradIn.lean ====
abbrev S8192x1024 : Shape := ⟨2, ![8192, 1024]⟩
abbrev S8192x2560 : Shape := ⟨2, ![8192, 2560]⟩
abbrev S4x1024x640 : Shape := ⟨3, ![4, 1024, 640]⟩
abbrev S512x1024 : Shape := ⟨2, ![512, 1024]⟩
abbrev S512x2560 : Shape := ⟨2, ![512, 2560]⟩
abbrev S1024x512 : Shape := ⟨2, ![1024, 512]⟩
abbrev S1x1024x640 : Shape := ⟨3, ![1, 1024, 640]⟩
abbrev S1024x640 : Shape := ⟨2, ![1024, 640]⟩
abbrev S512x640 : Shape := ⟨2, ![512, 640]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S4x1024x640, .f32⟩
  | .local _ .vmem, ⟨0, _⟩ => ⟨S512x1024, .bf16⟩
  | .local _ .vmem, ⟨1, _⟩ => ⟨S512x1024, .bf16⟩
  | .local _ .vmem, ⟨2, _⟩ => ⟨S512x2560, .bf16⟩
  | .local _ .vmem, ⟨3, _⟩ => ⟨S512x2560, .bf16⟩
  | .local _ .vmem, ⟨4, _⟩ => ⟨S4x1024x640, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x2560 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4x1024x640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== RefGradInIdeal.lean ====
abbrev S8192x1024 : Shape := ⟨2, ![8192, 1024]⟩
abbrev S8192x2560 : Shape := ⟨2, ![8192, 2560]⟩
abbrev S_ : Shape := ⟨0, ![]⟩
abbrev S1024x2560 : Shape := ⟨2, ![1024, 2560]⟩
abbrev S2560x1024 : Shape := ⟨2, ![2560, 1024]⟩
abbrev S1024x4x640 : Shape := ⟨3, ![1024, 4, 640]⟩
abbrev S4x1024x640 : Shape := ⟨3, ![4, 1024, 640]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2560, .bf16⟩
  | .hbm, ⟨2, _⟩ => ⟨S_, .f32⟩
  | .hbm, ⟨3, _⟩ => ⟨S1024x2560, .f32⟩
  | .hbm, ⟨4, _⟩ => ⟨S8192x1024, .f32⟩
  | .hbm, ⟨5, _⟩ => ⟨S8192x2560, .f32⟩
  | .hbm, ⟨6, _⟩ => ⟨S8192x2560, .f32⟩
  | .hbm, ⟨7, _⟩ => ⟨S2560x1024, .f32⟩
  | .hbm, ⟨8, _⟩ => ⟨S1024x2560, .f32⟩
  | .hbm, ⟨9, _⟩ => ⟨S1024x4x640, .f32⟩
  | .hbm, ⟨10, _⟩ => ⟨S4x1024x640, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Ffn.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S1x128 : Shape := ⟨2, ![1, 128]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 14
  | .vmem => 22
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S8192x1024, .bf16⟩
  | .hbm, ⟨8, _⟩ => ⟨S8192x1024, .f32⟩
  | .hbm, ⟨9, _⟩ => ⟨S1x1024, .f32⟩
  | .hbm, ⟨10, _⟩ => ⟨S1x128, .f32⟩
  | .hbm, ⟨11, _⟩ => ⟨S8192x2816, .bf16⟩
  | .hbm, ⟨12, _⟩ => ⟨S8192x2816, .bf16⟩
  | .hbm, ⟨13, _⟩ => ⟨S8192x2816, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1024x2816, .bf16⟩
  | .local _ .vmem, ⟨7, _⟩ => ⟨S1024x2816, .bf16⟩
  | .local _ .vmem, ⟨8, _⟩ => ⟨S2816x1024, .bf16⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .f32⟩
  | .local _ .vmem, ⟨13, _⟩ => ⟨S256x1024, .f32⟩
  | .local _ .vmem, ⟨14, _⟩ => ⟨S1x1024, .f32⟩
  | .local _ .vmem, ⟨15, _⟩ => ⟨S1x128, .f32⟩
  | .local _ .vmem, ⟨16, _⟩ => ⟨S256x2816, .bf16⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev main_v0_5 : Ref sig .tc := ⟨.hbm, 12, rfl⟩
abbrev main_v0_6 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2816 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2816 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2816 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== RefFfnIdeal.lean ====
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x128 : Shape := ⟨2, ![1, 128]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S8192x1024, .f32⟩
  | .hbm, ⟨3, _⟩ => ⟨S1024x2816, .bf16⟩
  | .hbm, ⟨4, _⟩ => ⟨S1024x2816, .bf16⟩
  | .hbm, ⟨5, _⟩ => ⟨S2816x1024, .bf16⟩
  | .hbm, ⟨6, _⟩ => ⟨S1x1024, .f32⟩
  | .hbm, ⟨7, _⟩ => ⟨S8192x1024, .f32⟩
  | .hbm, ⟨8, _⟩ => ⟨S1024x2816, .f32⟩
  | .hbm, ⟨9, _⟩ => ⟨S8192x2816, .f32⟩
  | .hbm, ⟨10, _⟩ => ⟨S1024x2816, .f32⟩
  | .hbm, ⟨11, _⟩ => ⟨S8192x2816, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S2816x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S1024, .f32⟩
  | .hbm, ⟨66, _⟩ => ⟨S1x1024, .f32⟩
  | .hbm, ⟨67, _⟩ => ⟨S1x128, .f32⟩
  | .hbm, ⟨68, _⟩ => ⟨S8192x2816, .bf16⟩
  | .hbm, ⟨69, _⟩ => ⟨S8192x2816, .bf16⟩
  | .hbm, ⟨70, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_cst : Ref sig .tc := ⟨.hbm, 25, rfl⟩
abbrev main_v10 : Ref sig .tc := ⟨.hbm, 26, rfl⟩
abbrev main_v11 : Ref sig .tc := ⟨.hbm, 27, rfl⟩
abbrev main_cst_0 : Ref sig .tc := ⟨.hbm, 28, rfl⟩
abbrev main_v12 : Ref sig .tc := ⟨.hbm, 29, rfl⟩
abbrev main_v13 : Ref sig .tc := ⟨.hbm, 30, rfl⟩
abbrev main_cst_1 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_2 : Ref sig .tc := ⟨.hbm, 42, rfl⟩
abbrev main_v24 : Ref sig .tc := ⟨.hbm, 43, rfl⟩
abbrev main_v25 : Ref sig .tc := ⟨.hbm, 44, rfl⟩
abbrev main_cst_3 : Ref sig .tc := ⟨.hbm, 45, rfl⟩
abbrev main_v26 : Ref sig .tc := ⟨.hbm, 46, rfl⟩
abbrev main_cst_4 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_cst_6 : Ref sig .tc := ⟨.hbm, 52, rfl⟩
abbrev main_v30 : Ref sig .tc := ⟨.hbm, 53, rfl⟩
abbrev main_cst_7 : Ref sig .tc := ⟨.hbm, 54, rfl⟩
abbrev main_cst_8 : Ref sig .tc := ⟨.hbm, 55, rfl⟩
abbrev main_v31 : Ref sig .tc := ⟨.hbm, 56, rfl⟩
abbrev main_v32 : Ref sig .tc := ⟨.hbm, 57, rfl⟩
abbrev main_cst_9 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_10 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩

abbrev nD : Nat := 1
abbrev τ : Topo := Topo.v7x

variable {F : FTy → Type} [FloatOps F]
-- ==== InProj.lean ====
abbrev S8192x1024 : Shape := ⟨2, ![8192, 1024]⟩
abbrev S1x1024 : Shape := ⟨2, ![1, 1024]⟩
abbrev S4x1024x640 : Shape := ⟨3, ![4, 1024, 640]⟩
abbrev S8192x1536 : Shape := ⟨2, ![8192, 1536]⟩
abbrev S512x1024 : Shape := ⟨2, ![512, 1024]⟩
abbrev S512x1536 : Shape := ⟨2, ![512, 1536]⟩
abbrev S512 : Shape := ⟨1, ![512]⟩
abbrev S512x1 : Shape := ⟨2, ![512, 1]⟩
abbrev S1x1024x640 : Shape := ⟨3, ![1, 1024, 640]⟩
abbrev S1024x640 : Shape := ⟨2, ![1024, 640]⟩
abbrev S512x640 : Shape := ⟨2, ![512, 640]⟩
abbrev S512x384 : Shape := ⟨2, ![512, 384]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x640, .bf16⟩
  | .hbm, ⟨3, _⟩ => ⟨S8192x1024, .bf16⟩
  | .hbm, ⟨4, _⟩ => ⟨S8192x1024, .f32⟩
  | .hbm, ⟨5, _⟩ => ⟨S8192x1536, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S4x1024x640, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S512x1536, .bf16⟩
  | .local _ .vmem, ⟨9, _⟩ => ⟨S512x1536, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x640 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1536 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== RefInProjIdeal.lean ====
abbrev S8192x1024 : Shape := ⟨2, ![8192, 1024]⟩
abbrev S1x1024 : Shape := ⟨2, ![1, 1024]⟩
abbrev S4x1024x640 : Shape := ⟨3, ![4, 1024, 640]⟩
abbrev S_ : Shape := ⟨0, ![]⟩
abbrev S8192 : Shape := ⟨1, ![8192]⟩
abbrev S8192x1 : Shape := ⟨2, ![8192, 1]⟩
abbrev S1024x4x640 : Shape := ⟨3, ![1024, 4, 640]⟩
abbrev S1024x2560 : Shape := ⟨2, ![1024, 2560]⟩
abbrev S8192x2560 : Shape := ⟨2, ![8192, 2560]⟩
abbrev S8192x1536 : Shape := ⟨2, ![8192, 1536]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024, .f32⟩
  | .hbm, ⟨2, _⟩ => ⟨S4x1024x640, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S4x1024x640, .f32⟩
  | .hbm, ⟨19, _⟩ => ⟨S1024x4x640, .f32⟩
  | .hbm, ⟨20, _⟩ => ⟨S1024x2560, .f32⟩
  | .hbm, ⟨21, _⟩ => ⟨S8192x2560, .f32⟩
  | .hbm, ⟨22, _⟩ => ⟨S8192x1024, .bf16⟩
  | .hbm, ⟨23, _⟩ => ⟨S8192x1024, .f32⟩
  | .hbm, ⟨24, _⟩ => ⟨S8192x1536, .f32⟩
  | .hbm, ⟨25, _⟩ => ⟨S8192x1536, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]
-- ==== FfnBwd.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S256x2816 : Shape := ⟨2, ![256, 2816]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 17
  | .vmem => 27
  | .smem => 0
  | _ => 0

abbrev bufTy : (tb : Table) → Fin (tcTables nBuf tb) → BufTy
  | .hbm, ⟨0, _⟩ => ⟨S8192x2816, .bf16⟩
  | .hbm, ⟨1, _⟩ => ⟨S8192x2816, .bf16⟩
  | .hbm, ⟨2, _⟩ => ⟨S8192x1024, .bf16⟩
  | .hbm, ⟨3, _⟩ => ⟨S8192x1024, .f32⟩
  | .hbm, ⟨4, _⟩ => ⟨S8192x1024, .f32⟩
  | .hbm, ⟨5, _⟩ => ⟨S8192x1024, .f32⟩
  | .hbm, ⟨6, _⟩ => ⟨S1024x2816, .bf16⟩
  | .hbm, ⟨7, _⟩ => ⟨S1024x2816, .bf16⟩
  | .hbm, ⟨8, _⟩ => ⟨S2816x1024, .bf16⟩
  | .hbm, ⟨9, _⟩ => ⟨S1x1024, .f32⟩
  | .hbm, ⟨10, _⟩ => ⟨S1x1024, .f32⟩
  | .hbm, ⟨11, _⟩ => ⟨S8192x2816, .bf16⟩
  | .hbm, ⟨12, _⟩ => ⟨S8192x2816, .bf16⟩
  | .hbm, ⟨13, _⟩ => ⟨S8192x1024, .f32⟩
  | .hbm, ⟨14, _⟩ => ⟨S8192x1024, .bf16⟩
  | .hbm, ⟨15, _⟩ => ⟨S1x1024, .f32⟩
  | .hbm, ⟨16, _⟩ => ⟨S1x1024, .f32⟩
  | .local _ .vmem, ⟨0, _⟩ => ⟨S256x2816, .bf16⟩
  | .local _ .vmem, ⟨1, _⟩ => ⟨S256x2816, .bf16⟩
  | .local _ .vmem, ⟨2, _⟩ => ⟨S256x2816, .bf16⟩
  | .local _ .vmem, ⟨3, _⟩ => ⟨S256x2816, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S1024x2816, .bf16⟩
  | .local _ .vmem, ⟨13, _⟩ => ⟨S1024x2816, .bf16⟩
  | .local _ .vmem, ⟨14, _⟩ => ⟨S2816x1024, .bf16⟩
  | .local _ .vmem, ⟨15, _⟩ => ⟨S1x1024, .f32⟩
  | .local _ .vmem, ⟨16, _⟩ => ⟨S1x1024, .f32⟩
  | .local _ .vmem, ⟨17, _⟩ => ⟨S256x2816, .bf16⟩
  | .local _ .vmem, ⟨18, _⟩ => ⟨S256x2816, .bf16⟩
  | .local _ .vmem, ⟨19, _⟩ => ⟨S256x2816, .bf16⟩
  | .local _ .vmem, ⟨20, _⟩ => ⟨S256x2816, .bf16⟩
  | .local _ .vmem, ⟨21, _⟩ => ⟨S256x1024, .f32⟩
  | .local _ .vmem, ⟨22, _⟩ => ⟨S256x1024, .f32⟩
  | .local _ .vmem, ⟨23, _⟩ => ⟨S256x1024, .bf16⟩
  | .local _ .vmem, ⟨24, _⟩ => ⟨S256x1024, .bf16⟩
  | .local _ .vmem, ⟨25, _⟩ => ⟨S1x1024, .f32⟩
  | .local _ .vmem, ⟨26, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0_0 : Ref sig .tc := ⟨.hbm, 11, rfl⟩
abbrev main_v0_1 : Ref sig .tc := ⟨.hbm, 12, rfl⟩
abbrev main_v0_2 : Ref sig .tc := ⟨.hbm, 13, rfl⟩
abbrev main_v0_3 : Ref sig .tc := ⟨.hbm, 14, rfl⟩
abbrev main_v0_4 : Ref sig .tc := ⟨.hbm, 15, rfl⟩
abbrev main_v0_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg16_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem16_0 : DmaSem sig := 26

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x2816 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x2816 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2816x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2816 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2816 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== RefFfnBwdIdeal.lean ====
abbrev S8192x2816 : Shape := ⟨2, ![8192, 2816]⟩
abbrev S8192x1024 : Shape := ⟨2, ![8192, 1024]⟩
abbrev S1024x2816 : Shape := ⟨2, ![1024, 2816]⟩
abbrev S2816x1024 : Shape := ⟨2, ![2816, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 136
  | .vmem => 0
  | .smem => 0
  | _ => 0

abbrev hbmTy0_0 (i : Nat) : BufTy := match i % 128 with
  | 0 => ⟨S8192x2816, .bf16⟩
  | 1 => ⟨S8192x2816, .bf16⟩
  | 2 => ⟨S8192x1024, .bf16⟩
  | 3 => ⟨S8192x1024, .f32⟩
  | 4 => ⟨S8192x1024, .f32⟩
  | 5 => ⟨S8192x1024, .f32⟩
  | 6 => ⟨S1024x2816, .bf16⟩
  | 7 => ⟨S1024x2816, .bf16⟩
  | 8 => ⟨S2816x1024, .bf16⟩
  | 9 => ⟨S1x1024, .f32⟩
  | 10 => ⟨S1x1024, .f32⟩
  | 11 => ⟨S1024x2816, .f32⟩
  | 12 => ⟨S1024x2816, .f32⟩
  | 13 => ⟨S2816x1024, .f32⟩
  | 14 => ⟨S_, .f32⟩
  | 15 => ⟨S8192x2816, .f32⟩
  | 16 => ⟨S8192x1024, .f32⟩
  | 17 => ⟨S8192x1024, .f32⟩
  | 18 => ⟨S8192x2816, .f32⟩
  | 19 => ⟨S8192x2816, .f32⟩
  | 20 => ⟨S8192x2816, .f32⟩
  | 21 => ⟨S8192x2816, .f32⟩
  | 22 => ⟨S8192x2816, .f32⟩
  | 23 => ⟨S_, .f32⟩
  | 24 => ⟨S8192x2816, .f32⟩
  | 25 => ⟨S8192x2816, .f32⟩
  | 26 => ⟨S_, .f32⟩
  | 27 => ⟨S8192x2816, .f32⟩
  | 28 => ⟨S8192x2816, .f32⟩
  | 29 => ⟨S_, .f32⟩
  | 30 => ⟨S8192x2816, .f32⟩
  | 31 => ⟨S8192x2816, .f32⟩
  | 32 => ⟨S8192x2816, .f32⟩
  | 33 => ⟨S8192x2816, .f32⟩
  | 34 => ⟨S8192x2816, .f32⟩
  | 35 => ⟨S8192x2816, .f32⟩
  | 36 => ⟨S8192x2816, .f32⟩
  | 37 => ⟨S8192x2816, .f32⟩
  | 38 => ⟨S8192x2816, .f32⟩
  | 39 => ⟨S8192x2816, .f32⟩
  | 40 => ⟨S8192x2816, .f32⟩
  | 41 => ⟨S_, .f32⟩
  | 42 => ⟨S8192x1024, .f32⟩
  | 43 => ⟨S8192x2816, .f32⟩
  | 44 => ⟨S8192x2816, .f32⟩
  | 45 => ⟨S8192x1024, .f32⟩
  | 46 => ⟨S8192x1024, .f32⟩
  | 47 => ⟨S8192x1024, .f32⟩
  | 48 => ⟨S8192x1024, .f32⟩
  | 49 => ⟨S_, .f32⟩
  | 50 => ⟨S8192, .f32⟩
  | 51 => ⟨S8192x1, .f32⟩
  | 52 => ⟨S_, .f32⟩
  | 53 => ⟨S8192x1, .f32⟩
  | 54 => ⟨S8192x1, .f32⟩
  | 55 => ⟨S_, .f32⟩
  | 56 => ⟨S8192x1, .f32⟩
  | 57 => ⟨S8192x1, .f32⟩
  | 58 => ⟨S8192x1, .f32⟩
  | 59 => ⟨S8192x1, .f32⟩
  | 60 => ⟨S_, .f32⟩
  | 61 => ⟨S8192x1, .f32⟩
  | 62 => ⟨S8192x1, .f32⟩
  | 63 => ⟨S8192x1024, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S1024, .f32⟩
  | 70 => ⟨S1x1024, .f32⟩
  | 71 => ⟨S8192x1024, .f32⟩
  | 72 => ⟨S8192x1024, .f32⟩
  | 73 => ⟨S8192x1024, .f32⟩
  | 74 => ⟨S_, .f32⟩
  | 75 => ⟨S8192, .f32⟩
  | 76 => ⟨S8192x1, .f32⟩
  | 77 => ⟨S8192x1024, .f32⟩
  | 78 => ⟨S8192x1024, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192, .f32⟩
  | 85 => ⟨S8192x1024, .f32⟩
  | 86 => ⟨S8192x1024, .f32⟩
  | 87 => ⟨S8192x1024, .f32⟩
  | 88 => ⟨S8192x1024, .f32⟩
  | 89 => ⟨S8192x1024, .f32⟩
  | 90 => ⟨S8192x1024, .f32⟩
  | 91 => ⟨S8192x1024, .f32⟩
  | 92 => ⟨S_, .f32⟩
  | 93 => ⟨S8192, .f32⟩
  | 94 => ⟨S8192x1, .f32⟩
  | 95 => ⟨S_, .f32⟩
  | 96 => ⟨S8192x1, .f32⟩
  | 97 => ⟨S8192x1, .f32⟩
  | 98 => ⟨S_, .f32⟩
  | 99 => ⟨S8192x1, .f32⟩
  | 100 => ⟨S8192x1, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1024, .f32⟩
  | 107 => ⟨S8192x1024, .f32⟩
  | 108 => ⟨S8192x1024, .f32⟩
  | 109 => ⟨S8192x1024, .f32⟩
  | 110 => ⟨S8192x1024, .f32⟩
  | 111 => ⟨S_, .f32⟩
  | 112 => ⟨S1024, .f32⟩
  | 113 => ⟨S1x1024, .f32⟩
  | 114 => ⟨S8192x1024, .f32⟩
  | 115 => ⟨S8192x1024, .f32⟩
  | 116 => ⟨S8192x1024, .f32⟩
  | 117 => ⟨S_, .f32⟩
  | 118 => ⟨S8192, .f32⟩
  | 119 => ⟨S8192x1, .f32⟩
  | 120 => ⟨S8192x1024, .f32⟩
  | 121 => ⟨S8192x1024, .f32⟩
  | 122 => ⟨S8192x1, .f32⟩
  | 123 => ⟨S_, .f32⟩
  | 124 => ⟨S8192x1, .f32⟩
  | 125 => ⟨S8192x1, .f32⟩
  | 126 => ⟨S_, .f32⟩
  | 127 => ⟨S8192, .f32⟩
  | _ => ⟨S8192x2816, .bf16⟩

abbrev hbmTy0_1 (i : Nat) : BufTy := match i % 128 with
  | 0 => ⟨S8192x1024, .f32⟩
  | 1 => ⟨S8192x1024, .f32⟩
  | 2 => ⟨S8192x1024, .f32⟩
  | 3 => ⟨S8192x1024, .f32⟩
  | 4 => ⟨S8192x1024, .f32⟩
  | 5 => ⟨S8192x2816, .bf16⟩
  | 6 => ⟨S8192x2816, .bf16⟩
  | 7 => ⟨S8192x1024, .bf16⟩
  | _ => ⟨S8192x2816, .bf16⟩

abbrev hbmTy (i : Nat) : BufTy := match i / 128 with
  | 0 => hbmTy0_0 i
  | 1 => hbmTy0_1 i
  | _ => ⟨S8192x2816, .bf16⟩

abbrev bufTy : (tb : Table) → Fin (tcTables nBuf tb) → BufTy
  | .hbm, ⟨i, _⟩ => hbmTy i
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call0_v0 : Ref sig .tc := ⟨.hbm, 21, rfl⟩
abbrev main_call0_v1 : Ref sig .tc := ⟨.hbm, 22, rfl⟩
abbrev main_call0_cst : Ref sig .tc := ⟨.hbm, 23, rfl⟩
abbrev main_call0_v2 : Ref sig .tc := ⟨.hbm, 24, rfl⟩
abbrev main_call0_v3 : Ref sig .tc := ⟨.hbm, 25, rfl⟩
abbrev main_call0_cst_0 : Ref sig .tc := ⟨.hbm, 26, rfl⟩
abbrev main_call0_v4 : Ref sig .tc := ⟨.hbm, 27, rfl⟩
abbrev main_v9_2 : Ref sig .tc := ⟨.hbm, 28, rfl⟩
abbrev main_call0_cst_1 : Ref sig .tc := ⟨.hbm, 29, rfl⟩
abbrev main_call0_v6 : Ref sig .tc := ⟨.hbm, 30, rfl⟩
abbrev main_call0_v7 : Ref sig .tc := ⟨.hbm, 31, rfl⟩
abbrev main_v9_1 : Ref sig .tc := ⟨.hbm, 32, rfl⟩
abbrev main_v9_0 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v13 : Ref sig .tc := ⟨.hbm, 40, rfl⟩
abbrev main_cst_0 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_cst_1 : Ref sig .tc := ⟨.hbm, 49, rfl⟩
abbrev main_v21 : Ref sig .tc := ⟨.hbm, 50, rfl⟩
abbrev main_v22 : Ref sig .tc := ⟨.hbm, 51, rfl⟩
abbrev main_cst_2 : Ref sig .tc := ⟨.hbm, 52, rfl⟩
abbrev main_v23 : Ref sig .tc := ⟨.hbm, 53, rfl⟩
abbrev main_v24 : Ref sig .tc := ⟨.hbm, 54, rfl⟩
abbrev main_cst_3 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_cst_4 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_cst_5 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_6 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_cst_7 : Ref sig .tc := ⟨.hbm, 80, rfl⟩
abbrev main_v46 : Ref sig .tc := ⟨.hbm, 81, rfl⟩
abbrev main_v47 : Ref sig .tc := ⟨.hbm, 82, rfl⟩
abbrev main_cst_8 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_cst_9 : Ref sig .tc := ⟨.hbm, 92, rfl⟩
abbrev main_v56 : Ref sig .tc := ⟨.hbm, 93, rfl⟩
abbrev main_v57 : Ref sig .tc := ⟨.hbm, 94, rfl⟩
abbrev main_cst_10 : Ref sig .tc := ⟨.hbm, 95, rfl⟩
abbrev main_v58 : Ref sig .tc := ⟨.hbm, 96, rfl⟩
abbrev main_v59 : Ref sig .tc := ⟨.hbm, 97, rfl⟩
abbrev main_cst_11 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_v63 : Ref sig .tc := ⟨.hbm, 102, rfl⟩
abbrev main_cst_12 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_cst_13 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_cst_14 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_cst_15 : Ref sig .tc := ⟨.hbm, 123, rfl⟩
abbrev main_v81 : Ref sig .tc := ⟨.hbm, 124, rfl⟩
abbrev main_v82 : Ref sig .tc := ⟨.hbm, 125, rfl⟩
abbrev main_cst_16 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩

abbrev nD : Nat := 1
abbrev τ : Topo := Topo.v7x

variable {F : FTy → Type} [FloatOps F]
-- ==== Proof.Offs.lean ====
module

public import proofs.«01_k».proof.Proof.Gen.KernelIdeal.Launch
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.Tactic

/-- The number of tiles before the diagonal tile of the grid point's rows. -/
abbrev lastOf (i : grid0.Coords) : ℕ := (i 1).val / 4

theorem trips1 : ∀ i : grid0.Coords, (k0_t1_loop i).trips = (lastOf i + 1) / 2 := by decide +kernel
theorem trips2 : ∀ i : grid0.Coords, (k0_t2_loop i).trips = 0 := by decide +kernel
theorem trips3 : ∀ i : grid0.Coords, (k0_t3_loop i).trips = lastOf i + 1 := by decide +kernel
theorem trips4 : ∀ i : grid0.Coords, (k0_t4_loop i).trips = 0 := by decide +kernel
theorem off1_eq : ∀ i : grid0.Coords, k0_off1 i = ![lastOf i * 1024, 0] := by decide +kernel
theorem off2a_eq : ∀ (i : grid0.Coords) (k : Fin (k0_t1_loop i).trips), k0_off2 i k 1#32 = ![(lastOf i - (2 * k.val + 1)) * 1024, 0] := by decide +kernel
theorem off2b_eq : ∀ (i : grid0.Coords) (k : Fin (k0_t1_loop i).trips), k0_off2 i k 2#32 = ![(lastOf i - (2 * k.val + 2)) * 1024, 0] := by decide +kernel
theorem off3_eq : ∀ (i : grid0.Coords) (k : Fin (k0_t1_loop i).trips), k0_off3 i k = ![0, lastOf i - 2 * k.val, 0, 0] := by decide +kernel
theorem off4_eq : ∀ (i : grid0.Coords) (k : Fin (k0_t1_loop i).trips), k0_off4 i k = ![1, lastOf i - 2 * k.val, 0, 0] := by decide +kernel
theorem off5_eq : ∀ (i : grid0.Coords) (k : Fin (k0_t1_loop i).trips), k0_off5 i k = ![(lastOf i - 2 * k.val) * 1024, 0] := by decide +kernel
theorem off6_eq : ∀ (i : grid0.Coords) (k : Fin (k0_t1_loop i).trips), k0_off6 i k = ![0, lastOf i - (2 * k.val + 1), 0, 0] := by decide +kernel
theorem off7_eq : ∀ (i : grid0.Coords) (k : Fin (k0_t1_loop i).trips), k0_off7 i k = ![1, lastOf i - (2 * k.val + 1), 0, 0] := by decide +kernel
theorem cond2_iff : ∀ i : grid0.Coords, k0_cond2 i = 1#1 ↔ lastOf i % 2 = 0 := by decide +kernel
theorem off14_eq : ∀ i : grid0.Coords, k0_cond2 i = 1#1 → k0_off14 i = ![0, 0, 0, 0] := by decide +kernel
theorem off15_eq : ∀ i : grid0.Coords, k0_cond2 i = 1#1 → k0_off15 i = ![1, 0, 0, 0] := by decide +kernel
theorem off16_eq : ∀ i : grid0.Coords, k0_cond2 i = 1#1 → k0_off16 i = ![0, 0] := by decide +kernel
theorem off17_eq : ∀ (i : grid0.Coords) (k : Fin (k0_t3_loop i).trips), k0_off17 i k = ![k.val * 1024, 0] := by decide +kernel
theorem off18_eq : ∀ (i : grid0.Coords) (k : Fin (k0_t3_loop i).trips), k0_off18 i k = ![0, k.val, 0, 0] := by decide +kernel
theorem off19_eq : ∀ (i : grid0.Coords) (k : Fin (k0_t3_loop i).trips), k0_off19 i k = ![1, k.val, 0, 0] := by decide +kernel
theorem cond3_iff : ∀ i : grid0.Coords, k0_cond3 i = 1#1 ↔ (i 1).val = 31 := by decide +kernel
theorem off23_eq : ∀ i : grid0.Coords, k0_off23 i = ![0, (i 0).val * 128] := by decide +kernel
end Cert.KernelIdeal.Hand
end
-- ==== Proof.Tile.lean ====
module

public import proofs.«01_k».proof.Proof.Gen.KernelIdeal.Launch
public import Idealize.ShloMosaic.Lib.WritesUnit

@[expose] public section

/-! What one tile of the kernel's two sweeps computes, as functions of the arrays it reads: at any float instance, in the
    operations the body itself uses. A tile has 256 query rows and 1024 keys, and stands for one head. -/

noncomputable section

namespace Cert.KernelIdeal.Hand

open Cert.KernelIdeal Cert.KernelIdeal.Gen
open Idealize.ShloMosaic

variable {F : FTy → Type} [FloatOps F] [Named F]

/-- The number that masks a score. -/
def maskC : F .f32 := Named.named κ "mask" 0xF149F2CA#32

/-- A stored tile, without its two unit axes. -/
def sq (x : Vec F S1x1x256x1024 .f32) : FVec F S256x1024 .f32 := shapeCast S256x1024 x shapeCasts_S1x1x256x1024_S256x1024
/-- A tile as it is stored. -/
def us (x : FVec F S256x1024 .f32) : Vec F S1x1x256x1024 .f32 := shapeCast S1x1x256x1024 x shapeCasts_S256x1024_S1x1x256x1024
/-- A stored column, without its unit axis. -/
def sqr (x : Vec F S1x256x1 .f32) : FVec F S256x1 .f32 := shapeCast S256x1 x shapeCasts_S1x256x1_S256x1
/-- A column as it is stored. -/
def usr (x : FVec F S256x1 .f32) : Vec F S1x256x1 .f32 := shapeCast S1x256x1 x shapeCasts_S256x1_S1x256x1

/-- Rows of `a` times rows of `b`. -/
def nt (a : FVec F S256x128 .bf16) (b : Vec F S1024x128 .bf16) : FVec F S256x1024 .f32 :=
  matmul dot_S256x128_S1024x128_S256x1024_1_1_0_0_n_n none a b (constant S256x1024 .f32 0x00000000#32)
/-- Columns of `a` times columns of `b`. -/
def tn (a : FVec F S256x1024 .bf16) (b : FVec F S256x128 .bf16) : FVec F S1024x128 .f32 :=
  matmul dot_S256x1024_S256x128_S1024x128_0_0_1_1_n_n none a b (constant S1024x128 .f32 0x00000000#32)
/-- The plain product. -/
def nn (a : FVec F S256x1024 .bf16) (b : FVec F S1024x128 .bf16) : FVec F S256x128 .f32 :=
  matmul dot_S256x1024_S1024x128_S256x128_1_0_0_1_n_n none a b (constant S256x128 .f32 0x00000000#32)

/-- The softplus of a tile of scores. -/
def spT (z : FVec F S256x1024 .f32) : FVec F S256x1024 .f32 :=
  addf (maximumf z (broadcast S256x1024 (Scalar.ofBits .f32 0x00000000#32 : F .f32)))
    (log (addf (broadcast S256x1024 (Scalar.ofBits .f32 0x3F800000#32 : F .f32))
      (exp (subf (broadcast S256x1024 (Scalar.ofBits .f32 0x00000000#32 : F .f32)) (absf z)))))

/-- The four blocks of 256 keys. -/
def b0 (x : FVec F S256x1024 .f32) : FVec F S256x256 .f32 := extractStridedSlice S256x256 ![0, 0] x slices_S256x1024_o0_0_S256x256
def b1 (x : FVec F S256x1024 .f32) : FVec F S256x256 .f32 := extractStridedSlice S256x256 ![0, 256] x slices_S256x1024_o0_256_S256x256
def b2 (x : FVec F S256x1024 .f32) : FVec F S256x256 .f32 := extractStridedSlice S256x256 ![0, 512] x slices_S256x1024_o0_512_S256x256
def b3 (x : FVec F S256x1024 .f32) : FVec F S256x256 .f32 := extractStridedSlice S256x256 ![0, 768] x slices_S256x1024_o0_768_S256x256

/-- A running column after a block: its row sums added. -/
def addCol (r : FVec F S256x1 .f32) (b : FVec F S256x256 .f32) : FVec F S256x1 .f32 :=
  addf r (shapeCast S256x1 (multiReduction .add [1] S256 b 0x00000000#32 reduces_S256x256_S256 (.inl rfl) rfl) shapeCasts_S256_S256x1)
/-- A block's running sums: a product with the triangular matrix `m`, and the column before the block. -/
def cumB (m : FVec F S256x256 .bf16) (b : FVec F S256x256 .f32) (r : FVec F S256x1 .f32) : FVec F S256x256 .f32 :=
  addf (matmul dot_S256x256_S256x256_S256x256_1_0_0_1_n_n none (truncf .bf16 b bitsLt_bf16_f32) m (constant S256x256 .f32 0x00000000#32))
    (broadcastTo S256x256 r broadcasts_S256x1_S256x256)
/-- Four blocks side by side. -/
def cat (a b c d : FVec F S256x256 .f32) : FVec F S256x1024 .f32 :=
  concatenate S256x1024 1 [⟨S256x256, a⟩, ⟨S256x256, b⟩, ⟨S256x256, c⟩, ⟨S256x256, d⟩] concatenates_S256x256_S256x256_S256x256_S256x256_S256x1024_d1

/-- Running sums from the last key to the first. -/
def cumS (m : FVec F S256x256 .bf16) (x : FVec F S256x1024 .f32) (r : FVec F S256x1 .f32) : FVec F S256x1024 .f32 :=
  cat (cumB m (b0 x) (addCol (addCol (addCol r (b3 x)) (b2 x)) (b1 x))) (cumB m (b1 x) (addCol (addCol r (b3 x)) (b2 x)))
    (cumB m (b2 x) (addCol r (b3 x))) (cumB m (b3 x) r)
def endS (x : FVec F S256x1024 .f32) (r : FVec F S256x1 .f32) : FVec F S256x1 .f32 :=
  addCol (addCol (addCol (addCol r (b3 x)) (b2 x)) (b1 x)) (b0 x)
/-- Running sums from the first key to the last. -/
def cumP (m : FVec F S256x256 .bf16) (x : FVec F S256x1024 .f32) (r : FVec F S256x1 .f32) : FVec F S256x1024 .f32 :=
  cat (cumB m (b0 x) r) (cumB m (b1 x) (addCol r (b0 x))) (cumB m (b2 x) (addCol (addCol r (b0 x)) (b1 x)))
    (cumB m (b3 x) (addCol (addCol (addCol r (b0 x)) (b1 x)) (b2 x)))
def endP (x : FVec F S256x1024 .f32) (r : FVec F S256x1 .f32) : FVec F S256x1 .f32 :=
  addCol (addCol (addCol (addCol r (b0 x)) (b1 x)) (b2 x)) (b3 x)

/-- The attention weights of a tile, from its scores and the column of sums over the later keys. -/
def aT (m : FVec F S256x256 .bf16) (z : FVec F S256x1024 .f32) (r : FVec F S256x1 .f32) : FVec F S256x1024 .f32 :=
  exp (subf z (cumS m (spT z) r))
/-- A tile's score gradient, before it is scaled: `g − σ·prefix`, from the stored `g` and softplus. -/
def dzT (m : FVec F S256x256 .bf16) (g s : FVec F S256x1024 .f32) (r : FVec F S256x1 .f32) : FVec F S256x1024 .bf16 :=
  truncf .bf16 (subf g (mulf (subf (broadcast S256x1024 (Scalar.ofBits .f32 0x3F800000#32 : F .f32))
    (exp (subf (broadcast S256x1024 (Scalar.ofBits .f32 0x00000000#32 : F .f32)) s))) (cumP m g r))) bitsLt_bf16_f32

/-- The diagonal's mask, of query rows `256·a …` and keys `1024·b …`. -/
def dmask (a b : BitVec 32) : IVec S256x1024 1 :=
  cmpi .slt (addi (iota .tc S256x1024 32 [1] iota_S256x1024_d1_w32) (broadcast S256x1024 (Scalar.muli b 1024#32)))
    (addi (iota .tc S256x1024 32 [0] iota_S256x1024_d0_w32) (broadcast S256x1024 (Scalar.muli a 256#32)))

/-- The column after a tile. -/
def rN (z : Vec F S1x1x256x1024 .f32) (r : Vec F S1x256x1 .f32) : Vec F S1x256x1 .f32 := usr (endS (spT (sq z)) (sqr r))
/-- The stored `g` of a tile. -/
def gN (m : FVec F S256x256 .bf16) (z a : Vec F S1x1x256x1024 .f32) (r : Vec F S1x256x1 .f32) : Vec F S1x1x256x1024 .f32 :=
  us (mulf (aT m (sq z) (sqr r)) (sq a))
/-- The stored softplus of a tile. -/
def sN (z : Vec F S1x1x256x1024 .f32) : Vec F S1x1x256x1024 .f32 := us (spT (sq z))
/-- Zeros of a tile of keys. -/
def zk : FVec F S1024x128 .f32 := broadcast S1024x128 (Scalar.ofBits .f32 0x00000000#32 : F .f32)
/-- A tile of the values' gradient after both heads' weights. -/
def vN (m : FVec F S256x256 .bf16) (z0 z1 : Vec F S1x1x256x1024 .f32) (r0 r1 : Vec F S1x256x1 .f32) (d0 d1 : FVec F S256x128 .bf16) (t : FVec F S1024x128 .f32) :
    FVec F S1024x128 .f32 :=
  shapeCast S1024x128 (addf t (addf (addf zk (tn (truncf .bf16 (aT m (sq z0) (sqr r0)) bitsLt_bf16_f32) d0))
    (tn (truncf .bf16 (aT m (sq z1) (sqr r1)) bitsLt_bf16_f32) d1))) shapeCasts_S1024x128_S1024x128

/-- The keys of a tile, with 0 outside a head's lanes. -/
def kmask (w : IVec S1x128 1) (k : Vec F S1024x128 .bf16) : FVec F S1024x128 .bf16 :=
  select (broadcastTo S1024x128 (shapeCast S1x128 w shapeCasts_S1x128_S1x128) broadcasts_S1x128_S1024x128) k
    (broadcast S1024x128 (Scalar.sitofp .bf16 0#32 : F .bf16))

/-- The column of sums of `g` after a tile. -/
def pN (g : Vec F S1x1x256x1024 .f32) (p : Vec F S1x256x1 .f32) : Vec F S1x256x1 .f32 := usr (endP (sq g) (sqr p))
/-- The queries' gradient after a tile. -/
def qN (w0 w1 : IVec S1x128 1) (k : Vec F S1024x128 .bf16) (x0 x1 : FVec F S256x1024 .bf16) (a : FVec F S256x128 .f32) : FVec F S256x128 .f32 :=
  shapeCast S256x128 (addf (shapeCast S256x128 (addf a (nn x0 (kmask w0 k))) shapeCasts_S256x128_S256x128) (nn x1 (kmask w1 k))) shapeCasts_S256x128_S256x128
/-- A tile of the keys' gradient after both heads. -/
def kN (x0 x1 : FVec F S256x1024 .bf16) (q0 q1 : FVec F S256x128 .bf16) (t : FVec F S1024x128 .f32) : FVec F S1024x128 .f32 :=
  shapeCast S1024x128 (addf t (addf (addf zk (tn x0 q0)) (tn x1 q1))) shapeCasts_S1024x128_S1024x128

section head
variable (m : FVec F S256x256 .bf16) (q d : FVec F S256x128 .bf16) (kt vt : ℕ → Vec F S1024x128 .bf16) (last : ℕ) (ab : BitVec 32 × BitVec 32)

/-- The stored scores of sweep item `n`: the tile `last - n`, the first item masked. -/
def Zs : ℕ → Vec F S1x1x256x1024 .f32
  | 0 => us (select (dmask ab.1 ab.2) (nt q (kt last)) (broadcast S256x1024 maskC))
  | n + 1 => us (nt q (kt (last - (n + 1))))
/-- The stored gradients of the weights of item `n`. -/
def DAs (n : ℕ) : Vec F S1x1x256x1024 .f32 := us (nt d (vt (last - n)))
/-- The column of sums before item `n`. -/
def Rs : ℕ → Vec F S1x256x1 .f32
  | 0 => fun _ => Scalar.ofBits .f32 0x00000000#32
  | n + 1 => rN (Zs q kt last ab n) (Rs n)
/-- The stored `g` of item `n`. -/
def Gs (n : ℕ) : Vec F S1x1x256x1024 .f32 := gN m (Zs q kt last ab n) (DAs d vt last n) (Rs q kt last ab n)
/-- The stored softplus of item `n`. -/
def Ss (n : ℕ) : Vec F S1x1x256x1024 .f32 := sN (Zs q kt last ab n)

/-- The column of sums of `g` before tile `j` of the second sweep. -/
def Ps : ℕ → Vec F S1x256x1 .f32
  | 0 => fun _ => Scalar.ofBits .f32 0x00000000#32
  | j + 1 => pN (Gs m q d kt vt last ab (last - j)) (Ps j)
/-- The score gradient of tile `j`. -/
def Dz (mp : FVec F S256x256 .bf16) (j : ℕ) : FVec F S256x1024 .bf16 :=
  dzT mp (sq (Gs m q d kt vt last ab (last - j))) (sq (Ss q kt last ab (last - j))) (sqr (Ps m q d kt vt last ab j))
end head

section both
variable (m mp : FVec F S256x256 .bf16) (q0 q1 d0 d1 : FVec F S256x128 .bf16) (w0 w1 : IVec S1x128 1)
  (kt vt : ℕ → Vec F S1024x128 .bf16) (last : ℕ) (ab : BitVec 32 × BitVec 32)

/-- The values' gradient on item `n`'s rows, after the item, from what was there. -/
def dvI (t : FVec F S1024x128 .f32) (n : ℕ) : FVec F S1024x128 .f32 :=
  vN m (Zs q0 kt last ab n) (Zs q1 kt last ab n) (Rs q0 kt last ab n) (Rs q1 kt last ab n) d0 d1 t
/-- The keys' gradient on tile `j`'s rows, after the tile, from what was there. -/
def dkI (t : FVec F S1024x128 .f32) (j : ℕ) : FVec F S1024x128 .f32 :=
  kN (Dz m q0 d0 kt vt last ab mp j) (Dz m q1 d1 kt vt last ab mp j) q0 q1 t
/-- The queries' gradient, summed over the tiles before `j`. -/
def dqS : ℕ → FVec F S256x128 .f32
  | 0 => fun _ => Scalar.ofBits .f32 0x00000000#32
  | j + 1 => qN w0 w1 (kt j) (Dz m q0 d0 kt vt last ab mp j) (Dz m q1 d1 kt vt last ab mp j) (dqS j)
end both

/-- The box at `off` of what `f` holds reads `w`. -/
def Is {κ : Kind} {sp : Space} {s : Shape} {e : EltTy} (v : View sig κ sp s e) (f : v.ty.Contents (Elt F)) (off size : Fin s.rank → ℕ)
    (w : (⟨s.rank, size⟩ : Shape).Idx → Elt F e) : Prop :=
  ∀ inb, v.readAt (Elt F) (Rect.unit off size inb).toLoadRect f = w

section
variable {κ : Kind} {sp : Space} {s : Shape} {e : EltTy} {v : View sig κ sp s e} {f : v.ty.Contents (Elt F)}

/-- The box last written reads what was written. -/
theorem Is.hit {off off' size : Fin s.rank → ℕ} {inb : ∀ a, off a + size a ≤ s.size a} {w : (⟨s.rank, size⟩ : Shape).Idx → Elt F e}
    {w' : (⟨s.rank, size⟩ : Shape).Idx → Elt F e} {L : List (View.Piece (Elt F) s e)} (heq : off = off') (hw : w = w') :
    Is v (v.writes (Elt F) f ((⟨Rect.unit off size inb, w⟩ : View.Piece (Elt F) s e) :: L)) off' size w' := by
  subst hw
  intro inb'
  funext x
  exact View.read_writes_cons_unit_of_mem v f inb w L _ x heq (fun a => by
    show off' a + 1 * (x a).val = _
    rw [Nat.one_mul])

/-- A box apart from the last written one reads what was there before. -/
theorem Is.miss {off off₁ off' size size' : Fin s.rank → ℕ} {inb : ∀ a, off a + size a ≤ s.size a} {w : (⟨s.rank, size⟩ : Shape).Idx → Elt F e}
    {w' : (⟨s.rank, size'⟩ : Shape).Idx → Elt F e} {L : List (View.Piece (Elt F) s e)} (heq : off = off₁) (a : Fin s.rank)
    (ha : off' a + size' a ≤ off₁ a ∨ off₁ a + size a ≤ off' a) (h : Is v (v.writes (Elt F) f L) off' size' w') :
    Is v (v.writes (Elt F) f ((⟨Rect.unit off size inb, w⟩ : View.Piece (Elt F) s e) :: L)) off' size' w' := by
  intro inb'
  rw [← h inb']
  funext x
  have hx := (x a).isLt
  refine View.read_writes_cons_unit_of_not_mem v f inb w L _ heq a ?_
  show off' a + 1 * (x a).val < _ ∨ _ ≤ off' a + 1 * (x a).val
  have hx : (x a).val < size' a := hx
  omega

theorem Is.nil {off' size' : Fin s.rank → ℕ} {w' : (⟨s.rank, size'⟩ : Shape).Idx → Elt F e} (h : Is v f off' size' w') :
    Is v (v.writes (Elt F) f []) off' size' w' := h
end

end Cert.KernelIdeal.Hand
end
-- ==== Proof.T1.lean ====
module

public import proofs.«01_k».proof.Proof.Gen.KernelIdeal.Launch
public import proofs.«01_k».proof.Proof.Gen.KernelIdeal.Loops
public import proofs.«01_k».proof.Proof.Offs
public import proofs.«01_k».proof.Proof.Tile
public import Idealize.ShloMosaic.Lib.Pipeline.FrameValue
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

abbrev Pt (c : Dev nD) {sp : Space} {S : Shape} {e : EltTy} (M : Memref sig .tc sp S e) (f : BufTy.Contents (Elt F) M.view.ty) : sProp 𝕄 :=
  M.view.loc (c : Thread nD τ) ↦[M.view.set]{fullShare} f

instance (i : grid0.Coords) (k) : ClosedOff (k0_off2 i k 1#32) := ⟨_, off2a_eq i k⟩
instance (i : grid0.Coords) (k) : ClosedOff (k0_off2 i k 2#32) := ⟨_, off2b_eq i k⟩
instance (i : grid0.Coords) (k) : ClosedOff (k0_off3 i k) := ⟨_, off3_eq i k⟩
instance (i : grid0.Coords) (k) : ClosedOff (k0_off4 i k) := ⟨_, off4_eq i k⟩
instance (i : grid0.Coords) (k) : ClosedOff (k0_off5 i k) := ⟨_, off5_eq i k⟩
instance (i : grid0.Coords) (k) : ClosedOff (k0_off6 i k) := ⟨_, off6_eq i k⟩
instance (i : grid0.Coords) (k) : ClosedOff (k0_off7 i k) := ⟨_, off7_eq i k⟩
/-- What one trip of the first sweep leaves: item `2k` worked from the slot the trip before filled, item `2k + 1` fetched and worked, and
    item `2k + 2` fetched. -/
structure T1Post (i : grid0.Coords) (arg9 arg10 : Memref sig .tc .vmem S2x8x256x1024 .f32) (arg11 : Memref sig .tc .vmem S2x256x1 .f32) (arg14 : Memref sig .tc .vmem S8192x128 .f32) (arg15 arg16 : Memref sig .tc .vmem S2x2x256x1024 .f32)
   (m : FVec F S256x256 .bf16) (q0 q1 d0 d1 : FVec F S256x128 .bf16) (k : Fin (k0_t1_loop i).trips)
   (f9 : BufTy.Contents (Elt F) arg9.view.ty) (f10 : BufTy.Contents (Elt F) arg10.view.ty) (f14 : BufTy.Contents (Elt F) arg14.view.ty)
   (z0 z1 a0 a1 : Vec F S1x1x256x1024 .f32) (r0 r1 : Vec F S1x256x1 .f32) (ka kb va vb : Vec F S1024x128 .bf16) (ta tb : Vec F S1024x128 .f32)
   (f9' : BufTy.Contents (Elt F) arg9.view.ty) (f10' : BufTy.Contents (Elt F) arg10.view.ty) (f11' : BufTy.Contents (Elt F) arg11.view.ty) (f14' : BufTy.Contents (Elt F) arg14.view.ty) (f15' : BufTy.Contents (Elt F) arg15.view.ty) (f16' : BufTy.Contents (Elt F) arg16.view.ty) : Prop where
  hz0 : Is arg15.view f15' ![0, 0, 0, 0] S1x1x256x1024.size (us (nt q0 kb))
  hz1 : Is arg15.view f15' ![0, 1, 0, 0] S1x1x256x1024.size (us (nt q1 kb))
  ha0 : Is arg16.view f16' ![0, 0, 0, 0] S1x1x256x1024.size (us (nt d0 vb))
  ha1 : Is arg16.view f16' ![0, 1, 0, 0] S1x1x256x1024.size (us (nt d1 vb))
  hr0 : Is arg11.view f11' ![0, 0, 0] S1x256x1.size (rN (us (nt q0 ka)) (rN z0 r0))
  hr1 : Is arg11.view f11' ![1, 0, 0] S1x256x1.size (rN (us (nt q1 ka)) (rN z1 r1))
  hg00 : Is arg9.view f9' ![0, lastOf i - 2 * k.val, 0, 0] S1x1x256x1024.size (gN m z0 a0 r0)
  hg10 : Is arg9.view f9' ![1, lastOf i - 2 * k.val, 0, 0] S1x1x256x1024.size (gN m z1 a1 r1)
  hg01 : Is arg9.view f9' ![0, lastOf i - (2 * k.val + 1), 0, 0] S1x1x256x1024.size (gN m (us (nt q0 ka)) (us (nt d0 va)) (rN z0 r0))
  hg11 : Is arg9.view f9' ![1, lastOf i - (2 * k.val + 1), 0, 0] S1x1x256x1024.size (gN m (us (nt q1 ka)) (us (nt d1 va)) (rN z1 r1))
  hg : ∀ h j w, j ≠ lastOf i - 2 * k.val → j ≠ lastOf i - (2 * k.val + 1) →
    Is arg9.view f9 ![h, j, 0, 0] S1x1x256x1024.size w → Is arg9.view f9' ![h, j, 0, 0] S1x1x256x1024.size w
  hs00 : Is arg10.view f10' ![0, lastOf i - 2 * k.val, 0, 0] S1x1x256x1024.size (sN z0)
  hs10 : Is arg10.view f10' ![1, lastOf i - 2 * k.val, 0, 0] S1x1x256x1024.size (sN z1)
  hs01 : Is arg10.view f10' ![0, lastOf i - (2 * k.val + 1), 0, 0] S1x1x256x1024.size (sN (us (nt q0 ka)))
  hs11 : Is arg10.view f10' ![1, lastOf i - (2 * k.val + 1), 0, 0] S1x1x256x1024.size (sN (us (nt q1 ka)))
  hs : ∀ h j w, j ≠ lastOf i - 2 * k.val → j ≠ lastOf i - (2 * k.val + 1) →
    Is arg10.view f10 ![h, j, 0, 0] S1x1x256x1024.size w → Is arg10.view f10' ![h, j, 0, 0] S1x1x256x1024.size w
  hv0 : Is arg14.view f14' ![(lastOf i - 2 * k.val) * 1024, 0] S1024x128.size (vN m z0 z1 r0 r1 d0 d1 ta)
  hv1 : Is arg14.view f14' ![(lastOf i - (2 * k.val + 1)) * 1024, 0] S1024x128.size (vN m (us (nt q0 ka)) (us (nt q1 ka)) (rN z0 r0) (rN z1 r1) d0 d1 tb)
  hv : ∀ j w, j ≠ lastOf i - 2 * k.val → j ≠ lastOf i - (2 * k.val + 1) →
    Is arg14.view f14 ![j * 1024, 0] S1024x128.size w → Is arg14.view f14' ![j * 1024, 0] S1024x128.size w

section
variable (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .hbm S8192x512 .f32) (harg7 : arg7.IsWhole) (arg8 : Memref sig .tc .hbm S8192x512 .f32) (harg8 : arg8.IsWhole) (arg9 : Memref sig .tc .vmem S2x8x256x1024 .f32) (harg9 : arg9.IsWhole) (arg10 : Memref sig .tc .vmem S2x8x256x1024 .f32) (harg10 : arg10.IsWhole) (arg11 : Memref sig .tc .vmem S2x256x1 .f32) (harg11 : arg11.IsWhole) (arg12 : Memref sig .tc .vmem S256x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S2x2x256x1024 .f32) (harg15 : arg15.IsWhole) (arg16 : Memref sig .tc .vmem S2x2x256x1024 .f32) (harg16 : arg16.IsWhole) (arg17 : DmaSems sig S0) (arg18 : DmaSems sig S0) (arg19 : DmaSems sig S0) (v165_r0 : DmaSems sig S_) (v165_r1 : DmaSems sig S_)
 (v19 : BitVec 32) (v28 : FVec F S256x256 .bf16) (v55 v62 : FVec F S256x128 .bf16) (v67 v72 : Vec F S256x128 .bf16) (v81 : BitVec 32) (v89 : Vec F S1024x128 .bf16) (cst_47 : FVec F S256x1024 .f32)
 (X3 : BufTy.Contents (Elt F) arg3.view.ty) (X4 : BufTy.Contents (Elt F) arg4.view.ty)

theorem trip1 (k : Fin (k0_t1_loop i).trips)
   (f9 : BufTy.Contents (Elt F) arg9.view.ty) (f10 : BufTy.Contents (Elt F) arg10.view.ty) (f11 : BufTy.Contents (Elt F) arg11.view.ty) (f14 : BufTy.Contents (Elt F) arg14.view.ty) (f15 : BufTy.Contents (Elt F) arg15.view.ty) (f16 : BufTy.Contents (Elt F) arg16.view.ty)
   (z0 z1 a0 a1 : Vec F S1x1x256x1024 .f32) (r0 r1 : Vec F S1x256x1 .f32) (ka kb va vb : Vec F S1024x128 .bf16) (ta tb : Vec F S1024x128 .f32)
   (hz0 : ∀ inb, arg15.view.readAt (Elt F) (Rect.unit (s := S2x2x256x1024) ![0, 0, 0, 0] S1x1x256x1024.size inb).toLoadRect f15 = z0)
   (hz1 : ∀ inb, arg15.view.readAt (Elt F) (Rect.unit (s := S2x2x256x1024) ![0, 1, 0, 0] S1x1x256x1024.size inb).toLoadRect f15 = z1)
   (ha0 : ∀ inb, arg16.view.readAt (Elt F) (Rect.unit (s := S2x2x256x1024) ![0, 0, 0, 0] S1x1x256x1024.size inb).toLoadRect f16 = a0)
   (ha1 : ∀ inb, arg16.view.readAt (Elt F) (Rect.unit (s := S2x2x256x1024) ![0, 1, 0, 0] S1x1x256x1024.size inb).toLoadRect f16 = a1)
   (hr0 : ∀ inb, arg11.view.readAt (Elt F) (Rect.unit (s := S2x256x1) ![0, 0, 0] S1x256x1.size inb).toLoadRect f11 = r0)
   (hr1 : ∀ inb, arg11.view.readAt (Elt F) (Rect.unit (s := S2x256x1) ![1, 0, 0] S1x256x1.size inb).toLoadRect f11 = r1)
   (hka : ∀ inb, arg3.view.readAt (Elt F) (Rect.unit (s := S8192x128) (k0_off2 i k 1#32) S1024x128.size inb).toLoadRect X3 = ka)
   (hva : ∀ inb, arg4.view.readAt (Elt F) (Rect.unit (s := S8192x128) (k0_off2 i k 1#32) S1024x128.size inb).toLoadRect X4 = va)
   (hkb : ∀ inb, arg3.view.readAt (Elt F) (Rect.unit (s := S8192x128) (k0_off2 i k 2#32) S1024x128.size inb).toLoadRect X3 = kb)
   (hvb : ∀ inb, arg4.view.readAt (Elt F) (Rect.unit (s := S8192x128) (k0_off2 i k 2#32) S1024x128.size inb).toLoadRect X4 = vb)
   (hta : ∀ inb, arg14.view.readAt (Elt F) (Rect.unit (s := S8192x128) (k0_off5 i k) S1024x128.size inb).toLoadRect f14 = ta)
   (htb : Is arg14.view f14 ![(lastOf i - (2 * k.val + 1)) * 1024, 0] S1024x128.size tb) :
  iprop(Pt c arg3 X3 ∗ Pt c arg4 X4 ∗ Pt c arg9 f9 ∗ Pt c arg10 f10 ∗ Pt c arg11 f11 ∗ Pt c arg14 f14 ∗ Pt c arg15 f15 ∗ Pt c arg16 f16)
   ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v19 v28 v55 v62 v67 v72 v81 v89 cst_47 k ())
   (fun _ => iprop(∃ f9' f10' f11' f14' f15' f16', (Pt c arg3 X3 ∗ Pt c arg4 X4 ∗ Pt c arg9 f9' ∗ Pt c arg10 f10' ∗ Pt c arg11 f11' ∗ Pt c arg14 f14' ∗ Pt c arg15 f15' ∗ Pt c arg16 f16')
     ∗ ⌜T1Post i arg9 arg10 arg11 arg14 arg15 arg16 v28 v55 v62 v67 v72 k f9 f10 f14 z0 z1 a0 a1 r0 r1 ka kb va vb ta tb f9' f10' f11' f14' f15' f16'⌝)) := by
  unfold k0_t1_body
  iintro ⟨H3, H4, H9, H10, H11, H14, H15, H16⟩
  sl_exec_parts
  sl_step
  iexists _; iexists _; iexists _; iexists _; iexists _; iexists _
  isplitl [H3 H4 H9 H10 H11 H14 H15 H16]
  · isplitl [H3]; · iexact H3
    isplitl [H4]; · iexact H4
    isplitl [H9]; · iexact H9
    isplitl [H10]; · iexact H10
    isplitl [H11]; · iexact H11
    isplitl [H14]; · iexact H14
    isplitl [H15]; · iexact H15
    iexact H16
  ipureintro
  have hk : 2 * k.val + 1 ≤ lastOf i := by
    have := k.isLt; have e := trips1 i; omega
  have e337 : trip1.sl.v337 arg15 v55 v62 ka = us (nt v55 ka) :=
    (show Is arg15.view (arg15.view.writes (Elt F) _ (trip1.sl.H15_2 v55 v62 ka)) ![1, 0, 0, 0] S1x1x256x1024.size (us (nt v55 ka)) from
    Is.miss rfl 1 (.inl (by decide)) (Is.hit rfl rfl)) _
  have e339 : trip1.sl.v339 arg16 v67 v72 va = us (nt v67 va) :=
    (show Is arg16.view (arg16.view.writes (Elt F) _ (trip1.sl.H16_2 v67 v72 va)) ![1, 0, 0, 0] S1x1x256x1024.size (us (nt v67 va)) from
    Is.miss rfl 1 (.inl (by decide)) (Is.hit rfl rfl)) _
  have e341 : trip1.sl.v341 arg15 v55 v62 ka = us (nt v62 ka) :=
    (show Is arg15.view (arg15.view.writes (Elt F) _ (trip1.sl.H15_2 v55 v62 ka)) ![1, 1, 0, 0] S1x1x256x1024.size (us (nt v62 ka)) from
    Is.hit rfl rfl) _
  have e343 : trip1.sl.v343 arg16 v67 v72 va = us (nt v72 va) :=
    (show Is arg16.view (arg16.view.writes (Elt F) _ (trip1.sl.H16_2 v67 v72 va)) ![1, 1, 0, 0] S1x1x256x1024.size (us (nt v72 va)) from
    Is.hit rfl rfl) _
  have e378 : trip1.sl.v378 arg11 z0 z1 r0 r1 = rN z0 r0 :=
    (show Is arg11.view (arg11.view.writes (Elt F) _ (trip1.sl.H11_2 z0 z1 r0 r1)) ![0, 0, 0] S1x256x1.size (rN z0 r0) from
    Is.miss rfl 0 (.inl (by decide)) (Is.hit rfl rfl)) _
  have e440 : trip1.sl.v440 arg11 arg15 v55 v62 z0 z1 r0 r1 ka = rN z1 r1 :=
    (show Is arg11.view (arg11.view.writes (Elt F) _ (trip1.sl.H11_3 arg11 arg15 v55 v62 z0 z1 r0 r1 ka)) ![1, 0, 0] S1x256x1.size (rN z1 r1) from
    Is.miss rfl 0 (.inr (by decide)) (Is.hit rfl rfl)) _
  have o3 := off3_eq i k
  have o4 := off4_eq i k
  have o5 := off5_eq i k
  have o6 := off6_eq i k
  have o7 := off7_eq i k
  have o2 := off2a_eq i k
  have n1 : ∀ {a b : ℕ}, a ≠ b → a + 1 ≤ b ∨ b + 1 ≤ a := by omega
  have n2 : ∀ {a b : ℕ}, a ≠ b → a * 1024 + 1024 ≤ b * 1024 ∨ b * 1024 + 1024 ≤ a * 1024 := by omega
  have nn : lastOf i - 2 * k.val ≠ lastOf i - (2 * k.val + 1) := by omega
  exact {
    hz0 := Is.miss rfl 1 (.inl (by decide)) (Is.hit rfl rfl)
    hz1 := Is.hit rfl rfl
    ha0 := Is.miss rfl 1 (.inl (by decide)) (Is.hit rfl rfl)
    ha1 := Is.hit rfl rfl
    hr0 := Is.miss rfl 0 (.inl (by decide)) (Is.hit rfl (by rw [← e337, ← e378]; rfl))
    hr1 := Is.hit rfl (by rw [← e341, ← e440]; rfl)
    hg00 := Is.miss o7 0 (.inl (Nat.le_refl 1)) (Is.miss o6 1 (n1 nn) (Is.miss o4 0 (.inl (Nat.le_refl 1)) (Is.hit o3 rfl)))
    hg10 := Is.miss o7 1 (n1 nn) (Is.miss o6 0 (.inr (Nat.le_refl 1)) (Is.hit o4 rfl))
    hg01 := Is.miss o7 0 (.inl (Nat.le_refl 1)) (Is.hit o6 (by rw [← e337, ← e339, ← e378]; rfl))
    hg11 := Is.hit o7 (by rw [← e341, ← e343, ← e440]; rfl)
    hg := fun h j w h0 h1 H => Is.miss o7 1 (n1 h1) (Is.miss o6 1 (n1 h1) (Is.miss o4 1 (n1 h0) (Is.miss o3 1 (n1 h0) H)))
    hs00 := Is.miss o7 0 (.inl (Nat.le_refl 1)) (Is.miss o6 1 (n1 nn) (Is.miss o4 0 (.inl (Nat.le_refl 1)) (Is.hit o3 rfl)))
    hs10 := Is.miss o7 1 (n1 nn) (Is.miss o6 0 (.inr (Nat.le_refl 1)) (Is.hit o4 rfl))
    hs01 := Is.miss o7 0 (.inl (Nat.le_refl 1)) (Is.hit o6 (by rw [← e337]; rfl))
    hs11 := Is.hit o7 (by rw [← e341]; rfl)
    hs := fun h j w h0 h1 H => Is.miss o7 1 (n1 h1) (Is.miss o6 1 (n1 h1) (Is.miss o4 1 (n1 h0) (Is.miss o3 1 (n1 h0) H)))
    hv0 := Is.miss o2 0 (n2 nn) (Is.hit o5 rfl)
    hv1 := Is.hit o2 (by
      have et : ∀ inb, arg14.view.readAt (Elt F) (Rect.unit (s := S8192x128) (k0_off2 i k 1#32) S1024x128.size inb).toLoadRect
          (arg14.view.writes (Elt F) f14 (trip1.sl.H14_1 i v28 v67 v72 k z0 z1 r0 r1 ta)) = tb := by
        rw [o2]
        exact Is.miss o5 0 (n2 nn.symm) htb
      rw [et, ← e337, ← e341, ← e378, ← e440]; rfl)
    hv := fun j w h0 h1 H => Is.miss o2 0 (n2 h1) (Is.miss o5 0 (n2 h0) H) }
end
end Cert.KernelIdeal.Hand
end
-- ==== Proof.Copy.lean ====
module

public import proofs.«01_k».proof.Proof.Gen.KernelIdeal.Launch
public import proofs.«01_k».proof.Proof.Gen.KernelIdeal.Loops
public import proofs.«01_k».proof.Proof.T1

public import proofs.«01_k».proof.Proof.Tile
public import Idealize.ShloMosaic.Lib.Pipeline.FrameValue
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- One synchronous copy of a whole buffer into a box of another: issued on a semaphore at zero and waited for at once, it leaves the
    destination written over the box with what the source reads, and all else as it was. -/
theorem copyOut {sp sp' : Space} {t : Shape} {size : Fin t.rank → ℕ} {e : EltTy} (c : Dev nD) (src : Memref sig .tc sp ⟨t.rank, size⟩ e) (dst : Memref sig .tc sp' t e)
    (off : Fin t.rank → ℕ) (inb : ∀ a, off a + size a ≤ t.size a)
    (sm : DmaSem sig) (h0 : 0 < (⟨t.rank, size⟩ : Shape).numel)
    (h1 : src.view.WordExact) (h2 : (dst.slice (Rect.unit (s := t) off size inb) (fun _ => rfl)).view.WordExact)
    (h3 : DmaTarget.Typed (nD := nD) (τ := τ) (p := .tc) sp (SemLoc.dma sm) (.here (dst.slice (Rect.unit (s := t) off size inb) (fun _ => rfl))))
    (fs : BufTy.Contents (Elt F) src.view.ty) (fd : BufTy.Contents (Elt F) dst.view.ty) (Wt : Waits sig Unit)
    {α : Type} (k : PUnit → Prog (TpuEff nD τ sig (Elt F) Λ₀ .tc) α) (Q : α → sProp 𝕄) :
   iprop(Pt c src fs ∗ Pt c dst fd ∗ semVal ((c : Thread nD τ), SemLoc.dma sm) 0 ∗ owes (c : Thread nD τ) 0 Wt)
   ⊢ iprop((iprop(Pt c src fs ∗ Pt c dst (dst.view.writes (Elt F) fd [⟨Rect.unit (s := t) off size inb, src.view.read (Elt F) fs⟩])
          ∗ semVal ((c : Thread nD τ), SemLoc.dma sm) 0 ∗ owes (c : Thread nD τ) 0 (insert (SemLoc.dma sm, ()) Wt)) -∗
        wp frame (wpE (defs₀ (F := F)) Variants.none (c : Thread nD τ) none) Set.univ (k ⟨⟩) Q) -∗
     wp frame (wpE (defs₀ (F := F)) Variants.none (c : Thread nD τ) none) Set.univ
      (.op (.enqueueDma src (.here (dst.slice (Rect.unit (s := t) off size inb) (fun _ => rfl))) (.dma sm) h1 h2 h3)
        fun _ => .op (.waitDma2 sm src (dst.slice (Rect.unit (s := t) off size inb) (fun _ => rfl)) h1 h2) k) Q) := by
  iintro ⟨H1, H2, HS, HW⟩ Hk
  iapply (Transfers.wp_dmaLocal (countersEmb) Variants.none (c : Thread nD τ) none () _ rfl (View.dmaCredit_pos _ h0) (View.set_slice_subset dst.view _)) $$ [H1 H2 HS]
  · isplitl [H1]; · iexact H1
    isplitl [H2]; · iexact H2
    iexact HS
  iintro HF
  iapply (Transfers.wp_waitLocal (countersEmb) Variants.none (c : Thread nD τ) none () rfl) $$ [HF HW]
  · isplitl [HF]; · iexact HF
    iexact HW
  iintro ⟨⟨H2, H1⟩, HS, HW⟩
  iapply Hk
  isplitl [H1]; · iexact H1
  isplitl [H2]; · iexact H2
  isplitl [HS]; · iexact HS
  iexact HW

/-- After a copy into a box, a smaller box inside it reads what the source's box reads. -/
theorem Is.into {sp sp' : Space} {t : Shape} {size size' : Fin t.rank → ℕ} {e : EltTy} {src : Memref sig .tc sp ⟨t.rank, size⟩ e} {dst : Memref sig .tc sp' t e}
    {off o off' : Fin t.rank → ℕ} {inb : ∀ a, off a + size a ≤ t.size a} {fs : BufTy.Contents (Elt F) src.view.ty} {fd : BufTy.Contents (Elt F) dst.view.ty}
    {w' : (⟨t.rank, size'⟩ : Shape).Idx → Elt F e} (ho : ∀ a, o a + size' a ≤ size a) (heq : ∀ a, off' a = off a + o a)
    (h : Is src.view fs o size' w') : Is dst.view (dst.view.writes (Elt F) fd [⟨Rect.unit (s := t) off size inb, src.view.read (Elt F) fs⟩]) off' size' w' := by
  intro inb'
  rw [← h ho]
  funext x
  refine (View.read_writes_cons_unit_of_mem dst.view fd inb _ [] _ ((Rect.unit (s := ⟨t.rank, size⟩) o size' ho).emb x) rfl (fun a => ?_)).trans rfl
  show off' a + 1 * (x a).val = off a + (o a + 1 * (x a).val)
  rw [heq a, Nat.add_assoc]

end Cert.KernelIdeal.Hand
end
-- ==== Proof.T3.lean ====
module

public import proofs.«01_k».proof.Proof.Gen.KernelIdeal.Launch
public import proofs.«01_k».proof.Proof.Gen.KernelIdeal.Loops
public import proofs.«01_k».proof.Proof.T1
public import proofs.«01_k».proof.Proof.Tile
public import Idealize.ShloMosaic.Lib.Pipeline.FrameValue
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

instance (i : grid0.Coords) (k) : ClosedOff (k0_off17 i k) := ⟨_, off17_eq i k⟩
instance (i : grid0.Coords) (k) : ClosedOff (k0_off18 i k) := ⟨_, off18_eq i k⟩
instance (i : grid0.Coords) (k) : ClosedOff (k0_off19 i k) := ⟨_, off19_eq i k⟩

/-- What one trip of the second sweep leaves: tile `k` worked. -/
structure T3Post (i : grid0.Coords) (arg11 : Memref sig .tc .vmem S2x256x1 .f32) (arg12 : Memref sig .tc .vmem S256x128 .f32) (arg13 : Memref sig .tc .vmem S8192x128 .f32)
   (m : FVec F S256x256 .bf16) (w0 w1 : IVec S1x128 1) (q0 q1 : FVec F S256x128 .bf16) (k : Fin (k0_t3_loop i).trips)
   (f13 : BufTy.Contents (Elt F) arg13.view.ty)
   (g0 g1 s0 s1 : Vec F S1x1x256x1024 .f32) (p0 p1 : Vec F S1x256x1 .f32) (kk : Vec F S1024x128 .bf16) (a : Vec F S256x128 .f32) (t : Vec F S1024x128 .f32)
   (f11' : BufTy.Contents (Elt F) arg11.view.ty) (f12' : BufTy.Contents (Elt F) arg12.view.ty) (f13' : BufTy.Contents (Elt F) arg13.view.ty) : Prop where
  hp0 : Is arg11.view f11' ![0, 0, 0] S1x256x1.size (pN g0 p0)
  hp1 : Is arg11.view f11' ![1, 0, 0] S1x256x1.size (pN g1 p1)
  ha : Is arg12.view f12' ![0, 0] S256x128.size (qN w0 w1 kk (dzT m (sq g0) (sq s0) (sqr p0)) (dzT m (sq g1) (sq s1) (sqr p1)) a)
  ht : Is arg13.view f13' ![k.val * 1024, 0] S1024x128.size (kN (dzT m (sq g0) (sq s0) (sqr p0)) (dzT m (sq g1) (sq s1) (sqr p1)) q0 q1 t)
  h : ∀ j w, j ≠ k.val → Is arg13.view f13 ![j * 1024, 0] S1024x128.size w → Is arg13.view f13' ![j * 1024, 0] S1024x128.size w

section
variable (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .hbm S8192x512 .f32) (harg7 : arg7.IsWhole) (arg8 : Memref sig .tc .hbm S8192x512 .f32) (harg8 : arg8.IsWhole) (arg9 : Memref sig .tc .vmem S2x8x256x1024 .f32) (harg9 : arg9.IsWhole) (arg10 : Memref sig .tc .vmem S2x8x256x1024 .f32) (harg10 : arg10.IsWhole) (arg11 : Memref sig .tc .vmem S2x256x1 .f32) (harg11 : arg11.IsWhole) (arg12 : Memref sig .tc .vmem S256x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S2x2x256x1024 .f32) (harg15 : arg15.IsWhole) (arg16 : Memref sig .tc .vmem S2x2x256x1024 .f32) (harg16 : arg16.IsWhole) (arg17 : DmaSems sig S0) (arg18 : DmaSems sig S0) (arg19 : DmaSems sig S0) (v165_r0 : DmaSems sig S_) (v165_r1 : DmaSems sig S_)
 (v34 : FVec F S256x256 .bf16) (v42 v48 : IVec S1x128 1) (v55 v62 : FVec F S256x128 .bf16)
 (X3 : BufTy.Contents (Elt F) arg3.view.ty)

theorem trip3 (k : Fin (k0_t3_loop i).trips)
   (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty)
   (g0 g1 s0 s1 : Vec F S1x1x256x1024 .f32) (p0 p1 : Vec F S1x256x1 .f32) (kk : Vec F S1024x128 .bf16) (a : Vec F S256x128 .f32) (t : Vec F S1024x128 .f32)
   (hg0 : ∀ inb, arg9.view.readAt (Elt F) (Rect.unit (s := S2x8x256x1024) (k0_off18 i k) S1x1x256x1024.size inb).toLoadRect f9 = g0)
   (hg1 : ∀ inb, arg9.view.readAt (Elt F) (Rect.unit (s := S2x8x256x1024) (k0_off19 i k) S1x1x256x1024.size inb).toLoadRect f9 = g1)
   (hs0 : ∀ inb, arg10.view.readAt (Elt F) (Rect.unit (s := S2x8x256x1024) (k0_off18 i k) S1x1x256x1024.size inb).toLoadRect f10 = s0)
   (hs1 : ∀ inb, arg10.view.readAt (Elt F) (Rect.unit (s := S2x8x256x1024) (k0_off19 i k) S1x1x256x1024.size inb).toLoadRect f10 = s1)
   (hp0 : ∀ inb, arg11.view.readAt (Elt F) (Rect.unit (s := S2x256x1) ![0, 0, 0] S1x256x1.size inb).toLoadRect f11 = p0)
   (hp1 : ∀ inb, arg11.view.readAt (Elt F) (Rect.unit (s := S2x256x1) ![1, 0, 0] S1x256x1.size inb).toLoadRect f11 = p1)
   (hkk : ∀ inb, arg3.view.readAt (Elt F) (Rect.unit (s := S8192x128) (k0_off17 i k) S1024x128.size inb).toLoadRect X3 = kk)
   (ha : ∀ inb, arg12.view.readAt (Elt F) (Rect.unit (s := S256x128) ![0, 0] S256x128.size inb).toLoadRect f12 = a)
   (ht : ∀ inb, arg13.view.readAt (Elt F) (Rect.unit (s := S8192x128) (k0_off17 i k) S1024x128.size inb).toLoadRect f13 = t) :
  iprop(Pt c arg3 X3 ∗ Pt c arg9 f9 ∗ Pt c arg10 f10 ∗ Pt c arg11 f11 ∗ Pt c arg12 f12 ∗ Pt c arg13 f13)
   ⊢ wp frame (wpE (defs₀ (F := F)) Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v34 v42 v48 v55 v62 k ())
   (fun _ => iprop(∃ f11' f12' f13', (Pt c arg3 X3 ∗ Pt c arg9 f9 ∗ Pt c arg10 f10 ∗ Pt c arg11 f11' ∗ Pt c arg12 f12' ∗ Pt c arg13 f13')
     ∗ ⌜T3Post i arg11 arg12 arg13 v34 v42 v48 v55 v62 k f13 g0 g1 s0 s1 p0 p1 kk a t f11' f12' f13'⌝)) := by
  unfold k0_t3_body
  iintro ⟨H3, H9, H10, H11, H12, H13⟩
  sl_exec_parts
  sl_step
  iexists _; iexists _; iexists _
  isplitl [H3 H9 H10 H11 H12 H13]
  · isplitl [H3]; · iexact H3
    isplitl [H9]; · iexact H9
    isplitl [H10]; · iexact H10
    isplitl [H11]; · iexact H11
    isplitl [H12]; · iexact H12
    iexact H13
  ipureintro
  have n2 : ∀ {a b : ℕ}, a ≠ b → a * 1024 + 1024 ≤ b * 1024 ∨ b * 1024 + 1024 ≤ a * 1024 := by omega
  have e286 : trip3.sl.v286 arg12 v34 v42 g0 s0 p0 kk a
      = shapeCast S256x128 (addf a (nn (dzT v34 (sq g0) (sq s0) (sqr p0)) (kmask v42 kk))) shapeCasts_S256x128_S256x128 :=
    (show Is arg12.view (arg12.view.writes (Elt F) _ (trip3.sl.H12_1 v34 v42 g0 s0 p0 kk a)) ![0, 0] S256x128.size _ from Is.hit rfl rfl) _
  exact {
    hp0 := Is.miss rfl 0 (.inl (by decide)) (Is.hit rfl rfl)
    hp1 := Is.hit rfl rfl
    ha := Is.hit rfl (by rw [e286]; rfl)
    ht := Is.hit (off17_eq i k) rfl
    h := fun j w h0 H => Is.miss (off17_eq i k) 0 (n2 h0) H }
end
end Cert.KernelIdeal.Hand
end
-- ==== Proof.Sweep.lean ====
module

public import proofs.«01_k».proof.Proof.Gen.KernelIdeal.Launch
public import proofs.«01_k».proof.Proof.Gen.KernelIdeal.Loops
public import proofs.«01_k».proof.Proof.T1
public import proofs.«01_k».proof.Proof.T3
public import proofs.«01_k».proof.Proof.Tile
public import Idealize.ShloMosaic.Lib.Pipeline.FrameValue
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The tiles of a keys' array. -/
def Tiles {κ : Kind} {sp : Space} {e : EltTy} (v : View sig κ sp S8192x128 e) (f : v.ty.Contents (Elt F)) (t : ℕ → Vec F S1024x128 e) : Prop :=
  ∀ j, j < 8 → Is v f ![j * 1024, 0] S1024x128.size (t j)

section pred
variable (arg9 arg10 : Memref sig .tc .vmem S2x8x256x1024 .f32) (arg11 : Memref sig .tc .vmem S2x256x1 .f32) (arg12 : Memref sig .tc .vmem S256x128 .f32)
  (arg13 arg14 : Memref sig .tc .vmem S8192x128 .f32) (arg15 arg16 : Memref sig .tc .vmem S2x2x256x1024 .f32)
  (m mp : FVec F S256x256 .bf16) (w0 w1 : IVec S1x128 1) (q0 q1 d0 d1 : FVec F S256x128 .bf16) (kt vt : ℕ → Vec F S1024x128 .bf16) (last : ℕ) (ab : BitVec 32 × BitVec 32)
  (T : ℕ → Vec F S1024x128 .f32)

/-- The first slot holds item `n`. -/
structure Fetched (n : ℕ) (f15 : BufTy.Contents (Elt F) arg15.view.ty) (f16 : BufTy.Contents (Elt F) arg16.view.ty) : Prop where
  hz0 : Is arg15.view f15 ![0, 0, 0, 0] S1x1x256x1024.size (Zs q0 kt last ab n)
  hz1 : Is arg15.view f15 ![0, 1, 0, 0] S1x1x256x1024.size (Zs q1 kt last ab n)
  ha0 : Is arg16.view f16 ![0, 0, 0, 0] S1x1x256x1024.size (DAs d0 vt last n)
  ha1 : Is arg16.view f16 ![0, 1, 0, 0] S1x1x256x1024.size (DAs d1 vt last n)

/-- The first sweep's stores, after the items before `n`. -/
structure Swept (n : ℕ) (f9 : BufTy.Contents (Elt F) arg9.view.ty) (f10 : BufTy.Contents (Elt F) arg10.view.ty) (f11 : BufTy.Contents (Elt F) arg11.view.ty)
    (f14 : BufTy.Contents (Elt F) arg14.view.ty) : Prop where
  hr0 : Is arg11.view f11 ![0, 0, 0] S1x256x1.size (Rs q0 kt last ab n)
  hr1 : Is arg11.view f11 ![1, 0, 0] S1x256x1.size (Rs q1 kt last ab n)
  hg0 : ∀ j, j < n → Is arg9.view f9 ![0, last - j, 0, 0] S1x1x256x1024.size (Gs m q0 d0 kt vt last ab j)
  hg1 : ∀ j, j < n → Is arg9.view f9 ![1, last - j, 0, 0] S1x1x256x1024.size (Gs m q1 d1 kt vt last ab j)
  hs0 : ∀ j, j < n → Is arg10.view f10 ![0, last - j, 0, 0] S1x1x256x1024.size (Ss q0 kt last ab j)
  hs1 : ∀ j, j < n → Is arg10.view f10 ![1, last - j, 0, 0] S1x1x256x1024.size (Ss q1 kt last ab j)
  hv : ∀ j, j < n → Is arg14.view f14 ![(last - j) * 1024, 0] S1024x128.size (dvI m q0 q1 d0 d1 kt last ab (T (last - j)) j)
  hv' : ∀ j, j < 8 → (j + n ≤ last ∨ last < j) → Is arg14.view f14 ![j * 1024, 0] S1024x128.size (T j)

/-- The second sweep's stores, after the tiles before `n`. -/
structure Swept2 (n : ℕ) (f11 : BufTy.Contents (Elt F) arg11.view.ty) (f12 : BufTy.Contents (Elt F) arg12.view.ty) (f13 : BufTy.Contents (Elt F) arg13.view.ty) : Prop where
  hp0 : Is arg11.view f11 ![0, 0, 0] S1x256x1.size (Ps m q0 d0 kt vt last ab n)
  hp1 : Is arg11.view f11 ![1, 0, 0] S1x256x1.size (Ps m q1 d1 kt vt last ab n)
  ha : Is arg12.view f12 ![0, 0] S256x128.size (dqS m mp q0 q1 d0 d1 w0 w1 kt vt last ab n)
  hk : ∀ j, j < n → Is arg13.view f13 ![j * 1024, 0] S1024x128.size (dkI m mp q0 q1 d0 d1 kt vt last ab (T j) j)
  hk' : ∀ j, j < 8 → n ≤ j → Is arg13.view f13 ![j * 1024, 0] S1024x128.size (T j)
end pred

section
variable (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .hbm S8192x512 .f32) (harg7 : arg7.IsWhole) (arg8 : Memref sig .tc .hbm S8192x512 .f32) (harg8 : arg8.IsWhole) (arg9 : Memref sig .tc .vmem S2x8x256x1024 .f32) (harg9 : arg9.IsWhole) (arg10 : Memref sig .tc .vmem S2x8x256x1024 .f32) (harg10 : arg10.IsWhole) (arg11 : Memref sig .tc .vmem S2x256x1 .f32) (harg11 : arg11.IsWhole) (arg12 : Memref sig .tc .vmem S256x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S2x2x256x1024 .f32) (harg15 : arg15.IsWhole) (arg16 : Memref sig .tc .vmem S2x2x256x1024 .f32) (harg16 : arg16.IsWhole) (arg17 : DmaSems sig S0) (arg18 : DmaSems sig S0) (arg19 : DmaSems sig S0) (v165_r0 : DmaSems sig S_) (v165_r1 : DmaSems sig S_)
 (v19 : BitVec 32) (v28 v34 : FVec F S256x256 .bf16) (v42 v48 : IVec S1x128 1) (v55 v62 : FVec F S256x128 .bf16) (v67 v72 : Vec F S256x128 .bf16) (v81 : BitVec 32) (v89 : Vec F S1024x128 .bf16) (cst_47 : FVec F S256x1024 .f32)
 (X3 : BufTy.Contents (Elt F) arg3.view.ty) (X4 : BufTy.Contents (Elt F) arg4.view.ty) (kt vt : ℕ → Vec F S1024x128 .bf16) (ab : BitVec 32 × BitVec 32) (T : ℕ → Vec F S1024x128 .f32)
 (hkt : Tiles arg3.view X3 kt) (hvt : Tiles arg4.view X4 vt)

/-- The first sweep's state after `n` items. -/
def I1 (n : ℕ) : sProp 𝕄 :=
  iprop(∃ f9 f10 f11 f14 f15 f16, (Pt c arg3 X3 ∗ Pt c arg4 X4 ∗ Pt c arg9 f9 ∗ Pt c arg10 f10 ∗ Pt c arg11 f11 ∗ Pt c arg14 f14 ∗ Pt c arg15 f15 ∗ Pt c arg16 f16)
    ∗ ⌜Fetched arg15 arg16 v55 v62 v67 v72 kt vt (lastOf i) ab n f15 f16 ∧ Swept arg9 arg10 arg11 arg14 v28 v55 v62 v67 v72 kt vt (lastOf i) ab T n f9 f10 f11 f14⌝)

include hkt hvt in
theorem step1 (k : Fin (k0_t1_loop i).trips) :
   I1 c i arg3 arg4 arg9 arg10 arg11 arg14 arg15 arg16 v28 v55 v62 v67 v72 X3 X4 kt vt ab T (2 * k.val)
   ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v19 v28 v55 v62 v67 v72 v81 v89 cst_47 k ())
   (fun _ => I1 c i arg3 arg4 arg9 arg10 arg11 arg14 arg15 arg16 v28 v55 v62 v67 v72 X3 X4 kt vt ab T (2 * (k.val + 1))) := by
  unfold I1
  iintro ⟨%f9, %f10, %f11, %f14, %f15, %f16, H, %h⟩
  obtain ⟨hf, hs⟩ := h
  have hk : 2 * k.val + 1 ≤ lastOf i := by
    have := k.isLt; have e := trips1 i; omega
  have hl : lastOf i < 8 := by
    have : (i 1).val < 32 := (i 1).isLt
    show (i 1).val / 4 < 8; omega
  iapply (wp_wand_r frame (wpE (defs₀ (F := F)) Variants.none (c : Thread nD τ) none) Set.univ)
  isplitl [H]
  · iapply (trip1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v19 v28 v55 v62 v67 v72 v81 v89 cst_47 X3 X4 k f9 f10 f11 f14 f15 f16
      _ _ _ _ _ _ (kt (lastOf i - (2 * k.val + 1))) (kt (lastOf i - (2 * k.val + 2))) (vt (lastOf i - (2 * k.val + 1))) (vt (lastOf i - (2 * k.val + 2)))
      (T (lastOf i - 2 * k.val)) (T (lastOf i - (2 * k.val + 1))) hf.hz0 hf.hz1 hf.ha0 hf.ha1 hs.hr0 hs.hr1
      (by rw [off2a_eq]; exact hkt _ (by omega)) (by rw [off2a_eq]; exact hvt _ (by omega)) (by rw [off2b_eq]; exact hkt _ (by omega)) (by rw [off2b_eq]; exact hvt _ (by omega))
      (by rw [off5_eq]; exact hs.hv' _ (by omega) (.inl (by omega))) (hs.hv' _ (by omega) (.inl (by omega))))
    iexact H
  iintro %_ ⟨%f9', %f10', %f11', %f14', %f15', %f16', H, %hp⟩
  iexists f9'; iexists f10'; iexists f11'; iexists f14'; iexists f15'; iexists f16'
  isplitl [H]; · iexact H
  ipureintro
  refine ⟨⟨hp.hz0, hp.hz1, hp.ha0, hp.ha1⟩, ⟨hp.hr0, hp.hr1, ?_, ?_, ?_, ?_, ?_, ?_⟩⟩
  · intro j hj
    obtain h | rfl | rfl : j < 2 * k.val ∨ j = 2 * k.val ∨ j = 2 * k.val + 1 := by omega
    · exact hp.hg _ _ _ (by omega) (by omega) (hs.hg0 j h)
    · exact hp.hg00
    · exact hp.hg01
  · intro j hj
    obtain h | rfl | rfl : j < 2 * k.val ∨ j = 2 * k.val ∨ j = 2 * k.val + 1 := by omega
    · exact hp.hg _ _ _ (by omega) (by omega) (hs.hg1 j h)
    · exact hp.hg10
    · exact hp.hg11
  · intro j hj
    obtain h | rfl | rfl : j < 2 * k.val ∨ j = 2 * k.val ∨ j = 2 * k.val + 1 := by omega
    · exact hp.hs _ _ _ (by omega) (by omega) (hs.hs0 j h)
    · exact hp.hs00
    · exact hp.hs01
  · intro j hj
    obtain h | rfl | rfl : j < 2 * k.val ∨ j = 2 * k.val ∨ j = 2 * k.val + 1 := by omega
    · exact hp.hs _ _ _ (by omega) (by omega) (hs.hs1 j h)
    · exact hp.hs10
    · exact hp.hs11
  · intro j hj
    obtain h | rfl | rfl : j < 2 * k.val ∨ j = 2 * k.val ∨ j = 2 * k.val + 1 := by omega
    · exact hp.hv _ _ (by omega) (by omega) (hs.hv j h)
    · exact hp.hv0
    · exact hp.hv1
  · intro j hj h
    exact hp.hv _ _ (by omega) (by omega) (hs.hv' j hj (by omega))

/-- The second sweep's state after `n` tiles. -/
def I3 (f9 : BufTy.Contents (Elt F) arg9.view.ty) (f10 : BufTy.Contents (Elt F) arg10.view.ty) (n : ℕ) : sProp 𝕄 :=
  iprop(∃ f11 f12 f13, (Pt c arg3 X3 ∗ Pt c arg9 f9 ∗ Pt c arg10 f10 ∗ Pt c arg11 f11 ∗ Pt c arg12 f12 ∗ Pt c arg13 f13)
    ∗ ⌜Swept2 arg11 arg12 arg13 v28 v34 v42 v48 v55 v62 v67 v72 kt vt (lastOf i) ab T n f11 f12 f13⌝)

include hkt in
theorem step3 (f9 : BufTy.Contents (Elt F) arg9.view.ty) (f10 : BufTy.Contents (Elt F) arg10.view.ty)
   (hg0 : ∀ j, j ≤ lastOf i → Is arg9.view f9 ![0, lastOf i - j, 0, 0] S1x1x256x1024.size (Gs v28 v55 v67 kt vt (lastOf i) ab j))
   (hg1 : ∀ j, j ≤ lastOf i → Is arg9.view f9 ![1, lastOf i - j, 0, 0] S1x1x256x1024.size (Gs v28 v62 v72 kt vt (lastOf i) ab j))
   (hs0 : ∀ j, j ≤ lastOf i → Is arg10.view f10 ![0, lastOf i - j, 0, 0] S1x1x256x1024.size (Ss v55 kt (lastOf i) ab j))
   (hs1 : ∀ j, j ≤ lastOf i → Is arg10.view f10 ![1, lastOf i - j, 0, 0] S1x1x256x1024.size (Ss v62 kt (lastOf i) ab j))
   (k : Fin (k0_t3_loop i).trips) :
   I3 c i arg3 arg9 arg10 arg11 arg12 arg13 v28 v34 v42 v48 v55 v62 v67 v72 X3 kt vt ab T f9 f10 k.val
   ⊢ wp frame (wpE (defs₀ (F := F)) Variants.none (c : Thread nD τ) none) Set.univ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v34 v42 v48 v55 v62 k ())
   (fun _ => I3 c i arg3 arg9 arg10 arg11 arg12 arg13 v28 v34 v42 v48 v55 v62 v67 v72 X3 kt vt ab T f9 f10 (k.val + 1)) := by
  unfold I3
  iintro ⟨%f11, %f12, %f13, H, %hs⟩
  have hk : k.val ≤ lastOf i := by
    have := k.isLt; have e := trips3 i; omega
  have hl : lastOf i < 8 := by
    have : (i 1).val < 32 := (i 1).isLt
    show (i 1).val / 4 < 8; omega
  have ek : lastOf i - (lastOf i - k.val) = k.val := by omega
  have hle : lastOf i - k.val ≤ lastOf i := by omega
  have g0 := hg0 (lastOf i - k.val) hle
  have g1 := hg1 (lastOf i - k.val) hle
  have s0 := hs0 (lastOf i - k.val) hle
  have s1 := hs1 (lastOf i - k.val) hle
  rw [ek] at g0 g1 s0 s1
  iapply (wp_wand_r frame (wpE (defs₀ (F := F)) Variants.none (c : Thread nD τ) none) Set.univ)
  isplitl [H]
  · iapply (trip3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v34 v42 v48 v55 v62 X3 k f9 f10 f11 f12 f13
      _ _ _ _ _ _ (kt k.val) _ (T k.val) (by rw [off18_eq]; exact g0) (by rw [off19_eq]; exact g1) (by rw [off18_eq]; exact s0) (by rw [off19_eq]; exact s1) hs.hp0 hs.hp1
      (by rw [off17_eq]; exact hkt _ (by omega)) hs.ha (by rw [off17_eq]; exact hs.hk' _ (by omega) le_rfl))
    iexact H
  iintro %_ ⟨%f11', %f12', %f13', H, %hp⟩
  iexists f11'; iexists f12'; iexists f13'
  isplitl [H]; · iexact H
  ipureintro
  refine ⟨hp.hp0, hp.hp1, hp.ha, ?_, ?_⟩
  · intro j hj
    obtain h | rfl : j < k.val ∨ j = k.val := by omega
    · exact hp.h _ _ (by omega) (hs.hk j h)
    · exact hp.ht
  · intro j hj h
    exact hp.h _ _ (by omega) (hs.hk' j hj (by omega))
end
end Cert.KernelIdeal.Hand
end
-- ==== Proof.Part31.lean ====
module

public import proofs.«01_k».proof.Proof.Gen.KernelIdeal.Launch
public import proofs.«01_k».proof.Proof.Gen.KernelIdeal.Loops
public import proofs.«01_k».proof.Proof.T1
public import proofs.«01_k».proof.Proof.Sweep
public import proofs.«01_k».proof.Proof.Tile
public import Idealize.ShloMosaic.Lib.Pipeline.FrameValue
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

section
variable (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .hbm S8192x512 .f32) (harg7 : arg7.IsWhole) (arg8 : Memref sig .tc .hbm S8192x512 .f32) (harg8 : arg8.IsWhole) (arg9 : Memref sig .tc .vmem S2x8x256x1024 .f32) (harg9 : arg9.IsWhole) (arg10 : Memref sig .tc .vmem S2x8x256x1024 .f32) (harg10 : arg10.IsWhole) (arg11 : Memref sig .tc .vmem S2x256x1 .f32) (harg11 : arg11.IsWhole) (arg12 : Memref sig .tc .vmem S256x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S2x2x256x1024 .f32) (harg15 : arg15.IsWhole) (arg16 : Memref sig .tc .vmem S2x2x256x1024 .f32) (harg16 : arg16.IsWhole) (arg17 : DmaSems sig S0) (arg18 : DmaSems sig S0) (arg19 : DmaSems sig S0) (v165_r0 : DmaSems sig S_) (v165_r1 : DmaSems sig S_)
 (v19 : BitVec 32) (v28 : FVec F S256x256 .bf16) (v55 v62 : FVec F S256x128 .bf16) (v67 v72 : Vec F S256x128 .bf16) (v81 : BitVec 32) (cst_47 : FVec F S256x1024 .f32)
 (X3 : BufTy.Contents (Elt F) arg3.view.ty) (X4 : BufTy.Contents (Elt F) arg4.view.ty) (kt vt : ℕ → Vec F S1024x128 .bf16) (ab : BitVec 32 × BitVec 32) (T : ℕ → Vec F S1024x128 .f32)
 (hkt : Tiles arg3.view X3 kt) (hvt : Tiles arg4.view X4 vt)

include hkt hvt in
/-- The first sweep: every tile up to the diagonal worked. -/
theorem part31
   (f9 : BufTy.Contents (Elt F) arg9.view.ty) (f10 : BufTy.Contents (Elt F) arg10.view.ty) (f11 : BufTy.Contents (Elt F) arg11.view.ty) (f14 : BufTy.Contents (Elt F) arg14.view.ty) (f15 : BufTy.Contents (Elt F) arg15.view.ty) (f16 : BufTy.Contents (Elt F) arg16.view.ty)
   (hz0 : Is arg15.view f15 ![0, 0, 0, 0] S1x1x256x1024.size (Zs v55 kt (lastOf i) ab 0))
   (hz1 : Is arg15.view f15 ![0, 1, 0, 0] S1x1x256x1024.size (Zs v62 kt (lastOf i) ab 0))
   (ha0 : Is arg16.view f16 ![0, 0, 0, 0] S1x1x256x1024.size (DAs v67 vt (lastOf i) 0))
   (hr0 : Is arg11.view f11 ![0, 0, 0] S1x256x1.size (Rs v55 kt (lastOf i) ab 0))
   (hr1 : Is arg11.view f11 ![1, 0, 0] S1x256x1.size (Rs v62 kt (lastOf i) ab 0))
   (hT : Tiles arg14.view f14 T) :
   iprop(Pt c arg3 X3 ∗ Pt c arg4 X4 ∗ Pt c arg9 f9 ∗ Pt c arg10 f10 ∗ Pt c arg11 f11 ∗ Pt c arg14 f14 ∗ Pt c arg15 f15 ∗ Pt c arg16 f16)
   ⊢ wp frame (wpE (defs₀ (F := F)) Variants.none (c : Thread nD τ) none) Set.univ (k0_part31_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v19 v28 v55 v62 v67 v72 v81 (vt (lastOf i)) (constant S256x1024 .f32 0x00000000#32))
   (fun r => iprop(∃ f9' f10' f11' f14' f15' f16', (Pt c arg3 X3 ∗ Pt c arg4 X4 ∗ Pt c arg9 f9' ∗ Pt c arg10 f10' ∗ Pt c arg11 f11' ∗ Pt c arg14 f14' ∗ Pt c arg15 f15' ∗ Pt c arg16 f16')
     ∗ ⌜r = k0_pay293 ∧ Swept arg9 arg10 arg11 arg14 v28 v55 v62 v67 v72 kt vt (lastOf i) ab T (lastOf i + 1) f9' f10' f11' f14'⌝)) := by
  unfold k0_part31_skel
  have htr2 := trips2 i
  iintro ⟨H3, H4, H9, H10, H11, H14, H15, H16⟩
  sl_exec_parts
  sl_for (fun n _ => I1 c i arg3 arg4 arg9 arg10 arg11 arg14 arg15 arg16 v28 v55 v62 v67 v72 X3 X4 kt vt ab T (2 * n)) $$ [H3 H4 H9 H10 H11 H14 H15 H16]
  · intro k acc
    exact step1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v19 v28 v55 v62 v67 v72 v81 _ _ X3 X4 kt vt ab T hkt hvt k
  · unfold I1
    iexists _; iexists _; iexists _; iexists _; iexists _; iexists _
    isplitl [H3 H4 H9 H10 H11 H14 H15 H16]
    · isplitl [H3]; · iexact H3
      isplitl [H4]; · iexact H4
      isplitl [H9]; · iexact H9
      isplitl [H10]; · iexact H10
      isplitl [H11]; · iexact H11
      isplitl [H14]; · iexact H14
      isplitl [H15]; · iexact H15
      iexact H16
    ipureintro
    exact ⟨⟨hz0, hz1, Is.miss rfl 1 (.inl (Nat.le_refl 1)) (Is.nil ha0), Is.hit rfl rfl⟩,
      ⟨hr0, hr1, fun j hj => absurd hj (Nat.not_lt_zero j), fun j hj => absurd hj (Nat.not_lt_zero j), fun j hj => absurd hj (Nat.not_lt_zero j), fun j hj => absurd hj (Nat.not_lt_zero j), fun j hj => absurd hj (Nat.not_lt_zero j),
        fun j hj _ => hT j hj⟩⟩
  · iintro %_ H
    unfold I1
    icases H with ⟨%f9, %f10, %f11, %f14, %f15, %f16, H, %h⟩
    have e1 : 2 * Scf.trips (k0_t1_loop i).lb (k0_t1_loop i).ub (k0_t1_loop i).st = 2 * ((lastOf i + 1) / 2) := congrArg (2 * ·) (trips1 i)
    rw [e1] at h
    obtain ⟨hf, hs⟩ := h
    icases H with ⟨H3, H4, H9, H10, H11, H14, H15, H16⟩
    by_cases hc : lastOf i % 2 = 0
    · have h2 := (cond2_iff i).2 hc
      have hn : 2 * ((lastOf i + 1) / 2) = lastOf i := by omega
      rw [hn] at hf hs
      have hz0 : ∀ inb, arg15.view.readAt (Elt F) (Rect.unit (s := S2x2x256x1024) ![0, 0, 0, 0] S1x1x256x1024.size inb).toLoadRect f15 = _ := hf.hz0
      have hz1 : ∀ inb, arg15.view.readAt (Elt F) (Rect.unit (s := S2x2x256x1024) ![0, 1, 0, 0] S1x1x256x1024.size inb).toLoadRect f15 = _ := hf.hz1
      have ha0 : ∀ inb, arg16.view.readAt (Elt F) (Rect.unit (s := S2x2x256x1024) ![0, 0, 0, 0] S1x1x256x1024.size inb).toLoadRect f16 = _ := hf.ha0
      have ha1 : ∀ inb, arg16.view.readAt (Elt F) (Rect.unit (s := S2x2x256x1024) ![0, 1, 0, 0] S1x1x256x1024.size inb).toLoadRect f16 = _ := hf.ha1
      have hr0 : ∀ inb, arg11.view.readAt (Elt F) (Rect.unit (s := S2x256x1) ![0, 0, 0] S1x256x1.size inb).toLoadRect f11 = _ := hs.hr0
      have hr1 : ∀ inb, arg11.view.readAt (Elt F) (Rect.unit (s := S2x256x1) ![1, 0, 0] S1x256x1.size inb).toLoadRect f11 = _ := hs.hr1
      have e16 := off16_eq i h2
      have hta : ∀ inb, arg14.view.readAt (Elt F) (Rect.unit (s := S8192x128) (k0_off16 i) S1024x128.size inb).toLoadRect f14 = T 0 := by
        rw [e16]; exact hs.hv' 0 (by omega) (.inl (by omega))
      sl_exec_parts
      sl_step
      iexists _; iexists _; iexists _; iexists _; iexists _; iexists _
      isplitl [H3 H4 H9 H10 H11 H14 H15 H16]
      · isplitl [H3]; · iexact H3
        isplitl [H4]; · iexact H4
        isplitl [H9]; · iexact H9
        isplitl [H10]; · iexact H10
        isplitl [H11]; · iexact H11
        isplitl [H14]; · iexact H14
        isplitl [H15]; · iexact H15
        iexact H16
      ipureintro
      have e14 := off14_eq i h2
      have e15 := off15_eq i h2
      have hsub : ∀ j, j < lastOf i → 0 + 1 ≤ lastOf i - j := fun j hj => by omega
      refine ⟨rfl, ⟨?_, ?_, ?_, ?_, ?_, ?_, ?_, ?_⟩⟩
      · exact Is.miss rfl 0 (.inl (Nat.le_refl 1)) (Is.hit rfl rfl)
      · exact Is.hit rfl rfl
      · intro j hj
        obtain h | rfl : j < lastOf i ∨ j = lastOf i := by omega
        · exact Is.miss e15 0 (.inl (Nat.le_refl 1)) (Is.miss e14 1 (.inr (hsub j h)) (Is.nil (hs.hg0 j h)))
        · rw [Nat.sub_self]
          exact Is.miss e15 0 (.inl (Nat.le_refl 1)) (Is.hit e14 rfl)
      · intro j hj
        obtain h | rfl : j < lastOf i ∨ j = lastOf i := by omega
        · exact Is.miss e15 1 (.inr (hsub j h)) (Is.miss e14 1 (.inr (hsub j h)) (Is.nil (hs.hg1 j h)))
        · rw [Nat.sub_self]
          exact Is.hit e15 rfl
      · intro j hj
        obtain h | rfl : j < lastOf i ∨ j = lastOf i := by omega
        · exact Is.miss e15 0 (.inl (Nat.le_refl 1)) (Is.miss e14 1 (.inr (hsub j h)) (Is.nil (hs.hs0 j h)))
        · rw [Nat.sub_self]
          exact Is.miss e15 0 (.inl (Nat.le_refl 1)) (Is.hit e14 rfl)
      · intro j hj
        obtain h | rfl : j < lastOf i ∨ j = lastOf i := by omega
        · exact Is.miss e15 1 (.inr (hsub j h)) (Is.miss e14 1 (.inr (hsub j h)) (Is.nil (hs.hs1 j h)))
        · rw [Nat.sub_self]
          exact Is.hit e15 rfl
      · intro j hj
        obtain h | rfl : j < lastOf i ∨ j = lastOf i := by omega
        · exact Is.miss e16 0 (.inr (by show 0 + 1024 ≤ (lastOf i - j) * 1024; have := hsub j h; omega)) (Is.nil (hs.hv j h))
        · rw [Nat.sub_self]
          exact Is.hit (e16.trans (by rw [Nat.zero_mul])) rfl
      · intro j hj h
        exact Is.miss e16 0 (.inr (by show 0 + 1024 ≤ j * 1024; omega)) (Is.nil (hs.hv' j hj (by omega)))
    · have h2 : ¬ k0_cond2 i = 1#1 := fun h => hc ((cond2_iff i).1 h)
      have hn : 2 * ((lastOf i + 1) / 2) = lastOf i + 1 := by omega
      rw [hn] at hf hs
      sl_exec_parts
      sl_step
      iexists _; iexists _; iexists _; iexists _; iexists _; iexists _
      isplitl [H3 H4 H9 H10 H11 H14 H15 H16]
      · isplitl [H3]; · iexact H3
        isplitl [H4]; · iexact H4
        isplitl [H9]; · iexact H9
        isplitl [H10]; · iexact H10
        isplitl [H11]; · iexact H11
        isplitl [H14]; · iexact H14
        isplitl [H15]; · iexact H15
        iexact H16
      ipureintro
      exact ⟨rfl, hs⟩
end
end Cert.KernelIdeal.Hand
end
-- ==== Proof.Front.lean ====
module

public import proofs.«01_k».proof.Proof.Gen.KernelIdeal.Launch
public import proofs.«01_k».proof.Proof.Gen.KernelIdeal.Loops
public import proofs.«01_k».proof.Proof.T1
public import proofs.«01_k».proof.Proof.Part31
public import proofs.«01_k».proof.Proof.Tile
public import Idealize.ShloMosaic.Lib.Pipeline.FrameValue
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- After a store of one value everywhere, every box reads that value. -/
theorem Is.const {κ : Kind} {sp : Space} {s : Shape} {e : EltTy} {v : View sig κ sp s e} {f : v.ty.Contents (Elt F)} {off off' size' : Fin s.rank → ℕ}
    {inb : ∀ a, off a + s.size a ≤ s.size a} {a : Elt F e} {L : List (View.Piece (Elt F) s e)} (heq : ∀ b, off b = 0) :
    Is v (v.writes (Elt F) f ((⟨Rect.unit off s.size inb, fun _ => a⟩ : View.Piece (Elt F) s e) :: L)) off' size' (fun _ => a) := by
  intro inb'
  funext x
  exact View.read_writes_cons_unit_of_mem v f inb (fun _ => a) L _
    (fun b => ⟨off' b + (x b).val, by have := inb' b; show _ < s.size b; have : (x b).val < size' b := (x b).isLt; omega⟩) (funext fun b => heq b) (fun b => by
    show off' b + 1 * (x b).val = 0 + (off' b + (x b).val)
    rw [Nat.one_mul, Nat.zero_add])

/-- The last tile of a block of queries, as a word. -/
def lastW (i : grid0.Coords) : BitVec 32 := BitVec.ofNat 32 (lastOf i)
/-- A tile of zeros. -/
def zt : Vec F S1024x128 .f32 := fun _ => Scalar.ofBits .f32 0x00000000#32
/-- What a block of queries finds of the gradients: zeros for the first block. -/
def baseT (i : grid0.Coords) (T : ℕ → Vec F S1024x128 .f32) : ℕ → Vec F S1024x128 .f32 := if (i 1).val = 0 then fun _ => zt else T

theorem guard_iff (i : grid0.Coords) : (Scalar.cmpi .ne (Scalar.extui (Scalar.cmpi .eq (BitVec.ofNat 32 (i 1).val) 0#32) : BitVec 32) 0#32 = 1#1) ↔ (i 1).val = 0 := by
  have h : ∀ n : Fin 32, (Scalar.cmpi .ne (Scalar.extui (Scalar.cmpi .eq (BitVec.ofNat 32 n.val) 0#32) : BitVec 32) 0#32 = 1#1) ↔ n.val = 0 := by decide +kernel
  exact h (i 1)

/-- The division by the tile's width, as printed. -/
def lastP (a : BitVec 32) : BitVec 32 :=
  let v2 := Scalar.subi (Scalar.addi (Scalar.muli a 256#32) 256#32) 1#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 1024#32 0#32)) (Scalar.extui (Scalar.cmpi .slt 1024#32 0#32))
  let v3 := Scalar.divsi v2 1024#32
  Scalar.select (Scalar.andi (Scalar.cmpi .ne v8 v13) (Scalar.cmpi .ne (Scalar.remsi v2 1024#32) 0#32)) (Scalar.subi v3 1#32) v3

theorem lastW_eq (i : grid0.Coords) : lastP (BitVec.ofNat 32 (i 1).val) = lastW i := by
  have h : ∀ n : Fin 32, lastP (BitVec.ofNat 32 n.val) = BitVec.ofNat 32 (n.val / 4) := by decide +kernel
  exact h (i 1)

section
variable (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .hbm S8192x512 .f32) (harg7 : arg7.IsWhole) (arg8 : Memref sig .tc .hbm S8192x512 .f32) (harg8 : arg8.IsWhole) (arg9 : Memref sig .tc .vmem S2x8x256x1024 .f32) (harg9 : arg9.IsWhole) (arg10 : Memref sig .tc .vmem S2x8x256x1024 .f32) (harg10 : arg10.IsWhole) (arg11 : Memref sig .tc .vmem S2x256x1 .f32) (harg11 : arg11.IsWhole) (arg12 : Memref sig .tc .vmem S256x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S2x2x256x1024 .f32) (harg15 : arg15.IsWhole) (arg16 : Memref sig .tc .vmem S2x2x256x1024 .f32) (harg16 : arg16.IsWhole) (arg17 : DmaSems sig S0) (arg18 : DmaSems sig S0) (arg19 : DmaSems sig S0) (v165_r0 : DmaSems sig S_) (v165_r1 : DmaSems sig S_)

theorem part28
   (f13 : BufTy.Contents (Elt F) arg13.view.ty) (f14 : BufTy.Contents (Elt F) arg14.view.ty)
   (X2 : BufTy.Contents (Elt F) arg2.view.ty) (X5 : BufTy.Contents (Elt F) arg5.view.ty) (x2 x5 : Vec F S256x128 .bf16) (T13 T14 : ℕ → Vec F S1024x128 .f32)
   (hx2 : ∀ inb, arg2.view.readAt (Elt F) (Rect.unit (s := S256x128) ![0, 0] S256x128.size inb).toLoadRect X2 = x2)
   (hx5 : ∀ inb, arg5.view.readAt (Elt F) (Rect.unit (s := S256x128) ![0, 0] S256x128.size inb).toLoadRect X5 = x5)
   (h13 : (i 1).val ≠ 0 → Tiles arg13.view f13 T13) (h14 : (i 1).val ≠ 0 → Tiles arg14.view f14 T14) :
   iprop(Pt c arg2 X2 ∗ Pt c arg5 X5 ∗ Pt c arg13 f13 ∗ Pt c arg14 f14)
   ⊢ wp frame (wpE (defs₀ (F := F)) Variants.none (c : Thread nD τ) none) Set.univ (k0_part28_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1)
   (fun r => iprop(∃ f13' f14', (Pt c arg2 X2 ∗ Pt c arg5 X5 ∗ Pt c arg13 f13' ∗ Pt c arg14 f14')
     ∗ ⌜r = ⟨BitVec.ofNat 32 (i 0).val, BitVec.ofNat 32 (i 1).val, lastW i, k0_pay269 (F := F), k0_pay270 (F := F), x2, x5, iota .tc S1x128 32 [1] iota_S1x128_d1_w32, k0_pay271⟩
        ∧ Tiles arg13.view f13' (baseT i T13) ∧ Tiles arg14.view f14' (baseT i T14)⌝)) := by
  unfold k0_part28_skel
  have hg := guard_iff i
  iintro ⟨H2, H5, H13, H14⟩
  by_cases h0 : (i 1).val = 0
  · have hg := hg.2 h0
    sl_exec_parts
    sl_step
    iexists _; iexists _
    isplitl [H2 H5 H13 H14]
    · isplitl [H2]; · iexact H2
      isplitl [H5]; · iexact H5
      isplitl [H13]; · iexact H13
      iexact H14
    ipureintro
    refine ⟨?_, ?_, ?_⟩
    · exact congrArg (fun w : BitVec 32 => (⟨BitVec.ofNat 32 (i 0).val, BitVec.ofNat 32 (i 1).val, w, k0_pay269 (F := F), k0_pay270 (F := F), x2, x5, iota .tc S1x128 32 [1] iota_S1x128_d1_w32, k0_pay271⟩ :
        Σ' (arg0 : BitVec 32) (arg1 : BitVec 32) (v19 : BitVec 32) (v28 : FVec F S256x256 .bf16) (v34 : FVec F S256x256 .bf16) (v35 : Vec F S256x128 .bf16) (v36 : Vec F S256x128 .bf16) (v37 : IVec S1x128 32), IVec S1x128 1)) (lastW_eq i)
    · intro j hj; unfold baseT; rw [if_pos h0]; exact Is.const (by decide)
    · intro j hj; unfold baseT; rw [if_pos h0]; exact Is.const (by decide)
  · have hg : ¬ _ := fun h => h0 (hg.1 h)
    sl_exec_parts
    sl_step
    iexists _; iexists _
    isplitl [H2 H5 H13 H14]
    · isplitl [H2]; · iexact H2
      isplitl [H5]; · iexact H5
      isplitl [H13]; · iexact H13
      iexact H14
    ipureintro
    refine ⟨?_, ?_, ?_⟩
    · exact congrArg (fun w : BitVec 32 => (⟨BitVec.ofNat 32 (i 0).val, BitVec.ofNat 32 (i 1).val, w, k0_pay269 (F := F), k0_pay270 (F := F), x2, x5, iota .tc S1x128 32 [1] iota_S1x128_d1_w32, k0_pay271⟩ :
        Σ' (arg0 : BitVec 32) (arg1 : BitVec 32) (v19 : BitVec 32) (v28 : FVec F S256x256 .bf16) (v34 : FVec F S256x256 .bf16) (v35 : Vec F S256x128 .bf16) (v36 : Vec F S256x128 .bf16) (v37 : IVec S1x128 32), IVec S1x128 1)) (lastW_eq i)
    · unfold baseT; rw [if_neg h0]; exact h13 h0
    · unfold baseT; rw [if_neg h0]; exact h14 h0

theorem part29 (v19 : BitVec 32) (v35 v36 : Vec F S256x128 .bf16) (v37 : IVec S1x128 32) (v39 : IVec S1x128 1)
   (f11 : BufTy.Contents (Elt F) arg11.view.ty) (f12 : BufTy.Contents (Elt F) arg12.view.ty) :
   iprop(Pt c arg11 f11 ∗ Pt c arg12 f12)
   ⊢ wp frame (wpE (defs₀ (F := F)) Variants.none (c : Thread nD τ) none) Set.univ (k0_part29_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 v19 v35 v36 v37 v39)
   (fun r => iprop(∃ f11' f12', (Pt c arg11 f11' ∗ Pt c arg12 f12')
     ∗ ⌜r = ⟨k0_pay272 v37 v39, k0_pay273, k0_pay274 v35 v37 v39, k0_pay275 v35, k0_pay276 v36 v37 v39, k0_pay277 v36, Scalar.subi v19 v19⟩
        ∧ (∀ off, Is arg11.view f11' off S1x256x1.size (fun _ => Scalar.ofBits .f32 0x00000000#32)) ∧ Is arg12.view f12' ![0, 0] S256x128.size (fun _ => Scalar.ofBits .f32 0x00000000#32)⌝)) := by
  unfold k0_part29_skel
  iintro ⟨H11, H12⟩
  sl_exec_parts
  sl_step
  iexists _; iexists _
  isplitl [H11 H12]
  · isplitl [H11]; · iexact H11
    iexact H12
  ipureintro
  exact ⟨rfl, fun off => Is.const (by decide), Is.hit rfl rfl⟩

theorem part30 (v55 v62 : FVec F S256x128 .bf16) (v67 : Vec F S256x128 .bf16)
   (X3 : BufTy.Contents (Elt F) arg3.view.ty) (X4 : BufTy.Contents (Elt F) arg4.view.ty) (kt vt : ℕ → Vec F S1024x128 .bf16)
   (hkt : Tiles arg3.view X3 kt) (hvt : Tiles arg4.view X4 vt)
   (f15 : BufTy.Contents (Elt F) arg15.view.ty) (f16 : BufTy.Contents (Elt F) arg16.view.ty) :
   iprop(Pt c arg3 X3 ∗ Pt c arg4 X4 ∗ Pt c arg15 f15 ∗ Pt c arg16 f16)
   ⊢ wp frame (wpE (defs₀ (F := F)) Variants.none (c : Thread nD τ) none) Set.univ (k0_part30_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 (BitVec.ofNat 32 (i 1).val) (lastW i) v55 v62 v67)
   (fun r => iprop(∃ f15' f16', (Pt c arg3 X3 ∗ Pt c arg4 X4 ∗ Pt c arg15 f15' ∗ Pt c arg16 f16')
     ∗ ⌜r = ⟨vt (lastOf i), constant S256x1024 .f32 0x00000000#32⟩
        ∧ Is arg15.view f15' ![0, 0, 0, 0] S1x1x256x1024.size (Zs v55 kt (lastOf i) (BitVec.ofNat 32 (i 1).val, lastW i) 0)
        ∧ Is arg15.view f15' ![0, 1, 0, 0] S1x1x256x1024.size (Zs v62 kt (lastOf i) (BitVec.ofNat 32 (i 1).val, lastW i) 0)
        ∧ Is arg16.view f16' ![0, 0, 0, 0] S1x1x256x1024.size (DAs v67 vt (lastOf i) 0)⌝)) := by
  unfold k0_part30_skel
  iintro ⟨H3, H4, H15, H16⟩
  have hl : lastOf i < 8 := by
    have : (i 1).val < 32 := (i 1).isLt
    show (i 1).val / 4 < 8; omega
  have hk : ∀ inb, arg3.view.readAt (Elt F) (Rect.unit (s := S8192x128) (k0_off1 i) S1024x128.size inb).toLoadRect X3 = kt (lastOf i) := by
    rw [off1_eq]; exact hkt _ hl
  have hv : ∀ inb, arg4.view.readAt (Elt F) (Rect.unit (s := S8192x128) (k0_off1 i) S1024x128.size inb).toLoadRect X4 = vt (lastOf i) := by
    rw [off1_eq]; exact hvt _ hl
  sl_exec_parts
  sl_step
  iexists _; iexists _
  isplitl [H3 H4 H15 H16]
  · isplitl [H3]; · iexact H3
    isplitl [H4]; · iexact H4
    isplitl [H15]; · iexact H15
    iexact H16
  ipureintro
  exact ⟨rfl, Is.miss rfl 1 (.inl (Nat.le_refl 1)) (Is.hit rfl rfl), Is.hit rfl rfl, Is.hit rfl rfl⟩
end
end Cert.KernelIdeal.Hand
end
-- ==== Proof.Body.lean ====
module

public import proofs.«01_k».proof.Proof.Gen.KernelIdeal.Launch
public import proofs.«01_k».proof.Proof.Gen.KernelIdeal.Loops
public import proofs.«01_k».proof.Proof.Copy
public import proofs.«01_k».proof.Proof.Front
public import proofs.«01_k».proof.Proof.Part31
public import Idealize.ShloMosaic.Lib.Pipeline.FrameValue
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (Pipeline.UD sig nD τ) ℕ

/-- The lane numbers of a block of queries. -/
def lanes : IVec S1x128 32 := iota .tc S1x128 32 [1] iota_S1x128_d1_w32
/-- The lanes of the first head of the pair, and the block's numbers. -/
def lo : IVec S1x128 1 := k0_pay272 lanes k0_pay271
/-- The lanes of the second head of the pair. -/
def hi : IVec S1x128 1 := k0_pay273
/-- The first head's queries of a block. -/
def qa (x : Vec F S256x128 .bf16) : FVec F S256x128 .bf16 := k0_pay274 x lanes k0_pay271
/-- The second head's queries of a block. -/
def qb (x : Vec F S256x128 .bf16) : FVec F S256x128 .bf16 := k0_pay275 x
/-- The first head's output gradients of a block. -/
def da (x : Vec F S256x128 .bf16) : FVec F S256x128 .bf16 := k0_pay276 x lanes k0_pay271
/-- The second head's output gradients of a block. -/
def db (x : Vec F S256x128 .bf16) : FVec F S256x128 .bf16 := k0_pay277 x

section
variable (i : grid0.Coords) (x2 x5 : Vec F S256x128 .bf16) (kt vt : ℕ → Vec F S1024x128 .bf16)
/-- The block's number and its last tile's, as words. -/
def abOf : BitVec 32 × BitVec 32 := (BitVec.ofNat 32 (i 1).val, lastW i)
/-- The keys' gradient after a block of queries, by tiles, from what it was. -/
def newK (T : ℕ → Vec F S1024x128 .f32) (j : ℕ) : Vec F S1024x128 .f32 :=
  if j ≤ lastOf i then dkI k0_pay269 k0_pay270 (qa x2) (qb x2) (da x5) (db x5) kt vt (lastOf i) (abOf i) (baseT i T j) j else baseT i T j
/-- The values' gradient after a block of queries, by tiles, from what it was. -/
def newV (T : ℕ → Vec F S1024x128 .f32) (j : ℕ) : Vec F S1024x128 .f32 :=
  if j ≤ lastOf i then dvI k0_pay269 (qa x2) (qb x2) (da x5) (db x5) kt (lastOf i) (abOf i) (baseT i T j) (lastOf i - j) else baseT i T j
/-- The queries' gradient of a block. -/
def outQ : FVec F S256x128 .f32 :=
  k0_pay8 (dqS k0_pay269 k0_pay270 (qa x2) (qb x2) (da x5) (db x5) lo hi kt vt (lastOf i) (abOf i) (lastOf i + 1))
end

/-- What a point leaves of a table of gradients in memory: at a head's last block its columns are the tiles, all others as before; at any other point all as before. -/
def Sent (i : grid0.Coords) (M : Memref sig .tc .hbm S8192x512 .f32) (f f' : BufTy.Contents (Elt F) M.view.ty) (T : ℕ → Vec F S1024x128 .f32) : Prop :=
  if (i 1).val = 31 then
    (∀ j, j < 8 → Is M.view f' ![j * 1024, (i 0).val * 128] S1024x128.size (T j)) ∧
    (∀ (off : Fin S8192x512.rank → ℕ) (w : Vec F S1024x128 .f32), (off 1 + 128 ≤ (i 0).val * 128 ∨ (i 0).val * 128 + 128 ≤ off 1) → Is M.view f off S1024x128.size w → Is M.view f' off S1024x128.size w)
  else f' = f

/-- The counters of the two copies and the debts, kept together. -/
def Cells (c : Dev nD) (s0 s1 : DmaSem sig) (W : Waits sig Unit) : sProp 𝕄 :=
  iprop(semVal ((c : Thread nD τ), SemLoc.dma s0) 0 ∗ semVal ((c : Thread nD τ), SemLoc.dma s1) 0 ∗ owes (c : Thread nD τ) 0 W)

section
variable (c : Dev nD) (i : grid0.Coords) (arg2 : Memref sig .tc .vmem S256x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S256x128 .bf16) (harg5 : arg5.IsWhole) (arg6 : Memref sig .tc .vmem S256x128 .f32) (harg6 : arg6.IsWhole) (arg7 : Memref sig .tc .hbm S8192x512 .f32) (harg7 : arg7.IsWhole) (arg8 : Memref sig .tc .hbm S8192x512 .f32) (harg8 : arg8.IsWhole) (arg9 : Memref sig .tc .vmem S2x8x256x1024 .f32) (harg9 : arg9.IsWhole) (arg10 : Memref sig .tc .vmem S2x8x256x1024 .f32) (harg10 : arg10.IsWhole) (arg11 : Memref sig .tc .vmem S2x256x1 .f32) (harg11 : arg11.IsWhole) (arg12 : Memref sig .tc .vmem S256x128 .f32) (harg12 : arg12.IsWhole) (arg13 : Memref sig .tc .vmem S8192x128 .f32) (harg13 : arg13.IsWhole) (arg14 : Memref sig .tc .vmem S8192x128 .f32) (harg14 : arg14.IsWhole) (arg15 : Memref sig .tc .vmem S2x2x256x1024 .f32) (harg15 : arg15.IsWhole) (arg16 : Memref sig .tc .vmem S2x2x256x1024 .f32) (harg16 : arg16.IsWhole) (arg17 : DmaSems sig S0) (arg18 : DmaSems sig S0) (arg19 : DmaSems sig S0) (v165_r0 : DmaSems sig S_) (v165_r1 : DmaSems sig S_)

theorem sent_of (hc : k0_cond3 i = 1#1) (src : Memref sig .tc .vmem S8192x128 .f32) (M : Memref sig .tc .hbm S8192x512 .f32)
   (f : BufTy.Contents (Elt F) M.view.ty) (g : BufTy.Contents (Elt F) src.view.ty) (T : ℕ → Vec F S1024x128 .f32) (hT : Tiles src.view g T) :
   Sent i M f (M.view.writes (Elt F) f [⟨Rect.unit (s := S8192x512) (k0_off23 i) S8192x128.size (k0_off23_inb i hc), src.view.read (Elt F) g⟩]) T := by
  have h31 := (cond3_iff i).1 hc
  unfold Sent
  rw [if_pos h31]
  have e := off23_eq i
  refine ⟨fun j hj => ?_, fun off w h hw => ?_⟩
  · refine Is.into (t := S8192x512) (size := S8192x128.size) (o := ![j * 1024, 0]) ?_ ?_ (hT j hj)
    · intro a
      fin_cases a
      · show j * 1024 + 1024 ≤ 8192; omega
      · show 0 + 128 ≤ 128; omega
    · intro a
      rw [e]
      fin_cases a
      · show j * 1024 = 0 + j * 1024; omega
      · rfl
  · exact Is.miss e 1 h (Is.nil hw)

/-- One point of the grid: a block of queries against every tile up to its diagonal, both ways. -/
theorem body (X2 : BufTy.Contents (Elt F) arg2.view.ty) (X3 : BufTy.Contents (Elt F) arg3.view.ty) (X4 : BufTy.Contents (Elt F) arg4.view.ty) (X5 : BufTy.Contents (Elt F) arg5.view.ty)
   (f6 : BufTy.Contents (Elt F) arg6.view.ty) (f7 : BufTy.Contents (Elt F) arg7.view.ty) (f8 : BufTy.Contents (Elt F) arg8.view.ty)
   (f9 : BufTy.Contents (Elt F) arg9.view.ty) (f10 : BufTy.Contents (Elt F) arg10.view.ty) (f11 : BufTy.Contents (Elt F) arg11.view.ty) (f12 : BufTy.Contents (Elt F) arg12.view.ty)
   (f13 : BufTy.Contents (Elt F) arg13.view.ty) (f14 : BufTy.Contents (Elt F) arg14.view.ty) (f15 : BufTy.Contents (Elt F) arg15.view.ty) (f16 : BufTy.Contents (Elt F) arg16.view.ty)
   (x2 x5 : Vec F S256x128 .bf16) (kt vt : ℕ → Vec F S1024x128 .bf16) (T13 T14 : ℕ → Vec F S1024x128 .f32) (Wt : Waits sig Unit)
   (hx2 : ∀ inb, arg2.view.readAt (Elt F) (Rect.unit (s := S256x128) ![0, 0] S256x128.size inb).toLoadRect X2 = x2)
   (hx5 : ∀ inb, arg5.view.readAt (Elt F) (Rect.unit (s := S256x128) ![0, 0] S256x128.size inb).toLoadRect X5 = x5)
   (hkt : Tiles arg3.view X3 kt) (hvt : Tiles arg4.view X4 vt)
   (h13 : (i 1).val ≠ 0 → Tiles arg13.view f13 T13) (h14 : (i 1).val ≠ 0 → Tiles arg14.view f14 T14) :
   iprop(Pt c arg2 X2 ∗ Pt c arg3 X3 ∗ Pt c arg4 X4 ∗ Pt c arg5 X5 ∗ Pt c arg6 f6 ∗ Pt c arg7 f7 ∗ Pt c arg8 f8 ∗ Pt c arg9 f9 ∗ Pt c arg10 f10 ∗ Pt c arg11 f11 ∗ Pt c arg12 f12
      ∗ Pt c arg13 f13 ∗ Pt c arg14 f14 ∗ Pt c arg15 f15 ∗ Pt c arg16 f16 ∗ Cells c v165_r0.sem v165_r1.sem Wt)
   ⊢ wp frame (wpE (defs₀ (F := F)) Variants.none (c : Thread nD τ) none) Set.univ (cc0_attn_bwd_skel (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1)
   (fun _ => iprop(∃ f6' f7' f8' f9' f10' f11' f12' f13' f14' f15' f16' Wt',
      (Pt c arg2 X2 ∗ Pt c arg3 X3 ∗ Pt c arg4 X4 ∗ Pt c arg5 X5 ∗ Pt c arg6 f6' ∗ Pt c arg7 f7' ∗ Pt c arg8 f8' ∗ Pt c arg9 f9' ∗ Pt c arg10 f10' ∗ Pt c arg11 f11' ∗ Pt c arg12 f12'
      ∗ Pt c arg13 f13' ∗ Pt c arg14 f14' ∗ Pt c arg15 f15' ∗ Pt c arg16 f16' ∗ Cells c v165_r0.sem v165_r1.sem Wt')
      ∗ ⌜Is arg6.view f6' ![0, 0] S256x128.size (outQ i x2 x5 kt vt) ∧ Tiles arg13.view f13' (newK i x2 x5 kt vt T13) ∧ Tiles arg14.view f14' (newV i x2 x5 kt T14)
         ∧ Sent i arg7 f7 f7' (newK i x2 x5 kt vt T13) ∧ Sent i arg8 f8 f8' (newV i x2 x5 kt T14)⌝)) := by
  have htr4 := trips4 i
  unfold cc0_attn_bwd_skel
  iintro ⟨H2, H3, H4, H5, H6, H7, H8, H9, H10, H11, H12, H13, H14, H15, H16, HC⟩
  rw [wp_bind]
  iapply (wp_wand_r frame (wpE (defs₀ (F := F)) Variants.none (c : Thread nD τ) none) Set.univ)
  isplitl [H2 H5 H13 H14]
  · iapply (part28 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 f13 f14 X2 X5 x2 x5 T13 T14 hx2 hx5 h13 h14)
    isplitl [H2]; · iexact H2
    isplitl [H5]; · iexact H5
    isplitl [H13]; · iexact H13
    iexact H14
  iintro %r ⟨%g13, %g14, ⟨H2, H5, H13, H14⟩, %hp⟩
  obtain ⟨rfl, hg13, hg14⟩ := hp
  rw [wp_bind]
  iapply (wp_wand_r frame (wpE (defs₀ (F := F)) Variants.none (c : Thread nD τ) none) Set.univ)
  isplitl [H11 H12]
  · iapply (part29 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 _ _ _ _ _ f11 f12)
    isplitl [H11]; · iexact H11
    iexact H12
  iintro %r ⟨%g11, %g12, ⟨H11, H12⟩, %hp⟩
  obtain ⟨rfl, hg11, hg12⟩ := hp
  rw [wp_bind]
  iapply (wp_wand_r frame (wpE (defs₀ (F := F)) Variants.none (c : Thread nD τ) none) Set.univ)
  isplitl [H3 H4 H15 H16]
  · iapply (part30 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 _ _ _ X3 X4 kt vt hkt hvt f15 f16)
    isplitl [H3]; · iexact H3
    isplitl [H4]; · iexact H4
    isplitl [H15]; · iexact H15
    iexact H16
  iintro %r ⟨%g15, %g16, ⟨H3, H4, H15, H16⟩, %hp⟩
  obtain ⟨rfl, hz0, hz1, ha0⟩ := hp
  rw [wp_bind]
  iapply (wp_wand_r frame (wpE (defs₀ (F := F)) Variants.none (c : Thread nD τ) none) Set.univ)
  isplitl [H3 H4 H9 H10 H11 H14 H15 H16]
  · iapply (part31 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 _ k0_pay269 _ _ _ _ _ X3 X4 kt vt (abOf i) (baseT i T14) hkt hvt f9 f10 g11 g14 g15 g16 hz0 hz1 ha0 (hg11 _) (hg11 _) hg14)
    isplitl [H3]; · iexact H3
    isplitl [H4]; · iexact H4
    isplitl [H9]; · iexact H9
    isplitl [H10]; · iexact H10
    isplitl [H11]; · iexact H11
    isplitl [H14]; · iexact H14
    isplitl [H15]; · iexact H15
    iexact H16
  iintro %r ⟨%e9, %e10, %e11, %e14, %e15, %e16, ⟨H3, H4, H9, H10, H11, H14, H15, H16⟩, %hp⟩
  obtain ⟨rfl, hs⟩ := hp
  sl_exec_parts
  have hgt : ∀ j, j ≤ lastOf i → j < lastOf i + 1 := fun j hj => Nat.lt_succ_of_le hj
  sl_for (fun n _ => I3 c i arg3 arg9 arg10 arg11 arg12 arg13 k0_pay269 k0_pay270 lo hi (qa x2) (qb x2) (da x5) (db x5) X3 kt vt (abOf i) (baseT i T13) e9 e10 n) $$ [H3 H9 H10 H11 H12 H13]
  · intro k acc
    exact step3 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 v165_r0 v165_r1 k0_pay269 k0_pay270 lo hi (qa x2) (qb x2) (da x5) (db x5) X3 kt vt (abOf i) (baseT i T13) hkt e9 e10
      (fun j hj => hs.hg0 j (hgt j hj)) (fun j hj => hs.hg1 j (hgt j hj)) (fun j hj => hs.hs0 j (hgt j hj)) (fun j hj => hs.hs1 j (hgt j hj)) k
  · unfold I3
    iexists _; iexists _; iexists _
    isplitl [H3 H9 H10 H11 H12 H13]
    · isplitl [H3]; · iexact H3
      isplitl [H9]; · iexact H9
      isplitl [H10]; · iexact H10
      isplitl [H11]; · iexact H11
      isplitl [H12]; · iexact H12
      iexact H13
    ipureintro
    exact ⟨Is.const (by decide), Is.const (by decide), hg12, fun j hj => absurd hj (Nat.not_lt_zero j), fun j hj _ => hg13 j hj⟩
  · iintro %_ H
    unfold I3
    icases H with ⟨%d11, %d12, %d13, H, %h⟩
    have e3 : Scf.trips (k0_t3_loop i).lb (k0_t3_loop i).ub (k0_t3_loop i).st = lastOf i + 1 := trips3 i
    rw [e3] at h
    icases H with ⟨H3, H9, H10, H11, H12, H13⟩
    have ha : ∀ inb, arg12.view.readAt (Elt F) (Rect.unit (s := S256x128) ![0, 0] S256x128.size inb).toLoadRect d12 = _ := h.ha
    have hK : Tiles arg13.view d13 (newK i x2 x5 kt vt T13) := by
      intro j hj
      unfold newK
      by_cases hle : j ≤ lastOf i
      · rw [if_pos hle]; exact h.hk j (hgt j hle)
      · rw [if_neg hle]; exact h.hk' j hj (by omega)
    have hV : Tiles arg14.view e14 (newV i x2 x5 kt T14) := by
      intro j hj
      unfold newV
      by_cases hle : j ≤ lastOf i
      · rw [if_pos hle]
        have := hs.hv (lastOf i - j) (by omega)
        rw [show lastOf i - (lastOf i - j) = j by omega] at this
        exact this
      · rw [if_neg hle]; exact hs.hv' j hj (.inr (by omega))
    by_cases hc : k0_cond3 i = 1#1
    · sl_exec_parts
      have hn : 0 < (⟨S8192x512.rank, S8192x128.size⟩ : Shape).numel := by decide
      unfold Cells
      icases HC with ⟨HS0, HS1, HW⟩
      iapply (copyOut c arg13 arg7 (k0_off23 i) (k0_off23_inb i hc) v165_r0.sem hn harg13.wordExact (View.wordExact_bits rfl) ⟨Or.inl rfl, trivial⟩ d13 f7 Wt) $$ [H13 H7 HS0 HW]
      · isplitl [H13]; · iexact H13
        isplitl [H7]; · iexact H7
        isplitl [HS0]; · iexact HS0
        iexact HW
      iintro ⟨H13, H7, HS0, HW⟩
      iapply (copyOut c arg14 arg8 (k0_off23 i) (k0_off23_inb i hc) v165_r1.sem hn harg14.wordExact (View.wordExact_bits rfl) ⟨Or.inl rfl, trivial⟩ e14 f8 _) $$ [H14 H8 HS1 HW]
      · isplitl [H14]; · iexact H14
        isplitl [H8]; · iexact H8
        isplitl [HS1]; · iexact HS1
        iexact HW
      iintro ⟨H14, H8, HS1, HW⟩
      dsimp only [Prog.bind]
      sl_step
      iexists _; iexists _; iexists _; iexists _; iexists _; iexists _; iexists _; iexists _; iexists _; iexists _; iexists _; iexists _
      isplitl [H2 H3 H4 H5 H6 H7 H8 H9 H10 H11 H12 H13 H14 H15 H16 HS0 HS1 HW]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [HS0]; · iexact HS0
        isplitl [HS1]; · iexact HS1
        iexact HW
      ipureintro
      exact ⟨Is.hit rfl rfl, hK, hV, sent_of i hc arg13 arg7 f7 d13 _ hK, sent_of i hc arg14 arg8 f8 e14 _ hV⟩
    · sl_exec_parts
      sl_step
      iexists _; iexists _; iexists _; iexists _; iexists _; iexists _; iexists _; iexists _; iexists _; iexists _; iexists _; iexists _
      isplitl [H2 H3 H4 H5 H6 H7 H8 H9 H10 H11 H12 H13 H14 H15 H16 HC]
      · isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        iexact HC
      ipureintro
      have h31 : ¬ (i 1).val = 31 := fun h => hc ((cond3_iff i).2 h)
      refine ⟨Is.hit rfl rfl, hK, hV, ?_, ?_⟩
      · unfold Sent; rw [if_neg h31]
      · unfold Sent; rw [if_neg h31]
end
end Cert.KernelIdeal.Hand
end
-- ==== Proof.Blocks.lean ====
module

public import proofs.«01_k».proof.Proof.Gen.KernelIdeal.Launch
public import proofs.«01_k».proof.Proof.Gen.KernelIdeal.Points
public import proofs.«01_k».proof.Proof.Gen.KernelIdeal.Frame
public import proofs.«01_k».proof.Proof.Body
public import Idealize.ShloMosaic.Lib.Pipeline.FrameValue
public import Idealize.ShloMosaic.Lib.Pipeline.FrameBody
public import Idealize.ShloMosaic.Lib.Tactic

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

/-- The tiles of a head's keys or values. -/
def tilesOf {α : Type} (b : S8192x128.Idx → α) (j : ℕ) : S1024x128.Idx → α :=
  fun x => b fun a => match a with
    | ⟨0, _⟩ => ⟨(j * 1024 + (x 0).val) % 8192, Nat.mod_lt _ (by decide)⟩
    | ⟨1, _⟩ => x 1

/-- A buffer that reads as a table reads as its tiles. -/
theorem tiles_of_read {sp : Space} {e : EltTy} (M : Memref sig .tc sp S8192x128 e) (f : BufTy.Contents (Elt F) M.view.ty) (b : S8192x128.Idx → Elt F e)
    (h : M.view.read (Elt F) f = b) : ∀ j, j < 8 → Is M.view f ![j * 1024, 0] S1024x128.size (tilesOf b j) := by
  intro j hj inb
  subst h
  funext x
  show M.view.read (Elt F) f ((Rect.unit (s := S8192x128) ![j * 1024, 0] S1024x128.size inb).emb x) = _
  unfold tilesOf
  refine congrArg (M.view.read (Elt F) f) (funext fun a => ?_)
  have hx : (x 0).val < 1024 := (x 0).isLt
  apply Fin.ext
  match a with
  | ⟨0, _⟩ =>
    show j * 1024 + 1 * (x 0).val = (j * 1024 + (x 0).val) % 8192
    rw [Nat.mod_eq_of_lt (by omega), Nat.one_mul]
  | ⟨1, _⟩ =>
    show 0 + 1 * (x 1).val = (x 1).val
    rw [Nat.zero_add, Nat.one_mul]

/-- A block read whole. -/
theorem whole_of_read {sp : Space} {e : EltTy} (M : Memref sig .tc sp S256x128 e) (f : BufTy.Contents (Elt F) M.view.ty) (b : S256x128.Idx → Elt F e)
    (h : M.view.read (Elt F) f = b) : ∀ inb, M.view.readAt (Elt F) (Rect.unit (s := S256x128) ![0, 0] S256x128.size inb).toLoadRect f = b := by
  intro inb
  subst h
  funext x
  refine congrArg (M.view.read (Elt F) f) (funext fun a => Fin.ext ?_)
  show (![0, 0] : Fin 2 → ℕ) a + 1 * (x a).val = (x a).val
  fin_cases a
  · show 0 + 1 * (x 0).val = _; exact (Nat.zero_add _).trans (Nat.one_mul _)
  · show 0 + 1 * (x 1).val = _; exact (Nat.zero_add _).trans (Nat.one_mul _)

/-- And the other way: a block all of whose box reads so reads so. -/
theorem read_of_whole {sp : Space} {e : EltTy} (M : Memref sig .tc sp S256x128 e) (f : BufTy.Contents (Elt F) M.view.ty) (b : S256x128.Idx → Elt F e)
    (h : Is M.view f ![0, 0] S256x128.size b) : M.view.read (Elt F) f = b :=
  (whole_of_read M f _ rfl (by decide)).symm.trans (h (by decide))

theorem coord0 : ∀ t : Fin cfg0.N, ((grid0.coords t) 0).val = t.val / 32 := (by decide +kernel : ∀ t : Fin grid0.N, ((grid0.coords t) 0).val = t.val / 32)
theorem coord1 : ∀ t : Fin cfg0.N, ((grid0.coords t) 1).val = t.val % 32 := (by decide +kernel : ∀ t : Fin grid0.N, ((grid0.coords t) 1).val = t.val % 32)

section
variable (m : (ℓ : Loc nD τ sig) → Buf (Elt F) ℓ) (ρ : Dev nD → PrngReg) (c : Dev nD)

/-- The blocks a point finds: its queries, its head's keys and values, its output gradients. -/
def qBlk (t : Fin cfg0.N) : Vec F S256x128 .bf16 := iblk m c 0 t
def kBlk (t : Fin cfg0.N) : Vec F S8192x128 .bf16 := iblk m c 1 t
def vBlk (t : Fin cfg0.N) : Vec F S8192x128 .bf16 := iblk m c 2 t
def oBlk (t : Fin cfg0.N) : Vec F S256x128 .bf16 := iblk m c 3 t

/-- The keys' gradient before point `t`, by tiles. -/
def TK : ℕ → ℕ → Vec F S1024x128 .f32
  | 0 => fun _ => zt
  | t + 1 => if h : t < cfg0.N then newK (grid0.coords ⟨t, h⟩) (qBlk m c ⟨t, h⟩) (oBlk m c ⟨t, h⟩) (tilesOf (kBlk m c ⟨t, h⟩)) (tilesOf (vBlk m c ⟨t, h⟩)) (TK t) else TK t
/-- The values' gradient before point `t`, by tiles. -/
def TV : ℕ → ℕ → Vec F S1024x128 .f32
  | 0 => fun _ => zt
  | t + 1 => if h : t < cfg0.N then newV (grid0.coords ⟨t, h⟩) (qBlk m c ⟨t, h⟩) (oBlk m c ⟨t, h⟩) (tilesOf (kBlk m c ⟨t, h⟩)) (TV t) else TV t
theorem TK_succ (t : Fin cfg0.N) : TK m c (t.val + 1) = newK (grid0.coords t) (qBlk m c t) (oBlk m c t) (tilesOf (kBlk m c t)) (tilesOf (vBlk m c t)) (TK m c t.val) := by
  show (if h : t.val < cfg0.N then _ else _) = _
  rw [dif_pos t.isLt]
theorem TV_succ (t : Fin cfg0.N) : TV m c (t.val + 1) = newV (grid0.coords t) (qBlk m c t) (oBlk m c t) (tilesOf (kBlk m c t)) (TV m c t.val) := by
  show (if h : t.val < cfg0.N then _ else _) = _
  rw [dif_pos t.isLt]
/-- The queries' gradient of point `t`'s block. -/
def dqAt (t : Fin cfg0.N) : Vec F S256x128 .f32 := outQ (grid0.coords t) (qBlk m c t) (oBlk m c t) (tilesOf (kBlk m c t)) (tilesOf (vBlk m c t))

abbrev mK : Memref sig .tc .hbm S8192x512 .f32 := Memref.whole main_v0_1
abbrev mV : Memref sig .tc .hbm S8192x512 .f32 := Memref.whole main_v0_2
abbrev sK : Memref sig .tc .vmem S8192x128 .f32 := Memref.whole cc0_scratch4
abbrev sV : Memref sig .tc .vmem S8192x128 .f32 := Memref.whole cc0_scratch5

/-- What is known before point `t`: the running head's sums, and the finished heads' in memory. -/
structure Known (t : ℕ) (fk : BufTy.Contents (Elt F) sK.view.ty) (fv : BufTy.Contents (Elt F) sV.view.ty)
    (gk : BufTy.Contents (Elt F) mK.view.ty) (gv : BufTy.Contents (Elt F) mV.view.ty) : Prop where
  hk : t % 32 ≠ 0 → Tiles sK.view fk (TK m c t)
  hv : t % 32 ≠ 0 → Tiles sV.view fv (TV m c t)
  hK : ∀ p, p < t / 32 → ∀ j, j < 8 → Is mK.view gk ![j * 1024, p * 128] S1024x128.size (TK m c (32 * (p + 1)) j)
  hV : ∀ p, p < t / 32 → ∀ j, j < 8 → Is mV.view gv ![j * 1024, p * 128] S1024x128.size (TV m c (32 * (p + 1)) j)

/-- One table in memory, a point later. -/
theorem sent_step (t : Fin cfg0.N) (M : Memref sig .tc .hbm S8192x512 .f32) (g g' : BufTy.Contents (Elt F) M.view.ty) (T : ℕ → ℕ → Vec F S1024x128 .f32)
    (h : ∀ p, p < t.val / 32 → ∀ j, j < 8 → Is M.view g ![j * 1024, p * 128] S1024x128.size (T (32 * (p + 1)) j))
    (hs : Sent (grid0.coords t) M g g' (T (t.val + 1))) :
    ∀ p, p < (t.val + 1) / 32 → ∀ j, j < 8 → Is M.view g' ![j * 1024, p * 128] S1024x128.size (T (32 * (p + 1)) j) := by
  intro p hp j hj
  have c0 := coord0 t
  have c1 := coord1 t
  unfold Sent at hs
  by_cases h31 : ((grid0.coords t) 1).val = 31
  · rw [if_pos h31] at hs
    rw [c1] at h31
    obtain hlt | heq : p < t.val / 32 ∨ p = t.val / 32 := by omega
    · refine hs.2 _ _ (.inl ?_) (h p hlt j hj)
      show p * 128 + 128 ≤ ((grid0.coords t) 0).val * 128
      rw [c0]; omega
    · have := hs.1 j hj
      rw [c0, ← heq] at this
      rw [show 32 * (p + 1) = t.val + 1 by omega]
      exact this
  · rw [if_neg h31] at hs
    rw [c1] at h31
    subst hs
    exact h p (by omega) j hj

theorem known_step (t : Fin cfg0.N) {fk fv gk gv fk' fv' gk' gv'} (h : Known m c t.val fk fv gk gv)
    (hk : Tiles sK.view fk' (TK m c (t.val + 1))) (hv : Tiles sV.view fv' (TV m c (t.val + 1)))
    (hK : Sent (grid0.coords t) mK gk gk' (TK m c (t.val + 1))) (hV : Sent (grid0.coords t) mV gv gv' (TV m c (t.val + 1))) :
    Known m c (t.val + 1) fk' fv' gk' gv' :=
  ⟨fun _ => hk, fun _ => hv, sent_step t mK _ _ _ h.hK hK, sent_step t mV _ _ _ h.hV hV⟩
end
end Cert.KernelIdeal.Hand
end
-- ==== Proof.Run.lean ====
module

public import proofs.«01_k».proof.Proof.Blocks

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The results the body writes by its own copies: the keys' and the values' gradients. -/
def R0 : Finset (Ref sig .tc) := {main_v0_1, main_v0_2}
def H0 : Finset (Ref sig .tc) := ∅
theorem H0_sub : H0 ⊆ Pipeline.restRefs sig spec0 := by decide
theorem R0_sub : R0 ⊆ Pipeline.restRefs sig spec0 \ H0 := by decide

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The counters of the two copies. -/
abbrev osem0 : Fin 2 → SemLoc sig := fun j => (![SemLoc.dma 8, SemLoc.dma 9] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma cc0_scoped0.sem) 0 ∗ semVal ((c : Thread nD τ), SemLoc.dma cc0_scoped1.sem) 0) := by
  rw [Pipeline.ownSems0_eq_of_list c osem0 [0, 1] (by decide) (by decide)]; rfl

/-- A whole buffer held, as the run of the body names it. -/
theorem pt_whole (c : Dev nD) (b : Ref sig .tc) (f : Buf (Elt F) ((c : Thread nD τ).loc b)) :
    (Pt c (Memref.whole b) f : sProp 𝕄) = (((c : Thread nD τ).loc b) ↦{fullShare} f) := by
  show (_ ↦[(View.whole b).set]{fullShare} f) = _
  rw [View.set_whole]

theorem routed_eq (c : Dev nD) (W : (b : Ref sig .tc) → Buf (Elt F) ((c : Thread nD τ).loc b)) :
    (Pipeline.routed R0 c W : sProp 𝕄) = iprop(Pt c mK (W main_v0_1) ∗ Pt c mV (W main_v0_2)) := by
  unfold Pipeline.routed
  rw [BI.bigSep_eq_bigSepL_of_eq [main_v0_1, main_v0_2] (by decide) (by decide), pt_whole, pt_whole]; rfl

/-- The body's own buffers. -/
def Scratch (c : Dev nD) (P : BufTy.Contents (Elt F) sK.view.ty → BufTy.Contents (Elt F) sV.view.ty → BufTy.Contents (Elt F) mK.view.ty → BufTy.Contents (Elt F) mV.view.ty → Prop) : sProp 𝕄 :=
  iprop(∃ f9 f10 f11 f12 f13 f14 f15 f16 g7 g8,
    (Pt c (Memref.whole cc0_scratch0) f9 ∗ Pt c (Memref.whole cc0_scratch1) f10 ∗ Pt c (Memref.whole cc0_scratch2) f11 ∗ Pt c (Memref.whole cc0_scratch3) f12
      ∗ Pt c sK f13 ∗ Pt c sV f14 ∗ Pt c (Memref.whole cc0_scratch6) f15 ∗ Pt c (Memref.whole cc0_scratch7) f16 ∗ Pt c mK g7 ∗ Pt c mV g8) ∗ ⌜P f13 f14 g7 g8⌝)

/-- What the body finds before point `t` beside its windows. -/
def Inv (c : Dev nD) (t : ℕ) : sProp 𝕄 :=
  iprop(Scratch c (Known m c t) ∗ (∃ r, prngReg c r)
    ∗ semVal ((c : Thread nD τ), SemLoc.dma cc0_scoped0.sem) 0 ∗ semVal ((c : Thread nD τ), SemLoc.dma cc0_scoped1.sem) 0)

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dqAt m c t
  Φ t := Inv m c t.val
  q w := Pipeline.shareOf spec0 w
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = qBlk m c t :=
  ((dats m 0 c).before_in_eq_fetched 0 rfl (fun _ => rfl) (fun _ _ _ => rfl) (fun t => by dsimp only [dats]; unfold Dat.blockOf iblk; rfl) t d).trans (by unfold Dat.fetched Dat.blockOf qBlk iblk; rfl)
theorem before1 (c : Dev nD) (t : Fin cfg0.N) (d) : (dats m 0 c).before 1 t d = kBlk m c t :=
  ((dats m 0 c).before_in_eq_fetched 1 rfl (fun _ => rfl) (fun _ _ _ => rfl) (fun t => by dsimp only [dats]; unfold Dat.blockOf iblk; rfl) t d).trans (by unfold Dat.fetched Dat.blockOf kBlk iblk; rfl)
theorem before2 (c : Dev nD) (t : Fin cfg0.N) (d) : (dats m 0 c).before 2 t d = vBlk m c t :=
  ((dats m 0 c).before_in_eq_fetched 2 rfl (fun _ => rfl) (fun _ _ _ => rfl) (fun t => by dsimp only [dats]; unfold Dat.blockOf iblk; rfl) t d).trans (by unfold Dat.fetched Dat.blockOf vBlk iblk; rfl)
theorem before3 (c : Dev nD) (t : Fin cfg0.N) (d) : (dats m 0 c).before 3 t d = oBlk m c t :=
  ((dats m 0 c).before_in_eq_fetched 3 rfl (fun _ => rfl) (fun _ _ _ => rfl) (fun t => by dsimp only [dats]; unfold Dat.blockOf iblk; rfl) t d).trans (by unfold Dat.fetched Dat.blockOf oBlk iblk; rfl)
theorem after4 (c : Dev nD) (t : Fin cfg0.N) : (dats m 0 c).after 4 t = dqAt m c t := by dsimp only [dats]

/-- A whole staging buffer held at what it reads as. -/
theorem owns_pt (c : Dev nD) {sp : Space} {S : Shape} {e : EltTy} (M : Memref sig .tc sp S e) (X : S.Idx → Elt F e) :
    (owns (c : Thread nD τ) M fullShare X : sProp 𝕄) = iprop(∃ f, ⌜M.view.read (Elt F) f = X⌝ ∗ Pt c M f) := rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def bodyPost (c : Dev nD) (t : Fin cfg0.N) : sProp 𝕄 :=
  iprop((dats m 0 c).Φ t.succ ∗ (dats m 0 c).owesAt () t.succ
    ∗ owns (c : Thread nD τ) (st0_0 t) fullShare (qBlk m c t)
    ∗ owns (c : Thread nD τ) (st0_1 t) fullShare (kBlk m c t)
    ∗ owns (c : Thread nD τ) (st0_2 t) fullShare (vBlk m c t)
    ∗ owns (c : Thread nD τ) (st0_3 t) fullShare (oBlk m c t)
    ∗ owns (c : Thread nD τ) (st0_4 t) fullShare (dqAt m c t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Inv m c (t.val + 1) from rfl, show (dats m 0 c).Φ t.castSucc = Inv m c t.val from rfl]
  simp only [before0, before1, before2, before3]
  unfold Dat.owesAt Pipeline.owesWithin
  rw [show (dats m 0 c).owed t.castSucc = 0 from rfl, show (dats m 0 c).owed t.succ = 0 from rfl]
  unfold Inv Scratch
  simp only [owns_pt]
  rw [cc0_attn_bwd_eq_skeleton]
  iintro ⟨⟨⟨%f9, %f10, %f11, %f12, %f13, %f14, %f15, %f16, %g7, %g8, ⟨H9, H10, H11, H12, H13, H14, H15, H16, H7, H8⟩, %hkn⟩, Hg, Hs0, Hs1⟩, ⟨%W, -, HW⟩,
    ⟨%d0, %X2, %hX2, H2⟩, ⟨%d1, %X3, %hX3, H3⟩, ⟨%d2, %X4, %hX4, H4⟩, ⟨%d3, %X5, %hX5, H5⟩, ⟨%d4, %f6, -, H6⟩⟩
  have hne : ((grid0.coords t) 1).val ≠ 0 → t.val % 32 ≠ 0 := fun h => by rw [← coord1 t]; exact h
  iapply (wp_wand_r frame (wpE (defs₀ (F := F)) Variants.none (c : Thread nD τ) none) Set.univ)
  isplitr [Hg]
  · iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (Memref.whole main_v0_1) (Memref.isWhole_whole _) (Memref.whole main_v0_2) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) cc0_scratch8 cc0_scratch9 cc0_scratch10 cc0_scoped0 cc0_scoped1
      X2 X3 X4 X5 f6 g7 g8 f9 f10 f11 f12 f13 f14 f15 f16 (qBlk m c t) (oBlk m c t) (tilesOf (kBlk m c t)) (tilesOf (vBlk m c t)) (TK m c t.val) (TV m c t.val) W
      (whole_of_read _ _ _ hX2) (whole_of_read _ _ _ hX5) (tiles_of_read _ _ _ hX3) (tiles_of_read _ _ _ hX4)
      (fun h => hkn.hk (hne h)) (fun h => hkn.hv (hne h)))
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    unfold Cells
    isplitl [Hs0]; · iexact Hs0
    isplitl [Hs1]; · iexact Hs1
    iexact HW
  iintro %r ⟨%f6', %f7', %f8', %f9', %f10', %f11', %f12', %f13', %f14', %f15', %f16', %W', ⟨H2, H3, H4, H5, H6, H7, H8, H9, H10, H11, H12, H13, H14, H15, H16, HC⟩, %hp⟩
  obtain ⟨hp6, hp13, hp14, hp7, hp8⟩ := hp
  unfold Cells
  icases HC with ⟨Hs0, Hs1, HW⟩
  isplitl [H7 H8 H9 H10 H11 H12 H13 H14 H15 H16 Hg Hs0 Hs1]
  · isplitl [H7 H8 H9 H10 H11 H12 H13 H14 H15 H16]
    · iexists f9', f10', f11', f12', f13', f14', f15', f16', f7', f8'
      isplitl [H7 H8 H9 H10 H11 H12 H13 H14 H15 H16]
      · isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H7]; · iexact H7
        iexact H8
      ipureintro
      exact known_step m c t hkn (by rw [TK_succ]; exact hp13) (by rw [TV_succ]; exact hp14) (by rw [TK_succ]; exact hp7) (by rw [TV_succ]; exact hp8)
    isplitl [Hg]; · iexact Hg
    isplitl [Hs0]; · iexact Hs0
    iexact Hs1
  isplitl [HW]
  · iexists W'; isplitr; · ipureintro; exact fun _ _ => Or.inl trivial
    iexact HW
  isplitl [H2]; · iexists X2; isplitr; · ipureintro; exact hX2
                  iexact H2
  isplitl [H3]; · iexists X3; isplitr; · ipureintro; exact hX3
                  iexact H3
  isplitl [H4]; · iexists X4; isplitr; · ipureintro; exact hX4
                  iexact H4
  isplitl [H5]; · iexists X5; isplitr; · ipureintro; exact hX5
                  iexact H5
  iexists f6'; isplitr
  · ipureintro; exact read_of_whole _ _ _ hp6
  iexact H6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl
end Cert.KernelIdeal.Hand
end
-- ==== Proof.Launched.lean ====
module

public import proofs.«01_k».proof.Proof.Run

@[expose] public section

set_option maxRecDepth 8192

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the two tables in memory hold after the run. -/
def Done (c : Dev nD) (W : (b : Ref sig .tc) → Buf (Elt F) ((c : Thread nD τ).loc b)) : Prop :=
  ∀ p, p < 4 → ∀ j, j < 8 → Is mK.view (W main_v0_1) ![j * 1024, p * 128] S1024x128.size (TK m c (32 * (p + 1)) j)
    ∧ Is mV.view (W main_v0_2) ![j * 1024, p * 128] S1024x128.size (TV m c (32 * (p + 1)) j)

theorem hin (c : Dev nD) : Pipeline.ΦDRG osem0 spec0 H0 R0 (V m) (V m) c ⊢ ((dats m 0 c).Φ 0 : sProp 𝕄) := by
  rw [Pipeline.ΦDRG_eq, show (dats m 0 c).Φ 0 = Inv m c 0 from rfl, scopedRest0_eq, ownSems00_eq, routed_eq]
  unfold Inv Scratch
  simp only [← pt_whole]
  iintro ⟨⟨⟨%f0, H9⟩, ⟨%f1, H10⟩, ⟨%f2, H11⟩, ⟨%f3, H12⟩, ⟨%f4, H13⟩, ⟨%f5, H14⟩, ⟨%f6, H15⟩, ⟨%f7, H16⟩⟩, Hg, ⟨Hs0, Hs1⟩, -, ⟨H7, H8⟩⟩
  isplitl [H7 H8 H9 H10 H11 H12 H13 H14 H15 H16]
  · iexists f0, f1, f2, f3, f4, f5, f6, f7, (V m c main_v0_1), (V m c main_v0_2)
    isplitl [H7 H8 H9 H10 H11 H12 H13 H14 H15 H16]
    · isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H7]; · iexact H7
      iexact H8
    ipureintro
    exact ⟨fun h => absurd rfl h, fun h => absurd rfl h, fun p hp => absurd hp (Nat.not_lt_zero _), fun p hp => absurd hp (Nat.not_lt_zero _)⟩
  isplitl [Hg]; · iexact Hg
  isplitl [Hs0]; · iexact Hs0
  iexact Hs1

theorem hout (c : Dev nD) : ((dats m 0 c).Φ (Fin.last cfg0.N) : sProp 𝕄) ⊢ iprop(Pipeline.ΦD osem0 spec0 H0 (V m) c ∗ Pipeline.routedSat R0 c (Done m c)) := by
  rw [Pipeline.ΦD_eq, show (dats m 0 c).Φ (Fin.last cfg0.N) = Inv m c 128 from rfl, scopedRest0_eq, ownSems00_eq]
  unfold Inv Scratch Pipeline.routedSat
  simp only [routed_eq]
  simp only [← pt_whole]
  iintro ⟨⟨%f9, %f10, %f11, %f12, %f13, %f14, %f15, %f16, %g7, %g8, ⟨H9, H10, H11, H12, H13, H14, H15, H16, H7, H8⟩, %hkn⟩, Hg, Hs0, Hs1⟩
  isplitl [H9 H10 H11 H12 H13 H14 H15 H16 Hg Hs0 Hs1]
  · isplitl [H9 H10 H11 H12 H13 H14 H15 H16]
    · isplitl [H9]; · iexists f9; iexact H9
      isplitl [H10]; · iexists f10; iexact H10
      isplitl [H11]; · iexists f11; iexact H11
      isplitl [H12]; · iexists f12; iexact H12
      isplitl [H13]; · iexists f13; iexact H13
      isplitl [H14]; · iexists f14; iexact H14
      isplitl [H15]; · iexists f15; iexact H15
      iexists f16; iexact H16
    isplitl [Hg]; · iexact Hg
    isplitl [Hs0 Hs1]
    · isplitl [Hs0]; · iexact Hs0
      iexact Hs1
    unfold H0
    rw [BI.bigSep_empty]
    iempintro
  iexists (Function.update (Function.update (V m c) main_v0_1 g7) main_v0_2 g8)
  have e8 : Function.update (Function.update (V m c) main_v0_1 g7) main_v0_2 g8 main_v0_2 = g8 := Function.update_self ..
  have e7 : Function.update (Function.update (V m c) main_v0_1 g7) main_v0_2 g8 main_v0_1 = g7 :=
    (Function.update_of_ne (by decide) _ _).trans (Function.update_self ..)
  rw [e7, e8]
  isplitr
  · ipureintro
    intro p hp j hj
    rw [e7, e8]
    exact ⟨hkn.hK p (by omega) j hj, hkn.hV p (by omega) j hj⟩
  isplitl [H7]; · iexact H7
  iexact H8

/-- What a run ends with: the windows' arrays, the tables the copies wrote, the counters. -/
def Final (r : PUnit × MemSt nD τ sig (Elt F)) : Prop :=
  (Pipeline.FramePostR cfgs (dats m) 0 R0 (V m) r
    ∧ ∀ c : Dev nD, ∃ W : (b : Ref sig .tc) → Buf (Elt F) ((c : Thread nD τ).loc b), Done m c W ∧ ∀ b ∈ R0, r.2.mem ((c : Thread nD τ).loc b) = W b)
  ∧ r.2.sem = fun _ => 0

set_option backward.isDefEq.respectTransparency.types false in
theorem run_main : θ_run defs (onTc (τ := τ) (main (F := F))) (s₀ m ρ) (Final m) :=
  have hrest : Pipeline.restRefs sig spec0 ⊆ Pipeline.restRefsP sig Pipeline.Prefetch.none spec0 :=
    fun b hb => Finset.mem_sdiff.mpr ⟨hb, fun h => ((Finset.mem_image.mp h).elim fun k _ => k.elim0)⟩
  RDat.θ_run_frameP_dmaRSat_shared (Q' := Final m) (fun q => (cfgs q).toPCfg (Val := Elt F)) (fun q => (cfgs q).toPCfg_adm) (0 : Fin 1) launch₀0.toP osem0 defs₀ Variants.none
    (fun c => (dats m 0 c).toR) ownSemFacts0 H0 R0
    (H0_sub.trans hrest) (R0_sub.trans (Finset.sdiff_subset_sdiff hrest subset_rfl))
    m ρ main (fun c => ((body_obligation m c).loose).toR) (fun _ _ _ => rfl) (fun _ _ => rfl) (V m) (hmain m Variants.none) (A_eq m) (fun _ k => k.elim0)
    (Done m) (fun c => (show _ ⊢ Pipeline.ΦDRG osem0 spec0 H0 R0 (V m) (V m) c from by iintro ⟨H, -⟩; iexact H).trans (hin m c)) (hout m)
    (fun r h => ⟨⟨RDat.FramePostR.toDat cfgs (dats m) 0 R0 (V m) r h.1.1, h.1.2⟩, h.2⟩)

/-- The program terminates without fault, leaves its arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨((h.1.1 c).1 0).trans (((dats m 0 c).arrAt_in 0 rfl _).trans (A_eq m c 0)),
    ((h.1.1 c).1 3).trans (((dats m 0 c).arrAt_in 3 rfl _).trans (A_eq m c 3))⟩, h.2⟩) (run_main m ρ)
end Cert.KernelIdeal.Hand
end
-- ==== Proof.Stick.lean ====
module

public import Mathlib.Data.EReal.Operations
public import Mathlib.Analysis.SpecialFunctions.Log.Basic
public import Mathlib.Algebra.BigOperators.Intervals

@[expose] public section

/-! Stick-breaking attention over the real numbers: one head's weights and their gradients, from its scores `z t s` of query
    row `t` and key `s` and the gradients `a t s` of its weights. A row reads the keys before it. -/

noncomputable section

namespace Cert.Stick

open Finset

/-- A sum of reals among the extended reals. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- A sum over a block of numbers, its own numbers counted from the block's first. -/
theorem sum_block (X : ℕ → ℝ) (c lo hi : ℕ) : ∑ k ∈ Ico lo hi, X (c + k) = ∑ k ∈ Ico (c + lo) (c + hi), X k := by
  rw [Finset.sum_Ico_add]; simp only [Nat.add_comm c]

theorem sum_join (X : ℕ → ℝ) {a b c : ℕ} (h1 : a ≤ b) (h2 : b ≤ c) : ∑ k ∈ Ico a b, X k + ∑ k ∈ Ico b c, X k = ∑ k ∈ Ico a c, X k :=
  Finset.sum_Ico_consecutive X h1 h2

/-- The softplus. -/
def sp (x : ℝ) : ℝ := max x 0 + Real.log (1 + Real.exp (-|x|))

section
variable (z a : ℕ → ℕ → ℝ) (t s : ℕ)
/-- The softplus of a score, 0 where the row does not read. -/
def L : ℝ := if s < t then sp (z t s) else 0
/-- Its sums from a key to the last. -/
def C : ℝ := ∑ u ∈ Ico s 8192, L z t u
/-- The attention weights. -/
def A : ℝ := if s < t then Real.exp (z t s - C z t s) else 0
/-- The weights times their gradients. -/
def g : ℝ := A z t s * a t s
/-- Their sums from the first key. -/
def G : ℝ := ∑ u ∈ Ico 0 (s + 1), g z a t u
/-- The scores' gradients. -/
def Dz : ℝ := g z a t s - (1 - Real.exp (0 - L z t s)) * G z a t s
end

theorem L_of_ge {z : ℕ → ℕ → ℝ} {t s : ℕ} (h : t ≤ s) : L z t s = 0 := if_neg (by omega)
theorem A_of_ge {z : ℕ → ℕ → ℝ} {t s : ℕ} (h : t ≤ s) : A z t s = 0 := if_neg (by omega)
theorem g_of_ge {z a : ℕ → ℕ → ℝ} {t s : ℕ} (h : t ≤ s) : g z a t s = 0 := by unfold g; rw [A_of_ge h, zero_mul]
theorem Dz_of_ge {z a : ℕ → ℕ → ℝ} {t s : ℕ} (h : t ≤ s) : Dz z a t s = 0 := by
  unfold Dz; rw [g_of_ge h, L_of_ge h]; simp

/-- The softplus of the opposite number. -/
theorem sp_neg (x : ℝ) : sp (-x) = sp x - x := by
  unfold sp
  rw [abs_neg]
  rcases le_total 0 x with h | h
  · rw [max_eq_left h, max_eq_right (by linarith : -x ≤ 0)]; ring
  · rw [max_eq_right h, max_eq_left (by linarith : 0 ≤ -x)]; ring

/-- The exponential of the softplus. -/
theorem exp_sp (x : ℝ) : Real.exp (sp x) = 1 + Real.exp x := by
  unfold sp
  have h1 : (0 : ℝ) < 1 + Real.exp (-|x|) := by positivity
  rw [Real.exp_add, Real.exp_log h1]
  rcases le_total 0 x with h | h
  · rw [max_eq_left h, abs_of_nonneg h, mul_add, ← Real.exp_add]; simp [add_comm]
  · rw [max_eq_right h, abs_of_nonpos h]; simp

end Cert.Stick
end
-- ==== Proof.Ext.lean ====
module

public import proofs.«01_k».proof.Proof.Stick
public import Idealize.ShloMosaic.Lib.Pointwise

@[expose] public section

/-! Stick-breaking attention over the extended reals: one row's weights from its scores, a masked score being the least number.
    Infinite scores are among them. -/

noncomputable section

namespace Cert.Ext

open Idealize.ShloMosaic Finset

theorem sum_shift {M : Type} [AddCommMonoid M] (X : ℕ → M) (c lo hi : ℕ) : ∑ k ∈ Ico lo hi, X (c + k) = ∑ k ∈ Ico (c + lo) (c + hi), X k := by
  rw [Finset.sum_Ico_add]; simp only [Nat.add_comm c]
theorem sum_next {M : Type} [AddCommMonoid M] (X : ℕ → M) {a b c : ℕ} (h1 : a ≤ b) (h2 : b ≤ c) : ∑ k ∈ Ico a b, X k + ∑ k ∈ Ico b c, X k = ∑ k ∈ Ico a c, X k :=
  Finset.sum_Ico_consecutive X h1 h2
theorem sum_all {M : Type} [AddCommMonoid M] (n : ℕ) (X : ℕ → M) : ∑ k : Fin n, X k.val = ∑ k ∈ Ico 0 n, X k := by
  rw [(Finset.sum_range X).symm, Finset.range_eq_Ico]

/-- The softplus, at every extended real. -/
def Sp (z : EReal) : EReal := max z 0 + Ideal.log (1 + Ideal.exp (0 - max z (-z)))

theorem Sp_coe (v : ℝ) : Sp (v : EReal) = ((Stick.sp v : ℝ) : EReal) := by
  unfold Sp Stick.sp
  have h : (0 : ℝ) < 1 + Real.exp (-|v|) := by positivity
  rw [← EReal.coe_neg, ← EReal.coe_zero, ← EReal.coe_one, ← EReal.coe_strictMono.monotone.map_max, ← EReal.coe_strictMono.monotone.map_max, ← EReal.coe_sub, Ideal.exp_coe, ← EReal.coe_add,
    show (0 : ℝ) - max v (-v) = -|v| by rw [zero_sub]; rfl, Ideal.log_coe, if_neg (not_le.2 h), ← EReal.coe_add]
theorem log_one : Ideal.log (1 + Ideal.exp (0 - (⊤ : EReal))) = 0 := by
  rw [show (0 : EReal) - ⊤ = ⊥ from rfl, Ideal.exp_bot, add_zero, ← EReal.coe_one, Ideal.log_coe]
  simp
theorem Sp_bot : Sp ⊥ = 0 := by
  unfold Sp
  rw [EReal.neg_bot, max_eq_right bot_le, max_eq_right bot_le, log_one, add_zero]
theorem Sp_top : Sp ⊤ = ⊤ := by
  unfold Sp
  rw [EReal.neg_top, max_eq_left bot_le, max_eq_left (by simp), log_one, add_zero]
theorem sp_nonneg (x : ℝ) : 0 ≤ Stick.sp x := by
  unfold Stick.sp
  have := Real.log_nonneg (x := 1 + Real.exp (-|x|)) (by have := Real.exp_pos (-|x|); linarith)
  have := le_max_right x 0
  linarith
theorem Sp_nonneg (z : EReal) : 0 ≤ Sp z := by
  induction z with
  | bot => rw [Sp_bot]
  | coe x => rw [Sp_coe]; exact_mod_cast sp_nonneg x
  | top => rw [Sp_top]; exact le_top

theorem exp_sub_top (z : EReal) : Ideal.exp (z - ⊤) = 0 := by
  rw [EReal.sub_top, Ideal.exp_bot]
/-- The exponential of a difference, taken off in two parts. -/
theorem exp_split (z c r : EReal) (hc : 0 ≤ c) (hr : 0 ≤ r) (hz : z = ⊤ → c = ⊤) : Ideal.exp (z - (c + r)) = Ideal.exp (z - c) * Ideal.exp (0 - r) := by
  have hcb : c ≠ ⊥ := fun e => by rw [e] at hc; simp at hc
  have hrb : r ≠ ⊥ := fun e => by rw [e] at hr; simp at hr
  by_cases hct : c = ⊤
  · rw [hct, EReal.top_add_of_ne_bot hrb, exp_sub_top, zero_mul]
  by_cases hrt : r = ⊤
  · rw [hrt, EReal.add_top_of_ne_bot hcb, exp_sub_top, exp_sub_top, mul_zero]
  lift c to ℝ using ⟨hct, hcb⟩
  lift r to ℝ using ⟨hrt, hrb⟩
  induction z with
  | bot => rw [EReal.bot_sub, EReal.bot_sub, Ideal.exp_bot, zero_mul]
  | top => exact absurd (hz rfl) hct
  | coe z =>
    rw [← EReal.coe_zero, ← EReal.coe_add, ← EReal.coe_sub, ← EReal.coe_sub, ← EReal.coe_sub, Ideal.exp_coe, Ideal.exp_coe, Ideal.exp_coe, ← EReal.coe_mul, ← Real.exp_add]
    congr 3; ring
/-- A factor that is a real, not less than 0, goes into a sum. -/
theorem sum_factor {ι : Type} (s : Finset ι) (f : ι → EReal) (e : EReal) (h0 : 0 ≤ e) (h1 : e ≠ ⊤) : (∑ i ∈ s, f i) * e = ∑ i ∈ s, f i * e := by
  classical
  induction s using Finset.induction_on with
  | empty => simp
  | insert a s ha ih => rw [Finset.sum_insert ha, Finset.sum_insert ha, EReal.right_distrib_of_nonneg_of_ne_top h0 h1, ih]
theorem exp_decay (r : EReal) (hr : 0 ≤ r) : 0 ≤ Ideal.exp (0 - r) ∧ Ideal.exp (0 - r) ≠ ⊤ := by
  have hrb : r ≠ ⊥ := fun e => by rw [e] at hr; simp at hr
  by_cases hrt : r = ⊤
  · rw [hrt, exp_sub_top]; simp
  lift r to ℝ using ⟨hrt, hrb⟩
  rw [← EReal.coe_zero, ← EReal.coe_sub, Ideal.exp_coe]
  exact ⟨by exact_mod_cast (Real.exp_pos _).le, EReal.coe_ne_top _⟩

/-- The sums of the softpluses from a key on, and the weights, of a row of scores. -/
def Cs (Z : ℕ → EReal) (s n : ℕ) : EReal := ∑ u ∈ Ico s n, Sp (Z u)
def Wt (Z : ℕ → EReal) (s : ℕ) : EReal := Ideal.exp (Z s - Cs Z s 8192)

theorem Cs_nonneg (Z : ℕ → EReal) (s n : ℕ) : 0 ≤ Cs Z s n := Finset.sum_nonneg fun u _ => Sp_nonneg (Z u)
theorem Cs_next (Z : ℕ → EReal) {a b c : ℕ} (h1 : a ≤ b) (h2 : b ≤ c) : Cs Z a b + Cs Z b c = Cs Z a c := sum_next _ h1 h2
/-- Where no key from a place on is read, the sums stop there. -/
theorem Cs_stop (Z : ℕ → EReal) (s n : ℕ) (h1 : s ≤ n) (h2 : n ≤ 8192) (h : ∀ u, n ≤ u → Z u = ⊥) : Cs Z s n = Cs Z s 8192 := by
  rw [← Cs_next Z h1 h2]
  unfold Cs
  rw [Finset.sum_eq_zero (s := Ico n 8192) fun u hu => by rw [h u (Finset.mem_Ico.1 hu).1, Sp_bot], add_zero]
theorem top_of_mem (Z : ℕ → EReal) (s n : ℕ) (h : s < n) (hz : Z s = ⊤) : Cs Z s n = ⊤ := by
  rw [← Cs_next Z (show s ≤ s + 1 by omega) (show s + 1 ≤ n by omega), show Cs Z s (s + 1) = Sp (Z s) by unfold Cs; rw [Nat.Ico_succ_singleton, Finset.sum_singleton], hz, Sp_top]
  exact EReal.top_add_of_ne_bot fun e => by have := Cs_nonneg Z (s + 1) n; rw [e] at this; simp at this
theorem Wt_bot (Z : ℕ → EReal) (s : ℕ) (h : Z s = ⊥) : Wt Z s = 0 := by
  unfold Wt; rw [h, EReal.bot_sub, Ideal.exp_bot]

/-- A tile of 1024 keys: its weights as if it were the last, times the decay over the later keys. -/
theorem tile_sum (Z v : ℕ → EReal) (c : ℕ) (hc : c + 1024 ≤ 8192) :
    (∑ y ∈ Ico 0 1024, Ideal.exp (Z (c + y) - Cs Z (c + y) (c + 1024)) * v (c + y)) * Ideal.exp (0 - Cs Z (c + 1024) 8192) = ∑ s ∈ Ico c (c + 1024), Wt Z s * v s := by
  obtain ⟨h0, h1⟩ := exp_decay _ (Cs_nonneg Z (c + 1024) 8192)
  rw [sum_factor _ _ _ h0 h1]
  refine Eq.trans (Finset.sum_congr rfl fun y hy => ?_) (sum_shift (fun s => Wt Z s * v s) c 0 1024)
  have hy' := (Finset.mem_Ico.1 hy).2
  unfold Wt
  rw [← Cs_next Z (show c + y ≤ c + 1024 by omega) hc, exp_split _ _ _ (Cs_nonneg _ _ _) (Cs_nonneg _ _ _) (top_of_mem Z _ _ (by omega)), mul_right_comm]

/-- The exponent as the reference writes it. -/
theorem exp_ref (Z : ℕ → EReal) (s : ℕ) (hs : s < 8192) : Ideal.exp (-(Sp (-(Z s))) + (-(Cs Z s 8192) - -(Sp (Z s)))) = Wt Z s := by
  unfold Wt
  have e : Cs Z s 8192 = Sp (Z s) + Cs Z (s + 1) 8192 := by
    rw [← Cs_next Z (show s ≤ s + 1 by omega) (show s + 1 ≤ 8192 by omega)]
    congr 1; unfold Cs; rw [Nat.Ico_succ_singleton, Finset.sum_singleton]
  have hr := Cs_nonneg Z (s + 1) 8192
  rw [e]
  generalize Cs Z (s + 1) 8192 = r at hr ⊢
  generalize Z s = z
  have hrb : r ≠ ⊥ := fun e => by rw [e] at hr; simp at hr
  induction z with
  | bot => rw [EReal.neg_bot, Sp_top, Sp_bot, EReal.neg_top, EReal.bot_add, EReal.bot_sub]
  | top => rw [EReal.neg_top, Sp_top, Sp_bot, EReal.top_add_of_ne_bot hrb, EReal.neg_top, EReal.bot_sub, neg_zero, EReal.add_bot, EReal.sub_top]
  | coe z =>
    rw [← EReal.coe_neg, Sp_coe, Sp_coe, Stick.sp_neg]
    by_cases hrt : r = ⊤
    · rw [hrt, EReal.coe_add_top, EReal.neg_top, EReal.bot_sub, EReal.add_bot, EReal.sub_top]
    lift r to ℝ using ⟨hrt, hrb⟩
    norm_cast
    congr 2; ring_nf
end Cert.Ext
end
-- ==== Proof.Window.lean ====
module

public import proofs.«01_k».proof.Proof.Ext
public import Idealize.ShloMosaic.Lib.Routing.Ops
public import Idealize.ShloMosaic.Lib.Pointwise

@[expose] public section

/-! A window of the whole last axis of an array of three axes, padded on one side, adds up the entries from a place on, or up to it. -/

noncomputable section

namespace Cert.Stick

open Idealize.ShloMosaic Finset

abbrev S3 (a b c : ℕ) : Shape := ⟨3, ![a, b, c]⟩

theorem foldl_sum {ι : Type} (l : List ι) (f g : ι → EReal) (h : ∀ n, f n = g n) (v : EReal) : l.foldl (fun r n => r + f n) v = v + (l.map g).sum := by
  induction l generalizing v with
  | nil => simp
  | cons a l ih => rw [List.foldl_cons, ih, List.map_cons, List.sum_cons, add_assoc, h]

theorem numel3 (N : ℕ) : (S3 1 1 N).numel = N := by
  show ∏ a : Fin 3, (![1, 1, N] : Fin 3 → ℕ) a = N
  rw [Fin.prod_univ_three]
  show 1 * 1 * N = N
  omega
theorem symm3 {N : ℕ} (n : Fin (S3 1 1 N).numel) : (S3 1 1 N).rowMajor.symm n = ix3 (0 : Fin 1) (0 : Fin 1) (n.cast (numel3 N)) :=
  ((S3 1 1 N).rowMajor.symm_apply_eq).2 (Fin.ext (by
    rw [Shape.rowMajor_val_three]
    show n.val = (0 * 1 + 0) * N + n.val
    omega))

/-- The sum over one window. -/
theorem window_sum {A B N lo up : ℕ} (x : (S3 A B N).Idx → EReal) (v : EReal) (hv : v = 0)
    (h : (S3 A B N).ReduceWindows (![1, 1, N] : Fin 3 → ℕ) ![1, 1, 1] ![0, 0, lo] ![0, 0, up] (S3 A B N)) (hu : 0 < (⟨0, ![]⟩ : Shape).numel)
    (a : Fin A) (b : Fin B) (c : Fin N) (X : ℕ → EReal) (hx : ∀ u : Fin N, x (ix3 a b u) = X u.val) :
    Host.reduceWindow (· + ·) ![1, 1, N] ![1, 1, 1] ![0, 0, lo] ![0, 0, up] x (fun _ : (⟨0, ![]⟩ : Shape).Idx => v) h hu (ix3 a b c)
      = ∑ n ∈ range N, if lo ≤ c.val + n ∧ c.val + n - lo < N then X (c.val + n - lo) else 0 := by
  subst hv
  unfold Host.reduceWindow
  refine (foldl_sum _ _ (fun n => if lo ≤ c.val + n.val ∧ c.val + n.val - lo < N then X (c.val + n.val - lo) else 0) (fun n => ?_) 0).trans ?_
  · have hw0 : ((S3 1 1 N).rowMajor.symm n 0).val = 0 := by rw [symm3]; rfl
    have hw1 : ((S3 1 1 N).rowMajor.symm n 1).val = 0 := by rw [symm3]; rfl
    have hw2 : ((S3 1 1 N).rowMajor.symm n 2).val = n.val := by rw [symm3]; rfl
    have ha := a.isLt
    have hb := b.isLt
    dsimp only
    split
    · next hin =>
      have h2 := hin 2
      change lo ≤ c.val * 1 + ((S3 1 1 N).rowMajor.symm n 2).val ∧ c.val * 1 + ((S3 1 1 N).rowMajor.symm n 2).val - lo < N at h2
      rw [hw2, Nat.mul_one] at h2
      rw [if_pos h2]
      refine (congrArg x (funext fun q => Fin.ext ?_)).trans (hx ⟨c.val + n.val - lo, h2.2⟩)
      match q with
      | ⟨0, _⟩ =>
        show a.val * 1 + ((S3 1 1 N).rowMajor.symm n 0).val - 0 = a.val
        rw [hw0]; omega
      | ⟨1, _⟩ =>
        show b.val * 1 + ((S3 1 1 N).rowMajor.symm n 1).val - 0 = b.val
        rw [hw1]; omega
      | ⟨2, _⟩ =>
        show c.val * 1 + ((S3 1 1 N).rowMajor.symm n 2).val - lo = c.val + n.val - lo
        rw [hw2, Nat.mul_one]
    · next hin =>
      rw [if_neg fun hle => hin fun q => by
        match q with
        | ⟨0, _⟩ =>
          show 0 ≤ a.val * 1 + ((S3 1 1 N).rowMajor.symm n 0).val ∧ a.val * 1 + ((S3 1 1 N).rowMajor.symm n 0).val - 0 < A
          rw [hw0]; omega
        | ⟨1, _⟩ =>
          show 0 ≤ b.val * 1 + ((S3 1 1 N).rowMajor.symm n 1).val ∧ b.val * 1 + ((S3 1 1 N).rowMajor.symm n 1).val - 0 < B
          rw [hw1]; omega
        | ⟨2, _⟩ =>
          show lo ≤ c.val * 1 + ((S3 1 1 N).rowMajor.symm n 2).val ∧ c.val * 1 + ((S3 1 1 N).rowMajor.symm n 2).val - lo < N
          rw [hw2, Nat.mul_one]; exact hle]
  · rw [zero_add, Routing.map_finRange_val _ (fun n => if lo ≤ c.val + n ∧ c.val + n - lo < N then X (c.val + n - lo) else 0),
      show (⟨(S3 A B N).rank, ![1, 1, N]⟩ : Shape).numel = N from numel3 N]
    exact (List.sum_toFinset _ List.nodup_range).symm.trans (by rw [List.toFinset_range])

theorem sum_from {M : Type} [AddCommMonoid M] (X : ℕ → M) (N c : ℕ) (hc : c < N) :
    (∑ n ∈ range N, if 0 ≤ c + n ∧ c + n - 0 < N then X (c + n - 0) else 0) = ∑ u ∈ Ico c N, X u := by
  rw [range_eq_Ico, ← Ext.sum_next _ (show 0 ≤ N - c by omega) (show N - c ≤ N by omega), Finset.sum_congr rfl fun n hn => if_pos (by have := Finset.mem_Ico.1 hn; omega),
    Finset.sum_eq_zero (s := Ico (N - c) N) fun n hn => if_neg (by have := Finset.mem_Ico.1 hn; omega), add_zero]
  refine (Ext.sum_shift X c 0 (N - c)).trans ?_
  rw [Nat.add_zero, show c + (N - c) = N by omega]
theorem sum_upto {M : Type} [AddCommMonoid M] (X : ℕ → M) (N c : ℕ) (hc : c < N) :
    (∑ n ∈ range N, if N - 1 ≤ c + n ∧ c + n - (N - 1) < N then X (c + n - (N - 1)) else 0) = ∑ u ∈ Ico 0 (c + 1), X u := by
  rw [range_eq_Ico, ← Ext.sum_next _ (show 0 ≤ N - 1 - c by omega) (show N - 1 - c ≤ N by omega),
    Finset.sum_eq_zero (s := Ico 0 (N - 1 - c)) fun n hn => if_neg (by have := Finset.mem_Ico.1 hn; omega), zero_add]
  have e := Ext.sum_shift (fun n => if N - 1 ≤ c + n ∧ c + n - (N - 1) < N then X (c + n - (N - 1)) else 0) (N - 1 - c) 0 (c + 1)
  rw [Nat.add_zero, show N - 1 - c + (c + 1) = N by omega] at e
  refine e.symm.trans (Finset.sum_congr rfl fun n hn => ?_)
  have := Finset.mem_Ico.1 hn
  rw [if_pos (by omega), show c + (N - 1 - c + n) - (N - 1) = n by omega]

section
variable {A B N : ℕ} (x : (S3 A B N).Idx → EReal) (v : EReal) (hv : v = 0) (hu : 0 < (⟨0, ![]⟩ : Shape).numel)
  (a : Fin A) (b : Fin B) (c : Fin N)
include hv
/-- The window that starts at the entry, and the one that ends there. -/
theorem window_from_ext (X : ℕ → EReal) (hx : ∀ u : Fin N, x (ix3 a b u) = X u.val) {up : ℕ}
    (h : (S3 A B N).ReduceWindows (![1, 1, N] : Fin 3 → ℕ) ![1, 1, 1] ![0, 0, 0] ![0, 0, up] (S3 A B N)) :
    Host.reduceWindow (· + ·) ![1, 1, N] ![1, 1, 1] ![0, 0, 0] ![0, 0, up] x (fun _ : (⟨0, ![]⟩ : Shape).Idx => v) h hu (ix3 a b c) = ∑ u ∈ Ico c.val N, X u :=
  (window_sum x v hv h hu a b c X hx).trans (sum_from X N c.val c.isLt)
theorem window_upto_ext (X : ℕ → EReal) (hx : ∀ u : Fin N, x (ix3 a b u) = X u.val) {lo : ℕ} (hlo : lo = N - 1)
    (h : (S3 A B N).ReduceWindows (![1, 1, N] : Fin 3 → ℕ) ![1, 1, 1] ![0, 0, lo] ![0, 0, 0] (S3 A B N)) :
    Host.reduceWindow (· + ·) ![1, 1, N] ![1, 1, 1] ![0, 0, lo] ![0, 0, 0] x (fun _ : (⟨0, ![]⟩ : Shape).Idx => v) h hu (ix3 a b c) = ∑ u ∈ Ico 0 (c.val + 1), X u := by
  subst hlo
  exact (window_sum x v hv h hu a b c X hx).trans (sum_upto X N c.val c.isLt)
/-- The same of reals. -/
theorem window_from (X : ℕ → ℝ) (hx : ∀ u : Fin N, x (ix3 a b u) = ((X u.val : ℝ) : EReal)) {up : ℕ}
    (h : (S3 A B N).ReduceWindows (![1, 1, N] : Fin 3 → ℕ) ![1, 1, 1] ![0, 0, 0] ![0, 0, up] (S3 A B N)) :
    Host.reduceWindow (· + ·) ![1, 1, N] ![1, 1, 1] ![0, 0, 0] ![0, 0, up] x (fun _ : (⟨0, ![]⟩ : Shape).Idx => v) h hu (ix3 a b c)
      = ((∑ u ∈ Ico c.val N, X u : ℝ) : EReal) :=
  (window_from_ext x v hv hu a b c (fun u => (X u : EReal)) hx h).trans (coe_sum _ X)
theorem window_upto (X : ℕ → ℝ) (hx : ∀ u : Fin N, x (ix3 a b u) = ((X u.val : ℝ) : EReal)) {lo : ℕ} (hlo : lo = N - 1)
    (h : (S3 A B N).ReduceWindows (![1, 1, N] : Fin 3 → ℕ) ![1, 1, 1] ![0, 0, lo] ![0, 0, 0] (S3 A B N)) :
    Host.reduceWindow (· + ·) ![1, 1, N] ![1, 1, 1] ![0, 0, lo] ![0, 0, 0] x (fun _ : (⟨0, ![]⟩ : Shape).Idx => v) h hu (ix3 a b c)
      = ((∑ u ∈ Ico 0 (c.val + 1), X u : ℝ) : EReal) :=
  (window_upto_ext x v hv hu a b c (fun u => (X u : EReal)) hx hlo h).trans (coe_sum _ X)
end
end Cert.Stick
end
-- ==== Proof.Ref.lean ====
module

public import proofs.«01_k».proof.Proof.Gen.ReferenceIdeal.Run
public import proofs.«01_k».proof.Proof.Window
public import Idealize.ShloMosaic.Lib.Pointwise
public import Idealize.ShloMosaic.Lib.WordCmp

@[expose] public section

/-! The reference's stages by name: heads, scores, the logarithm of the logistic function and what its derivative keeps, the weights,
    and the three gradients. -/

set_option maxRecDepth 16384

noncomputable section

namespace Cert.ReferenceIdeal.Hand

open Cert.ReferenceIdeal Cert.ReferenceIdeal.Gen Cert.Stick
open Idealize.ShloMosaic Idealize.ShloMosaic.TcCoe Idealize.ShloMosaic.Tactic

abbrev T := FVec Ideal S8x8192x8192 .f32
abbrev H := FVec Ideal S8x8192x64 .f32

def cut0 (x : FVec Ideal S8192x1536 .bf16) : FVec Ideal S8192x512 .f32 := extractStridedSlice S8192x512 ![0, 0] (extf .f32 x bitsLt_bf16_f32) slices_S8192x1536_S8192x512_0_0
def cut1 (x : FVec Ideal S8192x1536 .bf16) : FVec Ideal S8192x512 .f32 := extractStridedSlice S8192x512 ![0, 512] (extf .f32 x bitsLt_bf16_f32) slices_S8192x1536_S8192x512_0_512
def cut2 (x : FVec Ideal S8192x1536 .bf16) : FVec Ideal S8192x512 .f32 := extractStridedSlice S8192x512 ![0, 1024] (extf .f32 x bitsLt_bf16_f32) slices_S8192x1536_S8192x512_0_1024
/-- A table by heads, and back. -/
def heads (x : FVec Ideal S8192x512 .f32) : H := transpose S8x8192x64 [1, 0, 2] (shapeCast S8192x8x64 x shapeCasts_S8192x512_S8192x8x64) transposes_S8192x8x64_S8x8192x64_1_0_2
def flat (x : H) : FVec Ideal S8192x512 .f32 := shapeCast S8192x512 (transpose S8192x8x64 [1, 0, 2] x transposes_S8x8192x64_S8192x8x64_1_0_2) shapeCasts_S8192x8x64_S8192x512

def b0 : T := broadcastInDim S8x8192x8192 ![] bcast_S_S8x8192x8192 (constant S_ .f32 0x00000000#32 : FVec Ideal S_ .f32)
def b0' : T := broadcastInDim S8x8192x8192 ![] bcast_S_S8x8192x8192 (id (constant S_ .f32 0x00000000#32 : FVec Ideal S_ .f32))
def bInf : T := broadcastInDim S8x8192x8192 ![] bcast_S_S8x8192x8192 (constant S_ .f32 0x7F800000#32 : FVec Ideal S_ .f32)
def b8 : T := broadcastInDim S8x8192x8192 ![] bcast_S_S8x8192x8192 (constant S_ .f32 0x3E000000#32 : FVec Ideal S_ .f32)
def s0 : FVec Ideal S_ .f32 := broadcastInDim S_ ![] bcast_S_S_ (constant S_ .f32 0x00000000#32 : FVec Ideal S_ .f32)

def nt3 (a b : H) : T := Host.dotGeneral dot_S8x8192x64_S8x8192x64_S8x8192x8192_2_2_1_1_0_0 none a b
def nn3 (w : T) (b : H) : H := Host.dotGeneral dot_S8x8192x8192_S8x8192x64_S8x8192x64_2_1_1_2_0_0 none w b
def tn3 (w : T) (b : H) : H := Host.dotGeneral dot_S8x8192x8192_S8x8192x64_S8x8192x64_1_1_2_2_0_0 none w b
def dv3 (a : H) (w : T) : H := transpose S8x8192x64 [0, 2, 1] (Host.dotGeneral dot_S8x8192x64_S8x8192x8192_S8x64x8192_1_1_2_2_0_0 none a w : FVec Ideal S8x64x8192 .f32) transposes_S8x64x8192_S8x8192x64_0_2_1

def zR (q k : H) : T := mulf (nt3 q k) b8
def msk : IVec S8x8192x8192 1 := broadcastInDim S8x8192x8192 ![1, 2] bcast_S8192x8192_S8x8192x8192_1_2 (cmpi .slt (broadcastInDim S8192x8192 ![0, 1] bcast_S1x8192_S8192x8192_0_1 (broadcastInDim S1x8192 ![1] bcast_S8192_S1x8192_1 (iotaInDim S8192 32 0))) (broadcastInDim S8192x8192 ![0, 1] bcast_S8192x1_S8192x8192_0_1 (broadcastInDim S8192x1 ![0] bcast_S8192_S8192x1_0 (iotaInDim S8192 32 0))))
/-- `log (1 + exp y)`, and its derivative at `y` given it. -/
def sft (y : T) : T := select (cmpf .une (subf y b0) (subf y b0)) (addf y b0) (addf (maximumf y b0) (Host.log1p (Host.exp (Host.negf (Host.absf (subf y b0))))))
def sgm (y s : T) : T := Host.exp (subf (select (cmpf .oeq y bInf) b0 y) (select (cmpf .oeq s bInf) b0 s))
def from3 (x : T) : T := Host.reduceWindowAdd ![1, 1, 8192] ![1, 1, 1] ![0, 0, 0] ![0, 0, 8191] x s0 reduceWindows_S8x8192x8192_S8x8192x8192_w1s1p0_0_w1s1p0_0_w8192s1p0_8191 h_S_
def upto3 (x : T) : T := Host.reduceWindowAdd ![1, 1, 8192] ![1, 1, 1] ![0, 0, 8191] ![0, 0, 0] x s0 reduceWindows_S8x8192x8192_S8x8192x8192_w1s1p0_0_w1s1p0_0_w8192s1p8191_0 h_S_

/-- The weights before the mask, and after it. -/
def v22 (z : T) : T := select msk (Host.negf (sft (Host.negf (Host.negf z)))) b0'
def v26 (z : T) : T := Host.exp (addf (Host.negf (sft (Host.negf z))) (subf (from3 (v22 z)) (v22 z)))
def v27 (z : T) : T := select msk (v26 z) b0'
/-- The gradients of the logarithms of the weights, and of the scores. -/
def v38 (z a : T) : T := mulf (select msk a b0) (v26 z)
def v42 (z a : T) : T := select msk (addf (Host.negf (v38 z a)) (upto3 (v38 z a))) b0
def lsg (y x : T) : T := Host.negf (mulf (Host.negf x) (sgm y (sft y)))
def v48 (z a : T) : T := mulf (addf (Host.negf (lsg (Host.negf (Host.negf z)) (v42 z a))) (lsg (Host.negf z) (v38 z a))) b8

variable (m : (ℓ : Loc nD τ sig) → Buf (Elt Ideal) ℓ) (c : Dev nD)
abbrev ag0 : FVec Ideal S8192x1536 .bf16 := m ((c.tc : Thread nD τ).loc main_arg0)
abbrev ag1 : FVec Ideal S8192x512 .bf16 := m ((c.tc : Thread nD τ).loc main_arg1)
def qH : H := heads (cut0 (ag0 m c))
def kH : H := heads (cut1 (ag0 m c))
def vH : H := heads (cut2 (ag0 m c))
def oH : H := heads (extf .f32 (ag1 m c) bitsLt_bf16_f32)
def zH : T := zR (qH m c) (kH m c)
def aH : T := nt3 (oH m c) (vH m c)

set_option maxHeartbeats 4000000 in
theorem res52 : Value.res_main_v52 m c = flat (dv3 (oH m c) (v27 (zH m c))) := by
  unfold Value.res_main_v52; rfl
set_option maxHeartbeats 4000000 in
theorem res54 : Value.res_main_v54 m c = flat (tn3 (v48 (zH m c) (aH m c)) (qH m c)) := by
  unfold Value.res_main_v54; rfl
set_option maxHeartbeats 4000000 in
theorem res56 : Value.res_main_v56 m c = flat (nn3 (v48 (zH m c) (aH m c)) (kH m c)) := by
  unfold Value.res_main_v56; rfl
end Cert.ReferenceIdeal.Hand
end
-- ==== Proof.Entry.lean ====
module

public import proofs.«01_k».proof.Proof.Body
public import proofs.«01_k».proof.Proof.Stick
public import Idealize.ShloMosaic.Lib.Pointwise
public import Idealize.ShloMosaic.Lib.WordCmp

@[expose] public section

/-! The tile functions at the extended reals, read at an entry. -/

set_option maxRecDepth 16384

noncomputable section

namespace Cert.KernelIdeal.Hand

open Cert.KernelIdeal Cert.KernelIdeal.Gen
open Idealize.ShloMosaic Finset

theorem nt_apply (a : FVec Ideal S256x128 .bf16) (b : Vec Ideal S1024x128 .bf16) (x : Fin 256) (y : Fin 1024) :
    nt a b (ix2 x y) = ∑ d : Fin 128, a (ix2 x d) * b (ix2 y d) := by
  unfold nt
  pointwise
theorem tn_apply (a : FVec Ideal S256x1024 .bf16) (b : FVec Ideal S256x128 .bf16) (y : Fin 1024) (d : Fin 128) :
    tn a b (ix2 y d) = ∑ x : Fin 256, a (ix2 x y) * b (ix2 x d) := by
  unfold tn
  pointwise
theorem nn_apply (a : FVec Ideal S256x1024 .bf16) (b : FVec Ideal S1024x128 .bf16) (x : Fin 256) (d : Fin 128) :
    nn a b (ix2 x d) = ∑ y : Fin 1024, a (ix2 x y) * b (ix2 y d) := by
  unfold nn
  pointwise
theorem spT_apply (z : FVec Ideal S256x1024 .f32) (x : Fin 256) (y : Fin 1024) :
    spT z (ix2 x y) = max (z (ix2 x y)) 0 + Ideal.log (1 + Ideal.exp (0 - max (z (ix2 x y)) (-(z (ix2 x y))))) := by
  unfold spT
  pointwise
  rfl
theorem addCol_apply (r : FVec Ideal S256x1 .f32) (b : FVec Ideal S256x256 .f32) (x : Fin 256) :
    addCol r b (ix2 x 0) = r (ix2 x 0) + ∑ k : Fin 256, b (ix2 x k) := by
  unfold addCol
  pointwise
theorem cumB_apply (m : FVec Ideal S256x256 .bf16) (b : FVec Ideal S256x256 .f32) (r : FVec Ideal S256x1 .f32) (x y : Fin 256) :
    cumB m b r (ix2 x y) = (∑ k : Fin 256, b (ix2 x k) * m (ix2 k y)) + r (ix2 x 0) := by
  unfold cumB
  pointwise
theorem b0_apply (z : FVec Ideal S256x1024 .f32) (x y : Fin 256) : b0 z (ix2 x y) = z (ix2 x ⟨0 + y.val, by omega⟩) := by
  unfold b0; pointwise
theorem b1_apply (z : FVec Ideal S256x1024 .f32) (x y : Fin 256) : b1 z (ix2 x y) = z (ix2 x ⟨256 + y.val, by omega⟩) := by
  unfold b1; pointwise
theorem b2_apply (z : FVec Ideal S256x1024 .f32) (x y : Fin 256) : b2 z (ix2 x y) = z (ix2 x ⟨512 + y.val, by omega⟩) := by
  unfold b2; pointwise
theorem b3_apply (z : FVec Ideal S256x1024 .f32) (x y : Fin 256) : b3 z (ix2 x y) = z (ix2 x ⟨768 + y.val, by omega⟩) := by
  unfold b3; pointwise
theorem cat_apply (a b c d : FVec Ideal S256x256 .f32) (x : Fin 256) (y : Fin 1024) :
    cat a b c d (ix2 x y) = (if h : y.val < 256 then a (ix2 x ⟨y.val, h⟩) else if h : y.val - 256 < 256 then b (ix2 x ⟨y.val - 256, h⟩)
      else if h : y.val - 256 - 256 < 256 then c (ix2 x ⟨y.val - 256 - 256, h⟩) else d (ix2 x ⟨y.val - 256 - 256 - 256, by omega⟩)) := by
  unfold cat
  pointwise
theorem suf_apply (x y : Fin 256) : (k0_pay269 : FVec Ideal S256x256 .bf16) (ix2 x y) = if y.val ≤ x.val then 1 else 0 := by
  unfold k0_pay269
  pointwise
  have hx := x.isLt
  have hy := y.isLt
  rw [WordCmp.cmpi_sge_ofNat (by omega) (by omega)]
  split <;> rename_i h <;> simp only [h, decide_true, decide_false]
  · show (((BitVec.setWidth 32 (BitVec.ofBool true)).toInt : ℝ) : EReal) = 1; simp
  · show (((BitVec.setWidth 32 (BitVec.ofBool false)).toInt : ℝ) : EReal) = 0; simp
theorem pre_apply (x y : Fin 256) : (k0_pay270 : FVec Ideal S256x256 .bf16) (ix2 x y) = if x.val ≤ y.val then 1 else 0 := by
  unfold k0_pay270
  pointwise
  have hx := x.isLt
  have hy := y.isLt
  rw [WordCmp.cmpi_sle_ofNat (by omega) (by omega)]
  split <;> rename_i h <;> simp only [h, decide_true, decide_false]
  · show (((BitVec.setWidth 32 (BitVec.ofBool true)).toInt : ℝ) : EReal) = 1; simp
  · show (((BitVec.setWidth 32 (BitVec.ofBool false)).toInt : ℝ) : EReal) = 0; simp
theorem dmask_apply (a b : ℕ) (ha : a < 32) (hb : b < 8) (x : Fin 256) (y : Fin 1024) :
    dmask (BitVec.ofNat 32 a) (BitVec.ofNat 32 b) (ix2 x y) = BitVec.ofBool (decide (y.val + b * 1024 < x.val + a * 256)) := by
  unfold dmask
  pointwise
  have hx := x.isLt
  have hy := y.isLt
  rw [show IntOp.addi (BitVec.ofNat 32 y.val) (Scalar.muli (BitVec.ofNat 32 b) 1024#32) = BitVec.ofNat 32 (y.val + b * 1024) by
      rw [BitVec.ofNat_add, BitVec.ofNat_mul]; rfl,
    show IntOp.addi (BitVec.ofNat 32 x.val) (Scalar.muli (BitVec.ofNat 32 a) 256#32) = BitVec.ofNat 32 (x.val + a * 256) by
      rw [BitVec.ofNat_add, BitVec.ofNat_mul]; rfl]
  exact WordCmp.cmpi_slt_ofNat (by omega) (by omega)
theorem eighth16 : Ideal.ofBits .bf16 0x3E00#16 = ((1 / 8 : ℝ) : EReal) := by
  simp [Ideal.ofBits, Ideal.ieee, -EReal.coe_mul]; norm_num
theorem eighth32 : Ideal.ofBits .f32 0x3E000000#32 = ((1 / 8 : ℝ) : EReal) := by
  simp [Ideal.ofBits, Ideal.ieee, -EReal.coe_mul]; norm_num
theorem lane_lo : ∀ d : Fin 128, IntOp.andi (IntOp.cmpi CmpIPredicate.sge (BitVec.ofNat 32 d.val) 0#32) (IntOp.cmpi CmpIPredicate.slt (BitVec.ofNat 32 d.val) 64#32)
    = BitVec.ofBool (decide (d.val / 64 = 0)) := by decide +kernel
theorem lane_hi : ∀ d : Fin 128, IntOp.andi (IntOp.cmpi CmpIPredicate.sge (BitVec.ofNat 32 d.val) 64#32) (IntOp.cmpi CmpIPredicate.slt (BitVec.ofNat 32 d.val) 128#32)
    = BitVec.ofBool (decide (d.val / 64 = 1)) := by decide +kernel
theorem select_bool {α : Type} (p : Prop) [Decidable p] (a b : α) : Scalar.select (BitVec.ofBool (decide p)) a b = if p then a else b := by
  by_cases h : p <;> simp [h, Scalar.select]
theorem qa_apply (q : Vec Ideal S256x128 .bf16) (x : Fin 256) (d : Fin 128) :
    qa q (ix2 x d) = (if d.val / 64 = 0 then q (ix2 x d) else 0) * ((1 / 8 : ℝ) : EReal) := by
  unfold qa k0_pay274 k0_pay272 k0_pay271 lanes
  pointwise
  rw [lane_lo, select_bool, eighth16]; simp
theorem qb_apply (q : Vec Ideal S256x128 .bf16) (x : Fin 256) (d : Fin 128) :
    qb q (ix2 x d) = (if d.val / 64 = 1 then q (ix2 x d) else 0) * ((1 / 8 : ℝ) : EReal) := by
  unfold qb k0_pay275 k0_pay273
  pointwise
  rw [lane_hi, select_bool, eighth16]; simp
theorem da_apply (q : Vec Ideal S256x128 .bf16) (x : Fin 256) (d : Fin 128) : da q (ix2 x d) = if d.val / 64 = 0 then q (ix2 x d) else 0 := by
  unfold da k0_pay276 k0_pay272 k0_pay271 lanes
  pointwise
  rw [lane_lo, select_bool]; simp
theorem db_apply (q : Vec Ideal S256x128 .bf16) (x : Fin 256) (d : Fin 128) : db q (ix2 x d) = if d.val / 64 = 1 then q (ix2 x d) else 0 := by
  unfold db k0_pay277 k0_pay273
  pointwise
  rw [lane_hi, select_bool]; simp
theorem kmask_lo (k : Vec Ideal S1024x128 .bf16) (x : Fin 1024) (d : Fin 128) : kmask lo k (ix2 x d) = if d.val / 64 = 0 then k (ix2 x d) else 0 := by
  unfold kmask lo k0_pay272 k0_pay271 lanes
  pointwise
  rw [lane_lo, select_bool]; simp
theorem kmask_hi (k : Vec Ideal S1024x128 .bf16) (x : Fin 1024) (d : Fin 128) : kmask hi k (ix2 x d) = if d.val / 64 = 1 then k (ix2 x d) else 0 := by
  unfold kmask hi k0_pay273
  pointwise
  rw [lane_hi, select_bool]; simp
theorem maskC_eq : (maskC : Ideal .f32) = ⊥ := by
  unfold maskC
  show ((κ "mask").getD (Ideal.ofBits .f32 0xF149F2CA#32) : EReal) = ⊥
  simp [κ]
theorem sel_apply (c : IVec S256x1024 1) (z : FVec Ideal S256x1024 .f32) (x : Fin 256) (y : Fin 1024) :
    select c z (broadcast S256x1024 maskC) (ix2 x y) = Scalar.select (c (ix2 x y)) (z (ix2 x y)) ⊥ := by
  pointwise
  rw [maskC_eq]
theorem aT_apply (m : FVec Ideal S256x256 .bf16) (z : FVec Ideal S256x1024 .f32) (r : FVec Ideal S256x1 .f32) (x : Fin 256) (y : Fin 1024) :
    aT m z r (ix2 x y) = Ideal.exp (z (ix2 x y) - cumS m (spT z) r (ix2 x y)) := by
  unfold aT
  pointwise
theorem dzT_apply (m : FVec Ideal S256x256 .bf16) (g s : FVec Ideal S256x1024 .f32) (r : FVec Ideal S256x1 .f32) (x : Fin 256) (y : Fin 1024) :
    dzT m g s r (ix2 x y) = g (ix2 x y) - (1 - Ideal.exp (0 - s (ix2 x y))) * cumP m g r (ix2 x y) := by
  unfold dzT
  pointwise
theorem vN_apply (m : FVec Ideal S256x256 .bf16) (z0 z1 : Vec Ideal S1x1x256x1024 .f32) (r0 r1 : Vec Ideal S1x256x1 .f32) (d0 d1 : FVec Ideal S256x128 .bf16)
    (t : FVec Ideal S1024x128 .f32) (y : Fin 1024) (d : Fin 128) :
    vN m z0 z1 r0 r1 d0 d1 t (ix2 y d) = t (ix2 y d) + ((∑ x : Fin 256, aT m (sq z0) (sqr r0) (ix2 x y) * d0 (ix2 x d)) + ∑ x : Fin 256, aT m (sq z1) (sqr r1) (ix2 x y) * d1 (ix2 x d)) := by
  unfold vN zk
  pointwise
  rw [tn_apply, tn_apply]; rfl
theorem kN_apply (x0 x1 : FVec Ideal S256x1024 .bf16) (q0 q1 : FVec Ideal S256x128 .bf16) (t : FVec Ideal S1024x128 .f32) (y : Fin 1024) (d : Fin 128) :
    kN x0 x1 q0 q1 t (ix2 y d) = t (ix2 y d) + ((∑ x : Fin 256, x0 (ix2 x y) * q0 (ix2 x d)) + ∑ x : Fin 256, x1 (ix2 x y) * q1 (ix2 x d)) := by
  unfold kN zk
  pointwise
  rw [tn_apply, tn_apply]
theorem qN_apply (w0 w1 : IVec S1x128 1) (k : Vec Ideal S1024x128 .bf16) (x0 x1 : FVec Ideal S256x1024 .bf16) (a : FVec Ideal S256x128 .f32) (x : Fin 256) (d : Fin 128) :
    qN w0 w1 k x0 x1 a (ix2 x d) = a (ix2 x d) + (∑ y : Fin 1024, x0 (ix2 x y) * kmask w0 k (ix2 y d)) + ∑ y : Fin 1024, x1 (ix2 x y) * kmask w1 k (ix2 y d) := by
  unfold qN
  pointwise
  rw [nn_apply, nn_apply]
theorem pay8_apply (a : Vec Ideal S256x128 .f32) (x : Fin 256) (d : Fin 128) : k0_pay8 a (ix2 x d) = a (ix2 x d) * ((1 / 8 : ℝ) : EReal) := by
  unfold k0_pay8
  pointwise
  rw [eighth32]
theorem sq_us (z : FVec Ideal S256x1024 .f32) : sq (us z) = z := by
  funext j; idx_vars j; unfold sq us
  pointwise
theorem sqr_usr (z : FVec Ideal S256x1 .f32) : sqr (usr z) = z := by
  funext j; idx_vars j; unfold sqr usr
  pointwise
end Cert.KernelIdeal.Hand
end
-- ==== Proof.Sums.lean ====
module

public import proofs.«01_k».proof.Proof.Entry

@[expose] public section

/-! The tile functions on real entries, a row at a time: the running sums of 1024 keys taken in four blocks are the sums over
    the keys' numbers. -/

set_option maxRecDepth 16384

noncomputable section

namespace Cert.KernelIdeal.Hand

open Cert.KernelIdeal Cert.KernelIdeal.Gen Cert.Stick
open Idealize.ShloMosaic Finset

/-- The sum of the entries a triangular column keeps, from number `y` on. -/
theorem sum_suf (n : ℕ) (X : ℕ → ℝ) (y : ℕ) (hy : y ≤ n) :
    ∑ k : Fin n, ((X k.val : ℝ) : EReal) * (if y ≤ k.val then 1 else 0) = ((∑ k ∈ Ico y n, X k : ℝ) : EReal) := by
  rw [← Stick.coe_sum, (Finset.sum_range (fun k => ((X k : ℝ) : EReal) * (if y ≤ k then 1 else 0))).symm,
    ← Finset.sum_subset (s₁ := Ico y n)]
  · refine Finset.sum_congr rfl fun k hk => ?_
    rw [if_pos (Finset.mem_Ico.1 hk).1, mul_one]
  · intro k hk
    exact Finset.mem_range.2 (Finset.mem_Ico.1 hk).2
  · intro k hk hk'
    rw [if_neg (fun h => hk' (Finset.mem_Ico.2 ⟨h, Finset.mem_range.1 hk⟩)), mul_zero]
/-- And up to number `y`. -/
theorem sum_pre (n : ℕ) (X : ℕ → ℝ) (y : ℕ) (hy : y < n) :
    ∑ k : Fin n, ((X k.val : ℝ) : EReal) * (if k.val ≤ y then 1 else 0) = ((∑ k ∈ Ico 0 (y + 1), X k : ℝ) : EReal) := by
  rw [← Stick.coe_sum, (Finset.sum_range (fun k => ((X k : ℝ) : EReal) * (if k ≤ y then 1 else 0))).symm,
    ← Finset.sum_subset (s₁ := Ico 0 (y + 1))]
  · refine Finset.sum_congr rfl fun k hk => ?_
    rw [if_pos (Nat.lt_succ_iff.1 (Finset.mem_Ico.1 hk).2), mul_one]
  · intro k hk
    have := Finset.mem_Ico.1 hk
    exact Finset.mem_range.2 (by omega)
  · intro k hk hk'
    rw [if_neg (fun h => hk' (Finset.mem_Ico.2 ⟨Nat.zero_le _, by omega⟩)), mul_zero]
theorem sum_fin (n : ℕ) (X : ℕ → ℝ) : ∑ k : Fin n, ((X k.val : ℝ) : EReal) = ((∑ k ∈ Ico 0 n, X k : ℝ) : EReal) := by
  rw [← Stick.coe_sum, (Finset.sum_range (fun k => ((X k : ℝ) : EReal))).symm, Finset.range_eq_Ico]

section
variable (x : FVec Ideal S256x1024 .f32) (r : FVec Ideal S256x1 .f32) (a : Fin 256) (X : ℕ → ℝ) (R : ℝ)
  (hx : ∀ k : Fin 1024, x (ix2 a k) = ((X k.val : ℝ) : EReal)) (hr : r (ix2 a 0) = ((R : ℝ) : EReal))
include hx hr

/-- A block of 256 keys of a row. -/
def Blk (b : FVec Ideal S256x256 .f32) (a : Fin 256) (X : ℕ → ℝ) (c : ℕ) : Prop := ∀ k : Fin 256, b (ix2 a k) = ((X (c + k.val) : ℝ) : EReal)
omit hx hr in
theorem addCol_re {b : FVec Ideal S256x256 .f32} {c : ℕ} {r : FVec Ideal S256x1 .f32} {R : ℝ} (hb : Blk b a X c) (hr : r (ix2 a 0) = ((R : ℝ) : EReal)) :
    addCol r b (ix2 a 0) = ((R + ∑ k ∈ Ico c (c + 256), X k : ℝ) : EReal) := by
  rw [addCol_apply, hr, Finset.sum_congr rfl fun k _ => hb k, sum_fin 256 (fun k => X (c + k)), sum_block, EReal.coe_add, Nat.add_zero]
omit hx hr in
theorem cumSuf_re {b : FVec Ideal S256x256 .f32} {c : ℕ} {r : FVec Ideal S256x1 .f32} {R : ℝ} (hb : Blk b a X c) (hr : r (ix2 a 0) = ((R : ℝ) : EReal)) (y : Fin 256) :
    cumB k0_pay269 b r (ix2 a y) = ((∑ k ∈ Ico (c + y.val) (c + 256), X k + R : ℝ) : EReal) := by
  rw [cumB_apply, hr, Finset.sum_congr rfl fun k _ => by rw [hb k, suf_apply], sum_suf 256 (fun k => X (c + k)) y.val (by omega), sum_block, EReal.coe_add]
omit hx hr in
theorem cumPre_re {b : FVec Ideal S256x256 .f32} {c : ℕ} {r : FVec Ideal S256x1 .f32} {R : ℝ} (hb : Blk b a X c) (hr : r (ix2 a 0) = ((R : ℝ) : EReal)) (y : Fin 256) :
    cumB k0_pay270 b r (ix2 a y) = ((∑ k ∈ Ico c (c + y.val + 1), X k + R : ℝ) : EReal) := by
  rw [cumB_apply, hr, Finset.sum_congr rfl fun k _ => by rw [hb k, pre_apply], sum_pre 256 (fun k => X (c + k)) y.val (by omega), sum_block, EReal.coe_add]
  rfl
omit hr in
theorem blk0 : Blk (b0 x) a X 0 := fun k => by rw [b0_apply, hx]
omit hr in
theorem blk1 : Blk (b1 x) a X 256 := fun k => by rw [b1_apply, hx]
omit hr in
theorem blk2 : Blk (b2 x) a X 512 := fun k => by rw [b2_apply, hx]
omit hr in
theorem blk3 : Blk (b3 x) a X 768 := fun k => by rw [b3_apply, hx]

theorem endS_re : endS x r (ix2 a 0) = ((R + ∑ k ∈ Ico 0 1024, X k : ℝ) : EReal) := by
  unfold endS
  rw [addCol_re a X (blk0 x a X hx) (addCol_re a X (blk1 x a X hx) (addCol_re a X (blk2 x a X hx) (addCol_re a X (blk3 x a X hx) hr)))]
  have e1 := sum_join X (show 0 ≤ 256 by omega) (show 256 ≤ 512 by omega)
  have e2 := sum_join X (show 0 ≤ 512 by omega) (show 512 ≤ 768 by omega)
  have e3 := sum_join X (show 0 ≤ 768 by omega) (show 768 ≤ 1024 by omega)
  refine congrArg _ ?_
  norm_num only [Nat.reduceAdd]
  linarith
theorem endP_re : endP x r (ix2 a 0) = ((R + ∑ k ∈ Ico 0 1024, X k : ℝ) : EReal) := by
  unfold endP
  rw [addCol_re a X (blk3 x a X hx) (addCol_re a X (blk2 x a X hx) (addCol_re a X (blk1 x a X hx) (addCol_re a X (blk0 x a X hx) hr)))]
  have e1 := sum_join X (show 0 ≤ 256 by omega) (show 256 ≤ 512 by omega)
  have e2 := sum_join X (show 0 ≤ 512 by omega) (show 512 ≤ 768 by omega)
  have e3 := sum_join X (show 0 ≤ 768 by omega) (show 768 ≤ 1024 by omega)
  refine congrArg _ ?_
  norm_num only [Nat.reduceAdd]
  linarith
theorem cumS_re (y : Fin 1024) : cumS k0_pay269 x r (ix2 a y) = ((∑ k ∈ Ico y.val 1024, X k + R : ℝ) : EReal) := by
  have h3 := addCol_re a X (blk3 x a X hx) hr
  have h2 := addCol_re a X (blk2 x a X hx) h3
  have h1 := addCol_re a X (blk1 x a X hx) h2
  unfold cumS
  rw [cat_apply]
  have hy := y.isLt
  split
  · rename_i h
    rw [cumSuf_re a X (blk0 x a X hx) h1]
    have e1 := sum_join X (show y.val ≤ 256 by omega) (show 256 ≤ 512 by omega)
    have e2 := sum_join X (show y.val ≤ 512 by omega) (show 512 ≤ 768 by omega)
    have e3 := sum_join X (show y.val ≤ 768 by omega) (show 768 ≤ 1024 by omega)
    refine congrArg _ ?_
    simp only [Nat.reduceAdd, Nat.zero_add]
    linarith
  · split
    · rename_i h h'
      rw [cumSuf_re a X (blk1 x a X hx) h2]
      have e2 := sum_join X (show y.val ≤ 512 by omega) (show 512 ≤ 768 by omega)
      have e3 := sum_join X (show y.val ≤ 768 by omega) (show 768 ≤ 1024 by omega)
      refine congrArg _ ?_
      simp only [Nat.reduceAdd, show 256 + (y.val - 256) = y.val by omega]
      linarith
    · split
      · rename_i h h' h''
        rw [cumSuf_re a X (blk2 x a X hx) h3]
        have e3 := sum_join X (show y.val ≤ 768 by omega) (show 768 ≤ 1024 by omega)
        refine congrArg _ ?_
        simp only [Nat.reduceAdd, show 512 + (y.val - 256 - 256) = y.val by omega]
        linarith
      · rename_i h h' h''
        rw [cumSuf_re a X (blk3 x a X hx) hr]
        simp only [Nat.reduceAdd, show 768 + (y.val - 256 - 256 - 256) = y.val by omega]
theorem cumP_re (y : Fin 1024) : cumP k0_pay270 x r (ix2 a y) = ((∑ k ∈ Ico 0 (y.val + 1), X k + R : ℝ) : EReal) := by
  have h0 := addCol_re a X (blk0 x a X hx) hr
  have h1 := addCol_re a X (blk1 x a X hx) h0
  have h2 := addCol_re a X (blk2 x a X hx) h1
  unfold cumP
  rw [cat_apply]
  have hy := y.isLt
  split
  · rename_i h
    rw [cumPre_re a X (blk0 x a X hx) hr]
    simp only [Nat.zero_add]
  · split
    · rename_i h h'
      rw [cumPre_re a X (blk1 x a X hx) h0]
      have e1 := sum_join X (show 0 ≤ 256 by omega) (show 256 ≤ y.val + 1 by omega)
      refine congrArg _ ?_
      simp only [Nat.reduceAdd, Nat.zero_add, show 256 + (y.val - 256) = y.val by omega]
      linarith
    · split
      · rename_i h h' h''
        rw [cumPre_re a X (blk2 x a X hx) h1]
        have e1 := sum_join X (show 0 ≤ 256 by omega) (show 256 ≤ 512 by omega)
        have e2 := sum_join X (show 0 ≤ 512 by omega) (show 512 ≤ y.val + 1 by omega)
        refine congrArg _ ?_
        simp only [Nat.reduceAdd, Nat.zero_add, show 512 + (y.val - 256 - 256) = y.val by omega]
        linarith
      · rename_i h h' h''
        rw [cumPre_re a X (blk3 x a X hx) h2]
        have e1 := sum_join X (show 0 ≤ 256 by omega) (show 256 ≤ 512 by omega)
        have e2 := sum_join X (show 0 ≤ 512 by omega) (show 512 ≤ 768 by omega)
        have e3 := sum_join X (show 0 ≤ 768 by omega) (show 768 ≤ y.val + 1 by omega)
        refine congrArg _ ?_
        simp only [Nat.reduceAdd, Nat.zero_add, show 768 + (y.val - 256 - 256 - 256) = y.val by omega]
        linarith
end

/-- The softplus of a real score. -/
theorem sp_coe (v : ℝ) : max ((v : ℝ) : EReal) 0 + Ideal.log (1 + Ideal.exp (0 - max ((v : ℝ) : EReal) (-((v : ℝ) : EReal)))) = ((sp v : ℝ) : EReal) := by
  unfold sp
  have h : (0 : ℝ) < 1 + Real.exp (-|v|) := by positivity
  rw [← EReal.coe_neg, ← EReal.coe_zero, ← EReal.coe_one, ← EReal.coe_strictMono.monotone.map_max, ← EReal.coe_strictMono.monotone.map_max, ← EReal.coe_sub, Ideal.exp_coe, ← EReal.coe_add,
    show (0 : ℝ) - max v (-v) = -|v| by rw [zero_sub]; rfl, Ideal.log_coe, if_neg (not_le.2 h), ← EReal.coe_add]
/-- The softplus of a masked score. -/
theorem sp_bot : max (⊥ : EReal) 0 + Ideal.log (1 + Ideal.exp (0 - max (⊥ : EReal) (-⊥))) = ((0 : ℝ) : EReal) := by
  rw [EReal.neg_bot, max_eq_right bot_le, max_eq_right bot_le, show (0 : EReal) - ⊤ = ⊥ from rfl, Ideal.exp_bot, add_zero, ← EReal.coe_one, Ideal.log_coe]
  simp
end Cert.KernelIdeal.Hand
end
-- ==== Proof.RefAt.lean ====
module

public import proofs.«01_k».proof.Proof.Ref
public import proofs.«01_k».proof.Proof.Sums

@[expose] public section

/-! The reference's stages, read at an entry. -/

set_option maxRecDepth 16384

noncomputable section

namespace Cert.ReferenceIdeal.Hand

open Cert.ReferenceIdeal Cert.ReferenceIdeal.Gen Cert.Stick
open Idealize.ShloMosaic Idealize.ShloMosaic.TcCoe Idealize.ShloMosaic.Tactic Finset

theorem nt3_at (a b : H) (h : Fin 8) (t s : Fin 8192) : nt3 a b (ix3 h t s) = ∑ d : Fin 64, a (ix3 h t d) * b (ix3 h s d) := by
  unfold nt3; pointwise
theorem nn3_at (w : T) (b : H) (h : Fin 8) (t : Fin 8192) (d : Fin 64) : nn3 w b (ix3 h t d) = ∑ s : Fin 8192, w (ix3 h t s) * b (ix3 h s d) := by
  unfold nn3; pointwise
theorem tn3_at (w : T) (b : H) (h : Fin 8) (s : Fin 8192) (d : Fin 64) : tn3 w b (ix3 h s d) = ∑ t : Fin 8192, w (ix3 h t s) * b (ix3 h t d) := by
  unfold tn3; pointwise
theorem dv3_at (a : H) (w : T) (h : Fin 8) (s : Fin 8192) (d : Fin 64) : dv3 a w (ix3 h s d) = ∑ t : Fin 8192, a (ix3 h t d) * w (ix3 h t s) := by
  unfold dv3; pointwise
theorem msk_at (h : Fin 8) (t s : Fin 8192) : msk (ix3 h t s) = BitVec.ofBool (decide (s.val < t.val)) := by
  unfold msk; pointwise
  exact WordCmp.cmpi_slt_ofNat (by omega) (by omega)
theorem b0_at (j : S8x8192x8192.Idx) : b0 j = 0 := Ideal.ofBits_zero_f32
theorem b0'_at (j : S8x8192x8192.Idx) : b0' j = 0 := Ideal.ofBits_zero_f32
theorem b8_at (j : S8x8192x8192.Idx) : b8 j = ((1 / 8 : ℝ) : EReal) := Cert.KernelIdeal.Hand.eighth32
theorem bInf_at (j : S8x8192x8192.Idx) : bInf j = ⊤ := by
  show Ideal.ofBits .f32 0x7F800000#32 = ⊤
  simp [Ideal.ofBits, Ideal.ieee]

theorem heads_at (x : FVec Ideal S8192x512 .f32) (h : Fin 8) (t : Fin 8192) (d : Fin 64) : heads x (ix3 h t d) = x (ix2 t ⟨64 * h.val + d.val, by omega⟩) := by
  unfold heads; pointwise
  exact congrArg x (congrArg (ix2 t) (Fin.ext (by show h.val * 64 + d.val = 64 * h.val + d.val; omega)))
theorem flat_at (x : H) (t : Fin 8192) (k : Fin 512) : flat x (ix2 t k) = x (ix3 ⟨k.val / 64, by omega⟩ t ⟨k.val % 64, by omega⟩) := by
  unfold flat; pointwise
theorem cut0_at (x : FVec Ideal S8192x1536 .bf16) (t : Fin 8192) (k : Fin 512) : cut0 x (ix2 t k) = x (ix2 t ⟨0 + k.val, by omega⟩) := by
  unfold cut0; pointwise
theorem cut1_at (x : FVec Ideal S8192x1536 .bf16) (t : Fin 8192) (k : Fin 512) : cut1 x (ix2 t k) = x (ix2 t ⟨512 + k.val, by omega⟩) := by
  unfold cut1; pointwise
theorem cut2_at (x : FVec Ideal S8192x1536 .bf16) (t : Fin 8192) (k : Fin 512) : cut2 x (ix2 t k) = x (ix2 t ⟨1024 + k.val, by omega⟩) := by
  unfold cut2; pointwise

/-- The softplus of a real entry, the derivative of it, and the sums. -/
theorem absf_eq (x : EReal) : (FloatOps.absf (F := Ideal) (φ := .f32) x : EReal) = max x (-x) := Ideal.absf_def _
theorem sft_re (y : T) (h : Fin 8) (t s : Fin 8192) (x : ℝ) (hy : y (ix3 h t s) = (x : EReal)) : sft y (ix3 h t s) = ((sp x : ℝ) : EReal) := by
  unfold sft
  pointwise
  rw [hy, b0_at, if_neg (fun h => h rfl), sub_zero, ← Cert.KernelIdeal.Hand.sp_coe, zero_sub]
  rfl
theorem sgm_re (y s' : T) (h : Fin 8) (t s : Fin 8192) (x w : ℝ) (hy : y (ix3 h t s) = (x : EReal)) (hw : s' (ix3 h t s) = (w : EReal)) :
    sgm y s' (ix3 h t s) = ((Real.exp (x - w) : ℝ) : EReal) := by
  unfold sgm
  pointwise
  rw [hy, hw, b0_at, bInf_at, if_neg (EReal.coe_ne_top x), if_neg (EReal.coe_ne_top w), ← EReal.coe_sub, Ideal.exp_coe]
/-- A choice by the mask. -/
theorem sel_at (x y : T) (h : Fin 8) (t s : Fin 8192) : select msk x y (ix3 h t s) = if s.val < t.val then x (ix3 h t s) else y (ix3 h t s) := by
  pointwise
  rw [msk_at]
  exact Cert.KernelIdeal.Hand.select_bool _ _ _
theorem neg_re (y : T) (h : Fin 8) (t s : Fin 8192) (x : ℝ) (hy : y (ix3 h t s) = (x : EReal)) : Host.negf y (ix3 h t s) = ((-x : ℝ) : EReal) := by
  pointwise
  rw [hy]; rfl
theorem add_re (x y : T) (h : Fin 8) (t s : Fin 8192) (a b : ℝ) (hx : x (ix3 h t s) = (a : EReal)) (hy : y (ix3 h t s) = (b : EReal)) :
    addf x y (ix3 h t s) = ((a + b : ℝ) : EReal) := by
  pointwise
  rw [hx, hy, EReal.coe_add]
theorem sub_re (x y : T) (h : Fin 8) (t s : Fin 8192) (a b : ℝ) (hx : x (ix3 h t s) = (a : EReal)) (hy : y (ix3 h t s) = (b : EReal)) :
    subf x y (ix3 h t s) = ((a - b : ℝ) : EReal) := by
  pointwise
  rw [hx, hy, EReal.coe_sub]
theorem mul_re (x y : T) (h : Fin 8) (t s : Fin 8192) (a b : ℝ) (hx : x (ix3 h t s) = (a : EReal)) (hy : y (ix3 h t s) = (b : EReal)) :
    mulf x y (ix3 h t s) = ((a * b : ℝ) : EReal) := by
  pointwise
  rw [hx, hy, EReal.coe_mul]
theorem exp_re (y : T) (h : Fin 8) (t s : Fin 8192) (x : ℝ) (hy : y (ix3 h t s) = (x : EReal)) : Host.exp y (ix3 h t s) = ((Real.exp x : ℝ) : EReal) := by
  pointwise
  rw [hy, Ideal.exp_coe]
theorem s0_at (j : S_.Idx) : s0 j = 0 := Ideal.ofBits_zero_f32
theorem from3_eq (x : T) : from3 x = Host.reduceWindow (t := S8x8192x8192) (α := EReal) (· + ·) ![1, 1, 8192] ![1, 1, 1] ![0, 0, 0] ![0, 0, 8191] x (fun _ : (⟨0, ![]⟩ : Shape).Idx => s0 (Shape.Idx.first h_S_)) reduceWindows_S8x8192x8192_S8x8192x8192_w1s1p0_0_w1s1p0_0_w8192s1p0_8191 h_S_ := by
  unfold from3 Host.reduceWindowAdd
  rw [Ideal.hostReduceWindowAdd_def]
  unfold Ideal.hostReduceWindowAdd
  rfl
theorem from3_re (x : T) (X : ℕ → ℝ) (h : Fin 8) (t s : Fin 8192) (hx : ∀ u : Fin 8192, x (ix3 h t u) = ((X u.val : ℝ) : EReal)) :
    from3 x (ix3 h t s) = ((∑ u ∈ Ico s.val 8192, X u : ℝ) : EReal) := by
  rw [from3_eq]
  exact window_from (A := 8) (B := 8192) (N := 8192) (up := 8191) x (s0 (Shape.Idx.first h_S_)) (s0_at _) h_S_ h t s X hx reduceWindows_S8x8192x8192_S8x8192x8192_w1s1p0_0_w1s1p0_0_w8192s1p0_8191
theorem upto3_eq (x : T) : upto3 x = Host.reduceWindow (t := S8x8192x8192) (α := EReal) (· + ·) ![1, 1, 8192] ![1, 1, 1] ![0, 0, 8191] ![0, 0, 0] x (fun _ : (⟨0, ![]⟩ : Shape).Idx => s0 (Shape.Idx.first h_S_)) reduceWindows_S8x8192x8192_S8x8192x8192_w1s1p0_0_w1s1p0_0_w8192s1p8191_0 h_S_ := by
  unfold upto3 Host.reduceWindowAdd
  rw [Ideal.hostReduceWindowAdd_def]
  unfold Ideal.hostReduceWindowAdd
  rfl
theorem upto3_re (x : T) (X : ℕ → ℝ) (h : Fin 8) (t s : Fin 8192) (hx : ∀ u : Fin 8192, x (ix3 h t u) = ((X u.val : ℝ) : EReal)) :
    upto3 x (ix3 h t s) = ((∑ u ∈ Ico 0 (s.val + 1), X u : ℝ) : EReal) := by
  rw [upto3_eq]
  exact window_upto (A := 8) (B := 8192) (N := 8192) (lo := 8191) x (s0 (Shape.Idx.first h_S_)) (s0_at _) h_S_ h t s X hx rfl reduceWindows_S8x8192x8192_S8x8192x8192_w1s1p0_0_w1s1p0_0_w8192s1p8191_0

section
variable (z a : T) (Z Y : ℕ → ℕ → ℝ) (h : Fin 8) (t : Fin 8192) (hz : ∀ s : Fin 8192, z (ix3 h t s) = ((Z t.val s.val : ℝ) : EReal))
  (ha : ∀ s : Fin 8192, a (ix3 h t s) = ((Y t.val s.val : ℝ) : EReal))
include hz
theorem v22_re (s : Fin 8192) : v22 z (ix3 h t s) = ((-L Z t.val s.val : ℝ) : EReal) := by
  unfold v22 L
  rw [sel_at, neg_re _ h t s _ (sft_re _ h t s _ (neg_re _ h t s _ (neg_re _ h t s _ (hz s)))), b0'_at, neg_neg]
  split
  · rfl
  · rw [neg_zero]; rfl
theorem v26_re (s : Fin 8192) : v26 z (ix3 h t s) = ((Real.exp (-sp (-Z t.val s.val) + (-C Z t.val s.val + L Z t.val s.val)) : ℝ) : EReal) := by
  unfold v26
  have e := from3_re (v22 z) (fun u => -L Z t.val u) h t s (v22_re z Z h t hz)
  rw [exp_re _ h t s _ (add_re _ _ h t s _ _ (neg_re _ h t s _ (sft_re _ h t s _ (neg_re _ h t s _ (hz s)))) (sub_re _ _ h t s _ _ e (v22_re z Z h t hz s)))]
  unfold C
  rw [Finset.sum_neg_distrib, sub_neg_eq_add]
theorem v26_on (s : Fin 8192) (hs : s.val < t.val) : v26 z (ix3 h t s) = ((A Z t.val s.val : ℝ) : EReal) := by
  rw [v26_re z Z h t hz, sp_neg]
  unfold A L
  rw [if_pos hs, if_pos hs]
  refine congrArg _ (congrArg _ ?_)
  ring
theorem v27_re (s : Fin 8192) : v27 z (ix3 h t s) = ((A Z t.val s.val : ℝ) : EReal) := by
  unfold v27
  rw [sel_at, b0'_at]
  split
  · next hs => exact v26_on z Z h t hz s hs
  · next hs => rw [A_of_ge (by omega)]; rfl
include ha
theorem v38_re (s : Fin 8192) : v38 z a (ix3 h t s) = ((g Z Y t.val s.val : ℝ) : EReal) := by
  unfold v38
  by_cases hs : s.val < t.val
  · rw [mul_re _ _ h t s _ _ ((sel_at a b0 h t s).trans ((if_pos hs).trans (ha s))) (v26_on z Z h t hz s hs), mul_comm]; rfl
  · rw [mul_re _ _ h t s 0 _ ((sel_at a b0 h t s).trans ((if_neg hs).trans (b0_at _))) (v26_re z Z h t hz s), zero_mul, g_of_ge (by omega)]
theorem v42_re (s : Fin 8192) : v42 z a (ix3 h t s) = ((if s.val < t.val then -g Z Y t.val s.val + G Z Y t.val s.val else 0 : ℝ) : EReal) := by
  unfold v42
  rw [sel_at, b0_at, add_re _ _ h t s _ _ (neg_re _ h t s _ (v38_re z a Z Y h t hz ha s)) (upto3_re _ (fun u => g Z Y t.val u) h t s fun u => v38_re z a Z Y h t hz ha u)]
  split
  · rfl
  · rfl
omit hz ha
theorem lsg_re (y x : T) (s : Fin 8192) (u w : ℝ) (hy : y (ix3 h t s) = (u : EReal)) (hx : x (ix3 h t s) = (w : EReal)) :
    lsg y x (ix3 h t s) = ((-(-w * Real.exp (u - sp u)) : ℝ) : EReal) :=
  neg_re _ h t s _ (mul_re _ _ h t s _ _ (neg_re _ h t s _ hx) (sgm_re _ _ h t s _ _ hy (sft_re _ h t s _ hy)))
include hz ha
theorem v48_re (s : Fin 8192) : v48 z a (ix3 h t s) = ((Dz Z Y t.val s.val * (1 / 8) : ℝ) : EReal) := by
  unfold v48
  have hn := neg_re _ h t s _ (hz s)
  rw [mul_re _ _ h t s _ _ (add_re _ _ h t s _ _ (neg_re _ h t s _ (lsg_re h t _ _ s _ _ (neg_re _ h t s _ hn) (v42_re z a Z Y h t hz ha s)))
    (lsg_re h t _ _ s _ _ hn (v38_re z a Z Y h t hz ha s))) (b8_at _)]
  refine congrArg _ (congrArg (· * (1 / 8)) ?_)
  by_cases hs : s.val < t.val
  · rw [if_pos hs, neg_neg (Z t.val s.val), sp_neg (Z t.val s.val)]
    have e1 : Real.exp (-Z t.val s.val - (sp (Z t.val s.val) - Z t.val s.val)) = Real.exp (0 - sp (Z t.val s.val)) := by congr 1; ring
    have e2 : Real.exp (Z t.val s.val - sp (Z t.val s.val)) = 1 - Real.exp (0 - sp (Z t.val s.val)) := by
      rw [Real.exp_sub, Real.exp_sub, exp_sp, Real.exp_zero]
      have : (1 + Real.exp (Z t.val s.val)) ≠ 0 := by positivity
      field_simp
      ring
    rw [e1, e2]
    unfold Dz L
    rw [if_pos hs]
    ring
  · rw [if_neg hs, g_of_ge (by omega), Dz_of_ge (by omega)]; ring
end
end Cert.ReferenceIdeal.Hand
end
-- ==== Proof.Head.lean ====
module

public import proofs.«01_k».proof.Proof.Sums

@[expose] public section

/-! One head's two sweeps over the keys' tiles, for one block of query rows: every tile holds the real tables of stick-breaking
    attention at its rows and keys. -/

set_option maxRecDepth 16384

noncomputable section

namespace Cert.KernelIdeal.Hand

open Cert.KernelIdeal Cert.KernelIdeal.Gen Cert.Stick
open Idealize.ShloMosaic Finset

section
variable (q d : FVec Ideal S256x128 .bf16) (kt vt : ℕ → Vec Ideal S1024x128 .bf16) (blk : ℕ) (hblk : blk < 32) (z a : ℕ → ℕ → ℝ)
  (hz : ∀ j, j ≤ blk / 4 → ∀ (x : Fin 256) (y : Fin 1024), nt q (kt j) (ix2 x y) = ((z (256 * blk + x.val) (1024 * j + y.val) : ℝ) : EReal))
  (ha : ∀ j, j ≤ blk / 4 → ∀ (x : Fin 256) (y : Fin 1024), nt d (vt j) (ix2 x y) = ((a (256 * blk + x.val) (1024 * j + y.val) : ℝ) : EReal))

/-- The block's number and its last tile's. -/
def abW (blk : ℕ) : BitVec 32 × BitVec 32 := (BitVec.ofNat 32 blk, BitVec.ofNat 32 (blk / 4))

include hblk hz in
theorem Zs_re (n : ℕ) (hn : n ≤ blk / 4) (x : Fin 256) (y : Fin 1024) :
    sq (Zs q kt (blk / 4) (abW blk) n) (ix2 x y)
      = if 1024 * (blk / 4 - n) + y.val < 256 * blk + x.val then ((z (256 * blk + x.val) (1024 * (blk / 4 - n) + y.val) : ℝ) : EReal) else ⊥ := by
  cases n with
  | zero =>
    unfold Zs abW
    rw [sq_us, sel_apply, dmask_apply blk (blk / 4) hblk (by omega), select_bool, hz (blk / 4) (le_refl _)]
    refine if_congr ?_ rfl rfl
    omega
  | succ n =>
    unfold Zs
    rw [sq_us, hz _ (by omega), if_pos (by have := y.isLt; omega)]

include hblk hz in
theorem sp_re (n : ℕ) (hn : n ≤ blk / 4) (x : Fin 256) (y : Fin 1024) :
    spT (sq (Zs q kt (blk / 4) (abW blk) n)) (ix2 x y) = ((L z (256 * blk + x.val) (1024 * (blk / 4 - n) + y.val) : ℝ) : EReal) := by
  rw [spT_apply, Zs_re q kt blk hblk z hz n hn]
  unfold L
  split
  · exact sp_coe _
  · exact sp_bot

include hblk hz in
theorem Rs_re (n : ℕ) (hn : n ≤ blk / 4 + 1) (x : Fin 256) :
    sqr (Rs q kt (blk / 4) (abW blk) n) (ix2 x 0) = ((∑ s ∈ Ico (1024 * (blk / 4 + 1 - n)) 8192, L z (256 * blk + x.val) s : ℝ) : EReal) := by
  induction n with
  | zero =>
    rw [Finset.sum_eq_zero fun s hs => L_of_ge (by have := (Finset.mem_Ico.1 hs).1; omega)]
    show Ideal.ofBits .f32 0x00000000#32 = _
    rw [Ideal.ofBits_zero_f32]; rfl
  | succ n ih =>
    unfold Rs rN
    rw [sqr_usr, endS_re _ _ x (fun k => L z (256 * blk + x.val) (1024 * (blk / 4 - n) + k)) _ (fun k => sp_re q kt blk hblk z hz n (by omega) x k) (ih (by omega)),
      sum_block, add_comm]
    refine congrArg _ ?_
    rw [show 1024 * (blk / 4 - n) + 0 = 1024 * (blk / 4 + 1 - (n + 1)) by omega, show 1024 * (blk / 4 - n) + 1024 = 1024 * (blk / 4 + 1 - n) by omega]
    exact sum_join _ (by omega) (by omega)

include hblk hz in
theorem aT_re (n : ℕ) (hn : n ≤ blk / 4) (x : Fin 256) (y : Fin 1024) :
    aT k0_pay269 (sq (Zs q kt (blk / 4) (abW blk) n)) (sqr (Rs q kt (blk / 4) (abW blk) n)) (ix2 x y)
      = ((A z (256 * blk + x.val) (1024 * (blk / 4 - n) + y.val) : ℝ) : EReal) := by
  have hy := y.isLt
  rw [aT_apply, Zs_re q kt blk hblk z hz n hn,
    cumS_re _ _ x (fun k => L z (256 * blk + x.val) (1024 * (blk / 4 - n) + k)) _ (fun k => sp_re q kt blk hblk z hz n hn x k) (Rs_re q kt blk hblk z hz n (by omega) x),
    sum_block, show 1024 * (blk / 4 - n) + 1024 = 1024 * (blk / 4 + 1 - n) by omega, sum_join _ (by omega) (by omega)]
  unfold A C
  split
  · rw [← EReal.coe_sub, Ideal.exp_coe]
  · rw [EReal.bot_sub, Ideal.exp_bot]; rfl

include hblk hz ha in
theorem Gs_re (n : ℕ) (hn : n ≤ blk / 4) (x : Fin 256) (y : Fin 1024) :
    sq (Gs k0_pay269 q d kt vt (blk / 4) (abW blk) n) (ix2 x y) = ((g z a (256 * blk + x.val) (1024 * (blk / 4 - n) + y.val) : ℝ) : EReal) := by
  unfold Gs gN DAs
  rw [sq_us, sq_us]
  show aT _ _ _ (ix2 x y) * nt d _ (ix2 x y) = _
  rw [aT_re q kt blk hblk z hz n hn, ha _ (by omega), ← EReal.coe_mul]
  rfl

include hblk hz in
theorem Ss_re (n : ℕ) (hn : n ≤ blk / 4) (x : Fin 256) (y : Fin 1024) :
    sq (Ss q kt (blk / 4) (abW blk) n) (ix2 x y) = ((L z (256 * blk + x.val) (1024 * (blk / 4 - n) + y.val) : ℝ) : EReal) := by
  unfold Ss sN
  rw [sq_us, sp_re q kt blk hblk z hz n hn]

include hblk hz ha in
theorem Ps_re (j : ℕ) (hj : j ≤ blk / 4 + 1) (x : Fin 256) :
    sqr (Ps k0_pay269 q d kt vt (blk / 4) (abW blk) j) (ix2 x 0) = ((∑ s ∈ Ico 0 (1024 * j), g z a (256 * blk + x.val) s : ℝ) : EReal) := by
  induction j with
  | zero =>
    show Ideal.ofBits .f32 0x00000000#32 = _
    rw [Ideal.ofBits_zero_f32]; simp
  | succ j ih =>
    unfold Ps pN
    rw [sqr_usr, endP_re _ _ x (fun k => g z a (256 * blk + x.val) (1024 * j + k)) _
        (fun k => by rw [Gs_re q d kt vt blk hblk z a hz ha (blk / 4 - j) (by omega) x k, show blk / 4 - (blk / 4 - j) = j by omega]) (ih (by omega)), sum_block]
    exact congrArg _ (sum_join _ (by omega) (by omega))

include hblk hz ha in
theorem Dz_re (j : ℕ) (hj : j ≤ blk / 4) (x : Fin 256) (y : Fin 1024) :
    Hand.Dz k0_pay269 q d kt vt (blk / 4) (abW blk) k0_pay270 j (ix2 x y) = ((Stick.Dz z a (256 * blk + x.val) (1024 * j + y.val) : ℝ) : EReal) := by
  have hG : ∀ k : Fin 1024, sq (Gs k0_pay269 q d kt vt (blk / 4) (abW blk) (blk / 4 - j)) (ix2 x k) = ((g z a (256 * blk + x.val) (1024 * j + k.val) : ℝ) : EReal) :=
    fun k => by rw [Gs_re q d kt vt blk hblk z a hz ha (blk / 4 - j) (by omega) x k, show blk / 4 - (blk / 4 - j) = j by omega]
  unfold Hand.Dz
  rw [dzT_apply, hG, Ss_re q kt blk hblk z hz (blk / 4 - j) (by omega) x y,
    cumP_re _ _ x (fun k => g z a (256 * blk + x.val) (1024 * j + k)) _ hG (Ps_re q d kt vt blk hblk z a hz ha j (by omega) x), sum_block, Nat.add_zero, add_comm (∑ k ∈ Ico _ _, _),
    sum_join _ (by omega) (by omega), show blk / 4 - (blk / 4 - j) = j by omega, ← EReal.coe_zero, ← EReal.coe_one, ← EReal.coe_sub, Ideal.exp_coe,
    ← EReal.coe_sub, ← EReal.coe_mul, ← EReal.coe_sub]
  rfl
end
end Cert.KernelIdeal.Hand
end
-- ==== Proof.Pair.lean ====
module

public import proofs.«01_k».proof.Proof.Head

@[expose] public section

/-! One point of the grid on real blocks: a pair of heads, 256 query rows. `U` is the table of queries, keys and values, `W` the
    table of output gradients. -/

set_option maxRecDepth 16384

noncomputable section

namespace Cert.KernelIdeal.Hand

open Cert.KernelIdeal Cert.KernelIdeal.Gen Cert.Stick
open Idealize.ShloMosaic Finset

section tables
variable (U W : ℕ → ℕ → ℝ) (p e : ℕ)
/-- Head `e` of the pair: its scaled queries, its output gradients and its keys, 0 on the other head's lanes. -/
def hQ (t d : ℕ) : ℝ := (if d / 64 = e then U t (128 * p + d) else 0) * (1 / 8)
def hO (t d : ℕ) : ℝ := if d / 64 = e then W t (128 * p + d) else 0
def hK (s d : ℕ) : ℝ := if d / 64 = e then U s (512 + 128 * p + d) else 0
/-- Its scores, and the gradients of its weights. -/
def hZ (t s : ℕ) : ℝ := ∑ d ∈ Ico 0 128, hQ U p e t d * U s (512 + 128 * p + d)
def hA (t s : ℕ) : ℝ := ∑ d ∈ Ico 0 128, hO W p e t d * U s (1024 + 128 * p + d)
/-- What row `t` adds to the gradients of key `s`'s value and key, and key `s` to the gradient of row `t`'s query. -/
def rowV (t s d : ℕ) : ℝ := A (hZ U p 0) t s * hO W p 0 t d + A (hZ U p 1) t s * hO W p 1 t d
def rowK (t s d : ℕ) : ℝ := Stick.Dz (hZ U p 0) (hA U W p 0) t s * hQ U p 0 t d + Stick.Dz (hZ U p 1) (hA U W p 1) t s * hQ U p 1 t d
def rowQ (t s d : ℕ) : ℝ := Stick.Dz (hZ U p 0) (hA U W p 0) t s * hK U p 0 s d + Stick.Dz (hZ U p 1) (hA U W p 1) t s * hK U p 1 s d
end tables

theorem rowV_of_ge {U W : ℕ → ℕ → ℝ} {p t s d : ℕ} (h : t ≤ s) : rowV U W p t s d = 0 := by
  unfold rowV; rw [A_of_ge h, A_of_ge h]; simp
theorem rowK_of_ge {U W : ℕ → ℕ → ℝ} {p t s d : ℕ} (h : t ≤ s) : rowK U W p t s d = 0 := by
  unfold rowK; rw [Dz_of_ge h, Dz_of_ge h]; simp
theorem rowQ_of_ge {U W : ℕ → ℕ → ℝ} {p t s d : ℕ} (h : t ≤ s) : rowQ U W p t s d = 0 := by
  unfold rowQ; rw [Dz_of_ge h, Dz_of_ge h]; simp

theorem nt_re (a : FVec Ideal S256x128 .bf16) (b : Vec Ideal S1024x128 .bf16) (x : Fin 256) (y : Fin 1024) (X Y : ℕ → ℝ)
    (hX : ∀ d : Fin 128, a (ix2 x d) = ((X d.val : ℝ) : EReal)) (hY : ∀ d : Fin 128, b (ix2 y d) = ((Y d.val : ℝ) : EReal)) :
    nt a b (ix2 x y) = ((∑ d ∈ Ico 0 128, X d * Y d : ℝ) : EReal) := by
  rw [nt_apply, Finset.sum_congr rfl fun d _ => by rw [hX, hY, ← EReal.coe_mul], sum_fin 128 fun d => X d * Y d]

section
variable (i : grid0.Coords) (x2 x5 : Vec Ideal S256x128 .bf16) (kt vt : ℕ → Vec Ideal S1024x128 .bf16) (U W : ℕ → ℕ → ℝ) (p : ℕ)
  (h2 : ∀ (x : Fin 256) (d : Fin 128), x2 (ix2 x d) = ((U (256 * (i 1).val + x.val) (128 * p + d.val) : ℝ) : EReal))
  (h5 : ∀ (x : Fin 256) (d : Fin 128), x5 (ix2 x d) = ((W (256 * (i 1).val + x.val) (128 * p + d.val) : ℝ) : EReal))
  (hk : ∀ j, j < 8 → ∀ (y : Fin 1024) (d : Fin 128), kt j (ix2 y d) = ((U (1024 * j + y.val) (512 + 128 * p + d.val) : ℝ) : EReal))
  (hv : ∀ j, j < 8 → ∀ (y : Fin 1024) (d : Fin 128), vt j (ix2 y d) = ((U (1024 * j + y.val) (1024 + 128 * p + d.val) : ℝ) : EReal))

theorem blk_lt : (i 1).val < 32 := (i 1).isLt

include h2 in
theorem qa_re (x : Fin 256) (d : Fin 128) : qa x2 (ix2 x d) = ((hQ U p 0 (256 * (i 1).val + x.val) d.val : ℝ) : EReal) := by
  rw [qa_apply, h2]; unfold hQ; split <;> simp
include h2 in
theorem qb_re (x : Fin 256) (d : Fin 128) : qb x2 (ix2 x d) = ((hQ U p 1 (256 * (i 1).val + x.val) d.val : ℝ) : EReal) := by
  rw [qb_apply, h2]; unfold hQ; split <;> simp
include h5 in
theorem da_re (x : Fin 256) (d : Fin 128) : da x5 (ix2 x d) = ((hO W p 0 (256 * (i 1).val + x.val) d.val : ℝ) : EReal) := by
  rw [da_apply, h5]; unfold hO; split <;> simp
include h5 in
theorem db_re (x : Fin 256) (d : Fin 128) : db x5 (ix2 x d) = ((hO W p 1 (256 * (i 1).val + x.val) d.val : ℝ) : EReal) := by
  rw [db_apply, h5]; unfold hO; split <;> simp
include h2 hk in
theorem za_re (j : ℕ) (hj : j ≤ (i 1).val / 4) (x : Fin 256) (y : Fin 1024) :
    nt (qa x2) (kt j) (ix2 x y) = ((hZ U p 0 (256 * (i 1).val + x.val) (1024 * j + y.val) : ℝ) : EReal) :=
  nt_re _ _ x y _ (fun d => U (1024 * j + y.val) (512 + 128 * p + d)) (qa_re i x2 U p h2 x) (hk j (by have := blk_lt i; omega) y)
include h2 hk in
theorem zb_re (j : ℕ) (hj : j ≤ (i 1).val / 4) (x : Fin 256) (y : Fin 1024) :
    nt (qb x2) (kt j) (ix2 x y) = ((hZ U p 1 (256 * (i 1).val + x.val) (1024 * j + y.val) : ℝ) : EReal) :=
  nt_re _ _ x y _ (fun d => U (1024 * j + y.val) (512 + 128 * p + d)) (qb_re i x2 U p h2 x) (hk j (by have := blk_lt i; omega) y)
include h5 hv in
theorem aa_re (j : ℕ) (hj : j ≤ (i 1).val / 4) (x : Fin 256) (y : Fin 1024) :
    nt (da x5) (vt j) (ix2 x y) = ((hA U W p 0 (256 * (i 1).val + x.val) (1024 * j + y.val) : ℝ) : EReal) :=
  nt_re _ _ x y _ (fun d => U (1024 * j + y.val) (1024 + 128 * p + d)) (da_re i x5 W p h5 x) (hv j (by have := blk_lt i; omega) y)
include h5 hv in
theorem ab_re (j : ℕ) (hj : j ≤ (i 1).val / 4) (x : Fin 256) (y : Fin 1024) :
    nt (db x5) (vt j) (ix2 x y) = ((hA U W p 1 (256 * (i 1).val + x.val) (1024 * j + y.val) : ℝ) : EReal) :=
  nt_re _ _ x y _ (fun d => U (1024 * j + y.val) (1024 + 128 * p + d)) (db_re i x5 W p h5 x) (hv j (by have := blk_lt i; omega) y)

/-- The rows of a block added to a sum over the rows before it. -/
theorem sum_rows (f : ℕ → ℝ) (b : ℕ) (v : ℝ) (hv : v = ∑ k ∈ Ico 0 256, f (256 * b + k)) :
    ((∑ t ∈ Ico 0 (256 * b), f t : ℝ) : EReal) + ((v : ℝ) : EReal) = ((∑ t ∈ Ico 0 (256 * (b + 1)), f t : ℝ) : EReal) := by
  rw [hv, sum_block, Nat.add_zero, ← EReal.coe_add, sum_join _ (by omega) (by omega), Nat.mul_add]
theorem sum_rows_zero (f : ℕ → ℝ) (b : ℕ) (h : ∀ t, t < 256 * (b + 1) → f t = 0) :
    ((∑ t ∈ Ico 0 (256 * b), f t : ℝ) : EReal) = ((∑ t ∈ Ico 0 (256 * (b + 1)), f t : ℝ) : EReal) := by
  rw [Finset.sum_eq_zero fun t ht => h t (by have := (Finset.mem_Ico.1 ht).2; omega), Finset.sum_eq_zero fun t ht => h t (Finset.mem_Ico.1 ht).2]

include h2 h5 hk in
theorem newV_re (T : ℕ → Vec Ideal S1024x128 .f32) (j : ℕ) (hj : j < 8) (y : Fin 1024) (d : Fin 128)
    (hT : baseT i T j (ix2 y d) = ((∑ t ∈ Ico 0 (256 * (i 1).val), rowV U W p t (1024 * j + y.val) d.val : ℝ) : EReal)) :
    newV i x2 x5 kt T j (ix2 y d) = ((∑ t ∈ Ico 0 (256 * ((i 1).val + 1)), rowV U W p t (1024 * j + y.val) d.val : ℝ) : EReal) := by
  unfold newV
  by_cases hle : j ≤ lastOf i
  · have hle' : j ≤ (i 1).val / 4 := hle
    rw [if_pos hle]
    unfold dvI
    rw [vN_apply, hT]
    have eA := fun x : Fin 256 => aT_re (qa x2) kt (i 1).val (blk_lt i) _ (za_re i x2 kt U p h2 hk) ((i 1).val / 4 - j) (by omega) x y
    have eB := fun x : Fin 256 => aT_re (qb x2) kt (i 1).val (blk_lt i) _ (zb_re i x2 kt U p h2 hk) ((i 1).val / 4 - j) (by omega) x y
    rw [show (i 1).val / 4 - ((i 1).val / 4 - j) = j by omega] at eA eB
    rw [← sum_rows (fun t => rowV U W p t (1024 * j + y.val) d.val) _ _ rfl]
    refine congrArg _ ?_
    refine (congrArg₂ (· + ·) ((Finset.sum_congr rfl fun x _ => ?_).trans (sum_fin 256 fun x => A (hZ U p 0) (256 * (i 1).val + x) (1024 * j + y.val) * hO W p 0 (256 * (i 1).val + x) d.val))
      ((Finset.sum_congr rfl fun x _ => ?_).trans (sum_fin 256 fun x => A (hZ U p 1) (256 * (i 1).val + x) (1024 * j + y.val) * hO W p 1 (256 * (i 1).val + x) d.val))).trans ?_
    · rw [da_re i x5 W p h5, EReal.coe_mul]; exact congrArg (· * _) (eA x)
    · rw [db_re i x5 W p h5, EReal.coe_mul]; exact congrArg (· * _) (eB x)
    · show _ + _ = _
      rw [← EReal.coe_add, ← Finset.sum_add_distrib]; rfl
  · have hle' : ¬ j ≤ (i 1).val / 4 := hle
    rw [if_neg hle, hT]
    exact sum_rows_zero _ _ fun t ht => rowV_of_ge (by omega)

include h2 h5 hk hv in
theorem newK_re (T : ℕ → Vec Ideal S1024x128 .f32) (j : ℕ) (hj : j < 8) (y : Fin 1024) (d : Fin 128)
    (hT : baseT i T j (ix2 y d) = ((∑ t ∈ Ico 0 (256 * (i 1).val), rowK U W p t (1024 * j + y.val) d.val : ℝ) : EReal)) :
    newK i x2 x5 kt vt T j (ix2 y d) = ((∑ t ∈ Ico 0 (256 * ((i 1).val + 1)), rowK U W p t (1024 * j + y.val) d.val : ℝ) : EReal) := by
  unfold newK
  by_cases hle : j ≤ lastOf i
  · have hle' : j ≤ (i 1).val / 4 := hle
    rw [if_pos hle]
    unfold dkI
    rw [kN_apply, hT]
    have eA := fun x : Fin 256 => Dz_re (qa x2) (da x5) kt vt (i 1).val (blk_lt i) _ _ (za_re i x2 kt U p h2 hk) (aa_re i x5 vt U W p h5 hv) j hle' x y
    have eB := fun x : Fin 256 => Dz_re (qb x2) (db x5) kt vt (i 1).val (blk_lt i) _ _ (zb_re i x2 kt U p h2 hk) (ab_re i x5 vt U W p h5 hv) j hle' x y
    rw [← sum_rows (fun t => rowK U W p t (1024 * j + y.val) d.val) _ _ rfl]
    refine congrArg _ ?_
    refine (congrArg₂ (· + ·) ((Finset.sum_congr rfl fun x _ => ?_).trans (sum_fin 256 fun x => Stick.Dz (hZ U p 0) (hA U W p 0) (256 * (i 1).val + x) (1024 * j + y.val) * hQ U p 0 (256 * (i 1).val + x) d.val))
      ((Finset.sum_congr rfl fun x _ => ?_).trans (sum_fin 256 fun x => Stick.Dz (hZ U p 1) (hA U W p 1) (256 * (i 1).val + x) (1024 * j + y.val) * hQ U p 1 (256 * (i 1).val + x) d.val))).trans ?_
    · rw [qa_re i x2 U p h2, EReal.coe_mul]; exact congrArg (· * _) (eA x)
    · rw [qb_re i x2 U p h2, EReal.coe_mul]; exact congrArg (· * _) (eB x)
    · show _ + _ = _
      rw [← EReal.coe_add, ← Finset.sum_add_distrib]; rfl
  · have hle' : ¬ j ≤ (i 1).val / 4 := hle
    rw [if_neg hle, hT]
    exact sum_rows_zero _ _ fun t ht => rowK_of_ge (by omega)

include h2 h5 hk hv in
theorem dqS_re (j : ℕ) (hj : j ≤ (i 1).val / 4 + 1) (x : Fin 256) (d : Fin 128) :
    dqS k0_pay269 k0_pay270 (qa x2) (qb x2) (da x5) (db x5) lo hi kt vt (lastOf i) (abOf i) j (ix2 x d)
      = ((∑ s ∈ Ico 0 (1024 * j), rowQ U W p (256 * (i 1).val + x.val) s d.val : ℝ) : EReal) := by
  induction j with
  | zero =>
    show Ideal.ofBits .f32 0x00000000#32 = _
    rw [Ideal.ofBits_zero_f32]; simp
  | succ j ih =>
    have hb := blk_lt i
    have eA := fun y : Fin 1024 => Dz_re (qa x2) (da x5) kt vt (i 1).val (blk_lt i) _ _ (za_re i x2 kt U p h2 hk) (aa_re i x5 vt U W p h5 hv) j (by omega) x y
    have eB := fun y : Fin 1024 => Dz_re (qb x2) (db x5) kt vt (i 1).val (blk_lt i) _ _ (zb_re i x2 kt U p h2 hk) (ab_re i x5 vt U W p h5 hv) j (by omega) x y
    unfold dqS
    rw [qN_apply, ih (by omega)]
    rw [show 1024 * (j + 1) = 1024 * j + 1024 by omega, ← sum_join (fun s => rowQ U W p (256 * (i 1).val + x.val) s d.val) (show 0 ≤ 1024 * j by omega) (show 1024 * j ≤ 1024 * j + 1024 by omega),
      EReal.coe_add, add_assoc]
    refine congrArg _ ?_
    refine (congrArg₂ (· + ·) ((Finset.sum_congr rfl fun y _ => ?_).trans (sum_fin 1024 fun y => Stick.Dz (hZ U p 0) (hA U W p 0) (256 * (i 1).val + x.val) (1024 * j + y) * hK U p 0 (1024 * j + y) d.val))
      ((Finset.sum_congr rfl fun y _ => ?_).trans (sum_fin 1024 fun y => Stick.Dz (hZ U p 1) (hA U W p 1) (256 * (i 1).val + x.val) (1024 * j + y) * hK U p 1 (1024 * j + y) d.val))).trans ?_
    · rw [EReal.coe_mul]
      refine congrArg₂ (· * ·) (eA y) ?_
      rw [kmask_lo, hk j (by omega)]; unfold hK; split <;> simp
    · rw [EReal.coe_mul]
      refine congrArg₂ (· * ·) (eB y) ?_
      rw [kmask_hi, hk j (by omega)]; unfold hK; split <;> simp
    · show _ + _ = _
      rw [← EReal.coe_add, ← Finset.sum_add_distrib]
      exact congrArg _ (sum_block (fun s => rowQ U W p (256 * (i 1).val + x.val) s d.val) (1024 * j) 0 1024)

include h2 h5 hk hv in
theorem outQ_re (x : Fin 256) (d : Fin 128) :
    outQ i x2 x5 kt vt (ix2 x d) = (((∑ s ∈ Ico 0 8192, rowQ U W p (256 * (i 1).val + x.val) s d.val) * (1 / 8) : ℝ) : EReal) := by
  have hb := blk_lt i
  unfold outQ
  rw [pay8_apply, EReal.coe_mul]
  refine congrArg (· * _) ?_
  refine (dqS_re i x2 x5 kt vt U W p h2 h5 hk hv ((i 1).val / 4 + 1) (le_refl _) x d).trans ?_
  refine congrArg _ ?_
  rw [← sum_join _ (show 0 ≤ 1024 * ((i 1).val / 4 + 1) by omega) (show 1024 * ((i 1).val / 4 + 1) ≤ 8192 by omega), left_eq_add]
  exact Finset.sum_eq_zero fun s hs => rowQ_of_ge (by have := (Finset.mem_Ico.1 hs).1; omega)
end
end Cert.KernelIdeal.Hand
end
-- ==== Proof.Values.lean ====
module

public import proofs.«01_k».proof.Proof.Pair
public import proofs.«01_k».proof.Proof.Launched
public import Idealize.ShloMosaic.Lib.Pipeline.ValueKit

@[expose] public section

/-! What the run leaves in the three result arrays, on real arguments: the tables `U` of queries, keys and values and `W` of output
    gradients. Head pair `p` is columns `128 * p` up to `128 * p + 127`. -/

set_option maxRecDepth 16384

noncomputable section

namespace Cert.KernelIdeal.Hand

open Cert.KernelIdeal Cert.KernelIdeal.Gen Cert.Stick
open Idealize.ShloMosaic Idealize.ShloMosaic.TcCoe Idealize.ShloMosaic.Tactic Idealize.SL.Sem Finset
open Idealize.ShloMosaic.Pipeline (Dat)

/-- The three results as tables. -/
def resQ (U W : ℕ → ℕ → ℝ) (t k : ℕ) : ℝ := (∑ s ∈ Ico 0 8192, rowQ U W (k / 128) t s (k % 128)) * (1 / 8)
def resK (U W : ℕ → ℕ → ℝ) (s k : ℕ) : ℝ := ∑ t ∈ Ico 0 8192, rowK U W (k / 128) t s (k % 128)
def resV (U W : ℕ → ℕ → ℝ) (s k : ℕ) : ℝ := ∑ t ∈ Ico 0 8192, rowV U W (k / 128) t s (k % 128)

theorem index0 : ∀ t : Fin cfg0.N, win0_0.index t = ![t.val % 32, t.val / 32] := (by decide +kernel : ∀ t : Fin grid0.N, win0_0.index t = ![t.val % 32, t.val / 32])
theorem index1 : ∀ t : Fin cfg0.N, win0_1.index t = ![0, 4 + t.val / 32] := (by decide +kernel : ∀ t : Fin grid0.N, win0_1.index t = ![0, 4 + t.val / 32])
theorem index2 : ∀ t : Fin cfg0.N, win0_2.index t = ![0, 8 + t.val / 32] := (by decide +kernel : ∀ t : Fin grid0.N, win0_2.index t = ![0, 8 + t.val / 32])
theorem index3 : ∀ t : Fin cfg0.N, win0_3.index t = ![t.val % 32, t.val / 32] := (by decide +kernel : ∀ t : Fin grid0.N, win0_3.index t = ![t.val % 32, t.val / 32])
theorem index4 : ∀ t : Fin cfg0.N, win0_4.index t = ![t.val % 32, t.val / 32] := (by decide +kernel : ∀ t : Fin grid0.N, win0_4.index t = ![t.val % 32, t.val / 32])

section
variable (m : (ℓ : Loc nD τ sig) → Buf (Elt Ideal) ℓ) (c : Dev nD) (U W : ℕ → ℕ → ℝ)
  (hU : ∀ j : S8192x1536.Idx, (m ((c : Thread nD τ).loc main_arg0) : S8192x1536.Idx → EReal) j = ((U (j 0).val (j 1).val : ℝ) : EReal))
  (hW : ∀ j : S8192x512.Idx, (m ((c : Thread nD τ).loc main_arg1) : S8192x512.Idx → EReal) j = ((W (j 0).val (j 1).val : ℝ) : EReal))

theorem t_lt (t : Fin cfg0.N) : t.val < 128 := t.isLt

include hU in
theorem qBlk_re (t : Fin cfg0.N) (x : Fin 256) (d : Fin 128) :
    qBlk m c t (ix2 x d) = ((U (256 * ((grid0.coords t) 1).val + x.val) (128 * (t.val / 32) + d.val) : ℝ) : EReal) := by
  rw [coord1]
  refine (hU (((cfg0.win 0).blk t).view.emb (ix2 x d))).trans ?_
  refine congrArg Real.toEReal (congrArg₂ U ?_ ?_)
  · blk_simp [index0 t]; simp; omega
  · blk_simp [index0 t]; simp; omega
include hW in
theorem oBlk_re (t : Fin cfg0.N) (x : Fin 256) (d : Fin 128) :
    oBlk m c t (ix2 x d) = ((W (256 * ((grid0.coords t) 1).val + x.val) (128 * (t.val / 32) + d.val) : ℝ) : EReal) := by
  rw [coord1]
  refine (hW (((cfg0.win 3).blk t).view.emb (ix2 x d))).trans ?_
  refine congrArg Real.toEReal (congrArg₂ W ?_ ?_)
  · blk_simp [index3 t]; simp; omega
  · blk_simp [index3 t]; simp; omega
include hU in
theorem kBlk_re (t : Fin cfg0.N) (j : ℕ) (hj : j < 8) (y : Fin 1024) (d : Fin 128) :
    tilesOf (kBlk m c t) j (ix2 y d) = ((U (1024 * j + y.val) (512 + 128 * (t.val / 32) + d.val) : ℝ) : EReal) := by
  have hy := y.isLt
  unfold tilesOf
  refine (hU (((cfg0.win 1).blk t).view.emb _)).trans ?_
  refine congrArg Real.toEReal (congrArg₂ U ?_ ?_)
  · blk_simp [index1 t]; simp; omega
  · blk_simp [index1 t]; simp; omega
include hU in
theorem vBlk_re (t : Fin cfg0.N) (j : ℕ) (hj : j < 8) (y : Fin 1024) (d : Fin 128) :
    tilesOf (vBlk m c t) j (ix2 y d) = ((U (1024 * j + y.val) (1024 + 128 * (t.val / 32) + d.val) : ℝ) : EReal) := by
  have hy := y.isLt
  unfold tilesOf
  refine (hU (((cfg0.win 2).blk t).view.emb _)).trans ?_
  refine congrArg Real.toEReal (congrArg₂ U ?_ ?_)
  · blk_simp [index2 t]; simp; omega
  · blk_simp [index2 t]; simp; omega

theorem base_re (i : grid0.Coords) (T : ℕ → Vec Ideal S1024x128 .f32) (j : ℕ) (y : Fin 1024) (d : Fin 128) (f : ℕ → ℝ)
    (h : (i 1).val ≠ 0 → T j (ix2 y d) = ((∑ t ∈ Ico 0 (256 * (i 1).val), f t : ℝ) : EReal)) :
    baseT i T j (ix2 y d) = ((∑ t ∈ Ico 0 (256 * (i 1).val), f t : ℝ) : EReal) := by
  unfold baseT
  by_cases h0 : (i 1).val = 0
  · rw [if_pos h0, h0]
    show Ideal.ofBits .f32 0x00000000#32 = _
    rw [Ideal.ofBits_zero_f32]; simp
  · rw [if_neg h0]; exact h h0

include hU hW in
/-- The values' gradient after `r` blocks of a pair. -/
theorem TV_re (p : ℕ) (hp : p < 4) (j : ℕ) (hj : j < 8) (y : Fin 1024) (d : Fin 128) (r : ℕ) (hr : r < 32) :
    TV m c (32 * p + r + 1) j (ix2 y d) = ((∑ t ∈ Ico 0 (256 * (r + 1)), rowV U W p t (1024 * j + y.val) d.val : ℝ) : EReal) := by
  have key : ∀ r, (hr : r < 32) → (r ≠ 0 → TV m c (32 * p + r) j (ix2 y d) = ((∑ t ∈ Ico 0 (256 * r), rowV U W p t (1024 * j + y.val) d.val : ℝ) : EReal)) →
      TV m c (32 * p + r + 1) j (ix2 y d) = ((∑ t ∈ Ico 0 (256 * (r + 1)), rowV U W p t (1024 * j + y.val) d.val : ℝ) : EReal) := by
    intro r hr ih
    have hN : 32 * p + r < cfg0.N := (by omega : 32 * p + r < 128)
    have hc := coord1 ⟨32 * p + r, hN⟩
    have hpd : (32 * p + r) / 32 = p := by omega
    have h2 := qBlk_re m c U hU ⟨32 * p + r, hN⟩
    have h5 := oBlk_re m c W hW ⟨32 * p + r, hN⟩
    have hk := kBlk_re m c U hU ⟨32 * p + r, hN⟩
    simp only [hpd] at h2 h5 hk
    have e := newV_re _ _ _ _ U W p h2 h5 hk (TV m c (32 * p + r)) j hj y d
      (base_re _ _ j y d (fun t => rowV U W p t (1024 * j + y.val) d.val) (by
        have h32 : ((grid0.coords ⟨32 * p + r, hN⟩) 1).val = r := hc.trans (show (32 * p + r) % 32 = r by omega)
        rw [h32]; exact ih))
    have h32 : ((grid0.coords ⟨32 * p + r, hN⟩) 1).val = r := hc.trans (show (32 * p + r) % 32 = r by omega)
    rw [h32] at e
    rw [show TV m c (32 * p + r + 1) = _ from TV_succ m c ⟨32 * p + r, hN⟩]
    exact e
  induction r with
  | zero => exact key 0 hr fun h => absurd rfl h
  | succ r ih => exact key (r + 1) hr fun _ => ih (by omega)

include hU hW in
/-- The keys' gradient after `r` blocks of a pair. -/
theorem TK_re (p : ℕ) (hp : p < 4) (j : ℕ) (hj : j < 8) (y : Fin 1024) (d : Fin 128) (r : ℕ) (hr : r < 32) :
    TK m c (32 * p + r + 1) j (ix2 y d) = ((∑ t ∈ Ico 0 (256 * (r + 1)), rowK U W p t (1024 * j + y.val) d.val : ℝ) : EReal) := by
  have key : ∀ r, (hr : r < 32) → (r ≠ 0 → TK m c (32 * p + r) j (ix2 y d) = ((∑ t ∈ Ico 0 (256 * r), rowK U W p t (1024 * j + y.val) d.val : ℝ) : EReal)) →
      TK m c (32 * p + r + 1) j (ix2 y d) = ((∑ t ∈ Ico 0 (256 * (r + 1)), rowK U W p t (1024 * j + y.val) d.val : ℝ) : EReal) := by
    intro r hr ih
    have hN : 32 * p + r < cfg0.N := (by omega : 32 * p + r < 128)
    have hc := coord1 ⟨32 * p + r, hN⟩
    have hpd : (32 * p + r) / 32 = p := by omega
    have h2 := qBlk_re m c U hU ⟨32 * p + r, hN⟩
    have h5 := oBlk_re m c W hW ⟨32 * p + r, hN⟩
    have hk := kBlk_re m c U hU ⟨32 * p + r, hN⟩
    have hv := vBlk_re m c U hU ⟨32 * p + r, hN⟩
    simp only [hpd] at h2 h5 hk hv
    have h32 : ((grid0.coords ⟨32 * p + r, hN⟩) 1).val = r := hc.trans (show (32 * p + r) % 32 = r by omega)
    have e := newK_re _ _ _ _ _ U W p h2 h5 hk hv (TK m c (32 * p + r)) j hj y d
      (base_re _ _ j y d (fun t => rowK U W p t (1024 * j + y.val) d.val) (by rw [h32]; exact ih))
    rw [h32] at e
    rw [show TK m c (32 * p + r + 1) = _ from TK_succ m c ⟨32 * p + r, hN⟩]
    exact e
  induction r with
  | zero => exact key 0 hr fun h => absurd rfl h
  | succ r ih => exact key (r + 1) hr fun _ => ih (by omega)

/-- A table all of whose boxes read so is so. -/
theorem table_of_boxes (b : Ref sig .tc) (M : Memref sig .tc .hbm S8192x512 .f32) (g : BufTy.Contents (Elt Ideal) M.view.ty) (T : ℕ → ℕ → Vec Ideal S1024x128 .f32)
    (f : ℕ → ℕ → ℝ) (h : ∀ p, p < 4 → ∀ j, j < 8 → Is M.view g ![j * 1024, p * 128] S1024x128.size (T p j))
    (hT : ∀ p, p < 4 → ∀ j, j < 8 → ∀ (y : Fin 1024) (d : Fin 128), T p j (ix2 y d) = ((f (1024 * j + y.val) (128 * p + d.val) : ℝ) : EReal))
    (s : Fin 8192) (k : Fin 512) : M.view.read (Elt Ideal) g (ix2 s k) = ((f s.val k.val : ℝ) : EReal) := by
  have hs := s.isLt
  have hk := k.isLt
  have inb : ∀ a, (![s.val / 1024 * 1024, k.val / 128 * 128] : Fin 2 → ℕ) a + S1024x128.size a ≤ S8192x512.size a := by
    intro a
    match a with
    | ⟨0, _⟩ => show s.val / 1024 * 1024 + 1024 ≤ 8192; omega
    | ⟨1, _⟩ => show k.val / 128 * 128 + 128 ≤ 512; omega
  have e := congrFun (h (k.val / 128) (by omega) (s.val / 1024) (by omega) inb) (ix2 ⟨s.val % 1024, Nat.mod_lt _ (by decide)⟩ ⟨k.val % 128, Nat.mod_lt _ (by decide)⟩)
  rw [hT _ (by omega) _ (by omega)] at e
  have e2 : (1024 * (s.val / 1024) + s.val % 1024) = s.val := Nat.div_add_mod _ _
  have e3 : (128 * (k.val / 128) + k.val % 128) = k.val := Nat.div_add_mod _ _
  dsimp only at e
  rw [e2, e3] at e
  rw [← e]
  refine congrArg (M.view.read (Elt Ideal) g) (funext fun a => Fin.ext ?_)
  match a with
  | ⟨0, _⟩ =>
    show s.val = s.val / 1024 * 1024 + 1 * (s.val % 1024)
    omega
  | ⟨1, _⟩ =>
    show k.val = k.val / 128 * 128 + 1 * (k.val % 128)
    omega

include hU hW in
theorem final1 (X : (b : Ref sig .tc) → Buf (Elt Ideal) ((c : Thread nD τ).loc b)) (h : Done m c X) :
    (X main_v0_1 : S8192x512.Idx → EReal) = fun j => ((resK U W (j 0).val (j 1).val : ℝ) : EReal) := by
  funext j
  idx_vars j
  refine table_of_boxes main_v0_1 mK (X main_v0_1) (fun p j => TK m c (32 * (p + 1)) j) (resK U W) (fun p hp j hj => (h p hp j hj).1) ?_ j0 j1
  intro p hp j hj y d
  have hd := d.isLt
  refine (TK_re m c U W hU hW p hp j hj y d 31 (by omega)).trans ?_
  unfold resK
  rw [show (128 * p + d.val) / 128 = p by omega, show (128 * p + d.val) % 128 = d.val by omega]
include hU hW in
theorem final2 (X : (b : Ref sig .tc) → Buf (Elt Ideal) ((c : Thread nD τ).loc b)) (h : Done m c X) :
    (X main_v0_2 : S8192x512.Idx → EReal) = fun j => ((resV U W (j 0).val (j 1).val : ℝ) : EReal) := by
  funext j
  idx_vars j
  refine table_of_boxes main_v0_2 mV (X main_v0_2) (fun p j => TV m c (32 * (p + 1)) j) (resV U W) (fun p hp j hj => (h p hp j hj).2) ?_ j0 j1
  intro p hp j hj y d
  have hd := d.isLt
  refine (TV_re m c U W hU hW p hp j hj y d 31 (by omega)).trans ?_
  unfold resV
  rw [show (128 * p + d.val) / 128 = p by omega, show (128 * p + d.val) % 128 = d.val by omega]

include hU hW in
theorem final0 : (dats m 0 c).arrAt 4 cfg0.N = (fun j : S8192x512.Idx => ((resQ U W (j 0).val (j 1).val : ℝ) : EReal)) := by
  refine (dats m 0 c).arrAt_eq_of_covers 4 _ (by decide +kernel) fun t hf y => ?_
  blk_simp
  rw [after4]
  idx_vars y
  have hd := y1.isLt
  have e := outQ_re _ _ _ _ _ U W (t.val / 32) (qBlk_re m c U hU t) (oBlk_re m c W hW t) (kBlk_re m c U hU t) (vBlk_re m c U hU t) y0 y1
  refine e.trans (congrArg Real.toEReal ?_)
  rw [coord1, index4 t]
  show _ = resQ U W (t.val % 32 * 256 + y0.val) (t.val / 32 * 128 + y1.val)
  unfold resQ
  rw [show (t.val / 32 * 128 + y1.val) / 128 = t.val / 32 by omega, show (t.val / 32 * 128 + y1.val) % 128 = y1.val by omega, Nat.mul_comm 256]
end
end Cert.KernelIdeal.Hand
end
-- ==== Proof.Tie.lean ====
module

public import proofs.«01_k».proof.Proof.RefAt
public import proofs.«01_k».proof.Proof.Values

@[expose] public section

/-! The reference's gradients as sums over the tables of reals, and that they are the kernel's: a pair of heads on 128 lanes, of which
    each head reads its own 64. -/

set_option maxRecDepth 16384

noncomputable section

namespace Cert.ReferenceIdeal.Hand

open Cert.ReferenceIdeal Cert.ReferenceIdeal.Gen Cert.Stick
open Idealize.ShloMosaic Idealize.ShloMosaic.TcCoe Idealize.ShloMosaic.Tactic Finset
open Cert.KernelIdeal.Hand (hQ hO hK hZ hA rowV rowK rowQ resQ resK resV sum_fin)

section
variable (U W : ℕ → ℕ → ℝ)
/-- Head `h`'s scores, and the gradients of its weights. -/
def rz (h t s : ℕ) : ℝ := (∑ d ∈ Ico 0 64, U t (0 + (64 * h + d)) * U s (512 + (64 * h + d))) * (1 / 8)
def ra (h t s : ℕ) : ℝ := ∑ d ∈ Ico 0 64, W t (64 * h + d) * U s (1024 + (64 * h + d))

/-- The lanes of one head of a pair. -/
theorem half (F : ℕ → ℝ) (e : ℕ) (he : e < 2) : (∑ d ∈ Ico 0 128, if d / 64 = e then F d else 0) = ∑ d ∈ Ico 0 64, F (64 * e + d) := by
  rw [sum_block F (64 * e) 0 64, ← Finset.sum_filter]
  refine Finset.sum_congr (Finset.ext fun d => ?_) fun _ _ => rfl
  rw [Finset.mem_filter, Finset.mem_Ico, Finset.mem_Ico]
  omega
theorem tie_z (p e : ℕ) (he : e < 2) : hZ U p e = rz U (2 * p + e) := by
  funext t s
  unfold hZ hQ rz
  rw [Finset.sum_mul, ← Finset.sum_congr rfl fun d _ => ?_]
  · exact half (fun d => U t (128 * p + d) * U s (512 + 128 * p + d) * (1 / 8)) e he |>.trans (Finset.sum_congr rfl fun d _ => by
      rw [show 128 * p + (64 * e + d) = 0 + (64 * (2 * p + e) + d) by omega, show 512 + 128 * p + (64 * e + d) = 512 + (64 * (2 * p + e) + d) by omega])
  · split
    · ring
    · ring
theorem tie_a (p e : ℕ) (he : e < 2) : hA U W p e = ra U W (2 * p + e) := by
  funext t s
  unfold hA hO ra
  rw [← Finset.sum_congr rfl fun d _ => ?_]
  · exact half (fun d => W t (128 * p + d) * U s (1024 + 128 * p + d)) e he |>.trans (Finset.sum_congr rfl fun d _ => by
      rw [show 128 * p + (64 * e + d) = 64 * (2 * p + e) + d by omega, show 1024 + 128 * p + (64 * e + d) = 1024 + (64 * (2 * p + e) + d) by omega])
  · split
    · ring
    · ring

theorem tie_rowV (k t s : ℕ) : rowV U W (k / 128) t s (k % 128) = W t k * A (rz U (k / 64)) t s := by
  unfold rowV hO
  rw [show 128 * (k / 128) + k % 128 = k by omega]
  rcases (by omega : k % 128 / 64 = 0 ∨ k % 128 / 64 = 1) with h | h
  · rw [h, if_pos rfl, if_neg (by omega), tie_z U _ 0 (by omega), show 2 * (k / 128) + 0 = k / 64 by omega]; ring
  · rw [h, if_neg (by omega), if_pos rfl, tie_z U _ 1 (by omega), show 2 * (k / 128) + 1 = k / 64 by omega]; ring
theorem tie_rowK (k t s : ℕ) : rowK U W (k / 128) t s (k % 128) = Dz (rz U (k / 64)) (ra U W (k / 64)) t s * (1 / 8) * U t k := by
  unfold rowK hQ
  rw [show 128 * (k / 128) + k % 128 = k by omega]
  rcases (by omega : k % 128 / 64 = 0 ∨ k % 128 / 64 = 1) with h | h
  · rw [h, if_pos rfl, if_neg (by omega), tie_z U _ 0 (by omega), tie_a U W _ 0 (by omega), show 2 * (k / 128) + 0 = k / 64 by omega]; ring
  · rw [h, if_neg (by omega), if_pos rfl, tie_z U _ 1 (by omega), tie_a U W _ 1 (by omega), show 2 * (k / 128) + 1 = k / 64 by omega]; ring
theorem tie_rowQ (k t s : ℕ) : rowQ U W (k / 128) t s (k % 128) = Dz (rz U (k / 64)) (ra U W (k / 64)) t s * U s (512 + k) := by
  unfold rowQ hK
  rw [show 512 + 128 * (k / 128) + k % 128 = 512 + k by omega]
  rcases (by omega : k % 128 / 64 = 0 ∨ k % 128 / 64 = 1) with h | h
  · rw [h, if_pos rfl, if_neg (by omega), tie_z U _ 0 (by omega), tie_a U W _ 0 (by omega), show 2 * (k / 128) + 0 = k / 64 by omega]; ring
  · rw [h, if_neg (by omega), if_pos rfl, tie_z U _ 1 (by omega), tie_a U W _ 1 (by omega), show 2 * (k / 128) + 1 = k / 64 by omega]; ring
end

section
variable (m : (ℓ : Loc nD τ sig) → Buf (Elt Ideal) ℓ) (c : Dev nD) (U W : ℕ → ℕ → ℝ)
  (hU : ∀ j : S8192x1536.Idx, (ag0 m c : S8192x1536.Idx → EReal) j = ((U (j 0).val (j 1).val : ℝ) : EReal))
  (hW : ∀ j : S8192x512.Idx, (ag1 m c : S8192x512.Idx → EReal) j = ((W (j 0).val (j 1).val : ℝ) : EReal))
include hU in
theorem qH_re (h : Fin 8) (t : Fin 8192) (d : Fin 64) : qH m c (ix3 h t d) = ((U t.val (0 + (64 * h.val + d.val)) : ℝ) : EReal) := by
  unfold qH; rw [heads_at, cut0_at]; exact hU _
include hU in
theorem kH_re (h : Fin 8) (t : Fin 8192) (d : Fin 64) : kH m c (ix3 h t d) = ((U t.val (512 + (64 * h.val + d.val)) : ℝ) : EReal) := by
  unfold kH; rw [heads_at, cut1_at]; exact hU _
include hU in
theorem vH_re (h : Fin 8) (t : Fin 8192) (d : Fin 64) : vH m c (ix3 h t d) = ((U t.val (1024 + (64 * h.val + d.val)) : ℝ) : EReal) := by
  unfold vH; rw [heads_at, cut2_at]; exact hU _
include hW in
theorem oH_re (h : Fin 8) (t : Fin 8192) (d : Fin 64) : oH m c (ix3 h t d) = ((W t.val (64 * h.val + d.val) : ℝ) : EReal) := by
  unfold oH; rw [heads_at]; exact hW _
include hU in
theorem zH_re (h : Fin 8) (t s : Fin 8192) : zH m c (ix3 h t s) = ((rz U h.val t.val s.val : ℝ) : EReal) := by
  refine mul_re _ _ h t s _ _ ?_ (b8_at _)
  rw [nt3_at, Finset.sum_congr rfl fun d _ => by rw [qH_re m c U hU, kH_re m c U hU, ← EReal.coe_mul],
    sum_fin 64 (fun d => U t.val (0 + (64 * h.val + d)) * U s.val (512 + (64 * h.val + d)))]
include hU hW
theorem aH_re (h : Fin 8) (t s : Fin 8192) : aH m c (ix3 h t s) = ((ra U W h.val t.val s.val : ℝ) : EReal) := by
  unfold aH
  rw [nt3_at, Finset.sum_congr rfl fun d _ => by rw [oH_re m c W hW, vH_re m c U hU, ← EReal.coe_mul],
    sum_fin 64 (fun d => W t.val (64 * h.val + d) * U s.val (1024 + (64 * h.val + d)))]
  rfl

/-- The three gradients. -/
theorem ref52 : (Value.res_main_v52 m c : S8192x512.Idx → EReal) = fun j => ((resV U W (j 0).val (j 1).val : ℝ) : EReal) := by
  funext j
  idx_vars j
  rw [res52, flat_at, dv3_at, Finset.sum_congr rfl fun t _ => by
    rw [oH_re m c W hW, v27_re (zH m c) (rz U (j1.val / 64)) ⟨j1.val / 64, by omega⟩ t (fun s => zH_re m c U hU _ t s), ← EReal.coe_mul],
    sum_fin 8192 (fun t => W t (64 * (j1.val / 64) + j1.val % 64) * A (rz U (j1.val / 64)) t j0.val)]
  refine congrArg Real.toEReal (Finset.sum_congr rfl fun t _ => ?_)
  rw [show 64 * (j1.val / 64) + j1.val % 64 = j1.val by omega]
  exact (tie_rowV U W j1.val t j0.val).symm
theorem ref54 : (Value.res_main_v54 m c : S8192x512.Idx → EReal) = fun j => ((resK U W (j 0).val (j 1).val : ℝ) : EReal) := by
  funext j
  idx_vars j
  rw [res54, flat_at, tn3_at, Finset.sum_congr rfl fun t _ => by
    rw [qH_re m c U hU, v48_re (zH m c) (aH m c) (rz U (j1.val / 64)) (ra U W (j1.val / 64)) ⟨j1.val / 64, by omega⟩ t (fun s => zH_re m c U hU _ t s) (fun s => aH_re m c U W hU hW _ t s), ← EReal.coe_mul],
    sum_fin 8192 (fun t => Dz (rz U (j1.val / 64)) (ra U W (j1.val / 64)) t j0.val * (1 / 8) * U t (0 + (64 * (j1.val / 64) + j1.val % 64)))]
  refine congrArg Real.toEReal (Finset.sum_congr rfl fun t _ => ?_)
  rw [show 0 + (64 * (j1.val / 64) + j1.val % 64) = j1.val by omega]
  exact (tie_rowK U W j1.val t j0.val).symm
theorem ref56 : (Value.res_main_v56 m c : S8192x512.Idx → EReal) = fun j => ((resQ U W (j 0).val (j 1).val : ℝ) : EReal) := by
  funext j
  idx_vars j
  rw [res56, flat_at, nn3_at, Finset.sum_congr rfl fun s _ => by
    rw [kH_re m c U hU, v48_re (zH m c) (aH m c) (rz U (j1.val / 64)) (ra U W (j1.val / 64)) ⟨j1.val / 64, by omega⟩ j0 (fun s => zH_re m c U hU _ j0 s) (fun s => aH_re m c U W hU hW _ j0 s), ← EReal.coe_mul],
    sum_fin 8192 (fun s => Dz (rz U (j1.val / 64)) (ra U W (j1.val / 64)) j0.val s * (1 / 8) * U s (512 + (64 * (j1.val / 64) + j1.val % 64)))]
  refine congrArg Real.toEReal ?_
  unfold resQ
  rw [Finset.sum_mul]
  refine Finset.sum_congr rfl fun s _ => ?_
  rw [show 64 * (j1.val / 64) + j1.val % 64 = j1.val by omega]
  exact (mul_right_comm _ _ _).trans (congrArg (· * (1 / 8)) (tie_rowQ U W j1.val j0.val s).symm)
end
end Cert.ReferenceIdeal.Hand
end
-- ==== Proof.Result.lean ====
module

public import proofs.«01_k».proof.Defs
public import proofs.«01_k».proof.Proof.Tie

@[expose] public section

/-! From finite arguments the kernel and the reference end with the same three tables of reals. -/

set_option maxRecDepth 16384

noncomputable section

namespace Cert.Proof

open Idealize.ShloMosaic Idealize.ShloMosaic.TcCoe Idealize.ShloMosaic.Tactic

theorem finFacts : Cert.Pre_finite.Facts := ⟨by decide, by decide, by decide⟩
instance : Cert.Pre_finite.Facts := finFacts
instance : Cert.KernelIdeal.Facts := Cert.KernelIdeal.Gen.facts
instance : Cert.ReferenceIdeal.Facts := Cert.ReferenceIdeal.Gen.facts

abbrev Rect (a b : ℕ) : Shape := ⟨2, ![a, b]⟩
/-- A table by its entries' numbers, as reals. -/
def table {a b : ℕ} (x : (Rect a b).Idx → EReal) (i j : ℕ) : ℝ := if h : i < a ∧ j < b then (x (ix2 ⟨i, h.1⟩ ⟨j, h.2⟩)).toReal else 0

theorem inf_eq : Ideal.ofBits .f32 0x7F800000#32 = ⊤ := by simp [Ideal.ofBits, Ideal.ieee]
theorem real_of_lt (x : EReal) (h : max x (-x) < ⊤) : ((x.toReal : ℝ) : EReal) = x := by
  refine EReal.coe_toReal (fun e => ?_) (fun e => ?_)
  · rw [e] at h; simp at h
  · rw [e] at h; simp at h
theorem table_eq {a b : ℕ} (x : (Rect a b).Idx → EReal) (h : ∀ j, max (x j) (-(x j)) < ⊤) (j : (Rect a b).Idx) :
    x j = ((table x (j 0).val (j 1).val : ℝ) : EReal) := by
  unfold table
  rw [dif_pos ⟨(j 0).isLt, (j 1).isLt⟩]
  have e : ix2 (⟨(j 0).val, (j 0).isLt⟩ : Fin a) (⟨(j 1).val, (j 1).isLt⟩ : Fin b) = j := by
    funext q
    match q with
    | ⟨0, _⟩ => rfl
    | ⟨1, _⟩ => rfl
  exact (real_of_lt _ (h j)).symm.trans (congrArg (fun i => ((EReal.toReal (x i) : ℝ) : EReal)) e.symm)
theorem lt_of_bit (x : EReal) (h : BitVec.ofBool (decide (max x (-x) < Ideal.ofBits .f32 0x7F800000#32)) = 1#1) : max x (-x) < ⊤ := by
  rw [inf_eq] at h
  by_contra hn
  simp [hn] at h

theorem fin1 (x : FVec Ideal Cert.Pre_finite.S8192x1536 .bf16) (y : FVec Ideal Cert.Pre_finite.S8192x512 .bf16) (h : (Cert.Pre_finite.fn (F := Ideal) x y).1 = fun _ => 1#1)
    (j : (Rect 8192 1536).Idx) : max (x j : EReal) (-(x j : EReal)) < ⊤ := by
  have e := congrFun h j
  unfold Cert.Pre_finite.fn at e
  dsimp only at e
  idx_vars j
  revert e
  pointwise
  exact lt_of_bit _
theorem fin2 (x : FVec Ideal Cert.Pre_finite.S8192x1536 .bf16) (y : FVec Ideal Cert.Pre_finite.S8192x512 .bf16) (h : (Cert.Pre_finite.fn (F := Ideal) x y).2 = fun _ => 1#1)
    (j : (Rect 8192 512).Idx) : max (y j : EReal) (-(y j : EReal)) < ⊤ := by
  have e := congrFun h j
  unfold Cert.Pre_finite.fn at e
  dsimp only at e
  idx_vars j
  revert e
  pointwise
  exact lt_of_bit _

theorem algebraic : Cert.algebraic_KernelIdeal_ReferenceIdeal_pre_finite := by
  intro m g m' g' hfin hargs
  let U := fun c : Dev Cert.KernelIdeal.nD => table (a := 8192) (b := 1536) (m ((c.tc : Thread Cert.KernelIdeal.nD Cert.KernelIdeal.τ).loc Cert.KernelIdeal.main_arg0))
  let W := fun c : Dev Cert.KernelIdeal.nD => table (a := 8192) (b := 512) (m ((c.tc : Thread Cert.KernelIdeal.nD Cert.KernelIdeal.τ).loc Cert.KernelIdeal.main_arg1))
  have hU := fun c : Dev Cert.KernelIdeal.nD => table_eq (a := 8192) (b := 1536) _ (fin1 _ _ (hfin c).1)
  have hW := fun c : Dev Cert.KernelIdeal.nD => table_eq (a := 8192) (b := 512) _ (fin2 _ _ (hfin c).2)
  refine ⟨fun c j => ((Cert.KernelIdeal.Hand.resQ (U c) (W c) (j 0).val (j 1).val : ℝ) : EReal), fun c j => ((Cert.KernelIdeal.Hand.resK (U c) (W c) (j 0).val (j 1).val : ℝ) : EReal),
    fun c j => ((Cert.KernelIdeal.Hand.resV (U c) (W c) (j 0).val (j 1).val : ℝ) : EReal), ?_, ?_⟩
  · refine (θ_run Cert.KernelIdeal.defs _ _).mono (fun r h c => ?_) (Cert.KernelIdeal.Hand.run_main m g)
    obtain ⟨X, hX, hr⟩ := h.1.2 c
    exact ⟨((h.1.1 c).1 4).trans (Cert.KernelIdeal.Hand.final0 m c (U c) (W c) (hU c) (hW c)),
      (hr Cert.KernelIdeal.main_v0_1 (by decide)).trans (Cert.KernelIdeal.Hand.final1 m c (U c) (W c) (hU c) (hW c) X hX),
      (hr Cert.KernelIdeal.main_v0_2 (by decide)).trans (Cert.KernelIdeal.Hand.final2 m c (U c) (W c) (hU c) (hW c) X hX),
      ((h.1.1 c).1 0).trans (((Cert.KernelIdeal.Hand.dats m 0 c).arrAt_in 0 rfl _).trans (Cert.KernelIdeal.Hand.A_eq m c 0)),
      ((h.1.1 c).1 3).trans (((Cert.KernelIdeal.Hand.dats m 0 c).arrAt_in 3 rfl _).trans (Cert.KernelIdeal.Hand.A_eq m c 3))⟩
  · refine (θ_run Cert.ReferenceIdeal.defs _ _).mono (fun r h c => ?_) (Cert.ReferenceIdeal.Value.run m' g')
    have hU' : ∀ j : Cert.ReferenceIdeal.S8192x1536.Idx, (Cert.ReferenceIdeal.Hand.ag0 m' c : Cert.ReferenceIdeal.S8192x1536.Idx → EReal) j = ((U c (j 0).val (j 1).val : ℝ) : EReal) :=
      fun j => (congrFun (hargs c).1 j).trans (hU c j)
    have hW' : ∀ j : Cert.ReferenceIdeal.S8192x512.Idx, (Cert.ReferenceIdeal.Hand.ag1 m' c : Cert.ReferenceIdeal.S8192x512.Idx → EReal) j = ((W c (j 0).val (j 1).val : ℝ) : EReal) :=
      fun j => (congrFun (hargs c).2 j).trans (hW c j)
    exact ⟨(h c).1.trans (Cert.ReferenceIdeal.Hand.ref56 m' c (U c) (W c) hU' hW'), (h c).2.1.trans (Cert.ReferenceIdeal.Hand.ref54 m' c (U c) (W c) hU' hW'),
      (h c).2.2.1.trans (Cert.ReferenceIdeal.Hand.ref52 m' c (U c) (W c) hU' hW'), (h c).2.2.2.1, (h c).2.2.2.2⟩
end Cert.Proof
end
-- ==== Proof.FwdOffs.lean ====
module

public import proofs.«01_k».proof.Proof.Gen.ForwardIdeal.Launch
public import Idealize.ShloMosaic.Lib.Tactic

@[expose] public section

/-! The forward call's offsets, trip counts and guard, as numbers of the grid point. -/

set_option maxRecDepth 8192

noncomputable section

namespace Cert.ForwardIdeal.Hand

open Cert.ForwardIdeal Cert.ForwardIdeal.Gen
open Idealize.ShloMosaic Idealize.ShloMosaic.Tactic

/-- The number of tiles before the diagonal tile of the grid point's rows. -/
abbrev lastOf (i : grid0.Coords) : ℕ := (i 1).val / 2

theorem trips1 : ∀ i : grid0.Coords, (k0_t1_loop i).trips = (lastOf i + 1) / 2 := by decide +kernel
theorem trips2 : ∀ i : grid0.Coords, (k0_t2_loop i).trips = 0 := by decide +kernel
theorem off1_eq : ∀ i : grid0.Coords, k0_off1 i = ![lastOf i * 1024, 0] := by decide +kernel
theorem off2a_eq : ∀ (i : grid0.Coords) (k : Fin (k0_t1_loop i).trips), k0_off2 i k 1#32 = ![(lastOf i - (2 * k.val + 1)) * 1024, 0] := by decide +kernel
theorem off2b_eq : ∀ (i : grid0.Coords) (k : Fin (k0_t1_loop i).trips), k0_off2 i k 2#32 = ![(lastOf i - (2 * k.val + 2)) * 1024, 0] := by decide +kernel
theorem off3_eq : ∀ (i : grid0.Coords) (k : Fin (k0_t1_loop i).trips), k0_off3 i k = ![(lastOf i - 2 * k.val) * 1024, 0] := by decide +kernel
theorem cond1_iff : ∀ i : grid0.Coords, k0_cond1 i = 1#1 ↔ lastOf i % 2 = 0 := by decide +kernel
theorem off6_eq : ∀ i : grid0.Coords, k0_cond1 i = 1#1 → k0_off6 i = ![0, 0] := by decide +kernel
end Cert.ForwardIdeal.Hand
end
-- ==== Proof.Box.lean ====
module

public import Idealize.ShloMosaic.Lib.WritesUnit
public import Idealize.ShloMosaic.Lib.Tactic

@[expose] public section

/-! What a box of an array reads after stores to boxes of it, for any program's buffers. -/

noncomputable section

namespace Cert.Box

open Idealize.ShloMosaic

variable {sig : RefSig} {F : FTy → Type}

/-- The box at `off` of what `f` holds reads `w`. -/
def Is {κ : Kind} {sp : Space} {s : Shape} {e : EltTy} (v : View sig κ sp s e) (f : v.ty.Contents (Elt F)) (off size : Fin s.rank → ℕ)
    (w : (⟨s.rank, size⟩ : Shape).Idx → Elt F e) : Prop :=
  ∀ inb, v.readAt (Elt F) (Rect.unit off size inb).toLoadRect f = w

variable {κ : Kind} {sp : Space} {s : Shape} {e : EltTy} {v : View sig κ sp s e} {f : v.ty.Contents (Elt F)}

/-- The box last written reads what was written. -/
theorem Is.hit {off off' size : Fin s.rank → ℕ} {inb : ∀ a, off a + size a ≤ s.size a} {w : (⟨s.rank, size⟩ : Shape).Idx → Elt F e}
    {w' : (⟨s.rank, size⟩ : Shape).Idx → Elt F e} {L : List (View.Piece (Elt F) s e)} (heq : off = off') (hw : w = w') :
    Is v (v.writes (Elt F) f ((⟨Rect.unit off size inb, w⟩ : View.Piece (Elt F) s e) :: L)) off' size w' := by
  subst hw
  intro inb'
  funext x
  exact View.read_writes_cons_unit_of_mem v f inb w L _ x heq (fun a => by
    show off' a + 1 * (x a).val = _
    rw [Nat.one_mul])

/-- A box apart from the last written one reads what was there before. -/
theorem Is.miss {off off₁ off' size size' : Fin s.rank → ℕ} {inb : ∀ a, off a + size a ≤ s.size a} {w : (⟨s.rank, size⟩ : Shape).Idx → Elt F e}
    {w' : (⟨s.rank, size'⟩ : Shape).Idx → Elt F e} {L : List (View.Piece (Elt F) s e)} (heq : off = off₁) (a : Fin s.rank)
    (ha : off' a + size' a ≤ off₁ a ∨ off₁ a + size a ≤ off' a) (h : Is v (v.writes (Elt F) f L) off' size' w') :
    Is v (v.writes (Elt F) f ((⟨Rect.unit off size inb, w⟩ : View.Piece (Elt F) s e) :: L)) off' size' w' := by
  intro inb'
  rw [← h inb']
  funext x
  have hx := (x a).isLt
  refine View.read_writes_cons_unit_of_not_mem v f inb w L _ heq a ?_
  show off' a + 1 * (x a).val < _ ∨ _ ≤ off' a + 1 * (x a).val
  have hx : (x a).val < size' a := hx
  omega

theorem Is.nil {off' size' : Fin s.rank → ℕ} {w' : (⟨s.rank, size'⟩ : Shape).Idx → Elt F e} (h : Is v f off' size' w') :
    Is v (v.writes (Elt F) f []) off' size' w' := h

/-- After a store of one value everywhere, every box reads that value. -/
theorem Is.const {off off' size' : Fin s.rank → ℕ} {inb : ∀ a, off a + s.size a ≤ s.size a} {a : Elt F e} {L : List (View.Piece (Elt F) s e)} (heq : ∀ b, off b = 0) :
    Is v (v.writes (Elt F) f ((⟨Rect.unit off s.size inb, fun _ => a⟩ : View.Piece (Elt F) s e) :: L)) off' size' (fun _ => a) := by
  intro inb'
  funext x
  exact View.read_writes_cons_unit_of_mem v f inb (fun _ => a) L _
    (fun b => ⟨off' b + (x b).val, by have := inb' b; show _ < s.size b; have : (x b).val < size' b := (x b).isLt; omega⟩) (funext fun b => heq b) (fun b => by
    show off' b + 1 * (x b).val = 0 + (off' b + (x b).val)
    rw [Nat.one_mul, Nat.zero_add])
end Cert.Box
end
-- ==== Proof.FwdTile.lean ====
module

public import proofs.«01_k».proof.Proof.Gen.ForwardIdeal.Launch
public import proofs.«01_k».proof.Proof.Gen.ForwardIdeal.Skeleton
public import proofs.«01_k».proof.Proof.Box

@[expose] public section

/-! What one tile of the forward sweep computes, as functions of the arrays it reads: at any float instance, in the
    operations the body itself uses. A tile has 512 query rows and 1024 keys, and stands for one head. -/

noncomputable section

namespace Cert.ForwardIdeal.Hand

open Cert.ForwardIdeal Cert.ForwardIdeal.Gen
open Idealize.ShloMosaic

variable {F : FTy → Type} [FloatOps F] [Named F]

/-- The number that masks a score. -/
def maskC : F .f32 := Named.named κ "mask" 0xF149F2CA#32

/-- A stored tile, without its two unit axes, and as it is stored. -/
def sq (x : Vec F S1x1x512x1024 .f32) : FVec F S512x1024 .f32 := shapeCast S512x1024 x shapeCasts_S1x1x512x1024_S512x1024
def us (x : FVec F S512x1024 .f32) : Vec F S1x1x512x1024 .f32 := shapeCast S1x1x512x1024 x shapeCasts_S512x1024_S1x1x512x1024
/-- A stored column, without its unit axis, and as it is stored. -/
def sqr (x : Vec F S1x512x1 .f32) : FVec F S512x1 .f32 := shapeCast S512x1 x shapeCasts_S1x512x1_S512x1
def usr (x : FVec F S512x1 .f32) : Vec F S1x512x1 .f32 := shapeCast S1x512x1 x shapeCasts_S512x1_S1x512x1

/-- Rows of `a` times rows of `b`, and the plain product. -/
def nt (a : FVec F S512x128 .bf16) (b : Vec F S1024x128 .bf16) : FVec F S512x1024 .f32 :=
  matmul dot_S512x128_S1024x128_S512x1024_1_1_0_0_n_n none a b (constant S512x1024 .f32 0x00000000#32)
def nn (a : FVec F S512x1024 .bf16) (b : FVec F S1024x128 .bf16) : FVec F S512x128 .f32 :=
  matmul dot_S512x1024_S1024x128_S512x128_1_0_0_1_n_n none a b (constant S512x128 .f32 0x00000000#32)

/-- The softplus of a tile of scores. -/
def spT (z : FVec F S512x1024 .f32) : FVec F S512x1024 .f32 :=
  addf (maximumf z (broadcast S512x1024 (Scalar.ofBits .f32 0x00000000#32 : F .f32)))
    (log (addf (broadcast S512x1024 (Scalar.ofBits .f32 0x3F800000#32 : F .f32))
      (exp (subf (broadcast S512x1024 (Scalar.ofBits .f32 0x00000000#32 : F .f32)) (absf z)))))

/-- The four blocks of 256 keys. -/
def b0 (x : FVec F S512x1024 .f32) : FVec F S512x256 .f32 := extractStridedSlice S512x256 ![0, 0] x slices_S512x1024_o0_0_S512x256
def b1 (x : FVec F S512x1024 .f32) : FVec F S512x256 .f32 := extractStridedSlice S512x256 ![0, 256] x slices_S512x1024_o0_256_S512x256
def b2 (x : FVec F S512x1024 .f32) : FVec F S512x256 .f32 := extractStridedSlice S512x256 ![0, 512] x slices_S512x1024_o0_512_S512x256
def b3 (x : FVec F S512x1024 .f32) : FVec F S512x256 .f32 := extractStridedSlice S512x256 ![0, 768] x slices_S512x1024_o0_768_S512x256

/-- A block's row sums, and a column with them added. -/
def rowS (b : FVec F S512x256 .f32) : FVec F S512x1 .f32 :=
  shapeCast S512x1 (multiReduction .add [1] S512 b 0x00000000#32 reduces_S512x256_S512 (.inl rfl) rfl) shapeCasts_S512_S512x1
def addCol (r : FVec F S512x1 .f32) (b : FVec F S512x256 .f32) : FVec F S512x1 .f32 := addf r (rowS b)
/-- A block's running sums: a product with the triangular matrix `m`; and with a column added. -/
def cumB (m : FVec F S256x256 .bf16) (b : FVec F S512x256 .f32) : FVec F S512x256 .f32 :=
  matmul dot_S512x256_S256x256_S512x256_1_0_0_1_n_n none (truncf .bf16 b bitsLt_bf16_f32) m (constant S512x256 .f32 0x00000000#32)
def cumC (m : FVec F S256x256 .bf16) (b : FVec F S512x256 .f32) (r : FVec F S512x1 .f32) : FVec F S512x256 .f32 :=
  addf (cumB m b) (broadcastTo S512x256 r broadcasts_S512x1_S512x256)
/-- Four blocks side by side. -/
def cat (a b c d : FVec F S512x256 .f32) : FVec F S512x1024 .f32 :=
  concatenate S512x1024 1 [⟨S512x256, a⟩, ⟨S512x256, b⟩, ⟨S512x256, c⟩, ⟨S512x256, d⟩] concatenates_S512x256_S512x256_S512x256_S512x256_S512x1024_d1

/-- Running sums from the last key of the tile to the first, and the sums of all its keys. -/
def cumS (m : FVec F S256x256 .bf16) (x : FVec F S512x1024 .f32) : FVec F S512x1024 .f32 :=
  cat (cumC m (b0 x) (addCol (addCol (rowS (b3 x)) (b2 x)) (b1 x))) (cumC m (b1 x) (addCol (rowS (b3 x)) (b2 x)))
    (cumC m (b2 x) (rowS (b3 x))) (cumB m (b3 x))
def endS (x : FVec F S512x1024 .f32) : FVec F S512x1 .f32 := addCol (addCol (addCol (rowS (b3 x)) (b2 x)) (b1 x)) (b0 x)

/-- The attention weights of a tile, as if no key came after the tile. -/
def aT (m : FVec F S256x256 .bf16) (z : FVec F S512x1024 .f32) : FVec F S512x1024 .f32 := exp (subf z (cumS m (spT z)))

/-- The values of a tile, with 0 outside a head's lanes. -/
def vmask (w : IVec S1x128 1) (v : Vec F S1024x128 .bf16) : FVec F S1024x128 .bf16 :=
  select (broadcastTo S1024x128 (shapeCast S1x128 w shapeCasts_S1x128_S1x128) broadcasts_S1x128_S1024x128) v
    (broadcast S1024x128 (Scalar.sitofp .bf16 0#32 : F .bf16))

/-- The weights' decay over the later keys. -/
def dec (r : FVec F S512x1 .f32) : FVec F S512x128 .f32 :=
  broadcastTo S512x128 (exp (subf (broadcast S512x1 (Scalar.ofBits .f32 0x00000000#32 : F .f32)) r)) broadcasts_S512x1_S512x128

/-- The column after a tile. -/
def rN (z : Vec F S1x1x512x1024 .f32) (r : Vec F S1x512x1 .f32) : Vec F S1x512x1 .f32 := usr (addf (sqr r) (endS (spT (sq z))))
/-- The output rows after one head's tile. -/
def oN (m : FVec F S256x256 .bf16) (w : IVec S1x128 1) (z : Vec F S1x1x512x1024 .f32) (r : Vec F S1x512x1 .f32) (v : Vec F S1024x128 .bf16) (o : FVec F S512x128 .f32) :
    FVec F S512x128 .f32 :=
  shapeCast S512x128 (addf o (mulf (nn (truncf .bf16 (aT m (sq z)) bitsLt_bf16_f32) (vmask w v)) (dec (sqr r)))) shapeCasts_S512x128_S512x128

/-- The diagonal's mask, of query rows `512·a …` and keys `1024·b …`. -/
def dmask (a b : BitVec 32) : IVec S512x1024 1 := k0_pay183 a b

section head
variable (q : FVec F S512x128 .bf16) (kt : ℕ → Vec F S1024x128 .bf16) (last : ℕ) (ab : BitVec 32 × BitVec 32)

/-- The stored scores of sweep item `n`: the tile `last - n`, the first item masked. -/
def Zs : ℕ → Vec F S1x1x512x1024 .f32
  | 0 => us (select (dmask ab.1 ab.2) (nt q (kt last)) (broadcast S512x1024 maskC))
  | n + 1 => us (nt q (kt (last - (n + 1))))
/-- The column of sums before item `n`. -/
def Rs : ℕ → Vec F S1x512x1 .f32
  | 0 => fun _ => Scalar.ofBits .f32 0x00000000#32
  | n + 1 => rN (Zs q kt last ab n) (Rs n)
end head

section both
variable (m : FVec F S256x256 .bf16) (w0 w1 : IVec S1x128 1) (q0 q1 : FVec F S512x128 .bf16) (kt vt : ℕ → Vec F S1024x128 .bf16) (last : ℕ) (ab : BitVec 32 × BitVec 32)
/-- The output rows before item `n`. -/
def Os : ℕ → FVec F S512x128 .f32
  | 0 => fun _ => Scalar.ofBits .f32 0x00000000#32
  | n + 1 => oN m w1 (Zs q1 kt last ab n) (Rs q1 kt last ab n) (vt (last - n)) (oN m w0 (Zs q0 kt last ab n) (Rs q0 kt last ab n) (vt (last - n)) (Os n))
end both

/-- The tiles of a keys' array. -/
def Tiles {κ : Kind} {sp : Space} {e : EltTy} (v : View sig κ sp S8192x128 e) (f : v.ty.Contents (Elt F)) (t : ℕ → Vec F S1024x128 e) : Prop :=
  ∀ j, j < 8 → Box.Is v f ![j * 1024, 0] S1024x128.size (t j)
end Cert.ForwardIdeal.Hand
end
-- ==== Proof.FwdT1.lean ====
module

public import proofs.«01_k».proof.Proof.Gen.ForwardIdeal.Launch
public import proofs.«01_k».proof.Proof.Gen.ForwardIdeal.Loops
public import proofs.«01_k».proof.Proof.FwdOffs
public import proofs.«01_k».proof.Proof.FwdTile
public import Idealize.ShloMosaic.Lib.Pipeline.FrameValue
public import Idealize.ShloMosaic.Lib.Tactic

@[expose] public section

/-! One trip of the forward sweep. -/

set_option maxRecDepth 8192

noncomputable section

namespace Cert.ForwardIdeal.Hand

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Box

variable {F : FTy → Type} [FloatOps F] [Named F]

local notation "𝕄" => MT nD τ sig Unit (Elt F) ℕ (Pipeline.UD sig nD τ) ℕ

abbrev Pt (c : Dev nD) {sp : Space} {S : Shape} {e : EltTy} (M : Memref sig .tc sp S e) (f : BufTy.Contents (Elt F) M.view.ty) : sProp 𝕄 :=
  M.view.loc (c : Thread nD τ) ↦[M.view.set]{fullShare} f

instance (i : grid0.Coords) (k) : ClosedOff (k0_off2 i k 1#32) := ⟨_, off2a_eq i k⟩
instance (i : grid0.Coords) (k) : ClosedOff (k0_off2 i k 2#32) := ⟨_, off2b_eq i k⟩
instance (i : grid0.Coords) (k) : ClosedOff (k0_off3 i k) := ⟨_, off3_eq i k⟩

/-- What one trip of the sweep leaves: item `2k` worked from the slot the trip before filled, item `2k + 1` fetched and worked, and
    item `2k + 2` fetched. -/
structure T1Post (arg6 : Memref sig .tc .vmem S512x128 .f32) (arg7 : Memref sig .tc .vmem S2x512x1 .f32) (arg8 : Memref sig .tc .vmem S2x2x512x1024 .f32)
   (m : FVec F S256x256 .bf16) (w0 w1 : IVec S1x128 1) (q0 q1 : FVec F S512x128 .bf16)
   (z0 z1 : Vec F S1x1x512x1024 .f32) (r0 r1 : Vec F S1x512x1 .f32) (o : FVec F S512x128 .f32) (ka kb va vb : Vec F S1024x128 .bf16)
   (f6' : BufTy.Contents (Elt F) arg6.view.ty) (f7' : BufTy.Contents (Elt F) arg7.view.ty) (f8' : BufTy.Contents (Elt F) arg8.view.ty) : Prop where
  hz0 : Is arg8.view f8' ![0, 0, 0, 0] S1x1x512x1024.size (us (nt q0 kb))
  hz1 : Is arg8.view f8' ![0, 1, 0, 0] S1x1x512x1024.size (us (nt q1 kb))
  hr0 : Is arg7.view f7' ![0, 0, 0] S1x512x1.size (rN (us (nt q0 ka)) (rN z0 r0))
  hr1 : Is arg7.view f7' ![1, 0, 0] S1x512x1.size (rN (us (nt q1 ka)) (rN z1 r1))
  ho : Is arg6.view f6' ![0, 0] S512x128.size (oN m w1 (us (nt q1 ka)) (rN z1 r1) vb (oN m w0 (us (nt q0 ka)) (rN z0 r0) vb (oN m w1 z1 r1 va (oN m w0 z0 r0 va o))))

section
variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S2x512x1 .f32) (harg7 : arg7.IsWhole) (arg8 : Memref sig .tc .vmem S2x2x512x1024 .f32) (harg8 : arg8.IsWhole)
 (v19 : BitVec 32) (v25 : FVec F S256x256 .bf16) (v32 v38 : IVec S1x128 1) (v45 v52 : FVec F S512x128 .bf16) (v61 : BitVec 32) (v65 : Vec F S1024x128 .bf16) (v74 : IVec S512x1024 1) (v77 : FVec F S512x1024 .f32) (v78 : Vec F S1x1x512x1024 .f32)
 (X3 : BufTy.Contents (Elt F) arg3.view.ty) (X4 : BufTy.Contents (Elt F) arg4.view.ty)

theorem trip1 (k : Fin (k0_t1_loop i).trips)
   (f6 : BufTy.Contents (Elt F) arg6.view.ty) (f7 : BufTy.Contents (Elt F) arg7.view.ty) (f8 : BufTy.Contents (Elt F) arg8.view.ty)
   (z0 z1 : Vec F S1x1x512x1024 .f32) (r0 r1 : Vec F S1x512x1 .f32) (o : FVec F S512x128 .f32) (ka kb va vb : Vec F S1024x128 .bf16)
   (hz0 : ∀ inb, arg8.view.readAt (Elt F) (Rect.unit (s := S2x2x512x1024) ![0, 0, 0, 0] S1x1x512x1024.size inb).toLoadRect f8 = z0)
   (hz1 : ∀ inb, arg8.view.readAt (Elt F) (Rect.unit (s := S2x2x512x1024) ![0, 1, 0, 0] S1x1x512x1024.size inb).toLoadRect f8 = z1)
   (hr0 : ∀ inb, arg7.view.readAt (Elt F) (Rect.unit (s := S2x512x1) ![0, 0, 0] S1x512x1.size inb).toLoadRect f7 = r0)
   (hr1 : ∀ inb, arg7.view.readAt (Elt F) (Rect.unit (s := S2x512x1) ![1, 0, 0] S1x512x1.size inb).toLoadRect f7 = r1)
   (ho : ∀ inb, arg6.view.readAt (Elt F) (Rect.unit (s := S512x128) ![0, 0] S512x128.size inb).toLoadRect f6 = o)
   (hka : ∀ inb, arg3.view.readAt (Elt F) (Rect.unit (s := S8192x128) (k0_off2 i k 1#32) S1024x128.size inb).toLoadRect X3 = ka)
   (hkb : ∀ inb, arg3.view.readAt (Elt F) (Rect.unit (s := S8192x128) (k0_off2 i k 2#32) S1024x128.size inb).toLoadRect X3 = kb)
   (hva : ∀ inb, arg4.view.readAt (Elt F) (Rect.unit (s := S8192x128) (k0_off3 i k) S1024x128.size inb).toLoadRect X4 = va)
   (hvb : ∀ inb, arg4.view.readAt (Elt F) (Rect.unit (s := S8192x128) (k0_off2 i k 1#32) S1024x128.size inb).toLoadRect X4 = vb) :
  iprop(Pt c arg3 X3 ∗ Pt c arg4 X4 ∗ Pt c arg6 f6 ∗ Pt c arg7 f7 ∗ Pt c arg8 f8)
   ⊢ wp frame (wpE (defs₀ (F := F)) Variants.none (c : Thread nD τ) none) Set.univ (k0_t1_body (F := F) i arg2 harg2 arg3 harg3 arg4 harg4 arg5 harg5 arg6 harg6 arg7 harg7 arg8 harg8 v19 v25 v32 v38 v45 v52 v61 v65 v74 v77 v78 k ())
   (fun _ => iprop(∃ f6' f7' f8', (Pt c arg3 X3 ∗ Pt c arg4 X4 ∗ Pt c arg6 f6' ∗ Pt c arg7 f7' ∗ Pt c arg8 f8')
     ∗ ⌜T1Post arg6 arg7 arg8 v25 v32 v38 v45 v52 z0 z1 r0 r1 o ka kb va vb f6' f7' f8'⌝)) := by
  unfold k0_t1_body
  iintro ⟨H3, H4, H6, H7, H8⟩
  sl_exec_parts
  sl_step
  iexists _; iexists _; iexists _
  isplitl [H3 H4 H6 H7 H8]
  · isplitl [H3]; · iexact H3
    isplitl [H4]; · iexact H4
    isplitl [H6]; · iexact H6
    isplitl [H7]; · iexact H7
    iexact H8
  ipureintro
  have e274 : trip1.sl.v274 arg8 v45 v52 ka = us (nt v45 ka) :=
    (show Is arg8.view (arg8.view.writes (Elt F) _ (trip1.sl.H8_2 v45 v52 ka)) ![1, 0, 0, 0] S1x1x512x1024.size (us (nt v45 ka)) from
    Is.miss rfl 1 (.inl (by decide)) (Is.hit rfl rfl)) _
  have e276 : trip1.sl.v276 arg8 v45 v52 ka = us (nt v52 ka) :=
    (show Is arg8.view (arg8.view.writes (Elt F) _ (trip1.sl.H8_2 v45 v52 ka)) ![1, 1, 0, 0] S1x1x512x1024.size (us (nt v52 ka)) from
    Is.hit rfl rfl) _
  have e253 : trip1.sl.v253 arg6 v25 v32 z0 r0 o va = oN v25 v32 z0 r0 va o :=
    (show Is arg6.view (arg6.view.writes (Elt F) _ (trip1.sl.H6_1 v25 v32 z0 r0 o va)) ![0, 0] S512x128.size (oN v25 v32 z0 r0 va o) from
    Is.hit rfl rfl) _
  have e344 : trip1.sl.v344 arg7 z0 z1 r0 r1 = rN z0 r0 :=
    (show Is arg7.view (arg7.view.writes (Elt F) _ (trip1.sl.H7_2 z0 z1 r0 r1)) ![0, 0, 0] S1x512x1.size (rN z0 r0) from
    Is.miss rfl 0 (.inl (by decide)) (Is.hit rfl rfl)) _
  have e346 : trip1.sl.v346 arg6 v25 v32 v38 z0 z1 r0 r1 o va = oN v25 v38 z1 r1 va (oN v25 v32 z0 r0 va o) :=
    (show Is arg6.view (arg6.view.writes (Elt F) _ (trip1.sl.H6_2 arg6 v25 v32 v38 z0 z1 r0 r1 o va)) ![0, 0] S512x128.size (oN v25 v38 z1 r1 va (oN v25 v32 z0 r0 va o)) from
    Is.hit rfl (by rw [← e253]; rfl)) _
  have e409 : trip1.sl.v409 arg7 arg8 v45 v52 z0 z1 r0 r1 ka = rN z1 r1 :=
    (show Is arg7.view (arg7.view.writes (Elt F) _ (trip1.sl.H7_3 arg7 arg8 v45 v52 z0 z1 r0 r1 ka)) ![1, 0, 0] S1x512x1.size (rN z1 r1) from
    Is.miss rfl 0 (.inr (by decide)) (Is.hit rfl rfl)) _
  have e411 : trip1.sl.v411 arg6 arg7 arg8 v25 v32 v38 v45 v52 z0 z1 r0 r1 o ka va vb
      = oN v25 v32 (us (nt v45 ka)) (rN z0 r0) vb (oN v25 v38 z1 r1 va (oN v25 v32 z0 r0 va o)) :=
    (show Is arg6.view (arg6.view.writes (Elt F) _ (trip1.sl.H6_3 arg6 arg7 arg8 v25 v32 v38 v45 v52 z0 z1 r0 r1 o ka va vb)) ![0, 0] S512x128.size
      (oN v25 v32 (us (nt v45 ka)) (rN z0 r0) vb (oN v25 v38 z1 r1 va (oN v25 v32 z0 r0 va o))) from
    Is.hit rfl (by rw [← e274, ← e344, ← e346]; rfl)) _
  exact {
    hz0 := Is.miss rfl 1 (.inl (by decide)) (Is.hit rfl rfl)
    hz1 := Is.hit rfl rfl
    hr0 := Is.miss rfl 0 (.inl (by decide)) (Is.hit rfl (by rw [← e274, ← e344]; rfl))
    hr1 := Is.hit rfl (by rw [← e276, ← e409]; rfl)
    ho := Is.hit rfl (by rw [← e411, ← e276, ← e409]; rfl) }
end
end Cert.ForwardIdeal.Hand
end
-- ==== Proof.FwdSweep.lean ====
module

public import proofs.«01_k».proof.Proof.Gen.ForwardIdeal.Launch
public import proofs.«01_k».proof.Proof.Gen.ForwardIdeal.Loops
public import proofs.«01_k».proof.Proof.FwdT1
public import proofs.«01_k».proof.Proof.FwdTile
public import Idealize.ShloMosaic.Lib.Pipeline.FrameValue
public import Idealize.ShloMosaic.Lib.Tactic

@[expose] public section

/-! The forward sweep over a block of queries: every tile up to the diagonal, from the last to the first. -/

set_option maxRecDepth 8192

noncomputable section

namespace Cert.ForwardIdeal.Hand

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Box

variable {F : FTy → Type} [FloatOps F] [Named F]

local notation "𝕄" => MT nD τ sig Unit (Elt F) ℕ (Pipeline.UD sig nD τ) ℕ

/-- The first slot holds item `n`, the columns and the output rows what the items before it leave. -/
structure At (arg6 : Memref sig .tc .vmem S512x128 .f32) (arg7 : Memref sig .tc .vmem S2x512x1 .f32) (arg8 : Memref sig .tc .vmem S2x2x512x1024 .f32)
   (m : FVec F S256x256 .bf16) (w0 w1 : IVec S1x128 1) (q0 q1 : FVec F S512x128 .bf16) (kt vt : ℕ → Vec F S1024x128 .bf16) (last : ℕ) (ab : BitVec 32 × BitVec 32) (n : ℕ)
   (f6 : BufTy.Contents (Elt F) arg6.view.ty) (f7 : BufTy.Contents (Elt F) arg7.view.ty) (f8 : BufTy.Contents (Elt F) arg8.view.ty) : Prop where
  hz0 : Is arg8.view f8 ![0, 0, 0, 0] S1x1x512x1024.size (Zs q0 kt last ab n)
  hz1 : Is arg8.view f8 ![0, 1, 0, 0] S1x1x512x1024.size (Zs q1 kt last ab n)
  hr0 : Is arg7.view f7 ![0, 0, 0] S1x512x1.size (Rs q0 kt last ab n)
  hr1 : Is arg7.view f7 ![1, 0, 0] S1x512x1.size (Rs q1 kt last ab n)
  ho : Is arg6.view f6 ![0, 0] S512x128.size (Os m w0 w1 q0 q1 kt vt last ab n)

section
variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S2x512x1 .f32) (harg7 : arg7.IsWhole) (arg8 : Memref sig .tc .vmem S2x2x512x1024 .f32) (harg8 : arg8.IsWhole)
 (v19 : BitVec 32) (v25 : FVec F S256x256 .bf16) (v32 v38 : IVec S1x128 1) (v45 v52 : FVec F S512x128 .bf16) (v61 : BitVec 32) (v65 : Vec F S1024x128 .bf16) (v74 : IVec S512x1024 1) (v77 : FVec F S512x1024 .f32) (v78 : Vec F S1x1x512x1024 .f32)
 (X3 : BufTy.Contents (Elt F) arg3.view.ty) (X4 : BufTy.Contents (Elt F) arg4.view.ty) (kt vt : ℕ → Vec F S1024x128 .bf16) (ab : BitVec 32 × BitVec 32)
 (hkt : Tiles arg3.view X3 kt) (hvt : Tiles arg4.view X4 vt)

/-- The sweep's state after `n` items. -/
def I1 (n : ℕ) : sProp 𝕄 :=
  iprop(∃ f6 f7 f8, (Pt c arg3 X3 ∗ Pt c arg4 X4 ∗ Pt c arg6 f6 ∗ Pt c arg7 f7 ∗ Pt c arg8 f8)
    ∗ ⌜At arg6 arg7 arg8 v25 v32 v38 v45 v52 kt vt (lastOf i) ab n f6 f7 f8⌝)

theorem last_lt : lastOf i < 8 := by
  have : (i 1).val < 16 := (i 1).isLt
  show (i 1).val / 2 < 8; omega

include hkt hvt in
theorem step1 (k : Fin (k0_t1_loop i).trips) :
   I1 c i arg3 arg4 arg6 arg7 arg8 v25 v32 v38 v45 v52 X3 X4 kt vt ab (2 * k.val)
   ⊢ wp frame (wpE (defs₀ (F := F)) Variants.none (c : Thread nD τ) none) Set.univ (k0_t1_body (F := F) i arg2 harg2 arg3 harg3 arg4 harg4 arg5 harg5 arg6 harg6 arg7 harg7 arg8 harg8 v19 v25 v32 v38 v45 v52 v61 v65 v74 v77 v78 k ())
   (fun _ => I1 c i arg3 arg4 arg6 arg7 arg8 v25 v32 v38 v45 v52 X3 X4 kt vt ab (2 * (k.val + 1))) := by
  unfold I1
  iintro ⟨%f6, %f7, %f8, H, %h⟩
  have hk : 2 * k.val + 1 ≤ lastOf i := by
    have := k.isLt; have e := trips1 i; omega
  have hl := last_lt i
  iapply (wp_wand_r frame (wpE (defs₀ (F := F)) Variants.none (c : Thread nD τ) none) Set.univ)
  isplitl [H]
  · iapply (trip1 c i arg2 harg2 arg3 harg3 arg4 harg4 arg5 harg5 arg6 harg6 arg7 harg7 arg8 harg8 v19 v25 v32 v38 v45 v52 v61 v65 v74 v77 v78 X3 X4 k f6 f7 f8
      _ _ _ _ _ (kt (lastOf i - (2 * k.val + 1))) (kt (lastOf i - (2 * k.val + 2))) (vt (lastOf i - 2 * k.val)) (vt (lastOf i - (2 * k.val + 1)))
      h.hz0 h.hz1 h.hr0 h.hr1 h.ho
      (by rw [off2a_eq]; exact hkt _ (by omega)) (by rw [off2b_eq]; exact hkt _ (by omega)) (by rw [off3_eq]; exact hvt _ (by omega)) (by rw [off2a_eq]; exact hvt _ (by omega)))
    iexact H
  iintro %_ ⟨%f6', %f7', %f8', H, %hp⟩
  iexists f6'; iexists f7'; iexists f8'
  isplitl [H]; · iexact H
  ipureintro
  exact ⟨hp.hz0, hp.hz1, hp.hr0, hp.hr1, hp.ho⟩

include hkt hvt in
/-- The counted part of the sweep. -/
theorem part22
   (f6 : BufTy.Contents (Elt F) arg6.view.ty) (f7 : BufTy.Contents (Elt F) arg7.view.ty) (f8 : BufTy.Contents (Elt F) arg8.view.ty)
   (hz0 : k0_pay185 v77 = Zs v45 kt (lastOf i) ab 0)
   (hz1 : k0_pay186 v52 v65 v74 = Zs v52 kt (lastOf i) ab 0)
   (hr : ∀ off, Is arg7.view f7 off S1x512x1.size (fun _ => Scalar.ofBits .f32 0x00000000#32))
   (ho : Is arg6.view f6 ![0, 0] S512x128.size (fun _ => Scalar.ofBits .f32 0x00000000#32)) :
   iprop(Pt c arg3 X3 ∗ Pt c arg4 X4 ∗ Pt c arg6 f6 ∗ Pt c arg7 f7 ∗ Pt c arg8 f8)
   ⊢ wp frame (wpE (defs₀ (F := F)) Variants.none (c : Thread nD τ) none) Set.univ (k0_part22_skel (F := F) i arg2 harg2 arg3 harg3 arg4 harg4 arg5 harg5 arg6 harg6 arg7 harg7 arg8 harg8 v19 v25 v32 v38 v45 v52 v61 v65 v74 v77 v78)
   (fun _ => I1 c i arg3 arg4 arg6 arg7 arg8 v25 v32 v38 v45 v52 X3 X4 kt vt ab (2 * ((lastOf i + 1) / 2))) := by
  unfold k0_part22_skel
  have htr2 := trips2 i
  iintro ⟨H3, H4, H6, H7, H8⟩
  sl_exec_parts
  sl_for (fun n _ => I1 c i arg3 arg4 arg6 arg7 arg8 v25 v32 v38 v45 v52 X3 X4 kt vt ab (2 * n)) $$ [H3 H4 H6 H7 H8]
  · intro k acc
    exact step1 c i arg2 harg2 arg3 harg3 arg4 harg4 arg5 harg5 arg6 harg6 arg7 harg7 arg8 harg8 v19 v25 v32 v38 v45 v52 v61 v65 v74 v77 v78 X3 X4 kt vt ab hkt hvt k
  · unfold I1
    iexists _; iexists _; iexists _
    isplitl [H3 H4 H6 H7 H8]
    · isplitl [H3]; · iexact H3
      isplitl [H4]; · iexact H4
      isplitl [H6]; · iexact H6
      isplitl [H7]; · iexact H7
      iexact H8
    ipureintro
    exact ⟨Is.miss rfl 1 (.inl (Nat.le_refl 1)) (Is.hit rfl hz0), Is.hit rfl hz1, hr _, hr _, ho⟩
  · iintro %_ H
    have e1 : 2 * Scf.trips (k0_t1_loop i).lb (k0_t1_loop i).ub (k0_t1_loop i).st = 2 * ((lastOf i + 1) / 2) := congrArg (2 * ·) (trips1 i)
    rw [e1]
    sl_exec_parts
    sl_step
    iexact H
end
end Cert.ForwardIdeal.Hand
end
-- ==== Proof.FwdBody.lean ====
module

public import proofs.«01_k».proof.Proof.Gen.ForwardIdeal.Launch
public import proofs.«01_k».proof.Proof.Gen.ForwardIdeal.Loops
public import proofs.«01_k».proof.Proof.FwdSweep
public import proofs.«01_k».proof.Proof.FwdTile
public import Idealize.ShloMosaic.Lib.Pipeline.FrameValue
public import Idealize.ShloMosaic.Lib.Tactic

@[expose] public section

/-! One grid point of the forward call: a block of queries against every tile up to its diagonal. -/

set_option maxRecDepth 8192

noncomputable section

namespace Cert.ForwardIdeal.Hand

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Box

variable {F : FTy → Type} [FloatOps F] [Named F]

local notation "𝕄" => MT nD τ sig Unit (Elt F) ℕ (Pipeline.UD sig nD τ) ℕ

/-- The last tile of a block of queries, as a word. -/
def lastW (i : grid0.Coords) : BitVec 32 := BitVec.ofNat 32 (lastOf i)

/-- The division by the tile's width, as printed. -/
def lastP (a : BitVec 32) : BitVec 32 :=
  let v2 := Scalar.subi (Scalar.addi (Scalar.muli a 512#32) 512#32) 1#32
  let v8 : BitVec 32 := Scalar.subi (Scalar.extui (Scalar.cmpi .sgt v2 0#32)) (Scalar.extui (Scalar.cmpi .slt v2 0#32))
  let v13 : BitVec 32 := Scalar.subi (Scalar.extui (Scalar.cmpi .sgt 1024#32 0#32)) (Scalar.extui (Scalar.cmpi .slt 1024#32 0#32))
  let v3 := Scalar.divsi v2 1024#32
  Scalar.select (Scalar.andi (Scalar.cmpi .ne v8 v13) (Scalar.cmpi .ne (Scalar.remsi v2 1024#32) 0#32)) (Scalar.subi v3 1#32) v3

theorem lastW_eq (i : grid0.Coords) : lastP (BitVec.ofNat 32 (i 1).val) = lastW i := by
  have h : ∀ n : Fin 16, lastP (BitVec.ofNat 32 n.val) = BitVec.ofNat 32 (n.val / 2) := by decide +kernel
  exact h (i 1)

/-- The lanes of the first head of the pair. -/
def lo : IVec S1x128 1 := k0_pay175
/-- The lanes of the second head of the pair. -/
def hi : IVec S1x128 1 := k0_pay176
/-- The first head's queries of a block. -/
def qa (x : Vec F S512x128 .bf16) : FVec F S512x128 .bf16 := k0_pay179 x (k0_pay177 (F := F)) k0_pay178
/-- The second head's queries of a block. -/
def qb (x : Vec F S512x128 .bf16) : FVec F S512x128 .bf16 := k0_pay180 x k0_pay176
/-- The block's number and its last tile's, as words. -/
def abOf (i : grid0.Coords) : BitVec 32 × BitVec 32 := (BitVec.ofNat 32 (i 1).val, lastW i)
/-- The output rows of a block of queries. -/
def outO (i : grid0.Coords) (x2 : Vec F S512x128 .bf16) (kt vt : ℕ → Vec F S1024x128 .bf16) : FVec F S512x128 .f32 :=
  Os k0_pay174 lo hi (qa x2) (qb x2) kt vt (lastOf i) (abOf i) (lastOf i + 1)

section
variable (c : Dev nD) (i : grid0.Coords) (arg2 : Memref sig .tc .vmem S512x128 .bf16) (harg2 : arg2.IsWhole) (arg3 : Memref sig .tc .vmem S8192x128 .bf16) (harg3 : arg3.IsWhole) (arg4 : Memref sig .tc .vmem S8192x128 .bf16) (harg4 : arg4.IsWhole) (arg5 : Memref sig .tc .vmem S512x128 .f32) (harg5 : arg5.IsWhole) (arg6 : Memref sig .tc .vmem S512x128 .f32) (harg6 : arg6.IsWhole) (arg7 : Memref sig .tc .vmem S2x512x1 .f32) (harg7 : arg7.IsWhole) (arg8 : Memref sig .tc .vmem S2x2x512x1024 .f32) (harg8 : arg8.IsWhole)

theorem part20 (X2 : BufTy.Contents (Elt F) arg2.view.ty) (x2 : Vec F S512x128 .bf16)
   (hx2 : ∀ inb, arg2.view.readAt (Elt F) (Rect.unit (s := S512x128) ![0, 0] S512x128.size inb).toLoadRect X2 = x2) :
   Pt c arg2 X2
   ⊢ wp frame (wpE (defs₀ (F := F)) Variants.none (c : Thread nD τ) none) Set.univ (k0_part20_skel (F := F) i arg2 harg2 arg3 harg3 arg4 harg4 arg5 harg5 arg6 harg6 arg7 harg7 arg8 harg8)
   (fun r => iprop(Pt c arg2 X2
     ∗ ⌜r = ⟨BitVec.ofNat 32 (i 1).val, lastW i, k0_pay174 (F := F), x2, k0_pay175, k0_pay176, k0_pay177 (F := F), k0_pay178⟩⌝)) := by
  unfold k0_part20_skel
  iintro H2
  sl_exec_parts
  sl_step
  isplitl [H2]; · iexact H2
  ipureintro
  exact congrArg (fun w : BitVec 32 => (⟨BitVec.ofNat 32 (i 1).val, w, k0_pay174 (F := F), x2, k0_pay175, k0_pay176, k0_pay177 (F := F), k0_pay178⟩ :
    Σ' (arg1 : BitVec 32) (v19 : BitVec 32) (v25 : FVec F S256x256 .bf16) (v26 : Vec F S512x128 .bf16) (v32 : IVec S1x128 1) (v38 : IVec S1x128 1) (v39 : F .bf16), IVec S1x128 1)) (lastW_eq i)

theorem part21 (x2 : Vec F S512x128 .bf16) (X3 : BufTy.Contents (Elt F) arg3.view.ty) (kt : ℕ → Vec F S1024x128 .bf16) (hkt : Tiles arg3.view X3 kt)
   (f6 : BufTy.Contents (Elt F) arg6.view.ty) (f7 : BufTy.Contents (Elt F) arg7.view.ty) (f8 : BufTy.Contents (Elt F) arg8.view.ty) :
   iprop(Pt c arg3 X3 ∗ Pt c arg6 f6 ∗ Pt c arg7 f7 ∗ Pt c arg8 f8)
   ⊢ wp frame (wpE (defs₀ (F := F)) Variants.none (c : Thread nD τ) none) Set.univ (k0_part21_skel (F := F) i arg2 harg2 arg3 harg3 arg4 harg4 arg5 harg5 arg6 harg6 arg7 harg7 arg8 harg8 (BitVec.ofNat 32 (i 1).val) (lastW i) x2 k0_pay176 (k0_pay177 (F := F)) k0_pay178)
   (fun r => iprop(∃ f6' f7' v78, (Pt c arg3 X3 ∗ Pt c arg6 f6' ∗ Pt c arg7 f7' ∗ Pt c arg8 f8)
     ∗ ⌜r = ⟨qa x2, qb x2, Scalar.subi (lastW i) (lastW i), kt (lastOf i), k0_pay183 (BitVec.ofNat 32 (i 1).val) (lastW i),
          k0_pay184 (BitVec.ofNat 32 (i 1).val) (lastW i) x2 (k0_pay177 (F := F)) k0_pay178 (kt (lastOf i)), v78⟩
        ∧ (∀ off, Is arg7.view f7' off S1x512x1.size (fun _ => Scalar.ofBits .f32 0x00000000#32)) ∧ Is arg6.view f6' ![0, 0] S512x128.size (fun _ => Scalar.ofBits .f32 0x00000000#32)⌝)) := by
  unfold k0_part21_skel
  iintro ⟨H3, H6, H7, H8⟩
  have hk : ∀ inb, arg3.view.readAt (Elt F) (Rect.unit (s := S8192x128) (k0_off1 i) S1024x128.size inb).toLoadRect X3 = kt (lastOf i) := by
    rw [off1_eq]; exact hkt _ (last_lt i)
  sl_exec_parts
  sl_step
  iexists _; iexists _; iexists _
  isplitl [H3 H6 H7 H8]
  · isplitl [H3]; · iexact H3
    isplitl [H6]; · iexact H6
    isplitl [H7]; · iexact H7
    iexact H8
  ipureintro
  exact ⟨rfl, fun off => Is.const (by decide), Is.hit rfl rfl⟩

/-- One point of the grid. -/
theorem body (X2 : BufTy.Contents (Elt F) arg2.view.ty) (X3 : BufTy.Contents (Elt F) arg3.view.ty) (X4 : BufTy.Contents (Elt F) arg4.view.ty) (f5 : BufTy.Contents (Elt F) arg5.view.ty)
   (f6 : BufTy.Contents (Elt F) arg6.view.ty) (f7 : BufTy.Contents (Elt F) arg7.view.ty) (f8 : BufTy.Contents (Elt F) arg8.view.ty)
   (x2 : Vec F S512x128 .bf16) (kt vt : ℕ → Vec F S1024x128 .bf16)
   (hx2 : ∀ inb, arg2.view.readAt (Elt F) (Rect.unit (s := S512x128) ![0, 0] S512x128.size inb).toLoadRect X2 = x2)
   (hkt : Tiles arg3.view X3 kt) (hvt : Tiles arg4.view X4 vt) :
   iprop(Pt c arg2 X2 ∗ Pt c arg3 X3 ∗ Pt c arg4 X4 ∗ Pt c arg5 f5 ∗ Pt c arg6 f6 ∗ Pt c arg7 f7 ∗ Pt c arg8 f8)
   ⊢ wp frame (wpE (defs₀ (F := F)) Variants.none (c : Thread nD τ) none) Set.univ (cc0_attn_fwd_skel (F := F) i arg2 harg2 arg3 harg3 arg4 harg4 arg5 harg5 arg6 harg6 arg7 harg7 arg8 harg8)
   (fun _ => iprop(∃ f5' f6' f7' f8', (Pt c arg2 X2 ∗ Pt c arg3 X3 ∗ Pt c arg4 X4 ∗ Pt c arg5 f5' ∗ Pt c arg6 f6' ∗ Pt c arg7 f7' ∗ Pt c arg8 f8')
      ∗ ⌜Is arg5.view f5' ![0, 0] S512x128.size (outO i x2 kt vt)⌝)) := by
  unfold cc0_attn_fwd_skel
  iintro ⟨H2, H3, H4, H5, H6, H7, H8⟩
  rw [wp_bind]
  iapply (wp_wand_r frame (wpE (defs₀ (F := F)) Variants.none (c : Thread nD τ) none) Set.univ)
  isplitl [H2]
  · iapply (part20 c i arg2 harg2 arg3 harg3 arg4 harg4 arg5 harg5 arg6 harg6 arg7 harg7 arg8 harg8 X2 x2 hx2)
    iexact H2
  iintro %r ⟨H2, %hp⟩
  subst hp
  rw [wp_bind]
  iapply (wp_wand_r frame (wpE (defs₀ (F := F)) Variants.none (c : Thread nD τ) none) Set.univ)
  isplitl [H3 H6 H7 H8]
  · iapply (part21 c i arg2 harg2 arg3 harg3 arg4 harg4 arg5 harg5 arg6 harg6 arg7 harg7 arg8 harg8 x2 X3 kt hkt f6 f7 f8)
    isplitl [H3]; · iexact H3
    isplitl [H6]; · iexact H6
    isplitl [H7]; · iexact H7
    iexact H8
  iintro %r ⟨%g6, %g7, %v78, ⟨H3, H6, H7, H8⟩, %hp⟩
  obtain ⟨rfl, hg7, hg6⟩ := hp
  have z0_eq : k0_pay185 (k0_pay184 (BitVec.ofNat 32 (i 1).val) (lastW i) x2 (k0_pay177 (F := F)) k0_pay178 (kt (lastOf i))) = Zs (qa x2) kt (lastOf i) (abOf i) 0 := rfl
  have z1_eq : k0_pay186 (qb x2) (kt (lastOf i)) (k0_pay183 (BitVec.ofNat 32 (i 1).val) (lastW i)) = Zs (qb x2) kt (lastOf i) (abOf i) 0 := rfl
  rw [wp_bind]
  iapply (wp_wand_r frame (wpE (defs₀ (F := F)) Variants.none (c : Thread nD τ) none) Set.univ)
  isplitl [H3 H4 H6 H7 H8]
  · iapply (part22 c i arg2 harg2 arg3 harg3 arg4 harg4 arg5 harg5 arg6 harg6 arg7 harg7 arg8 harg8 (lastW i) k0_pay174 lo hi (qa x2) (qb x2) (Scalar.subi (lastW i) (lastW i)) (kt (lastOf i)) (k0_pay183 (BitVec.ofNat 32 (i 1).val) (lastW i))
      (k0_pay184 (BitVec.ofNat 32 (i 1).val) (lastW i) x2 (k0_pay177 (F := F)) k0_pay178 (kt (lastOf i))) v78 X3 X4 kt vt (abOf i) hkt hvt g6 g7 f8 z0_eq z1_eq hg7 hg6)
    isplitl [H3]; · iexact H3
    isplitl [H4]; · iexact H4
    isplitl [H6]; · iexact H6
    isplitl [H7]; · iexact H7
    iexact H8
  iintro %r H
  unfold I1
  icases H with ⟨%e6, %e7, %e8, H, %h⟩
  icases H with ⟨H3, H4, H6, H7, H8⟩
  have ho : ∀ inb, arg6.view.readAt (Elt F) (Rect.unit (s := S512x128) ![0, 0] S512x128.size inb).toLoadRect e6 = _ := h.ho
  by_cases hc : lastOf i % 2 = 0
  · have h1 := (cond1_iff i).2 hc
    have hn : 2 * ((lastOf i + 1) / 2) = lastOf i := by omega
    rw [hn] at h ho
    have hz0 : ∀ inb, arg8.view.readAt (Elt F) (Rect.unit (s := S2x2x512x1024) ![0, 0, 0, 0] S1x1x512x1024.size inb).toLoadRect e8 = _ := h.hz0
    have hz1 : ∀ inb, arg8.view.readAt (Elt F) (Rect.unit (s := S2x2x512x1024) ![0, 1, 0, 0] S1x1x512x1024.size inb).toLoadRect e8 = _ := h.hz1
    have hr0 : ∀ inb, arg7.view.readAt (Elt F) (Rect.unit (s := S2x512x1) ![0, 0, 0] S1x512x1.size inb).toLoadRect e7 = _ := h.hr0
    have hr1 : ∀ inb, arg7.view.readAt (Elt F) (Rect.unit (s := S2x512x1) ![1, 0, 0] S1x512x1.size inb).toLoadRect e7 = _ := h.hr1
    have e6' := off6_eq i h1
    have hva : ∀ inb, arg4.view.readAt (Elt F) (Rect.unit (s := S8192x128) (k0_off6 i) S1024x128.size inb).toLoadRect X4 = vt 0 := by
      rw [e6']; exact hvt 0 (by decide)
    sl_exec_parts
    sl_step
    iexists _; iexists _; iexists _; iexists _
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    ipureintro
    have e236 : body.sl.v236 i arg6 x2 kt vt = oN k0_pay174 lo (Zs (qa x2) kt (lastOf i) (abOf i) (lastOf i)) (Rs (qa x2) kt (lastOf i) (abOf i) (lastOf i)) (vt 0)
        (Os k0_pay174 lo hi (qa x2) (qb x2) kt vt (lastOf i) (abOf i) (lastOf i)) :=
      (show Is arg6.view (arg6.view.writes (Elt F) _ (body.sl.H6_1 i x2 kt vt)) ![0, 0] S512x128.size _ from Is.hit rfl rfl) _
    refine Is.hit rfl ((show Is arg6.view (arg6.view.writes (Elt F) _ (body.sl.H6_2 i arg6 x2 kt vt)) ![0, 0] S512x128.size _ from Is.hit rfl ?_) _)
    unfold outO
    rw [Os, Nat.sub_self, ← e236]
    rfl
  · have h1 : ¬ k0_cond1 i = 1#1 := fun h => hc ((cond1_iff i).1 h)
    have hn : 2 * ((lastOf i + 1) / 2) = lastOf i + 1 := by omega
    rw [hn] at h ho
    sl_exec_parts
    sl_step
    iexists _; iexists _; iexists _; iexists _
    isplitl [H2 H3 H4 H5 H6 H7 H8]
    · isplitl [H2]; · iexact H2
      isplitl [H3]; · iexact H3
      isplitl [H4]; · iexact H4
      isplitl [H5]; · iexact H5
      isplitl [H6]; · iexact H6
      isplitl [H7]; · iexact H7
      iexact H8
    ipureintro
    exact Is.hit rfl rfl
end
end Cert.ForwardIdeal.Hand
end
-- ==== Proof.FwdRun.lean ====
module

public import proofs.«01_k».proof.Proof.Gen.ForwardIdeal.Launch
public import proofs.«01_k».proof.Proof.Gen.ForwardIdeal.Points
public import proofs.«01_k».proof.Proof.Gen.ForwardIdeal.Frame
public import proofs.«01_k».proof.Proof.FwdBody
public import Idealize.ShloMosaic.Lib.Pipeline.FrameValue
public import Idealize.ShloMosaic.Lib.Pipeline.FrameBody
public import Idealize.ShloMosaic.Lib.Tactic

@[expose] public section

/-! The run of the forward call: every grid point by its body, every output block written back. -/

set_option maxRecDepth 8192

noncomputable section

namespace Cert.ForwardIdeal.Hand

open Cert.ForwardIdeal Cert.ForwardIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)
open Cert.Box

variable {F : FTy → Type} [FloatOps F] [Named F]

local notation "𝕄" => MT nD τ sig Unit (Elt F) ℕ (Pipeline.UD sig nD τ) ℕ

/-- The tiles of a head's keys or values. -/
def tilesOf {α : Type} (b : S8192x128.Idx → α) (j : ℕ) : S1024x128.Idx → α :=
  fun x => b fun a => match a with
    | ⟨0, _⟩ => ⟨(j * 1024 + (x 0).val) % 8192, Nat.mod_lt _ (by decide)⟩
    | ⟨1, _⟩ => x 1

/-- A buffer that reads as a table reads as its tiles. -/
theorem tiles_of_read {sp : Space} {e : EltTy} (M : Memref sig .tc sp S8192x128 e) (f : BufTy.Contents (Elt F) M.view.ty) (b : S8192x128.Idx → Elt F e)
    (h : M.view.read (Elt F) f = b) : ∀ j, j < 8 → Is M.view f ![j * 1024, 0] S1024x128.size (tilesOf b j) := by
  intro j hj inb
  subst h
  funext x
  show M.view.read (Elt F) f ((Rect.unit (s := S8192x128) ![j * 1024, 0] S1024x128.size inb).emb x) = _
  unfold tilesOf
  refine congrArg (M.view.read (Elt F) f) (funext fun a => ?_)
  have hx : (x 0).val < 1024 := (x 0).isLt
  apply Fin.ext
  match a with
  | ⟨0, _⟩ =>
    show j * 1024 + 1 * (x 0).val = (j * 1024 + (x 0).val) % 8192
    rw [Nat.mod_eq_of_lt (by omega), Nat.one_mul]
  | ⟨1, _⟩ =>
    show 0 + 1 * (x 1).val = (x 1).val
    rw [Nat.zero_add, Nat.one_mul]

/-- A block read whole. -/
theorem whole_of_read {sp : Space} {e : EltTy} (M : Memref sig .tc sp S512x128 e) (f : BufTy.Contents (Elt F) M.view.ty) (b : S512x128.Idx → Elt F e)
    (h : M.view.read (Elt F) f = b) : ∀ inb, M.view.readAt (Elt F) (Rect.unit (s := S512x128) ![0, 0] S512x128.size inb).toLoadRect f = b := by
  intro inb
  subst h
  funext x
  refine congrArg (M.view.read (Elt F) f) (funext fun a => Fin.ext ?_)
  show (![0, 0] : Fin 2 → ℕ) a + 1 * (x a).val = (x a).val
  fin_cases a
  · show 0 + 1 * (x 0).val = _; exact (Nat.zero_add _).trans (Nat.one_mul _)
  · show 0 + 1 * (x 1).val = _; exact (Nat.zero_add _).trans (Nat.one_mul _)

/-- And the other way: a block all of whose box reads so reads so. -/
theorem read_of_whole {sp : Space} {e : EltTy} (M : Memref sig .tc sp S512x128 e) (f : BufTy.Contents (Elt F) M.view.ty) (b : S512x128.Idx → Elt F e)
    (h : Is M.view f ![0, 0] S512x128.size b) : M.view.read (Elt F) f = b :=
  (whole_of_read M f _ rfl (by decide)).symm.trans (h (by decide))

theorem coord0 : ∀ t : Fin cfg0.N, ((grid0.coords t) 0).val = t.val / 16 := (by decide +kernel : ∀ t : Fin grid0.N, ((grid0.coords t) 0).val = t.val / 16)
theorem coord1 : ∀ t : Fin cfg0.N, ((grid0.coords t) 1).val = t.val % 16 := (by decide +kernel : ∀ t : Fin grid0.N, ((grid0.coords t) 1).val = t.val % 16)

variable (m : (ℓ : Loc nD τ sig) → Buf (Elt F) ℓ) (ρ : Dev nD → PrngReg)

/-- The blocks a point finds: its queries, its head's keys and values. -/
def qBlk (c : Dev nD) (t : Fin cfg0.N) : Vec F S512x128 .bf16 := iblk m c 0 t
def kBlk (c : Dev nD) (t : Fin cfg0.N) : Vec F S8192x128 .bf16 := iblk m c 1 t
def vBlk (c : Dev nD) (t : Fin cfg0.N) : Vec F S8192x128 .bf16 := iblk m c 2 t
/-- The output rows of point `t`'s block. -/
def outAt (c : Dev nD) (t : Fin cfg0.N) : Vec F S512x128 .f32 := outO (grid0.coords t) (qBlk m c t) (tilesOf (kBlk m c t)) (tilesOf (vBlk m c t))

theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The body has no counters of its own. -/
abbrev osem0 : Fin 0 → SemLoc sig := fun j => j.elim0
theorem ownSemFacts0 : Pipeline.OwnSemFacts spec0 osem0 := by decide

/-- A whole buffer held, as the run of the body names it. -/
theorem pt_whole (c : Dev nD) (b : Ref sig .tc) (f : Buf (Elt F) ((c : Thread nD τ).loc b)) :
    (Pt c (Memref.whole b) f : sProp 𝕄) = (((c : Thread nD τ).loc b) ↦{fullShare} f) := by
  show (_ ↦[(View.whole b).set]{fullShare} f) = _
  rw [View.set_whole]

/-- The body's own buffers, at whatever they hold: every point sets them anew. -/
def Inv (c : Dev nD) : sProp 𝕄 :=
  iprop((∃ f6 f7 f8, (Pt c (Memref.whole cc0_scratch0) f6 ∗ Pt c (Memref.whole cc0_scratch1) f7 ∗ Pt c (Memref.whole cc0_scratch2) f8)) ∗ (∃ r, prngReg c r))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Inv c
  q w := Pipeline.shareOf spec0 w
  owed _ := 0

theorem A_eq (c : Dev nD) (w : Fin cfg0.W) : (dats m 0 c).A w = V m c (Pipeline.arrRef spec0 w) := by dsimp only [dats]
theorem before0 (c : Dev nD) (t : Fin cfg0.N) (d) : (dats m 0 c).before 0 t d = qBlk m c t :=
  ((dats m 0 c).before_in_eq_fetched 0 rfl (fun _ => rfl) (fun _ _ _ => rfl) (fun t => by dsimp only [dats]; unfold Dat.blockOf iblk; rfl) t d).trans (by unfold Dat.fetched Dat.blockOf qBlk iblk; rfl)
theorem before1 (c : Dev nD) (t : Fin cfg0.N) (d) : (dats m 0 c).before 1 t d = kBlk m c t :=
  ((dats m 0 c).before_in_eq_fetched 1 rfl (fun _ => rfl) (fun _ _ _ => rfl) (fun t => by dsimp only [dats]; unfold Dat.blockOf iblk; rfl) t d).trans (by unfold Dat.fetched Dat.blockOf kBlk iblk; rfl)
theorem before2 (c : Dev nD) (t : Fin cfg0.N) (d) : (dats m 0 c).before 2 t d = vBlk m c t :=
  ((dats m 0 c).before_in_eq_fetched 2 rfl (fun _ => rfl) (fun _ _ _ => rfl) (fun t => by dsimp only [dats]; unfold Dat.blockOf iblk; rfl) t d).trans (by unfold Dat.fetched Dat.blockOf vBlk iblk; rfl)
theorem after3 (c : Dev nD) (t : Fin cfg0.N) : (dats m 0 c).after 3 t = outAt m c t := by dsimp only [dats]

/-- A whole staging buffer held at what it reads as. -/
theorem owns_pt (c : Dev nD) {sp : Space} {S : Shape} {e : EltTy} (M : Memref sig .tc sp S e) (X : S.Idx → Elt F e) :
    (owns (c : Thread nD τ) M fullShare X : sProp 𝕄) = iprop(∃ f, ⌜M.view.read (Elt F) f = X⌝ ∗ Pt c M f) := rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
def bodyPost (c : Dev nD) (t : Fin cfg0.N) : sProp 𝕄 :=
  iprop((dats m 0 c).Φ t.succ ∗ (dats m 0 c).owesAt () t.succ
    ∗ owns (c : Thread nD τ) (st0_0 t) fullShare (qBlk m c t)
    ∗ owns (c : Thread nD τ) (st0_1 t) fullShare (kBlk m c t)
    ∗ owns (c : Thread nD τ) (st0_2 t) fullShare (vBlk m c t)
    ∗ owns (c : Thread nD τ) (st0_3 t) fullShare (outAt m c t))

theorem sound_body (c : Dev nD) (t : Fin cfg0.N) :
    bodyPre m c t ⊢ wp frame (wpE (defs₀ (F := F)) Variants.none (c : Thread nD τ) none) Set.univ (bodyAt0 t) (fun _ => bodyPost m c t) := by
  unfold bodyPre bodyPost bodyAt0
  rw [show (dats m 0 c).Φ t.succ = Inv c from rfl, show (dats m 0 c).Φ t.castSucc = Inv c from rfl]
  simp only [before0, before1, before2]
  rw [show (dats m 0 c).owesAt () t.succ = (dats m 0 c).owesAt () t.castSucc from rfl]
  unfold Inv
  simp only [owns_pt]
  rw [cc0_attn_fwd_eq_skeleton]
  iintro ⟨⟨⟨%f6, %f7, %f8, H6, H7, H8⟩, Hg⟩, HW, ⟨%d0, %X2, %hX2, H2⟩, ⟨%d1, %X3, %hX3, H3⟩, ⟨%d2, %X4, %hX4, H4⟩, ⟨%d3, %f5, -, H5⟩⟩
  iapply (wp_wand_r frame (wpE (defs₀ (F := F)) Variants.none (c : Thread nD τ) none) Set.univ)
  isplitr [Hg HW]
  · iapply (body c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (Memref.whole cc0_scratch0) (Memref.isWhole_whole _) (Memref.whole cc0_scratch1) (Memref.isWhole_whole _) (Memref.whole cc0_scratch2) (Memref.isWhole_whole _)
      X2 X3 X4 f5 f6 f7 f8 (qBlk m c t) (tilesOf (kBlk m c t)) (tilesOf (vBlk m c t))
      (whole_of_read _ _ _ hX2) (tiles_of_read _ _ _ hX3) (tiles_of_read _ _ _ hX4))
    isplitl [H2]; · iexact H2
    isplitl [H3]; · iexact H3
    isplitl [H4]; · iexact H4
    isplitl [H5]; · iexact H5
    isplitl [H6]; · iexact H6
    isplitl [H7]; · iexact H7
    iexact H8
  iintro %r ⟨%f5', %f6', %f7', %f8', ⟨H2, H3, H4, H5, H6, H7, H8⟩, %hp⟩
  isplitl [H6 H7 H8 Hg]
  · isplitl [H6 H7 H8]
    · iexists f6', f7', f8'
      isplitl [H6]; · iexact H6
      isplitl [H7]; · iexact H7
      iexact H8
    iexact Hg
  isplitl [HW]; · iexact HW
  isplitl [H2]; · iexists X2; isplitr; · ipureintro; exact hX2
                  iexact H2
  isplitl [H3]; · iexists X3; isplitr; · ipureintro; exact hX3
                  iexact H3
  isplitl [H4]; · iexists X4; isplitr; · ipureintro; exact hX4
                  iexact H4
  iexists f5'; isplitr
  · ipureintro; exact read_of_whole _ _ _ hp
  iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦDRG osem0 spec0 ∅ ∅ (V m) (V m) c ⊢ ((dats m 0 c).Φ 0 : sProp 𝕄) := by
  rw [Pipeline.ΦDRG_eq, show (dats m 0 c).Φ 0 = Inv c from rfl, scopedRest0_eq]
  unfold Inv
  simp only [← pt_whole]
  iintro ⟨⟨⟨%f0, H6⟩, ⟨%f1, H7⟩, ⟨%f2, H8⟩⟩, Hg, -⟩
  isplitl [H6 H7 H8]
  · iexists f0, f1, f2
    isplitl [H6]; · iexact H6
    isplitl [H7]; · iexact H7
    iexact H8
  iexact Hg

theorem hout (c : Dev nD) : ((dats m 0 c).Φ (Fin.last cfg0.N) : sProp 𝕄) ⊢ iprop(Pipeline.ΦD osem0 spec0 ∅ (V m) c ∗ Pipeline.routedSat ∅ c (fun _ => True)) := by
  rw [Pipeline.ΦD_eq, show (dats m 0 c).Φ (Fin.last cfg0.N) = Inv c from rfl, scopedRest0_eq]
  unfold Inv Pipeline.routedSat Pipeline.routed Pipeline.ownSems0
  simp only [BI.bigSep_empty, Finset.univ_eq_empty]
  simp only [← pt_whole]
  iintro ⟨⟨%f6, %f7, %f8, H6, H7, H8⟩, Hg⟩
  isplitl [H6 H7 H8 Hg]
  · isplitl [H6 H7 H8]
    · isplitl [H6]; · iexists f6; iexact H6
      isplitl [H7]; · iexists f7; iexact H7
      iexists f8; iexact H8
    isplitl [Hg]; · iexact Hg
    isplitl []; · iempintro
    iempintro
  iexists (V m c)
  isplitr
  · ipureintro; trivial
  iempintro

/-- What a run ends with: the windows' arrays, the counters. -/
def Final (r : PUnit × MemSt nD τ sig (Elt F)) : Prop :=
  Pipeline.FramePostR cfgs (dats m) 0 ∅ (V m) r ∧ r.2.sem = fun _ => 0

set_option backward.isDefEq.respectTransparency.types false in
theorem run_main : θ_run defs (onTc (τ := τ) (main (F := F))) (s₀ m ρ) (Final m) :=
  RDat.θ_run_frameP_dmaRSat_shared (Q' := Final m) (fun q => (cfgs q).toPCfg (Val := Elt F)) (fun q => (cfgs q).toPCfg_adm) (0 : Fin 1) launch₀0.toP osem0 defs₀ Variants.none
    (fun c => (dats m 0 c).toR) ownSemFacts0 ∅ ∅
    (Finset.empty_subset _) (Finset.empty_subset _)
    m ρ main (fun c => ((body_obligation m c).loose).toR) (fun _ _ _ => rfl) (fun _ _ => rfl) (V m) (hmain m Variants.none) (A_eq m) (fun _ k => k.elim0)
    (fun _ _ => True) (fun c => (show _ ⊢ Pipeline.ΦDRG osem0 spec0 ∅ ∅ (V m) (V m) c from by iintro ⟨H, -⟩; iexact H).trans (hin m c)) (hout m)
    (fun r h => ⟨RDat.FramePostR.toDat cfgs (dats m) 0 ∅ (V m) r h.1.1, h.2⟩)

/-- The program terminates without fault, leaves its argument as it was and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun r h => ⟨fun c => ((h.1 c).1 0).trans (((dats m 0 c).arrAt_in 0 rfl _).trans (A_eq m c 0)), h.2⟩) (run_main m ρ)
end Cert.ForwardIdeal.Hand
end
-- ==== Proof.BitsFwdOffs.lean ====
module

public import proofs.«01_k».proof.Proof.Gen.Forward.Launch
public import Idealize.ShloMosaic.Lib.Tactic

@[expose] public section

/-! The forward call's offsets, trip counts and guard, as numbers of the grid point. -/

set_option maxRecDepth 8192

noncomputable section

namespace Cert.Forward.Hand

open Cert.Forward Cert.Forward.Gen
open Idealize.ShloMosaic Idealize.ShloMosaic.Tactic

/-- The number of tiles before the diagonal tile of the grid point's rows. -/
abbrev lastOf (i : grid0.Coords) : ℕ := (i 1).val / 2

theorem trips1 : ∀ i : grid0.Coords, (k0_t1_loop i).trips = (lastOf i + 1) / 2 := by decide +kernel
theorem trips2 : ∀ i : grid0.Coords, (k0_t2_loop i).trips = 0 := by decide +kernel
theorem off1_eq : ∀ i : grid0.Coords, k0_off1 i = ![lastOf i * 1024, 0] := by decide +kernel
theorem off2a_eq : ∀ (i : grid0.Coords) (k : Fin (k0_t1_loop i).trips), k0_off2 i k 1#32 = ![(lastOf i - (2 * k.val + 1)) * 1024, 0] := by decide +kernel
theorem off2b_eq : ∀ (i : grid0.Coords) (k : Fin (k0_t1_loop i).trips), k0_off2 i k 2#32 = ![(lastOf i - (2 * k.val + 2)) * 1024, 0] := by decide +kernel
theorem off3_eq : ∀ (i : grid0.Coords) (k : Fin (k0_t1_loop i).trips), k0_off3 i k = ![(lastOf i - 2 * k.val) * 1024, 0] := by decide +kernel
theorem cond1_iff : ∀ i : grid0.Coords, k0_cond1 i = 1#1 ↔ lastOf i % 2 = 0 := by decide +kernel
theorem off6_eq : ∀ i : grid0.Coords, k0_cond1 i = 1#1 → k0_off6 i = ![0, 0] := by decide +kernel
end Cert.Forward.Hand
end
-- ==== Proof.FwdEntry.lean ====
module

public import proofs.«01_k».proof.Proof.FwdBody
public import proofs.«01_k».proof.Proof.Entry
public import proofs.«01_k».proof.Proof.Ext

@[expose] public section

/-! The forward tile functions at the extended reals, read at an entry; and their running sums a row at a time. -/

set_option maxRecDepth 16384

noncomputable section

namespace Cert.ForwardIdeal.Hand

open Cert.ForwardIdeal Cert.ForwardIdeal.Gen Cert.Ext
open Idealize.ShloMosaic Finset
open Cert.KernelIdeal.Hand (lane_lo lane_hi select_bool eighth16)

theorem nt_apply (a : FVec Ideal S512x128 .bf16) (b : Vec Ideal S1024x128 .bf16) (x : Fin 512) (y : Fin 1024) :
    nt a b (ix2 x y) = ∑ d : Fin 128, a (ix2 x d) * b (ix2 y d) := by
  unfold nt
  pointwise
theorem nn_apply (a : FVec Ideal S512x1024 .bf16) (b : FVec Ideal S1024x128 .bf16) (x : Fin 512) (d : Fin 128) :
    nn a b (ix2 x d) = ∑ y : Fin 1024, a (ix2 x y) * b (ix2 y d) := by
  unfold nn
  pointwise
theorem spT_apply (z : FVec Ideal S512x1024 .f32) (x : Fin 512) (y : Fin 1024) : spT z (ix2 x y) = Sp (z (ix2 x y)) := by
  unfold spT Sp
  pointwise
  rfl
theorem rowS_apply (b : FVec Ideal S512x256 .f32) (x : Fin 512) : rowS b (ix2 x 0) = ∑ k : Fin 256, b (ix2 x k) := by
  unfold rowS
  pointwise
theorem addCol_apply (r : FVec Ideal S512x1 .f32) (b : FVec Ideal S512x256 .f32) (x : Fin 512) :
    addCol r b (ix2 x 0) = r (ix2 x 0) + ∑ k : Fin 256, b (ix2 x k) := by
  unfold addCol rowS
  pointwise
theorem cumB_apply (m : FVec Ideal S256x256 .bf16) (b : FVec Ideal S512x256 .f32) (x : Fin 512) (y : Fin 256) :
    cumB m b (ix2 x y) = ∑ k : Fin 256, b (ix2 x k) * m (ix2 k y) := by
  unfold cumB
  pointwise
theorem cumC_apply (m : FVec Ideal S256x256 .bf16) (b : FVec Ideal S512x256 .f32) (r : FVec Ideal S512x1 .f32) (x : Fin 512) (y : Fin 256) :
    cumC m b r (ix2 x y) = cumB m b (ix2 x y) + r (ix2 x 0) := by
  unfold cumC
  pointwise
theorem b0_apply (z : FVec Ideal S512x1024 .f32) (x : Fin 512) (y : Fin 256) : b0 z (ix2 x y) = z (ix2 x ⟨0 + y.val, by omega⟩) := by
  unfold b0; pointwise
theorem b1_apply (z : FVec Ideal S512x1024 .f32) (x : Fin 512) (y : Fin 256) : b1 z (ix2 x y) = z (ix2 x ⟨256 + y.val, by omega⟩) := by
  unfold b1; pointwise
theorem b2_apply (z : FVec Ideal S512x1024 .f32) (x : Fin 512) (y : Fin 256) : b2 z (ix2 x y) = z (ix2 x ⟨512 + y.val, by omega⟩) := by
  unfold b2; pointwise
theorem b3_apply (z : FVec Ideal S512x1024 .f32) (x : Fin 512) (y : Fin 256) : b3 z (ix2 x y) = z (ix2 x ⟨768 + y.val, by omega⟩) := by
  unfold b3; pointwise
theorem cat_apply (a b c d : FVec Ideal S512x256 .f32) (x : Fin 512) (y : Fin 1024) :
    cat a b c d (ix2 x y) = (if h : y.val < 256 then a (ix2 x ⟨y.val, h⟩) else if h : y.val - 256 < 256 then b (ix2 x ⟨y.val - 256, h⟩)
      else if h : y.val - 256 - 256 < 256 then c (ix2 x ⟨y.val - 256 - 256, h⟩) else d (ix2 x ⟨y.val - 256 - 256 - 256, by omega⟩)) := by
  unfold cat
  pointwise
theorem suf_apply (x y : Fin 256) : (k0_pay174 : FVec Ideal S256x256 .bf16) (ix2 x y) = if y.val ≤ x.val then 1 else 0 := by
  unfold k0_pay174
  pointwise
  have hx := x.isLt
  have hy := y.isLt
  rw [WordCmp.cmpi_sge_ofNat (by omega) (by omega)]
  split <;> rename_i h <;> simp only [h, decide_true, decide_false]
  · show (((BitVec.setWidth 32 (BitVec.ofBool true)).toInt : ℝ) : EReal) = 1; simp
  · show (((BitVec.setWidth 32 (BitVec.ofBool false)).toInt : ℝ) : EReal) = 0; simp
theorem dmask_apply (a b : ℕ) (ha : a < 16) (hb : b < 8) (x : Fin 512) (y : Fin 1024) :
    dmask (BitVec.ofNat 32 a) (BitVec.ofNat 32 b) (ix2 x y) = BitVec.ofBool (decide (y.val + b * 1024 < x.val + a * 512)) := by
  unfold dmask k0_pay183
  pointwise
  have hx := x.isLt
  have hy := y.isLt
  rw [show IntOp.addi (BitVec.ofNat 32 y.val) (Scalar.muli (BitVec.ofNat 32 b) 1024#32) = BitVec.ofNat 32 (y.val + b * 1024) by
      rw [BitVec.ofNat_add, BitVec.ofNat_mul]; rfl,
    show IntOp.addi (BitVec.ofNat 32 x.val) (Scalar.muli (BitVec.ofNat 32 a) 512#32) = BitVec.ofNat 32 (x.val + a * 512) by
      rw [BitVec.ofNat_add, BitVec.ofNat_mul]; rfl]
  exact WordCmp.cmpi_slt_ofNat (by omega) (by omega)
theorem qa_apply (q : Vec Ideal S512x128 .bf16) (x : Fin 512) (d : Fin 128) :
    qa q (ix2 x d) = (if d.val / 64 = 0 then q (ix2 x d) else 0) * ((1 / 8 : ℝ) : EReal) := by
  unfold qa k0_pay179 k0_pay178 k0_pay177 k0_pay175
  pointwise
  rw [lane_lo, select_bool, eighth16]; simp
theorem qb_apply (q : Vec Ideal S512x128 .bf16) (x : Fin 512) (d : Fin 128) :
    qb q (ix2 x d) = (if d.val / 64 = 1 then q (ix2 x d) else 0) * ((1 / 8 : ℝ) : EReal) := by
  unfold qb k0_pay180 k0_pay176
  pointwise
  rw [lane_hi, select_bool, eighth16]; simp
theorem vmask_lo (k : Vec Ideal S1024x128 .bf16) (x : Fin 1024) (d : Fin 128) : vmask lo k (ix2 x d) = if d.val / 64 = 0 then k (ix2 x d) else 0 := by
  unfold vmask lo k0_pay175
  pointwise
  rw [lane_lo, select_bool]; simp
theorem vmask_hi (k : Vec Ideal S1024x128 .bf16) (x : Fin 1024) (d : Fin 128) : vmask hi k (ix2 x d) = if d.val / 64 = 1 then k (ix2 x d) else 0 := by
  unfold vmask hi k0_pay176
  pointwise
  rw [lane_hi, select_bool]; simp
theorem maskC_eq : (maskC : Ideal .f32) = ⊥ := by
  unfold maskC
  show ((κ "mask").getD (Ideal.ofBits .f32 0xF149F2CA#32) : EReal) = ⊥
  simp [κ]
theorem sel_apply (c : IVec S512x1024 1) (z : FVec Ideal S512x1024 .f32) (x : Fin 512) (y : Fin 1024) :
    select c z (broadcast S512x1024 maskC) (ix2 x y) = Scalar.select (c (ix2 x y)) (z (ix2 x y)) ⊥ := by
  pointwise
  rw [maskC_eq]
theorem aT_apply (m : FVec Ideal S256x256 .bf16) (z : FVec Ideal S512x1024 .f32) (x : Fin 512) (y : Fin 1024) :
    aT m z (ix2 x y) = Ideal.exp (z (ix2 x y) - cumS m (spT z) (ix2 x y)) := by
  unfold aT
  pointwise
theorem dec_apply (r : FVec Ideal S512x1 .f32) (x : Fin 512) (d : Fin 128) : dec r (ix2 x d) = Ideal.exp (0 - r (ix2 x 0)) := by
  unfold dec
  pointwise
theorem oN_apply (m : FVec Ideal S256x256 .bf16) (w : IVec S1x128 1) (z : Vec Ideal S1x1x512x1024 .f32) (r : Vec Ideal S1x512x1 .f32) (v : Vec Ideal S1024x128 .bf16)
    (o : FVec Ideal S512x128 .f32) (x : Fin 512) (d : Fin 128) :
    oN m w z r v o (ix2 x d) = o (ix2 x d) + (∑ y : Fin 1024, aT m (sq z) (ix2 x y) * vmask w v (ix2 y d)) * Ideal.exp (0 - sqr r (ix2 x 0)) := by
  unfold oN
  pointwise
  rw [nn_apply, dec_apply]
  rfl
theorem sq_us (z : FVec Ideal S512x1024 .f32) : sq (us z) = z := by
  funext j; idx_vars j; unfold sq us
  pointwise
theorem sqr_usr (z : FVec Ideal S512x1 .f32) : sqr (usr z) = z := by
  funext j; idx_vars j; unfold sqr usr
  pointwise
theorem sqr_zero (x : Fin 512) : sqr (F := Ideal) (fun _ => (Scalar.ofBits .f32 0x00000000#32 : Ideal .f32)) (ix2 x 0) = 0 := Ideal.ofBits_zero_f32

/-- The sum of the entries a triangular column keeps, from number `y` on. -/
theorem sum_suf (n : ℕ) (X : ℕ → EReal) (y : ℕ) : ∑ k : Fin n, X k.val * (if y ≤ k.val then 1 else 0) = ∑ k ∈ Ico y n, X k := by
  rw [(Finset.sum_range (fun k => X k * (if y ≤ k then 1 else 0))).symm, ← Finset.sum_subset (s₁ := Ico y n)]
  · refine Finset.sum_congr rfl fun k hk => ?_
    rw [if_pos (Finset.mem_Ico.1 hk).1, mul_one]
  · intro k hk
    exact Finset.mem_range.2 (Finset.mem_Ico.1 hk).2
  · intro k hk hk'
    rw [if_neg (fun h => hk' (Finset.mem_Ico.2 ⟨h, Finset.mem_range.1 hk⟩)), mul_zero]

section
variable (x : FVec Ideal S512x1024 .f32) (a : Fin 512) (X : ℕ → EReal) (hx : ∀ k : Fin 1024, x (ix2 a k) = X k.val)

/-- A block of 256 keys of a row. -/
def Blk (b : FVec Ideal S512x256 .f32) (a : Fin 512) (X : ℕ → EReal) (c : ℕ) : Prop := ∀ k : Fin 256, b (ix2 a k) = X (c + k.val)
theorem rowS_ext {b : FVec Ideal S512x256 .f32} {c e : ℕ} (hb : Blk b a X c) (he : c + 256 = e) : rowS b (ix2 a 0) = ∑ k ∈ Ico c e, X k := by
  subst he
  rw [rowS_apply, Finset.sum_congr rfl fun k _ => hb k, sum_all 256 (fun k => X (c + k)), sum_shift]; rfl
theorem addCol_ext {b : FVec Ideal S512x256 .f32} {c e : ℕ} {r : FVec Ideal S512x1 .f32} {n : ℕ} (hb : Blk b a X c) (he : c + 256 = e) (hr : r (ix2 a 0) = ∑ k ∈ Ico e n, X k) (hn : e ≤ n) :
    addCol r b (ix2 a 0) = ∑ k ∈ Ico c n, X k := by
  subst he
  rw [addCol_apply, hr, Finset.sum_congr rfl fun k _ => hb k, sum_all 256 (fun k => X (c + k)), sum_shift, add_comm]
  exact sum_next X (by omega) hn
theorem cumB_ext {b : FVec Ideal S512x256 .f32} {c e : ℕ} (hb : Blk b a X c) (he : c + 256 = e) (y : Fin 256) :
    cumB k0_pay174 b (ix2 a y) = ∑ k ∈ Ico (c + y.val) e, X k := by
  subst he
  rw [cumB_apply, Finset.sum_congr rfl fun k _ => by rw [hb k, suf_apply], sum_suf 256 (fun k => X (c + k)) y.val, sum_shift]
theorem cumC_ext {b : FVec Ideal S512x256 .f32} {c e : ℕ} {r : FVec Ideal S512x1 .f32} {n : ℕ} (hb : Blk b a X c) (he : c + 256 = e) (hr : r (ix2 a 0) = ∑ k ∈ Ico e n, X k) (hn : e ≤ n) (y : Fin 256) :
    cumC k0_pay174 b r (ix2 a y) = ∑ k ∈ Ico (c + y.val) n, X k := by
  have hy := y.isLt
  rw [cumC_apply, hr, cumB_ext a X hb he]
  exact sum_next X (by omega) hn
include hx
theorem blk0 : Blk (b0 x) a X 0 := fun k => by rw [b0_apply, hx]
theorem blk1 : Blk (b1 x) a X 256 := fun k => by rw [b1_apply, hx]
theorem blk2 : Blk (b2 x) a X 512 := fun k => by rw [b2_apply, hx]
theorem blk3 : Blk (b3 x) a X 768 := fun k => by rw [b3_apply, hx]
theorem tail3 : rowS (b3 x) (ix2 a 0) = ∑ k ∈ Ico 768 1024, X k := rowS_ext a X (blk3 x a X hx) rfl
theorem tail2 : addCol (rowS (b3 x)) (b2 x) (ix2 a 0) = ∑ k ∈ Ico 512 1024, X k := addCol_ext a X (blk2 x a X hx) rfl (tail3 x a X hx) (by omega)
theorem tail1 : addCol (addCol (rowS (b3 x)) (b2 x)) (b1 x) (ix2 a 0) = ∑ k ∈ Ico 256 1024, X k := addCol_ext a X (blk1 x a X hx) rfl (tail2 x a X hx) (by omega)
theorem endS_ext : endS x (ix2 a 0) = ∑ k ∈ Ico 0 1024, X k := addCol_ext a X (blk0 x a X hx) rfl (tail1 x a X hx) (by omega)
theorem cumS_ext (y : Fin 1024) : cumS k0_pay174 x (ix2 a y) = ∑ k ∈ Ico y.val 1024, X k := by
  have hy := y.isLt
  unfold cumS
  rw [cat_apply]
  split
  · rename_i h
    rw [cumC_ext a X (blk0 x a X hx) rfl (tail1 x a X hx) (by omega)]
    simp only [Nat.zero_add]
  · split
    · rename_i h h'
      rw [cumC_ext a X (blk1 x a X hx) rfl (tail2 x a X hx) (by omega)]
      simp only [show 256 + (y.val - 256) = y.val by omega]
    · split
      · rename_i h h' h''
        rw [cumC_ext a X (blk2 x a X hx) rfl (tail3 x a X hx) (by omega)]
        simp only [show 512 + (y.val - 256 - 256) = y.val by omega]
      · rename_i h h' h''
        rw [cumB_ext a X (blk3 x a X hx) (show 768 + 256 = 1024 from rfl)]
        simp only [show 768 + (y.val - 256 - 256 - 256) = y.val by omega]
end
end Cert.ForwardIdeal.Hand
end
-- ==== Proof.FwdHead.lean ====
module

public import proofs.«01_k».proof.Proof.FwdEntry

@[expose] public section

/-! One block of queries of one pair of heads: its stored scores, its sums and its output rows, a row at a time. -/

set_option maxRecDepth 16384

noncomputable section

namespace Cert.ForwardIdeal.Hand

open Cert.ForwardIdeal Cert.ForwardIdeal.Gen Cert.Ext
open Idealize.ShloMosaic Finset
open Cert.KernelIdeal.Hand (select_bool)

/-- A row of scores `z` with the keys it does not read masked. -/
def Row (z : ℕ → EReal) (t s : ℕ) : EReal := if s < t then z s else ⊥
theorem Row_of_ge {z : ℕ → EReal} {t s : ℕ} (h : t ≤ s) : Row z t s = ⊥ := if_neg (by omega)

section
variable (i : ℕ) (hi' : i < 16) (x : Fin 512) (kt vt : ℕ → Vec Ideal S1024x128 .bf16) (K V : ℕ → ℕ → EReal)
  (hk : ∀ j, j < 8 → ∀ (y : Fin 1024) (d : Fin 128), kt j (ix2 y d) = K (1024 * j + y.val) d.val)
  (hv : ∀ j, j < 8 → ∀ (y : Fin 1024) (d : Fin 128), vt j (ix2 y d) = V (1024 * j + y.val) d.val)

abbrev abw : BitVec 32 × BitVec 32 := (BitVec.ofNat 32 i, BitVec.ofNat 32 (i / 2))

section one
variable (q : FVec Ideal S512x128 .bf16) (z : ℕ → EReal) (hz : ∀ s, ∑ d : Fin 128, q (ix2 x d) * K s d.val = z s)
include hi' hk hz
/-- A stored tile's row is the masked row. -/
theorem Zs_at (n : ℕ) (hn : n ≤ i / 2) (y : Fin 1024) :
    sq (Zs q kt (i / 2) (abw i) n) (ix2 x y) = Row z (512 * i + x.val) (1024 * (i / 2 - n) + y.val) := by
  have hx := x.isLt
  have hy := y.isLt
  have e : ∀ j, j < 8 → nt q (kt j) (ix2 x y) = z (1024 * j + y.val) := fun j hj => by
    rw [nt_apply, Finset.sum_congr rfl fun d _ => by rw [hk j hj], hz]
  cases n with
  | zero =>
    unfold Zs
    rw [sq_us, sel_apply, dmask_apply i (i / 2) hi' (by omega), select_bool, e _ (by omega), Nat.sub_zero]
    unfold Row
    by_cases h : y.val + i / 2 * 1024 < x.val + i * 512
    · rw [if_pos h, if_pos (by omega)]
    · rw [if_neg h, if_neg (by omega)]
  | succ n =>
    unfold Zs
    rw [sq_us, e _ (by omega)]
    unfold Row
    rw [if_pos (by omega)]
/-- The column before an item: the sums from the key after its tile on. -/
theorem Rs_at (n : ℕ) (hn : n ≤ i / 2 + 1) :
    sqr (Rs q kt (i / 2) (abw i) n) (ix2 x 0) = Cs (Row z (512 * i + x.val)) (1024 * (i / 2 + 1 - n)) 8192 := by
  have hx := x.isLt
  induction n with
  | zero =>
    unfold Rs
    refine (sqr_zero x).trans ?_
    unfold Cs
    exact (Finset.sum_eq_zero fun u hu => by rw [Row_of_ge (by have := Finset.mem_Ico.1 hu; omega), Sp_bot]).symm
  | succ n ih =>
    unfold Rs
    unfold rN
    have e : addf (sqr (Rs q kt (i / 2) (abw i) n)) (endS (spT (sq (Zs q kt (i / 2) (abw i) n)))) (ix2 x 0)
        = sqr (Rs q kt (i / 2) (abw i) n) (ix2 x 0) + endS (spT (sq (Zs q kt (i / 2) (abw i) n))) (ix2 x 0) := rfl
    rw [sqr_usr, e, ih (by omega), endS_ext _ x (fun k => Sp (Row z (512 * i + x.val) (1024 * (i / 2 - n) + k)))
      (fun k => by rw [spT_apply, Zs_at i hi' x kt K hk q z hz n (by omega)]), sum_shift (fun k => Sp (Row z (512 * i + x.val) k)), add_comm,
      show 1024 * (i / 2 - n) + 0 = 1024 * (i / 2 + 1 - (n + 1)) by omega, show 1024 * (i / 2 - n) + 1024 = 1024 * (i / 2 + 1 - n) by omega]
    exact sum_next _ (by omega) (by omega)
/-- One head's tile, on a lane of the head. -/
theorem tile_at (n : ℕ) (hn : n ≤ i / 2) (w : FVec Ideal S1024x128 .bf16) (d : Fin 128) (v : ℕ → EReal) (hw : ∀ y : Fin 1024, w (ix2 y d) = v (1024 * (i / 2 - n) + y.val)) :
    (∑ y : Fin 1024, aT k0_pay174 (sq (Zs q kt (i / 2) (abw i) n)) (ix2 x y) * w (ix2 y d)) * Ideal.exp (0 - sqr (Rs q kt (i / 2) (abw i) n) (ix2 x 0))
      = ∑ s ∈ Ico (1024 * (i / 2 - n)) (1024 * (i / 2 - n) + 1024), Wt (Row z (512 * i + x.val)) s * v s := by
  rw [← tile_sum _ v (1024 * (i / 2 - n)) (by omega), Rs_at i hi' x kt K hk q z hz n (by omega), show 1024 * (i / 2 + 1 - n) = 1024 * (i / 2 - n) + 1024 by omega]
  refine congrArg (· * _) ?_
  rw [← sum_all 1024 (fun y => Ideal.exp (Row z (512 * i + x.val) (1024 * (i / 2 - n) + y) - Cs (Row z (512 * i + x.val)) (1024 * (i / 2 - n) + y) (1024 * (i / 2 - n) + 1024)) * v (1024 * (i / 2 - n) + y))]
  refine Finset.sum_congr rfl fun y _ => ?_
  rw [hw y, aT_apply, cumS_ext _ x (fun k => Sp (Row z (512 * i + x.val) (1024 * (i / 2 - n) + k)))
      (fun k => by rw [spT_apply, Zs_at i hi' x kt K hk q z hz n hn]), Zs_at i hi' x kt K hk q z hz n hn, sum_shift (fun k => Sp (Row z (512 * i + x.val) k))]
  rfl
end one

/-- A head that has none of a lane adds nothing to it. -/
theorem tile_off (a : FVec Ideal S512x1024 .f32) (w : FVec Ideal S1024x128 .bf16) (d : Fin 128) (r : EReal) (hw : ∀ y : Fin 1024, w (ix2 y d) = 0) :
    (∑ y : Fin 1024, a (ix2 x y) * w (ix2 y d)) * r = 0 := by
  rw [Finset.sum_eq_zero fun y _ => by rw [hw y, mul_zero], zero_mul]

variable (q0 q1 : FVec Ideal S512x128 .bf16) (z0 z1 : ℕ → EReal) (hz0 : ∀ s, ∑ d : Fin 128, q0 (ix2 x d) * K s d.val = z0 s)
  (hz1 : ∀ s, ∑ d : Fin 128, q1 (ix2 x d) * K s d.val = z1 s)
include hi' hk hv hz0 hz1
/-- The output rows before an item: the weighted values from the key after its tile on. -/
theorem Os_at (n : ℕ) (hn : n ≤ i / 2 + 1) (d : Fin 128) :
    Os k0_pay174 lo hi q0 q1 kt vt (i / 2) (abw i) n (ix2 x d)
      = ∑ s ∈ Ico (1024 * (i / 2 + 1 - n)) (1024 * (i / 2 + 1)), Wt (Row (if d.val / 64 = 0 then z0 else z1) (512 * i + x.val)) s * V s d.val := by
  have hd := d.isLt
  induction n with
  | zero =>
    unfold Os
    rw [Nat.sub_zero, Finset.Ico_self, Finset.sum_empty]
    exact Ideal.ofBits_zero_f32
  | succ n ih =>
    unfold Os
    rw [oN_apply, oN_apply, ih (by omega)]
    rcases (by omega : d.val / 64 = 0 ∨ d.val / 64 = 1) with h | h
    · rw [tile_off x _ (vmask hi (vt (i / 2 - n))) d _ (fun y => by rw [vmask_hi, if_neg (by omega)]), add_zero,
        tile_at i hi' x kt K hk q0 z0 hz0 n (by omega) (vmask lo (vt (i / 2 - n))) d (fun s => V s d.val) (fun y => by rw [vmask_lo, if_pos h, hv _ (by omega)]), if_pos h, add_comm,
        show 1024 * (i / 2 - n) + 1024 = 1024 * (i / 2 + 1 - n) by omega, show 1024 * (i / 2 - n) = 1024 * (i / 2 + 1 - (n + 1)) by omega]
      exact sum_next _ (by omega) (by omega)
    · rw [tile_off x _ (vmask lo (vt (i / 2 - n))) d _ (fun y => by rw [vmask_lo, if_neg (by omega)]), add_zero,
        tile_at i hi' x kt K hk q1 z1 hz1 n (by omega) (vmask hi (vt (i / 2 - n))) d (fun s => V s d.val) (fun y => by rw [vmask_hi, if_pos h, hv _ (by omega)]), if_neg (by omega), add_comm,
        show 1024 * (i / 2 - n) + 1024 = 1024 * (i / 2 + 1 - n) by omega, show 1024 * (i / 2 - n) = 1024 * (i / 2 + 1 - (n + 1)) by omega]
      exact sum_next _ (by omega) (by omega)
/-- The output rows at the end: over every key. -/
theorem Os_end (d : Fin 128) :
    Os k0_pay174 lo hi q0 q1 kt vt (i / 2) (abw i) (i / 2 + 1) (ix2 x d)
      = ∑ s ∈ Ico 0 8192, Wt (Row (if d.val / 64 = 0 then z0 else z1) (512 * i + x.val)) s * V s d.val := by
  have hx := x.isLt
  rw [Os_at i hi' x kt vt K V hk hv q0 q1 z0 z1 hz0 hz1 (i / 2 + 1) le_rfl, Nat.sub_self, Nat.mul_zero, ← sum_next _ (show 0 ≤ 1024 * (i / 2 + 1) by omega) (show 1024 * (i / 2 + 1) ≤ 8192 by omega),
    Finset.sum_eq_zero (s := Ico (1024 * (i / 2 + 1)) 8192) fun s hs => by rw [Wt_bot _ _ (Row_of_ge (by have := Finset.mem_Ico.1 hs; omega)), zero_mul], add_zero]
end
end Cert.ForwardIdeal.Hand
end
-- ==== Proof.FwdValues.lean ====
module

public import proofs.«01_k».proof.Proof.FwdHead
public import proofs.«01_k».proof.Proof.FwdRun
public import Idealize.ShloMosaic.Lib.Pipeline.ValueKit

@[expose] public section

/-! What the forward's run leaves in its result array, from the table `U` of queries, keys and values. Head `h` is columns
    `64 * h` up to `64 * h + 63` of each of the three. -/

set_option maxRecDepth 16384

noncomputable section

namespace Cert.Ext

open Finset

/-- A head's scores of a row, and the output table. -/
def score (U : ℕ → ℕ → EReal) (h t s : ℕ) : EReal := (∑ d ∈ Ico 0 64, U t (0 + (64 * h + d)) * U s (512 + (64 * h + d))) * ((1 / 8 : ℝ) : EReal)
def out (U : ℕ → ℕ → EReal) (t k : ℕ) : EReal := ∑ s ∈ Ico 0 8192, Wt (Cert.ForwardIdeal.Hand.Row (score U (k / 64) t) t) s * U s (1024 + k)

theorem eighth_nonneg : (0 : EReal) ≤ ((1 / 8 : ℝ) : EReal) := by exact_mod_cast (by norm_num : (0 : ℝ) ≤ 1 / 8)
/-- The lanes of one head of a pair. -/
theorem half (F : ℕ → EReal) (e : ℕ) (he : e < 2) : (∑ d ∈ Ico 0 128, if d / 64 = e then F d else 0) = ∑ d ∈ Ico 0 64, F (64 * e + d) := by
  rw [sum_shift F (64 * e) 0 64, ← Finset.sum_filter]
  refine Finset.sum_congr (Finset.ext fun d => ?_) fun _ _ => rfl
  rw [Finset.mem_filter, Finset.mem_Ico, Finset.mem_Ico]
  omega
/-- A head's score from the pair's lanes, scaled before the product. -/
theorem score_lanes (U : ℕ → ℕ → EReal) (p e t s : ℕ) (he : e < 2) :
    ∑ d : Fin 128, (if d.val / 64 = e then U t (128 * p + d.val) else 0) * ((1 / 8 : ℝ) : EReal) * U s (512 + 128 * p + d.val) = score U (2 * p + e) t s := by
  unfold score
  rw [sum_factor _ _ _ eighth_nonneg (EReal.coe_ne_top _), sum_all 128 (fun d => (if d / 64 = e then U t (128 * p + d) else 0) * ((1 / 8 : ℝ) : EReal) * U s (512 + 128 * p + d)),
    ← Finset.sum_congr rfl fun d _ => ?_]
  · exact half (fun d => U t (128 * p + d) * U s (512 + 128 * p + d) * ((1 / 8 : ℝ) : EReal)) e he |>.trans (Finset.sum_congr rfl fun d _ => by
      rw [show 128 * p + (64 * e + d) = 0 + (64 * (2 * p + e) + d) by omega, show 512 + 128 * p + (64 * e + d) = 512 + (64 * (2 * p + e) + d) by omega])
  · split
    · rw [mul_right_comm]
    · rw [zero_mul, zero_mul]
end Cert.Ext

namespace Cert.ForwardIdeal.Hand

open Cert.ForwardIdeal Cert.ForwardIdeal.Gen Cert.Ext
open Idealize.ShloMosaic Idealize.ShloMosaic.TcCoe Idealize.ShloMosaic.Tactic Idealize.SL.Sem Finset
open Idealize.ShloMosaic.Pipeline (Dat)

theorem index0 : ∀ t : Fin cfg0.N, win0_0.index t = ![t.val % 16, t.val / 16] := (by decide +kernel : ∀ t : Fin grid0.N, win0_0.index t = ![t.val % 16, t.val / 16])
theorem index1 : ∀ t : Fin cfg0.N, win0_1.index t = ![0, 4 + t.val / 16] := (by decide +kernel : ∀ t : Fin grid0.N, win0_1.index t = ![0, 4 + t.val / 16])
theorem index2 : ∀ t : Fin cfg0.N, win0_2.index t = ![0, 8 + t.val / 16] := (by decide +kernel : ∀ t : Fin grid0.N, win0_2.index t = ![0, 8 + t.val / 16])
theorem index3 : ∀ t : Fin cfg0.N, win0_3.index t = ![t.val % 16, t.val / 16] := (by decide +kernel : ∀ t : Fin grid0.N, win0_3.index t = ![t.val % 16, t.val / 16])

section
variable (m : (ℓ : Loc nD τ sig) → Buf (Elt Ideal) ℓ) (c : Dev nD) (U : ℕ → ℕ → EReal)
  (hU : ∀ j : S8192x1536.Idx, (m ((c : Thread nD τ).loc main_arg0) : S8192x1536.Idx → EReal) j = U (j 0).val (j 1).val)

theorem t_lt (t : Fin cfg0.N) : t.val < 64 := t.isLt
include hU
theorem qBlk_at (t : Fin cfg0.N) (x : Fin 512) (d : Fin 128) :
    qBlk m c t (ix2 x d) = U (512 * (t.val % 16) + x.val) (128 * (t.val / 16) + d.val) := by
  refine (hU (((cfg0.win 0).blk t).view.emb (ix2 x d))).trans ?_
  refine congrArg₂ U ?_ ?_
  · blk_simp [index0 t]; simp; omega
  · blk_simp [index0 t]; simp; omega
theorem kBlk_at (t : Fin cfg0.N) (j : ℕ) (hj : j < 8) (y : Fin 1024) (d : Fin 128) :
    tilesOf (kBlk m c t) j (ix2 y d) = U (1024 * j + y.val) (512 + 128 * (t.val / 16) + d.val) := by
  have hy := y.isLt
  unfold tilesOf
  refine (hU (((cfg0.win 1).blk t).view.emb _)).trans ?_
  refine congrArg₂ U ?_ ?_
  · blk_simp [index1 t]; simp; omega
  · blk_simp [index1 t]; simp; omega
theorem vBlk_at (t : Fin cfg0.N) (j : ℕ) (hj : j < 8) (y : Fin 1024) (d : Fin 128) :
    tilesOf (vBlk m c t) j (ix2 y d) = U (1024 * j + y.val) (1024 + 128 * (t.val / 16) + d.val) := by
  have hy := y.isLt
  unfold tilesOf
  refine (hU (((cfg0.win 2).blk t).view.emb _)).trans ?_
  refine congrArg₂ U ?_ ?_
  · blk_simp [index2 t]; simp; omega
  · blk_simp [index2 t]; simp; omega

/-- One output block's entry. -/
theorem outAt_at (t : Fin cfg0.N) (x : Fin 512) (d : Fin 128) :
    outAt m c t (ix2 x d) = out U (512 * (t.val % 16) + x.val) (128 * (t.val / 16) + d.val) := by
  have hd := d.isLt
  have h1 : ((grid0.coords t) 1).val = t.val % 16 := coord1 t
  have e := Os_end (t.val % 16) (by omega) x (tilesOf (kBlk m c t)) (tilesOf (vBlk m c t))
    (fun s d => U s (512 + 128 * (t.val / 16) + d)) (fun s d => U s (1024 + 128 * (t.val / 16) + d))
    (kBlk_at m c U hU t) (vBlk_at m c U hU t) (qa (qBlk m c t)) (qb (qBlk m c t))
    (score U (2 * (t.val / 16) + 0) (512 * (t.val % 16) + x.val)) (score U (2 * (t.val / 16) + 1) (512 * (t.val % 16) + x.val))
    (fun s => by
      rw [← score_lanes U _ 0 _ s (by omega)]
      exact Finset.sum_congr rfl fun d _ => by rw [qa_apply, qBlk_at m c U hU])
    (fun s => by
      rw [← score_lanes U _ 1 _ s (by omega)]
      exact Finset.sum_congr rfl fun d _ => by rw [qb_apply, qBlk_at m c U hU]) d
  unfold outAt outO abOf lastW lastOf
  rw [h1]
  refine e.trans (Finset.sum_congr rfl fun s _ => ?_)
  rw [Nat.add_assoc 1024]
  rcases (by omega : d.val / 64 = 0 ∨ d.val / 64 = 1) with h | h
  · rw [if_pos h, show (128 * (t.val / 16) + d.val) / 64 = 2 * (t.val / 16) + 0 by omega]
  · rw [if_neg (by omega), show (128 * (t.val / 16) + d.val) / 64 = 2 * (t.val / 16) + 1 by omega]

theorem final3 : (dats m 0 c).arrAt 3 cfg0.N = (fun j : S8192x512.Idx => out U (j 0).val (j 1).val) := by
  refine (dats m 0 c).arrAt_eq_of_covers 3 _ (by decide +kernel) fun t hf y => ?_
  blk_simp
  rw [after3]
  idx_vars y
  refine (outAt_at m c U hU t y0 y1).trans ?_
  rw [index3 t]
  show _ = out U (t.val % 16 * 512 + y0.val) (t.val / 16 * 128 + y1.val)
  rw [Nat.mul_comm 512, Nat.mul_comm 128]
end
end Cert.ForwardIdeal.Hand
end
-- ==== Proof.FwdTie.lean ====
module

public import proofs.«01_k».proof.Proof.Gen.RefForwardIdeal.Run
public import proofs.«01_k».proof.Proof.RefAt
public import proofs.«01_k».proof.Proof.FwdValues

@[expose] public section

/-! The forward reference's result, an entry at a time: the same table as the kernel's. -/

set_option maxRecDepth 16384

noncomputable section

namespace Cert.ReferenceIdeal.Hand

open Cert.ReferenceIdeal Cert.ReferenceIdeal.Gen Cert.Ext
open Idealize.ShloMosaic Idealize.ShloMosaic.TcCoe Idealize.ShloMosaic.Tactic Finset
open Cert.ForwardIdeal.Hand (Row Row_of_ge)

theorem neg_at (y : T) (h : Fin 8) (t s : Fin 8192) : Host.negf y (ix3 h t s) = -(y (ix3 h t s)) := by
  pointwise
/-- The softplus, of any entry. -/
theorem sft_at (y : T) (h : Fin 8) (t s : Fin 8192) : sft y (ix3 h t s) = Sp (y (ix3 h t s)) := by
  unfold sft
  pointwise
  rw [b0_at, if_neg (fun h => h rfl), sub_zero]
  unfold Sp
  rw [zero_sub]
  rfl
theorem from3_at (x : T) (X : ℕ → EReal) (h : Fin 8) (t s : Fin 8192) (hx : ∀ u : Fin 8192, x (ix3 h t u) = X u.val) :
    from3 x (ix3 h t s) = ∑ u ∈ Ico s.val 8192, X u := by
  rw [from3_eq]
  exact Cert.Stick.window_from_ext (A := 8) (B := 8192) (N := 8192) (up := 8191) x (s0 (Shape.Idx.first h_S_)) (s0_at _) h_S_ h t s X hx reduceWindows_S8x8192x8192_S8x8192x8192_w1s1p0_0_w1s1p0_0_w8192s1p0_8191

theorem neg_sum (s : Finset ℕ) (f : ℕ → EReal) (h : ∀ i, 0 ≤ f i) : ∑ i ∈ s, -(f i) = -(∑ i ∈ s, f i) := by
  induction s using Finset.induction_on with
  | empty => simp
  | insert a s ha ih =>
    rw [Finset.sum_insert ha, Finset.sum_insert ha, ih, EReal.neg_add (Or.inl fun e => ?_) (Or.inr fun e => ?_), sub_eq_add_neg]
    · have := h a; rw [e] at this; simp at this
    · have := Finset.sum_nonneg (s := s) fun i _ => h i
      rw [e] at this; simp at this

section
variable (z : T) (Z : ℕ → EReal) (h : Fin 8) (t : Fin 8192) (hz : ∀ s : Fin 8192, z (ix3 h t s) = Z s.val)
include hz
theorem v22_at (s : Fin 8192) : v22 z (ix3 h t s) = -(Sp (Row Z t.val s.val)) := by
  unfold v22
  rw [sel_at, neg_at, sft_at, neg_at, neg_at, hz, neg_neg, b0'_at]
  unfold Row
  split
  · rfl
  · rw [Sp_bot, neg_zero]
theorem v27_at (s : Fin 8192) : v27 z (ix3 h t s) = Wt (Row Z t.val) s.val := by
  unfold v27
  rw [sel_at, b0'_at]
  split
  · next hs =>
    have e : v26 z (ix3 h t s) = Ideal.exp (-(Sp (-(z (ix3 h t s)))) + (from3 (v22 z) (ix3 h t s) - v22 z (ix3 h t s))) := by
      unfold v26
      pointwise
      rw [sft_at, neg_at]
    rw [e, hz, from3_at (v22 z) (fun u => -(Sp (Row Z t.val u))) h t s (v22_at z Z h t hz), neg_sum _ _ (fun u => Sp_nonneg _), v22_at z Z h t hz,
      ← exp_ref (Row Z t.val) s.val s.isLt, show Z s.val = Row Z t.val s.val from (if_pos hs).symm]
    rfl
  · next hs => rw [Wt_bot _ _ (Row_of_ge (by omega))]
end

section
variable (m : (ℓ : Loc Cert.RefForwardIdeal.nD Cert.RefForwardIdeal.τ Cert.RefForwardIdeal.sig) → Buf (Elt Ideal) ℓ) (c : Dev Cert.RefForwardIdeal.nD)
abbrev fg0 : FVec Ideal S8192x1536 .bf16 := m ((c.tc : Thread Cert.RefForwardIdeal.nD Cert.RefForwardIdeal.τ).loc Cert.RefForwardIdeal.main_arg0)
def fq : H := heads (cut0 (fg0 m c))
def fk : H := heads (cut1 (fg0 m c))
def fv : H := heads (cut2 (fg0 m c))
set_option maxHeartbeats 4000000 in
theorem res30 : Cert.RefForwardIdeal.Value.res_main_v30 m c = flat (nn3 (v27 (zR (fq m c) (fk m c))) (fv m c)) := by
  unfold Cert.RefForwardIdeal.Value.res_main_v30; rfl

variable (U : ℕ → ℕ → EReal) (hU : ∀ j : S8192x1536.Idx, (fg0 m c : S8192x1536.Idx → EReal) j = U (j 0).val (j 1).val)
include hU
theorem fq_at (h : Fin 8) (t : Fin 8192) (d : Fin 64) : fq m c (ix3 h t d) = U t.val (0 + (64 * h.val + d.val)) := by
  unfold fq; rw [heads_at, cut0_at]; exact hU _
theorem fk_at (h : Fin 8) (t : Fin 8192) (d : Fin 64) : fk m c (ix3 h t d) = U t.val (512 + (64 * h.val + d.val)) := by
  unfold fk; rw [heads_at, cut1_at]; exact hU _
theorem fv_at (h : Fin 8) (t : Fin 8192) (d : Fin 64) : fv m c (ix3 h t d) = U t.val (1024 + (64 * h.val + d.val)) := by
  unfold fv; rw [heads_at, cut2_at]; exact hU _
theorem fz_at (h : Fin 8) (t s : Fin 8192) : zR (fq m c) (fk m c) (ix3 h t s) = score U h.val t.val s.val := by
  have e : zR (fq m c) (fk m c) (ix3 h t s) = nt3 (fq m c) (fk m c) (ix3 h t s) * b8 (ix3 h t s) := rfl
  unfold score
  rw [e, b8_at, nt3_at, Finset.sum_congr rfl fun d _ => by rw [fq_at m c U hU, fk_at m c U hU],
    sum_all 64 (fun d => U t.val (0 + (64 * h.val + d)) * U s.val (512 + (64 * h.val + d)))]
theorem ref30 : (Cert.RefForwardIdeal.Value.res_main_v30 m c : S8192x512.Idx → EReal) = fun j => out U (j 0).val (j 1).val := by
  funext j
  idx_vars j
  rw [res30, flat_at, nn3_at, Finset.sum_congr rfl fun s _ => by
    rw [fv_at m c U hU, v27_at _ (score U (j1.val / 64) j0.val) ⟨j1.val / 64, by omega⟩ j0 (fun s => fz_at m c U hU _ j0 s)],
    sum_all 8192 (fun s => Wt (Row (score U (j1.val / 64) j0.val) j0.val) s * U s (1024 + (64 * (j1.val / 64) + j1.val % 64)))]
  rw [show 64 * (j1.val / 64) + j1.val % 64 = j1.val by omega]
  rfl
end
end Cert.ReferenceIdeal.Hand
end
-- ==== Proof.FwdResult.lean ====
module

public import proofs.«01_k».proof.Defs
public import proofs.«01_k».proof.Proof.FwdTie

@[expose] public section

/-! From any argument the forward kernel and its reference end with the same table. -/

set_option maxRecDepth 16384

noncomputable section

namespace Cert.Proof

open Idealize.ShloMosaic Idealize.ShloMosaic.TcCoe Idealize.ShloMosaic.Tactic

instance fwdFacts : Cert.ForwardIdeal.Facts := Cert.ForwardIdeal.Gen.facts
instance refFwdFacts : Cert.RefForwardIdeal.Facts := Cert.RefForwardIdeal.Gen.facts

/-- An array by its entries' numbers. -/
def entries {a b : ℕ} (x : (⟨2, ![a, b]⟩ : Shape).Idx → EReal) (i j : ℕ) : EReal := if h : i < a ∧ j < b then x (ix2 ⟨i, h.1⟩ ⟨j, h.2⟩) else 0
theorem entries_eq {a b : ℕ} (x : (⟨2, ![a, b]⟩ : Shape).Idx → EReal) (j : (⟨2, ![a, b]⟩ : Shape).Idx) : x j = entries x (j 0).val (j 1).val := by
  unfold entries
  rw [dif_pos ⟨(j 0).isLt, (j 1).isLt⟩]
  refine congrArg x (funext fun q => ?_)
  match q with
  | ⟨0, _⟩ => rfl
  | ⟨1, _⟩ => rfl

theorem algebraic_fwd : Cert.algebraic_ForwardIdeal_RefForwardIdeal := by
  intro m g m' g' _ hargs
  let U := fun c : Dev Cert.ForwardIdeal.nD => entries (a := 8192) (b := 1536) (m ((c.tc : Thread Cert.ForwardIdeal.nD Cert.ForwardIdeal.τ).loc Cert.ForwardIdeal.main_arg0))
  have hU := fun c : Dev Cert.ForwardIdeal.nD => entries_eq (a := 8192) (b := 1536) (m ((c.tc : Thread Cert.ForwardIdeal.nD Cert.ForwardIdeal.τ).loc Cert.ForwardIdeal.main_arg0))
  refine ⟨fun c j => Cert.Ext.out (U c) (j 0).val (j 1).val, ?_, ?_⟩
  · exact (θ_run Cert.ForwardIdeal.defs _ _).mono (fun r h c => ⟨((h.1 c).1 3).trans (Cert.ForwardIdeal.Hand.final3 m c (U c) (hU c)),
      ((h.1 c).1 0).trans (((Cert.ForwardIdeal.Hand.dats m 0 c).arrAt_in 0 rfl _).trans (Cert.ForwardIdeal.Hand.A_eq m c 0))⟩) (Cert.ForwardIdeal.Hand.run_main m g)
  · exact (θ_run Cert.RefForwardIdeal.defs _ _).mono (fun r h c => ⟨(h c).1.trans (Cert.ReferenceIdeal.Hand.ref30 m' c (U c) fun j => (congrFun (hargs c) j).trans (hU c j)),
      (h c).2⟩) (Cert.RefForwardIdeal.Value.run m' g')
end Cert.Proof
end
-- ==== Proof.WeightGrad.lean ====
module

public import proofs.«01_k».proof.Proof.FwdResult

@[expose] public section

/-! The gradient of a product's weight as one sum over the tokens, and as the sum of its blocks of 512 tokens. -/

noncomputable section

namespace Cert.WeightGrad

open Finset
open Cert.Ext (sum_shift sum_next)

/-- Entry (i, j) of the gradient, from the product's argument and its result's gradient, one token a row. -/
def wgrad (X Y : ℕ → ℕ → EReal) (i j : ℕ) : EReal := ∑ k ∈ Ico 0 8192, X k i * Y k j
/-- What block `s` of 512 tokens adds to it. -/
def tile (X Y : ℕ → ℕ → EReal) (s i j : ℕ) : EReal := ∑ k ∈ Ico 0 512, X (512 * s + k) i * Y (512 * s + k) j

theorem tiles_upto (X Y : ℕ → ℕ → EReal) (i j n : ℕ) : ∑ s ∈ range n, tile X Y s i j = ∑ k ∈ Ico 0 (512 * n), X k i * Y k j := by
  induction n with
  | zero => simp
  | succ n ih =>
    rw [Finset.sum_range_succ, ih, tile, sum_shift (fun k => X k i * Y k j) (512 * n) 0 512, Nat.add_zero]
    exact sum_next (fun k => X k i * Y k j) (by omega) (by omega)
theorem tiles (X Y : ℕ → ℕ → EReal) (i j : ℕ) : ∑ s ∈ range 16, tile X Y s i j = wgrad X Y i j := tiles_upto X Y i j 16

end Cert.WeightGrad
end
-- ==== Proof.GradGate.lean ====
module

public import proofs.«01_k».proof.Proof.WeightGrad
public import proofs.«01_k».proof.Proof.Gen.GradGateIdeal.Value
public import proofs.«01_k».proof.Proof.Gen.RefGradGateIdeal.Run
public import Idealize.ShloMosaic.Lib.Pipeline.ValueKit

@[expose] public section

/-! The gradient of the gate's weight, and of the up projection's: its blocks' products summed over the grid are the
    reference's one product over all tokens. -/

set_option maxRecDepth 16384

noncomputable section

namespace Cert.GradGateIdeal.Hand

open Cert.GradGateIdeal Cert.GradGateIdeal.Gen Cert.GradGateIdeal.Value Cert.WeightGrad
open Idealize.ShloMosaic Idealize.ShloMosaic.TcCoe Idealize.ShloMosaic.Tactic Idealize.SL.Sem Finset

theorem zero_apply (i : S1024x2816.Idx) : (k0_pay1 (F := Ideal)) i = 0 := by
  unfold k0_pay1
  exact Ideal.ofBits_zero_f32
/-- One point adds one block's product. -/
theorem add_apply (x : Vec Ideal S512x1024 .bf16) (o : Vec Ideal S1024x2816 .f32) (y : Vec Ideal S512x2816 .bf16) (i : Fin 1024) (j : Fin 2816) :
    k0_pay2 x o y (ix2 i j) = o (ix2 i j) + ∑ k : Fin 512, x (ix2 k i) * y (ix2 k j) := by
  unfold k0_pay2
  pointwise

theorem index0 : ∀ t : Fin cfg0.N, win0_0.index t = ![t.val % 16, t.val / 16] := (by decide +kernel : ∀ t : Fin grid0.N, win0_0.index t = ![t.val % 16, t.val / 16])
theorem index1 : ∀ t : Fin cfg0.N, win0_1.index t = ![t.val % 16, 0] := (by decide +kernel : ∀ t : Fin grid0.N, win0_1.index t = ![t.val % 16, 0])

section
variable (m : (ℓ : Loc nD τ sig) → Buf (Elt Ideal) ℓ) (c : Dev nD) (X Y : ℕ → ℕ → EReal)
  (hX : ∀ j : S8192x1024.Idx, (m ((c : Thread nD τ).loc main_arg0) : S8192x1024.Idx → EReal) j = X (j 0).val (j 1).val)
  (hY : ∀ j : S8192x2816.Idx, (m ((c : Thread nD τ).loc main_arg1) : S8192x2816.Idx → EReal) j = Y (j 0).val (j 1).val)

/-- The two blocks a point reads. -/
abbrev xBlk (t : Fin cfg0.N) : S512x1024.Idx → EReal := iblk m c 0 t
abbrev yBlk (t : Fin cfg0.N) : S512x2816.Idx → EReal := iblk m c 1 t

include hX in
theorem x_at (t : Fin cfg0.N) (k : Fin 512) (i : Fin 1024) : xBlk m c t (ix2 k i) = X (512 * (t.val % 16) + k.val) (1024 * (t.val / 16) + i.val) := by
  refine (hX (((cfg0.win 0).blk t).view.emb (ix2 k i))).trans ?_
  refine congrArg₂ X ?_ ?_
  · blk_simp [index0 t]; simp; omega
  · blk_simp [index0 t]; simp; omega
include hY in
theorem y_at (t : Fin cfg0.N) (k : Fin 512) (j : Fin 2816) : yBlk m c t (ix2 k j) = Y (512 * (t.val % 16) + k.val) j.val := by
  refine (hY (((cfg0.win 1).blk t).view.emb (ix2 k j))).trans ?_
  refine congrArg₂ Y ?_ ?_
  · blk_simp [index1 t]; simp; omega
  · blk_simp [index1 t]

/-- What point `n` adds, at an entry of its block. -/
def addend (n : ℕ) (i : S1024x2816.Idx) : EReal := tile X Y (n % 16) (1024 * (n / 16) + (i 0).val) (i 1).val
include hX hY
theorem point_at (n : ℕ) (h : n < cfg0.N) (i : Fin 1024) (j : Fin 2816) :
    ∑ k : Fin 512, xBlk m c ⟨n, h⟩ (ix2 k i) * yBlk m c ⟨n, h⟩ (ix2 k j) = addend X Y n (ix2 i j) := by
  refine (Finset.sum_congr rfl fun k _ => congrArg₂ (· * ·) (x_at m c X hX ⟨n, h⟩ k i) (y_at m c Y hY ⟨n, h⟩ k j)).trans ?_
  exact Cert.Ext.sum_all 512 (fun k => X (512 * (n % 16) + k) (1024 * (n / 16) + i.val) * Y (512 * (n % 16) + k) j.val)
theorem step_at (n : ℕ) (h : n < cfg0.N) (acc : Vec Ideal S1024x2816 .f32) (i : S1024x2816.Idx) : step2 m c n h acc i = acc i + addend X Y n i := by
  idx_vars i
  exact (add_apply _ _ _ _ _).trans (congrArg (acc (ix2 i0 i1) + ·) (point_at m c X Y hX hY n h i0 i1))
theorem reset_at (n : ℕ) (h : n < cfg0.N) (i : S1024x2816.Idx) : reset2 m c n h i = 0 + addend X Y n i := by
  idx_vars i
  exact (add_apply _ _ _ _ _).trans (congrArg₂ (· + ·) (zero_apply _) (point_at m c X Y hX hY n h i0 i1))

/-- The array a run ends with. -/
theorem result_at (j : S1024x2816.Idx) : G2 m c j = wgrad X Y (j 0).val (j 1).val := by
  have h0 : (j 0).val < 1024 := (j 0).isLt
  have h1 : (j 1).val < 2816 := (j 1).isLt
  have hr : run2Of j = (j 0).val / 1024 := by unfold run2Of; omega
  unfold G2
  rw [dif_pos (by rw [hr, show cfg0.N = 16 from N_0]; omega)]
  refine (Pipeline.accAt_add_apply (reset2 m c) (step2 m c) (fun _ => (0 : EReal)) (addend X Y) (16 * run2Of j) 15
    (fun h i => reset_at m c X Y hX hY _ h i) (fun n h acc i _ _ => step_at m c X Y hX hY n h acc i) 15 le_rfl _ (loc2Of j)).trans ?_
  rw [zero_add, hr, ← tiles]
  refine Finset.sum_congr rfl fun s hs => ?_
  have hs' := Finset.mem_range.1 hs
  unfold addend
  rw [show (16 * ((j 0).val / 1024) + s) % 16 = s by omega, show (16 * ((j 0).val / 1024) + s) / 16 = (j 0).val / 1024 by omega]
  show tile X Y s (1024 * ((j 0).val / 1024) + (j 0).val % 1024) ((j 1).val % 2816) = _
  rw [Nat.div_add_mod, Nat.mod_eq_of_lt h1]
end
end Cert.GradGateIdeal.Hand

namespace Cert.RefGradGateIdeal.Hand

open Cert.RefGradGateIdeal Cert.RefGradGateIdeal.Gen Cert.WeightGrad
open Idealize.ShloMosaic Idealize.ShloMosaic.Tactic Finset

/-- The reference's one product. -/
def whole (x : FVec Ideal S8192x1024 .bf16) (y : FVec Ideal S8192x2816 .bf16) : FVec Ideal S1024x2816 .f32 :=
  transpose S1024x2816 [1, 0] (Host.dotGeneral dot_S8192x2816_S8192x1024_S2816x1024_0_0_1_1_n_n none (extf .f32 y bitsLt_bf16_f32) (extf .f32 x bitsLt_bf16_f32) : FVec Ideal S2816x1024 .f32) transposes_S2816x1024_S1024x2816_1_0
theorem whole_at (x : FVec Ideal S8192x1024 .bf16) (y : FVec Ideal S8192x2816 .bf16) (X Y : ℕ → ℕ → EReal)
    (hX : ∀ j, x j = X (j 0).val (j 1).val) (hY : ∀ j, y j = Y (j 0).val (j 1).val) (j : S1024x2816.Idx) : whole x y j = wgrad X Y (j 0).val (j 1).val := by
  idx_vars j
  have e : whole x y (ix2 j0 j1) = ∑ k : Fin 8192, y (ix2 k j1) * x (ix2 k j0) := by
    unfold whole
    pointwise
  rw [e]
  refine (Finset.sum_congr rfl fun k _ => by rw [hX, hY, mul_comm]).trans ?_
  exact Cert.Ext.sum_all 8192 (fun k => X k j0.val * Y k j1.val)
end Cert.RefGradGateIdeal.Hand

namespace Cert.Proof

open Idealize.ShloMosaic Idealize.ShloMosaic.TcCoe

instance gradGateIdealFacts : Cert.GradGateIdeal.Facts := Cert.GradGateIdeal.Gen.facts
instance refGradGateFacts : Cert.RefGradGateIdeal.Facts := Cert.RefGradGateIdeal.Gen.facts

theorem algebraic_grad_gate : Cert.algebraic_GradGateIdeal_RefGradGateIdeal := by
  intro m g m' g' _ hargs
  have hX := fun c : Dev Cert.GradGateIdeal.nD => entries_eq (a := 8192) (b := 1024) (m ((c.tc : Thread Cert.GradGateIdeal.nD Cert.GradGateIdeal.τ).loc Cert.GradGateIdeal.main_arg0))
  have hY := fun c : Dev Cert.GradGateIdeal.nD => entries_eq (a := 8192) (b := 2816) (m ((c.tc : Thread Cert.GradGateIdeal.nD Cert.GradGateIdeal.τ).loc Cert.GradGateIdeal.main_arg1))
  refine ⟨fun c => Cert.GradGateIdeal.Value.G2 m c, Cert.GradGateIdeal.Value.run m g, ?_⟩
  refine (θ_run Cert.RefGradGateIdeal.defs _ _).mono (fun r h c => ⟨(h c).1.trans (funext fun j => ?_), (h c).2⟩) (Cert.RefGradGateIdeal.Value.run m' g')
  exact (Cert.RefGradGateIdeal.Hand.whole_at _ _ _ _ (fun j => (congrFun (hargs c).1 j).trans (hX c j)) (fun j => (congrFun (hargs c).2 j).trans (hY c j)) j).trans
    (Cert.GradGateIdeal.Hand.result_at m c _ _ (hX c) (hY c) j).symm
end Cert.Proof
end
-- ==== Proof.GradDown.lean ====
module

public import proofs.«01_k».proof.Proof.WeightGrad
public import proofs.«01_k».proof.Proof.Gen.GradDownIdeal.Value
public import proofs.«01_k».proof.Proof.Gen.RefGradDownIdeal.Run
public import Idealize.ShloMosaic.Lib.Pipeline.ValueKit

@[expose] public section

/-! The gradient of the down projection's weight: its blocks' products summed over the grid are the
    reference's one product over all tokens. -/

set_option maxRecDepth 16384

noncomputable section

namespace Cert.GradDownIdeal.Hand

open Cert.GradDownIdeal Cert.GradDownIdeal.Gen Cert.GradDownIdeal.Value Cert.WeightGrad
open Idealize.ShloMosaic Idealize.ShloMosaic.TcCoe Idealize.ShloMosaic.Tactic Idealize.SL.Sem Finset

theorem zero_apply (i : S1408x1024.Idx) : (k0_pay1 (F := Ideal)) i = 0 := by
  unfold k0_pay1
  exact Ideal.ofBits_zero_f32
/-- One point adds one block's product. -/
theorem add_apply (x : Vec Ideal S512x1408 .bf16) (o : Vec Ideal S1408x1024 .f32) (y : Vec Ideal S512x1024 .bf16) (i : Fin 1408) (j : Fin 1024) :
    k0_pay2 x o y (ix2 i j) = o (ix2 i j) + ∑ k : Fin 512, x (ix2 k i) * y (ix2 k j) := by
  unfold k0_pay2
  pointwise

theorem index0 : ∀ t : Fin cfg0.N, win0_0.index t = ![t.val % 16, t.val / 16] := (by decide +kernel : ∀ t : Fin grid0.N, win0_0.index t = ![t.val % 16, t.val / 16])
theorem index1 : ∀ t : Fin cfg0.N, win0_1.index t = ![t.val % 16, 0] := (by decide +kernel : ∀ t : Fin grid0.N, win0_1.index t = ![t.val % 16, 0])

section
variable (m : (ℓ : Loc nD τ sig) → Buf (Elt Ideal) ℓ) (c : Dev nD) (X Y : ℕ → ℕ → EReal)
  (hX : ∀ j : S8192x2816.Idx, (m ((c : Thread nD τ).loc main_arg0) : S8192x2816.Idx → EReal) j = X (j 0).val (j 1).val)
  (hY : ∀ j : S8192x1024.Idx, (m ((c : Thread nD τ).loc main_arg1) : S8192x1024.Idx → EReal) j = Y (j 0).val (j 1).val)

/-- The two blocks a point reads. -/
abbrev xBlk (t : Fin cfg0.N) : S512x1408.Idx → EReal := iblk m c 0 t
abbrev yBlk (t : Fin cfg0.N) : S512x1024.Idx → EReal := iblk m c 1 t

include hX in
theorem x_at (t : Fin cfg0.N) (k : Fin 512) (i : Fin 1408) : xBlk m c t (ix2 k i) = X (512 * (t.val % 16) + k.val) (1408 * (t.val / 16) + i.val) := by
  refine (hX (((cfg0.win 0).blk t).view.emb (ix2 k i))).trans ?_
  refine congrArg₂ X ?_ ?_
  · blk_simp [index0 t]; simp; omega
  · blk_simp [index0 t]; simp; omega
include hY in
theorem y_at (t : Fin cfg0.N) (k : Fin 512) (j : Fin 1024) : yBlk m c t (ix2 k j) = Y (512 * (t.val % 16) + k.val) j.val := by
  refine (hY (((cfg0.win 1).blk t).view.emb (ix2 k j))).trans ?_
  refine congrArg₂ Y ?_ ?_
  · blk_simp [index1 t]; simp; omega
  · blk_simp [index1 t]

/-- What point `n` adds, at an entry of its block. -/
def addend (n : ℕ) (i : S1408x1024.Idx) : EReal := tile X Y (n % 16) (1408 * (n / 16) + (i 0).val) (i 1).val
include hX hY
theorem point_at (n : ℕ) (h : n < cfg0.N) (i : Fin 1408) (j : Fin 1024) :
    ∑ k : Fin 512, xBlk m c ⟨n, h⟩ (ix2 k i) * yBlk m c ⟨n, h⟩ (ix2 k j) = addend X Y n (ix2 i j) := by
  refine (Finset.sum_congr rfl fun k _ => congrArg₂ (· * ·) (x_at m c X hX ⟨n, h⟩ k i) (y_at m c Y hY ⟨n, h⟩ k j)).trans ?_
  exact Cert.Ext.sum_all 512 (fun k => X (512 * (n % 16) + k) (1408 * (n / 16) + i.val) * Y (512 * (n % 16) + k) j.val)
theorem step_at (n : ℕ) (h : n < cfg0.N) (acc : Vec Ideal S1408x1024 .f32) (i : S1408x1024.Idx) : step2 m c n h acc i = acc i + addend X Y n i := by
  idx_vars i
  exact (add_apply _ _ _ _ _).trans (congrArg (acc (ix2 i0 i1) + ·) (point_at m c X Y hX hY n h i0 i1))
theorem reset_at (n : ℕ) (h : n < cfg0.N) (i : S1408x1024.Idx) : reset2 m c n h i = 0 + addend X Y n i := by
  idx_vars i
  exact (add_apply _ _ _ _ _).trans (congrArg₂ (· + ·) (zero_apply _) (point_at m c X Y hX hY n h i0 i1))

/-- The array a run ends with. -/
theorem result_at (j : S2816x1024.Idx) : G2 m c j = wgrad X Y (j 0).val (j 1).val := by
  have h0 : (j 0).val < 2816 := (j 0).isLt
  have h1 : (j 1).val < 1024 := (j 1).isLt
  have hr : run2Of j = (j 0).val / 1408 := by unfold run2Of; omega
  unfold G2
  rw [dif_pos (by rw [hr, show cfg0.N = 32 from N_0]; omega)]
  refine (Pipeline.accAt_add_apply (reset2 m c) (step2 m c) (fun _ => (0 : EReal)) (addend X Y) (16 * run2Of j) 15
    (fun h i => reset_at m c X Y hX hY _ h i) (fun n h acc i _ _ => step_at m c X Y hX hY n h acc i) 15 le_rfl _ (loc2Of j)).trans ?_
  rw [zero_add, hr, ← tiles]
  refine Finset.sum_congr rfl fun s hs => ?_
  have hs' := Finset.mem_range.1 hs
  unfold addend
  rw [show (16 * ((j 0).val / 1408) + s) % 16 = s by omega, show (16 * ((j 0).val / 1408) + s) / 16 = (j 0).val / 1408 by omega]
  show tile X Y s (1408 * ((j 0).val / 1408) + (j 0).val % 1408) ((j 1).val % 1024) = _
  rw [Nat.div_add_mod, Nat.mod_eq_of_lt h1]
end
end Cert.GradDownIdeal.Hand

namespace Cert.RefGradDownIdeal.Hand

open Cert.RefGradDownIdeal Cert.RefGradDownIdeal.Gen Cert.WeightGrad
open Idealize.ShloMosaic Idealize.ShloMosaic.Tactic Finset

/-- The reference's one product. -/
def whole (x : FVec Ideal S8192x2816 .bf16) (y : FVec Ideal S8192x1024 .bf16) : FVec Ideal S2816x1024 .f32 :=
  transpose S2816x1024 [1, 0] (Host.dotGeneral dot_S8192x1024_S8192x2816_S1024x2816_0_0_1_1_n_n none (extf .f32 y bitsLt_bf16_f32) (extf .f32 x bitsLt_bf16_f32) : FVec Ideal S1024x2816 .f32) transposes_S1024x2816_S2816x1024_1_0
theorem whole_at (x : FVec Ideal S8192x2816 .bf16) (y : FVec Ideal S8192x1024 .bf16) (X Y : ℕ → ℕ → EReal)
    (hX : ∀ j, x j = X (j 0).val (j 1).val) (hY : ∀ j, y j = Y (j 0).val (j 1).val) (j : S2816x1024.Idx) : whole x y j = wgrad X Y (j 0).val (j 1).val := by
  idx_vars j
  have e : whole x y (ix2 j0 j1) = ∑ k : Fin 8192, y (ix2 k j1) * x (ix2 k j0) := by
    unfold whole
    pointwise
  rw [e]
  refine (Finset.sum_congr rfl fun k _ => by rw [hX, hY, mul_comm]).trans ?_
  exact Cert.Ext.sum_all 8192 (fun k => X k j0.val * Y k j1.val)
end Cert.RefGradDownIdeal.Hand

namespace Cert.Proof

open Idealize.ShloMosaic Idealize.ShloMosaic.TcCoe

instance gradDownIdealFacts : Cert.GradDownIdeal.Facts := Cert.GradDownIdeal.Gen.facts
instance refGradDownFacts : Cert.RefGradDownIdeal.Facts := Cert.RefGradDownIdeal.Gen.facts

theorem algebraic_grad_down : Cert.algebraic_GradDownIdeal_RefGradDownIdeal := by
  intro m g m' g' _ hargs
  have hX := fun c : Dev Cert.GradDownIdeal.nD => entries_eq (a := 8192) (b := 2816) (m ((c.tc : Thread Cert.GradDownIdeal.nD Cert.GradDownIdeal.τ).loc Cert.GradDownIdeal.main_arg0))
  have hY := fun c : Dev Cert.GradDownIdeal.nD => entries_eq (a := 8192) (b := 1024) (m ((c.tc : Thread Cert.GradDownIdeal.nD Cert.GradDownIdeal.τ).loc Cert.GradDownIdeal.main_arg1))
  refine ⟨fun c => Cert.GradDownIdeal.Value.G2 m c, Cert.GradDownIdeal.Value.run m g, ?_⟩
  refine (θ_run Cert.RefGradDownIdeal.defs _ _).mono (fun r h c => ⟨(h c).1.trans (funext fun j => ?_), (h c).2⟩) (Cert.RefGradDownIdeal.Value.run m' g')
  exact (Cert.RefGradDownIdeal.Hand.whole_at _ _ _ _ (fun j => (congrFun (hargs c).1 j).trans (hX c j)) (fun j => (congrFun (hargs c).2 j).trans (hY c j)) j).trans
    (Cert.GradDownIdeal.Hand.result_at m c _ _ (hX c) (hY c) j).symm
end Cert.Proof
end
-- ==== Proof.GradOut.lean ====
module

public import proofs.«01_k».proof.Proof.WeightGrad
public import proofs.«01_k».proof.Proof.Gen.GradOutIdeal.Value
public import proofs.«01_k».proof.Proof.Gen.RefGradOutIdeal.Run
public import Idealize.ShloMosaic.Lib.Pipeline.ValueKit

@[expose] public section

/-! The gradient of the output projection's weight: its blocks' products summed over the grid are the
    reference's one product over all tokens. -/

set_option maxRecDepth 16384

noncomputable section

namespace Cert.GradOutIdeal.Hand

open Cert.GradOutIdeal Cert.GradOutIdeal.Gen Cert.GradOutIdeal.Value Cert.WeightGrad
open Idealize.ShloMosaic Idealize.ShloMosaic.TcCoe Idealize.ShloMosaic.Tactic Idealize.SL.Sem Finset

theorem zero_apply (i : S1024x1024.Idx) : (k0_pay1 (F := Ideal)) i = 0 := by
  unfold k0_pay1
  exact Ideal.ofBits_zero_f32
/-- One point adds one block's product. -/
theorem add_apply (x : Vec Ideal S512x1024 .bf16) (o : Vec Ideal S1024x1024 .f32) (y : Vec Ideal S512x1024 .bf16) (i : Fin 1024) (j : Fin 1024) :
    k0_pay2 x o y (ix2 i j) = o (ix2 i j) + ∑ k : Fin 512, x (ix2 k i) * y (ix2 k j) := by
  unfold k0_pay2
  pointwise

theorem index0 : ∀ t : Fin cfg0.N, win0_0.index t = ![t.val % 16, t.val / 16] := (by decide +kernel : ∀ t : Fin grid0.N, win0_0.index t = ![t.val % 16, t.val / 16])
theorem index1 : ∀ t : Fin cfg0.N, win0_1.index t = ![t.val % 16, 0] := (by decide +kernel : ∀ t : Fin grid0.N, win0_1.index t = ![t.val % 16, 0])

section
variable (m : (ℓ : Loc nD τ sig) → Buf (Elt Ideal) ℓ) (c : Dev nD) (X Y : ℕ → ℕ → EReal)
  (hX : ∀ j : S8192x1024.Idx, (m ((c : Thread nD τ).loc main_arg0) : S8192x1024.Idx → EReal) j = X (j 0).val (j 1).val)
  (hY : ∀ j : S8192x1024.Idx, (m ((c : Thread nD τ).loc main_arg1) : S8192x1024.Idx → EReal) j = Y (j 0).val (j 1).val)

/-- The two blocks a point reads. -/
abbrev xBlk (t : Fin cfg0.N) : S512x1024.Idx → EReal := iblk m c 0 t
abbrev yBlk (t : Fin cfg0.N) : S512x1024.Idx → EReal := iblk m c 1 t

include hX in
theorem x_at (t : Fin cfg0.N) (k : Fin 512) (i : Fin 1024) : xBlk m c t (ix2 k i) = X (512 * (t.val % 16) + k.val) (1024 * (t.val / 16) + i.val) := by
  refine (hX (((cfg0.win 0).blk t).view.emb (ix2 k i))).trans ?_
  refine congrArg₂ X ?_ ?_
  · blk_simp [index0 t]; simp; omega
  · blk_simp [index0 t]; simp; omega
include hY in
theorem y_at (t : Fin cfg0.N) (k : Fin 512) (j : Fin 1024) : yBlk m c t (ix2 k j) = Y (512 * (t.val % 16) + k.val) j.val := by
  refine (hY (((cfg0.win 1).blk t).view.emb (ix2 k j))).trans ?_
  refine congrArg₂ Y ?_ ?_
  · blk_simp [index1 t]; simp; omega
  · blk_simp [index1 t]

/-- What point `n` adds, at an entry of its block. -/
def addend (n : ℕ) (i : S1024x1024.Idx) : EReal := tile X Y (n % 16) (1024 * (n / 16) + (i 0).val) (i 1).val
include hX hY
theorem point_at (n : ℕ) (h : n < cfg0.N) (i : Fin 1024) (j : Fin 1024) :
    ∑ k : Fin 512, xBlk m c ⟨n, h⟩ (ix2 k i) * yBlk m c ⟨n, h⟩ (ix2 k j) = addend X Y n (ix2 i j) := by
  refine (Finset.sum_congr rfl fun k _ => congrArg₂ (· * ·) (x_at m c X hX ⟨n, h⟩ k i) (y_at m c Y hY ⟨n, h⟩ k j)).trans ?_
  exact Cert.Ext.sum_all 512 (fun k => X (512 * (n % 16) + k) (1024 * (n / 16) + i.val) * Y (512 * (n % 16) + k) j.val)
theorem step_at (n : ℕ) (h : n < cfg0.N) (acc : Vec Ideal S1024x1024 .f32) (i : S1024x1024.Idx) : step2 m c n h acc i = acc i + addend X Y n i := by
  idx_vars i
  exact (add_apply _ _ _ _ _).trans (congrArg (acc (ix2 i0 i1) + ·) (point_at m c X Y hX hY n h i0 i1))
theorem reset_at (n : ℕ) (h : n < cfg0.N) (i : S1024x1024.Idx) : reset2 m c n h i = 0 + addend X Y n i := by
  idx_vars i
  exact (add_apply _ _ _ _ _).trans (congrArg₂ (· + ·) (zero_apply _) (point_at m c X Y hX hY n h i0 i1))

/-- The array a run ends with. -/
theorem result_at (j : S1024x1024.Idx) : G2 m c j = wgrad X Y (j 0).val (j 1).val := by
  have h0 : (j 0).val < 1024 := (j 0).isLt
  have h1 : (j 1).val < 1024 := (j 1).isLt
  have hr : run2Of j = (j 0).val / 1024 := by unfold run2Of; omega
  unfold G2
  rw [dif_pos (by rw [hr, show cfg0.N = 16 from N_0]; omega)]
  refine (Pipeline.accAt_add_apply (reset2 m c) (step2 m c) (fun _ => (0 : EReal)) (addend X Y) (16 * run2Of j) 15
    (fun h i => reset_at m c X Y hX hY _ h i) (fun n h acc i _ _ => step_at m c X Y hX hY n h acc i) 15 le_rfl _ (loc2Of j)).trans ?_
  rw [zero_add, hr, ← tiles]
  refine Finset.sum_congr rfl fun s hs => ?_
  have hs' := Finset.mem_range.1 hs
  unfold addend
  rw [show (16 * ((j 0).val / 1024) + s) % 16 = s by omega, show (16 * ((j 0).val / 1024) + s) / 16 = (j 0).val / 1024 by omega]
  show tile X Y s (1024 * ((j 0).val / 1024) + (j 0).val % 1024) ((j 1).val % 1024) = _
  rw [Nat.div_add_mod, Nat.mod_eq_of_lt h1]
end
end Cert.GradOutIdeal.Hand

namespace Cert.RefGradOutIdeal.Hand

open Cert.RefGradOutIdeal Cert.RefGradOutIdeal.Gen Cert.WeightGrad
open Idealize.ShloMosaic Idealize.ShloMosaic.Tactic Finset

/-- The reference's one product. -/
def whole (x : FVec Ideal S8192x1024 .bf16) (y : FVec Ideal S8192x1024 .bf16) : FVec Ideal S1024x1024 .f32 :=
  transpose S1024x1024 [1, 0] (Host.dotGeneral dot_S8192x1024_S8192x1024_S1024x1024_0_0_1_1_n_n none (extf .f32 y bitsLt_bf16_f32) (extf .f32 x bitsLt_bf16_f32) : FVec Ideal S1024x1024 .f32) transposes_S1024x1024_S1024x1024_1_0
theorem whole_at (x : FVec Ideal S8192x1024 .bf16) (y : FVec Ideal S8192x1024 .bf16) (X Y : ℕ → ℕ → EReal)
    (hX : ∀ j, x j = X (j 0).val (j 1).val) (hY : ∀ j, y j = Y (j 0).val (j 1).val) (j : S1024x1024.Idx) : whole x y j = wgrad X Y (j 0).val (j 1).val := by
  idx_vars j
  have e : whole x y (ix2 j0 j1) = ∑ k : Fin 8192, y (ix2 k j1) * x (ix2 k j0) := by
    unfold whole
    pointwise
  rw [e]
  refine (Finset.sum_congr rfl fun k _ => by rw [hX, hY, mul_comm]).trans ?_
  exact Cert.Ext.sum_all 8192 (fun k => X k j0.val * Y k j1.val)
end Cert.RefGradOutIdeal.Hand

namespace Cert.Proof

open Idealize.ShloMosaic Idealize.ShloMosaic.TcCoe

instance gradOutIdealFacts : Cert.GradOutIdeal.Facts := Cert.GradOutIdeal.Gen.facts
instance refGradOutFacts : Cert.RefGradOutIdeal.Facts := Cert.RefGradOutIdeal.Gen.facts

theorem algebraic_grad_out : Cert.algebraic_GradOutIdeal_RefGradOutIdeal := by
  intro m g m' g' _ hargs
  have hX := fun c : Dev Cert.GradOutIdeal.nD => entries_eq (a := 8192) (b := 1024) (m ((c.tc : Thread Cert.GradOutIdeal.nD Cert.GradOutIdeal.τ).loc Cert.GradOutIdeal.main_arg0))
  have hY := fun c : Dev Cert.GradOutIdeal.nD => entries_eq (a := 8192) (b := 1024) (m ((c.tc : Thread Cert.GradOutIdeal.nD Cert.GradOutIdeal.τ).loc Cert.GradOutIdeal.main_arg1))
  refine ⟨fun c => Cert.GradOutIdeal.Value.G2 m c, Cert.GradOutIdeal.Value.run m g, ?_⟩
  refine (θ_run Cert.RefGradOutIdeal.defs _ _).mono (fun r h c => ⟨(h c).1.trans (funext fun j => ?_), (h c).2⟩) (Cert.RefGradOutIdeal.Value.run m' g')
  exact (Cert.RefGradOutIdeal.Hand.whole_at _ _ _ _ (fun j => (congrFun (hargs c).1 j).trans (hX c j)) (fun j => (congrFun (hargs c).2 j).trans (hY c j)) j).trans
    (Cert.GradOutIdeal.Hand.result_at m c _ _ (hX c) (hY c) j).symm
end Cert.Proof
end
-- ==== Proof.GradInPoint.lean ====
module

public import proofs.«01_k».proof.Proof.WeightGrad
public import proofs.«01_k».proof.Proof.Gen.GradInIdeal.Value
public import Idealize.ShloMosaic.Lib.Pipeline.ValueKit
public import Idealize.ShloMosaic.Lib.Pipeline.ReadBack

@[expose] public section

/-! What one grid point of the input projection's weight gradient leaves in its block: the block's four groups of 640 columns
    are stored one after the other, each with one product added to it. -/

set_option maxRecDepth 16384

noncomputable section

namespace Cert.GradInIdeal.Hand

open Cert.GradInIdeal Cert.GradInIdeal.Gen Cert.GradInIdeal.Value Cert.WeightGrad
open Idealize.ShloMosaic Idealize.ShloMosaic.TcCoe Idealize.ShloMosaic.Tactic Idealize.SL.Sem Finset

theorem hz2 : (![0, 0] : Fin 2 → Nat) = fun _ => 0 := funext fun a => by fin_cases a <;> rfl
theorem zero_apply (i : S4x1024x640.Idx) : (k0_pay3 (F := Ideal)) i = 0 := by
  unfold k0_pay3
  exact Ideal.ofBits_zero_f32
/-- One group's product is added. -/
theorem add_apply (x : Vec Ideal S512x1024 .bf16) (o : Vec Ideal S1x1024x640 .f32) (y : Vec Ideal S512x640 .bf16) (z : Fin 1) (i : Fin 1024) (j : Fin 640) :
    k0_pay5 x o y (ix3 z i j) = o (ix3 z i j) + ∑ k : Fin 512, x (ix2 k i) * y (ix2 k j) := by
  obtain rfl : z = 0 := Subsingleton.elim _ _
  unfold k0_pay5 k0_pay4
  pointwise

/-- The whole block after the point, from the block before it. -/
def after (x : Vec Ideal S512x1024 .bf16) (o : Vec Ideal S4x1024x640 .f32) (y : Vec Ideal S512x2560 .bf16) : Vec Ideal S4x1024x640 .f32 :=
  fun i => o i + ∑ k : Fin 512, x (ix2 k (i 1)) * y (ix2 k ⟨640 * (i 0).val + (i 2).val, by have h0 : (i 0).val < 4 := (i 0).isLt; have h2 : (i 2).val < 640 := (i 2).isLt; omega⟩)

theorem pay6_eq (x : Vec Ideal S512x1024 .bf16) (o : Vec Ideal S1x1024x640 .f32) (y : Vec Ideal S512x640 .bf16) : k0_pay6 x o y = k0_pay5 x o y := rfl
theorem pay7_eq (x : Vec Ideal S512x1024 .bf16) (o : Vec Ideal S1x1024x640 .f32) (y : Vec Ideal S512x640 .bf16) : k0_pay1 (k0_pay7 x o y) = k0_pay5 x o y := rfl
theorem pay2_eq (x : Vec Ideal S512x1024 .bf16) (o : Vec Ideal S1x1024x640 .f32) (y : Vec Ideal S512x640 .bf16) : k0_pay2 (k0_pay4 x) o y = k0_pay5 x o y := rfl

/-- Group `j` of the block after the point. -/
theorem piece (x : Vec Ideal S512x1024 .bf16) (o : Vec Ideal S4x1024x640 .f32) (y : Vec Ideal S512x2560 .bf16) (j c : ℕ) (hj : j < 4) (hc : c = 640 * j)
    (inb : ∀ a, (![j, 0, 0] : Fin 3 → ℕ) a + (![1, 1024, 640] : Fin 3 → ℕ) a ≤ S4x1024x640.size a) (inb' : ∀ a, (![0, c] : Fin 2 → ℕ) a + (![512, 640] : Fin 2 → ℕ) a ≤ S512x2560.size a)
    (i : (Rect.unit (s := S4x1024x640) ![j, 0, 0] ![1, 1024, 640] inb).shape.Idx) :
    k0_pay5 x (View.ld o (Rect.unit (s := S4x1024x640) ![j, 0, 0] ![1, 1024, 640] inb)) (View.ld y (Rect.unit (s := S512x2560) ![0, c] ![512, 640] inb')) i
      = after x o y ((Rect.unit (s := S4x1024x640) ![j, 0, 0] ![1, 1024, 640] inb).emb i) := by
  subst hc
  revert i
  show ∀ i : S1x1024x640.Idx, _
  intro i
  idx_vars i
  refine (add_apply _ _ _ _ _ _).trans ?_
  unfold after
  refine congrArg₂ (· + ·) rfl (Finset.sum_congr rfl fun k _ => congrArg₂ (· * ·) ?_ ?_)
  · refine congrArg x (funext fun a => ?_)
    match a with
    | ⟨0, _⟩ => rfl
    | ⟨1, _⟩ => exact Fin.ext (show i1.val = 0 + 1 * i1.val by omega)
  · refine congrArg y (funext fun a => ?_)
    match a with
    | ⟨0, _⟩ => exact Fin.ext (show 0 + 1 * k.val = k.val by omega)
    | ⟨1, _⟩ => exact Fin.ext (show 640 * j + 1 * i2.val = 640 * (j + 1 * i0.val) + (0 + 1 * i2.val) by omega)

/-- The four stores of a point, last first. -/
abbrev groups (f3 f2 f1 f0 : S1x1024x640.Idx → EReal) : List (View.Piece (Elt Ideal) S4x1024x640 .f32) :=
  [⟨Rect.unit ![3, 0, 0] ![1, 1024, 640] inb_S4x1024x640_S1x1024x640_3_0_0, f3⟩, ⟨Rect.unit ![2, 0, 0] ![1, 1024, 640] inb_S4x1024x640_S1x1024x640_2_0_0, f2⟩,
   ⟨Rect.unit ![1, 0, 0] ![1, 1024, 640] inb_S4x1024x640_S1x1024x640_1_0_0, f1⟩, ⟨Rect.unit ![0, 0, 0] ![1, 1024, 640] inb_S4x1024x640_S1x1024x640_0_0_0, f0⟩]
/-- Every entry of the block is in one of them. -/
theorem covered (f3 f2 f1 f0 : S1x1024x640.Idx → EReal) (y : S4x1024x640.Idx) : ∃ p ∈ groups f3 f2 f1 f0, y ∈ p.1.set :=
  View.cover_of_tiledL (groups f3 f2 f1 f0) S1x1024x640.size (by sl_kernel_rfl) y
/-- So what they store is the whole block, whatever was stored before. -/
theorem groups_canon (G : S4x1024x640.Idx → EReal) (L : List (View.Piece (Elt Ideal) S4x1024x640 .f32)) (f3 f2 f1 f0 : S1x1024x640.Idx → EReal)
    (h3 : ∀ i, f3 i = G ((Rect.unit (s := S4x1024x640) ![3, 0, 0] ![1, 1024, 640] inb_S4x1024x640_S1x1024x640_3_0_0).emb i))
    (h2 : ∀ i, f2 i = G ((Rect.unit (s := S4x1024x640) ![2, 0, 0] ![1, 1024, 640] inb_S4x1024x640_S1x1024x640_2_0_0).emb i))
    (h1 : ∀ i, f1 i = G ((Rect.unit (s := S4x1024x640) ![1, 0, 0] ![1, 1024, 640] inb_S4x1024x640_S1x1024x640_1_0_0).emb i))
    (h0 : ∀ i, f0 i = G ((Rect.unit (s := S4x1024x640) ![0, 0, 0] ![1, 1024, 640] inb_S4x1024x640_S1x1024x640_0_0_0).emb i)) :
    View.canon (⟨Rect.unit ![3, 0, 0] ![1, 1024, 640] inb_S4x1024x640_S1x1024x640_3_0_0, f3⟩ :: ⟨Rect.unit ![2, 0, 0] ![1, 1024, 640] inb_S4x1024x640_S1x1024x640_2_0_0, f2⟩
      :: ⟨Rect.unit ![1, 0, 0] ![1, 1024, 640] inb_S4x1024x640_S1x1024x640_1_0_0, f1⟩ :: ⟨Rect.unit ![0, 0, 0] ![1, 1024, 640] inb_S4x1024x640_S1x1024x640_0_0_0, f0⟩ :: L) = G :=
  have hp : View.PiecesOf G (groups f3 f2 f1 f0) := ⟨h3, h2, h1, h0, trivial⟩
  funext fun y => View.canon_append_of_piecesOf (Val := Elt Ideal) (s := S4x1024x640) (e := .f32) G L (groups f3 f2 f1 f0) hp y (covered f3 f2 f1 f0 y)

section
variable (c : Dev nD) (i : grid0.Coords) (arg2 : Memref sig .tc .vmem S512x1024 .bf16) (harg2 : arg2.IsWhole) (arg3 : Memref sig .tc .vmem S512x2560 .bf16) (harg3 : arg3.IsWhole)
  (arg4 : Memref sig .tc .vmem S4x1024x640 .f32) (harg4 : arg4.IsWhole) (x0 : Vec Ideal S512x1024 .bf16) (x1 : Vec Ideal S512x2560 .bf16)

theorem out_B (hc0 : ¬cond0_0 i) (xo2 : Vec Ideal S4x1024x640 .f32) : out0_B_2 c i arg2 harg2 arg3 harg3 arg4 harg4 hc0 x0 x1 xo2 = after x0 xo2 x1 := by
  unfold out0_B_2
  rw [View.read_writes_eq_canon _ _ _ (cover0_B_2 c i arg2 harg2 arg3 harg3 arg4 harg4 hc0 x0 x1 xo2)]
  unfold kernelRun0_B
  dsimp only
  try sl_unfold_words
  simp only [View.readAt_eq_ld, harg2.read_unread, harg3.read_unread, harg4.read_unread, View.ld_unit_zero (S := S512x1024) hz2, shapeCast_self]
  rw [pay2_eq, pay7_eq, pay6_eq]
  exact groups_canon (after x0 xo2 x1) _ _ _ _ _ (piece x0 xo2 x1 3 1920 (by decide) rfl _ _) (piece x0 xo2 x1 2 1280 (by decide) rfl _ _)
    (piece x0 xo2 x1 1 640 (by decide) rfl _ _) (piece x0 xo2 x1 0 0 (by decide) rfl _ _)
theorem out_A (hc0 : cond0_0 i) : out0_A_2 c i arg2 harg2 arg3 harg3 arg4 harg4 hc0 x0 x1 = after x0 (k0_pay3 (F := Ideal)) x1 := by
  unfold out0_A_2
  rw [View.read_writes_eq_canon _ _ _ (cover0_A_2 c i arg2 harg2 arg3 harg3 arg4 harg4 hc0 x0 x1)]
  unfold kernelRun0_A
  dsimp only
  try sl_unfold_words
  simp only [View.readAt_eq_ld, harg2.read_unread, harg3.read_unread, View.ld_unit_zero (S := S512x1024) hz2, shapeCast_self]
  simp (disch := decide) only [↓ View.readCov_skip, ↓ View.readCov_fill]
  rw [pay2_eq, pay7_eq, pay6_eq]
  exact groups_canon (after x0 (k0_pay3 (F := Ideal)) x1) _ _ _ _ _ (piece x0 (k0_pay3 (F := Ideal)) x1 3 1920 (by decide) rfl _ _) (piece x0 (k0_pay3 (F := Ideal)) x1 2 1280 (by decide) rfl _ _)
    (piece x0 (k0_pay3 (F := Ideal)) x1 1 640 (by decide) rfl _ _) (piece x0 (k0_pay3 (F := Ideal)) x1 0 0 (by decide) rfl _ _)
end
end Cert.GradInIdeal.Hand
end
-- ==== Proof.GradIn.lean ====
module

public import proofs.«01_k».proof.Proof.GradInPoint
public import proofs.«01_k».proof.Proof.Gen.RefGradInIdeal.Run

@[expose] public section

/-! The gradient of the input projection's weight, in four groups of 640 columns: the blocks' products summed over the grid
    are the reference's one product over all tokens, cut into the same groups. -/

set_option maxRecDepth 16384

noncomputable section

namespace Cert.GradInIdeal.Hand

open Cert.GradInIdeal Cert.GradInIdeal.Gen Cert.GradInIdeal.Value Cert.WeightGrad
open Idealize.ShloMosaic Idealize.ShloMosaic.TcCoe Idealize.ShloMosaic.Tactic Idealize.SL.Sem Finset

theorem index0 : ∀ t : Fin cfg0.N, win0_0.index t = ![t.val % 16, t.val / 16] := (by decide +kernel : ∀ t : Fin grid0.N, win0_0.index t = ![t.val % 16, t.val / 16])
theorem index1 : ∀ t : Fin cfg0.N, win0_1.index t = ![t.val % 16, 0] := (by decide +kernel : ∀ t : Fin grid0.N, win0_1.index t = ![t.val % 16, 0])
theorem index2 : ∀ t : Fin cfg0.N, win0_2.index t = ![0, t.val / 16, 0] := (by decide +kernel : ∀ t : Fin grid0.N, win0_2.index t = ![0, t.val / 16, 0])

section
variable (m : (ℓ : Loc nD τ sig) → Buf (Elt Ideal) ℓ) (c : Dev nD) (X Y : ℕ → ℕ → EReal)
  (hX : ∀ j : S8192x1024.Idx, (m ((c : Thread nD τ).loc main_arg0) : S8192x1024.Idx → EReal) j = X (j 0).val (j 1).val)
  (hY : ∀ j : S8192x2560.Idx, (m ((c : Thread nD τ).loc main_arg1) : S8192x2560.Idx → EReal) j = Y (j 0).val (j 1).val)

/-- The two blocks a point reads. -/
abbrev xBlk (t : Fin cfg0.N) : S512x1024.Idx → EReal := iblk m c 0 t
abbrev yBlk (t : Fin cfg0.N) : S512x2560.Idx → EReal := iblk m c 1 t

include hX in
theorem x_at (t : Fin cfg0.N) (k : Fin 512) (i : Fin 1024) : xBlk m c t (ix2 k i) = X (512 * (t.val % 16) + k.val) (1024 * (t.val / 16) + i.val) := by
  refine (hX (((cfg0.win 0).blk t).view.emb (ix2 k i))).trans ?_
  refine congrArg₂ X ?_ ?_
  · blk_simp [index0 t]; simp; omega
  · blk_simp [index0 t]; simp; omega
include hY in
theorem y_at (t : Fin cfg0.N) (k : Fin 512) (j : Fin 2560) : yBlk m c t (ix2 k j) = Y (512 * (t.val % 16) + k.val) j.val := by
  refine (hY (((cfg0.win 1).blk t).view.emb (ix2 k j))).trans ?_
  refine congrArg₂ Y ?_ ?_
  · blk_simp [index1 t]; simp; omega
  · blk_simp [index1 t]

include hX hY
/-- One point adds its block's product to every group. -/
theorem after_at (t : Fin cfg0.N) (o : Vec Ideal S4x1024x640 .f32) (a : Fin 4) (b : Fin 1024) (d : Fin 640) :
    after (xBlk m c t) o (yBlk m c t) (ix3 a b d) = o (ix3 a b d) + tile X Y t.val b.val (640 * a.val + d.val) := by
  have ht : t.val < 16 := lt_of_lt_of_eq t.isLt N_0
  unfold after
  refine congrArg (o (ix3 a b d) + ·) ?_
  refine (Finset.sum_congr rfl fun k _ => congrArg₂ (· * ·) (x_at m c X hX t k b) (y_at m c Y hY t k ⟨640 * a.val + d.val, by omega⟩)).trans ?_
  rw [Nat.mod_eq_of_lt ht, Nat.div_eq_of_lt ht, Nat.mul_zero, Nat.zero_add]
  exact Cert.Ext.sum_all 512 (fun k => X (512 * t.val + k) b.val * Y (512 * t.val + k) (640 * a.val + d.val))
/-- After point `n` an entry is the sum of the blocks up to it. -/
theorem upto (n : ℕ) (h : n < cfg0.N) (a : Fin 4) (b : Fin 1024) (d : Fin 640) :
    outsAt0 m c n h (ix3 a b d) = ∑ s ∈ range (n + 1), tile X Y s b.val (640 * a.val + d.val) := by
  have hN : cfg0.N = 16 := N_0
  induction n with
  | zero =>
    rw [outsAt0_A m c ⟨0, h⟩ rfl, out_A]
    refine (after_at m c X Y hX hY ⟨0, h⟩ _ a b d).trans ?_
    rw [zero_apply, Finset.sum_range_succ, Finset.sum_range_zero]
  | succ n ih =>
    rw [outsAt0_B m c ⟨n + 1, h⟩ (show ¬(n + 1) % 16 = 0 by omega), out_B]
    refine (after_at m c X Y hX hY ⟨n + 1, h⟩ _ a b d).trans ?_
    rw [Finset.sum_range_succ]
    exact congrArg (· + _) (ih (Nat.lt_of_succ_lt h))

/-- The array a run ends with. -/
theorem result : (dats m 0 c).arrAt 2 cfg0.N = (fun j : S4x1024x640.Idx => wgrad X Y (j 1).val (640 * (j 0).val + (j 2).val)) := by
  refine (dats m 0 c).arrAt_eq_of_covers 2 _ (by decide +kernel) fun t hf y => ?_
  have ht : t.val < 16 := lt_of_lt_of_eq t.isLt N_0
  have hl := (flush0_2 t).1 hf
  have h15 : t.val = 15 := by omega
  blk_simp
  rw [after0_2]
  idx_vars y
  refine (upto m c X Y hX hY t.val t.isLt y0 y1 y2).trans ?_
  rw [index2 t, h15]
  refine (tiles X Y _ _).trans ?_
  refine congrArg₂ (wgrad X Y) ?_ ?_
  · simp
  · simp
end
end Cert.GradInIdeal.Hand

namespace Cert.RefGradInIdeal.Hand

open Cert.RefGradInIdeal Cert.RefGradInIdeal.Gen Cert.WeightGrad
open Idealize.ShloMosaic Idealize.ShloMosaic.Tactic Finset

/-- The reference's one product, and the same in its four groups. -/
def flat (x : FVec Ideal S8192x1024 .bf16) (y : FVec Ideal S8192x2560 .bf16) : FVec Ideal S1024x2560 .f32 :=
  transpose S1024x2560 [1, 0] (Host.dotGeneral dot_S8192x2560_S8192x1024_S2560x1024_0_0_1_1_n_n none (extf .f32 y bitsLt_bf16_f32) (extf .f32 x bitsLt_bf16_f32) : FVec Ideal S2560x1024 .f32) transposes_S2560x1024_S1024x2560_1_0
def whole (x : FVec Ideal S8192x1024 .bf16) (y : FVec Ideal S8192x2560 .bf16) : FVec Ideal S4x1024x640 .f32 :=
  transpose S4x1024x640 [1, 0, 2] (shapeCast S1024x4x640 (flat x y) shapeCasts_S1024x2560_S1024x4x640) transposes_S1024x4x640_S4x1024x640_1_0_2
theorem flat_at (x : FVec Ideal S8192x1024 .bf16) (y : FVec Ideal S8192x2560 .bf16) (X Y : ℕ → ℕ → EReal)
    (hX : ∀ j, x j = X (j 0).val (j 1).val) (hY : ∀ j, y j = Y (j 0).val (j 1).val) (j : S1024x2560.Idx) : flat x y j = wgrad X Y (j 0).val (j 1).val := by
  idx_vars j
  have e : flat x y (ix2 j0 j1) = ∑ k : Fin 8192, y (ix2 k j1) * x (ix2 k j0) := by
    unfold flat
    pointwise
  rw [e]
  refine (Finset.sum_congr rfl fun k _ => by rw [hX, hY, mul_comm]).trans ?_
  exact Cert.Ext.sum_all 8192 (fun k => X k j0.val * Y k j1.val)
theorem grouped (f : FVec Ideal S1024x2560 .f32) (a : Fin 4) (b : Fin 1024) (d : Fin 640) :
    transpose S4x1024x640 [1, 0, 2] (shapeCast S1024x4x640 f shapeCasts_S1024x2560_S1024x4x640) transposes_S1024x4x640_S4x1024x640_1_0_2 (ix3 a b d)
      = f (ix2 b ⟨640 * a.val + d.val, by omega⟩) := by
  pointwise
  exact congrArg (fun n => f (ix2 b n)) (Fin.ext (show a.val * 640 + d.val = 640 * a.val + d.val by omega))
theorem whole_at (x : FVec Ideal S8192x1024 .bf16) (y : FVec Ideal S8192x2560 .bf16) (X Y : ℕ → ℕ → EReal)
    (hX : ∀ j, x j = X (j 0).val (j 1).val) (hY : ∀ j, y j = Y (j 0).val (j 1).val) (j : S4x1024x640.Idx) : whole x y j = wgrad X Y (j 1).val (640 * (j 0).val + (j 2).val) := by
  idx_vars j
  exact (grouped _ j0 j1 j2).trans (flat_at x y X Y hX hY _)
end Cert.RefGradInIdeal.Hand

namespace Cert.Proof

open Idealize.ShloMosaic Idealize.ShloMosaic.TcCoe

instance gradInIdealFacts : Cert.GradInIdeal.Facts := Cert.GradInIdeal.Gen.facts
instance refGradInFacts : Cert.RefGradInIdeal.Facts := Cert.RefGradInIdeal.Gen.facts

theorem algebraic_grad_in : Cert.algebraic_GradInIdeal_RefGradInIdeal := by
  intro m g m' g' _ hargs
  have hX := fun c : Dev Cert.GradInIdeal.nD => entries_eq (a := 8192) (b := 1024) (m ((c.tc : Thread Cert.GradInIdeal.nD Cert.GradInIdeal.τ).loc Cert.GradInIdeal.main_arg0))
  have hY := fun c : Dev Cert.GradInIdeal.nD => entries_eq (a := 8192) (b := 2560) (m ((c.tc : Thread Cert.GradInIdeal.nD Cert.GradInIdeal.τ).loc Cert.GradInIdeal.main_arg1))
  refine ⟨fun c => _, Cert.GradInIdeal.Value.run_blocks m g, ?_⟩
  refine (θ_run Cert.RefGradInIdeal.defs _ _).mono (fun r h c => ⟨(h c).1.trans (funext fun j => ?_), (h c).2⟩) (Cert.RefGradInIdeal.Value.run m' g')
  exact (Cert.RefGradInIdeal.Hand.whole_at _ _ _ _ (fun j => (congrFun (hargs c).1 j).trans (hX c j)) (fun j => (congrFun (hargs c).2 j).trans (hY c j)) j).trans
    (congrFun (Cert.GradInIdeal.Hand.result m c _ _ (hX c) (hY c)) j).symm
end Cert.Proof
end
-- ==== Proof.FfnRow.lean ====
module

public import proofs.«01_k».proof.Proof.FwdResult

@[expose] public section

/-! One token's row through the gated layer, the norm after it and the squared error, over the extended reals. -/

noncomputable section

namespace Cert.FfnRow

open Idealize.ShloMosaic Finset

/-- A row of a matrix, and a matrix by its two indices. -/
abbrev row {a b : ℕ} (x : (⟨2, ![a, b]⟩ : Shape).Idx → EReal) (p : Fin a) : Fin b → EReal := fun k => x (ix2 p k)
abbrev mat {a b : ℕ} (x : (⟨2, ![a, b]⟩ : Shape).Idx → EReal) : Fin a → Fin b → EReal := fun k j => x (ix2 k j)

/-- The constants as the programs write them, and their values. -/
abbrev c1024 : EReal := Ideal.ofBits .f32 0x44800000#32
abbrev eps : EReal := Ideal.ofBits .f32 0x358637BD#32
abbrev one : EReal := Ideal.ofBits .f32 0x3F800000#32
theorem c1024_eq : c1024 = ((1024 : ℝ) : EReal) := by simp [c1024, Ideal.ofBits, Ideal.ieee, -EReal.coe_mul]; norm_num
theorem one_eq : one = ((1 : ℝ) : EReal) := by simp [one, Ideal.ofBits, Ideal.ieee, -EReal.coe_mul]; norm_num
theorem half_eq : Ideal.ofBits .f32 0x3F000000#32 = ((1 / 2 : ℝ) : EReal) := by simp [Ideal.ofBits, Ideal.ieee, -EReal.coe_mul]; norm_num
theorem two_eq : Ideal.ofBits .f32 0x40000000#32 = ((2 : ℝ) : EReal) := by simp [Ideal.ofBits, Ideal.ieee, -EReal.coe_mul]; norm_num
theorem k10_eq : Ideal.ofBits .f32 0x3A800000#32 = ((1 / 1024 : ℝ) : EReal) := by simp [Ideal.ofBits, Ideal.ieee, -EReal.coe_mul]; norm_num
theorem k11_eq : Ideal.ofBits .f32 0x3A000000#32 = ((1 / 2048 : ℝ) : EReal) := by simp [Ideal.ofBits, Ideal.ieee, -EReal.coe_mul]; norm_num

/-- A row times a matrix. -/
def prod {a b : ℕ} (x : Fin a → EReal) (w : Fin a → Fin b → EReal) (j : Fin b) : EReal := ∑ k, x k * w k j
/-- The gated activation. -/
def gated (g u : EReal) : EReal := g * Ideal.div one (one + Ideal.exp (-g)) * u
/-- The reciprocal of a row's root mean square, and the row divided by it. -/
def scale (f : Fin 1024 → EReal) : EReal := Ideal.rsqrt (Ideal.div (∑ i, f i * f i) c1024 + eps)
def normed (f : Fin 1024 → EReal) (i : Fin 1024) : EReal := f i * scale f
/-- The layer's activation, its output, and the error of the residual sum. -/
def act (x : Fin 1024 → EReal) (wg wu : Fin 1024 → Fin 2816 → EReal) (j : Fin 2816) : EReal := gated (prod x wg j) (prod x wu j)
def out (x : Fin 1024 → EReal) (wg wu : Fin 1024 → Fin 2816 → EReal) (wd : Fin 2816 → Fin 1024 → EReal) : Fin 1024 → EReal := prod (act x wg wu) wd
def err (n g h t : Fin 1024 → EReal) (i : Fin 1024) : EReal := (h i + n i * g i) - t i

/-- The error's gradient, as each side scales it. -/
theorem grad_scale (e : EReal) : e * Ideal.ofBits .f32 0x3A800000#32
    = Ideal.div (Ideal.ofBits .f32 0x3F000000#32 * one) c1024 * (Ideal.ofBits .f32 0x40000000#32 * e) := by
  rw [k10_eq, half_eq, one_eq, c1024_eq, two_eq, Ideal.div_coe (by norm_num), ← mul_assoc, ← EReal.coe_mul, ← EReal.coe_mul, ← EReal.coe_mul, mul_comm]
  norm_num
/-- The loss, as each side scales it. -/
theorem loss_scale {ι : Type} (s : Finset ι) (f : ι → EReal) : (∑ i ∈ s, f i) * Ideal.ofBits .f32 0x3A000000#32
    = Ideal.ofBits .f32 0x3F000000#32 * ∑ i ∈ s, Ideal.div (f i) c1024 := by
  rw [c1024_eq]
  simp only [Ideal.div_coe (show (1024 : ℝ) ≠ 0 by norm_num)]
  rw [← Cert.Ext.sum_factor s f _ (by exact_mod_cast (by norm_num : (0 : ℝ) ≤ 1 / 1024)) (EReal.coe_ne_top _), half_eq, k11_eq, mul_comm ((1 / 2 : ℝ) : EReal), mul_assoc, ← EReal.coe_mul]
  norm_num

/-! The call's results from its arguments: the tokens' inputs `A`, their residual rows `H` and targets `T`, the three weights
    and the last norm's gain. -/
section
variable (A H T : (⟨2, ![8192, 1024]⟩ : Shape).Idx → EReal) (G U : (⟨2, ![1024, 2816]⟩ : Shape).Idx → EReal) (D : (⟨2, ![2816, 1024]⟩ : Shape).Idx → EReal)
  (g : (⟨2, ![1, 1024]⟩ : Shape).Idx → EReal)
def nrm (n : Fin 8192) : Fin 1024 → EReal := normed (out (row A n) (mat G) (mat U) (mat D))
def er (n : Fin 8192) : Fin 1024 → EReal := err (nrm A G U D n) (row g 0) (row H n) (row T n)
def dh (n : Fin 8192) (i : Fin 1024) : EReal := er A H T G U D g n i * Ideal.ofBits .f32 0x3A800000#32
def dgain (i : Fin 1024) : EReal := ∑ n : Fin 8192, dh A H T G U D g n i * nrm A G U D n i
def loss : EReal := ∑ n : Fin 8192, (∑ i : Fin 1024, er A H T G U D g n i * er A H T G U D g n i) * Ideal.ofBits .f32 0x3A000000#32
end

/-- A row's number, in blocks of 256 rows. -/
def tok (s p : ℕ) (hs : s < 32) (hp : p < 256) : Fin 8192 := ⟨256 * s + p, by omega⟩
/-- What a block adds to a sum over the tokens, and the sum of the blocks. -/
def ext (f : Fin 8192 → EReal) (n : ℕ) : EReal := if h : n < 8192 then f ⟨n, h⟩ else 0
def part (f : Fin 8192 → EReal) (s : ℕ) : EReal := ∑ p ∈ Ico 0 256, ext f (256 * s + p)
theorem part_eq (f : Fin 8192 → EReal) (s : ℕ) (hs : s < 32) : ∑ p : Fin 256, f (tok s p.val hs p.isLt) = part f s := by
  unfold part
  rw [← Cert.Ext.sum_all 256 (fun p => ext f (256 * s + p))]
  refine Finset.sum_congr rfl fun p _ => ?_
  have hp := p.isLt
  unfold ext
  rw [dif_pos (by omega)]
  rfl
theorem parts_upto (f : Fin 8192 → EReal) (n : ℕ) : ∑ s ∈ range n, part f s = ∑ k ∈ Ico 0 (256 * n), ext f k := by
  induction n with
  | zero => simp
  | succ n ih =>
    rw [Finset.sum_range_succ, ih, part, Cert.Ext.sum_shift (ext f) (256 * n) 0 256, Nat.add_zero]
    exact Cert.Ext.sum_next (ext f) (by omega) (by omega)
theorem parts (f : Fin 8192 → EReal) : ∑ s ∈ range 32, part f s = ∑ n : Fin 8192, f n := by
  refine (parts_upto f 32).trans ((Cert.Ext.sum_all 8192 (ext f)).symm.trans (Finset.sum_congr rfl fun n _ => ?_))
  unfold ext
  rw [dif_pos n.isLt]
/-- The loss's factor goes into a block's sum. -/
theorem k11_sum {ι : Type} (s : Finset ι) (f : ι → EReal) : (∑ i ∈ s, f i) * Ideal.ofBits .f32 0x3A000000#32 = ∑ i ∈ s, f i * Ideal.ofBits .f32 0x3A000000#32 := by
  rw [k11_eq]
  exact Cert.Ext.sum_factor s f _ (by exact_mod_cast (by norm_num : (0 : ℝ) ≤ 1 / 2048)) (EReal.coe_ne_top _)
end Cert.FfnRow
end
-- ==== Proof.FfnPay.lean ====
module

public import proofs.«01_k».proof.Proof.FfnRow
public import proofs.«01_k».proof.Proof.Gen.FfnIdeal.Value
public import Idealize.ShloMosaic.Lib.Pointwise

@[expose] public section

/-! The values one grid point of the gated layer's forward computes, row by row. -/

set_option maxRecDepth 16384

noncomputable section

namespace Cert.FfnIdeal.Hand

open Cert.FfnIdeal Cert.FfnIdeal.Gen Cert.FfnRow
open Idealize.ShloMosaic Idealize.ShloMosaic.Tactic Finset

section
variable (x : Vec Ideal S256x1024 .bf16) (wg wu : Vec Ideal S1024x2816 .bf16) (wd : Vec Ideal S2816x1024 .bf16)

theorem pay2_at (p : Fin 256) (j : Fin 2816) : k0_pay2 x wg (ix2 p j) = prod (row x p) (mat wg) j := by
  unfold k0_pay2 prod
  pointwise
theorem pay3_at (p : Fin 256) (j : Fin 2816) : k0_pay3 x wu (ix2 p j) = prod (row x p) (mat wu) j := by
  unfold k0_pay3 prod
  pointwise
theorem pay4_at (p : Fin 256) (j : Fin 2816) : k0_pay4 x wg wu (ix2 p j) = act (row x p) (mat wg) (mat wu) j := by
  have e : k0_pay4 x wg wu (ix2 p j) = k0_pay2 x wg (ix2 p j) * Ideal.div one (one + Ideal.exp (Ideal.ofBits .f32 0x00000000#32 - k0_pay2 x wg (ix2 p j))) * k0_pay3 x wu (ix2 p j) := rfl
  rw [e, pay2_at, pay3_at, Ideal.ofBits_zero_f32, zero_sub]
  rfl
theorem pay5_at (p : Fin 256) (j : Fin 2816) : k0_pay5 x wg (ix2 p j) = prod (row x p) (mat wg) j := pay2_at x wg p j
theorem pay6_at (p : Fin 256) (j : Fin 2816) : k0_pay6 x wu (ix2 p j) = prod (row x p) (mat wu) j := pay3_at x wu p j
theorem pay7_at (p : Fin 256) (i : Fin 1024) : k0_pay7 x wg wu wd (ix2 p i) = out (row x p) (mat wg) (mat wu) (mat wd) i := by
  have e : k0_pay7 x wg wu wd (ix2 p i) = ∑ k : Fin 2816, k0_pay4 x wg wu (ix2 p k) * wd (ix2 k i) := by
    unfold k0_pay7
    pointwise
  rw [e]
  exact Finset.sum_congr rfl fun k _ => congrArg (· * _) (pay4_at x wg wu p k)
theorem pay8_at (p : Fin 256) (z : Fin 1) : k0_pay8 x wg wu wd (ix2 p z) = scale (out (row x p) (mat wg) (mat wu) (mat wd)) := by
  have e : k0_pay8 x wg wu wd (ix2 p z) = scale (fun i => k0_pay7 x wg wu wd (ix2 p i)) := by
    unfold k0_pay8 scale
    generalize k0_pay7 x wg wu wd = f
    pointwise
  rw [e, funext (pay7_at x wg wu wd p)]
theorem pay9_at (p : Fin 256) (i : Fin 1024) : k0_pay9 x wg wu wd (ix2 p i) = normed (out (row x p) (mat wg) (mat wu) (mat wd)) i := by
  have e : k0_pay9 x wg wu wd (ix2 p i) = k0_pay7 x wg wu wd (ix2 p i) * k0_pay8 x wg wu wd (ix2 p 0) := by
    unfold k0_pay9
    generalize k0_pay7 x wg wu wd = f
    generalize k0_pay8 x wg wu wd = r
    pointwise
  rw [e, pay7_at, pay8_at]
  rfl
end

section
variable (n : Vec Ideal S256x1024 .f32) (g : Vec Ideal S1x1024 .f32) (h t : Vec Ideal S256x1024 .f32)

theorem pay10_at (p : Fin 256) (i : Fin 1024) : k0_pay10 n g h t (ix2 p i) = err (row n p) (row g 0) (row h p) (row t p) i := by
  unfold k0_pay10 err
  pointwise
theorem pay11_at (p : Fin 256) (i : Fin 1024) : k0_pay11 n g h t (ix2 p i) = err (row n p) (row g 0) (row h p) (row t p) i * Ideal.ofBits .f32 0x3A800000#32 := by
  rw [← pay10_at]
  rfl
theorem pay15_at (o : Vec Ideal S1x1024 .f32) (z : Fin 1) (i : Fin 1024) :
    k0_pay15 n g h t o (ix2 z i) = o (ix2 z i) + ∑ p : Fin 256, k0_pay11 n g h t (ix2 p i) * n (ix2 p i) := by
  obtain rfl : z = 0 := Subsingleton.elim _ _
  unfold k0_pay15
  generalize k0_pay11 n g h t = f
  pointwise
theorem pay1_at (o : Vec Ideal S1x128 .f32) (z : Fin 1) (i : Fin 128) :
    k0_pay1 (k0_pay16 n g h t) o (ix2 z i) = o (ix2 z i) + (∑ p : Fin 256, ∑ j : Fin 1024, k0_pay10 n g h t (ix2 p j) * k0_pay10 n g h t (ix2 p j)) * Ideal.ofBits .f32 0x3A000000#32 := by
  obtain rfl : z = 0 := Subsingleton.elim _ _
  unfold k0_pay1 k0_pay16
  generalize k0_pay10 n g h t = f
  pointwise
theorem zero13 (i : S1x1024.Idx) : (k0_pay13 (F := Ideal)) i = 0 := by
  unfold k0_pay13
  exact Ideal.ofBits_zero_f32
theorem zero14 (i : S1x128.Idx) : (k0_pay14 (F := Ideal)) i = 0 := by
  unfold k0_pay14
  exact Ideal.ofBits_zero_f32
end
end Cert.FfnIdeal.Hand
end
-- ==== Proof.FfnPoint.lean ====
module

public import proofs.«01_k».proof.Proof.FfnPay
public import Idealize.ShloMosaic.Lib.Pipeline.ValueKit
public import Idealize.ShloMosaic.Lib.Pipeline.ReadBack

@[expose] public section

/-! What one grid point of the gated layer's forward leaves in each of its blocks: the first point begins the two sums at
    zero, a later one goes on from the point before. -/

set_option maxRecDepth 16384

noncomputable section

namespace Cert.FfnIdeal.Hand

open Cert.FfnIdeal Cert.FfnIdeal.Gen Cert.FfnIdeal.Value Cert.FfnRow
open Idealize.ShloMosaic Idealize.ShloMosaic.TcCoe Idealize.ShloMosaic.Tactic Idealize.SL.Sem Finset

theorem hz2 : (![0, 0] : Fin 2 → Nat) = fun _ => 0 := funext fun a => by fin_cases a <;> rfl

section
variable (c : Dev nD) (i : grid0.Coords) (arg1 : Memref sig .tc .vmem S256x1024 .bf16) (harg1 : arg1.IsWhole) (arg2 : Memref sig .tc .vmem S256x1024 .f32) (harg2 : arg2.IsWhole) (arg3 : Memref sig .tc .vmem S256x1024 .f32) (harg3 : arg3.IsWhole) (arg4 : Memref sig .tc .vmem S1024x2816 .bf16) (harg4 : arg4.IsWhole) (arg5 : Memref sig .tc .vmem S1024x2816 .bf16) (harg5 : arg5.IsWhole) (arg6 : Memref sig .tc .vmem S2816x1024 .bf16) (harg6 : arg6.IsWhole) (arg7 : Memref sig .tc .vmem S1x1024 .f32) (harg7 : arg7.IsWhole) (arg8 : Memref sig .tc .vmem S256x1024 .bf16) (harg8 : arg8.IsWhole) (arg9 : Memref sig .tc .vmem S256x1024 .f32) (harg9 : arg9.IsWhole) (arg10 : Memref sig .tc .vmem S1x1024 .f32) (harg10 : arg10.IsWhole) (arg11 : Memref sig .tc .vmem S1x128 .f32) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x2816 .bf16) (harg14 : arg14.IsWhole)
  (x0 : Vec Ideal S256x1024 .bf16) (x1 : Vec Ideal S256x1024 .f32) (x2 : Vec Ideal S256x1024 .f32) (x3 : Vec Ideal S1024x2816 .bf16) (x4 : Vec Ideal S1024x2816 .bf16) (x5 : Vec Ideal S2816x1024 .bf16) (x6 : Vec Ideal S1x1024 .f32)
theorem outA_8 (hc0 : cond0_0 i) : out0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay11 (k0_pay9 x0 x3 x4 x5) x6 x1 x2 := by
  unfold out0_A_8
  rw [View.read_writes_eq_canon _ _ _ (cover0_A_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outA_9 (hc0 : cond0_0 i) : out0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay15 (k0_pay9 x0 x3 x4 x5) x6 x1 x2 (k0_pay13 (F := Ideal)) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_cons_unit_zero (S := S1x1024) hz2, View.readCov_unit_zero (S := S1x1024) _ hz2]
theorem outA_10 (hc0 : cond0_0 i) : out0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay1 (k0_pay16 (k0_pay9 x0 x3 x4 x5) x6 x1 x2) (k0_pay14 (F := Ideal)) := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_cons_unit_zero (S := S1x128) hz2, View.readCov_unit_zero (S := S1x128) _ hz2]
theorem outA_11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay5 x0 x3 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outA_12 (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay6 x0 x4 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outA_13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 = k0_pay4 x0 x3 x4 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6)]
  unfold kernelRun0_A
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outB_8 (hc0 : ¬cond0_0 i) (xo9 : Vec Ideal S1x1024 .f32) (xo10 : Vec Ideal S1x128 .f32) : out0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay11 (k0_pay9 x0 x3 x4 x5) x6 x1 x2 := by
  unfold out0_B_8
  rw [View.read_writes_eq_canon _ _ _ (cover0_B_8 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10)]
  unfold kernelRun0_B
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outB_9 (hc0 : ¬cond0_0 i) (xo9 : Vec Ideal S1x1024 .f32) (xo10 : Vec Ideal S1x128 .f32) : out0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay15 (k0_pay9 x0 x3 x4 x5) x6 x1 x2 xo9 := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10)]
  unfold kernelRun0_B
  dsimp only
  try sl_unfold_words
  simp only [View.readAt_eq_ld, harg1.read_unread, harg2.read_unread, harg3.read_unread, harg4.read_unread, harg5.read_unread, harg6.read_unread, harg7.read_unread, harg10.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outB_10 (hc0 : ¬cond0_0 i) (xo9 : Vec Ideal S1x1024 .f32) (xo10 : Vec Ideal S1x128 .f32) : out0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay1 (k0_pay16 (k0_pay9 x0 x3 x4 x5) x6 x1 x2) xo10 := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10)]
  unfold kernelRun0_B
  dsimp only
  try sl_unfold_words
  simp only [View.readAt_eq_ld, harg1.read_unread, harg2.read_unread, harg3.read_unread, harg4.read_unread, harg5.read_unread, harg6.read_unread, harg7.read_unread, harg11.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outB_11 (hc0 : ¬cond0_0 i) (xo9 : Vec Ideal S1x1024 .f32) (xo10 : Vec Ideal S1x128 .f32) : out0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay5 x0 x3 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10)]
  unfold kernelRun0_B
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outB_12 (hc0 : ¬cond0_0 i) (xo9 : Vec Ideal S1x1024 .f32) (xo10 : Vec Ideal S1x128 .f32) : out0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay6 x0 x4 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10)]
  unfold kernelRun0_B
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
theorem outB_13 (hc0 : ¬cond0_0 i) (xo9 : Vec Ideal S1x1024 .f32) (xo10 : Vec Ideal S1x128 .f32) : out0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10 = k0_pay4 x0 x3 x4 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 xo9 xo10)]
  unfold kernelRun0_B
  dsimp only
  try sl_unfold_words
  simp only [View.readAt_eq_ld, harg1.read_unread, harg2.read_unread, harg3.read_unread, harg4.read_unread, harg5.read_unread, harg6.read_unread, harg7.read_unread, View.ld_unit_zero (S := S256x1024) hz2, View.ld_unit_zero (S := S1024x2816) hz2, View.ld_unit_zero (S := S2816x1024) hz2, View.ld_unit_zero (S := S1x1024) hz2, View.ld_unit_zero (S := S1x128) hz2, shapeCast_self]
  rw [View.canon_unit_zero hz2]
end
end Cert.FfnIdeal.Hand
end
-- ==== Proof.FfnResult.lean ====
module

public import proofs.«01_k».proof.Proof.FfnPoint

@[expose] public section

/-! The arrays the gated layer's forward ends with: every block's rows are the layer's rows, and the two sums over the grid
    are sums over all tokens. -/

set_option maxRecDepth 16384

noncomputable section

namespace Cert.FfnIdeal.Hand

open Cert.FfnIdeal Cert.FfnIdeal.Gen Cert.FfnIdeal.Value Cert.FfnRow
open Idealize.ShloMosaic Idealize.ShloMosaic.TcCoe Idealize.ShloMosaic.Tactic Idealize.SL.Sem Finset

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index8 : ∀ t : Fin cfg0.N, win0_8.index t = ![t.val, 0] := (by decide +kernel : ∀ t : Fin grid0.N, win0_8.index t = ![t.val, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![t.val, 0] := (by decide +kernel : ∀ t : Fin grid0.N, win0_13.index t = ![t.val, 0])

section
variable (m : (ℓ : Loc nD τ sig) → Buf (Elt Ideal) ℓ) (c : Dev nD)

/-- The arguments, and the blocks of them a point reads. -/
abbrev argA : S8192x1024.Idx → EReal := m ((c : Thread nD τ).loc main_arg0)
abbrev argH : S8192x1024.Idx → EReal := m ((c : Thread nD τ).loc main_arg1)
abbrev argT : S8192x1024.Idx → EReal := m ((c : Thread nD τ).loc main_arg2)
abbrev argG : S1024x2816.Idx → EReal := m ((c : Thread nD τ).loc main_arg3)
abbrev argU : S1024x2816.Idx → EReal := m ((c : Thread nD τ).loc main_arg4)
abbrev argD : S2816x1024.Idx → EReal := m ((c : Thread nD τ).loc main_arg5)
abbrev argg : S1x1024.Idx → EReal := m ((c : Thread nD τ).loc main_arg6)
abbrev blkA (t : Fin cfg0.N) : Vec Ideal S256x1024 .bf16 := iblk m c 0 t
abbrev blkH (t : Fin cfg0.N) : Vec Ideal S256x1024 .f32 := iblk m c 1 t
abbrev blkT (t : Fin cfg0.N) : Vec Ideal S256x1024 .f32 := iblk m c 2 t
abbrev blkG (t : Fin cfg0.N) : Vec Ideal S1024x2816 .bf16 := iblk m c 3 t
abbrev blkU (t : Fin cfg0.N) : Vec Ideal S1024x2816 .bf16 := iblk m c 4 t
abbrev blkD (t : Fin cfg0.N) : Vec Ideal S2816x1024 .bf16 := iblk m c 5 t
abbrev blkg (t : Fin cfg0.N) : Vec Ideal S1x1024 .f32 := iblk m c 6 t
theorem lt32 (t : Fin cfg0.N) : t.val < 32 := lt_of_lt_of_eq t.isLt N_0
theorem rowA (t : Fin cfg0.N) (p : Fin 256) : row (blkA m c t) p = row (argA m c) (tok t.val p.val (lt32 t) p.isLt) := by
  refine funext fun k => congrArg (argA m c) (funext fun a => ?_)
  match a with
  | ⟨0, _⟩ => refine Fin.ext ?_; show ((((cfg0.win 0).blk t).view.emb (ix2 p k)) 0).val = 256 * t.val + p.val; blk_simp [index0 t]; simp; omega
  | ⟨1, _⟩ => refine Fin.ext ?_; show ((((cfg0.win 0).blk t).view.emb (ix2 p k)) 1).val = k.val; blk_simp [index0 t]
theorem rowH (t : Fin cfg0.N) (p : Fin 256) : row (blkH m c t) p = row (argH m c) (tok t.val p.val (lt32 t) p.isLt) := by
  refine funext fun k => congrArg (argH m c) (funext fun a => ?_)
  match a with
  | ⟨0, _⟩ => refine Fin.ext ?_; show ((((cfg0.win 1).blk t).view.emb (ix2 p k)) 0).val = 256 * t.val + p.val; blk_simp [index1 t]; simp; omega
  | ⟨1, _⟩ => refine Fin.ext ?_; show ((((cfg0.win 1).blk t).view.emb (ix2 p k)) 1).val = k.val; blk_simp [index1 t]
theorem rowT (t : Fin cfg0.N) (p : Fin 256) : row (blkT m c t) p = row (argT m c) (tok t.val p.val (lt32 t) p.isLt) := by
  refine funext fun k => congrArg (argT m c) (funext fun a => ?_)
  match a with
  | ⟨0, _⟩ => refine Fin.ext ?_; show ((((cfg0.win 2).blk t).view.emb (ix2 p k)) 0).val = 256 * t.val + p.val; blk_simp [index2 t]; simp; omega
  | ⟨1, _⟩ => refine Fin.ext ?_; show ((((cfg0.win 2).blk t).view.emb (ix2 p k)) 1).val = k.val; blk_simp [index2 t]
theorem allG (t : Fin cfg0.N) : blkG m c t = argG m c := by
  refine funext fun j => congrArg (argG m c) (funext fun a => ?_)
  match a with
  | ⟨0, _⟩ => refine Fin.ext ?_; show ((((cfg0.win 3).blk t).view.emb j) 0).val = (j 0).val; blk_simp [index3 t]
  | ⟨1, _⟩ => refine Fin.ext ?_; show ((((cfg0.win 3).blk t).view.emb j) 1).val = (j 1).val; blk_simp [index3 t]
theorem allU (t : Fin cfg0.N) : blkU m c t = argU m c := by
  refine funext fun j => congrArg (argU m c) (funext fun a => ?_)
  match a with
  | ⟨0, _⟩ => refine Fin.ext ?_; show ((((cfg0.win 4).blk t).view.emb j) 0).val = (j 0).val; blk_simp [index4 t]
  | ⟨1, _⟩ => refine Fin.ext ?_; show ((((cfg0.win 4).blk t).view.emb j) 1).val = (j 1).val; blk_simp [index4 t]
theorem allD (t : Fin cfg0.N) : blkD m c t = argD m c := by
  refine funext fun j => congrArg (argD m c) (funext fun a => ?_)
  match a with
  | ⟨0, _⟩ => refine Fin.ext ?_; show ((((cfg0.win 5).blk t).view.emb j) 0).val = (j 0).val; blk_simp [index5 t]
  | ⟨1, _⟩ => refine Fin.ext ?_; show ((((cfg0.win 5).blk t).view.emb j) 1).val = (j 1).val; blk_simp [index5 t]
theorem allg (t : Fin cfg0.N) : blkg m c t = argg m c := by
  refine funext fun j => congrArg (argg m c) (funext fun a => ?_)
  match a with
  | ⟨0, _⟩ => refine Fin.ext ?_; show ((((cfg0.win 6).blk t).view.emb j) 0).val = (j 0).val; blk_simp [index6 t]
  | ⟨1, _⟩ => refine Fin.ext ?_; show ((((cfg0.win 6).blk t).view.emb j) 1).val = (j 1).val; blk_simp [index6 t]

/-- What a point stores, by its tokens. -/
theorem nrm_at (t : Fin cfg0.N) (p : Fin 256) : row (k0_pay9 (blkA m c t) (blkG m c t) (blkU m c t) (blkD m c t)) p = nrm (argA m c) (argG m c) (argU m c) (argD m c) (tok t.val p.val (lt32 t) p.isLt) := by
  funext i
  refine (pay9_at _ _ _ _ p i).trans ?_
  rw [rowA m c t p, allG, allU, allD]
  rfl
theorem er_at (t : Fin cfg0.N) (p : Fin 256) (i : Fin 1024) :
    k0_pay10 (k0_pay9 (blkA m c t) (blkG m c t) (blkU m c t) (blkD m c t)) (blkg m c t) (blkH m c t) (blkT m c t) (ix2 p i)
      = er (argA m c) (argH m c) (argT m c) (argG m c) (argU m c) (argD m c) (argg m c) (tok t.val p.val (lt32 t) p.isLt) i := by
  refine (pay10_at _ _ _ _ p i).trans ?_
  rw [nrm_at m c t p, rowH m c t p, rowT m c t p, allg]
  rfl
theorem dh_at (t : Fin cfg0.N) (p : Fin 256) (i : Fin 1024) :
    k0_pay11 (k0_pay9 (blkA m c t) (blkG m c t) (blkU m c t) (blkD m c t)) (blkg m c t) (blkH m c t) (blkT m c t) (ix2 p i)
      = dh (argA m c) (argH m c) (argT m c) (argG m c) (argU m c) (argD m c) (argg m c) (tok t.val p.val (lt32 t) p.isLt) i :=
  congrArg (· * Ideal.ofBits .f32 0x3A800000#32) (er_at m c t p i)

/-- What a token adds to the gain's gradient and to the loss. -/
def gainOf (i : Fin 1024) (n : Fin 8192) : EReal :=
  dh (argA m c) (argH m c) (argT m c) (argG m c) (argU m c) (argD m c) (argg m c) n i * nrm (argA m c) (argG m c) (argU m c) (argD m c) n i
def lossOf (n : Fin 8192) : EReal :=
  (∑ i : Fin 1024, er (argA m c) (argH m c) (argT m c) (argG m c) (argU m c) (argD m c) (argg m c) n i * er (argA m c) (argH m c) (argT m c) (argG m c) (argU m c) (argD m c) (argg m c) n i)
    * Ideal.ofBits .f32 0x3A000000#32
theorem gain_step (t : Fin cfg0.N) (o : Vec Ideal S1x1024 .f32) (z : Fin 1) (i : Fin 1024) :
    k0_pay15 (k0_pay9 (blkA m c t) (blkG m c t) (blkU m c t) (blkD m c t)) (blkg m c t) (blkH m c t) (blkT m c t) o (ix2 z i) = o (ix2 z i) + part (gainOf m c i) t.val := by
  refine (pay15_at _ _ _ _ o z i).trans (congrArg (o (ix2 z i) + ·) ?_)
  rw [← part_eq (gainOf m c i) t.val (lt32 t)]
  exact Finset.sum_congr rfl fun p _ => congrArg₂ (· * ·) (dh_at m c t p i) (congrFun (nrm_at m c t p) i)
theorem loss_step (t : Fin cfg0.N) (o : Vec Ideal S1x128 .f32) (z : Fin 1) (i : Fin 128) :
    k0_pay1 (k0_pay16 (k0_pay9 (blkA m c t) (blkG m c t) (blkU m c t) (blkD m c t)) (blkg m c t) (blkH m c t) (blkT m c t)) o (ix2 z i) = o (ix2 z i) + part (lossOf m c) t.val := by
  refine (pay1_at _ _ _ _ o z i).trans (congrArg (o (ix2 z i) + ·) ?_)
  rw [← part_eq (lossOf m c) t.val (lt32 t), k11_sum]
  exact Finset.sum_congr rfl fun p _ => congrArg (· * _) (Finset.sum_congr rfl fun i _ => congrArg₂ (· * ·) (er_at m c t p i) (er_at m c t p i))

/-- After point `n` the two sums are those of the blocks up to it. -/
theorem gain_upto (n : ℕ) (h : n < cfg0.N) (z : Fin 1) (i : Fin 1024) : (outsAt0 m c n h).2.2.1 (ix2 z i) = ∑ s ∈ range (n + 1), part (gainOf m c i) s := by
  have hN : cfg0.N = 32 := N_0
  induction n with
  | zero =>
    rw [outsAt0_A m c ⟨0, h⟩ rfl]
    dsimp only
    rw [outA_9]
    refine (gain_step m c ⟨0, h⟩ _ z i).trans ?_
    rw [zero13, Finset.sum_range_succ, Finset.sum_range_zero]
  | succ n ih =>
    rw [outsAt0_B m c ⟨n + 1, h⟩ (show ¬(n + 1) % 32 = 0 by omega)]
    dsimp only
    rw [outB_9]
    refine (gain_step m c ⟨n + 1, h⟩ _ z i).trans ?_
    rw [Finset.sum_range_succ]
    exact congrArg (· + _) (ih (Nat.lt_of_succ_lt h))
theorem loss_upto (n : ℕ) (h : n < cfg0.N) (z : Fin 1) (i : Fin 128) : (outsAt0 m c n h).2.2.2.1 (ix2 z i) = ∑ s ∈ range (n + 1), part (lossOf m c) s := by
  have hN : cfg0.N = 32 := N_0
  induction n with
  | zero =>
    rw [outsAt0_A m c ⟨0, h⟩ rfl]
    dsimp only
    rw [outA_10]
    refine (loss_step m c ⟨0, h⟩ _ z i).trans ?_
    rw [zero14, Finset.sum_range_succ, Finset.sum_range_zero]
  | succ n ih =>
    rw [outsAt0_B m c ⟨n + 1, h⟩ (show ¬(n + 1) % 32 = 0 by omega)]
    dsimp only
    rw [outB_10]
    refine (loss_step m c ⟨n + 1, h⟩ _ z i).trans ?_
    rw [Finset.sum_range_succ]
    exact congrArg (· + _) (ih (Nat.lt_of_succ_lt h))

/-- The row blocks after a point, whichever it is. -/
theorem rows8 (t : Fin cfg0.N) : (outsAt0 m c t.val t.isLt).2.1 = k0_pay11 (k0_pay9 (blkA m c t) (blkG m c t) (blkU m c t) (blkD m c t)) (blkg m c t) (blkH m c t) (blkT m c t) := by
  by_cases h : t.val % 32 = 0
  · rw [outsAt0_A m c t h]; dsimp only; rw [outA_8]
  · rw [outsAt0_B m c t h]; dsimp only; rw [outB_8]
theorem rows11 (t : Fin cfg0.N) : (outsAt0 m c t.val t.isLt).2.2.2.2.1 = k0_pay5 (blkA m c t) (blkG m c t) := by
  by_cases h : t.val % 32 = 0
  · rw [outsAt0_A m c t h]; dsimp only; rw [outA_11]
  · rw [outsAt0_B m c t h]; dsimp only; rw [outB_11]
theorem rows12 (t : Fin cfg0.N) : (outsAt0 m c t.val t.isLt).2.2.2.2.2.1 = k0_pay6 (blkA m c t) (blkU m c t) := by
  by_cases h : t.val % 32 = 0
  · rw [outsAt0_A m c t h]; dsimp only; rw [outA_12]
  · rw [outsAt0_B m c t h]; dsimp only; rw [outB_12]
theorem rows13 (t : Fin cfg0.N) : (outsAt0 m c t.val t.isLt).2.2.2.2.2.2 = k0_pay4 (blkA m c t) (blkG m c t) (blkU m c t) := by
  by_cases h : t.val % 32 = 0
  · rw [outsAt0_A m c t h]; dsimp only; rw [outA_13]
  · rw [outsAt0_B m c t h]; dsimp only; rw [outB_13]

/-! The six arrays. -/
theorem result8 : (dats m 0 c).arrAt 8 cfg0.N = (fun j : S8192x1024.Idx => dh (argA m c) (argH m c) (argT m c) (argG m c) (argU m c) (argD m c) (argg m c) (j 0) (j 1)) := by
  refine (dats m 0 c).arrAt_eq_of_covers 8 _ (by decide +kernel) fun t hf y => ?_
  blk_simp
  rw [after0_8, rows8]
  idx_vars y
  refine (dh_at m c t y0 y1 : _ = _).trans ?_
  refine congrArg₂ (dh (argA m c) (argH m c) (argT m c) (argG m c) (argU m c) (argD m c) (argg m c)) (Fin.ext ?_) (Fin.ext ?_)
  · show 256 * t.val + y0.val = ((((cfg0.win 8).blk t).view.emb (ix2 y0 y1)) 0).val; blk_simp [index8 t]; simp; omega
  · show y1.val = ((((cfg0.win 8).blk t).view.emb (ix2 y0 y1)) 1).val; blk_simp [index8 t]
theorem result11 : (dats m 0 c).arrAt 11 cfg0.N = (fun j : S8192x2816.Idx => prod (row (argA m c) (j 0)) (mat (argG m c)) (j 1)) := by
  refine (dats m 0 c).arrAt_eq_of_covers 11 _ (by decide +kernel) fun t hf y => ?_
  blk_simp
  rw [after0_11, rows11]
  idx_vars y
  refine ((pay5_at _ _ y0 y1).trans (by rw [rowA m c t y0, allG]) : _ = _).trans ?_
  refine congrArg₂ ((fun n => prod (row (argA m c) n) (mat (argG m c)))) (Fin.ext ?_) (Fin.ext ?_)
  · show 256 * t.val + y0.val = ((((cfg0.win 11).blk t).view.emb (ix2 y0 y1)) 0).val; blk_simp [index11 t]; simp; omega
  · show y1.val = ((((cfg0.win 11).blk t).view.emb (ix2 y0 y1)) 1).val; blk_simp [index11 t]
theorem result12 : (dats m 0 c).arrAt 12 cfg0.N = (fun j : S8192x2816.Idx => prod (row (argA m c) (j 0)) (mat (argU m c)) (j 1)) := by
  refine (dats m 0 c).arrAt_eq_of_covers 12 _ (by decide +kernel) fun t hf y => ?_
  blk_simp
  rw [after0_12, rows12]
  idx_vars y
  refine ((pay6_at _ _ y0 y1).trans (by rw [rowA m c t y0, allU]) : _ = _).trans ?_
  refine congrArg₂ ((fun n => prod (row (argA m c) n) (mat (argU m c)))) (Fin.ext ?_) (Fin.ext ?_)
  · show 256 * t.val + y0.val = ((((cfg0.win 12).blk t).view.emb (ix2 y0 y1)) 0).val; blk_simp [index12 t]; simp; omega
  · show y1.val = ((((cfg0.win 12).blk t).view.emb (ix2 y0 y1)) 1).val; blk_simp [index12 t]
theorem result13 : (dats m 0 c).arrAt 13 cfg0.N = (fun j : S8192x2816.Idx => act (row (argA m c) (j 0)) (mat (argG m c)) (mat (argU m c)) (j 1)) := by
  refine (dats m 0 c).arrAt_eq_of_covers 13 _ (by decide +kernel) fun t hf y => ?_
  blk_simp
  rw [after0_13, rows13]
  idx_vars y
  refine ((pay4_at _ _ _ y0 y1).trans (by rw [rowA m c t y0, allG, allU]) : _ = _).trans ?_
  refine congrArg₂ ((fun n => act (row (argA m c) n) (mat (argG m c)) (mat (argU m c)))) (Fin.ext ?_) (Fin.ext ?_)
  · show 256 * t.val + y0.val = ((((cfg0.win 13).blk t).view.emb (ix2 y0 y1)) 0).val; blk_simp [index13 t]; simp; omega
  · show y1.val = ((((cfg0.win 13).blk t).view.emb (ix2 y0 y1)) 1).val; blk_simp [index13 t]
theorem result9 : (dats m 0 c).arrAt 9 cfg0.N = (fun j : S1x1024.Idx => dgain (argA m c) (argH m c) (argT m c) (argG m c) (argU m c) (argD m c) (argg m c) (j 1)) := by
  refine (dats m 0 c).arrAt_eq_of_covers 9 _ (by decide +kernel) fun t hf y => ?_
  have h31 : t.val = 31 := by have := (flush0_9 t).1 hf; have := lt32 t; omega
  blk_simp
  rw [after0_9]
  idx_vars y
  refine (gain_upto m c t.val t.isLt y0 y1).trans ?_
  rw [h31]
  refine (parts _).trans ?_
  refine congrArg (dgain (argA m c) (argH m c) (argT m c) (argG m c) (argU m c) (argD m c) (argg m c)) (Fin.ext ?_)
  show y1.val = ((((cfg0.win 9).blk t).view.emb (ix2 y0 y1)) 1).val; blk_simp [index9 t]
theorem result10 : (dats m 0 c).arrAt 10 cfg0.N = (fun j : S1x128.Idx => loss (argA m c) (argH m c) (argT m c) (argG m c) (argU m c) (argD m c) (argg m c)) := by
  refine (dats m 0 c).arrAt_eq_of_covers 10 _ (by decide +kernel) fun t hf y => ?_
  have h31 : t.val = 31 := by have := (flush0_10 t).1 hf; have := lt32 t; omega
  blk_simp
  rw [after0_10]
  idx_vars y
  refine (loss_upto m c t.val t.isLt y0 y1).trans ?_
  rw [h31]
  exact parts _
end
end Cert.FfnIdeal.Hand
end
-- ==== Proof.FfnRef.lean ====
module

public import proofs.«01_k».proof.Proof.FfnRow
public import proofs.«01_k».proof.Proof.Gen.RefFfnIdeal.Run
public import Idealize.ShloMosaic.Lib.Pointwise

@[expose] public section

/-! The reference's gated layer, norm, loss and gradients, row by row. -/

set_option maxRecDepth 16384

noncomputable section

namespace Cert.RefFfnIdeal.Hand

open Cert.RefFfnIdeal Cert.RefFfnIdeal.Gen Cert.FfnRow
open Idealize.ShloMosaic Idealize.ShloMosaic.Tactic Finset

/-- The reference's steps, in its order. -/
def sig (gt : FVec Ideal S8192x2816 .f32) : FVec Ideal S8192x2816 .f32 :=
  Host.divf (broadcastInDim S8192x2816 ![] bcast_S_S8192x2816 (constant S_ .f32 0x3F800000#32)) (addf (broadcastInDim S8192x2816 ![] bcast_S_S8192x2816 (constant S_ .f32 0x3F800000#32)) (Host.exp (Host.negf gt)))
def product (x : FVec Ideal S8192x1024 .bf16) (w : FVec Ideal S1024x2816 .bf16) : FVec Ideal S8192x2816 .f32 :=
  Host.dotGeneral dot_S8192x1024_S1024x2816_S8192x2816_1_0_0_1_n_n none (extf .f32 x bitsLt_bf16_f32) (extf .f32 w bitsLt_bf16_f32)
def active (x : FVec Ideal S8192x1024 .bf16) (wg wu : FVec Ideal S1024x2816 .bf16) : FVec Ideal S8192x2816 .f32 :=
  mulf (mulf (product x wg) (sig (product x wg))) (product x wu)
def layer (a : FVec Ideal S8192x2816 .f32) (wd : FVec Ideal S2816x1024 .bf16) : FVec Ideal S8192x1024 .f32 :=
  Host.dotGeneral dot_S8192x2816_S2816x1024_S8192x1024_1_0_0_1_n_n none a (extf .f32 wd bitsLt_bf16_f32)
def divided (f : FVec Ideal S8192x1024 .f32) : FVec Ideal S8192x1024 .f32 :=
  mulf f (broadcastInDim S8192x1024 ![0, 1] bcast_S8192x1_S8192x1024_0_1 (Host.rsqrt (addf (Host.divf (broadcastInDim S8192x1 ![0] bcast_S8192_S8192x1_0 (Host.reduceAdd (mulf f f) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))
def error (n : FVec Ideal S8192x1024 .f32) (g : FVec Ideal S1x1024 .f32) (h t : FVec Ideal S8192x1024 .f32) : FVec Ideal S8192x1024 .f32 :=
  subf (addf h (mulf n (broadcastInDim S8192x1024 ![0, 1] bcast_S1x1024_S8192x1024_0_1 g))) t
def errorGrad (e : FVec Ideal S8192x1024 .f32) : FVec Ideal S8192x1024 .f32 :=
  mulf (broadcastInDim S8192x1024 ![0] bcast_S8192_S8192x1024_0 (Host.divf (broadcastInDim S8192 ![] bcast_S_S8192 (mulf (constant S_ .f32 0x3F000000#32) (constant S_ .f32 0x3F800000#32))) (broadcastInDim S8192 ![] bcast_S_S8192 (constant S_ .f32 0x44800000#32)))) (mulf (broadcastInDim S8192x1024 ![] bcast_S_S8192x1024 (constant S_ .f32 0x40000000#32)) e)
def gainGrad (n d : FVec Ideal S8192x1024 .f32) : FVec Ideal S1x1024 .f32 :=
  shapeCast S1x1024 (Host.reduceAdd (mulf n d) (constant S_ .f32 0x00000000#32) reducesTo_S8192x1024_S1024_d0 h_S_ : FVec Ideal S1024 .f32) shapeCasts_S1024_S1x1024
def total (e : FVec Ideal S8192x1024 .f32) : FVec Ideal S1x128 .f32 :=
  broadcastInDim S1x128 ![] bcast_S_S1x128 (mulf (constant S_ .f32 0x3F000000#32) (Host.reduceAdd (Host.divf (Host.reduceAdd (mulf e e) (constant S_ .f32 0x00000000#32) reducesTo_S8192x1024_S8192_d1 h_S_ : FVec Ideal S8192 .f32) (broadcastInDim S8192 ![] bcast_S_S8192 (constant S_ .f32 0x44800000#32))) (constant S_ .f32 0x00000000#32) reducesTo_S8192_S_d0 h_S_))

theorem product_at (x : FVec Ideal S8192x1024 .bf16) (w : FVec Ideal S1024x2816 .bf16) (p : Fin 8192) (j : Fin 2816) : product x w (ix2 p j) = prod (row x p) (mat w) j := by
  unfold product prod
  pointwise
theorem active_at (x : FVec Ideal S8192x1024 .bf16) (wg wu : FVec Ideal S1024x2816 .bf16) (p : Fin 8192) (j : Fin 2816) :
    active x wg wu (ix2 p j) = act (row x p) (mat wg) (mat wu) j := by
  have e : active x wg wu (ix2 p j) = gated (product x wg (ix2 p j)) (product x wu (ix2 p j)) := by
    unfold active sig gated
    generalize product x wg = a
    generalize product x wu = b
    pointwise
  rw [e, product_at, product_at]
  rfl
theorem layer_at (x : FVec Ideal S8192x1024 .bf16) (wg wu : FVec Ideal S1024x2816 .bf16) (wd : FVec Ideal S2816x1024 .bf16) (p : Fin 8192) :
    row (layer (active x wg wu) wd) p = out (row x p) (mat wg) (mat wu) (mat wd) := by
  funext i
  have e : layer (active x wg wu) wd (ix2 p i) = ∑ k : Fin 2816, active x wg wu (ix2 p k) * wd (ix2 k i) := by
    unfold layer
    generalize active x wg wu = a
    pointwise
  refine e.trans ?_
  exact Finset.sum_congr rfl fun k _ => congrArg (· * _) (active_at x wg wu p k)
theorem divided_at (f : FVec Ideal S8192x1024 .f32) (p : Fin 8192) : row (divided f) p = normed (row f p) := by
  funext i
  show divided f (ix2 p i) = _
  unfold divided normed scale
  pointwise
theorem error_at (n : FVec Ideal S8192x1024 .f32) (g : FVec Ideal S1x1024 .f32) (h t : FVec Ideal S8192x1024 .f32) (p : Fin 8192) (i : Fin 1024) :
    error n g h t (ix2 p i) = err (row n p) (row g 0) (row h p) (row t p) i := by
  unfold error err
  pointwise
theorem errorGrad_at (e : FVec Ideal S8192x1024 .f32) (p : Fin 8192) (i : Fin 1024) : errorGrad e (ix2 p i) = e (ix2 p i) * Ideal.ofBits .f32 0x3A800000#32 := by
  rw [grad_scale]
  unfold errorGrad
  pointwise
theorem gainGrad_at (n d : FVec Ideal S8192x1024 .f32) (z : Fin 1) (i : Fin 1024) : gainGrad n d (ix2 z i) = ∑ p : Fin 8192, n (ix2 p i) * d (ix2 p i) := by
  obtain rfl : z = 0 := Subsingleton.elim _ _
  unfold gainGrad
  pointwise
theorem total_at (e : FVec Ideal S8192x1024 .f32) (z : Fin 1) (i : Fin 128) :
    total e (ix2 z i) = ∑ p : Fin 8192, (∑ j : Fin 1024, e (ix2 p j) * e (ix2 p j)) * Ideal.ofBits .f32 0x3A000000#32 := by
  rw [← k11_sum, loss_scale]
  unfold total
  pointwise

section
variable (A : FVec Ideal S8192x1024 .bf16) (H T : FVec Ideal S8192x1024 .f32) (G U : FVec Ideal S1024x2816 .bf16) (D : FVec Ideal S2816x1024 .bf16) (g : FVec Ideal S1x1024 .f32)
def nrmR : FVec Ideal S8192x1024 .f32 := divided (layer (active A G U) D)
def erR : FVec Ideal S8192x1024 .f32 := error (nrmR A G U D) g H T
theorem nrmR_at (p : Fin 8192) : row (nrmR A G U D) p = nrm A G U D p := by
  unfold nrmR nrm
  rw [divided_at, layer_at]
theorem erR_at (p : Fin 8192) (i : Fin 1024) : erR A H T G U D g (ix2 p i) = er A H T G U D g p i := by
  unfold erR er
  rw [error_at, nrmR_at]
theorem dhR_at (p : Fin 8192) (i : Fin 1024) : errorGrad (erR A H T G U D g) (ix2 p i) = dh A H T G U D g p i := by
  rw [errorGrad_at, erR_at]
  rfl
theorem gainR_at (z : Fin 1) (i : Fin 1024) : gainGrad (nrmR A G U D) (errorGrad (erR A H T G U D g)) (ix2 z i) = dgain A H T G U D g i := by
  rw [gainGrad_at]
  exact Finset.sum_congr rfl fun p _ => (congrArg₂ (· * ·) (congrFun (nrmR_at A G U D p) i) (dhR_at A H T G U D g p i)).trans (mul_comm _ _)
theorem lossR_at (z : Fin 1) (i : Fin 128) : total (erR A H T G U D g) (ix2 z i) = loss A H T G U D g := by
  rw [total_at]
  exact Finset.sum_congr rfl fun p _ => congrArg (· * _) (Finset.sum_congr rfl fun j _ => congrArg₂ (· * ·) (erR_at A H T G U D g p j) (erR_at A H T G U D g p j))
end
end Cert.RefFfnIdeal.Hand
end
-- ==== Proof.FfnAlg.lean ====
module

public import proofs.«01_k».proof.Proof.FfnResult
public import proofs.«01_k».proof.Proof.FfnRef
public import proofs.«01_k».proof.Proof.Gen.FfnIdeal.Value

@[expose] public section

/-! The call of the gated layer with the loss: its six results are the reference's. -/

set_option maxRecDepth 16384

noncomputable section

namespace Cert.RefFfnIdeal.Hand

open Cert.RefFfnIdeal Cert.RefFfnIdeal.Gen Cert.FfnRow
open Idealize.ShloMosaic Idealize.ShloMosaic.Tactic Finset

section
variable (A : FVec Ideal S8192x1024 .bf16) (H T : FVec Ideal S8192x1024 .f32) (G U : FVec Ideal S1024x2816 .bf16) (D : FVec Ideal S2816x1024 .bf16) (g : FVec Ideal S1x1024 .f32)
theorem dh_all : errorGrad (erR A H T G U D g) = fun j : S8192x1024.Idx => dh A H T G U D g (j 0) (j 1) := by
  funext j
  idx_vars j
  exact dhR_at A H T G U D g j0 j1
theorem gain_all : gainGrad (nrmR A G U D) (errorGrad (erR A H T G U D g)) = fun j : S1x1024.Idx => dgain A H T G U D g (j 1) := by
  funext j
  idx_vars j
  exact gainR_at A H T G U D g j0 j1
theorem loss_all : total (erR A H T G U D g) = fun j : S1x128.Idx => loss A H T G U D g := by
  funext j
  idx_vars j
  exact lossR_at A H T G U D g j0 j1
theorem product_all : product A G = fun j : S8192x2816.Idx => prod (row A (j 0)) (mat G) (j 1) := by
  funext j
  idx_vars j
  exact product_at A G j0 j1
theorem active_all : active A G U = fun j : S8192x2816.Idx => act (row A (j 0)) (mat G) (mat U) (j 1) := by
  funext j
  idx_vars j
  exact active_at A G U j0 j1
end

/-- The six results, of seven arrays. -/
def Six (A : FVec Ideal S8192x1024 .bf16) (H T : FVec Ideal S8192x1024 .f32) (G U : FVec Ideal S1024x2816 .bf16) (D : FVec Ideal S2816x1024 .bf16) (g : FVec Ideal S1x1024 .f32)
    (r0 : FVec Ideal S8192x1024 .f32) (r1 : FVec Ideal S1x1024 .f32) (r2 : FVec Ideal S1x128 .f32) (r3 r4 r5 : FVec Ideal S8192x2816 .bf16) : Prop :=
  r0 = (fun j : S8192x1024.Idx => dh A H T G U D g (j 0) (j 1)) ∧ r1 = (fun j : S1x1024.Idx => dgain A H T G U D g (j 1)) ∧ r2 = (fun j : S1x128.Idx => loss A H T G U D g)
    ∧ r3 = (fun j : S8192x2816.Idx => prod (row A (j 0)) (mat G) (j 1)) ∧ r4 = (fun j : S8192x2816.Idx => prod (row A (j 0)) (mat U) (j 1)) ∧ r5 = (fun j : S8192x2816.Idx => act (row A (j 0)) (mat G) (mat U) (j 1))

theorem six (A : FVec Ideal S8192x1024 .bf16) (H T : FVec Ideal S8192x1024 .f32) (G U : FVec Ideal S1024x2816 .bf16) (D : FVec Ideal S2816x1024 .bf16) (g : FVec Ideal S1x1024 .f32) :
    Six A H T G U D g (errorGrad (erR A H T G U D g)) (gainGrad (nrmR A G U D) (errorGrad (erR A H T G U D g))) (total (erR A H T G U D g))
      (product A G) (product A U) (active A G U) :=
  ⟨dh_all A H T G U D g, gain_all A H T G U D g, loss_all A H T G U D g, product_all A G, product_all A U, active_all A G U⟩

/-- The same results, where the arrays are the same. -/
theorem Six.same {A A' : FVec Ideal S8192x1024 .bf16} {H H' T T' : FVec Ideal S8192x1024 .f32} {G G' U U' : FVec Ideal S1024x2816 .bf16} {D D' : FVec Ideal S2816x1024 .bf16} {g g' : FVec Ideal S1x1024 .f32}
    {r0 : FVec Ideal S8192x1024 .f32} {r1 : FVec Ideal S1x1024 .f32} {r2 : FVec Ideal S1x128 .f32} {r3 r4 r5 : FVec Ideal S8192x2816 .bf16}
    (hA : A' = A) (hH : H' = H) (hT : T' = T) (hG : G' = G) (hU : U' = U) (hD : D' = D) (hg : g' = g) (h : Six A' H' T' G' U' D' g' r0 r1 r2 r3 r4 r5) : Six A H T G U D g r0 r1 r2 r3 r4 r5 := by
  subst hA hH hT hG hU hD hg
  exact h
end Cert.RefFfnIdeal.Hand

namespace Cert.Proof

open Idealize.ShloMosaic Idealize.ShloMosaic.TcCoe

instance ffnIdealFacts : Cert.FfnIdeal.Facts := Cert.FfnIdeal.Gen.facts
instance refFfnFacts : Cert.RefFfnIdeal.Facts := Cert.RefFfnIdeal.Gen.facts

/-- The reference's run leaves the six results. -/
theorem ref_ffn (m : (ℓ : Loc Cert.RefFfnIdeal.nD Cert.RefFfnIdeal.τ Cert.RefFfnIdeal.sig) → Buf (Elt Ideal) ℓ) (c : Dev Cert.RefFfnIdeal.nD)
    {r0 r1 r2 r3 r4 r5} (h0 : r0 = Cert.RefFfnIdeal.Hand.errorGrad (Cert.RefFfnIdeal.Hand.erR (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)))) (h1 : r1 = Cert.RefFfnIdeal.Value.res_main_v39 m c) (h2 : r2 = Cert.RefFfnIdeal.Value.res_main_v40 m c)
    (h3 : r3 = Cert.RefFfnIdeal.Hand.product (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg3))) (h4 : r4 = Cert.RefFfnIdeal.Hand.product (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg4))) (h5 : r5 = Cert.RefFfnIdeal.Hand.active (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4))) :
    Cert.RefFfnIdeal.Hand.Six (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)) r0 r1 r2 r3 r4 r5 := by
  have e := Cert.RefFfnIdeal.Hand.six (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6))
  have h1' : Cert.RefFfnIdeal.Value.res_main_v39 m c = Cert.RefFfnIdeal.Hand.gainGrad (Cert.RefFfnIdeal.Hand.nrmR (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5))) (Cert.RefFfnIdeal.Hand.errorGrad (Cert.RefFfnIdeal.Hand.erR (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6)))) := rfl
  have h2' : Cert.RefFfnIdeal.Value.res_main_v40 m c = Cert.RefFfnIdeal.Hand.total (Cert.RefFfnIdeal.Hand.erR (m ((c.tc : Thread Cert.RefFfnIdeal.nD Cert.RefFfnIdeal.τ).loc Cert.RefFfnIdeal.main_arg0)) (m ((c.tc : Thread Cert.RefFfnIdeal.nD Cert.RefFfnIdeal.τ).loc Cert.RefFfnIdeal.main_arg1)) (m ((c.tc : Thread Cert.RefFfnIdeal.nD Cert.RefFfnIdeal.τ).loc Cert.RefFfnIdeal.main_arg2)) (m ((c.tc : Thread Cert.RefFfnIdeal.nD Cert.RefFfnIdeal.τ).loc Cert.RefFfnIdeal.main_arg3)) (m ((c.tc : Thread Cert.RefFfnIdeal.nD Cert.RefFfnIdeal.τ).loc Cert.RefFfnIdeal.main_arg4)) (m ((c.tc : Thread Cert.RefFfnIdeal.nD Cert.RefFfnIdeal.τ).loc Cert.RefFfnIdeal.main_arg5)) (m ((c.tc : Thread Cert.RefFfnIdeal.nD Cert.RefFfnIdeal.τ).loc Cert.RefFfnIdeal.main_arg6))) := rfl
  rw [h0, h1, h1', h2, h2', h3, h4, h5]
  exact e

theorem algebraic_ffn : Cert.algebraic_FfnIdeal_RefFfnIdeal := by
  intro m g m' g' _ hargs
  refine ⟨fun c => _, fun c => _, fun c => _, fun c => _, fun c => _, fun c => _, (θ_run Cert.FfnIdeal.defs _ _).mono (fun r h c => (h c).2) (Cert.FfnIdeal.Value.run_blocks m g), ?_⟩
  refine (θ_run Cert.RefFfnIdeal.defs _ _).mono (fun r h c => ?_) (Cert.RefFfnIdeal.Value.run m' g')
  obtain ⟨a0, a1, a2, a3, a4, a5, a6⟩ := hargs c
  have s := Cert.RefFfnIdeal.Hand.Six.same a0 a1 a2 a3 a4 a5 a6 (ref_ffn m' c (h c).1 (h c).2.1 (h c).2.2.1 (h c).2.2.2.1 (h c).2.2.2.2.1 (h c).2.2.2.2.2.1)
  exact ⟨s.1.trans (Cert.FfnIdeal.Hand.result8 m c).symm, s.2.1.trans (Cert.FfnIdeal.Hand.result9 m c).symm, s.2.2.1.trans (Cert.FfnIdeal.Hand.result10 m c).symm,
    s.2.2.2.1.trans (Cert.FfnIdeal.Hand.result11 m c).symm, s.2.2.2.2.1.trans (Cert.FfnIdeal.Hand.result12 m c).symm, s.2.2.2.2.2.trans (Cert.FfnIdeal.Hand.result13 m c).symm, (h c).2.2.2.2.2.2⟩
end Cert.Proof
end
-- ==== Proof.InProjPoint.lean ====
module

public import proofs.«01_k».proof.Proof.FfnRow
public import Idealize.ShloMosaic.Lib.Pointwise
public import proofs.«01_k».proof.Proof.Gen.InProjIdeal.Value
public import Idealize.ShloMosaic.Lib.Pipeline.ValueKit
public import Idealize.ShloMosaic.Lib.Pipeline.ReadBack

@[expose] public section

/-! One block of rows of the first norm and the projection of it: what a point stores. -/

set_option maxRecDepth 16384

noncomputable section

namespace Cert.InProjRow

open Idealize.ShloMosaic Finset Cert.FfnRow

/-- A column of the weights, which are stored in four groups of 640 columns. -/
def wcol (W : (⟨3, ![4, 1024, 640]⟩ : Shape).Idx → EReal) (q : ℕ) (k : Fin 1024) : EReal :=
  if h : q < 2560 then W (ix3 (⟨q / 640, by omega⟩ : Fin 4) k (⟨q % 640, by omega⟩ : Fin 640)) else 0
theorem wcol_eq (W : (⟨3, ![4, 1024, 640]⟩ : Shape).Idx → EReal) (j : Fin 4) (k : Fin 1024) (d : Fin 640) (q : ℕ) (h : q = 640 * j.val + d.val) : wcol W q k = W (ix3 j k d) := by
  have hj := j.isLt
  have hd := d.isLt
  unfold wcol
  rw [dif_pos (by omega)]
  exact congrArg₂ (fun a b => W (ix3 a k b)) (Fin.ext (show q / 640 = j.val by omega)) (Fin.ext (show q % 640 = d.val by omega))
/-- A row after the norm, and its product with a column. -/
def gained (x g : Fin 1024 → EReal) (i : Fin 1024) : EReal := normed x i * g i
def proj (x g : Fin 1024 → EReal) (W : (⟨3, ![4, 1024, 640]⟩ : Shape).Idx → EReal) (q : ℕ) : EReal := ∑ k, gained x g k * wcol W q k
end Cert.InProjRow

namespace Cert.InProjIdeal.Hand

open Cert.InProjIdeal Cert.InProjIdeal.Gen Cert.FfnRow Cert.InProjRow
open Idealize.ShloMosaic Idealize.ShloMosaic.TcCoe Idealize.ShloMosaic.Tactic Idealize.SL.Sem Finset

theorem hz2 : (![0, 0] : Fin 2 → Nat) = fun _ => 0 := funext fun a => by fin_cases a <;> rfl
theorem pay4_at (x : Vec Ideal S512x1024 .f32) (g : Vec Ideal S1x1024 .f32) (p : Fin 512) (i : Fin 1024) : k0_pay4 x g (ix2 p i) = gained (row x p) (row g 0) i := by
  unfold k0_pay4 gained normed scale
  pointwise
theorem pay5_at (x : Vec Ideal S512x1024 .f32) (g : Vec Ideal S1x1024 .f32) (w : Vec Ideal S1x1024x640 .bf16) (p : Fin 512) (d : Fin 640) :
    k0_pay5 x g w (ix2 p d) = ∑ k : Fin 1024, gained (row x p) (row g 0) k * w (ix3 0 k d) := by
  have e : k0_pay5 x g w (ix2 p d) = ∑ k : Fin 1024, k0_pay4 x g (ix2 p k) * w (ix3 0 k d) := by
    unfold k0_pay5
    generalize k0_pay4 x g = a
    pointwise
  rw [e]
  exact Finset.sum_congr rfl fun k _ => congrArg (· * _) (pay4_at x g p k)
theorem pay6_eq (x : Vec Ideal S512x1024 .f32) (g : Vec Ideal S1x1024 .f32) (w : Vec Ideal S1x1024x640 .bf16) : k0_pay6 x g w = k0_pay5 x g w := rfl
theorem pay7_eq (x : Vec Ideal S512x1024 .f32) (g : Vec Ideal S1x1024 .f32) (w : Vec Ideal S1x1024x640 .bf16) : k0_pay2 (k0_pay7 x g w) = k0_pay5 x g w := rfl
theorem pay8_eq (x : Vec Ideal S512x1024 .f32) (g : Vec Ideal S1x1024 .f32) (w : Vec Ideal S1x1024x640 .bf16) : k0_pay3 (k0_pay8 x g w) = k0_pay5 x g w := rfl
theorem pay9_at (x : Vec Ideal S512x1024 .f32) (g : Vec Ideal S1x1024 .f32) (w : Vec Ideal S1x1024x640 .bf16) (p : Fin 512) (d : Fin 384) :
    k0_pay9 x g w (ix2 p d) = k0_pay5 x g w (ix2 p (⟨d.val, by omega⟩ : Fin 640)) := by
  unfold k0_pay9
  rw [pay6_eq]
  generalize k0_pay5 x g w = a
  pointwise
theorem pay1_at (a : FVec Ideal S512x640 .f32) (p : Fin 512) (d : Fin 256) : k0_pay1 a (ix2 p d) = a (ix2 p (⟨384 + d.val, by omega⟩ : Fin 640)) := by
  unfold k0_pay1
  pointwise

/-- The product with a group's column. -/
theorem column (x : Vec Ideal S512x1024 .f32) (g : Vec Ideal S1x1024 .f32) (W : Vec Ideal S4x1024x640 .bf16) (j : ℕ) (hj : j < 4)
    (inb : ∀ a, (![j, 0, 0] : Fin 3 → ℕ) a + (![1, 1024, 640] : Fin 3 → ℕ) a ≤ S4x1024x640.size a) (p : Fin 512) (d : Fin 640) (q : ℕ) (hq : q = 640 * j + d.val) :
    k0_pay5 x g (View.ld W (Rect.unit (s := S4x1024x640) ![j, 0, 0] ![1, 1024, 640] inb)) (ix2 p d) = proj (row x p) (row g 0) W q := by
  refine (pay5_at x g _ p d).trans (Finset.sum_congr rfl fun k _ => congrArg₂ (· * ·) rfl ?_)
  refine Eq.trans (congrArg W (funext fun a => ?_)) (wcol_eq W ⟨j, hj⟩ k d q hq).symm
  match a with
  | ⟨0, _⟩ => exact Fin.ext (show j + 1 * 0 = j by omega)
  | ⟨1, _⟩ => exact Fin.ext (show 0 + 1 * k.val = k.val by omega)
  | ⟨2, _⟩ => exact Fin.ext (show 0 + 1 * d.val = d.val by omega)

/-- The two blocks of the projection: its first 1024 columns, and the others. -/
def first (x : Vec Ideal S512x1024 .f32) (g : Vec Ideal S1x1024 .f32) (W : Vec Ideal S4x1024x640 .bf16) : Vec Ideal S512x1024 .f32 :=
  fun i => proj (row x (i 0)) (row g 0) W (i 1).val
def others (x : Vec Ideal S512x1024 .f32) (g : Vec Ideal S1x1024 .f32) (W : Vec Ideal S4x1024x640 .bf16) : Vec Ideal S512x1536 .bf16 :=
  fun i => proj (row x (i 0)) (row g 0) W (1024 + (i 1).val)
theorem first_at (x : Vec Ideal S512x1024 .f32) (g : Vec Ideal S1x1024 .f32) (W : Vec Ideal S4x1024x640 .bf16) (p p' : Fin 512) (q : Fin 1024) (q' : ℕ) (hp : p'.val = p.val) (hq : q.val = q') :
    proj (row x p) (row g 0) W q' = first x g W (ix2 p' q) := by
  obtain rfl : p' = p := Fin.ext hp
  subst hq
  rfl
theorem others_at (x : Vec Ideal S512x1024 .f32) (g : Vec Ideal S1x1024 .f32) (W : Vec Ideal S4x1024x640 .bf16) (p p' : Fin 512) (q : Fin 1536) (q' : ℕ) (hp : p'.val = p.val) (hq : 1024 + q.val = q') :
    proj (row x p) (row g 0) W q' = others x g W (ix2 p' q) := by
  obtain rfl : p' = p := Fin.ext hp
  subst hq
  rfl

abbrev R5b : Rect S512x1024 := Rect.unit (s := S512x1024) ![0, 640] S512x384.size inb_S512x1024_S512x384_0_640
abbrev R5a : Rect S512x1024 := Rect.unit (s := S512x1024) ![0, 0] S512x640.size inb_S512x1024_S512x640_0_0
abbrev R6c : Rect S512x1536 := Rect.unit (s := S512x1536) ![0, 896] S512x640.size inb_S512x1536_S512x640_0_896
abbrev R6b : Rect S512x1536 := Rect.unit (s := S512x1536) ![0, 256] S512x640.size inb_S512x1536_S512x640_0_256
abbrev R6a : Rect S512x1536 := Rect.unit (s := S512x1536) ![0, 0] S512x256.size inb_S512x1536_S512x256_0_0

section
variable (c : Dev nD) (i : grid0.Coords) (arg1 : Memref sig .tc .vmem S512x1024 .f32) (harg1 : arg1.IsWhole) (arg2 : Memref sig .tc .vmem S1x1024 .f32) (harg2 : arg2.IsWhole) (arg3 : Memref sig .tc .vmem S4x1024x640 .bf16) (harg3 : arg3.IsWhole) (arg4 : Memref sig .tc .vmem S512x1024 .bf16) (harg4 : arg4.IsWhole) (arg5 : Memref sig .tc .vmem S512x1024 .f32) (harg5 : arg5.IsWhole) (arg6 : Memref sig .tc .vmem S512x1536 .bf16) (harg6 : arg6.IsWhole)
  (x0 : Vec Ideal S512x1024 .f32) (x1 : Vec Ideal S1x1024 .f32) (x2 : Vec Ideal S4x1024x640 .bf16)

theorem out_3 : out0_A_3 c i arg1 harg1 arg2 harg2 arg3 harg3 arg4 harg4 arg5 harg5 arg6 harg6 x0 x1 x2 = k0_pay4 x0 x1 := by
  unfold out0_A_3
  rw [View.read_writes_eq_canon _ _ _ (cover0_A_3 c i arg1 harg1 arg2 harg2 arg3 harg3 arg4 harg4 arg5 harg5 arg6 harg6 x0 x1 x2)]
  unfold kernelRun0_A
  dsimp only
  try sl_unfold_words
  simp only [View.readAt_eq_ld, harg1.read_unread, harg2.read_unread, harg3.read_unread, View.ld_unit_zero (S := S512x1024) hz2, View.ld_unit_zero (S := S1x1024) hz2, shapeCast_self]
  rw [View.canon_unit_zero hz2]
theorem first_canon (f1 : S512x384.Idx → EReal) (f0 : S512x640.Idx → EReal) (G : S512x1024.Idx → EReal) (h1 : ∀ i, f1 i = G (R5b.emb i)) (h0 : ∀ i, f0 i = G (R5a.emb i)) :
    View.canon ([⟨R5b, f1⟩, ⟨R5a, f0⟩] : List (View.Piece (Elt Ideal) S512x1024 .f32)) = G := by
  have hp : View.PiecesOf (Val := Elt Ideal) (e := .f32) G [⟨R5b, f1⟩, ⟨R5a, f0⟩] := ⟨h1, h0, trivial⟩
  exact funext fun y => View.canon_append_of_piecesOf (Val := Elt Ideal) (s := S512x1024) (e := .f32) G [] _ hp y
    (View.cover_of_tiledBy ([⟨R5b, f1⟩, ⟨R5a, f0⟩] : List (View.Piece (Elt Ideal) S512x1024 .f32)) ![512, 128] (by sl_kernel_rfl) y)
theorem others_canon (f2 f1 : S512x640.Idx → EReal) (f0 : S512x256.Idx → EReal) (G : S512x1536.Idx → EReal) (h2 : ∀ i, f2 i = G (R6c.emb i)) (h1 : ∀ i, f1 i = G (R6b.emb i)) (h0 : ∀ i, f0 i = G (R6a.emb i)) :
    View.canon ([⟨R6c, f2⟩, ⟨R6b, f1⟩, ⟨R6a, f0⟩] : List (View.Piece (Elt Ideal) S512x1536 .bf16)) = G := by
  have hp : View.PiecesOf (Val := Elt Ideal) (e := .bf16) G [⟨R6c, f2⟩, ⟨R6b, f1⟩, ⟨R6a, f0⟩] := ⟨h2, h1, h0, trivial⟩
  exact funext fun y => View.canon_append_of_piecesOf (Val := Elt Ideal) (s := S512x1536) (e := .bf16) G [] _ hp y
    (View.cover_of_tiledBy ([⟨R6c, f2⟩, ⟨R6b, f1⟩, ⟨R6a, f0⟩] : List (View.Piece (Elt Ideal) S512x1536 .bf16)) ![512, 128] (by sl_kernel_rfl) y)
theorem out_4 : out0_A_4 c i arg1 harg1 arg2 harg2 arg3 harg3 arg4 harg4 arg5 harg5 arg6 harg6 x0 x1 x2 = first x0 x1 x2 := by
  unfold out0_A_4
  rw [View.read_writes_eq_canon _ _ _ (cover0_A_4 c i arg1 harg1 arg2 harg2 arg3 harg3 arg4 harg4 arg5 harg5 arg6 harg6 x0 x1 x2)]
  unfold kernelRun0_A
  dsimp only
  try sl_unfold_words
  simp only [View.readAt_eq_ld, harg1.read_unread, harg2.read_unread, harg3.read_unread, View.ld_unit_zero (S := S512x1024) hz2, View.ld_unit_zero (S := S1x1024) hz2, shapeCast_self]
  refine first_canon _ _ _ (fun i => ?_) (fun i => ?_)
  · revert i
    show ∀ i : S512x384.Idx, _
    intro i
    idx_vars i
    refine (pay9_at _ _ _ i0 i1).trans ((column x0 x1 x2 1 (by decide) _ i0 _ (640 + i1.val) rfl).trans ?_)
    exact first_at x0 x1 x2 i0 (R5b.emb (ix2 i0 i1) 0) (R5b.emb (ix2 i0 i1) 1) _ (show 0 + 1 * i0.val = i0.val by omega) (show 640 + 1 * i1.val = 640 + i1.val by omega)
  · revert i
    show ∀ i : S512x640.Idx, _
    intro i
    idx_vars i
    refine (column x0 x1 x2 0 (by decide) _ i0 i1 i1.val (by omega)).trans ?_
    exact first_at x0 x1 x2 i0 (R5a.emb (ix2 i0 i1) 0) (R5a.emb (ix2 i0 i1) 1) _ (show 0 + 1 * i0.val = i0.val by omega) (show 0 + 1 * i1.val = i1.val by omega)
theorem out_5 : out0_A_5 c i arg1 harg1 arg2 harg2 arg3 harg3 arg4 harg4 arg5 harg5 arg6 harg6 x0 x1 x2 = others x0 x1 x2 := by
  unfold out0_A_5
  rw [View.read_writes_eq_canon _ _ _ (cover0_A_5 c i arg1 harg1 arg2 harg2 arg3 harg3 arg4 harg4 arg5 harg5 arg6 harg6 x0 x1 x2)]
  unfold kernelRun0_A
  dsimp only
  try sl_unfold_words
  simp only [View.readAt_eq_ld, harg1.read_unread, harg2.read_unread, harg3.read_unread, View.ld_unit_zero (S := S512x1024) hz2, View.ld_unit_zero (S := S1x1024) hz2, shapeCast_self]
  rw [pay7_eq, pay8_eq, pay6_eq]
  refine others_canon _ _ _ _ (fun i => ?_) (fun i => ?_) (fun i => ?_)
  · revert i
    show ∀ i : S512x640.Idx, _
    intro i
    idx_vars i
    refine (column x0 x1 x2 3 (by decide) _ i0 i1 (1920 + i1.val) rfl).trans ?_
    exact others_at x0 x1 x2 i0 (R6c.emb (ix2 i0 i1) 0) (R6c.emb (ix2 i0 i1) 1) _ (show 0 + 1 * i0.val = i0.val by omega) (show 1024 + (896 + 1 * i1.val) = 1920 + i1.val by omega)
  · revert i
    show ∀ i : S512x640.Idx, _
    intro i
    idx_vars i
    refine (column x0 x1 x2 2 (by decide) _ i0 i1 (1280 + i1.val) rfl).trans ?_
    exact others_at x0 x1 x2 i0 (R6b.emb (ix2 i0 i1) 0) (R6b.emb (ix2 i0 i1) 1) _ (show 0 + 1 * i0.val = i0.val by omega) (show 1024 + (256 + 1 * i1.val) = 1280 + i1.val by omega)
  · revert i
    show ∀ i : S512x256.Idx, _
    intro i
    idx_vars i
    refine (pay1_at _ i0 i1).trans ((column x0 x1 x2 1 (by decide) _ i0 _ (1024 + i1.val) (show 1024 + i1.val = 640 * 1 + (384 + i1.val) by omega)).trans ?_)
    exact others_at x0 x1 x2 i0 (R6a.emb (ix2 i0 i1) 0) (R6a.emb (ix2 i0 i1) 1) _ (show 0 + 1 * i0.val = i0.val by omega) (show 1024 + (0 + 1 * i1.val) = 1024 + i1.val by omega)
end
end Cert.InProjIdeal.Hand
end
-- ==== Proof.InProjAlg.lean ====
module

public import proofs.«01_k».proof.Proof.InProjPoint
public import proofs.«01_k».proof.Proof.Gen.InProjIdeal.Value
public import proofs.«01_k».proof.Proof.Gen.RefInProjIdeal.Run

@[expose] public section

/-! The first norm and the input projection: the call's three results are the reference's. -/

set_option maxRecDepth 16384

noncomputable section

namespace Cert.InProjIdeal.Hand

open Cert.InProjIdeal Cert.InProjIdeal.Gen Cert.InProjIdeal.Value Cert.FfnRow Cert.InProjRow
open Idealize.ShloMosaic Idealize.ShloMosaic.TcCoe Idealize.ShloMosaic.Tactic Idealize.SL.Sem Finset

theorem index0 : ∀ t : Fin cfg0.N, win0_0.index t = ![t.val, 0] := (by decide +kernel : ∀ t : Fin grid0.N, win0_0.index t = ![t.val, 0])
theorem index1 : ∀ t : Fin cfg0.N, win0_1.index t = ![0, 0] := (by decide +kernel : ∀ t : Fin grid0.N, win0_1.index t = ![0, 0])
theorem index2 : ∀ t : Fin cfg0.N, win0_2.index t = ![0, 0, 0] := (by decide +kernel : ∀ t : Fin grid0.N, win0_2.index t = ![0, 0, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])

section
variable (m : (ℓ : Loc nD τ sig) → Buf (Elt Ideal) ℓ) (c : Dev nD)

/-- The arguments, and the blocks of them a point reads. -/
abbrev argX : S8192x1024.Idx → EReal := m ((c : Thread nD τ).loc main_arg0)
abbrev argg : S1x1024.Idx → EReal := m ((c : Thread nD τ).loc main_arg1)
abbrev argW : S4x1024x640.Idx → EReal := m ((c : Thread nD τ).loc main_arg2)
abbrev blkX (t : Fin cfg0.N) : Vec Ideal S512x1024 .f32 := iblk m c 0 t
abbrev blkg (t : Fin cfg0.N) : Vec Ideal S1x1024 .f32 := iblk m c 1 t
abbrev blkW (t : Fin cfg0.N) : Vec Ideal S4x1024x640 .bf16 := iblk m c 2 t
theorem lt16 (t : Fin cfg0.N) : t.val < 16 := lt_of_lt_of_eq t.isLt N_0
theorem rowX (t : Fin cfg0.N) (p : Fin 512) (n : Fin 8192) (hn : 512 * t.val + p.val = n.val) : row (blkX m c t) p = row (argX m c) n := by
  refine funext fun k => congrArg (argX m c) (funext fun a => ?_)
  match a with
  | ⟨0, _⟩ => refine Fin.ext ?_; show ((((cfg0.win 0).blk t).view.emb (ix2 p k)) 0).val = n.val; rw [← hn]; blk_simp [index0 t]; simp; omega
  | ⟨1, _⟩ => refine Fin.ext ?_; show ((((cfg0.win 0).blk t).view.emb (ix2 p k)) 1).val = k.val; blk_simp [index0 t]
theorem allg (t : Fin cfg0.N) : blkg m c t = argg m c := by
  refine funext fun j => congrArg (argg m c) (funext fun a => ?_)
  match a with
  | ⟨0, _⟩ => refine Fin.ext ?_; show ((((cfg0.win 1).blk t).view.emb j) 0).val = (j 0).val; blk_simp [index1 t]
  | ⟨1, _⟩ => refine Fin.ext ?_; show ((((cfg0.win 1).blk t).view.emb j) 1).val = (j 1).val; blk_simp [index1 t]
theorem allW (t : Fin cfg0.N) : blkW m c t = argW m c := by
  refine funext fun j => congrArg (argW m c) (funext fun a => ?_)
  match a with
  | ⟨0, _⟩ => refine Fin.ext ?_; show ((((cfg0.win 2).blk t).view.emb j) 0).val = (j 0).val; blk_simp [index2 t]
  | ⟨1, _⟩ => refine Fin.ext ?_; show ((((cfg0.win 2).blk t).view.emb j) 1).val = (j 1).val; blk_simp [index2 t]
  | ⟨2, _⟩ => refine Fin.ext ?_; show ((((cfg0.win 2).blk t).view.emb j) 2).val = (j 2).val; blk_simp [index2 t]

/-! The three arrays. -/
theorem result3 : (dats m 0 c).arrAt 3 cfg0.N = (fun j : S8192x1024.Idx => gained (row (argX m c) (j 0)) (row (argg m c) 0) (j 1)) := by
  refine (dats m 0 c).arrAt_eq_of_covers 3 _ (by decide +kernel) fun t hf y => ?_
  blk_simp
  rw [after0_3]
  unfold outsAt0
  dsimp only
  rw [out_3]
  idx_vars y
  refine (pay4_at (blkX m c t) (blkg m c t) y0 y1 : _ = _).trans ?_
  rw [allg, rowX m c t y0 ((((cfg0.win 3).blk t).view.emb (ix2 y0 y1)) 0) (by blk_simp [index3 t]; simp; omega)]
  refine congrArg (gained _ _) (Fin.ext ?_)
  show y1.val = ((((cfg0.win 3).blk t).view.emb (ix2 y0 y1)) 1).val; blk_simp [index3 t]
theorem result4 : (dats m 0 c).arrAt 4 cfg0.N = (fun j : S8192x1024.Idx => proj (row (argX m c) (j 0)) (row (argg m c) 0) (argW m c) (j 1).val) := by
  refine (dats m 0 c).arrAt_eq_of_covers 4 _ (by decide +kernel) fun t hf y => ?_
  blk_simp
  rw [after0_4]
  unfold outsAt0
  dsimp only
  rw [out_4]
  idx_vars y
  show proj (row (blkX m c t) y0) (row (blkg m c t) 0) (blkW m c t) y1.val = _
  rw [allg, allW, rowX m c t y0 ((((cfg0.win 4).blk t).view.emb (ix2 y0 y1)) 0) (by blk_simp [index4 t]; simp; omega)]
  refine congrArg (proj _ _ _) ?_
  simp [index4 t]
theorem result5 : (dats m 0 c).arrAt 5 cfg0.N = (fun j : S8192x1536.Idx => proj (row (argX m c) (j 0)) (row (argg m c) 0) (argW m c) (1024 + (j 1).val)) := by
  refine (dats m 0 c).arrAt_eq_of_covers 5 _ (by decide +kernel) fun t hf y => ?_
  blk_simp
  rw [after0_5]
  unfold outsAt0
  dsimp only
  rw [out_5]
  idx_vars y
  show proj (row (blkX m c t) y0) (row (blkg m c t) 0) (blkW m c t) (1024 + y1.val) = _
  rw [allg, allW, rowX m c t y0 ((((cfg0.win 5).blk t).view.emb (ix2 y0 y1)) 0) (by blk_simp [index5 t]; simp; omega)]
  refine congrArg (fun q => proj _ _ _ (1024 + q)) ?_
  simp [index5 t]
end
end Cert.InProjIdeal.Hand

namespace Cert.RefInProjIdeal.Hand

open Cert.RefInProjIdeal Cert.RefInProjIdeal.Gen Cert.FfnRow Cert.InProjRow
open Idealize.ShloMosaic Idealize.ShloMosaic.Tactic Finset

/-- The reference's norm, its weights side by side, and the projection. -/
def rows (x : FVec Ideal S8192x1024 .f32) (g : FVec Ideal S1x1024 .f32) : FVec Ideal S8192x1024 .f32 :=
  mulf (mulf x (broadcastInDim S8192x1024 ![0, 1] bcast_S8192x1_S8192x1024_0_1 (Host.rsqrt (addf (Host.divf (broadcastInDim S8192x1 ![0] bcast_S8192_S8192x1_0 (Host.reduceAdd (mulf x x) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 g)
def flat (W : FVec Ideal S4x1024x640 .bf16) : FVec Ideal S1024x2560 .f32 :=
  shapeCast S1024x2560 (transpose S1024x4x640 [1, 0, 2] (extf .f32 W bitsLt_bf16_f32 : FVec Ideal S4x1024x640 .f32) transposes_S4x1024x640_S1024x4x640_1_0_2) shapeCasts_S1024x4x640_S1024x2560
def product (x : FVec Ideal S8192x1024 .f32) (g : FVec Ideal S1x1024 .f32) (W : FVec Ideal S4x1024x640 .bf16) : FVec Ideal S8192x2560 .f32 :=
  Host.dotGeneral dot_S8192x1024_S1024x2560_S8192x2560_1_0_0_1_n_n none (rows x g) (flat W)
def low (x : FVec Ideal S8192x1024 .f32) (g : FVec Ideal S1x1024 .f32) (W : FVec Ideal S4x1024x640 .bf16) : FVec Ideal S8192x1024 .f32 :=
  extractStridedSlice S8192x1024 ![0, 0] (product x g W) slices_S8192x2560_S8192x1024_0_0
def high (x : FVec Ideal S8192x1024 .f32) (g : FVec Ideal S1x1024 .f32) (W : FVec Ideal S4x1024x640 .bf16) : FVec Ideal S8192x1536 .f32 :=
  extractStridedSlice S8192x1536 ![0, 1024] (product x g W) slices_S8192x2560_S8192x1536_0_1024

section
variable (x : FVec Ideal S8192x1024 .f32) (g : FVec Ideal S1x1024 .f32) (W : FVec Ideal S4x1024x640 .bf16)
theorem rows_at (p : Fin 8192) (i : Fin 1024) : rows x g (ix2 p i) = gained (row x p) (row g 0) i := by
  unfold rows gained normed scale
  pointwise
theorem flat_at (k : Fin 1024) (q : Fin 2560) : flat W (ix2 k q) = wcol W q.val k := by
  have hq := q.isLt
  refine Eq.trans ?_ (wcol_eq W (⟨q.val / 640, by omega⟩ : Fin 4) k (⟨q.val % 640, by omega⟩ : Fin 640) q.val (by show q.val = 640 * (q.val / 640) + q.val % 640; omega)).symm
  unfold flat
  pointwise
theorem product_at (p : Fin 8192) (q : Fin 2560) : product x g W (ix2 p q) = proj (row x p) (row g 0) W q.val := by
  have e : product x g W (ix2 p q) = ∑ k : Fin 1024, rows x g (ix2 p k) * flat W (ix2 k q) := by
    unfold product
    generalize rows x g = a
    generalize flat W = b
    pointwise
  rw [e]
  exact Finset.sum_congr rfl fun k _ => congrArg₂ (· * ·) (rows_at x g p k) (flat_at W k q)
theorem low_at (p : Fin 8192) (q : Fin 1024) : low x g W (ix2 p q) = proj (row x p) (row g 0) W q.val := by
  refine Eq.trans ?_ (product_at x g W p (⟨q.val, by omega⟩ : Fin 2560))
  unfold low
  generalize product x g W = a
  pointwise
theorem high_at (p : Fin 8192) (q : Fin 1536) : high x g W (ix2 p q) = proj (row x p) (row g 0) W (1024 + q.val) := by
  refine Eq.trans ?_ (product_at x g W p (⟨1024 + q.val, by omega⟩ : Fin 2560))
  unfold high
  generalize product x g W = a
  pointwise
end

/-- The three results, of three arrays. -/
def Three (x : FVec Ideal S8192x1024 .f32) (g : FVec Ideal S1x1024 .f32) (W : FVec Ideal S4x1024x640 .bf16)
    (r0 : FVec Ideal S8192x1024 .bf16) (r1 : FVec Ideal S8192x1024 .f32) (r2 : FVec Ideal S8192x1536 .bf16) : Prop :=
  r0 = (fun j : S8192x1024.Idx => gained (row x (j 0)) (row g 0) (j 1)) ∧ r1 = (fun j : S8192x1024.Idx => proj (row x (j 0)) (row g 0) W (j 1).val)
    ∧ r2 = (fun j : S8192x1536.Idx => proj (row x (j 0)) (row g 0) W (1024 + (j 1).val))
theorem three (x : FVec Ideal S8192x1024 .f32) (g : FVec Ideal S1x1024 .f32) (W : FVec Ideal S4x1024x640 .bf16) :
    Three x g W (rows x g) (low x g W) (high x g W) := by
  refine ⟨?_, ?_, ?_⟩
  · funext j
    idx_vars j
    exact rows_at x g j0 j1
  · funext j
    idx_vars j
    exact low_at x g W j0 j1
  · funext j
    idx_vars j
    exact high_at x g W j0 j1
/-- The same results, where the arrays are the same. -/
theorem Three.same {x x' : FVec Ideal S8192x1024 .f32} {g g' : FVec Ideal S1x1024 .f32} {W W' : FVec Ideal S4x1024x640 .bf16}
    {r0 : FVec Ideal S8192x1024 .bf16} {r1 : FVec Ideal S8192x1024 .f32} {r2 : FVec Ideal S8192x1536 .bf16}
    (hx : x' = x) (hg : g' = g) (hW : W' = W) (h : Three x' g' W' r0 r1 r2) : Three x g W r0 r1 r2 := by
  subst hx hg hW
  exact h
end Cert.RefInProjIdeal.Hand

namespace Cert.Proof

open Idealize.ShloMosaic Idealize.ShloMosaic.TcCoe

instance inProjIdealFacts : Cert.InProjIdeal.Facts := Cert.InProjIdeal.Gen.facts
instance refInProjFacts : Cert.RefInProjIdeal.Facts := Cert.RefInProjIdeal.Gen.facts

/-- The reference's run leaves the three results. -/
theorem ref_in_proj (m : (ℓ : Loc Cert.RefInProjIdeal.nD Cert.RefInProjIdeal.τ Cert.RefInProjIdeal.sig) → Buf (Elt Ideal) ℓ) (c : Dev Cert.RefInProjIdeal.nD)
    {r0 r1 r2} (h0 : r0 = Cert.RefInProjIdeal.Hand.rows (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1))) (h1 : r1 = Cert.RefInProjIdeal.Hand.low (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2))) (h2 : r2 = Cert.RefInProjIdeal.Hand.high (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2))) :
    Cert.RefInProjIdeal.Hand.Three (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2)) r0 r1 r2 := by
  rw [h0, h1, h2]
  exact Cert.RefInProjIdeal.Hand.three (m ((c.tc : Thread Cert.RefInProjIdeal.nD Cert.RefInProjIdeal.τ).loc Cert.RefInProjIdeal.main_arg0)) (m ((c.tc : Thread Cert.RefInProjIdeal.nD Cert.RefInProjIdeal.τ).loc Cert.RefInProjIdeal.main_arg1)) (m ((c.tc : Thread Cert.RefInProjIdeal.nD Cert.RefInProjIdeal.τ).loc Cert.RefInProjIdeal.main_arg2))

theorem algebraic_in_proj : Cert.algebraic_InProjIdeal_RefInProjIdeal := by
  intro m g m' g' _ hargs
  refine ⟨fun c => _, fun c => _, fun c => _, Cert.InProjIdeal.Value.run_blocks m g, ?_⟩
  refine (θ_run Cert.RefInProjIdeal.defs _ _).mono (fun r h c => ?_) (Cert.RefInProjIdeal.Value.run m' g')
  obtain ⟨a0, a1, a2⟩ := hargs c
  have s := Cert.RefInProjIdeal.Hand.Three.same a0 a1 a2 (ref_in_proj m' c (h c).1 (h c).2.1 (h c).2.2.1)
  exact ⟨s.1.trans (Cert.InProjIdeal.Hand.result3 m c).symm, s.2.1.trans (Cert.InProjIdeal.Hand.result4 m c).symm, s.2.2.trans (Cert.InProjIdeal.Hand.result5 m c).symm, (h c).2.2.2⟩
end Cert.Proof
end
-- ==== Proof.FfnBwdRow.lean ====
module

public import proofs.«01_k».proof.Proof.FfnRow
public import proofs.«01_k».proof.Proof.Stick

@[expose] public section

/-! One token's row backward through the norm, the gate and the two products, as the kernel computes it and as the reference
    does, and that the two agree where every input is a real number. -/

noncomputable section

namespace Cert.FfnRow

open Idealize.ShloMosaic Finset

/-- An extended real that is a real number; sums and products of such are such. -/
def Re (x : EReal) : Prop := ∃ r : ℝ, x = r
theorem Re.add {x y : EReal} : Re x → Re y → Re (x + y) := fun ⟨a, h⟩ ⟨b, k⟩ => ⟨a + b, by rw [h, k, EReal.coe_add]⟩
theorem Re.sub {x y : EReal} : Re x → Re y → Re (x - y) := fun ⟨a, h⟩ ⟨b, k⟩ => ⟨a - b, by rw [h, k, EReal.coe_sub]⟩
theorem Re.mul {x y : EReal} : Re x → Re y → Re (x * y) := fun ⟨a, h⟩ ⟨b, k⟩ => ⟨a * b, by rw [h, k, EReal.coe_mul]⟩
theorem Re.sum {ι : Type} (s : Finset ι) (f : ι → EReal) (h : ∀ i, Re (f i)) : Re (∑ i ∈ s, f i) :=
  Finset.sum_induction f Re (fun _ _ => Re.add) ⟨0, rfl⟩ fun i _ => h i
theorem Re.div {x : EReal} : Re x → Re (Ideal.div x c1024) := fun ⟨a, h⟩ => ⟨a * (1 / 1024), by
  rw [h, c1024_eq, Ideal.div_coe (by norm_num), EReal.coe_mul]⟩
theorem re_one : Re one := ⟨1, one_eq⟩
theorem half_neg : Ideal.ofBits .f32 0xBF000000#32 = ((-(1 / 2) : ℝ) : EReal) := by simp [Ideal.ofBits, Ideal.ieee, -EReal.coe_mul]; norm_num
theorem eps_pos : ∃ e : ℝ, 0 < e ∧ eps = e := by
  refine ⟨_, ?_, by simp [eps, Ideal.ofBits, Ideal.ieee, -EReal.coe_mul]; rfl⟩
  norm_num

/-- The logistic function of a real number is a real number. -/
def sg (g : EReal) : EReal := Ideal.div one (one + Ideal.exp (-g))
theorem sg_re {g : EReal} : Re g → Re (sg g) := fun ⟨a, h⟩ => by
  have p : 1 + Real.exp (-a) ≠ 0 := by positivity
  exact ⟨1 * (1 / (1 + Real.exp (-a))), by rw [h, sg, one_eq, ← EReal.coe_neg, Ideal.exp_coe, ← EReal.coe_add, Ideal.div_coe p, EReal.coe_mul]⟩

/-- The activation's gradient, from the output's; the gate's and the other factor's gradients, from it; and the gradient of
    the products' input. -/
def actGrad (d : Fin 1024 → EReal) (w : Fin 2816 → Fin 1024 → EReal) (j : Fin 2816) : EReal := ∑ i, d i * w j i
def gateGrad (a g u : EReal) : EReal := a * u * (sg g * (one + g * (one - sg g)))
def upGrad (a g : EReal) : EReal := a * (g * sg g)
def inGrad (p q : Fin 2816 → EReal) (wg wu : Fin 1024 → Fin 2816 → EReal) (i : Fin 1024) : EReal := (∑ j, p j * wg i j) + ∑ j, q j * wu i j
/-- The norm's input gradient, for the gradient `d` of its output, its input `h` and its gain `g`. -/
def normGrad (d h g : Fin 1024 → EReal) (i : Fin 1024) : EReal :=
  scale h * (d i * g i - normed h i * Ideal.div (∑ k, d k * g k * normed h k) c1024)

/-- The mean square with its constant, and the two gradients as the reference writes them. -/
def msq (h : Fin 1024 → EReal) : EReal := Ideal.div (∑ i, h i * h i) c1024 + eps
def gateGradR (a g u : EReal) : EReal := a * u * sg g + g * (a * u) * (sg g * (one - sg g))
def rootGradR (d h g : Fin 1024 → EReal) : EReal :=
  Ideal.div ((∑ k, h k * (d k * g k)) * (Ideal.ofBits .f32 0xBF000000#32 * Ideal.div (scale h) (msq h))) c1024
def normGradR (d h g : Fin 1024 → EReal) (i : Fin 1024) : EReal := d i * g i * scale h + h i * rootGradR d h g + rootGradR d h g * h i

theorem gateGrad_eq {a g u : EReal} (ha : Re a) (hg : Re g) (hu : Re u) : gateGradR a g u = gateGrad a g u := by
  obtain ⟨s, hs⟩ := sg_re hg
  obtain ⟨a, rfl⟩ := ha
  obtain ⟨g, rfl⟩ := hg
  obtain ⟨u, rfl⟩ := hu
  unfold gateGradR gateGrad
  rw [hs, one_eq]
  norm_cast
  ring

theorem gateGrad_re {a g u : EReal} (ha : Re a) (hg : Re g) (hu : Re u) : Re (gateGrad a g u) :=
  (ha.mul hu).mul ((sg_re hg).mul (re_one.add (hg.mul (re_one.sub (sg_re hg)))))

/-- The mean square of real numbers is positive, and its root's reciprocal is a real number. -/
theorem scale_re {h : Fin 1024 → EReal} (hh : ∀ i, Re (h i)) : ∃ r v : ℝ, scale h = r ∧ msq h = v ∧ v ≠ 0 ∧ r * r * v = 1 := by
  choose x hx using hh
  obtain ⟨e, he, hE⟩ := eps_pos
  have p : 0 < (∑ i, x i * x i) * (1 / 1024) + e := by
    have := Finset.sum_nonneg (s := Finset.univ) fun (i : Fin 1024) _ => mul_self_nonneg (x i)
    positivity
  have hv : msq h = (((∑ i, x i * x i) * (1 / 1024) + e : ℝ) : EReal) := by
    unfold msq
    rw [hE, c1024_eq, Ideal.div_coe (by norm_num), EReal.coe_add, EReal.coe_mul, ← Stick.coe_sum]
    simp only [hx, EReal.coe_mul]
  refine ⟨(Real.sqrt ((∑ i, x i * x i) * (1 / 1024) + e))⁻¹, _, ?_, hv, p.ne', ?_⟩
  · show Ideal.rsqrt (msq h) = _
    rw [hv, Ideal.rsqrt_coe, if_neg (not_lt.2 p.le), if_neg p.ne']
  · have q := Real.mul_self_sqrt p.le
    rw [← mul_inv, q, inv_mul_cancel₀ p.ne']

theorem normGrad_eq {d h g : Fin 1024 → EReal} (hd : ∀ i, Re (d i)) (hh : ∀ i, Re (h i)) (hg : ∀ i, Re (g i)) (i : Fin 1024) :
    normGradR d h g i = normGrad d h g i := by
  obtain ⟨r, v, hr, hv, v0, rv⟩ := scale_re hh
  choose x hx using hh
  choose y hy using hd
  choose z hz using hg
  have iv : 1 / v = r * r := by field_simp; linarith
  have s : (∑ k, y k * z k * (x k * r)) = (∑ k, x k * (y k * z k)) * r := by
    rw [Finset.sum_mul]
    exact Finset.sum_congr rfl fun k _ => by ring
  unfold normGradR normGrad rootGradR normed
  rw [hr, hv, half_neg, c1024_eq]
  simp only [Ideal.div_coe v0, Ideal.div_coe (show (1024 : ℝ) ≠ 0 by norm_num), hx, hy, hz, iv, ← EReal.coe_mul, Stick.coe_sum, ← EReal.coe_add, ← EReal.coe_sub, s]
  congr 1
  ring

theorem normGrad_re {d h g : Fin 1024 → EReal} (hd : ∀ i, Re (d i)) (hh : ∀ i, Re (h i)) (hg : ∀ i, Re (g i)) (i : Fin 1024) : Re (normGrad d h g i) := by
  obtain ⟨r, v, hr, _, _, _⟩ := scale_re hh
  have s : Re (scale h) := ⟨r, hr⟩
  have n : ∀ k, Re (normed h k) := fun k => (hh k).mul s
  exact s.mul (((hd i).mul (hg i)).sub ((n i).mul (Re.sum _ _ fun k => ((hd k).mul (hg k)).mul (n k)).div))

/-- The call's eleven arguments, and its six results from them. -/
@[ext] structure Arr where
  gt : (⟨2, ![8192, 2816]⟩ : Shape).Idx → EReal
  up : (⟨2, ![8192, 2816]⟩ : Shape).Idx → EReal
  df : (⟨2, ![8192, 1024]⟩ : Shape).Idx → EReal
  dh2 : (⟨2, ![8192, 1024]⟩ : Shape).Idx → EReal
  h1 : (⟨2, ![8192, 1024]⟩ : Shape).Idx → EReal
  y : (⟨2, ![8192, 1024]⟩ : Shape).Idx → EReal
  wg : (⟨2, ![1024, 2816]⟩ : Shape).Idx → EReal
  wu : (⟨2, ![1024, 2816]⟩ : Shape).Idx → EReal
  wd : (⟨2, ![2816, 1024]⟩ : Shape).Idx → EReal
  g3 : (⟨2, ![1, 1024]⟩ : Shape).Idx → EReal
  g2 : (⟨2, ![1, 1024]⟩ : Shape).Idx → EReal

namespace Arr
variable (X : Arr) (n : Fin 8192)
def dact : Fin 2816 → EReal := actGrad (row X.df n) (mat X.wd)
def dgt (j : Fin 2816) : EReal := gateGrad (X.dact n j) (X.gt (ix2 n j)) (X.up (ix2 n j))
def dup (j : Fin 2816) : EReal := upGrad (X.dact n j) (X.gt (ix2 n j))
def dfin : Fin 1024 → EReal := inGrad (X.dgt n) (X.dup n) (mat X.wg) (mat X.wu)
def dh1 (i : Fin 1024) : EReal := X.dh2 (ix2 n i) + normGrad (X.dfin n) (row X.h1 n) (row X.g3 0) i
def dy : Fin 1024 → EReal := normGrad (X.dh1 n) (row X.y n) (row X.g2 0)
def dg3 (i : Fin 1024) : EReal := ∑ n, X.dfin n i * normed (row X.h1 n) i
def dg2 (i : Fin 1024) : EReal := ∑ n, X.dh1 n i * normed (row X.y n) i

/-- Every argument's every entry is a real number. -/
structure Real : Prop where
  gt : ∀ i, Re (X.gt i)
  up : ∀ i, Re (X.up i)
  df : ∀ i, Re (X.df i)
  dh2 : ∀ i, Re (X.dh2 i)
  h1 : ∀ i, Re (X.h1 i)
  y : ∀ i, Re (X.y i)
  wg : ∀ i, Re (X.wg i)
  wu : ∀ i, Re (X.wu i)
  wd : ∀ i, Re (X.wd i)
  g3 : ∀ i, Re (X.g3 i)
  g2 : ∀ i, Re (X.g2 i)

variable {X} (h : X.Real)
include h
theorem Real.dact (j : Fin 2816) : Re (X.dact n j) := Re.sum univ (fun i => X.df (ix2 n i) * X.wd (ix2 j i)) fun i => (h.df _).mul (h.wd _)
theorem Real.dgt (j : Fin 2816) : Re (X.dgt n j) := gateGrad_re (h.dact n j) (h.gt _) (h.up _)
theorem Real.dup (j : Fin 2816) : Re (X.dup n j) := (h.dact n j).mul ((h.gt _).mul (sg_re (h.gt _)))
theorem Real.dfin (i : Fin 1024) : Re (X.dfin n i) :=
  (Re.sum _ _ fun j => (h.dgt n j).mul (h.wg _)).add (Re.sum _ _ fun j => (h.dup n j).mul (h.wu _))
theorem Real.dh1 (i : Fin 1024) : Re (X.dh1 n i) := (h.dh2 _).add (normGrad_re (h.dfin n) (fun _ => h.h1 _) (fun _ => h.g3 _) i)
end Arr
end Cert.FfnRow
end
-- ==== Proof.FfnBwdPay.lean ====
module

public import proofs.«01_k».proof.Proof.FfnBwdRow
public import proofs.«01_k».proof.Proof.Gen.FfnBwdIdeal.Value
public import Idealize.ShloMosaic.Lib.Pointwise

@[expose] public section

/-! The values one grid point of the gated layer's backward computes, row by row. -/

set_option maxRecDepth 16384

noncomputable section

namespace Cert.FfnBwdIdeal.Hand

open Cert.FfnBwdIdeal Cert.FfnBwdIdeal.Gen Cert.FfnRow
open Idealize.ShloMosaic Idealize.ShloMosaic.Tactic Finset

variable (gt up : Vec Ideal S256x2816 .bf16) (df : Vec Ideal S256x1024 .bf16) (wg wu : Vec Ideal S1024x2816 .bf16) (wd : Vec Ideal S2816x1024 .bf16)
  (d h n x : Vec Ideal S256x1024 .f32) (r : Vec Ideal S256x1 .f32) (g o : Vec Ideal S1x1024 .f32) (p : Fin 256) (z : Fin 1) (i : Fin 1024) (j : Fin 2816)

theorem pay8_at : k0_pay8 df wd (ix2 p j) = actGrad (row df p) (mat wd) j := by
  unfold k0_pay8 actGrad
  pointwise
theorem pay9_at : k0_pay9 df gt up wd (ix2 p j) = gateGrad (actGrad (row df p) (mat wd) j) (gt (ix2 p j)) (up (ix2 p j)) := by
  have e : k0_pay9 df gt up wd (ix2 p j) = k0_pay8 df wd (ix2 p j) * up (ix2 p j) * (Ideal.div one (one + Ideal.exp (Ideal.ofBits .f32 0x00000000#32 - gt (ix2 p j)))
      * (one + gt (ix2 p j) * (one - Ideal.div one (one + Ideal.exp (Ideal.ofBits .f32 0x00000000#32 - gt (ix2 p j)))))) := rfl
  rw [e, pay8_at, Ideal.ofBits_zero_f32, zero_sub]
  rfl
theorem pay10_at : k0_pay10 df gt wd (ix2 p j) = upGrad (actGrad (row df p) (mat wd) j) (gt (ix2 p j)) := by
  have e : k0_pay10 df gt wd (ix2 p j) = k0_pay8 df wd (ix2 p j) * (gt (ix2 p j) * Ideal.div one (one + Ideal.exp (Ideal.ofBits .f32 0x00000000#32 - gt (ix2 p j)))) := rfl
  rw [e, pay8_at, Ideal.ofBits_zero_f32, zero_sub]
  rfl
theorem pay11_at : k0_pay11 df gt up wd wg wu (ix2 p i) = inGrad (row (k0_pay9 df gt up wd) p) (row (k0_pay10 df gt wd) p) (mat wg) (mat wu) i := by
  unfold k0_pay11 inGrad
  generalize k0_pay9 df gt up wd = a
  generalize k0_pay10 df gt wd = b
  pointwise
theorem pay12_at : k0_pay12 h (ix2 p z) = scale (row h p) := by
  unfold k0_pay12 scale
  pointwise
theorem pay13_at : k0_pay13 h (ix2 p i) = normed (row h p) i := by
  have e : k0_pay13 h (ix2 p i) = h (ix2 p i) * k0_pay12 h (ix2 p 0) := by
    unfold k0_pay13
    generalize k0_pay12 h = r
    pointwise
  rw [e, pay12_at]
  rfl
theorem pay14_at : k0_pay14 d h (ix2 p i) = d (ix2 p i) * normed (row h p) i := congrArg (d (ix2 p i) * ·) (pay13_at h p i)
theorem pay15_at : k0_pay15 d h g x (ix2 p i) = x (ix2 p i) + normGrad (row d p) (row h p) (row g 0) i := by
  have e : k0_pay15 d h g x (ix2 p i) = x (ix2 p i) + k0_pay12 h (ix2 p 0) * (d (ix2 p i) * g (ix2 0 i)
      - k0_pay13 h (ix2 p i) * Ideal.div (∑ k : Fin 1024, d (ix2 p k) * g (ix2 0 k) * k0_pay13 h (ix2 p k)) c1024) := by
    unfold k0_pay15
    generalize k0_pay12 h = r
    generalize k0_pay13 h = n
    pointwise
  rw [e, pay12_at]
  simp only [pay13_at]
  rfl
theorem pay1_at : k0_pay1 d (k0_pay16 h) (k0_pay17 h) g (ix2 p i) = normGrad (row d p) (row h p) (row g 0) i := by
  have e : ∀ (r : Vec Ideal S256x1 .f32) (n : Vec Ideal S256x1024 .f32), k0_pay1 d r n g (ix2 p i) = r (ix2 p 0) * (d (ix2 p i) * g (ix2 0 i)
      - n (ix2 p i) * Ideal.div (∑ k : Fin 1024, d (ix2 p k) * g (ix2 0 k) * n (ix2 p k)) c1024) := by
    intro r n
    unfold k0_pay1
    pointwise
  refine (e _ _).trans ?_
  show k0_pay12 h (ix2 p 0) * (d (ix2 p i) * g (ix2 0 i) - k0_pay13 h (ix2 p i) * Ideal.div (∑ k : Fin 1024, d (ix2 p k) * g (ix2 0 k) * k0_pay13 h (ix2 p k)) c1024) = _
  rw [pay12_at]
  simp only [pay13_at]
  rfl
theorem pay4_at : k0_pay4 n o (ix2 z i) = o (ix2 z i) + ∑ p : Fin 256, n (ix2 p i) := by
  obtain rfl : z = 0 := Subsingleton.elim _ _
  unfold k0_pay4
  pointwise
theorem pay5_at : k0_pay5 d (k0_pay17 h) o (ix2 z i) = o (ix2 z i) + ∑ p : Fin 256, d (ix2 p i) * normed (row h p) i := by
  have e : ∀ n : Vec Ideal S256x1024 .f32, k0_pay5 d n o (ix2 z i) = o (ix2 z i) + ∑ p : Fin 256, d (ix2 p i) * n (ix2 p i) := by
    intro n
    obtain rfl : z = 0 := Subsingleton.elim _ _
    unfold k0_pay5
    pointwise
  refine (e _).trans (congrArg _ (Finset.sum_congr rfl fun p _ => congrArg (d (ix2 p i) * ·) (pay13_at h p i)))
theorem zero2 : k0_pay2 (F := Ideal) (ix2 z i) = 0 := by
  unfold k0_pay2
  pointwise
theorem zero3 : k0_pay3 (F := Ideal) (ix2 z i) = 0 := zero2 z i
end Cert.FfnBwdIdeal.Hand
end
-- ==== Proof.FfnBwdPoint.lean ====
module

public import proofs.«01_k».proof.Proof.FfnBwdPay
public import Idealize.ShloMosaic.Lib.Pipeline.ValueKit
public import Idealize.ShloMosaic.Lib.Pipeline.ReadBack

@[expose] public section

/-! What one grid point of the gated layer's backward leaves in each of its blocks: the first point begins the two gains'
    gradients at zero, a later one goes on from the point before. -/

set_option maxRecDepth 16384

noncomputable section

namespace Cert.FfnBwdIdeal.Hand

open Cert.FfnBwdIdeal Cert.FfnBwdIdeal.Gen Cert.FfnBwdIdeal.Value Cert.FfnRow
open Idealize.ShloMosaic Idealize.ShloMosaic.TcCoe Idealize.ShloMosaic.Tactic Idealize.SL.Sem Finset

theorem hz2 : (![0, 0] : Fin 2 → Nat) = fun _ => 0 := funext fun a => by fin_cases a <;> rfl

section
variable (c : Dev nD) (i : grid0.Coords) (arg1 : Memref sig .tc .vmem S256x2816 .bf16) (harg1 : arg1.IsWhole) (arg2 : Memref sig .tc .vmem S256x2816 .bf16) (harg2 : arg2.IsWhole) (arg3 : Memref sig .tc .vmem S256x1024 .bf16) (harg3 : arg3.IsWhole) (arg4 : Memref sig .tc .vmem S256x1024 .f32) (harg4 : arg4.IsWhole) (arg5 : Memref sig .tc .vmem S256x1024 .f32) (harg5 : arg5.IsWhole) (arg6 : Memref sig .tc .vmem S256x1024 .f32) (harg6 : arg6.IsWhole) (arg7 : Memref sig .tc .vmem S1024x2816 .bf16) (harg7 : arg7.IsWhole) (arg8 : Memref sig .tc .vmem S1024x2816 .bf16) (harg8 : arg8.IsWhole) (arg9 : Memref sig .tc .vmem S2816x1024 .bf16) (harg9 : arg9.IsWhole) (arg10 : Memref sig .tc .vmem S1x1024 .f32) (harg10 : arg10.IsWhole) (arg11 : Memref sig .tc .vmem S1x1024 .f32) (harg11 : arg11.IsWhole) (arg12 : Memref sig .tc .vmem S256x2816 .bf16) (harg12 : arg12.IsWhole) (arg13 : Memref sig .tc .vmem S256x2816 .bf16) (harg13 : arg13.IsWhole) (arg14 : Memref sig .tc .vmem S256x1024 .f32) (harg14 : arg14.IsWhole) (arg15 : Memref sig .tc .vmem S256x1024 .bf16) (harg15 : arg15.IsWhole) (arg16 : Memref sig .tc .vmem S1x1024 .f32) (harg16 : arg16.IsWhole) (arg17 : Memref sig .tc .vmem S1x1024 .f32) (harg17 : arg17.IsWhole)
  (x0 : Vec Ideal S256x2816 .bf16) (x1 : Vec Ideal S256x2816 .bf16) (x2 : Vec Ideal S256x1024 .bf16) (x3 : Vec Ideal S256x1024 .f32) (x4 : Vec Ideal S256x1024 .f32) (x5 : Vec Ideal S256x1024 .f32) (x6 : Vec Ideal S1024x2816 .bf16) (x7 : Vec Ideal S1024x2816 .bf16) (x8 : Vec Ideal S2816x1024 .bf16) (x9 : Vec Ideal S1x1024 .f32) (x10 : Vec Ideal S1x1024 .f32)
theorem outA_11 (hc0 : cond0_0 i) : out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = k0_pay9 x2 x0 x1 x8 := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outA_12 (hc0 : cond0_0 i) : out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = k0_pay10 x2 x0 x8 := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outA_13 (hc0 : cond0_0 i) : out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = k0_pay15 (k0_pay11 x2 x0 x1 x8 x6 x7) x4 x9 x3 := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outA_14 (hc0 : cond0_0 i) : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = k0_pay1 (k0_pay15 (k0_pay11 x2 x0 x1 x8 x6 x7) x4 x9 x3) (k0_pay16 x5) (k0_pay17 x5) x10 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outA_15 (hc0 : cond0_0 i) : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = k0_pay4 (k0_pay14 (k0_pay11 x2 x0 x1 x8 x6 x7) x4) (k0_pay2 (F := Ideal)) := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_cons_unit_zero (S := S1x1024) hz2, View.readCov_unit_zero (S := S1x1024) _ hz2]
theorem outA_16 (hc0 : cond0_0 i) : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 = k0_pay5 (k0_pay15 (k0_pay11 x2 x0 x1 x8 x6 x7) x4 x9 x3) (k0_pay17 x5) (k0_pay3 (F := Ideal)) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10)]
  unfold kernelRun0_A
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_cons_unit_zero (S := S1x1024) hz2, View.readCov_unit_zero (S := S1x1024) _ hz2]
theorem outB_11 (hc0 : ¬cond0_0 i) (o3 o2 : Vec Ideal S1x1024 .f32) : out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2 = k0_pay9 x2 x0 x1 x8 := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outB_12 (hc0 : ¬cond0_0 i) (o3 o2 : Vec Ideal S1x1024 .f32) : out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2 = k0_pay10 x2 x0 x8 := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outB_13 (hc0 : ¬cond0_0 i) (o3 o2 : Vec Ideal S1x1024 .f32) : out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2 = k0_pay15 (k0_pay11 x2 x0 x1 x8 x6 x7) x4 x9 x3 := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outB_14 (hc0 : ¬cond0_0 i) (o3 o2 : Vec Ideal S1x1024 .f32) : out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2 = k0_pay1 (k0_pay15 (k0_pay11 x2 x0 x1 x8 x6 x7) x4 x9 x3) (k0_pay16 x5) (k0_pay17 x5) x10 := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outB_15 (hc0 : ¬cond0_0 i) (o3 o2 : Vec Ideal S1x1024 .f32) : out0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2 = k0_pay4 (k0_pay14 (k0_pay11 x2 x0 x1 x8 x6 x7) x4) o3 := by
  unfold out0_B_15
  rw [View.read_writes_eq_canon _ _ _ (cover0_B_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg16.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
theorem outB_16 (hc0 : ¬cond0_0 i) (o3 o2 : Vec Ideal S1x1024 .f32) : out0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2 = k0_pay5 (k0_pay15 (k0_pay11 x2 x0 x1 x8 x6 x7) x4 x9 x3) (k0_pay17 x5) o2 := by
  unfold out0_B_16
  rw [View.read_writes_eq_canon _ _ _ (cover0_B_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 o3 o2)]
  unfold kernelRun0_B
  dsimp only
  try sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg17.read_unread, View.ld_unit_zero (S := S256x2816) hz2, View.ld_unit_zero (S := S256x1024) hz2, View.ld_unit_zero (S := S1024x2816) hz2, View.ld_unit_zero (S := S2816x1024) hz2, View.ld_unit_zero (S := S1x1024) hz2, shapeCast_self]
  rw [View.canon_unit_zero hz2]
end
end Cert.FfnBwdIdeal.Hand
end
-- ==== Proof.FfnBwdResult.lean ====
module

public import proofs.«01_k».proof.Proof.FfnBwdPoint

@[expose] public section

/-! The arrays the gated layer's backward ends with: every block's rows are the rows of the gradients, and the two sums over
    the grid are sums over all tokens. -/

set_option maxRecDepth 16384

noncomputable section

namespace Cert.FfnBwdIdeal.Hand

open Cert.FfnBwdIdeal Cert.FfnBwdIdeal.Gen Cert.FfnBwdIdeal.Value Cert.FfnRow
open Idealize.ShloMosaic Idealize.ShloMosaic.TcCoe Idealize.ShloMosaic.Tactic Idealize.SL.Sem Finset

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 0] := (by decide +kernel : ∀ t : Fin grid0.N, win0_3.index t = ![t.val, 0])
theorem index4 : ∀ t : Fin cfg0.N, win0_4.index t = ![t.val, 0] := (by decide +kernel : ∀ t : Fin grid0.N, win0_4.index t = ![t.val, 0])
theorem index5 : ∀ t : Fin cfg0.N, win0_5.index t = ![t.val, 0] := (by decide +kernel : ∀ t : Fin grid0.N, win0_5.index t = ![t.val, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![0, 0] := (by decide +kernel : ∀ t : Fin grid0.N, win0_10.index t = ![0, 0])
theorem index11 : ∀ t : Fin cfg0.N, win0_11.index t = ![t.val, 0] := (by decide +kernel : ∀ t : Fin grid0.N, win0_11.index t = ![t.val, 0])
theorem index12 : ∀ t : Fin cfg0.N, win0_12.index t = ![t.val, 0] := (by decide +kernel : ∀ t : Fin grid0.N, win0_12.index t = ![t.val, 0])
theorem index13 : ∀ t : Fin cfg0.N, win0_13.index t = ![t.val, 0] := (by decide +kernel : ∀ t : Fin grid0.N, win0_13.index t = ![t.val, 0])
theorem index14 : ∀ t : Fin cfg0.N, win0_14.index t = ![t.val, 0] := (by decide +kernel : ∀ t : Fin grid0.N, win0_14.index t = ![t.val, 0])
theorem index15 : ∀ t : Fin cfg0.N, win0_15.index t = ![0, 0] := (by decide +kernel : ∀ t : Fin grid0.N, win0_15.index t = ![0, 0])
theorem index16 : ∀ t : Fin cfg0.N, win0_16.index t = ![0, 0] := (by decide +kernel : ∀ t : Fin grid0.N, win0_16.index t = ![0, 0])

section
variable (m : (ℓ : Loc nD τ sig) → Buf (Elt Ideal) ℓ) (c : Dev nD)

/-- The arguments, and the blocks of them a point reads. -/
def args : Arr where
  gt := m ((c : Thread nD τ).loc main_arg0)
  up := m ((c : Thread nD τ).loc main_arg1)
  df := m ((c : Thread nD τ).loc main_arg2)
  dh2 := m ((c : Thread nD τ).loc main_arg3)
  h1 := m ((c : Thread nD τ).loc main_arg4)
  y := m ((c : Thread nD τ).loc main_arg5)
  wg := m ((c : Thread nD τ).loc main_arg6)
  wu := m ((c : Thread nD τ).loc main_arg7)
  wd := m ((c : Thread nD τ).loc main_arg8)
  g3 := m ((c : Thread nD τ).loc main_arg9)
  g2 := m ((c : Thread nD τ).loc main_arg10)
abbrev b0 (t : Fin cfg0.N) : Vec Ideal S256x2816 .bf16 := iblk m c 0 t
abbrev b1 (t : Fin cfg0.N) : Vec Ideal S256x2816 .bf16 := iblk m c 1 t
abbrev b2 (t : Fin cfg0.N) : Vec Ideal S256x1024 .bf16 := iblk m c 2 t
abbrev b3 (t : Fin cfg0.N) : Vec Ideal S256x1024 .f32 := iblk m c 3 t
abbrev b4 (t : Fin cfg0.N) : Vec Ideal S256x1024 .f32 := iblk m c 4 t
abbrev b5 (t : Fin cfg0.N) : Vec Ideal S256x1024 .f32 := iblk m c 5 t
abbrev b6 (t : Fin cfg0.N) : Vec Ideal S1024x2816 .bf16 := iblk m c 6 t
abbrev b7 (t : Fin cfg0.N) : Vec Ideal S1024x2816 .bf16 := iblk m c 7 t
abbrev b8 (t : Fin cfg0.N) : Vec Ideal S2816x1024 .bf16 := iblk m c 8 t
abbrev b9 (t : Fin cfg0.N) : Vec Ideal S1x1024 .f32 := iblk m c 9 t
abbrev b10 (t : Fin cfg0.N) : Vec Ideal S1x1024 .f32 := iblk m c 10 t
theorem lt32 (t : Fin cfg0.N) : t.val < 32 := lt_of_lt_of_eq t.isLt N_0
abbrev at_ (t : Fin cfg0.N) (p : Fin 256) : Fin 8192 := tok t.val p.val (lt32 t) p.isLt
theorem row0 (t : Fin cfg0.N) (p : Fin 256) (k : Fin 2816) : b0 m c t (ix2 p k) = (args m c).gt (ix2 (at_ t p) k) := by
  refine congrArg (args m c).gt (funext fun a => ?_)
  match a with
  | ⟨0, _⟩ => refine Fin.ext ?_; show ((((cfg0.win 0).blk t).view.emb (ix2 p k)) 0).val = 256 * t.val + p.val; blk_simp [index0 t]; simp; omega
  | ⟨1, _⟩ => refine Fin.ext ?_; show ((((cfg0.win 0).blk t).view.emb (ix2 p k)) 1).val = k.val; blk_simp [index0 t]
theorem row1 (t : Fin cfg0.N) (p : Fin 256) (k : Fin 2816) : b1 m c t (ix2 p k) = (args m c).up (ix2 (at_ t p) k) := by
  refine congrArg (args m c).up (funext fun a => ?_)
  match a with
  | ⟨0, _⟩ => refine Fin.ext ?_; show ((((cfg0.win 1).blk t).view.emb (ix2 p k)) 0).val = 256 * t.val + p.val; blk_simp [index1 t]; simp; omega
  | ⟨1, _⟩ => refine Fin.ext ?_; show ((((cfg0.win 1).blk t).view.emb (ix2 p k)) 1).val = k.val; blk_simp [index1 t]
theorem row2 (t : Fin cfg0.N) (p : Fin 256) : row (b2 m c t) p = row (args m c).df (at_ t p) := by
  funext k
  refine congrArg (args m c).df (funext fun a => ?_)
  match a with
  | ⟨0, _⟩ => refine Fin.ext ?_; show ((((cfg0.win 2).blk t).view.emb (ix2 p k)) 0).val = 256 * t.val + p.val; blk_simp [index2 t]; simp; omega
  | ⟨1, _⟩ => refine Fin.ext ?_; show ((((cfg0.win 2).blk t).view.emb (ix2 p k)) 1).val = k.val; blk_simp [index2 t]
theorem row3 (t : Fin cfg0.N) (p : Fin 256) (k : Fin 1024) : b3 m c t (ix2 p k) = (args m c).dh2 (ix2 (at_ t p) k) := by
  refine congrArg (args m c).dh2 (funext fun a => ?_)
  match a with
  | ⟨0, _⟩ => refine Fin.ext ?_; show ((((cfg0.win 3).blk t).view.emb (ix2 p k)) 0).val = 256 * t.val + p.val; blk_simp [index3 t]; simp; omega
  | ⟨1, _⟩ => refine Fin.ext ?_; show ((((cfg0.win 3).blk t).view.emb (ix2 p k)) 1).val = k.val; blk_simp [index3 t]
theorem row4 (t : Fin cfg0.N) (p : Fin 256) : row (b4 m c t) p = row (args m c).h1 (at_ t p) := by
  funext k
  refine congrArg (args m c).h1 (funext fun a => ?_)
  match a with
  | ⟨0, _⟩ => refine Fin.ext ?_; show ((((cfg0.win 4).blk t).view.emb (ix2 p k)) 0).val = 256 * t.val + p.val; blk_simp [index4 t]; simp; omega
  | ⟨1, _⟩ => refine Fin.ext ?_; show ((((cfg0.win 4).blk t).view.emb (ix2 p k)) 1).val = k.val; blk_simp [index4 t]
theorem row5 (t : Fin cfg0.N) (p : Fin 256) : row (b5 m c t) p = row (args m c).y (at_ t p) := by
  funext k
  refine congrArg (args m c).y (funext fun a => ?_)
  match a with
  | ⟨0, _⟩ => refine Fin.ext ?_; show ((((cfg0.win 5).blk t).view.emb (ix2 p k)) 0).val = 256 * t.val + p.val; blk_simp [index5 t]; simp; omega
  | ⟨1, _⟩ => refine Fin.ext ?_; show ((((cfg0.win 5).blk t).view.emb (ix2 p k)) 1).val = k.val; blk_simp [index5 t]
theorem all6 (t : Fin cfg0.N) : b6 m c t = (args m c).wg := by
  refine funext fun j => congrArg (args m c).wg (funext fun a => ?_)
  match a with
  | ⟨0, _⟩ => refine Fin.ext ?_; show ((((cfg0.win 6).blk t).view.emb j) 0).val = (j 0).val; blk_simp [index6 t]
  | ⟨1, _⟩ => refine Fin.ext ?_; show ((((cfg0.win 6).blk t).view.emb j) 1).val = (j 1).val; blk_simp [index6 t]
theorem all7 (t : Fin cfg0.N) : b7 m c t = (args m c).wu := by
  refine funext fun j => congrArg (args m c).wu (funext fun a => ?_)
  match a with
  | ⟨0, _⟩ => refine Fin.ext ?_; show ((((cfg0.win 7).blk t).view.emb j) 0).val = (j 0).val; blk_simp [index7 t]
  | ⟨1, _⟩ => refine Fin.ext ?_; show ((((cfg0.win 7).blk t).view.emb j) 1).val = (j 1).val; blk_simp [index7 t]
theorem all8 (t : Fin cfg0.N) : b8 m c t = (args m c).wd := by
  refine funext fun j => congrArg (args m c).wd (funext fun a => ?_)
  match a with
  | ⟨0, _⟩ => refine Fin.ext ?_; show ((((cfg0.win 8).blk t).view.emb j) 0).val = (j 0).val; blk_simp [index8 t]
  | ⟨1, _⟩ => refine Fin.ext ?_; show ((((cfg0.win 8).blk t).view.emb j) 1).val = (j 1).val; blk_simp [index8 t]
theorem all9 (t : Fin cfg0.N) : b9 m c t = (args m c).g3 := by
  refine funext fun j => congrArg (args m c).g3 (funext fun a => ?_)
  match a with
  | ⟨0, _⟩ => refine Fin.ext ?_; show ((((cfg0.win 9).blk t).view.emb j) 0).val = (j 0).val; blk_simp [index9 t]
  | ⟨1, _⟩ => refine Fin.ext ?_; show ((((cfg0.win 9).blk t).view.emb j) 1).val = (j 1).val; blk_simp [index9 t]
theorem all10 (t : Fin cfg0.N) : b10 m c t = (args m c).g2 := by
  refine funext fun j => congrArg (args m c).g2 (funext fun a => ?_)
  match a with
  | ⟨0, _⟩ => refine Fin.ext ?_; show ((((cfg0.win 10).blk t).view.emb j) 0).val = (j 0).val; blk_simp [index10 t]
  | ⟨1, _⟩ => refine Fin.ext ?_; show ((((cfg0.win 10).blk t).view.emb j) 1).val = (j 1).val; blk_simp [index10 t]

/-- What a point computes, by its tokens. -/
abbrev pG (t : Fin cfg0.N) : Vec Ideal S256x2816 .bf16 := k0_pay9 (b2 m c t) (b0 m c t) (b1 m c t) (b8 m c t)
abbrev pU (t : Fin cfg0.N) : Vec Ideal S256x2816 .bf16 := k0_pay10 (b2 m c t) (b0 m c t) (b8 m c t)
abbrev pI (t : Fin cfg0.N) : Vec Ideal S256x1024 .f32 := k0_pay11 (b2 m c t) (b0 m c t) (b1 m c t) (b8 m c t) (b6 m c t) (b7 m c t)
abbrev pH (t : Fin cfg0.N) : Vec Ideal S256x1024 .f32 := k0_pay15 (pI m c t) (b4 m c t) (b9 m c t) (b3 m c t)
abbrev pY (t : Fin cfg0.N) : Vec Ideal S256x1024 .bf16 := k0_pay1 (pH m c t) (k0_pay16 (b5 m c t)) (k0_pay17 (b5 m c t)) (b10 m c t)
theorem rowG (t : Fin cfg0.N) (p : Fin 256) : row (pG m c t) p = (args m c).dgt (at_ t p) := by
  funext j
  refine (pay9_at _ _ _ _ p j).trans ?_
  rw [row2 m c t p, all8, row0, row1]
  rfl
theorem rowU (t : Fin cfg0.N) (p : Fin 256) : row (pU m c t) p = (args m c).dup (at_ t p) := by
  funext j
  refine (pay10_at _ _ _ p j).trans ?_
  rw [row2 m c t p, all8, row0]
  rfl
theorem rowI (t : Fin cfg0.N) (p : Fin 256) : row (pI m c t) p = (args m c).dfin (at_ t p) := by
  funext i
  refine (pay11_at _ _ _ _ _ _ p i).trans ?_
  rw [rowG m c t p, rowU m c t p, all6, all7]
  rfl
theorem rowN (t : Fin cfg0.N) (p : Fin 256) : row (pH m c t) p = (args m c).dh1 (at_ t p) := by
  funext i
  refine (pay15_at _ _ _ _ p i).trans ?_
  rw [rowI m c t p, row4 m c t p, row3, all9]
  rfl
theorem rowY (t : Fin cfg0.N) (p : Fin 256) : row (pY m c t) p = (args m c).dy (at_ t p) := by
  funext i
  refine (pay1_at _ _ _ p i).trans ?_
  rw [rowN m c t p, row5 m c t p, all10]
  rfl

/-- What a token adds to each gain's gradient, and a point's tokens together. -/
def of3 (i : Fin 1024) (n : Fin 8192) : EReal := (args m c).dfin n i * normed (row (args m c).h1 n) i
def of2 (i : Fin 1024) (n : Fin 8192) : EReal := (args m c).dh1 n i * normed (row (args m c).y n) i
theorem step3 (t : Fin cfg0.N) (o : Vec Ideal S1x1024 .f32) (z : Fin 1) (i : Fin 1024) :
    k0_pay4 (k0_pay14 (pI m c t) (b4 m c t)) o (ix2 z i) = o (ix2 z i) + part (of3 m c i) t.val := by
  refine (pay4_at _ o z i).trans (congrArg (o (ix2 z i) + ·) ?_)
  rw [← part_eq (of3 m c i) t.val (lt32 t)]
  refine Finset.sum_congr rfl fun p _ => (pay14_at _ _ p i).trans ?_
  rw [row4 m c t p]
  exact congrArg (· * _) (congrFun (rowI m c t p) i)
theorem step2 (t : Fin cfg0.N) (o : Vec Ideal S1x1024 .f32) (z : Fin 1) (i : Fin 1024) :
    k0_pay5 (pH m c t) (k0_pay17 (b5 m c t)) o (ix2 z i) = o (ix2 z i) + part (of2 m c i) t.val := by
  refine (pay5_at _ _ o z i).trans (congrArg (o (ix2 z i) + ·) ?_)
  rw [← part_eq (of2 m c i) t.val (lt32 t)]
  refine Finset.sum_congr rfl fun p _ => ?_
  rw [row5 m c t p]
  exact congrArg (· * _) (congrFun (rowN m c t p) i)

/-- After point `n` the two sums are those of the blocks up to it. -/
theorem upto3 (n : ℕ) (h : n < cfg0.N) (z : Fin 1) (i : Fin 1024) : (outsAt0 m c n h).2.2.2.2.1 (ix2 z i) = ∑ s ∈ range (n + 1), part (of3 m c i) s := by
  have hN : cfg0.N = 32 := N_0
  induction n with
  | zero =>
    rw [outsAt0_A m c ⟨0, h⟩ rfl]
    dsimp only
    rw [outA_15]
    refine (step3 m c ⟨0, h⟩ _ z i).trans ?_
    rw [zero2, Finset.sum_range_succ, Finset.sum_range_zero]
  | succ n ih =>
    rw [outsAt0_B m c ⟨n + 1, h⟩ (show ¬(n + 1) % 32 = 0 by omega)]
    dsimp only
    rw [outB_15]
    refine (step3 m c ⟨n + 1, h⟩ _ z i).trans ?_
    rw [Finset.sum_range_succ]
    exact congrArg (· + _) (ih (Nat.lt_of_succ_lt h))
theorem upto2 (n : ℕ) (h : n < cfg0.N) (z : Fin 1) (i : Fin 1024) : (outsAt0 m c n h).2.2.2.2.2 (ix2 z i) = ∑ s ∈ range (n + 1), part (of2 m c i) s := by
  have hN : cfg0.N = 32 := N_0
  induction n with
  | zero =>
    rw [outsAt0_A m c ⟨0, h⟩ rfl]
    dsimp only
    rw [outA_16]
    refine (step2 m c ⟨0, h⟩ _ z i).trans ?_
    rw [zero3, Finset.sum_range_succ, Finset.sum_range_zero]
  | succ n ih =>
    rw [outsAt0_B m c ⟨n + 1, h⟩ (show ¬(n + 1) % 32 = 0 by omega)]
    dsimp only
    rw [outB_16]
    refine (step2 m c ⟨n + 1, h⟩ _ z i).trans ?_
    rw [Finset.sum_range_succ]
    exact congrArg (· + _) (ih (Nat.lt_of_succ_lt h))

/-- The row blocks after a point, whichever it is. -/
theorem rows11 (t : Fin cfg0.N) : (outsAt0 m c t.val t.isLt).1 = pG m c t := by
  by_cases h : t.val % 32 = 0
  · rw [outsAt0_A m c t h]; dsimp only; rw [outA_11]
  · rw [outsAt0_B m c t h]; dsimp only; rw [outB_11]
theorem rows12 (t : Fin cfg0.N) : (outsAt0 m c t.val t.isLt).2.1 = pU m c t := by
  by_cases h : t.val % 32 = 0
  · rw [outsAt0_A m c t h]; dsimp only; rw [outA_12]
  · rw [outsAt0_B m c t h]; dsimp only; rw [outB_12]
theorem rows13 (t : Fin cfg0.N) : (outsAt0 m c t.val t.isLt).2.2.1 = pH m c t := by
  by_cases h : t.val % 32 = 0
  · rw [outsAt0_A m c t h]; dsimp only; rw [outA_13]
  · rw [outsAt0_B m c t h]; dsimp only; rw [outB_13]
theorem rows14 (t : Fin cfg0.N) : (outsAt0 m c t.val t.isLt).2.2.2.1 = pY m c t := by
  by_cases h : t.val % 32 = 0
  · rw [outsAt0_A m c t h]; dsimp only; rw [outA_14]
  · rw [outsAt0_B m c t h]; dsimp only; rw [outB_14]

/-! The six arrays. -/
theorem result11 : (dats m 0 c).arrAt 11 cfg0.N = (fun j : S8192x2816.Idx => (args m c).dgt (j 0) (j 1)) := by
  refine (dats m 0 c).arrAt_eq_of_covers 11 _ (by decide +kernel) fun t hf y => ?_
  blk_simp
  rw [after0_11, rows11]
  idx_vars y
  refine (congrFun (rowG m c t y0) y1 : _ = _).trans ?_
  refine congrArg₂ (args m c).dgt (Fin.ext ?_) (Fin.ext ?_)
  · show 256 * t.val + y0.val = ((((cfg0.win 11).blk t).view.emb (ix2 y0 y1)) 0).val; blk_simp [index11 t]; simp; omega
  · show y1.val = ((((cfg0.win 11).blk t).view.emb (ix2 y0 y1)) 1).val; blk_simp [index11 t]
theorem result12 : (dats m 0 c).arrAt 12 cfg0.N = (fun j : S8192x2816.Idx => (args m c).dup (j 0) (j 1)) := by
  refine (dats m 0 c).arrAt_eq_of_covers 12 _ (by decide +kernel) fun t hf y => ?_
  blk_simp
  rw [after0_12, rows12]
  idx_vars y
  refine (congrFun (rowU m c t y0) y1 : _ = _).trans ?_
  refine congrArg₂ (args m c).dup (Fin.ext ?_) (Fin.ext ?_)
  · show 256 * t.val + y0.val = ((((cfg0.win 12).blk t).view.emb (ix2 y0 y1)) 0).val; blk_simp [index12 t]; simp; omega
  · show y1.val = ((((cfg0.win 12).blk t).view.emb (ix2 y0 y1)) 1).val; blk_simp [index12 t]
theorem result13 : (dats m 0 c).arrAt 13 cfg0.N = (fun j : S8192x1024.Idx => (args m c).dh1 (j 0) (j 1)) := by
  refine (dats m 0 c).arrAt_eq_of_covers 13 _ (by decide +kernel) fun t hf y => ?_
  blk_simp
  rw [after0_13, rows13]
  idx_vars y
  refine (congrFun (rowN m c t y0) y1 : _ = _).trans ?_
  refine congrArg₂ (args m c).dh1 (Fin.ext ?_) (Fin.ext ?_)
  · show 256 * t.val + y0.val = ((((cfg0.win 13).blk t).view.emb (ix2 y0 y1)) 0).val; blk_simp [index13 t]; simp; omega
  · show y1.val = ((((cfg0.win 13).blk t).view.emb (ix2 y0 y1)) 1).val; blk_simp [index13 t]
theorem result14 : (dats m 0 c).arrAt 14 cfg0.N = (fun j : S8192x1024.Idx => (args m c).dy (j 0) (j 1)) := by
  refine (dats m 0 c).arrAt_eq_of_covers 14 _ (by decide +kernel) fun t hf y => ?_
  blk_simp
  rw [after0_14, rows14]
  idx_vars y
  refine (congrFun (rowY m c t y0) y1 : _ = _).trans ?_
  refine congrArg₂ (args m c).dy (Fin.ext ?_) (Fin.ext ?_)
  · show 256 * t.val + y0.val = ((((cfg0.win 14).blk t).view.emb (ix2 y0 y1)) 0).val; blk_simp [index14 t]; simp; omega
  · show y1.val = ((((cfg0.win 14).blk t).view.emb (ix2 y0 y1)) 1).val; blk_simp [index14 t]
theorem result15 : (dats m 0 c).arrAt 15 cfg0.N = (fun j : S1x1024.Idx => (args m c).dg3 (j 1)) := by
  refine (dats m 0 c).arrAt_eq_of_covers 15 _ (by decide +kernel) fun t hf y => ?_
  have h31 : t.val = 31 := by have := (flush0_15 t).1 hf; have := lt32 t; omega
  blk_simp
  rw [after0_15]
  idx_vars y
  refine (upto3 m c t.val t.isLt y0 y1).trans ?_
  rw [h31]
  refine (parts _).trans ?_
  refine congrArg (args m c).dg3 (Fin.ext ?_)
  show y1.val = ((((cfg0.win 15).blk t).view.emb (ix2 y0 y1)) 1).val; blk_simp [index15 t]
theorem result16 : (dats m 0 c).arrAt 16 cfg0.N = (fun j : S1x1024.Idx => (args m c).dg2 (j 1)) := by
  refine (dats m 0 c).arrAt_eq_of_covers 16 _ (by decide +kernel) fun t hf y => ?_
  have h31 : t.val = 31 := by have := (flush0_16 t).1 hf; have := lt32 t; omega
  blk_simp
  rw [after0_16]
  idx_vars y
  refine (upto2 m c t.val t.isLt y0 y1).trans ?_
  rw [h31]
  refine (parts _).trans ?_
  refine congrArg (args m c).dg2 (Fin.ext ?_)
  show y1.val = ((((cfg0.win 16).blk t).view.emb (ix2 y0 y1)) 1).val; blk_simp [index16 t]
end
end Cert.FfnBwdIdeal.Hand
end
-- ==== Proof.FfnBwdRef.lean ====
module

public import proofs.«01_k».proof.Proof.FfnBwdRow
public import proofs.«01_k».proof.Proof.Gen.RefFfnBwdIdeal.Run
public import Idealize.ShloMosaic.Lib.Pointwise

@[expose] public section

/-! The reference's gradients through the gated layer and the two norms, row by row. -/

set_option maxRecDepth 16384

noncomputable section

namespace Cert.RefFfnBwdIdeal.Hand

open Cert.RefFfnBwdIdeal Cert.RefFfnBwdIdeal.Gen Cert.FfnRow
open Idealize.ShloMosaic Idealize.ShloMosaic.Tactic Finset

/-- The reference's steps, in its order. -/
abbrev gateShape (x : FVec Ideal S_ .f32) : FVec Ideal S8192x2816 .f32 := broadcastInDim S8192x2816 ![] bcast_S_S8192x2816 x
abbrev colShape (x : FVec Ideal S_ .f32) : FVec Ideal S8192x1 .f32 := broadcastInDim S8192x1 ![] bcast_S_S8192x1 x
abbrev spread (x : FVec Ideal S8192x1 .f32) : FVec Ideal S8192x1024 .f32 := broadcastInDim S8192x1024 ![0, 1] bcast_S8192x1_S8192x1024_0_1 x
abbrev gains (x : FVec Ideal S1x1024 .f32) : FVec Ideal S8192x1024 .f32 := broadcastInDim S8192x1024 ![0, 1] bcast_S1x1024_S8192x1024_0_1 x
def sig (gt : FVec Ideal S8192x2816 .bf16) : FVec Ideal S8192x2816 .f32 :=
  Host.divf (gateShape (constant S_ .f32 0x3F800000#32)) (addf (gateShape (constant S_ .f32 0x3F800000#32)) (Host.exp (Host.negf (extf .f32 gt bitsLt_bf16_f32))))
def actR (df : FVec Ideal S8192x1024 .bf16) (wd : FVec Ideal S2816x1024 .bf16) : FVec Ideal S8192x2816 .f32 :=
  Host.dotGeneral dot_S8192x1024_S2816x1024_S8192x2816_1_1_0_0_n_n none (extf .f32 df bitsLt_bf16_f32) (extf .f32 wd bitsLt_bf16_f32)
def gateR (a : FVec Ideal S8192x2816 .f32) (gt up : FVec Ideal S8192x2816 .bf16) : FVec Ideal S8192x2816 .f32 :=
  addf (mulf (mulf a (extf .f32 up bitsLt_bf16_f32)) (sig gt))
    (mulf (mulf (extf .f32 gt bitsLt_bf16_f32) (mulf a (extf .f32 up bitsLt_bf16_f32))) (mulf (sig gt) (subf (gateShape (constant S_ .f32 0x3F800000#32)) (sig gt))))
def upR (a : FVec Ideal S8192x2816 .f32) (gt : FVec Ideal S8192x2816 .bf16) : FVec Ideal S8192x2816 .f32 := mulf (mulf (extf .f32 gt bitsLt_bf16_f32) (sig gt)) a
def inR (p q : FVec Ideal S8192x2816 .f32) (wg wu : FVec Ideal S1024x2816 .bf16) : FVec Ideal S8192x1024 .f32 :=
  addf (Host.dotGeneral dot_S8192x2816_S1024x2816_S8192x1024_1_1_0_0_n_n none q (extf .f32 wu bitsLt_bf16_f32))
    (Host.dotGeneral dot_S8192x2816_S1024x2816_S8192x1024_1_1_0_0_n_n none p (extf .f32 wg bitsLt_bf16_f32))
def msqR (h : FVec Ideal S8192x1024 .f32) : FVec Ideal S8192x1 .f32 :=
  addf (Host.divf (broadcastInDim S8192x1 ![0] bcast_S8192_S8192x1_0 (Host.reduceAdd (mulf h h) (constant S_ .f32 0x00000000#32) reducesTo_S8192x1024_S8192_d1 h_S_)) (colShape (constant S_ .f32 0x44800000#32))) (colShape (constant S_ .f32 0x358637BD#32))
def rootR (d h : FVec Ideal S8192x1024 .f32) (g : FVec Ideal S1x1024 .f32) : FVec Ideal S8192x1024 .f32 :=
  broadcastInDim S8192x1024 ![0] bcast_S8192_S8192x1024_0 (Host.reduceAdd (Host.divf (mulf (shapeCast S8192x1 (Host.reduceAdd (mulf h (mulf d (gains g))) (constant S_ .f32 0x00000000#32) reducesTo_S8192x1024_S8192_d1 h_S_ : FVec Ideal S8192 .f32) shapeCasts_S8192_S8192x1)
    (mulf (colShape (constant S_ .f32 0xBF000000#32)) (Host.divf (Host.rsqrt (msqR h)) (msqR h)))) (colShape (constant S_ .f32 0x44800000#32))) (constant S_ .f32 0x00000000#32) reducesTo_S8192x1_S8192_d1 h_S_)
def normR (d h : FVec Ideal S8192x1024 .f32) (g : FVec Ideal S1x1024 .f32) : FVec Ideal S8192x1024 .f32 :=
  addf (addf (mulf (mulf d (gains g)) (spread (Host.rsqrt (msqR h)))) (mulf h (rootR d h g))) (mulf (rootR d h g) h)
def gainR (d h : FVec Ideal S8192x1024 .f32) : FVec Ideal S1x1024 .f32 :=
  shapeCast S1x1024 (Host.reduceAdd (mulf (mulf h (spread (Host.rsqrt (msqR h)))) d) (constant S_ .f32 0x00000000#32) reducesTo_S8192x1024_S1024_d0 h_S_ : FVec Ideal S1024 .f32) shapeCasts_S1024_S1x1024

section
variable (df : FVec Ideal S8192x1024 .bf16) (wd : FVec Ideal S2816x1024 .bf16) (a q : FVec Ideal S8192x2816 .f32) (gt up : FVec Ideal S8192x2816 .bf16)
  (wg wu : FVec Ideal S1024x2816 .bf16) (d h : FVec Ideal S8192x1024 .f32) (g : FVec Ideal S1x1024 .f32) (p : Fin 8192) (z : Fin 1) (i : Fin 1024) (j : Fin 2816)
theorem actR_at : actR df wd (ix2 p j) = actGrad (row df p) (mat wd) j := by
  unfold actR actGrad
  pointwise
theorem sig_at : sig gt (ix2 p j) = sg (gt (ix2 p j)) := by
  unfold sig sg
  pointwise
theorem gateR_at : gateR a gt up (ix2 p j) = gateGradR (a (ix2 p j)) (gt (ix2 p j)) (up (ix2 p j)) := by
  unfold gateGradR
  rw [← sig_at]
  unfold gateR
  generalize sig gt = s
  pointwise
theorem upR_at : upR a gt (ix2 p j) = upGrad (a (ix2 p j)) (gt (ix2 p j)) := by
  unfold upGrad
  rw [← sig_at, mul_comm]
  rfl
theorem inR_at : inR a q wg wu (ix2 p i) = inGrad (row a p) (row q p) (mat wg) (mat wu) i := by
  unfold inGrad
  rw [add_comm]
  unfold inR
  pointwise
theorem msqR_at : msqR h (ix2 p z) = msq (row h p) := by
  unfold msqR msq
  pointwise
theorem rootR_at : rootR d h g (ix2 p i) = rootGradR (row d p) (row h p) (row g 0) := by
  have e : rootR d h g (ix2 p i) = Ideal.div ((∑ k : Fin 1024, h (ix2 p k) * (d (ix2 p k) * g (ix2 0 k))) * (Ideal.ofBits .f32 0xBF000000#32 * Ideal.div (Ideal.rsqrt (msqR h (ix2 p 0))) (msqR h (ix2 p 0)))) c1024 := by
    unfold rootR
    generalize msqR h = v
    pointwise
    exact Fin.sum_univ_one _
  rw [e, msqR_at]
  rfl
theorem normR_at : normR d h g (ix2 p i) = normGradR (row d p) (row h p) (row g 0) i := by
  have e : normR d h g (ix2 p i) = d (ix2 p i) * g (ix2 0 i) * Ideal.rsqrt (msqR h (ix2 p 0)) + h (ix2 p i) * rootR d h g (ix2 p i) + rootR d h g (ix2 p i) * h (ix2 p i) := by
    unfold normR
    generalize msqR h = v
    generalize rootR d h g = k
    pointwise
  rw [e, msqR_at, rootR_at]
  rfl
theorem gainR_at : gainR d h (ix2 z i) = ∑ p : Fin 8192, d (ix2 p i) * normed (row h p) i := by
  have e : gainR d h (ix2 z i) = ∑ p : Fin 8192, h (ix2 p i) * Ideal.rsqrt (msqR h (ix2 p 0)) * d (ix2 p i) := by
    obtain rfl : z = 0 := Subsingleton.elim _ _
    unfold gainR
    generalize msqR h = v
    pointwise
  rw [e]
  refine Finset.sum_congr rfl fun p _ => ?_
  rw [msqR_at, mul_comm]
  rfl
end

/-! The reference's arrays from the call's arguments, and their rows where every entry is a real number. -/
section
variable (X : Arr)
def aR : FVec Ideal S8192x2816 .f32 := actR X.df X.wd
def gR : FVec Ideal S8192x2816 .f32 := gateR (aR X) X.gt X.up
def uR : FVec Ideal S8192x2816 .f32 := upR (aR X) X.gt
def iR : FVec Ideal S8192x1024 .f32 := inR (gR X) (uR X) X.wg X.wu
def hR : FVec Ideal S8192x1024 .f32 := addf X.dh2 (normR (iR X) X.h1 X.g3)
def yR : FVec Ideal S8192x1024 .f32 := normR (hR X) X.y X.g2
variable {X} (h : X.Real) (n : Fin 8192)
include h
theorem gR_at : row (gR X) n = X.dgt n := by
  funext j
  refine (gateR_at _ _ _ n j).trans ?_
  rw [show aR X (ix2 n j) = X.dact n j from actR_at _ _ n j]
  exact gateGrad_eq (h.dact n j) (h.gt _) (h.up _)
omit h in
theorem uR_at : row (uR X) n = X.dup n := by
  funext j
  refine (upR_at _ _ n j).trans ?_
  rw [show aR X (ix2 n j) = X.dact n j from actR_at _ _ n j]
  rfl
theorem iR_at : row (iR X) n = X.dfin n := by
  funext i
  refine (inR_at _ _ _ _ n i).trans ?_
  rw [gR_at h n, uR_at n]
  rfl
theorem hR_at : row (hR X) n = X.dh1 n := by
  funext i
  refine congrArg (X.dh2 (ix2 n i) + ·) ((normR_at _ _ _ n i).trans ?_)
  rw [iR_at h n]
  exact normGrad_eq (h.dfin n) (fun _ => h.h1 _) (fun _ => h.g3 _) i
theorem yR_at : row (yR X) n = X.dy n := by
  funext i
  refine (normR_at _ _ _ n i).trans ?_
  rw [hR_at h n]
  exact normGrad_eq (h.dh1 n) (fun _ => h.y _) (fun _ => h.g2 _) i
theorem gain3_at (z : Fin 1) (i : Fin 1024) : gainR (iR X) X.h1 (ix2 z i) = X.dg3 i :=
  (gainR_at _ _ z i).trans (Finset.sum_congr rfl fun n _ => congrArg (· * _) (congrFun (iR_at h n) i))
theorem gain2_at (z : Fin 1) (i : Fin 1024) : gainR (hR X) X.y (ix2 z i) = X.dg2 i :=
  (gainR_at _ _ z i).trans (Finset.sum_congr rfl fun n _ => congrArg (· * _) (congrFun (hR_at h n) i))
end

/-- The six results, of the eleven arrays. -/
def Six (X : Arr) (r0 r1 : FVec Ideal S8192x2816 .bf16) (r2 : FVec Ideal S8192x1024 .f32) (r3 : FVec Ideal S8192x1024 .bf16) (r4 r5 : FVec Ideal S1x1024 .f32) : Prop :=
  r0 = (fun j : S8192x2816.Idx => X.dgt (j 0) (j 1)) ∧ r1 = (fun j : S8192x2816.Idx => X.dup (j 0) (j 1)) ∧ r2 = (fun j : S8192x1024.Idx => X.dh1 (j 0) (j 1))
    ∧ r3 = (fun j : S8192x1024.Idx => X.dy (j 0) (j 1)) ∧ r4 = (fun j : S1x1024.Idx => X.dg3 (j 1)) ∧ r5 = (fun j : S1x1024.Idx => X.dg2 (j 1))
theorem six {X : Arr} (h : X.Real) : Six X (gR X) (uR X) (hR X) (yR X) (gainR (iR X) X.h1) (gainR (hR X) X.y) := by
  refine ⟨?_, ?_, ?_, ?_, ?_, ?_⟩ <;> (funext j; idx_vars j)
  · exact congrFun (gR_at h j0) j1
  · exact congrFun (uR_at j0) j1
  · exact congrFun (hR_at h j0) j1
  · exact congrFun (yR_at h j0) j1
  · exact gain3_at h j0 j1
  · exact gain2_at h j0 j1
end Cert.RefFfnBwdIdeal.Hand
end
-- ==== Proof.FfnBwdAlg.lean ====
module

public import proofs.«01_k».proof.Proof.Result
public import proofs.«01_k».proof.Proof.FfnBwdResult
public import proofs.«01_k».proof.Proof.FfnBwdRef

@[expose] public section

/-! The call of the gated layer's backward: where every input is a real number, its six results are the reference's. -/

set_option maxRecDepth 16384

noncomputable section

namespace Cert.Proof

open Cert.FfnRow
open Idealize.ShloMosaic Idealize.ShloMosaic.TcCoe

instance ffnBwdIdealFacts : Cert.FfnBwdIdeal.Facts := Cert.FfnBwdIdeal.Gen.facts
instance refFfnBwdFacts : Cert.RefFfnBwdIdeal.Facts := Cert.RefFfnBwdIdeal.Gen.facts
theorem allFinFacts : Cert.Pre_all_finite.Facts := ⟨by decide, by decide, by decide, by decide, by decide, by decide⟩
instance : Cert.Pre_all_finite.Facts := allFinFacts

theorem re_of_bit {x : EReal} (h : BitVec.ofBool (decide (max x (-x) < Ideal.ofBits .f32 0x7F800000#32)) = 1#1) : Re x := ⟨_, (real_of_lt x (lt_of_bit x h)).symm⟩

/-- The precondition makes every entry of the kernel's arguments a real number. -/
theorem args_real (m : (ℓ : Loc Cert.FfnBwdIdeal.nD Cert.FfnBwdIdeal.τ Cert.FfnBwdIdeal.sig) → Buf (Elt Ideal) ℓ) (hm : Cert.Pre_FfnBwdIdeal_all_finite m) (c : Dev Cert.FfnBwdIdeal.nD) :
    (Cert.FfnBwdIdeal.Hand.args m c).Real := by
  obtain ⟨h0, h1, h2, h3, h4, h5, h6, h7, h8, h9, h10⟩ := hm c
  exact ⟨fun i => re_of_bit (congrFun h0 i), fun i => re_of_bit (congrFun h1 i), fun i => re_of_bit (congrFun h2 i), fun i => re_of_bit (congrFun h3 i),
    fun i => re_of_bit (congrFun h4 i), fun i => re_of_bit (congrFun h5 i), fun i => re_of_bit (congrFun h6 i), fun i => re_of_bit (congrFun h7 i),
    fun i => re_of_bit (congrFun h8 i), fun i => re_of_bit (congrFun h9 i), fun i => re_of_bit (congrFun h10 i)⟩

/-- The reference's arguments. -/
def refArgs (m : (ℓ : Loc Cert.RefFfnBwdIdeal.nD Cert.RefFfnBwdIdeal.τ Cert.RefFfnBwdIdeal.sig) → Buf (Elt Ideal) ℓ) (c : Dev Cert.RefFfnBwdIdeal.nD) : Arr where
  gt := m ((c.tc : Thread Cert.RefFfnBwdIdeal.nD Cert.RefFfnBwdIdeal.τ).loc Cert.RefFfnBwdIdeal.main_arg0)
  up := m ((c.tc : Thread Cert.RefFfnBwdIdeal.nD Cert.RefFfnBwdIdeal.τ).loc Cert.RefFfnBwdIdeal.main_arg1)
  df := m ((c.tc : Thread Cert.RefFfnBwdIdeal.nD Cert.RefFfnBwdIdeal.τ).loc Cert.RefFfnBwdIdeal.main_arg2)
  dh2 := m ((c.tc : Thread Cert.RefFfnBwdIdeal.nD Cert.RefFfnBwdIdeal.τ).loc Cert.RefFfnBwdIdeal.main_arg3)
  h1 := m ((c.tc : Thread Cert.RefFfnBwdIdeal.nD Cert.RefFfnBwdIdeal.τ).loc Cert.RefFfnBwdIdeal.main_arg4)
  y := m ((c.tc : Thread Cert.RefFfnBwdIdeal.nD Cert.RefFfnBwdIdeal.τ).loc Cert.RefFfnBwdIdeal.main_arg5)
  wg := m ((c.tc : Thread Cert.RefFfnBwdIdeal.nD Cert.RefFfnBwdIdeal.τ).loc Cert.RefFfnBwdIdeal.main_arg6)
  wu := m ((c.tc : Thread Cert.RefFfnBwdIdeal.nD Cert.RefFfnBwdIdeal.τ).loc Cert.RefFfnBwdIdeal.main_arg7)
  wd := m ((c.tc : Thread Cert.RefFfnBwdIdeal.nD Cert.RefFfnBwdIdeal.τ).loc Cert.RefFfnBwdIdeal.main_arg8)
  g3 := m ((c.tc : Thread Cert.RefFfnBwdIdeal.nD Cert.RefFfnBwdIdeal.τ).loc Cert.RefFfnBwdIdeal.main_arg9)
  g2 := m ((c.tc : Thread Cert.RefFfnBwdIdeal.nD Cert.RefFfnBwdIdeal.τ).loc Cert.RefFfnBwdIdeal.main_arg10)

open Cert.RefFfnBwdIdeal.Hand in
theorem ref_out2 (m : (ℓ : Loc Cert.RefFfnBwdIdeal.nD Cert.RefFfnBwdIdeal.τ Cert.RefFfnBwdIdeal.sig) → Buf (Elt Ideal) ℓ) (c : Dev Cert.RefFfnBwdIdeal.nD) :
    Cert.RefFfnBwdIdeal.Value.res_out2 m c = hR (refArgs m c) := rfl
open Cert.RefFfnBwdIdeal.Hand in
theorem ref_out3 (m : (ℓ : Loc Cert.RefFfnBwdIdeal.nD Cert.RefFfnBwdIdeal.τ Cert.RefFfnBwdIdeal.sig) → Buf (Elt Ideal) ℓ) (c : Dev Cert.RefFfnBwdIdeal.nD) :
    Cert.RefFfnBwdIdeal.Value.res_out3 m c = yR (refArgs m c) := rfl
open Cert.RefFfnBwdIdeal.Hand in
theorem ref_out5 (m : (ℓ : Loc Cert.RefFfnBwdIdeal.nD Cert.RefFfnBwdIdeal.τ Cert.RefFfnBwdIdeal.sig) → Buf (Elt Ideal) ℓ) (c : Dev Cert.RefFfnBwdIdeal.nD) :
    Cert.RefFfnBwdIdeal.Value.res_out5 m c = gainR (hR (refArgs m c)) (refArgs m c).y := rfl

open Cert.RefFfnBwdIdeal.Hand Cert.FfnBwdIdeal.Hand in
theorem algebraic_ffn_bwd : Cert.algebraic_FfnBwdIdeal_RefFfnBwdIdeal_pre_all_finite := by
  intro m g m' g' hm hargs
  refine ⟨fun c => _, fun c => _, fun c => _, fun c => _, fun c => _, fun c => _, Cert.FfnBwdIdeal.Value.run_blocks m g, ?_⟩
  refine (θ_run Cert.RefFfnBwdIdeal.defs _ _).mono (fun r h c => ?_) (Cert.RefFfnBwdIdeal.Value.run m' g')
  obtain ⟨a0, a1, a2, a3, a4, a5, a6, a7, a8, a9, a10⟩ := hargs c
  have e : refArgs m' c = args m c := Arr.ext a0 a1 a2 a3 a4 a5 a6 a7 a8 a9 a10
  obtain ⟨r0, r1, r2, r3, r4, r5, k⟩ := h c
  have s : Six (args m c) _ _ _ _ _ _ := six (args_real m hm c)
  have r0 : _ = gR (refArgs m' c) := r0
  have r1 : _ = uR (refArgs m' c) := r1
  have r4 : _ = gainR (iR (refArgs m' c)) (refArgs m' c).h1 := r4
  have r2 := r2.trans (ref_out2 m' c)
  have r3 := r3.trans (ref_out3 m' c)
  have r5 := r5.trans (ref_out5 m' c)
  rw [e] at r0 r1 r2 r3 r4 r5
  exact ⟨r0.trans (s.1.trans (result11 m c).symm), r1.trans (s.2.1.trans (result12 m c).symm), r2.trans (s.2.2.1.trans (result13 m c).symm),
    r3.trans (s.2.2.2.1.trans (result14 m c).symm), r4.trans (s.2.2.2.2.1.trans (result15 m c).symm), r5.trans (s.2.2.2.2.2.trans (result16 m c).symm), k⟩
end Cert.Proof
end
-- ==== Proof.lean ====
/- The claims of `proofs.«01_k».proof.Defs` proved, for the backward call, the forward call, the four weight gradients,
   the gated layer with the loss and the input projection: the frames of the kernel as
   printed and of its idealization by the run of the body point by point, the reference's by its run, the named constant by its
   rule, and that kernel and reference compute the same tables. -/
module

public import proofs.«01_k».proof.Defs
public import proofs.«01_k».proof.Proof.Gen.ReferenceIdeal.Run
public import proofs.«01_k».proof.Proof.Launched
public import proofs.«01_k».proof.Proof.BitsLaunched
public import proofs.«01_k».proof.Proof.Result
public import proofs.«01_k».proof.Proof.Gen.RefForwardIdeal.Run
public import proofs.«01_k».proof.Proof.FwdRun
public import proofs.«01_k».proof.Proof.BitsFwdRun
public import proofs.«01_k».proof.Proof.FwdResult
public import proofs.«01_k».proof.Proof.Gen.GradGate.Value
public import proofs.«01_k».proof.Proof.Gen.GradGateIdeal.Value
public import proofs.«01_k».proof.Proof.Gen.RefGradGateIdeal.Run
public import proofs.«01_k».proof.Proof.GradGate
public import proofs.«01_k».proof.Proof.Gen.GradDown.Value
public import proofs.«01_k».proof.Proof.Gen.GradDownIdeal.Value
public import proofs.«01_k».proof.Proof.Gen.RefGradDownIdeal.Run
public import proofs.«01_k».proof.Proof.GradDown
public import proofs.«01_k».proof.Proof.Gen.GradOut.Value
public import proofs.«01_k».proof.Proof.Gen.GradOutIdeal.Value
public import proofs.«01_k».proof.Proof.Gen.RefGradOutIdeal.Run
public import proofs.«01_k».proof.Proof.GradOut
public import proofs.«01_k».proof.Proof.Gen.GradIn.Value
public import proofs.«01_k».proof.Proof.Gen.GradInIdeal.Value
public import proofs.«01_k».proof.Proof.Gen.RefGradInIdeal.Run
public import proofs.«01_k».proof.Proof.GradIn
public import proofs.«01_k».proof.Proof.Gen.Ffn.Value
public import proofs.«01_k».proof.Proof.Gen.FfnIdeal.Value
public import proofs.«01_k».proof.Proof.Gen.RefFfnIdeal.Run
public import proofs.«01_k».proof.Proof.FfnAlg
public import proofs.«01_k».proof.Proof.Gen.InProj.Value
public import proofs.«01_k».proof.Proof.Gen.InProjIdeal.Value
public import proofs.«01_k».proof.Proof.Gen.RefInProjIdeal.Run
public import proofs.«01_k».proof.Proof.InProjAlg
public import proofs.«01_k».proof.Proof.FfnBwdAlg
public import proofs.«01_k».proof.Proof.Gen.FfnBwd.Value
public import proofs.«01_k».proof.Proof.Gen.FfnBwdIdeal.Value
public import proofs.«01_k».proof.Proof.Gen.RefFfnBwdIdeal.Run
public import Idealize.ShloMosaic.Adequacy
public import Idealize.ShloMosaic.Init

@[expose] public section

noncomputable section

namespace Cert.Proof

open Idealize.ShloMosaic Idealize.ShloMosaic.TcCoe Idealize.SL Idealize.SL.Sem

instance bitsFacts : Cert.Kernel.Facts := Cert.Kernel.Gen.facts
instance bitsFwdFacts : Cert.Forward.Facts := Cert.Forward.Gen.facts
instance gradGateFacts : Cert.GradGate.Facts := Cert.GradGate.Gen.facts
instance gradDownFacts : Cert.GradDown.Facts := Cert.GradDown.Gen.facts
instance gradOutFacts : Cert.GradOut.Facts := Cert.GradOut.Gen.facts
instance gradInFacts : Cert.GradIn.Facts := Cert.GradIn.Gen.facts
instance ffnFacts : Cert.Ffn.Facts := Cert.Ffn.Gen.facts
instance inProjFacts : Cert.InProj.Facts := Cert.InProj.Gen.facts
instance ffnBwdFacts : Cert.FfnBwd.Facts := Cert.FfnBwd.Gen.facts

theorem frame_p : Cert.quiescent_Kernel := fun m g _ => Cert.Kernel.Hand.frame m g
theorem frame_pi : Cert.quiescent_KernelIdeal := fun m g _ => Cert.KernelIdeal.Hand.frame m g
theorem frame_ri : Cert.quiescent_ReferenceIdeal := fun m g _ =>
  (θ_run Cert.ReferenceIdeal.defs _ _).mono (fun r h => ⟨fun c => ⟨(h c).2.2.2.1, (h c).2.2.2.2⟩, sem_eq_zero_of_no_sems (by decide) r.2⟩)
    (Cert.ReferenceIdeal.Value.run m g)
theorem frame_pi_fin : Cert.quiescent_KernelIdeal_pre_finite := fun m g _ => Cert.KernelIdeal.Hand.frame m g
theorem frame_ri_fin : Cert.quiescent_ReferenceIdeal_pre_finite := fun m g _ => frame_ri m g trivial
theorem preserves : Cert.preserves_Kernel_KernelIdeal :=
  IdealRules.named_const.statement _ _ _ _ _ rfl

theorem frame_p2 : Cert.quiescent_Forward := fun m g _ => Cert.Forward.Hand.frame m g
theorem frame_pi2 : Cert.quiescent_ForwardIdeal := fun m g _ => Cert.ForwardIdeal.Hand.frame m g
theorem frame_ri2 : Cert.quiescent_RefForwardIdeal := fun m g _ =>
  (θ_run Cert.RefForwardIdeal.defs _ _).mono (fun r h => ⟨fun c => (h c).2, sem_eq_zero_of_no_sems (by decide) r.2⟩)
    (Cert.RefForwardIdeal.Value.run m g)
theorem preserves2 : Cert.preserves_Forward_ForwardIdeal :=
  IdealRules.named_const.statement _ _ _ _ _ rfl

theorem frame_gate_p : Cert.quiescent_GradGate := fun m g _ => Cert.GradGate.Gen.frame m g
theorem frame_gate_pi : Cert.quiescent_GradGateIdeal := fun m g _ => Cert.GradGateIdeal.Gen.frame m g
theorem frame_gate_ri : Cert.quiescent_RefGradGateIdeal := fun m g _ =>
  (θ_run Cert.RefGradGateIdeal.defs _ _).mono (fun r h => ⟨fun c => (h c).2, sem_eq_zero_of_no_sems (by decide) r.2⟩)
    (Cert.RefGradGateIdeal.Value.run m g)
theorem preserves_gate : Cert.preserves_GradGate_GradGateIdeal := trivial

theorem frame_down_p : Cert.quiescent_GradDown := fun m g _ => Cert.GradDown.Gen.frame m g
theorem frame_down_pi : Cert.quiescent_GradDownIdeal := fun m g _ => Cert.GradDownIdeal.Gen.frame m g
theorem frame_down_ri : Cert.quiescent_RefGradDownIdeal := fun m g _ =>
  (θ_run Cert.RefGradDownIdeal.defs _ _).mono (fun r h => ⟨fun c => (h c).2, sem_eq_zero_of_no_sems (by decide) r.2⟩)
    (Cert.RefGradDownIdeal.Value.run m g)
theorem preserves_down : Cert.preserves_GradDown_GradDownIdeal := trivial

theorem frame_out_p : Cert.quiescent_GradOut := fun m g _ => Cert.GradOut.Gen.frame m g
theorem frame_out_pi : Cert.quiescent_GradOutIdeal := fun m g _ => Cert.GradOutIdeal.Gen.frame m g
theorem frame_out_ri : Cert.quiescent_RefGradOutIdeal := fun m g _ =>
  (θ_run Cert.RefGradOutIdeal.defs _ _).mono (fun r h => ⟨fun c => (h c).2, sem_eq_zero_of_no_sems (by decide) r.2⟩)
    (Cert.RefGradOutIdeal.Value.run m g)
theorem preserves_out : Cert.preserves_GradOut_GradOutIdeal := trivial

theorem frame_in_p : Cert.quiescent_GradIn := fun m g _ => Cert.GradIn.Gen.frame m g
theorem frame_in_pi : Cert.quiescent_GradInIdeal := fun m g _ => Cert.GradInIdeal.Gen.frame m g
theorem frame_in_ri : Cert.quiescent_RefGradInIdeal := fun m g _ =>
  (θ_run Cert.RefGradInIdeal.defs _ _).mono (fun r h => ⟨fun c => (h c).2, sem_eq_zero_of_no_sems (by decide) r.2⟩)
    (Cert.RefGradInIdeal.Value.run m g)
theorem preserves_in : Cert.preserves_GradIn_GradInIdeal := trivial

theorem frame_ffn_p : Cert.quiescent_Ffn := fun m g _ => Cert.Ffn.Gen.frame m g
theorem frame_ffn_pi : Cert.quiescent_FfnIdeal := fun m g _ => Cert.FfnIdeal.Gen.frame m g
theorem frame_ffn_ri : Cert.quiescent_RefFfnIdeal := fun m g _ =>
  (θ_run Cert.RefFfnIdeal.defs _ _).mono (fun r h => ⟨fun c => (h c).2.2.2.2.2.2, sem_eq_zero_of_no_sems (by decide) r.2⟩)
    (Cert.RefFfnIdeal.Value.run m g)
theorem preserves_ffn : Cert.preserves_Ffn_FfnIdeal := trivial

theorem frame_in_proj_p : Cert.quiescent_InProj := fun m g _ => Cert.InProj.Gen.frame m g
theorem frame_in_proj_pi : Cert.quiescent_InProjIdeal := fun m g _ => Cert.InProjIdeal.Gen.frame m g
theorem frame_in_proj_ri : Cert.quiescent_RefInProjIdeal := fun m g _ =>
  (θ_run Cert.RefInProjIdeal.defs _ _).mono (fun r h => ⟨fun c => (h c).2.2.2, sem_eq_zero_of_no_sems (by decide) r.2⟩)
    (Cert.RefInProjIdeal.Value.run m g)
theorem preserves_in_proj : Cert.preserves_InProj_InProjIdeal := trivial

theorem frame_ffn_bwd_p : Cert.quiescent_FfnBwd := fun m g _ => Cert.FfnBwd.Gen.frame m g
theorem frame_ffn_bwd_pi : Cert.quiescent_FfnBwdIdeal := fun m g _ => Cert.FfnBwdIdeal.Gen.frame m g
theorem frame_ffn_bwd_ri : Cert.quiescent_RefFfnBwdIdeal := fun m g _ =>
  (θ_run Cert.RefFfnBwdIdeal.defs _ _).mono (fun r h => ⟨fun c => (h c).2.2.2.2.2.2, sem_eq_zero_of_no_sems (by decide) r.2⟩)
    (Cert.RefFfnBwdIdeal.Value.run m g)
theorem frame_ffn_bwd_pi_fin : Cert.quiescent_FfnBwdIdeal_pre_all_finite := fun m g _ => Cert.FfnBwdIdeal.Gen.frame m g
theorem frame_ffn_bwd_ri_fin : Cert.quiescent_RefFfnBwdIdeal_pre_all_finite := fun m g _ => frame_ffn_bwd_ri m g trivial
theorem preserves_ffn_bwd : Cert.preserves_FfnBwd_FfnBwdIdeal := trivial

theorem claim : Cert.Claim :=
  ⟨Cert.Kernel.Gen.facts, Cert.KernelIdeal.Gen.facts, Cert.ReferenceIdeal.Gen.facts, Cert.Forward.Gen.facts, Cert.ForwardIdeal.Gen.facts, Cert.RefForwardIdeal.Gen.facts,
    Cert.GradGate.Gen.facts, Cert.GradGateIdeal.Gen.facts, Cert.RefGradGateIdeal.Gen.facts, Cert.GradDown.Gen.facts, Cert.GradDownIdeal.Gen.facts, Cert.RefGradDownIdeal.Gen.facts, Cert.GradOut.Gen.facts, Cert.GradOutIdeal.Gen.facts, Cert.RefGradOutIdeal.Gen.facts, Cert.GradIn.Gen.facts, Cert.GradInIdeal.Gen.facts, Cert.RefGradInIdeal.Gen.facts,
    Cert.Ffn.Gen.facts, Cert.FfnIdeal.Gen.facts, Cert.RefFfnIdeal.Gen.facts, Cert.InProj.Gen.facts, Cert.InProjIdeal.Gen.facts, Cert.RefInProjIdeal.Gen.facts, Cert.FfnBwd.Gen.facts, Cert.FfnBwdIdeal.Gen.facts, Cert.RefFfnBwdIdeal.Gen.facts, finFacts, allFinFacts,
    frame_p, frame_pi, frame_pi_fin, frame_ri, frame_ri_fin, frame_p2, frame_pi2, frame_ri2,
    frame_gate_p, frame_gate_pi, frame_gate_ri, frame_down_p, frame_down_pi, frame_down_ri, frame_out_p, frame_out_pi, frame_out_ri, frame_in_p, frame_in_pi, frame_in_ri,
    frame_ffn_p, frame_ffn_pi, frame_ffn_ri, frame_in_proj_p, frame_in_proj_pi, frame_in_proj_ri,
    frame_ffn_bwd_p, frame_ffn_bwd_pi, frame_ffn_bwd_pi_fin, frame_ffn_bwd_ri, frame_ffn_bwd_ri_fin,
    preserves, algebraic, preserves2, algebraic_fwd, preserves_gate, algebraic_grad_gate, preserves_down, algebraic_grad_down, preserves_out, algebraic_grad_out, preserves_in, algebraic_grad_in, preserves_ffn, algebraic_ffn, preserves_in_proj, algebraic_in_proj, preserves_ffn_bwd, algebraic_ffn_bwd⟩

end Cert.Proof
end
